-- ==== Defs.lean ====
def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2))) = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Branch (m : (ℓ : Loc Cert.Branch.nD Cert.Branch.τ Cert.Branch.sig) → Buf (Elt Bits) ℓ) : Prop :=
  True

def Pre_BranchIdeal (m : (ℓ : Loc Cert.BranchIdeal.nD Cert.BranchIdeal.τ Cert.BranchIdeal.sig) → Buf (Elt Ideal) ℓ) : Prop :=
  True

def Pre_BranchRefIdeal (m : (ℓ : Loc Cert.BranchRefIdeal.nD Cert.BranchRefIdeal.τ Cert.BranchRefIdeal.sig) → Buf (Elt Ideal) ℓ) : Prop :=
  True

def Pre_Join (m : (ℓ : Loc Cert.Join.nD Cert.Join.τ Cert.Join.sig) → Buf (Elt Bits) ℓ) : Prop :=
  True

def Pre_JoinIdeal (m : (ℓ : Loc Cert.JoinIdeal.nD Cert.JoinIdeal.τ Cert.JoinIdeal.sig) → Buf (Elt Ideal) ℓ) : Prop :=
  True

def Pre_JoinRefIdeal (m : (ℓ : Loc Cert.JoinRefIdeal.nD Cert.JoinRefIdeal.τ Cert.JoinRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_S5f (m : (ℓ : Loc Cert.S5f.nD Cert.S5f.τ Cert.S5f.sig) → Buf (Elt Bits) ℓ) : Prop :=
  True

def Pre_S5fIdeal (m : (ℓ : Loc Cert.S5fIdeal.nD Cert.S5fIdeal.τ Cert.S5fIdeal.sig) → Buf (Elt Ideal) ℓ) : Prop :=
  True

def Pre_S5fIdeal_s5_finite [hPre_s5_finite : Cert.Pre_s5_finite.Facts] (m : (ℓ : Loc Cert.S5fIdeal.nD Cert.S5fIdeal.τ Cert.S5fIdeal.sig) → Buf (Elt Ideal) ℓ) : Prop :=
  ∀ c : Dev Cert.S5fIdeal.nD,
    (Cert.Pre_s5_finite.fn (F := Ideal) (m ((c.tc : Thread Cert.S5fIdeal.nD Cert.S5fIdeal.τ).loc Cert.S5fIdeal.main_arg0)) (m ((c.tc : Thread Cert.S5fIdeal.nD Cert.S5fIdeal.τ).loc Cert.S5fIdeal.main_arg1)) (m ((c.tc : Thread Cert.S5fIdeal.nD Cert.S5fIdeal.τ).loc Cert.S5fIdeal.main_arg2)) (m ((c.tc : Thread Cert.S5fIdeal.nD Cert.S5fIdeal.τ).loc Cert.S5fIdeal.main_arg3)) (m ((c.tc : Thread Cert.S5fIdeal.nD Cert.S5fIdeal.τ).loc Cert.S5fIdeal.main_arg4)) (m ((c.tc : Thread Cert.S5fIdeal.nD Cert.S5fIdeal.τ).loc Cert.S5fIdeal.main_arg5)) (m ((c.tc : Thread Cert.S5fIdeal.nD Cert.S5fIdeal.τ).loc Cert.S5fIdeal.main_arg6)) (m ((c.tc : Thread Cert.S5fIdeal.nD Cert.S5fIdeal.τ).loc Cert.S5fIdeal.main_arg7)) (m ((c.tc : Thread Cert.S5fIdeal.nD Cert.S5fIdeal.τ).loc Cert.S5fIdeal.main_arg8))) = (fun _ => 1#1)

def Pre_S5fRefIdeal (m : (ℓ : Loc Cert.S5fRefIdeal.nD Cert.S5fRefIdeal.τ Cert.S5fRefIdeal.sig) → Buf (Elt Ideal) ℓ) : Prop :=
  True

def Pre_S5fRefIdeal_s5_finite [hPre_s5_finite : Cert.Pre_s5_finite.Facts] (m : (ℓ : Loc Cert.S5fRefIdeal.nD Cert.S5fRefIdeal.τ Cert.S5fRefIdeal.sig) → Buf (Elt Ideal) ℓ) : Prop :=
  ∀ c : Dev Cert.S5fRefIdeal.nD,
    (Cert.Pre_s5_finite.fn (F := Ideal) (m ((c.tc : Thread Cert.S5fRefIdeal.nD Cert.S5fRefIdeal.τ).loc Cert.S5fRefIdeal.main_arg0)) (m ((c.tc : Thread Cert.S5fRefIdeal.nD Cert.S5fRefIdeal.τ).loc Cert.S5fRefIdeal.main_arg1)) (m ((c.tc : Thread Cert.S5fRefIdeal.nD Cert.S5fRefIdeal.τ).loc Cert.S5fRefIdeal.main_arg2)) (m ((c.tc : Thread Cert.S5fRefIdeal.nD Cert.S5fRefIdeal.τ).loc Cert.S5fRefIdeal.main_arg3)) (m ((c.tc : Thread Cert.S5fRefIdeal.nD Cert.S5fRefIdeal.τ).loc Cert.S5fRefIdeal.main_arg4)) (m ((c.tc : Thread Cert.S5fRefIdeal.nD Cert.S5fRefIdeal.τ).loc Cert.S5fRefIdeal.main_arg5)) (m ((c.tc : Thread Cert.S5fRefIdeal.nD Cert.S5fRefIdeal.τ).loc Cert.S5fRefIdeal.main_arg6)) (m ((c.tc : Thread Cert.S5fRefIdeal.nD Cert.S5fRefIdeal.τ).loc Cert.S5fRefIdeal.main_arg7)) (m ((c.tc : Thread Cert.S5fRefIdeal.nD Cert.S5fRefIdeal.τ).loc Cert.S5fRefIdeal.main_arg8))) = (fun _ => 1#1)

def Pre_OutGlu (m : (ℓ : Loc Cert.OutGlu.nD Cert.OutGlu.τ Cert.OutGlu.sig) → Buf (Elt Bits) ℓ) : Prop :=
  True

def Pre_OutGluIdeal (m : (ℓ : Loc Cert.OutGluIdeal.nD Cert.OutGluIdeal.τ Cert.OutGluIdeal.sig) → Buf (Elt Ideal) ℓ) : Prop :=
  True

def Pre_OutGluRefIdeal (m : (ℓ : Loc Cert.OutGluRefIdeal.nD Cert.OutGluRefIdeal.τ Cert.OutGluRefIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_ConvF (m : (ℓ : Loc Cert.ConvF.nD Cert.ConvF.τ Cert.ConvF.sig) → Buf (Elt Bits) ℓ) : Prop :=
  True

def Pre_ConvFIdeal (m : (ℓ : Loc Cert.ConvFIdeal.nD Cert.ConvFIdeal.τ Cert.ConvFIdeal.sig) → Buf (Elt Ideal) ℓ) : Prop :=
  True

def Pre_ConvFRefIdeal (m : (ℓ : Loc Cert.ConvFRefIdeal.nD Cert.ConvFRefIdeal.τ Cert.ConvFRefIdeal.sig) → Buf (Elt Ideal) ℓ) : Prop :=
  True

def Pre_NormF (m : (ℓ : Loc Cert.NormF.nD Cert.NormF.τ Cert.NormF.sig) → Buf (Elt Bits) ℓ) : Prop :=
  True

def Pre_NormFIdeal (m : (ℓ : Loc Cert.NormFIdeal.nD Cert.NormFIdeal.τ Cert.NormFIdeal.sig) → Buf (Elt Ideal) ℓ) : Prop :=
  True

def Pre_NormFRefIdeal (m : (ℓ : Loc Cert.NormFRefIdeal.nD Cert.NormFRefIdeal.τ Cert.NormFRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_MmRes (m : (ℓ : Loc Cert.MmRes.nD Cert.MmRes.τ Cert.MmRes.sig) → Buf (Elt Bits) ℓ) : Prop :=
  True

def Pre_MmResIdeal (m : (ℓ : Loc Cert.MmResIdeal.nD Cert.MmResIdeal.τ Cert.MmResIdeal.sig) → Buf (Elt Ideal) ℓ) : Prop :=
  True

def Pre_MmResRefIdeal (m : (ℓ : Loc Cert.MmResRefIdeal.nD Cert.MmResRefIdeal.τ Cert.MmResRefIdeal.sig) → Buf (Elt Ideal) ℓ) : Prop :=
  True

def Pre_MmNN (m : (ℓ : Loc Cert.MmNN.nD Cert.MmNN.τ Cert.MmNN.sig) → Buf (Elt Bits) ℓ) : Prop :=
  True

def Pre_MmNNIdeal (m : (ℓ : Loc Cert.MmNNIdeal.nD Cert.MmNNIdeal.τ Cert.MmNNIdeal.sig) → Buf (Elt Ideal) ℓ) : Prop :=
  True

def Pre_MmNNRefIdeal (m : (ℓ : Loc Cert.MmNNRefIdeal.nD Cert.MmNNRefIdeal.τ Cert.MmNNRefIdeal.sig) → Buf (Elt Ideal) ℓ) : Prop :=
  True

def Pre_MmNT (m : (ℓ : Loc Cert.MmNT.nD Cert.MmNT.τ Cert.MmNT.sig) → Buf (Elt Bits) ℓ) : Prop :=
  True

def Pre_MmNTIdeal (m : (ℓ : Loc Cert.MmNTIdeal.nD Cert.MmNTIdeal.τ Cert.MmNTIdeal.sig) → Buf (Elt Ideal) ℓ) : Prop :=
  True

def Pre_MmNTRefIdeal (m : (ℓ : Loc Cert.MmNTRefIdeal.nD Cert.MmNTRefIdeal.τ Cert.MmNTRefIdeal.sig) → Buf (Elt Ideal) ℓ) : Prop :=
  True

def Pre_MmTN (m : (ℓ : Loc Cert.MmTN.nD Cert.MmTN.τ Cert.MmTN.sig) → Buf (Elt Bits) ℓ) : Prop :=
  True

def Pre_MmTNIdeal (m : (ℓ : Loc Cert.MmTNIdeal.nD Cert.MmTNIdeal.τ Cert.MmTNIdeal.sig) → Buf (Elt Ideal) ℓ) : Prop :=
  True

def Pre_MmTNRefIdeal (m : (ℓ : Loc Cert.MmTNRefIdeal.nD Cert.MmTNRefIdeal.τ Cert.MmTNRefIdeal.sig) → Buf (Elt Ideal) ℓ) : Prop :=
  True

def Pre_AdamAda (m : (ℓ : Loc Cert.AdamAda.nD Cert.AdamAda.τ Cert.AdamAda.sig) → Buf (Elt Bits) ℓ) : Prop :=
  True

def Pre_AdamAdaIdeal (m : (ℓ : Loc Cert.AdamAdaIdeal.nD Cert.AdamAdaIdeal.τ Cert.AdamAdaIdeal.sig) → Buf (Elt Ideal) ℓ) : Prop :=
  True

def Pre_AdamAdaRefIdeal (m : (ℓ : Loc Cert.AdamAdaRefIdeal.nD Cert.AdamAdaRefIdeal.τ Cert.AdamAdaRefIdeal.sig) → Buf (Elt Ideal) ℓ) : Prop :=
  True

def Pre_AdamSh (m : (ℓ : Loc Cert.AdamSh.nD Cert.AdamSh.τ Cert.AdamSh.sig) → Buf (Elt Bits) ℓ) : Prop :=
  True

def Pre_AdamShIdeal (m : (ℓ : Loc Cert.AdamShIdeal.nD Cert.AdamShIdeal.τ Cert.AdamShIdeal.sig) → Buf (Elt Ideal) ℓ) : Prop :=
  True

def Pre_AdamShRefIdeal (m : (ℓ : Loc Cert.AdamShRefIdeal.nD Cert.AdamShRefIdeal.τ Cert.AdamShRefIdeal.sig) → Buf (Elt Ideal) ℓ) : Prop :=
  True

def Pre_AdamSlab (m : (ℓ : Loc Cert.AdamSlab.nD Cert.AdamSlab.τ Cert.AdamSlab.sig) → Buf (Elt Bits) ℓ) : Prop :=
  True

def Pre_AdamSlabIdeal (m : (ℓ : Loc Cert.AdamSlabIdeal.nD Cert.AdamSlabIdeal.τ Cert.AdamSlabIdeal.sig) → Buf (Elt Ideal) ℓ) : Prop :=
  True

def Pre_AdamSlabRefIdeal (m : (ℓ : Loc Cert.AdamSlabRefIdeal.nD Cert.AdamSlabRefIdeal.τ Cert.AdamSlabRefIdeal.sig) → Buf (Elt Ideal) ℓ) : Prop :=
  True

def Pre_AdamPl (m : (ℓ : Loc Cert.AdamPl.nD Cert.AdamPl.τ Cert.AdamPl.sig) → Buf (Elt Bits) ℓ) : Prop :=
  True

def Pre_AdamPlIdeal (m : (ℓ : Loc Cert.AdamPlIdeal.nD Cert.AdamPlIdeal.τ Cert.AdamPlIdeal.sig) → Buf (Elt Ideal) ℓ) : Prop :=
  True

def Pre_AdamPlRefIdeal (m : (ℓ : Loc Cert.AdamPlRefIdeal.nD Cert.AdamPlRefIdeal.τ Cert.AdamPlRefIdeal.sig) → Buf (Elt Ideal) ℓ) : Prop :=
  True

def Pre_Red4 (m : (ℓ : Loc Cert.Red4.nD Cert.Red4.τ Cert.Red4.sig) → Buf (Elt Bits) ℓ) : Prop :=
  True

def Pre_Red4Ideal (m : (ℓ : Loc Cert.Red4Ideal.nD Cert.Red4Ideal.τ Cert.Red4Ideal.sig) → Buf (Elt Ideal) ℓ) : Prop :=
  True

def Pre_Red4RefIdeal (m : (ℓ : Loc Cert.Red4RefIdeal.nD Cert.Red4RefIdeal.τ Cert.Red4RefIdeal.sig) → Buf (Elt Ideal) ℓ) : Prop :=
  True

def Pre_Sum8 (m : (ℓ : Loc Cert.Sum8.nD Cert.Sum8.τ Cert.Sum8.sig) → Buf (Elt Bits) ℓ) : Prop :=
  True

def Pre_Sum8Ideal (m : (ℓ : Loc Cert.Sum8Ideal.nD Cert.Sum8Ideal.τ Cert.Sum8Ideal.sig) → Buf (Elt Ideal) ℓ) : Prop :=
  True

def Pre_Sum8RefIdeal (m : (ℓ : Loc Cert.Sum8RefIdeal.nD Cert.Sum8RefIdeal.τ Cert.Sum8RefIdeal.sig) → Buf (Elt Ideal) ℓ) : Prop :=
  True

def Pre_Swap (m : (ℓ : Loc Cert.Swap.nD Cert.Swap.τ Cert.Swap.sig) → Buf (Elt Bits) ℓ) : Prop :=
  True

def Pre_SwapIdeal (m : (ℓ : Loc Cert.SwapIdeal.nD Cert.SwapIdeal.τ Cert.SwapIdeal.sig) → Buf (Elt Ideal) ℓ) : Prop :=
  True

def Pre_SwapRefIdeal (m : (ℓ : Loc Cert.SwapRefIdeal.nD Cert.SwapRefIdeal.τ Cert.SwapRefIdeal.sig) → Buf (Elt Ideal) ℓ) : Prop :=
  True

def Pre_S5b (m : (ℓ : Loc Cert.S5b.nD Cert.S5b.τ Cert.S5b.sig) → Buf (Elt Bits) ℓ) : Prop :=
  True

def Pre_S5bIdeal (m : (ℓ : Loc Cert.S5bIdeal.nD Cert.S5bIdeal.τ Cert.S5bIdeal.sig) → Buf (Elt Ideal) ℓ) : Prop :=
  True

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4))
      ∧ r.2.sem = fun _ => 0)

def quiescent_Branch [hBranch : Cert.Branch.Facts] : Prop :=
  ∀ (m : (ℓ : Loc Cert.Branch.nD Cert.Branch.τ Cert.Branch.sig) → Buf (Elt Bits) ℓ) (g : Dev Cert.Branch.nD → PrngReg), Pre_Branch m →
    θ_run (Cert.Branch.defs (F := Bits)) (onTc (τ := Cert.Branch.τ) (Cert.Branch.main (F := Bits))) ⟨m, fun _ => 0, g⟩ (fun r => (∀ c : Dev Cert.Branch.nD,
      r.2.mem ((c.tc : Thread Cert.Branch.nD Cert.Branch.τ).loc Cert.Branch.main_arg0) = m ((c.tc : Thread Cert.Branch.nD Cert.Branch.τ).loc Cert.Branch.main_arg0)
      ∧ r.2.mem ((c.tc : Thread Cert.Branch.nD Cert.Branch.τ).loc Cert.Branch.main_arg1) = m ((c.tc : Thread Cert.Branch.nD Cert.Branch.τ).loc Cert.Branch.main_arg1)
      ∧ r.2.mem ((c.tc : Thread Cert.Branch.nD Cert.Branch.τ).loc Cert.Branch.main_arg2) = m ((c.tc : Thread Cert.Branch.nD Cert.Branch.τ).loc Cert.Branch.main_arg2)
      ∧ r.2.mem ((c.tc : Thread Cert.Branch.nD Cert.Branch.τ).loc Cert.Branch.main_arg3) = m ((c.tc : Thread Cert.Branch.nD Cert.Branch.τ).loc Cert.Branch.main_arg3)
      ∧ r.2.mem ((c.tc : Thread Cert.Branch.nD Cert.Branch.τ).loc Cert.Branch.main_arg4) = m ((c.tc : Thread Cert.Branch.nD Cert.Branch.τ).loc Cert.Branch.main_arg4)
      ∧ r.2.mem ((c.tc : Thread Cert.Branch.nD Cert.Branch.τ).loc Cert.Branch.main_arg5) = m ((c.tc : Thread Cert.Branch.nD Cert.Branch.τ).loc Cert.Branch.main_arg5))
      ∧ r.2.sem = fun _ => 0)

def quiescent_BranchIdeal [hBranchIdeal : Cert.BranchIdeal.Facts] : Prop :=
  ∀ (m : (ℓ : Loc Cert.BranchIdeal.nD Cert.BranchIdeal.τ Cert.BranchIdeal.sig) → Buf (Elt Ideal) ℓ) (g : Dev Cert.BranchIdeal.nD → PrngReg), Pre_BranchIdeal m →
    θ_run (Cert.BranchIdeal.defs (F := Ideal)) (onTc (τ := Cert.BranchIdeal.τ) (Cert.BranchIdeal.main (F := Ideal))) ⟨m, fun _ => 0, g⟩ (fun r => (∀ c : Dev Cert.BranchIdeal.nD,
      r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
      ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1)
      ∧ r.2.mem ((c.tc : Thread Cert.BranchIdeal.nD Cert.BranchIdeal.τ).loc Cert.BranchIdeal.main_arg2) = m ((c.tc : Thread Cert.BranchIdeal.nD Cert.BranchIdeal.τ).loc Cert.BranchIdeal.main_arg2)
      ∧ r.2.mem ((c.tc : Thread Cert.BranchIdeal.nD Cert.BranchIdeal.τ).loc Cert.BranchIdeal.main_arg3) = m ((c.tc : Thread Cert.BranchIdeal.nD Cert.BranchIdeal.τ).loc Cert.BranchIdeal.main_arg3)
      ∧ r.2.mem ((c.tc : Thread Cert.BranchIdeal.nD Cert.BranchIdeal.τ).loc Cert.BranchIdeal.main_arg4) = m ((c.tc : Thread Cert.BranchIdeal.nD Cert.BranchIdeal.τ).loc Cert.BranchIdeal.main_arg4)
      ∧ r.2.mem ((c.tc : Thread Cert.BranchIdeal.nD Cert.BranchIdeal.τ).loc Cert.BranchIdeal.main_arg5) = m ((c.tc : Thread Cert.BranchIdeal.nD Cert.BranchIdeal.τ).loc Cert.BranchIdeal.main_arg5))
      ∧ r.2.sem = fun _ => 0)

def quiescent_BranchRefIdeal [hBranchRefIdeal : Cert.BranchRefIdeal.Facts] : Prop :=
  ∀ (m : (ℓ : Loc Cert.BranchRefIdeal.nD Cert.BranchRefIdeal.τ Cert.BranchRefIdeal.sig) → Buf (Elt Ideal) ℓ) (g : Dev Cert.BranchRefIdeal.nD → PrngReg), Pre_BranchRefIdeal m →
    θ_run (Cert.BranchRefIdeal.defs (F := Ideal)) (onTc (τ := Cert.BranchRefIdeal.τ) (Cert.BranchRefIdeal.main (F := Ideal))) ⟨m, fun _ => 0, g⟩ (fun r => (∀ c : Dev Cert.BranchRefIdeal.nD,
      r.2.mem ((c.tc : Thread Cert.BranchRefIdeal.nD Cert.BranchRefIdeal.τ).loc Cert.BranchRefIdeal.main_arg0) = m ((c.tc : Thread Cert.BranchRefIdeal.nD Cert.BranchRefIdeal.τ).loc Cert.BranchRefIdeal.main_arg0)
      ∧ r.2.mem ((c.tc : Thread Cert.BranchRefIdeal.nD Cert.BranchRefIdeal.τ).loc Cert.BranchRefIdeal.main_arg1) = m ((c.tc : Thread Cert.BranchRefIdeal.nD Cert.BranchRefIdeal.τ).loc Cert.BranchRefIdeal.main_arg1)
      ∧ r.2.mem ((c.tc : Thread Cert.BranchRefIdeal.nD Cert.BranchRefIdeal.τ).loc Cert.BranchRefIdeal.main_arg2) = m ((c.tc : Thread Cert.BranchRefIdeal.nD Cert.BranchRefIdeal.τ).loc Cert.BranchRefIdeal.main_arg2)
      ∧ r.2.mem ((c.tc : Thread Cert.BranchRefIdeal.nD Cert.BranchRefIdeal.τ).loc Cert.BranchRefIdeal.main_arg3) = m ((c.tc : Thread Cert.BranchRefIdeal.nD Cert.BranchRefIdeal.τ).loc Cert.BranchRefIdeal.main_arg3)
      ∧ r.2.mem ((c.tc : Thread Cert.BranchRefIdeal.nD Cert.BranchRefIdeal.τ).loc Cert.BranchRefIdeal.main_arg4) = m ((c.tc : Thread Cert.BranchRefIdeal.nD Cert.BranchRefIdeal.τ).loc Cert.BranchRefIdeal.main_arg4)
      ∧ r.2.mem ((c.tc : Thread Cert.BranchRefIdeal.nD Cert.BranchRefIdeal.τ).loc Cert.BranchRefIdeal.main_arg5) = m ((c.tc : Thread Cert.BranchRefIdeal.nD Cert.BranchRefIdeal.τ).loc Cert.BranchRefIdeal.main_arg5))
      ∧ r.2.sem = fun _ => 0)

def quiescent_Join [hJoin : Cert.Join.Facts] : Prop :=
  ∀ (m : (ℓ : Loc Cert.Join.nD Cert.Join.τ Cert.Join.sig) → Buf (Elt Bits) ℓ) (g : Dev Cert.Join.nD → PrngReg), Pre_Join m →
    θ_run (Cert.Join.defs (F := Bits)) (onTc (τ := Cert.Join.τ) (Cert.Join.main (F := Bits))) ⟨m, fun _ => 0, g⟩ (fun r => (∀ c : Dev Cert.Join.nD,
      r.2.mem ((c.tc : Thread Cert.Join.nD Cert.Join.τ).loc Cert.Join.main_arg0) = m ((c.tc : Thread Cert.Join.nD Cert.Join.τ).loc Cert.Join.main_arg0)
      ∧ r.2.mem ((c.tc : Thread Cert.Join.nD Cert.Join.τ).loc Cert.Join.main_arg1) = m ((c.tc : Thread Cert.Join.nD Cert.Join.τ).loc Cert.Join.main_arg1)
      ∧ r.2.mem ((c.tc : Thread Cert.Join.nD Cert.Join.τ).loc Cert.Join.main_arg2) = m ((c.tc : Thread Cert.Join.nD Cert.Join.τ).loc Cert.Join.main_arg2)
      ∧ r.2.mem ((c.tc : Thread Cert.Join.nD Cert.Join.τ).loc Cert.Join.main_arg3) = m ((c.tc : Thread Cert.Join.nD Cert.Join.τ).loc Cert.Join.main_arg3)
      ∧ r.2.mem ((c.tc : Thread Cert.Join.nD Cert.Join.τ).loc Cert.Join.main_arg4) = m ((c.tc : Thread Cert.Join.nD Cert.Join.τ).loc Cert.Join.main_arg4)
      ∧ r.2.mem ((c.tc : Thread Cert.Join.nD Cert.Join.τ).loc Cert.Join.main_arg5) = m ((c.tc : Thread Cert.Join.nD Cert.Join.τ).loc Cert.Join.main_arg5)
      ∧ r.2.mem ((c.tc : Thread Cert.Join.nD Cert.Join.τ).loc Cert.Join.main_arg6) = m ((c.tc : Thread Cert.Join.nD Cert.Join.τ).loc Cert.Join.main_arg6))
      ∧ r.2.sem = fun _ => 0)

def quiescent_JoinIdeal [hJoinIdeal : Cert.JoinIdeal.Facts] : Prop :=
  ∀ (m : (ℓ : Loc Cert.JoinIdeal.nD Cert.JoinIdeal.τ Cert.JoinIdeal.sig) → Buf (Elt Ideal) ℓ) (g : Dev Cert.JoinIdeal.nD → PrngReg), Pre_JoinIdeal m →
    θ_run (Cert.JoinIdeal.defs (F := Ideal)) (onTc (τ := Cert.JoinIdeal.τ) (Cert.JoinIdeal.main (F := Ideal))) ⟨m, fun _ => 0, g⟩ (fun r => (∀ c : Dev Cert.JoinIdeal.nD,
      r.2.mem ((c.tc : Thread Cert.JoinIdeal.nD Cert.JoinIdeal.τ).loc Cert.JoinIdeal.main_arg0) = m ((c.tc : Thread Cert.JoinIdeal.nD Cert.JoinIdeal.τ).loc Cert.JoinIdeal.main_arg0)
      ∧ r.2.mem ((c.tc : Thread Cert.JoinIdeal.nD Cert.JoinIdeal.τ).loc Cert.JoinIdeal.main_arg1) = m ((c.tc : Thread Cert.JoinIdeal.nD Cert.JoinIdeal.τ).loc Cert.JoinIdeal.main_arg1)
      ∧ r.2.mem ((c.tc : Thread Cert.JoinIdeal.nD Cert.JoinIdeal.τ).loc Cert.JoinIdeal.main_arg2) = m ((c.tc : Thread Cert.JoinIdeal.nD Cert.JoinIdeal.τ).loc Cert.JoinIdeal.main_arg2)
      ∧ r.2.mem ((c.tc : Thread Cert.JoinIdeal.nD Cert.JoinIdeal.τ).loc Cert.JoinIdeal.main_arg3) = m ((c.tc : Thread Cert.JoinIdeal.nD Cert.JoinIdeal.τ).loc Cert.JoinIdeal.main_arg3)
      ∧ r.2.mem ((c.tc : Thread Cert.JoinIdeal.nD Cert.JoinIdeal.τ).loc Cert.JoinIdeal.main_arg4) = m ((c.tc : Thread Cert.JoinIdeal.nD Cert.JoinIdeal.τ).loc Cert.JoinIdeal.main_arg4)
      ∧ r.2.mem ((c.tc : Thread Cert.JoinIdeal.nD Cert.JoinIdeal.τ).loc Cert.JoinIdeal.main_arg5) = m ((c.tc : Thread Cert.JoinIdeal.nD Cert.JoinIdeal.τ).loc Cert.JoinIdeal.main_arg5)
      ∧ r.2.mem ((c.tc : Thread Cert.JoinIdeal.nD Cert.JoinIdeal.τ).loc Cert.JoinIdeal.main_arg6) = m ((c.tc : Thread Cert.JoinIdeal.nD Cert.JoinIdeal.τ).loc Cert.JoinIdeal.main_arg6))
      ∧ r.2.sem = fun _ => 0)

def quiescent_JoinRefIdeal [hJoinRefIdeal : Cert.JoinRefIdeal.Facts] : Prop :=
  ∀ (m : (ℓ : Loc Cert.JoinRefIdeal.nD Cert.JoinRefIdeal.τ Cert.JoinRefIdeal.sig) → Buf (Elt Ideal) ℓ) (g : Dev Cert.JoinRefIdeal.nD → PrngReg), Pre_JoinRefIdeal m →
    θ_run (Cert.JoinRefIdeal.defs (F := Ideal)) (onTc (τ := Cert.JoinRefIdeal.τ) (Cert.JoinRefIdeal.main (F := Ideal))) ⟨m, fun _ => 0, g⟩ (fun r => (∀ c : Dev Cert.JoinRefIdeal.nD,
      r.2.mem ((c.tc : Thread Cert.JoinRefIdeal.nD Cert.JoinRefIdeal.τ).loc Cert.JoinRefIdeal.main_arg0) = m ((c.tc : Thread Cert.JoinRefIdeal.nD Cert.JoinRefIdeal.τ).loc Cert.JoinRefIdeal.main_arg0)
      ∧ r.2.mem ((c.tc : Thread Cert.JoinRefIdeal.nD Cert.JoinRefIdeal.τ).loc Cert.JoinRefIdeal.main_arg1) = m ((c.tc : Thread Cert.JoinRefIdeal.nD Cert.JoinRefIdeal.τ).loc Cert.JoinRefIdeal.main_arg1)
      ∧ r.2.mem ((c.tc : Thread Cert.JoinRefIdeal.nD Cert.JoinRefIdeal.τ).loc Cert.JoinRefIdeal.main_arg2) = m ((c.tc : Thread Cert.JoinRefIdeal.nD Cert.JoinRefIdeal.τ).loc Cert.JoinRefIdeal.main_arg2)
      ∧ r.2.mem ((c.tc : Thread Cert.JoinRefIdeal.nD Cert.JoinRefIdeal.τ).loc Cert.JoinRefIdeal.main_arg3) = m ((c.tc : Thread Cert.JoinRefIdeal.nD Cert.JoinRefIdeal.τ).loc Cert.JoinRefIdeal.main_arg3)
      ∧ r.2.mem ((c.tc : Thread Cert.JoinRefIdeal.nD Cert.JoinRefIdeal.τ).loc Cert.JoinRefIdeal.main_arg4) = m ((c.tc : Thread Cert.JoinRefIdeal.nD Cert.JoinRefIdeal.τ).loc Cert.JoinRefIdeal.main_arg4)
      ∧ r.2.mem ((c.tc : Thread Cert.JoinRefIdeal.nD Cert.JoinRefIdeal.τ).loc Cert.JoinRefIdeal.main_arg5) = m ((c.tc : Thread Cert.JoinRefIdeal.nD Cert.JoinRefIdeal.τ).loc Cert.JoinRefIdeal.main_arg5)
      ∧ r.2.mem ((c.tc : Thread Cert.JoinRefIdeal.nD Cert.JoinRefIdeal.τ).loc Cert.JoinRefIdeal.main_arg6) = m ((c.tc : Thread Cert.JoinRefIdeal.nD Cert.JoinRefIdeal.τ).loc Cert.JoinRefIdeal.main_arg6))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_S5f [hS5f : Cert.S5f.Facts] : Prop :=
  ∀ (m : (ℓ : Loc Cert.S5f.nD Cert.S5f.τ Cert.S5f.sig) → Buf (Elt Bits) ℓ) (g : Dev Cert.S5f.nD → PrngReg), Pre_S5f m →
    θ_run (Cert.S5f.defs (F := Bits)) (onTc (τ := Cert.S5f.τ) (Cert.S5f.main (F := Bits))) ⟨m, fun _ => 0, g⟩ (fun r => (∀ c : Dev Cert.S5f.nD,
      r.2.mem ((c.tc : Thread Cert.S5f.nD Cert.S5f.τ).loc Cert.S5f.main_arg0) = m ((c.tc : Thread Cert.S5f.nD Cert.S5f.τ).loc Cert.S5f.main_arg0)
      ∧ r.2.mem ((c.tc : Thread Cert.S5f.nD Cert.S5f.τ).loc Cert.S5f.main_arg1) = m ((c.tc : Thread Cert.S5f.nD Cert.S5f.τ).loc Cert.S5f.main_arg1)
      ∧ r.2.mem ((c.tc : Thread Cert.S5f.nD Cert.S5f.τ).loc Cert.S5f.main_arg2) = m ((c.tc : Thread Cert.S5f.nD Cert.S5f.τ).loc Cert.S5f.main_arg2)
      ∧ r.2.mem ((c.tc : Thread Cert.S5f.nD Cert.S5f.τ).loc Cert.S5f.main_arg3) = m ((c.tc : Thread Cert.S5f.nD Cert.S5f.τ).loc Cert.S5f.main_arg3)
      ∧ r.2.mem ((c.tc : Thread Cert.S5f.nD Cert.S5f.τ).loc Cert.S5f.main_arg4) = m ((c.tc : Thread Cert.S5f.nD Cert.S5f.τ).loc Cert.S5f.main_arg4)
      ∧ r.2.mem ((c.tc : Thread Cert.S5f.nD Cert.S5f.τ).loc Cert.S5f.main_arg5) = m ((c.tc : Thread Cert.S5f.nD Cert.S5f.τ).loc Cert.S5f.main_arg5)
      ∧ r.2.mem ((c.tc : Thread Cert.S5f.nD Cert.S5f.τ).loc Cert.S5f.main_arg6) = m ((c.tc : Thread Cert.S5f.nD Cert.S5f.τ).loc Cert.S5f.main_arg6)
      ∧ r.2.mem ((c.tc : Thread Cert.S5f.nD Cert.S5f.τ).loc Cert.S5f.main_arg7) = m ((c.tc : Thread Cert.S5f.nD Cert.S5f.τ).loc Cert.S5f.main_arg7)
      ∧ r.2.mem ((c.tc : Thread Cert.S5f.nD Cert.S5f.τ).loc Cert.S5f.main_arg8) = m ((c.tc : Thread Cert.S5f.nD Cert.S5f.τ).loc Cert.S5f.main_arg8))
      ∧ r.2.sem = fun _ => 0)

def quiescent_S5fIdeal [hS5fIdeal : Cert.S5fIdeal.Facts] : Prop :=
  ∀ (m : (ℓ : Loc Cert.S5fIdeal.nD Cert.S5fIdeal.τ Cert.S5fIdeal.sig) → Buf (Elt Ideal) ℓ) (g : Dev Cert.S5fIdeal.nD → PrngReg), Pre_S5fIdeal m →
    θ_run (Cert.S5fIdeal.defs (F := Ideal)) (onTc (τ := Cert.S5fIdeal.τ) (Cert.S5fIdeal.main (F := Ideal))) ⟨m, fun _ => 0, g⟩ (fun r => (∀ c : Dev Cert.S5fIdeal.nD,
      r.2.mem ((c.tc : Thread Cert.S5fIdeal.nD Cert.S5fIdeal.τ).loc Cert.S5fIdeal.main_arg0) = m ((c.tc : Thread Cert.S5fIdeal.nD Cert.S5fIdeal.τ).loc Cert.S5fIdeal.main_arg0)
      ∧ r.2.mem ((c.tc : Thread Cert.S5fIdeal.nD Cert.S5fIdeal.τ).loc Cert.S5fIdeal.main_arg1) = m ((c.tc : Thread Cert.S5fIdeal.nD Cert.S5fIdeal.τ).loc Cert.S5fIdeal.main_arg1)
      ∧ r.2.mem ((c.tc : Thread Cert.S5fIdeal.nD Cert.S5fIdeal.τ).loc Cert.S5fIdeal.main_arg2) = m ((c.tc : Thread Cert.S5fIdeal.nD Cert.S5fIdeal.τ).loc Cert.S5fIdeal.main_arg2)
      ∧ r.2.mem ((c.tc : Thread Cert.S5fIdeal.nD Cert.S5fIdeal.τ).loc Cert.S5fIdeal.main_arg3) = m ((c.tc : Thread Cert.S5fIdeal.nD Cert.S5fIdeal.τ).loc Cert.S5fIdeal.main_arg3)
      ∧ r.2.mem ((c.tc : Thread Cert.S5fIdeal.nD Cert.S5fIdeal.τ).loc Cert.S5fIdeal.main_arg4) = m ((c.tc : Thread Cert.S5fIdeal.nD Cert.S5fIdeal.τ).loc Cert.S5fIdeal.main_arg4)
      ∧ r.2.mem ((c.tc : Thread Cert.S5fIdeal.nD Cert.S5fIdeal.τ).loc Cert.S5fIdeal.main_arg5) = m ((c.tc : Thread Cert.S5fIdeal.nD Cert.S5fIdeal.τ).loc Cert.S5fIdeal.main_arg5)
      ∧ r.2.mem ((c.tc : Thread Cert.S5fIdeal.nD Cert.S5fIdeal.τ).loc Cert.S5fIdeal.main_arg6) = m ((c.tc : Thread Cert.S5fIdeal.nD Cert.S5fIdeal.τ).loc Cert.S5fIdeal.main_arg6)
      ∧ r.2.mem ((c.tc : Thread Cert.S5fIdeal.nD Cert.S5fIdeal.τ).loc Cert.S5fIdeal.main_arg7) = m ((c.tc : Thread Cert.S5fIdeal.nD Cert.S5fIdeal.τ).loc Cert.S5fIdeal.main_arg7)
      ∧ r.2.mem ((c.tc : Thread Cert.S5fIdeal.nD Cert.S5fIdeal.τ).loc Cert.S5fIdeal.main_arg8) = m ((c.tc : Thread Cert.S5fIdeal.nD Cert.S5fIdeal.τ).loc Cert.S5fIdeal.main_arg8))
      ∧ r.2.sem = fun _ => 0)

def quiescent_S5fIdeal_pre_s5_finite [hS5fIdeal : Cert.S5fIdeal.Facts] [hPre_s5_finite : Cert.Pre_s5_finite.Facts] : Prop :=
  ∀ (m : (ℓ : Loc Cert.S5fIdeal.nD Cert.S5fIdeal.τ Cert.S5fIdeal.sig) → Buf (Elt Ideal) ℓ) (g : Dev Cert.S5fIdeal.nD → PrngReg), Pre_S5fIdeal_s5_finite m →
    θ_run (Cert.S5fIdeal.defs (F := Ideal)) (onTc (τ := Cert.S5fIdeal.τ) (Cert.S5fIdeal.main (F := Ideal))) ⟨m, fun _ => 0, g⟩ (fun r => (∀ c : Dev Cert.S5fIdeal.nD,
      r.2.mem ((c.tc : Thread Cert.S5fIdeal.nD Cert.S5fIdeal.τ).loc Cert.S5fIdeal.main_arg0) = m ((c.tc : Thread Cert.S5fIdeal.nD Cert.S5fIdeal.τ).loc Cert.S5fIdeal.main_arg0)
      ∧ r.2.mem ((c.tc : Thread Cert.S5fIdeal.nD Cert.S5fIdeal.τ).loc Cert.S5fIdeal.main_arg1) = m ((c.tc : Thread Cert.S5fIdeal.nD Cert.S5fIdeal.τ).loc Cert.S5fIdeal.main_arg1)
      ∧ r.2.mem ((c.tc : Thread Cert.S5fIdeal.nD Cert.S5fIdeal.τ).loc Cert.S5fIdeal.main_arg2) = m ((c.tc : Thread Cert.S5fIdeal.nD Cert.S5fIdeal.τ).loc Cert.S5fIdeal.main_arg2)
      ∧ r.2.mem ((c.tc : Thread Cert.S5fIdeal.nD Cert.S5fIdeal.τ).loc Cert.S5fIdeal.main_arg3) = m ((c.tc : Thread Cert.S5fIdeal.nD Cert.S5fIdeal.τ).loc Cert.S5fIdeal.main_arg3)
      ∧ r.2.mem ((c.tc : Thread Cert.S5fIdeal.nD Cert.S5fIdeal.τ).loc Cert.S5fIdeal.main_arg4) = m ((c.tc : Thread Cert.S5fIdeal.nD Cert.S5fIdeal.τ).loc Cert.S5fIdeal.main_arg4)
      ∧ r.2.mem ((c.tc : Thread Cert.S5fIdeal.nD Cert.S5fIdeal.τ).loc Cert.S5fIdeal.main_arg5) = m ((c.tc : Thread Cert.S5fIdeal.nD Cert.S5fIdeal.τ).loc Cert.S5fIdeal.main_arg5)
      ∧ r.2.mem ((c.tc : Thread Cert.S5fIdeal.nD Cert.S5fIdeal.τ).loc Cert.S5fIdeal.main_arg6) = m ((c.tc : Thread Cert.S5fIdeal.nD Cert.S5fIdeal.τ).loc Cert.S5fIdeal.main_arg6)
      ∧ r.2.mem ((c.tc : Thread Cert.S5fIdeal.nD Cert.S5fIdeal.τ).loc Cert.S5fIdeal.main_arg7) = m ((c.tc : Thread Cert.S5fIdeal.nD Cert.S5fIdeal.τ).loc Cert.S5fIdeal.main_arg7)
      ∧ r.2.mem ((c.tc : Thread Cert.S5fIdeal.nD Cert.S5fIdeal.τ).loc Cert.S5fIdeal.main_arg8) = m ((c.tc : Thread Cert.S5fIdeal.nD Cert.S5fIdeal.τ).loc Cert.S5fIdeal.main_arg8))
      ∧ r.2.sem = fun _ => 0)

def quiescent_S5fRefIdeal [hS5fRefIdeal : Cert.S5fRefIdeal.Facts] : Prop :=
  ∀ (m : (ℓ : Loc Cert.S5fRefIdeal.nD Cert.S5fRefIdeal.τ Cert.S5fRefIdeal.sig) → Buf (Elt Ideal) ℓ) (g : Dev Cert.S5fRefIdeal.nD → PrngReg), Pre_S5fRefIdeal m →
    θ_run (Cert.S5fRefIdeal.defs (F := Ideal)) (onTc (τ := Cert.S5fRefIdeal.τ) (Cert.S5fRefIdeal.main (F := Ideal))) ⟨m, fun _ => 0, g⟩ (fun r => (∀ c : Dev Cert.S5fRefIdeal.nD,
      r.2.mem ((c.tc : Thread Cert.S5fRefIdeal.nD Cert.S5fRefIdeal.τ).loc Cert.S5fRefIdeal.main_arg0) = m ((c.tc : Thread Cert.S5fRefIdeal.nD Cert.S5fRefIdeal.τ).loc Cert.S5fRefIdeal.main_arg0)
      ∧ r.2.mem ((c.tc : Thread Cert.S5fRefIdeal.nD Cert.S5fRefIdeal.τ).loc Cert.S5fRefIdeal.main_arg1) = m ((c.tc : Thread Cert.S5fRefIdeal.nD Cert.S5fRefIdeal.τ).loc Cert.S5fRefIdeal.main_arg1)
      ∧ r.2.mem ((c.tc : Thread Cert.S5fRefIdeal.nD Cert.S5fRefIdeal.τ).loc Cert.S5fRefIdeal.main_arg2) = m ((c.tc : Thread Cert.S5fRefIdeal.nD Cert.S5fRefIdeal.τ).loc Cert.S5fRefIdeal.main_arg2)
      ∧ r.2.mem ((c.tc : Thread Cert.S5fRefIdeal.nD Cert.S5fRefIdeal.τ).loc Cert.S5fRefIdeal.main_arg3) = m ((c.tc : Thread Cert.S5fRefIdeal.nD Cert.S5fRefIdeal.τ).loc Cert.S5fRefIdeal.main_arg3)
      ∧ r.2.mem ((c.tc : Thread Cert.S5fRefIdeal.nD Cert.S5fRefIdeal.τ).loc Cert.S5fRefIdeal.main_arg4) = m ((c.tc : Thread Cert.S5fRefIdeal.nD Cert.S5fRefIdeal.τ).loc Cert.S5fRefIdeal.main_arg4)
      ∧ r.2.mem ((c.tc : Thread Cert.S5fRefIdeal.nD Cert.S5fRefIdeal.τ).loc Cert.S5fRefIdeal.main_arg5) = m ((c.tc : Thread Cert.S5fRefIdeal.nD Cert.S5fRefIdeal.τ).loc Cert.S5fRefIdeal.main_arg5)
      ∧ r.2.mem ((c.tc : Thread Cert.S5fRefIdeal.nD Cert.S5fRefIdeal.τ).loc Cert.S5fRefIdeal.main_arg6) = m ((c.tc : Thread Cert.S5fRefIdeal.nD Cert.S5fRefIdeal.τ).loc Cert.S5fRefIdeal.main_arg6)
      ∧ r.2.mem ((c.tc : Thread Cert.S5fRefIdeal.nD Cert.S5fRefIdeal.τ).loc Cert.S5fRefIdeal.main_arg7) = m ((c.tc : Thread Cert.S5fRefIdeal.nD Cert.S5fRefIdeal.τ).loc Cert.S5fRefIdeal.main_arg7)
      ∧ r.2.mem ((c.tc : Thread Cert.S5fRefIdeal.nD Cert.S5fRefIdeal.τ).loc Cert.S5fRefIdeal.main_arg8) = m ((c.tc : Thread Cert.S5fRefIdeal.nD Cert.S5fRefIdeal.τ).loc Cert.S5fRefIdeal.main_arg8))
      ∧ r.2.sem = fun _ => 0)

def quiescent_S5fRefIdeal_pre_s5_finite [hS5fRefIdeal : Cert.S5fRefIdeal.Facts] [hPre_s5_finite : Cert.Pre_s5_finite.Facts] : Prop :=
  ∀ (m : (ℓ : Loc Cert.S5fRefIdeal.nD Cert.S5fRefIdeal.τ Cert.S5fRefIdeal.sig) → Buf (Elt Ideal) ℓ) (g : Dev Cert.S5fRefIdeal.nD → PrngReg), Pre_S5fRefIdeal_s5_finite m →
    θ_run (Cert.S5fRefIdeal.defs (F := Ideal)) (onTc (τ := Cert.S5fRefIdeal.τ) (Cert.S5fRefIdeal.main (F := Ideal))) ⟨m, fun _ => 0, g⟩ (fun r => (∀ c : Dev Cert.S5fRefIdeal.nD,
      r.2.mem ((c.tc : Thread Cert.S5fRefIdeal.nD Cert.S5fRefIdeal.τ).loc Cert.S5fRefIdeal.main_arg0) = m ((c.tc : Thread Cert.S5fRefIdeal.nD Cert.S5fRefIdeal.τ).loc Cert.S5fRefIdeal.main_arg0)
      ∧ r.2.mem ((c.tc : Thread Cert.S5fRefIdeal.nD Cert.S5fRefIdeal.τ).loc Cert.S5fRefIdeal.main_arg1) = m ((c.tc : Thread Cert.S5fRefIdeal.nD Cert.S5fRefIdeal.τ).loc Cert.S5fRefIdeal.main_arg1)
      ∧ r.2.mem ((c.tc : Thread Cert.S5fRefIdeal.nD Cert.S5fRefIdeal.τ).loc Cert.S5fRefIdeal.main_arg2) = m ((c.tc : Thread Cert.S5fRefIdeal.nD Cert.S5fRefIdeal.τ).loc Cert.S5fRefIdeal.main_arg2)
      ∧ r.2.mem ((c.tc : Thread Cert.S5fRefIdeal.nD Cert.S5fRefIdeal.τ).loc Cert.S5fRefIdeal.main_arg3) = m ((c.tc : Thread Cert.S5fRefIdeal.nD Cert.S5fRefIdeal.τ).loc Cert.S5fRefIdeal.main_arg3)
      ∧ r.2.mem ((c.tc : Thread Cert.S5fRefIdeal.nD Cert.S5fRefIdeal.τ).loc Cert.S5fRefIdeal.main_arg4) = m ((c.tc : Thread Cert.S5fRefIdeal.nD Cert.S5fRefIdeal.τ).loc Cert.S5fRefIdeal.main_arg4)
      ∧ r.2.mem ((c.tc : Thread Cert.S5fRefIdeal.nD Cert.S5fRefIdeal.τ).loc Cert.S5fRefIdeal.main_arg5) = m ((c.tc : Thread Cert.S5fRefIdeal.nD Cert.S5fRefIdeal.τ).loc Cert.S5fRefIdeal.main_arg5)
      ∧ r.2.mem ((c.tc : Thread Cert.S5fRefIdeal.nD Cert.S5fRefIdeal.τ).loc Cert.S5fRefIdeal.main_arg6) = m ((c.tc : Thread Cert.S5fRefIdeal.nD Cert.S5fRefIdeal.τ).loc Cert.S5fRefIdeal.main_arg6)
      ∧ r.2.mem ((c.tc : Thread Cert.S5fRefIdeal.nD Cert.S5fRefIdeal.τ).loc Cert.S5fRefIdeal.main_arg7) = m ((c.tc : Thread Cert.S5fRefIdeal.nD Cert.S5fRefIdeal.τ).loc Cert.S5fRefIdeal.main_arg7)
      ∧ r.2.mem ((c.tc : Thread Cert.S5fRefIdeal.nD Cert.S5fRefIdeal.τ).loc Cert.S5fRefIdeal.main_arg8) = m ((c.tc : Thread Cert.S5fRefIdeal.nD Cert.S5fRefIdeal.τ).loc Cert.S5fRefIdeal.main_arg8))
      ∧ r.2.sem = fun _ => 0)

def quiescent_OutGlu [hOutGlu : Cert.OutGlu.Facts] : Prop :=
  ∀ (m : (ℓ : Loc Cert.OutGlu.nD Cert.OutGlu.τ Cert.OutGlu.sig) → Buf (Elt Bits) ℓ) (g : Dev Cert.OutGlu.nD → PrngReg), Pre_OutGlu m →
    θ_run (Cert.OutGlu.defs (F := Bits)) (onTc (τ := Cert.OutGlu.τ) (Cert.OutGlu.main (F := Bits))) ⟨m, fun _ => 0, g⟩ (fun r => (∀ c : Dev Cert.OutGlu.nD,
      r.2.mem ((c.tc : Thread Cert.OutGlu.nD Cert.OutGlu.τ).loc Cert.OutGlu.main_arg0) = m ((c.tc : Thread Cert.OutGlu.nD Cert.OutGlu.τ).loc Cert.OutGlu.main_arg0)
      ∧ r.2.mem ((c.tc : Thread Cert.OutGlu.nD Cert.OutGlu.τ).loc Cert.OutGlu.main_arg1) = m ((c.tc : Thread Cert.OutGlu.nD Cert.OutGlu.τ).loc Cert.OutGlu.main_arg1)
      ∧ r.2.mem ((c.tc : Thread Cert.OutGlu.nD Cert.OutGlu.τ).loc Cert.OutGlu.main_arg2) = m ((c.tc : Thread Cert.OutGlu.nD Cert.OutGlu.τ).loc Cert.OutGlu.main_arg2)
      ∧ r.2.mem ((c.tc : Thread Cert.OutGlu.nD Cert.OutGlu.τ).loc Cert.OutGlu.main_arg3) = m ((c.tc : Thread Cert.OutGlu.nD Cert.OutGlu.τ).loc Cert.OutGlu.main_arg3))
      ∧ r.2.sem = fun _ => 0)

def quiescent_OutGluIdeal [hOutGluIdeal : Cert.OutGluIdeal.Facts] : Prop :=
  ∀ (m : (ℓ : Loc Cert.OutGluIdeal.nD Cert.OutGluIdeal.τ Cert.OutGluIdeal.sig) → Buf (Elt Ideal) ℓ) (g : Dev Cert.OutGluIdeal.nD → PrngReg), Pre_OutGluIdeal m →
    θ_run (Cert.OutGluIdeal.defs (F := Ideal)) (onTc (τ := Cert.OutGluIdeal.τ) (Cert.OutGluIdeal.main (F := Ideal))) ⟨m, fun _ => 0, g⟩ (fun r => (∀ c : Dev Cert.OutGluIdeal.nD,
      r.2.mem ((c.tc : Thread Cert.OutGluIdeal.nD Cert.OutGluIdeal.τ).loc Cert.OutGluIdeal.main_arg0) = m ((c.tc : Thread Cert.OutGluIdeal.nD Cert.OutGluIdeal.τ).loc Cert.OutGluIdeal.main_arg0)
      ∧ r.2.mem ((c.tc : Thread Cert.OutGluIdeal.nD Cert.OutGluIdeal.τ).loc Cert.OutGluIdeal.main_arg1) = m ((c.tc : Thread Cert.OutGluIdeal.nD Cert.OutGluIdeal.τ).loc Cert.OutGluIdeal.main_arg1)
      ∧ r.2.mem ((c.tc : Thread Cert.OutGluIdeal.nD Cert.OutGluIdeal.τ).loc Cert.OutGluIdeal.main_arg2) = m ((c.tc : Thread Cert.OutGluIdeal.nD Cert.OutGluIdeal.τ).loc Cert.OutGluIdeal.main_arg2)
      ∧ r.2.mem ((c.tc : Thread Cert.OutGluIdeal.nD Cert.OutGluIdeal.τ).loc Cert.OutGluIdeal.main_arg3) = m ((c.tc : Thread Cert.OutGluIdeal.nD Cert.OutGluIdeal.τ).loc Cert.OutGluIdeal.main_arg3))
      ∧ r.2.sem = fun _ => 0)

def quiescent_OutGluRefIdeal [hOutGluRefIdeal : Cert.OutGluRefIdeal.Facts] : Prop :=
  ∀ (m : (ℓ : Loc Cert.OutGluRefIdeal.nD Cert.OutGluRefIdeal.τ Cert.OutGluRefIdeal.sig) → Buf (Elt Ideal) ℓ) (g : Dev Cert.OutGluRefIdeal.nD → PrngReg), Pre_OutGluRefIdeal m →
    θ_run (Cert.OutGluRefIdeal.defs (F := Ideal)) (onTc (τ := Cert.OutGluRefIdeal.τ) (Cert.OutGluRefIdeal.main (F := Ideal))) ⟨m, fun _ => 0, g⟩ (fun r => (∀ c : Dev Cert.OutGluRefIdeal.nD,
      r.2.mem ((c.tc : Thread Cert.OutGluRefIdeal.nD Cert.OutGluRefIdeal.τ).loc Cert.OutGluRefIdeal.main_arg0) = m ((c.tc : Thread Cert.OutGluRefIdeal.nD Cert.OutGluRefIdeal.τ).loc Cert.OutGluRefIdeal.main_arg0)
      ∧ r.2.mem ((c.tc : Thread Cert.OutGluRefIdeal.nD Cert.OutGluRefIdeal.τ).loc Cert.OutGluRefIdeal.main_arg1) = m ((c.tc : Thread Cert.OutGluRefIdeal.nD Cert.OutGluRefIdeal.τ).loc Cert.OutGluRefIdeal.main_arg1)
      ∧ r.2.mem ((c.tc : Thread Cert.OutGluRefIdeal.nD Cert.OutGluRefIdeal.τ).loc Cert.OutGluRefIdeal.main_arg2) = m ((c.tc : Thread Cert.OutGluRefIdeal.nD Cert.OutGluRefIdeal.τ).loc Cert.OutGluRefIdeal.main_arg2)
      ∧ r.2.mem ((c.tc : Thread Cert.OutGluRefIdeal.nD Cert.OutGluRefIdeal.τ).loc Cert.OutGluRefIdeal.main_arg3) = m ((c.tc : Thread Cert.OutGluRefIdeal.nD Cert.OutGluRefIdeal.τ).loc Cert.OutGluRefIdeal.main_arg3))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1))
      ∧ r.2.sem = fun _ => 0)

def quiescent_ConvF [hConvF : Cert.ConvF.Facts] : Prop :=
  ∀ (m : (ℓ : Loc Cert.ConvF.nD Cert.ConvF.τ Cert.ConvF.sig) → Buf (Elt Bits) ℓ) (g : Dev Cert.ConvF.nD → PrngReg), Pre_ConvF m →
    θ_run (Cert.ConvF.defs (F := Bits)) (onTc (τ := Cert.ConvF.τ) (Cert.ConvF.main (F := Bits))) ⟨m, fun _ => 0, g⟩ (fun r => (∀ c : Dev Cert.ConvF.nD,
      r.2.mem ((c.tc : Thread Cert.ConvF.nD Cert.ConvF.τ).loc Cert.ConvF.main_arg0) = m ((c.tc : Thread Cert.ConvF.nD Cert.ConvF.τ).loc Cert.ConvF.main_arg0)
      ∧ r.2.mem ((c.tc : Thread Cert.ConvF.nD Cert.ConvF.τ).loc Cert.ConvF.main_arg1) = m ((c.tc : Thread Cert.ConvF.nD Cert.ConvF.τ).loc Cert.ConvF.main_arg1))
      ∧ r.2.sem = fun _ => 0)

def quiescent_ConvFIdeal [hConvFIdeal : Cert.ConvFIdeal.Facts] : Prop :=
  ∀ (m : (ℓ : Loc Cert.ConvFIdeal.nD Cert.ConvFIdeal.τ Cert.ConvFIdeal.sig) → Buf (Elt Ideal) ℓ) (g : Dev Cert.ConvFIdeal.nD → PrngReg), Pre_ConvFIdeal m →
    θ_run (Cert.ConvFIdeal.defs (F := Ideal)) (onTc (τ := Cert.ConvFIdeal.τ) (Cert.ConvFIdeal.main (F := Ideal))) ⟨m, fun _ => 0, g⟩ (fun r => (∀ c : Dev Cert.ConvFIdeal.nD,
      r.2.mem ((c.tc : Thread Cert.ConvFIdeal.nD Cert.ConvFIdeal.τ).loc Cert.ConvFIdeal.main_arg0) = m ((c.tc : Thread Cert.ConvFIdeal.nD Cert.ConvFIdeal.τ).loc Cert.ConvFIdeal.main_arg0)
      ∧ r.2.mem ((c.tc : Thread Cert.ConvFIdeal.nD Cert.ConvFIdeal.τ).loc Cert.ConvFIdeal.main_arg1) = m ((c.tc : Thread Cert.ConvFIdeal.nD Cert.ConvFIdeal.τ).loc Cert.ConvFIdeal.main_arg1))
      ∧ r.2.sem = fun _ => 0)

def quiescent_ConvFRefIdeal [hConvFRefIdeal : Cert.ConvFRefIdeal.Facts] : Prop :=
  ∀ (m : (ℓ : Loc Cert.ConvFRefIdeal.nD Cert.ConvFRefIdeal.τ Cert.ConvFRefIdeal.sig) → Buf (Elt Ideal) ℓ) (g : Dev Cert.ConvFRefIdeal.nD → PrngReg), Pre_ConvFRefIdeal m →
    θ_run (Cert.ConvFRefIdeal.defs (F := Ideal)) (onTc (τ := Cert.ConvFRefIdeal.τ) (Cert.ConvFRefIdeal.main (F := Ideal))) ⟨m, fun _ => 0, g⟩ (fun r => (∀ c : Dev Cert.ConvFRefIdeal.nD,
      r.2.mem ((c.tc : Thread Cert.ConvFRefIdeal.nD Cert.ConvFRefIdeal.τ).loc Cert.ConvFRefIdeal.main_arg0) = m ((c.tc : Thread Cert.ConvFRefIdeal.nD Cert.ConvFRefIdeal.τ).loc Cert.ConvFRefIdeal.main_arg0)
      ∧ r.2.mem ((c.tc : Thread Cert.ConvFRefIdeal.nD Cert.ConvFRefIdeal.τ).loc Cert.ConvFRefIdeal.main_arg1) = m ((c.tc : Thread Cert.ConvFRefIdeal.nD Cert.ConvFRefIdeal.τ).loc Cert.ConvFRefIdeal.main_arg1))
      ∧ r.2.sem = fun _ => 0)

def quiescent_NormF [hNormF : Cert.NormF.Facts] : Prop :=
  ∀ (m : (ℓ : Loc Cert.NormF.nD Cert.NormF.τ Cert.NormF.sig) → Buf (Elt Bits) ℓ) (g : Dev Cert.NormF.nD → PrngReg), Pre_NormF m →
    θ_run (Cert.NormF.defs (F := Bits)) (onTc (τ := Cert.NormF.τ) (Cert.NormF.main (F := Bits))) ⟨m, fun _ => 0, g⟩ (fun r => (∀ c : Dev Cert.NormF.nD,
      r.2.mem ((c.tc : Thread Cert.NormF.nD Cert.NormF.τ).loc Cert.NormF.main_arg0) = m ((c.tc : Thread Cert.NormF.nD Cert.NormF.τ).loc Cert.NormF.main_arg0)
      ∧ r.2.mem ((c.tc : Thread Cert.NormF.nD Cert.NormF.τ).loc Cert.NormF.main_arg1) = m ((c.tc : Thread Cert.NormF.nD Cert.NormF.τ).loc Cert.NormF.main_arg1)
      ∧ r.2.mem ((c.tc : Thread Cert.NormF.nD Cert.NormF.τ).loc Cert.NormF.main_arg2) = m ((c.tc : Thread Cert.NormF.nD Cert.NormF.τ).loc Cert.NormF.main_arg2))
      ∧ r.2.sem = fun _ => 0)

def quiescent_NormFIdeal [hNormFIdeal : Cert.NormFIdeal.Facts] : Prop :=
  ∀ (m : (ℓ : Loc Cert.NormFIdeal.nD Cert.NormFIdeal.τ Cert.NormFIdeal.sig) → Buf (Elt Ideal) ℓ) (g : Dev Cert.NormFIdeal.nD → PrngReg), Pre_NormFIdeal m →
    θ_run (Cert.NormFIdeal.defs (F := Ideal)) (onTc (τ := Cert.NormFIdeal.τ) (Cert.NormFIdeal.main (F := Ideal))) ⟨m, fun _ => 0, g⟩ (fun r => (∀ c : Dev Cert.NormFIdeal.nD,
      r.2.mem ((c.tc : Thread Cert.NormFIdeal.nD Cert.NormFIdeal.τ).loc Cert.NormFIdeal.main_arg0) = m ((c.tc : Thread Cert.NormFIdeal.nD Cert.NormFIdeal.τ).loc Cert.NormFIdeal.main_arg0)
      ∧ r.2.mem ((c.tc : Thread Cert.NormFIdeal.nD Cert.NormFIdeal.τ).loc Cert.NormFIdeal.main_arg1) = m ((c.tc : Thread Cert.NormFIdeal.nD Cert.NormFIdeal.τ).loc Cert.NormFIdeal.main_arg1)
      ∧ r.2.mem ((c.tc : Thread Cert.NormFIdeal.nD Cert.NormFIdeal.τ).loc Cert.NormFIdeal.main_arg2) = m ((c.tc : Thread Cert.NormFIdeal.nD Cert.NormFIdeal.τ).loc Cert.NormFIdeal.main_arg2))
      ∧ r.2.sem = fun _ => 0)

def quiescent_NormFRefIdeal [hNormFRefIdeal : Cert.NormFRefIdeal.Facts] : Prop :=
  ∀ (m : (ℓ : Loc Cert.NormFRefIdeal.nD Cert.NormFRefIdeal.τ Cert.NormFRefIdeal.sig) → Buf (Elt Ideal) ℓ) (g : Dev Cert.NormFRefIdeal.nD → PrngReg), Pre_NormFRefIdeal m →
    θ_run (Cert.NormFRefIdeal.defs (F := Ideal)) (onTc (τ := Cert.NormFRefIdeal.τ) (Cert.NormFRefIdeal.main (F := Ideal))) ⟨m, fun _ => 0, g⟩ (fun r => (∀ c : Dev Cert.NormFRefIdeal.nD,
      r.2.mem ((c.tc : Thread Cert.NormFRefIdeal.nD Cert.NormFRefIdeal.τ).loc Cert.NormFRefIdeal.main_arg0) = m ((c.tc : Thread Cert.NormFRefIdeal.nD Cert.NormFRefIdeal.τ).loc Cert.NormFRefIdeal.main_arg0)
      ∧ r.2.mem ((c.tc : Thread Cert.NormFRefIdeal.nD Cert.NormFRefIdeal.τ).loc Cert.NormFRefIdeal.main_arg1) = m ((c.tc : Thread Cert.NormFRefIdeal.nD Cert.NormFRefIdeal.τ).loc Cert.NormFRefIdeal.main_arg1)
      ∧ r.2.mem ((c.tc : Thread Cert.NormFRefIdeal.nD Cert.NormFRefIdeal.τ).loc Cert.NormFRefIdeal.main_arg2) = m ((c.tc : Thread Cert.NormFRefIdeal.nD Cert.NormFRefIdeal.τ).loc Cert.NormFRefIdeal.main_arg2))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_MmRes [hMmRes : Cert.MmRes.Facts] : Prop :=
  ∀ (m : (ℓ : Loc Cert.MmRes.nD Cert.MmRes.τ Cert.MmRes.sig) → Buf (Elt Bits) ℓ) (g : Dev Cert.MmRes.nD → PrngReg), Pre_MmRes m →
    θ_run (Cert.MmRes.defs (F := Bits)) (onTc (τ := Cert.MmRes.τ) (Cert.MmRes.main (F := Bits))) ⟨m, fun _ => 0, g⟩ (fun r => (∀ c : Dev Cert.MmRes.nD,
      r.2.mem ((c.tc : Thread Cert.MmRes.nD Cert.MmRes.τ).loc Cert.MmRes.main_arg0) = m ((c.tc : Thread Cert.MmRes.nD Cert.MmRes.τ).loc Cert.MmRes.main_arg0)
      ∧ r.2.mem ((c.tc : Thread Cert.MmRes.nD Cert.MmRes.τ).loc Cert.MmRes.main_arg1) = m ((c.tc : Thread Cert.MmRes.nD Cert.MmRes.τ).loc Cert.MmRes.main_arg1)
      ∧ r.2.mem ((c.tc : Thread Cert.MmRes.nD Cert.MmRes.τ).loc Cert.MmRes.main_arg2) = m ((c.tc : Thread Cert.MmRes.nD Cert.MmRes.τ).loc Cert.MmRes.main_arg2)
      ∧ r.2.mem ((c.tc : Thread Cert.MmRes.nD Cert.MmRes.τ).loc Cert.MmRes.main_arg3) = m ((c.tc : Thread Cert.MmRes.nD Cert.MmRes.τ).loc Cert.MmRes.main_arg3))
      ∧ r.2.sem = fun _ => 0)

def quiescent_MmResIdeal [hMmResIdeal : Cert.MmResIdeal.Facts] : Prop :=
  ∀ (m : (ℓ : Loc Cert.MmResIdeal.nD Cert.MmResIdeal.τ Cert.MmResIdeal.sig) → Buf (Elt Ideal) ℓ) (g : Dev Cert.MmResIdeal.nD → PrngReg), Pre_MmResIdeal m →
    θ_run (Cert.MmResIdeal.defs (F := Ideal)) (onTc (τ := Cert.MmResIdeal.τ) (Cert.MmResIdeal.main (F := Ideal))) ⟨m, fun _ => 0, g⟩ (fun r => (∀ c : Dev Cert.MmResIdeal.nD,
      r.2.mem ((c.tc : Thread Cert.MmResIdeal.nD Cert.MmResIdeal.τ).loc Cert.MmResIdeal.main_arg0) = m ((c.tc : Thread Cert.MmResIdeal.nD Cert.MmResIdeal.τ).loc Cert.MmResIdeal.main_arg0)
      ∧ r.2.mem ((c.tc : Thread Cert.MmResIdeal.nD Cert.MmResIdeal.τ).loc Cert.MmResIdeal.main_arg1) = m ((c.tc : Thread Cert.MmResIdeal.nD Cert.MmResIdeal.τ).loc Cert.MmResIdeal.main_arg1)
      ∧ r.2.mem ((c.tc : Thread Cert.MmResIdeal.nD Cert.MmResIdeal.τ).loc Cert.MmResIdeal.main_arg2) = m ((c.tc : Thread Cert.MmResIdeal.nD Cert.MmResIdeal.τ).loc Cert.MmResIdeal.main_arg2)
      ∧ r.2.mem ((c.tc : Thread Cert.MmResIdeal.nD Cert.MmResIdeal.τ).loc Cert.MmResIdeal.main_arg3) = m ((c.tc : Thread Cert.MmResIdeal.nD Cert.MmResIdeal.τ).loc Cert.MmResIdeal.main_arg3))
      ∧ r.2.sem = fun _ => 0)

def quiescent_MmResRefIdeal [hMmResRefIdeal : Cert.MmResRefIdeal.Facts] : Prop :=
  ∀ (m : (ℓ : Loc Cert.MmResRefIdeal.nD Cert.MmResRefIdeal.τ Cert.MmResRefIdeal.sig) → Buf (Elt Ideal) ℓ) (g : Dev Cert.MmResRefIdeal.nD → PrngReg), Pre_MmResRefIdeal m →
    θ_run (Cert.MmResRefIdeal.defs (F := Ideal)) (onTc (τ := Cert.MmResRefIdeal.τ) (Cert.MmResRefIdeal.main (F := Ideal))) ⟨m, fun _ => 0, g⟩ (fun r => (∀ c : Dev Cert.MmResRefIdeal.nD,
      r.2.mem ((c.tc : Thread Cert.MmResRefIdeal.nD Cert.MmResRefIdeal.τ).loc Cert.MmResRefIdeal.main_arg0) = m ((c.tc : Thread Cert.MmResRefIdeal.nD Cert.MmResRefIdeal.τ).loc Cert.MmResRefIdeal.main_arg0)
      ∧ r.2.mem ((c.tc : Thread Cert.MmResRefIdeal.nD Cert.MmResRefIdeal.τ).loc Cert.MmResRefIdeal.main_arg1) = m ((c.tc : Thread Cert.MmResRefIdeal.nD Cert.MmResRefIdeal.τ).loc Cert.MmResRefIdeal.main_arg1)
      ∧ r.2.mem ((c.tc : Thread Cert.MmResRefIdeal.nD Cert.MmResRefIdeal.τ).loc Cert.MmResRefIdeal.main_arg2) = m ((c.tc : Thread Cert.MmResRefIdeal.nD Cert.MmResRefIdeal.τ).loc Cert.MmResRefIdeal.main_arg2)
      ∧ r.2.mem ((c.tc : Thread Cert.MmResRefIdeal.nD Cert.MmResRefIdeal.τ).loc Cert.MmResRefIdeal.main_arg3) = m ((c.tc : Thread Cert.MmResRefIdeal.nD Cert.MmResRefIdeal.τ).loc Cert.MmResRefIdeal.main_arg3))
      ∧ r.2.sem = fun _ => 0)

def quiescent_MmNN [hMmNN : Cert.MmNN.Facts] : Prop :=
  ∀ (m : (ℓ : Loc Cert.MmNN.nD Cert.MmNN.τ Cert.MmNN.sig) → Buf (Elt Bits) ℓ) (g : Dev Cert.MmNN.nD → PrngReg), Pre_MmNN m →
    θ_run (Cert.MmNN.defs (F := Bits)) (onTc (τ := Cert.MmNN.τ) (Cert.MmNN.main (F := Bits))) ⟨m, fun _ => 0, g⟩ (fun r => (∀ c : Dev Cert.MmNN.nD,
      r.2.mem ((c.tc : Thread Cert.MmNN.nD Cert.MmNN.τ).loc Cert.MmNN.main_arg0) = m ((c.tc : Thread Cert.MmNN.nD Cert.MmNN.τ).loc Cert.MmNN.main_arg0)
      ∧ r.2.mem ((c.tc : Thread Cert.MmNN.nD Cert.MmNN.τ).loc Cert.MmNN.main_arg1) = m ((c.tc : Thread Cert.MmNN.nD Cert.MmNN.τ).loc Cert.MmNN.main_arg1))
      ∧ r.2.sem = fun _ => 0)

def quiescent_MmNNIdeal [hMmNNIdeal : Cert.MmNNIdeal.Facts] : Prop :=
  ∀ (m : (ℓ : Loc Cert.MmNNIdeal.nD Cert.MmNNIdeal.τ Cert.MmNNIdeal.sig) → Buf (Elt Ideal) ℓ) (g : Dev Cert.MmNNIdeal.nD → PrngReg), Pre_MmNNIdeal m →
    θ_run (Cert.MmNNIdeal.defs (F := Ideal)) (onTc (τ := Cert.MmNNIdeal.τ) (Cert.MmNNIdeal.main (F := Ideal))) ⟨m, fun _ => 0, g⟩ (fun r => (∀ c : Dev Cert.MmNNIdeal.nD,
      r.2.mem ((c.tc : Thread Cert.MmNNIdeal.nD Cert.MmNNIdeal.τ).loc Cert.MmNNIdeal.main_arg0) = m ((c.tc : Thread Cert.MmNNIdeal.nD Cert.MmNNIdeal.τ).loc Cert.MmNNIdeal.main_arg0)
      ∧ r.2.mem ((c.tc : Thread Cert.MmNNIdeal.nD Cert.MmNNIdeal.τ).loc Cert.MmNNIdeal.main_arg1) = m ((c.tc : Thread Cert.MmNNIdeal.nD Cert.MmNNIdeal.τ).loc Cert.MmNNIdeal.main_arg1))
      ∧ r.2.sem = fun _ => 0)

def quiescent_MmNNRefIdeal [hMmNNRefIdeal : Cert.MmNNRefIdeal.Facts] : Prop :=
  ∀ (m : (ℓ : Loc Cert.MmNNRefIdeal.nD Cert.MmNNRefIdeal.τ Cert.MmNNRefIdeal.sig) → Buf (Elt Ideal) ℓ) (g : Dev Cert.MmNNRefIdeal.nD → PrngReg), Pre_MmNNRefIdeal m →
    θ_run (Cert.MmNNRefIdeal.defs (F := Ideal)) (onTc (τ := Cert.MmNNRefIdeal.τ) (Cert.MmNNRefIdeal.main (F := Ideal))) ⟨m, fun _ => 0, g⟩ (fun r => (∀ c : Dev Cert.MmNNRefIdeal.nD,
      r.2.mem ((c.tc : Thread Cert.MmNNRefIdeal.nD Cert.MmNNRefIdeal.τ).loc Cert.MmNNRefIdeal.main_arg0) = m ((c.tc : Thread Cert.MmNNRefIdeal.nD Cert.MmNNRefIdeal.τ).loc Cert.MmNNRefIdeal.main_arg0)
      ∧ r.2.mem ((c.tc : Thread Cert.MmNNRefIdeal.nD Cert.MmNNRefIdeal.τ).loc Cert.MmNNRefIdeal.main_arg1) = m ((c.tc : Thread Cert.MmNNRefIdeal.nD Cert.MmNNRefIdeal.τ).loc Cert.MmNNRefIdeal.main_arg1))
      ∧ r.2.sem = fun _ => 0)

def quiescent_MmNT [hMmNT : Cert.MmNT.Facts] : Prop :=
  ∀ (m : (ℓ : Loc Cert.MmNT.nD Cert.MmNT.τ Cert.MmNT.sig) → Buf (Elt Bits) ℓ) (g : Dev Cert.MmNT.nD → PrngReg), Pre_MmNT m →
    θ_run (Cert.MmNT.defs (F := Bits)) (onTc (τ := Cert.MmNT.τ) (Cert.MmNT.main (F := Bits))) ⟨m, fun _ => 0, g⟩ (fun r => (∀ c : Dev Cert.MmNT.nD,
      r.2.mem ((c.tc : Thread Cert.MmNT.nD Cert.MmNT.τ).loc Cert.MmNT.main_arg0) = m ((c.tc : Thread Cert.MmNT.nD Cert.MmNT.τ).loc Cert.MmNT.main_arg0)
      ∧ r.2.mem ((c.tc : Thread Cert.MmNT.nD Cert.MmNT.τ).loc Cert.MmNT.main_arg1) = m ((c.tc : Thread Cert.MmNT.nD Cert.MmNT.τ).loc Cert.MmNT.main_arg1))
      ∧ r.2.sem = fun _ => 0)

def quiescent_MmNTIdeal [hMmNTIdeal : Cert.MmNTIdeal.Facts] : Prop :=
  ∀ (m : (ℓ : Loc Cert.MmNTIdeal.nD Cert.MmNTIdeal.τ Cert.MmNTIdeal.sig) → Buf (Elt Ideal) ℓ) (g : Dev Cert.MmNTIdeal.nD → PrngReg), Pre_MmNTIdeal m →
    θ_run (Cert.MmNTIdeal.defs (F := Ideal)) (onTc (τ := Cert.MmNTIdeal.τ) (Cert.MmNTIdeal.main (F := Ideal))) ⟨m, fun _ => 0, g⟩ (fun r => (∀ c : Dev Cert.MmNTIdeal.nD,
      r.2.mem ((c.tc : Thread Cert.MmNTIdeal.nD Cert.MmNTIdeal.τ).loc Cert.MmNTIdeal.main_arg0) = m ((c.tc : Thread Cert.MmNTIdeal.nD Cert.MmNTIdeal.τ).loc Cert.MmNTIdeal.main_arg0)
      ∧ r.2.mem ((c.tc : Thread Cert.MmNTIdeal.nD Cert.MmNTIdeal.τ).loc Cert.MmNTIdeal.main_arg1) = m ((c.tc : Thread Cert.MmNTIdeal.nD Cert.MmNTIdeal.τ).loc Cert.MmNTIdeal.main_arg1))
      ∧ r.2.sem = fun _ => 0)

def quiescent_MmNTRefIdeal [hMmNTRefIdeal : Cert.MmNTRefIdeal.Facts] : Prop :=
  ∀ (m : (ℓ : Loc Cert.MmNTRefIdeal.nD Cert.MmNTRefIdeal.τ Cert.MmNTRefIdeal.sig) → Buf (Elt Ideal) ℓ) (g : Dev Cert.MmNTRefIdeal.nD → PrngReg), Pre_MmNTRefIdeal m →
    θ_run (Cert.MmNTRefIdeal.defs (F := Ideal)) (onTc (τ := Cert.MmNTRefIdeal.τ) (Cert.MmNTRefIdeal.main (F := Ideal))) ⟨m, fun _ => 0, g⟩ (fun r => (∀ c : Dev Cert.MmNTRefIdeal.nD,
      r.2.mem ((c.tc : Thread Cert.MmNTRefIdeal.nD Cert.MmNTRefIdeal.τ).loc Cert.MmNTRefIdeal.main_arg0) = m ((c.tc : Thread Cert.MmNTRefIdeal.nD Cert.MmNTRefIdeal.τ).loc Cert.MmNTRefIdeal.main_arg0)
      ∧ r.2.mem ((c.tc : Thread Cert.MmNTRefIdeal.nD Cert.MmNTRefIdeal.τ).loc Cert.MmNTRefIdeal.main_arg1) = m ((c.tc : Thread Cert.MmNTRefIdeal.nD Cert.MmNTRefIdeal.τ).loc Cert.MmNTRefIdeal.main_arg1))
      ∧ r.2.sem = fun _ => 0)

def quiescent_MmTN [hMmTN : Cert.MmTN.Facts] : Prop :=
  ∀ (m : (ℓ : Loc Cert.MmTN.nD Cert.MmTN.τ Cert.MmTN.sig) → Buf (Elt Bits) ℓ) (g : Dev Cert.MmTN.nD → PrngReg), Pre_MmTN m →
    θ_run (Cert.MmTN.defs (F := Bits)) (onTc (τ := Cert.MmTN.τ) (Cert.MmTN.main (F := Bits))) ⟨m, fun _ => 0, g⟩ (fun r => (∀ c : Dev Cert.MmTN.nD,
      r.2.mem ((c.tc : Thread Cert.MmTN.nD Cert.MmTN.τ).loc Cert.MmTN.main_arg0) = m ((c.tc : Thread Cert.MmTN.nD Cert.MmTN.τ).loc Cert.MmTN.main_arg0)
      ∧ r.2.mem ((c.tc : Thread Cert.MmTN.nD Cert.MmTN.τ).loc Cert.MmTN.main_arg1) = m ((c.tc : Thread Cert.MmTN.nD Cert.MmTN.τ).loc Cert.MmTN.main_arg1))
      ∧ r.2.sem = fun _ => 0)

def quiescent_MmTNIdeal [hMmTNIdeal : Cert.MmTNIdeal.Facts] : Prop :=
  ∀ (m : (ℓ : Loc Cert.MmTNIdeal.nD Cert.MmTNIdeal.τ Cert.MmTNIdeal.sig) → Buf (Elt Ideal) ℓ) (g : Dev Cert.MmTNIdeal.nD → PrngReg), Pre_MmTNIdeal m →
    θ_run (Cert.MmTNIdeal.defs (F := Ideal)) (onTc (τ := Cert.MmTNIdeal.τ) (Cert.MmTNIdeal.main (F := Ideal))) ⟨m, fun _ => 0, g⟩ (fun r => (∀ c : Dev Cert.MmTNIdeal.nD,
      r.2.mem ((c.tc : Thread Cert.MmTNIdeal.nD Cert.MmTNIdeal.τ).loc Cert.MmTNIdeal.main_arg0) = m ((c.tc : Thread Cert.MmTNIdeal.nD Cert.MmTNIdeal.τ).loc Cert.MmTNIdeal.main_arg0)
      ∧ r.2.mem ((c.tc : Thread Cert.MmTNIdeal.nD Cert.MmTNIdeal.τ).loc Cert.MmTNIdeal.main_arg1) = m ((c.tc : Thread Cert.MmTNIdeal.nD Cert.MmTNIdeal.τ).loc Cert.MmTNIdeal.main_arg1))
      ∧ r.2.sem = fun _ => 0)

def quiescent_MmTNRefIdeal [hMmTNRefIdeal : Cert.MmTNRefIdeal.Facts] : Prop :=
  ∀ (m : (ℓ : Loc Cert.MmTNRefIdeal.nD Cert.MmTNRefIdeal.τ Cert.MmTNRefIdeal.sig) → Buf (Elt Ideal) ℓ) (g : Dev Cert.MmTNRefIdeal.nD → PrngReg), Pre_MmTNRefIdeal m →
    θ_run (Cert.MmTNRefIdeal.defs (F := Ideal)) (onTc (τ := Cert.MmTNRefIdeal.τ) (Cert.MmTNRefIdeal.main (F := Ideal))) ⟨m, fun _ => 0, g⟩ (fun r => (∀ c : Dev Cert.MmTNRefIdeal.nD,
      r.2.mem ((c.tc : Thread Cert.MmTNRefIdeal.nD Cert.MmTNRefIdeal.τ).loc Cert.MmTNRefIdeal.main_arg0) = m ((c.tc : Thread Cert.MmTNRefIdeal.nD Cert.MmTNRefIdeal.τ).loc Cert.MmTNRefIdeal.main_arg0)
      ∧ r.2.mem ((c.tc : Thread Cert.MmTNRefIdeal.nD Cert.MmTNRefIdeal.τ).loc Cert.MmTNRefIdeal.main_arg1) = m ((c.tc : Thread Cert.MmTNRefIdeal.nD Cert.MmTNRefIdeal.τ).loc Cert.MmTNRefIdeal.main_arg1))
      ∧ r.2.sem = fun _ => 0)

def quiescent_AdamAda [hAdamAda : Cert.AdamAda.Facts] : Prop :=
  ∀ (m : (ℓ : Loc Cert.AdamAda.nD Cert.AdamAda.τ Cert.AdamAda.sig) → Buf (Elt Bits) ℓ) (g : Dev Cert.AdamAda.nD → PrngReg), Pre_AdamAda m →
    θ_run (Cert.AdamAda.defs (F := Bits)) (onTc (τ := Cert.AdamAda.τ) (Cert.AdamAda.main (F := Bits))) ⟨m, fun _ => 0, g⟩ (fun r => (∀ c : Dev Cert.AdamAda.nD,
      r.2.mem ((c.tc : Thread Cert.AdamAda.nD Cert.AdamAda.τ).loc Cert.AdamAda.main_arg0) = m ((c.tc : Thread Cert.AdamAda.nD Cert.AdamAda.τ).loc Cert.AdamAda.main_arg0)
      ∧ r.2.mem ((c.tc : Thread Cert.AdamAda.nD Cert.AdamAda.τ).loc Cert.AdamAda.main_arg1) = m ((c.tc : Thread Cert.AdamAda.nD Cert.AdamAda.τ).loc Cert.AdamAda.main_arg1)
      ∧ r.2.mem ((c.tc : Thread Cert.AdamAda.nD Cert.AdamAda.τ).loc Cert.AdamAda.main_arg2) = m ((c.tc : Thread Cert.AdamAda.nD Cert.AdamAda.τ).loc Cert.AdamAda.main_arg2)
      ∧ r.2.mem ((c.tc : Thread Cert.AdamAda.nD Cert.AdamAda.τ).loc Cert.AdamAda.main_arg3) = m ((c.tc : Thread Cert.AdamAda.nD Cert.AdamAda.τ).loc Cert.AdamAda.main_arg3)
      ∧ r.2.mem ((c.tc : Thread Cert.AdamAda.nD Cert.AdamAda.τ).loc Cert.AdamAda.main_arg4) = m ((c.tc : Thread Cert.AdamAda.nD Cert.AdamAda.τ).loc Cert.AdamAda.main_arg4))
      ∧ r.2.sem = fun _ => 0)

def quiescent_AdamAdaIdeal [hAdamAdaIdeal : Cert.AdamAdaIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg), Pre_AdamAdaIdeal m →
    θ_run (Cert.AdamAdaIdeal.defs (F := Ideal)) (onTc (τ := Cert.AdamAdaIdeal.τ) (Cert.AdamAdaIdeal.main (F := Ideal))) ⟨m, fun _ => 0, g⟩ (fun r => (∀ c : Dev Cert.AdamAdaIdeal.nD,
      r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
      ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
      ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
      ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3)
      ∧ r.2.mem ((c.tc : Thread Cert.AdamAdaIdeal.nD Cert.AdamAdaIdeal.τ).loc Cert.AdamAdaIdeal.main_arg4) = m ((c.tc : Thread Cert.AdamAdaIdeal.nD Cert.AdamAdaIdeal.τ).loc Cert.AdamAdaIdeal.main_arg4))
      ∧ r.2.sem = fun _ => 0)

def quiescent_AdamAdaRefIdeal [hAdamAdaRefIdeal : Cert.AdamAdaRefIdeal.Facts] : Prop :=
  ∀ (m : (ℓ : Loc Cert.AdamAdaRefIdeal.nD Cert.AdamAdaRefIdeal.τ Cert.AdamAdaRefIdeal.sig) → Buf (Elt Ideal) ℓ) (g : Dev Cert.AdamAdaRefIdeal.nD → PrngReg), Pre_AdamAdaRefIdeal m →
    θ_run (Cert.AdamAdaRefIdeal.defs (F := Ideal)) (onTc (τ := Cert.AdamAdaRefIdeal.τ) (Cert.AdamAdaRefIdeal.main (F := Ideal))) ⟨m, fun _ => 0, g⟩ (fun r => (∀ c : Dev Cert.AdamAdaRefIdeal.nD,
      r.2.mem ((c.tc : Thread Cert.AdamAdaRefIdeal.nD Cert.AdamAdaRefIdeal.τ).loc Cert.AdamAdaRefIdeal.main_arg0) = m ((c.tc : Thread Cert.AdamAdaRefIdeal.nD Cert.AdamAdaRefIdeal.τ).loc Cert.AdamAdaRefIdeal.main_arg0)
      ∧ r.2.mem ((c.tc : Thread Cert.AdamAdaRefIdeal.nD Cert.AdamAdaRefIdeal.τ).loc Cert.AdamAdaRefIdeal.main_arg1) = m ((c.tc : Thread Cert.AdamAdaRefIdeal.nD Cert.AdamAdaRefIdeal.τ).loc Cert.AdamAdaRefIdeal.main_arg1)
      ∧ r.2.mem ((c.tc : Thread Cert.AdamAdaRefIdeal.nD Cert.AdamAdaRefIdeal.τ).loc Cert.AdamAdaRefIdeal.main_arg2) = m ((c.tc : Thread Cert.AdamAdaRefIdeal.nD Cert.AdamAdaRefIdeal.τ).loc Cert.AdamAdaRefIdeal.main_arg2)
      ∧ r.2.mem ((c.tc : Thread Cert.AdamAdaRefIdeal.nD Cert.AdamAdaRefIdeal.τ).loc Cert.AdamAdaRefIdeal.main_arg3) = m ((c.tc : Thread Cert.AdamAdaRefIdeal.nD Cert.AdamAdaRefIdeal.τ).loc Cert.AdamAdaRefIdeal.main_arg3)
      ∧ r.2.mem ((c.tc : Thread Cert.AdamAdaRefIdeal.nD Cert.AdamAdaRefIdeal.τ).loc Cert.AdamAdaRefIdeal.main_arg4) = m ((c.tc : Thread Cert.AdamAdaRefIdeal.nD Cert.AdamAdaRefIdeal.τ).loc Cert.AdamAdaRefIdeal.main_arg4))
      ∧ r.2.sem = fun _ => 0)

def quiescent_AdamSh [hAdamSh : Cert.AdamSh.Facts] : Prop :=
  ∀ (m : (ℓ : Loc Cert.AdamSh.nD Cert.AdamSh.τ Cert.AdamSh.sig) → Buf (Elt Bits) ℓ) (g : Dev Cert.AdamSh.nD → PrngReg), Pre_AdamSh m →
    θ_run (Cert.AdamSh.defs (F := Bits)) (onTc (τ := Cert.AdamSh.τ) (Cert.AdamSh.main (F := Bits))) ⟨m, fun _ => 0, g⟩ (fun r => (∀ c : Dev Cert.AdamSh.nD,
      r.2.mem ((c.tc : Thread Cert.AdamSh.nD Cert.AdamSh.τ).loc Cert.AdamSh.main_arg0) = m ((c.tc : Thread Cert.AdamSh.nD Cert.AdamSh.τ).loc Cert.AdamSh.main_arg0)
      ∧ r.2.mem ((c.tc : Thread Cert.AdamSh.nD Cert.AdamSh.τ).loc Cert.AdamSh.main_arg1) = m ((c.tc : Thread Cert.AdamSh.nD Cert.AdamSh.τ).loc Cert.AdamSh.main_arg1)
      ∧ r.2.mem ((c.tc : Thread Cert.AdamSh.nD Cert.AdamSh.τ).loc Cert.AdamSh.main_arg2) = m ((c.tc : Thread Cert.AdamSh.nD Cert.AdamSh.τ).loc Cert.AdamSh.main_arg2)
      ∧ r.2.mem ((c.tc : Thread Cert.AdamSh.nD Cert.AdamSh.τ).loc Cert.AdamSh.main_arg3) = m ((c.tc : Thread Cert.AdamSh.nD Cert.AdamSh.τ).loc Cert.AdamSh.main_arg3)
      ∧ r.2.mem ((c.tc : Thread Cert.AdamSh.nD Cert.AdamSh.τ).loc Cert.AdamSh.main_arg4) = m ((c.tc : Thread Cert.AdamSh.nD Cert.AdamSh.τ).loc Cert.AdamSh.main_arg4))
      ∧ r.2.sem = fun _ => 0)

def quiescent_AdamShIdeal [hAdamShIdeal : Cert.AdamShIdeal.Facts] : Prop :=
  ∀ (m : (ℓ : Loc Cert.AdamShIdeal.nD Cert.AdamShIdeal.τ Cert.AdamShIdeal.sig) → Buf (Elt Ideal) ℓ) (g : Dev Cert.AdamShIdeal.nD → PrngReg), Pre_AdamShIdeal m →
    θ_run (Cert.AdamShIdeal.defs (F := Ideal)) (onTc (τ := Cert.AdamShIdeal.τ) (Cert.AdamShIdeal.main (F := Ideal))) ⟨m, fun _ => 0, g⟩ (fun r => (∀ c : Dev Cert.AdamShIdeal.nD,
      r.2.mem ((c.tc : Thread Cert.AdamShIdeal.nD Cert.AdamShIdeal.τ).loc Cert.AdamShIdeal.main_arg0) = m ((c.tc : Thread Cert.AdamShIdeal.nD Cert.AdamShIdeal.τ).loc Cert.AdamShIdeal.main_arg0)
      ∧ r.2.mem ((c.tc : Thread Cert.AdamShIdeal.nD Cert.AdamShIdeal.τ).loc Cert.AdamShIdeal.main_arg1) = m ((c.tc : Thread Cert.AdamShIdeal.nD Cert.AdamShIdeal.τ).loc Cert.AdamShIdeal.main_arg1)
      ∧ r.2.mem ((c.tc : Thread Cert.AdamShIdeal.nD Cert.AdamShIdeal.τ).loc Cert.AdamShIdeal.main_arg2) = m ((c.tc : Thread Cert.AdamShIdeal.nD Cert.AdamShIdeal.τ).loc Cert.AdamShIdeal.main_arg2)
      ∧ r.2.mem ((c.tc : Thread Cert.AdamShIdeal.nD Cert.AdamShIdeal.τ).loc Cert.AdamShIdeal.main_arg3) = m ((c.tc : Thread Cert.AdamShIdeal.nD Cert.AdamShIdeal.τ).loc Cert.AdamShIdeal.main_arg3)
      ∧ r.2.mem ((c.tc : Thread Cert.AdamShIdeal.nD Cert.AdamShIdeal.τ).loc Cert.AdamShIdeal.main_arg4) = m ((c.tc : Thread Cert.AdamShIdeal.nD Cert.AdamShIdeal.τ).loc Cert.AdamShIdeal.main_arg4))
      ∧ r.2.sem = fun _ => 0)

def quiescent_AdamShRefIdeal [hAdamShRefIdeal : Cert.AdamShRefIdeal.Facts] : Prop :=
  ∀ (m : (ℓ : Loc Cert.AdamShRefIdeal.nD Cert.AdamShRefIdeal.τ Cert.AdamShRefIdeal.sig) → Buf (Elt Ideal) ℓ) (g : Dev Cert.AdamShRefIdeal.nD → PrngReg), Pre_AdamShRefIdeal m →
    θ_run (Cert.AdamShRefIdeal.defs (F := Ideal)) (onTc (τ := Cert.AdamShRefIdeal.τ) (Cert.AdamShRefIdeal.main (F := Ideal))) ⟨m, fun _ => 0, g⟩ (fun r => (∀ c : Dev Cert.AdamShRefIdeal.nD,
      r.2.mem ((c.tc : Thread Cert.AdamShRefIdeal.nD Cert.AdamShRefIdeal.τ).loc Cert.AdamShRefIdeal.main_arg0) = m ((c.tc : Thread Cert.AdamShRefIdeal.nD Cert.AdamShRefIdeal.τ).loc Cert.AdamShRefIdeal.main_arg0)
      ∧ r.2.mem ((c.tc : Thread Cert.AdamShRefIdeal.nD Cert.AdamShRefIdeal.τ).loc Cert.AdamShRefIdeal.main_arg1) = m ((c.tc : Thread Cert.AdamShRefIdeal.nD Cert.AdamShRefIdeal.τ).loc Cert.AdamShRefIdeal.main_arg1)
      ∧ r.2.mem ((c.tc : Thread Cert.AdamShRefIdeal.nD Cert.AdamShRefIdeal.τ).loc Cert.AdamShRefIdeal.main_arg2) = m ((c.tc : Thread Cert.AdamShRefIdeal.nD Cert.AdamShRefIdeal.τ).loc Cert.AdamShRefIdeal.main_arg2)
      ∧ r.2.mem ((c.tc : Thread Cert.AdamShRefIdeal.nD Cert.AdamShRefIdeal.τ).loc Cert.AdamShRefIdeal.main_arg3) = m ((c.tc : Thread Cert.AdamShRefIdeal.nD Cert.AdamShRefIdeal.τ).loc Cert.AdamShRefIdeal.main_arg3)
      ∧ r.2.mem ((c.tc : Thread Cert.AdamShRefIdeal.nD Cert.AdamShRefIdeal.τ).loc Cert.AdamShRefIdeal.main_arg4) = m ((c.tc : Thread Cert.AdamShRefIdeal.nD Cert.AdamShRefIdeal.τ).loc Cert.AdamShRefIdeal.main_arg4))
      ∧ r.2.sem = fun _ => 0)

def quiescent_AdamSlab [hAdamSlab : Cert.AdamSlab.Facts] : Prop :=
  ∀ (m : (ℓ : Loc Cert.AdamSlab.nD Cert.AdamSlab.τ Cert.AdamSlab.sig) → Buf (Elt Bits) ℓ) (g : Dev Cert.AdamSlab.nD → PrngReg), Pre_AdamSlab m →
    θ_run (Cert.AdamSlab.defs (F := Bits)) (onTc (τ := Cert.AdamSlab.τ) (Cert.AdamSlab.main (F := Bits))) ⟨m, fun _ => 0, g⟩ (fun r => (∀ c : Dev Cert.AdamSlab.nD,
      r.2.mem ((c.tc : Thread Cert.AdamSlab.nD Cert.AdamSlab.τ).loc Cert.AdamSlab.main_arg0) = m ((c.tc : Thread Cert.AdamSlab.nD Cert.AdamSlab.τ).loc Cert.AdamSlab.main_arg0)
      ∧ r.2.mem ((c.tc : Thread Cert.AdamSlab.nD Cert.AdamSlab.τ).loc Cert.AdamSlab.main_arg1) = m ((c.tc : Thread Cert.AdamSlab.nD Cert.AdamSlab.τ).loc Cert.AdamSlab.main_arg1)
      ∧ r.2.mem ((c.tc : Thread Cert.AdamSlab.nD Cert.AdamSlab.τ).loc Cert.AdamSlab.main_arg2) = m ((c.tc : Thread Cert.AdamSlab.nD Cert.AdamSlab.τ).loc Cert.AdamSlab.main_arg2)
      ∧ r.2.mem ((c.tc : Thread Cert.AdamSlab.nD Cert.AdamSlab.τ).loc Cert.AdamSlab.main_arg3) = m ((c.tc : Thread Cert.AdamSlab.nD Cert.AdamSlab.τ).loc Cert.AdamSlab.main_arg3))
      ∧ r.2.sem = fun _ => 0)

def quiescent_AdamSlabIdeal [hAdamSlabIdeal : Cert.AdamSlabIdeal.Facts] : Prop :=
  ∀ (m : (ℓ : Loc Cert.AdamSlabIdeal.nD Cert.AdamSlabIdeal.τ Cert.AdamSlabIdeal.sig) → Buf (Elt Ideal) ℓ) (g : Dev Cert.AdamSlabIdeal.nD → PrngReg), Pre_AdamSlabIdeal m →
    θ_run (Cert.AdamSlabIdeal.defs (F := Ideal)) (onTc (τ := Cert.AdamSlabIdeal.τ) (Cert.AdamSlabIdeal.main (F := Ideal))) ⟨m, fun _ => 0, g⟩ (fun r => (∀ c : Dev Cert.AdamSlabIdeal.nD,
      r.2.mem ((c.tc : Thread Cert.AdamSlabIdeal.nD Cert.AdamSlabIdeal.τ).loc Cert.AdamSlabIdeal.main_arg0) = m ((c.tc : Thread Cert.AdamSlabIdeal.nD Cert.AdamSlabIdeal.τ).loc Cert.AdamSlabIdeal.main_arg0)
      ∧ r.2.mem ((c.tc : Thread Cert.AdamSlabIdeal.nD Cert.AdamSlabIdeal.τ).loc Cert.AdamSlabIdeal.main_arg1) = m ((c.tc : Thread Cert.AdamSlabIdeal.nD Cert.AdamSlabIdeal.τ).loc Cert.AdamSlabIdeal.main_arg1)
      ∧ r.2.mem ((c.tc : Thread Cert.AdamSlabIdeal.nD Cert.AdamSlabIdeal.τ).loc Cert.AdamSlabIdeal.main_arg2) = m ((c.tc : Thread Cert.AdamSlabIdeal.nD Cert.AdamSlabIdeal.τ).loc Cert.AdamSlabIdeal.main_arg2)
      ∧ r.2.mem ((c.tc : Thread Cert.AdamSlabIdeal.nD Cert.AdamSlabIdeal.τ).loc Cert.AdamSlabIdeal.main_arg3) = m ((c.tc : Thread Cert.AdamSlabIdeal.nD Cert.AdamSlabIdeal.τ).loc Cert.AdamSlabIdeal.main_arg3))
      ∧ r.2.sem = fun _ => 0)

def quiescent_AdamSlabRefIdeal [hAdamSlabRefIdeal : Cert.AdamSlabRefIdeal.Facts] : Prop :=
  ∀ (m : (ℓ : Loc Cert.AdamSlabRefIdeal.nD Cert.AdamSlabRefIdeal.τ Cert.AdamSlabRefIdeal.sig) → Buf (Elt Ideal) ℓ) (g : Dev Cert.AdamSlabRefIdeal.nD → PrngReg), Pre_AdamSlabRefIdeal m →
    θ_run (Cert.AdamSlabRefIdeal.defs (F := Ideal)) (onTc (τ := Cert.AdamSlabRefIdeal.τ) (Cert.AdamSlabRefIdeal.main (F := Ideal))) ⟨m, fun _ => 0, g⟩ (fun r => (∀ c : Dev Cert.AdamSlabRefIdeal.nD,
      r.2.mem ((c.tc : Thread Cert.AdamSlabRefIdeal.nD Cert.AdamSlabRefIdeal.τ).loc Cert.AdamSlabRefIdeal.main_arg0) = m ((c.tc : Thread Cert.AdamSlabRefIdeal.nD Cert.AdamSlabRefIdeal.τ).loc Cert.AdamSlabRefIdeal.main_arg0)
      ∧ r.2.mem ((c.tc : Thread Cert.AdamSlabRefIdeal.nD Cert.AdamSlabRefIdeal.τ).loc Cert.AdamSlabRefIdeal.main_arg1) = m ((c.tc : Thread Cert.AdamSlabRefIdeal.nD Cert.AdamSlabRefIdeal.τ).loc Cert.AdamSlabRefIdeal.main_arg1)
      ∧ r.2.mem ((c.tc : Thread Cert.AdamSlabRefIdeal.nD Cert.AdamSlabRefIdeal.τ).loc Cert.AdamSlabRefIdeal.main_arg2) = m ((c.tc : Thread Cert.AdamSlabRefIdeal.nD Cert.AdamSlabRefIdeal.τ).loc Cert.AdamSlabRefIdeal.main_arg2)
      ∧ r.2.mem ((c.tc : Thread Cert.AdamSlabRefIdeal.nD Cert.AdamSlabRefIdeal.τ).loc Cert.AdamSlabRefIdeal.main_arg3) = m ((c.tc : Thread Cert.AdamSlabRefIdeal.nD Cert.AdamSlabRefIdeal.τ).loc Cert.AdamSlabRefIdeal.main_arg3))
      ∧ r.2.sem = fun _ => 0)

def quiescent_AdamPl [hAdamPl : Cert.AdamPl.Facts] : Prop :=
  ∀ (m : (ℓ : Loc Cert.AdamPl.nD Cert.AdamPl.τ Cert.AdamPl.sig) → Buf (Elt Bits) ℓ) (g : Dev Cert.AdamPl.nD → PrngReg), Pre_AdamPl m →
    θ_run (Cert.AdamPl.defs (F := Bits)) (onTc (τ := Cert.AdamPl.τ) (Cert.AdamPl.main (F := Bits))) ⟨m, fun _ => 0, g⟩ (fun r => (∀ c : Dev Cert.AdamPl.nD,
      r.2.mem ((c.tc : Thread Cert.AdamPl.nD Cert.AdamPl.τ).loc Cert.AdamPl.main_arg0) = m ((c.tc : Thread Cert.AdamPl.nD Cert.AdamPl.τ).loc Cert.AdamPl.main_arg0)
      ∧ r.2.mem ((c.tc : Thread Cert.AdamPl.nD Cert.AdamPl.τ).loc Cert.AdamPl.main_arg1) = m ((c.tc : Thread Cert.AdamPl.nD Cert.AdamPl.τ).loc Cert.AdamPl.main_arg1)
      ∧ r.2.mem ((c.tc : Thread Cert.AdamPl.nD Cert.AdamPl.τ).loc Cert.AdamPl.main_arg2) = m ((c.tc : Thread Cert.AdamPl.nD Cert.AdamPl.τ).loc Cert.AdamPl.main_arg2)
      ∧ r.2.mem ((c.tc : Thread Cert.AdamPl.nD Cert.AdamPl.τ).loc Cert.AdamPl.main_arg3) = m ((c.tc : Thread Cert.AdamPl.nD Cert.AdamPl.τ).loc Cert.AdamPl.main_arg3))
      ∧ r.2.sem = fun _ => 0)

def quiescent_AdamPlIdeal [hAdamPlIdeal : Cert.AdamPlIdeal.Facts] : Prop :=
  ∀ (m : (ℓ : Loc Cert.AdamPlIdeal.nD Cert.AdamPlIdeal.τ Cert.AdamPlIdeal.sig) → Buf (Elt Ideal) ℓ) (g : Dev Cert.AdamPlIdeal.nD → PrngReg), Pre_AdamPlIdeal m →
    θ_run (Cert.AdamPlIdeal.defs (F := Ideal)) (onTc (τ := Cert.AdamPlIdeal.τ) (Cert.AdamPlIdeal.main (F := Ideal))) ⟨m, fun _ => 0, g⟩ (fun r => (∀ c : Dev Cert.AdamPlIdeal.nD,
      r.2.mem ((c.tc : Thread Cert.AdamPlIdeal.nD Cert.AdamPlIdeal.τ).loc Cert.AdamPlIdeal.main_arg0) = m ((c.tc : Thread Cert.AdamPlIdeal.nD Cert.AdamPlIdeal.τ).loc Cert.AdamPlIdeal.main_arg0)
      ∧ r.2.mem ((c.tc : Thread Cert.AdamPlIdeal.nD Cert.AdamPlIdeal.τ).loc Cert.AdamPlIdeal.main_arg1) = m ((c.tc : Thread Cert.AdamPlIdeal.nD Cert.AdamPlIdeal.τ).loc Cert.AdamPlIdeal.main_arg1)
      ∧ r.2.mem ((c.tc : Thread Cert.AdamPlIdeal.nD Cert.AdamPlIdeal.τ).loc Cert.AdamPlIdeal.main_arg2) = m ((c.tc : Thread Cert.AdamPlIdeal.nD Cert.AdamPlIdeal.τ).loc Cert.AdamPlIdeal.main_arg2)
      ∧ r.2.mem ((c.tc : Thread Cert.AdamPlIdeal.nD Cert.AdamPlIdeal.τ).loc Cert.AdamPlIdeal.main_arg3) = m ((c.tc : Thread Cert.AdamPlIdeal.nD Cert.AdamPlIdeal.τ).loc Cert.AdamPlIdeal.main_arg3))
      ∧ r.2.sem = fun _ => 0)

def quiescent_AdamPlRefIdeal [hAdamPlRefIdeal : Cert.AdamPlRefIdeal.Facts] : Prop :=
  ∀ (m : (ℓ : Loc Cert.AdamPlRefIdeal.nD Cert.AdamPlRefIdeal.τ Cert.AdamPlRefIdeal.sig) → Buf (Elt Ideal) ℓ) (g : Dev Cert.AdamPlRefIdeal.nD → PrngReg), Pre_AdamPlRefIdeal m →
    θ_run (Cert.AdamPlRefIdeal.defs (F := Ideal)) (onTc (τ := Cert.AdamPlRefIdeal.τ) (Cert.AdamPlRefIdeal.main (F := Ideal))) ⟨m, fun _ => 0, g⟩ (fun r => (∀ c : Dev Cert.AdamPlRefIdeal.nD,
      r.2.mem ((c.tc : Thread Cert.AdamPlRefIdeal.nD Cert.AdamPlRefIdeal.τ).loc Cert.AdamPlRefIdeal.main_arg0) = m ((c.tc : Thread Cert.AdamPlRefIdeal.nD Cert.AdamPlRefIdeal.τ).loc Cert.AdamPlRefIdeal.main_arg0)
      ∧ r.2.mem ((c.tc : Thread Cert.AdamPlRefIdeal.nD Cert.AdamPlRefIdeal.τ).loc Cert.AdamPlRefIdeal.main_arg1) = m ((c.tc : Thread Cert.AdamPlRefIdeal.nD Cert.AdamPlRefIdeal.τ).loc Cert.AdamPlRefIdeal.main_arg1)
      ∧ r.2.mem ((c.tc : Thread Cert.AdamPlRefIdeal.nD Cert.AdamPlRefIdeal.τ).loc Cert.AdamPlRefIdeal.main_arg2) = m ((c.tc : Thread Cert.AdamPlRefIdeal.nD Cert.AdamPlRefIdeal.τ).loc Cert.AdamPlRefIdeal.main_arg2)
      ∧ r.2.mem ((c.tc : Thread Cert.AdamPlRefIdeal.nD Cert.AdamPlRefIdeal.τ).loc Cert.AdamPlRefIdeal.main_arg3) = m ((c.tc : Thread Cert.AdamPlRefIdeal.nD Cert.AdamPlRefIdeal.τ).loc Cert.AdamPlRefIdeal.main_arg3))
      ∧ r.2.sem = fun _ => 0)

def quiescent_Red4 [hRed4 : Cert.Red4.Facts] : Prop :=
  ∀ (m : (ℓ : Loc Cert.Red4.nD Cert.Red4.τ Cert.Red4.sig) → Buf (Elt Bits) ℓ) (g : Dev Cert.Red4.nD → PrngReg), Pre_Red4 m →
    θ_run (Cert.Red4.defs (F := Bits)) (onTc (τ := Cert.Red4.τ) (Cert.Red4.main (F := Bits))) ⟨m, fun _ => 0, g⟩ (fun r => (∀ c : Dev Cert.Red4.nD,
      r.2.mem ((c.tc : Thread Cert.Red4.nD Cert.Red4.τ).loc Cert.Red4.main_arg0) = m ((c.tc : Thread Cert.Red4.nD Cert.Red4.τ).loc Cert.Red4.main_arg0))
      ∧ r.2.sem = fun _ => 0)

def quiescent_Red4Ideal [hRed4Ideal : Cert.Red4Ideal.Facts] : Prop :=
  ∀ (m : (ℓ : Loc Cert.Red4Ideal.nD Cert.Red4Ideal.τ Cert.Red4Ideal.sig) → Buf (Elt Ideal) ℓ) (g : Dev Cert.Red4Ideal.nD → PrngReg), Pre_Red4Ideal m →
    θ_run (Cert.Red4Ideal.defs (F := Ideal)) (onTc (τ := Cert.Red4Ideal.τ) (Cert.Red4Ideal.main (F := Ideal))) ⟨m, fun _ => 0, g⟩ (fun r => (∀ c : Dev Cert.Red4Ideal.nD,
      r.2.mem ((c.tc : Thread Cert.Red4Ideal.nD Cert.Red4Ideal.τ).loc Cert.Red4Ideal.main_arg0) = m ((c.tc : Thread Cert.Red4Ideal.nD Cert.Red4Ideal.τ).loc Cert.Red4Ideal.main_arg0))
      ∧ r.2.sem = fun _ => 0)

def quiescent_Red4RefIdeal [hRed4RefIdeal : Cert.Red4RefIdeal.Facts] : Prop :=
  ∀ (m : (ℓ : Loc Cert.Red4RefIdeal.nD Cert.Red4RefIdeal.τ Cert.Red4RefIdeal.sig) → Buf (Elt Ideal) ℓ) (g : Dev Cert.Red4RefIdeal.nD → PrngReg), Pre_Red4RefIdeal m →
    θ_run (Cert.Red4RefIdeal.defs (F := Ideal)) (onTc (τ := Cert.Red4RefIdeal.τ) (Cert.Red4RefIdeal.main (F := Ideal))) ⟨m, fun _ => 0, g⟩ (fun r => (∀ c : Dev Cert.Red4RefIdeal.nD,
      r.2.mem ((c.tc : Thread Cert.Red4RefIdeal.nD Cert.Red4RefIdeal.τ).loc Cert.Red4RefIdeal.main_arg0) = m ((c.tc : Thread Cert.Red4RefIdeal.nD Cert.Red4RefIdeal.τ).loc Cert.Red4RefIdeal.main_arg0))
      ∧ r.2.sem = fun _ => 0)

def quiescent_Sum8 [hSum8 : Cert.Sum8.Facts] : Prop :=
  ∀ (m : (ℓ : Loc Cert.Sum8.nD Cert.Sum8.τ Cert.Sum8.sig) → Buf (Elt Bits) ℓ) (g : Dev Cert.Sum8.nD → PrngReg), Pre_Sum8 m →
    θ_run (Cert.Sum8.defs (F := Bits)) (onTc (τ := Cert.Sum8.τ) (Cert.Sum8.main (F := Bits))) ⟨m, fun _ => 0, g⟩ (fun r => (∀ c : Dev Cert.Sum8.nD,
      r.2.mem ((c.tc : Thread Cert.Sum8.nD Cert.Sum8.τ).loc Cert.Sum8.main_arg0) = m ((c.tc : Thread Cert.Sum8.nD Cert.Sum8.τ).loc Cert.Sum8.main_arg0))
      ∧ r.2.sem = fun _ => 0)

def quiescent_Sum8Ideal [hSum8Ideal : Cert.Sum8Ideal.Facts] : Prop :=
  ∀ (m : (ℓ : Loc Cert.Sum8Ideal.nD Cert.Sum8Ideal.τ Cert.Sum8Ideal.sig) → Buf (Elt Ideal) ℓ) (g : Dev Cert.Sum8Ideal.nD → PrngReg), Pre_Sum8Ideal m →
    θ_run (Cert.Sum8Ideal.defs (F := Ideal)) (onTc (τ := Cert.Sum8Ideal.τ) (Cert.Sum8Ideal.main (F := Ideal))) ⟨m, fun _ => 0, g⟩ (fun r => (∀ c : Dev Cert.Sum8Ideal.nD,
      r.2.mem ((c.tc : Thread Cert.Sum8Ideal.nD Cert.Sum8Ideal.τ).loc Cert.Sum8Ideal.main_arg0) = m ((c.tc : Thread Cert.Sum8Ideal.nD Cert.Sum8Ideal.τ).loc Cert.Sum8Ideal.main_arg0))
      ∧ r.2.sem = fun _ => 0)

def quiescent_Sum8RefIdeal [hSum8RefIdeal : Cert.Sum8RefIdeal.Facts] : Prop :=
  ∀ (m : (ℓ : Loc Cert.Sum8RefIdeal.nD Cert.Sum8RefIdeal.τ Cert.Sum8RefIdeal.sig) → Buf (Elt Ideal) ℓ) (g : Dev Cert.Sum8RefIdeal.nD → PrngReg), Pre_Sum8RefIdeal m →
    θ_run (Cert.Sum8RefIdeal.defs (F := Ideal)) (onTc (τ := Cert.Sum8RefIdeal.τ) (Cert.Sum8RefIdeal.main (F := Ideal))) ⟨m, fun _ => 0, g⟩ (fun r => (∀ c : Dev Cert.Sum8RefIdeal.nD,
      r.2.mem ((c.tc : Thread Cert.Sum8RefIdeal.nD Cert.Sum8RefIdeal.τ).loc Cert.Sum8RefIdeal.main_arg0) = m ((c.tc : Thread Cert.Sum8RefIdeal.nD Cert.Sum8RefIdeal.τ).loc Cert.Sum8RefIdeal.main_arg0))
      ∧ r.2.sem = fun _ => 0)

def quiescent_Swap [hSwap : Cert.Swap.Facts] : Prop :=
  ∀ (m : (ℓ : Loc Cert.Swap.nD Cert.Swap.τ Cert.Swap.sig) → Buf (Elt Bits) ℓ) (g : Dev Cert.Swap.nD → PrngReg), Pre_Swap m →
    θ_run (Cert.Swap.defs (F := Bits)) (onTc (τ := Cert.Swap.τ) (Cert.Swap.main (F := Bits))) ⟨m, fun _ => 0, g⟩ (fun r => (∀ c : Dev Cert.Swap.nD,
      r.2.mem ((c.tc : Thread Cert.Swap.nD Cert.Swap.τ).loc Cert.Swap.main_arg0) = m ((c.tc : Thread Cert.Swap.nD Cert.Swap.τ).loc Cert.Swap.main_arg0))
      ∧ r.2.sem = fun _ => 0)

def quiescent_SwapIdeal [hSwapIdeal : Cert.SwapIdeal.Facts] : Prop :=
  ∀ (m : (ℓ : Loc Cert.SwapIdeal.nD Cert.SwapIdeal.τ Cert.SwapIdeal.sig) → Buf (Elt Ideal) ℓ) (g : Dev Cert.SwapIdeal.nD → PrngReg), Pre_SwapIdeal m →
    θ_run (Cert.SwapIdeal.defs (F := Ideal)) (onTc (τ := Cert.SwapIdeal.τ) (Cert.SwapIdeal.main (F := Ideal))) ⟨m, fun _ => 0, g⟩ (fun r => (∀ c : Dev Cert.SwapIdeal.nD,
      r.2.mem ((c.tc : Thread Cert.SwapIdeal.nD Cert.SwapIdeal.τ).loc Cert.SwapIdeal.main_arg0) = m ((c.tc : Thread Cert.SwapIdeal.nD Cert.SwapIdeal.τ).loc Cert.SwapIdeal.main_arg0))
      ∧ r.2.sem = fun _ => 0)

def quiescent_SwapRefIdeal [hSwapRefIdeal : Cert.SwapRefIdeal.Facts] : Prop :=
  ∀ (m : (ℓ : Loc Cert.SwapRefIdeal.nD Cert.SwapRefIdeal.τ Cert.SwapRefIdeal.sig) → Buf (Elt Ideal) ℓ) (g : Dev Cert.SwapRefIdeal.nD → PrngReg), Pre_SwapRefIdeal m →
    θ_run (Cert.SwapRefIdeal.defs (F := Ideal)) (onTc (τ := Cert.SwapRefIdeal.τ) (Cert.SwapRefIdeal.main (F := Ideal))) ⟨m, fun _ => 0, g⟩ (fun r => (∀ c : Dev Cert.SwapRefIdeal.nD,
      r.2.mem ((c.tc : Thread Cert.SwapRefIdeal.nD Cert.SwapRefIdeal.τ).loc Cert.SwapRefIdeal.main_arg0) = m ((c.tc : Thread Cert.SwapRefIdeal.nD Cert.SwapRefIdeal.τ).loc Cert.SwapRefIdeal.main_arg0))
      ∧ r.2.sem = fun _ => 0)

def quiescent_S5b [hS5b : Cert.S5b.Facts] : Prop :=
  ∀ (m : (ℓ : Loc Cert.S5b.nD Cert.S5b.τ Cert.S5b.sig) → Buf (Elt Bits) ℓ) (g : Dev Cert.S5b.nD → PrngReg), Pre_S5b m →
    θ_run (Cert.S5b.defs (F := Bits)) (onTc (τ := Cert.S5b.τ) (Cert.S5b.main (F := Bits))) ⟨m, fun _ => 0, g⟩ (fun r => (∀ c : Dev Cert.S5b.nD,
      r.2.mem ((c.tc : Thread Cert.S5b.nD Cert.S5b.τ).loc Cert.S5b.main_arg0) = m ((c.tc : Thread Cert.S5b.nD Cert.S5b.τ).loc Cert.S5b.main_arg0)
      ∧ r.2.mem ((c.tc : Thread Cert.S5b.nD Cert.S5b.τ).loc Cert.S5b.main_arg1) = m ((c.tc : Thread Cert.S5b.nD Cert.S5b.τ).loc Cert.S5b.main_arg1)
      ∧ r.2.mem ((c.tc : Thread Cert.S5b.nD Cert.S5b.τ).loc Cert.S5b.main_arg2) = m ((c.tc : Thread Cert.S5b.nD Cert.S5b.τ).loc Cert.S5b.main_arg2)
      ∧ r.2.mem ((c.tc : Thread Cert.S5b.nD Cert.S5b.τ).loc Cert.S5b.main_arg3) = m ((c.tc : Thread Cert.S5b.nD Cert.S5b.τ).loc Cert.S5b.main_arg3)
      ∧ r.2.mem ((c.tc : Thread Cert.S5b.nD Cert.S5b.τ).loc Cert.S5b.main_arg4) = m ((c.tc : Thread Cert.S5b.nD Cert.S5b.τ).loc Cert.S5b.main_arg4)
      ∧ r.2.mem ((c.tc : Thread Cert.S5b.nD Cert.S5b.τ).loc Cert.S5b.main_arg5) = m ((c.tc : Thread Cert.S5b.nD Cert.S5b.τ).loc Cert.S5b.main_arg5)
      ∧ r.2.mem ((c.tc : Thread Cert.S5b.nD Cert.S5b.τ).loc Cert.S5b.main_arg6) = m ((c.tc : Thread Cert.S5b.nD Cert.S5b.τ).loc Cert.S5b.main_arg6)
      ∧ r.2.mem ((c.tc : Thread Cert.S5b.nD Cert.S5b.τ).loc Cert.S5b.main_arg7) = m ((c.tc : Thread Cert.S5b.nD Cert.S5b.τ).loc Cert.S5b.main_arg7))
      ∧ r.2.sem = fun _ => 0)

def quiescent_S5bIdeal [hS5bIdeal : Cert.S5bIdeal.Facts] : Prop :=
  ∀ (m : (ℓ : Loc Cert.S5bIdeal.nD Cert.S5bIdeal.τ Cert.S5bIdeal.sig) → Buf (Elt Ideal) ℓ) (g : Dev Cert.S5bIdeal.nD → PrngReg), Pre_S5bIdeal m →
    θ_run (Cert.S5bIdeal.defs (F := Ideal)) (onTc (τ := Cert.S5bIdeal.τ) (Cert.S5bIdeal.main (F := Ideal))) ⟨m, fun _ => 0, g⟩ (fun r => (∀ c : Dev Cert.S5bIdeal.nD,
      r.2.mem ((c.tc : Thread Cert.S5bIdeal.nD Cert.S5bIdeal.τ).loc Cert.S5bIdeal.main_arg0) = m ((c.tc : Thread Cert.S5bIdeal.nD Cert.S5bIdeal.τ).loc Cert.S5bIdeal.main_arg0)
      ∧ r.2.mem ((c.tc : Thread Cert.S5bIdeal.nD Cert.S5bIdeal.τ).loc Cert.S5bIdeal.main_arg1) = m ((c.tc : Thread Cert.S5bIdeal.nD Cert.S5bIdeal.τ).loc Cert.S5bIdeal.main_arg1)
      ∧ r.2.mem ((c.tc : Thread Cert.S5bIdeal.nD Cert.S5bIdeal.τ).loc Cert.S5bIdeal.main_arg2) = m ((c.tc : Thread Cert.S5bIdeal.nD Cert.S5bIdeal.τ).loc Cert.S5bIdeal.main_arg2)
      ∧ r.2.mem ((c.tc : Thread Cert.S5bIdeal.nD Cert.S5bIdeal.τ).loc Cert.S5bIdeal.main_arg3) = m ((c.tc : Thread Cert.S5bIdeal.nD Cert.S5bIdeal.τ).loc Cert.S5bIdeal.main_arg3)
      ∧ r.2.mem ((c.tc : Thread Cert.S5bIdeal.nD Cert.S5bIdeal.τ).loc Cert.S5bIdeal.main_arg4) = m ((c.tc : Thread Cert.S5bIdeal.nD Cert.S5bIdeal.τ).loc Cert.S5bIdeal.main_arg4)
      ∧ r.2.mem ((c.tc : Thread Cert.S5bIdeal.nD Cert.S5bIdeal.τ).loc Cert.S5bIdeal.main_arg5) = m ((c.tc : Thread Cert.S5bIdeal.nD Cert.S5bIdeal.τ).loc Cert.S5bIdeal.main_arg5)
      ∧ r.2.mem ((c.tc : Thread Cert.S5bIdeal.nD Cert.S5bIdeal.τ).loc Cert.S5bIdeal.main_arg6) = m ((c.tc : Thread Cert.S5bIdeal.nD Cert.S5bIdeal.τ).loc Cert.S5bIdeal.main_arg6)
      ∧ r.2.mem ((c.tc : Thread Cert.S5bIdeal.nD Cert.S5bIdeal.τ).loc Cert.S5bIdeal.main_arg7) = m ((c.tc : Thread Cert.S5bIdeal.nD Cert.S5bIdeal.τ).loc Cert.S5bIdeal.main_arg7))
      ∧ r.2.sem = fun _ => 0)

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)) →
    ∃ (v0 : (c : Dev Cert.GluIdeal.nD) → Buf (Elt Ideal) ((c.tc : Thread Cert.GluIdeal.nD Cert.GluIdeal.τ).loc Cert.GluIdeal.main_v0)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v0) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v24) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v0_0)) (v1 : (c : Dev Cert.ConvIdeal.nD) → Buf (Elt Ideal) ((c.tc : Thread Cert.ConvIdeal.nD Cert.ConvIdeal.τ).loc Cert.ConvIdeal.main_v0_1)) (v2 : (c : Dev Cert.ConvIdeal.nD) → Buf (Elt Ideal) ((c.tc : Thread Cert.ConvIdeal.nD Cert.ConvIdeal.τ).loc Cert.ConvIdeal.main_v0_2)) (v3 : (c : Dev Cert.ConvIdeal.nD) → Buf (Elt Ideal) ((c.tc : Thread Cert.ConvIdeal.nD Cert.ConvIdeal.τ).loc Cert.ConvIdeal.main_v0_3)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0_0) = v0 c
          ∧ r.2.mem ((c.tc : Thread Cert.ConvIdeal.nD Cert.ConvIdeal.τ).loc Cert.ConvIdeal.main_v0_1) = v1 c
          ∧ r.2.mem ((c.tc : Thread Cert.ConvIdeal.nD Cert.ConvIdeal.τ).loc Cert.ConvIdeal.main_v0_2) = v2 c
          ∧ r.2.mem ((c.tc : Thread Cert.ConvIdeal.nD Cert.ConvIdeal.τ).loc Cert.ConvIdeal.main_v0_3) = v3 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v71) = v0 c
          ∧ r.2.mem ((c.tc : Thread Cert.ConvRefIdeal.nD Cert.ConvRefIdeal.τ).loc Cert.ConvRefIdeal.main_v72) = v1 c
          ∧ r.2.mem ((c.tc : Thread Cert.ConvRefIdeal.nD Cert.ConvRefIdeal.τ).loc Cert.ConvRefIdeal.main_v73) = v2 c
          ∧ r.2.mem ((c.tc : Thread Cert.ConvRefIdeal.nD Cert.ConvRefIdeal.τ).loc Cert.ConvRefIdeal.main_v74) = v3 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_Ffn_FfnIdeal : Prop :=
  True

def algebraic_FfnIdeal_FfnRefIdeal_pre_ffn_finite [hFfnIdeal : Cert.FfnIdeal.Facts] [hFfnRefIdeal : Cert.FfnRefIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_ffn_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v19) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)
      ∧ m' ((c.tc : Thread Cert.NormRefIdeal.nD Cert.NormRefIdeal.τ).loc Cert.NormRefIdeal.main_arg4) = m ((c.tc : Thread Cert.NormIdeal.nD Cert.NormIdeal.τ).loc Cert.NormIdeal.main_arg4)) →
    ∃ (v0 : (c : Dev Cert.NormIdeal.nD) → Buf (Elt Ideal) ((c.tc : Thread Cert.NormIdeal.nD Cert.NormIdeal.τ).loc Cert.NormIdeal.main_v0_0)) (v1 : (c : Dev Cert.NormIdeal.nD) → Buf (Elt Ideal) ((c.tc : Thread Cert.NormIdeal.nD Cert.NormIdeal.τ).loc Cert.NormIdeal.main_v0_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0_0) = v0 c
          ∧ r.2.mem ((c.tc : Thread Cert.NormIdeal.nD Cert.NormIdeal.τ).loc Cert.NormIdeal.main_v0_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v53) = v0 c
          ∧ r.2.mem ((c.tc : Thread Cert.NormRefIdeal.nD Cert.NormRefIdeal.τ).loc Cert.NormRefIdeal.main_v56) = v1 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4))

def preserves_Branch_BranchIdeal : Prop :=
  True

def algebraic_BranchIdeal_BranchRefIdeal [hBranchIdeal : Cert.BranchIdeal.Facts] [hBranchRefIdeal : Cert.BranchRefIdeal.Facts] : Prop :=
  ∀ (m : (ℓ : Loc Cert.BranchIdeal.nD Cert.BranchIdeal.τ Cert.BranchIdeal.sig) → Buf (Elt Ideal) ℓ) (g : Dev Cert.BranchIdeal.nD → PrngReg)
    (m' : (ℓ : Loc Cert.BranchRefIdeal.nD Cert.BranchRefIdeal.τ Cert.BranchRefIdeal.sig) → Buf (Elt Ideal) ℓ) (g' : Dev Cert.BranchRefIdeal.nD → PrngReg), Pre_BranchIdeal m →
    (∀ c : Dev Cert.BranchIdeal.nD,
      m' ((c.tc : Thread Cert.BranchRefIdeal.nD Cert.BranchRefIdeal.τ).loc Cert.BranchRefIdeal.main_arg0) = m ((c.tc : Thread Cert.BranchIdeal.nD Cert.BranchIdeal.τ).loc Cert.BranchIdeal.main_arg0)
      ∧ m' ((c.tc : Thread Cert.BranchRefIdeal.nD Cert.BranchRefIdeal.τ).loc Cert.BranchRefIdeal.main_arg1) = m ((c.tc : Thread Cert.BranchIdeal.nD Cert.BranchIdeal.τ).loc Cert.BranchIdeal.main_arg1)
      ∧ m' ((c.tc : Thread Cert.BranchRefIdeal.nD Cert.BranchRefIdeal.τ).loc Cert.BranchRefIdeal.main_arg2) = m ((c.tc : Thread Cert.BranchIdeal.nD Cert.BranchIdeal.τ).loc Cert.BranchIdeal.main_arg2)
      ∧ m' ((c.tc : Thread Cert.BranchRefIdeal.nD Cert.BranchRefIdeal.τ).loc Cert.BranchRefIdeal.main_arg3) = m ((c.tc : Thread Cert.BranchIdeal.nD Cert.BranchIdeal.τ).loc Cert.BranchIdeal.main_arg3)
      ∧ m' ((c.tc : Thread Cert.BranchRefIdeal.nD Cert.BranchRefIdeal.τ).loc Cert.BranchRefIdeal.main_arg4) = m ((c.tc : Thread Cert.BranchIdeal.nD Cert.BranchIdeal.τ).loc Cert.BranchIdeal.main_arg4)
      ∧ m' ((c.tc : Thread Cert.BranchRefIdeal.nD Cert.BranchRefIdeal.τ).loc Cert.BranchRefIdeal.main_arg5) = m ((c.tc : Thread Cert.BranchIdeal.nD Cert.BranchIdeal.τ).loc Cert.BranchIdeal.main_arg5)) →
    ∃ (v0 : (c : Dev Cert.BranchIdeal.nD) → Buf (Elt Ideal) ((c.tc : Thread Cert.BranchIdeal.nD Cert.BranchIdeal.τ).loc Cert.BranchIdeal.main_v5_0)) (v1 : (c : Dev Cert.BranchIdeal.nD) → Buf (Elt Ideal) ((c.tc : Thread Cert.BranchIdeal.nD Cert.BranchIdeal.τ).loc Cert.BranchIdeal.main_v5_1)) (v2 : (c : Dev Cert.BranchIdeal.nD) → Buf (Elt Ideal) ((c.tc : Thread Cert.BranchIdeal.nD Cert.BranchIdeal.τ).loc Cert.BranchIdeal.main_v5_2)),
      θ_run (Cert.BranchIdeal.defs (F := Ideal)) (onTc (τ := Cert.BranchIdeal.τ) (Cert.BranchIdeal.main (F := Ideal))) ⟨m, fun _ => 0, g⟩ (fun r => ∀ c : Dev Cert.BranchIdeal.nD,
          r.2.mem ((c.tc : Thread Cert.BranchIdeal.nD Cert.BranchIdeal.τ).loc Cert.BranchIdeal.main_v5_0) = v0 c
          ∧ r.2.mem ((c.tc : Thread Cert.BranchIdeal.nD Cert.BranchIdeal.τ).loc Cert.BranchIdeal.main_v5_1) = v1 c
          ∧ r.2.mem ((c.tc : Thread Cert.BranchIdeal.nD Cert.BranchIdeal.τ).loc Cert.BranchIdeal.main_v5_2) = v2 c
          ∧ r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
          ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1)
          ∧ r.2.mem ((c.tc : Thread Cert.BranchIdeal.nD Cert.BranchIdeal.τ).loc Cert.BranchIdeal.main_arg2) = m ((c.tc : Thread Cert.BranchIdeal.nD Cert.BranchIdeal.τ).loc Cert.BranchIdeal.main_arg2)
          ∧ r.2.mem ((c.tc : Thread Cert.BranchIdeal.nD Cert.BranchIdeal.τ).loc Cert.BranchIdeal.main_arg3) = m ((c.tc : Thread Cert.BranchIdeal.nD Cert.BranchIdeal.τ).loc Cert.BranchIdeal.main_arg3)
          ∧ r.2.mem ((c.tc : Thread Cert.BranchIdeal.nD Cert.BranchIdeal.τ).loc Cert.BranchIdeal.main_arg4) = m ((c.tc : Thread Cert.BranchIdeal.nD Cert.BranchIdeal.τ).loc Cert.BranchIdeal.main_arg4)
          ∧ r.2.mem ((c.tc : Thread Cert.BranchIdeal.nD Cert.BranchIdeal.τ).loc Cert.BranchIdeal.main_arg5) = m ((c.tc : Thread Cert.BranchIdeal.nD Cert.BranchIdeal.τ).loc Cert.BranchIdeal.main_arg5))
      ∧ θ_run (Cert.BranchRefIdeal.defs (F := Ideal)) (onTc (τ := Cert.BranchRefIdeal.τ) (Cert.BranchRefIdeal.main (F := Ideal))) ⟨m', fun _ => 0, g'⟩ (fun r => ∀ c : Dev Cert.BranchRefIdeal.nD,
          r.2.mem ((c.tc : Thread Cert.BranchRefIdeal.nD Cert.BranchRefIdeal.τ).loc Cert.BranchRefIdeal.main_v58) = v0 c
          ∧ r.2.mem ((c.tc : Thread Cert.BranchRefIdeal.nD Cert.BranchRefIdeal.τ).loc Cert.BranchRefIdeal.main_v70) = v1 c
          ∧ r.2.mem ((c.tc : Thread Cert.BranchRefIdeal.nD Cert.BranchRefIdeal.τ).loc Cert.BranchRefIdeal.main_v71) = v2 c
          ∧ r.2.mem ((c.tc : Thread Cert.BranchRefIdeal.nD Cert.BranchRefIdeal.τ).loc Cert.BranchRefIdeal.main_arg0) = m' ((c.tc : Thread Cert.BranchRefIdeal.nD Cert.BranchRefIdeal.τ).loc Cert.BranchRefIdeal.main_arg0)
          ∧ r.2.mem ((c.tc : Thread Cert.BranchRefIdeal.nD Cert.BranchRefIdeal.τ).loc Cert.BranchRefIdeal.main_arg1) = m' ((c.tc : Thread Cert.BranchRefIdeal.nD Cert.BranchRefIdeal.τ).loc Cert.BranchRefIdeal.main_arg1)
          ∧ r.2.mem ((c.tc : Thread Cert.BranchRefIdeal.nD Cert.BranchRefIdeal.τ).loc Cert.BranchRefIdeal.main_arg2) = m' ((c.tc : Thread Cert.BranchRefIdeal.nD Cert.BranchRefIdeal.τ).loc Cert.BranchRefIdeal.main_arg2)
          ∧ r.2.mem ((c.tc : Thread Cert.BranchRefIdeal.nD Cert.BranchRefIdeal.τ).loc Cert.BranchRefIdeal.main_arg3) = m' ((c.tc : Thread Cert.BranchRefIdeal.nD Cert.BranchRefIdeal.τ).loc Cert.BranchRefIdeal.main_arg3)
          ∧ r.2.mem ((c.tc : Thread Cert.BranchRefIdeal.nD Cert.BranchRefIdeal.τ).loc Cert.BranchRefIdeal.main_arg4) = m' ((c.tc : Thread Cert.BranchRefIdeal.nD Cert.BranchRefIdeal.τ).loc Cert.BranchRefIdeal.main_arg4)
          ∧ r.2.mem ((c.tc : Thread Cert.BranchRefIdeal.nD Cert.BranchRefIdeal.τ).loc Cert.BranchRefIdeal.main_arg5) = m' ((c.tc : Thread Cert.BranchRefIdeal.nD Cert.BranchRefIdeal.τ).loc Cert.BranchRefIdeal.main_arg5))

def preserves_Join_JoinIdeal : Prop :=
  True

def algebraic_JoinIdeal_JoinRefIdeal [hJoinIdeal : Cert.JoinIdeal.Facts] [hJoinRefIdeal : Cert.JoinRefIdeal.Facts] : Prop :=
  ∀ (m : (ℓ : Loc Cert.JoinIdeal.nD Cert.JoinIdeal.τ Cert.JoinIdeal.sig) → Buf (Elt Ideal) ℓ) (g : Dev Cert.JoinIdeal.nD → PrngReg)
    (m' : (ℓ : Loc Cert.JoinRefIdeal.nD Cert.JoinRefIdeal.τ Cert.JoinRefIdeal.sig) → Buf (Elt Ideal) ℓ) (g' : Dev Cert.JoinRefIdeal.nD → PrngReg), Pre_JoinIdeal m →
    (∀ c : Dev Cert.JoinIdeal.nD,
      m' ((c.tc : Thread Cert.JoinRefIdeal.nD Cert.JoinRefIdeal.τ).loc Cert.JoinRefIdeal.main_arg0) = m ((c.tc : Thread Cert.JoinIdeal.nD Cert.JoinIdeal.τ).loc Cert.JoinIdeal.main_arg0)
      ∧ m' ((c.tc : Thread Cert.JoinRefIdeal.nD Cert.JoinRefIdeal.τ).loc Cert.JoinRefIdeal.main_arg1) = m ((c.tc : Thread Cert.JoinIdeal.nD Cert.JoinIdeal.τ).loc Cert.JoinIdeal.main_arg1)
      ∧ m' ((c.tc : Thread Cert.JoinRefIdeal.nD Cert.JoinRefIdeal.τ).loc Cert.JoinRefIdeal.main_arg2) = m ((c.tc : Thread Cert.JoinIdeal.nD Cert.JoinIdeal.τ).loc Cert.JoinIdeal.main_arg2)
      ∧ m' ((c.tc : Thread Cert.JoinRefIdeal.nD Cert.JoinRefIdeal.τ).loc Cert.JoinRefIdeal.main_arg3) = m ((c.tc : Thread Cert.JoinIdeal.nD Cert.JoinIdeal.τ).loc Cert.JoinIdeal.main_arg3)
      ∧ m' ((c.tc : Thread Cert.JoinRefIdeal.nD Cert.JoinRefIdeal.τ).loc Cert.JoinRefIdeal.main_arg4) = m ((c.tc : Thread Cert.JoinIdeal.nD Cert.JoinIdeal.τ).loc Cert.JoinIdeal.main_arg4)
      ∧ m' ((c.tc : Thread Cert.JoinRefIdeal.nD Cert.JoinRefIdeal.τ).loc Cert.JoinRefIdeal.main_arg5) = m ((c.tc : Thread Cert.JoinIdeal.nD Cert.JoinIdeal.τ).loc Cert.JoinIdeal.main_arg5)
      ∧ m' ((c.tc : Thread Cert.JoinRefIdeal.nD Cert.JoinRefIdeal.τ).loc Cert.JoinRefIdeal.main_arg6) = m ((c.tc : Thread Cert.JoinIdeal.nD Cert.JoinIdeal.τ).loc Cert.JoinIdeal.main_arg6)) →
    ∃ (v0 : (c : Dev Cert.JoinIdeal.nD) → Buf (Elt Ideal) ((c.tc : Thread Cert.JoinIdeal.nD Cert.JoinIdeal.τ).loc Cert.JoinIdeal.main_v5_0)) (v1 : (c : Dev Cert.JoinIdeal.nD) → Buf (Elt Ideal) ((c.tc : Thread Cert.JoinIdeal.nD Cert.JoinIdeal.τ).loc Cert.JoinIdeal.main_v5_1)) (v2 : (c : Dev Cert.JoinIdeal.nD) → Buf (Elt Ideal) ((c.tc : Thread Cert.JoinIdeal.nD Cert.JoinIdeal.τ).loc Cert.JoinIdeal.main_v5_2)),
      θ_run (Cert.JoinIdeal.defs (F := Ideal)) (onTc (τ := Cert.JoinIdeal.τ) (Cert.JoinIdeal.main (F := Ideal))) ⟨m, fun _ => 0, g⟩ (fun r => ∀ c : Dev Cert.JoinIdeal.nD,
          r.2.mem ((c.tc : Thread Cert.JoinIdeal.nD Cert.JoinIdeal.τ).loc Cert.JoinIdeal.main_v5_0) = v0 c
          ∧ r.2.mem ((c.tc : Thread Cert.JoinIdeal.nD Cert.JoinIdeal.τ).loc Cert.JoinIdeal.main_v5_1) = v1 c
          ∧ r.2.mem ((c.tc : Thread Cert.JoinIdeal.nD Cert.JoinIdeal.τ).loc Cert.JoinIdeal.main_v5_2) = v2 c
          ∧ r.2.mem ((c.tc : Thread Cert.JoinIdeal.nD Cert.JoinIdeal.τ).loc Cert.JoinIdeal.main_arg0) = m ((c.tc : Thread Cert.JoinIdeal.nD Cert.JoinIdeal.τ).loc Cert.JoinIdeal.main_arg0)
          ∧ r.2.mem ((c.tc : Thread Cert.JoinIdeal.nD Cert.JoinIdeal.τ).loc Cert.JoinIdeal.main_arg1) = m ((c.tc : Thread Cert.JoinIdeal.nD Cert.JoinIdeal.τ).loc Cert.JoinIdeal.main_arg1)
          ∧ r.2.mem ((c.tc : Thread Cert.JoinIdeal.nD Cert.JoinIdeal.τ).loc Cert.JoinIdeal.main_arg2) = m ((c.tc : Thread Cert.JoinIdeal.nD Cert.JoinIdeal.τ).loc Cert.JoinIdeal.main_arg2)
          ∧ r.2.mem ((c.tc : Thread Cert.JoinIdeal.nD Cert.JoinIdeal.τ).loc Cert.JoinIdeal.main_arg3) = m ((c.tc : Thread Cert.JoinIdeal.nD Cert.JoinIdeal.τ).loc Cert.JoinIdeal.main_arg3)
          ∧ r.2.mem ((c.tc : Thread Cert.JoinIdeal.nD Cert.JoinIdeal.τ).loc Cert.JoinIdeal.main_arg4) = m ((c.tc : Thread Cert.JoinIdeal.nD Cert.JoinIdeal.τ).loc Cert.JoinIdeal.main_arg4)
          ∧ r.2.mem ((c.tc : Thread Cert.JoinIdeal.nD Cert.JoinIdeal.τ).loc Cert.JoinIdeal.main_arg5) = m ((c.tc : Thread Cert.JoinIdeal.nD Cert.JoinIdeal.τ).loc Cert.JoinIdeal.main_arg5)
          ∧ r.2.mem ((c.tc : Thread Cert.JoinIdeal.nD Cert.JoinIdeal.τ).loc Cert.JoinIdeal.main_arg6) = m ((c.tc : Thread Cert.JoinIdeal.nD Cert.JoinIdeal.τ).loc Cert.JoinIdeal.main_arg6))
      ∧ θ_run (Cert.JoinRefIdeal.defs (F := Ideal)) (onTc (τ := Cert.JoinRefIdeal.τ) (Cert.JoinRefIdeal.main (F := Ideal))) ⟨m', fun _ => 0, g'⟩ (fun r => ∀ c : Dev Cert.JoinRefIdeal.nD,
          r.2.mem ((c.tc : Thread Cert.JoinRefIdeal.nD Cert.JoinRefIdeal.τ).loc Cert.JoinRefIdeal.main_v58) = v0 c
          ∧ r.2.mem ((c.tc : Thread Cert.JoinRefIdeal.nD Cert.JoinRefIdeal.τ).loc Cert.JoinRefIdeal.main_v69) = v1 c
          ∧ r.2.mem ((c.tc : Thread Cert.JoinRefIdeal.nD Cert.JoinRefIdeal.τ).loc Cert.JoinRefIdeal.main_v70) = v2 c
          ∧ r.2.mem ((c.tc : Thread Cert.JoinRefIdeal.nD Cert.JoinRefIdeal.τ).loc Cert.JoinRefIdeal.main_arg0) = m' ((c.tc : Thread Cert.JoinRefIdeal.nD Cert.JoinRefIdeal.τ).loc Cert.JoinRefIdeal.main_arg0)
          ∧ r.2.mem ((c.tc : Thread Cert.JoinRefIdeal.nD Cert.JoinRefIdeal.τ).loc Cert.JoinRefIdeal.main_arg1) = m' ((c.tc : Thread Cert.JoinRefIdeal.nD Cert.JoinRefIdeal.τ).loc Cert.JoinRefIdeal.main_arg1)
          ∧ r.2.mem ((c.tc : Thread Cert.JoinRefIdeal.nD Cert.JoinRefIdeal.τ).loc Cert.JoinRefIdeal.main_arg2) = m' ((c.tc : Thread Cert.JoinRefIdeal.nD Cert.JoinRefIdeal.τ).loc Cert.JoinRefIdeal.main_arg2)
          ∧ r.2.mem ((c.tc : Thread Cert.JoinRefIdeal.nD Cert.JoinRefIdeal.τ).loc Cert.JoinRefIdeal.main_arg3) = m' ((c.tc : Thread Cert.JoinRefIdeal.nD Cert.JoinRefIdeal.τ).loc Cert.JoinRefIdeal.main_arg3)
          ∧ r.2.mem ((c.tc : Thread Cert.JoinRefIdeal.nD Cert.JoinRefIdeal.τ).loc Cert.JoinRefIdeal.main_arg4) = m' ((c.tc : Thread Cert.JoinRefIdeal.nD Cert.JoinRefIdeal.τ).loc Cert.JoinRefIdeal.main_arg4)
          ∧ r.2.mem ((c.tc : Thread Cert.JoinRefIdeal.nD Cert.JoinRefIdeal.τ).loc Cert.JoinRefIdeal.main_arg5) = m' ((c.tc : Thread Cert.JoinRefIdeal.nD Cert.JoinRefIdeal.τ).loc Cert.JoinRefIdeal.main_arg5)
          ∧ r.2.mem ((c.tc : Thread Cert.JoinRefIdeal.nD Cert.JoinRefIdeal.τ).loc Cert.JoinRefIdeal.main_arg6) = m' ((c.tc : Thread Cert.JoinRefIdeal.nD Cert.JoinRefIdeal.τ).loc Cert.JoinRefIdeal.main_arg6))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v5_0)) (v1 : (c : Dev Cert.LossIdeal.nD) → Buf (Elt Ideal) ((c.tc : Thread Cert.LossIdeal.nD Cert.LossIdeal.τ).loc Cert.LossIdeal.main_v5_1)) (v2 : (c : Dev Cert.LossIdeal.nD) → Buf (Elt Ideal) ((c.tc : Thread Cert.LossIdeal.nD Cert.LossIdeal.τ).loc Cert.LossIdeal.main_v5_2)) (v3 : (c : Dev Cert.LossIdeal.nD) → Buf (Elt Ideal) ((c.tc : Thread Cert.LossIdeal.nD Cert.LossIdeal.τ).loc Cert.LossIdeal.main_v5_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v5_0) = v0 c
          ∧ r.2.mem ((c.tc : Thread Cert.LossIdeal.nD Cert.LossIdeal.τ).loc Cert.LossIdeal.main_v5_1) = v1 c
          ∧ r.2.mem ((c.tc : Thread Cert.LossIdeal.nD Cert.LossIdeal.τ).loc Cert.LossIdeal.main_v5_2) = v2 c
          ∧ r.2.mem ((c.tc : Thread Cert.LossIdeal.nD Cert.LossIdeal.τ).loc Cert.LossIdeal.main_v5_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v60) = v0 c
          ∧ r.2.mem ((c.tc : Thread Cert.LossRefIdeal.nD Cert.LossRefIdeal.τ).loc Cert.LossRefIdeal.main_v53) = v1 c
          ∧ r.2.mem ((c.tc : Thread Cert.LossRefIdeal.nD Cert.LossRefIdeal.τ).loc Cert.LossRefIdeal.main_v63) = v2 c
          ∧ r.2.mem ((c.tc : Thread Cert.LossRefIdeal.nD Cert.LossRefIdeal.τ).loc Cert.LossRefIdeal.main_v64) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_S5f_S5fIdeal : Prop :=
  True

def algebraic_S5fIdeal_S5fRefIdeal_pre_s5_finite [hS5fIdeal : Cert.S5fIdeal.Facts] [hS5fRefIdeal : Cert.S5fRefIdeal.Facts] [hPre_s5_finite : Cert.Pre_s5_finite.Facts] : Prop :=
  ∀ (m : (ℓ : Loc Cert.S5fIdeal.nD Cert.S5fIdeal.τ Cert.S5fIdeal.sig) → Buf (Elt Ideal) ℓ) (g : Dev Cert.S5fIdeal.nD → PrngReg)
    (m' : (ℓ : Loc Cert.S5fRefIdeal.nD Cert.S5fRefIdeal.τ Cert.S5fRefIdeal.sig) → Buf (Elt Ideal) ℓ) (g' : Dev Cert.S5fRefIdeal.nD → PrngReg), Pre_S5fIdeal_s5_finite m →
    (∀ c : Dev Cert.S5fIdeal.nD,
      m' ((c.tc : Thread Cert.S5fRefIdeal.nD Cert.S5fRefIdeal.τ).loc Cert.S5fRefIdeal.main_arg0) = m ((c.tc : Thread Cert.S5fIdeal.nD Cert.S5fIdeal.τ).loc Cert.S5fIdeal.main_arg0)
      ∧ m' ((c.tc : Thread Cert.S5fRefIdeal.nD Cert.S5fRefIdeal.τ).loc Cert.S5fRefIdeal.main_arg1) = m ((c.tc : Thread Cert.S5fIdeal.nD Cert.S5fIdeal.τ).loc Cert.S5fIdeal.main_arg1)
      ∧ m' ((c.tc : Thread Cert.S5fRefIdeal.nD Cert.S5fRefIdeal.τ).loc Cert.S5fRefIdeal.main_arg2) = m ((c.tc : Thread Cert.S5fIdeal.nD Cert.S5fIdeal.τ).loc Cert.S5fIdeal.main_arg2)
      ∧ m' ((c.tc : Thread Cert.S5fRefIdeal.nD Cert.S5fRefIdeal.τ).loc Cert.S5fRefIdeal.main_arg3) = m ((c.tc : Thread Cert.S5fIdeal.nD Cert.S5fIdeal.τ).loc Cert.S5fIdeal.main_arg3)
      ∧ m' ((c.tc : Thread Cert.S5fRefIdeal.nD Cert.S5fRefIdeal.τ).loc Cert.S5fRefIdeal.main_arg4) = m ((c.tc : Thread Cert.S5fIdeal.nD Cert.S5fIdeal.τ).loc Cert.S5fIdeal.main_arg4)
      ∧ m' ((c.tc : Thread Cert.S5fRefIdeal.nD Cert.S5fRefIdeal.τ).loc Cert.S5fRefIdeal.main_arg5) = m ((c.tc : Thread Cert.S5fIdeal.nD Cert.S5fIdeal.τ).loc Cert.S5fIdeal.main_arg5)
      ∧ m' ((c.tc : Thread Cert.S5fRefIdeal.nD Cert.S5fRefIdeal.τ).loc Cert.S5fRefIdeal.main_arg6) = m ((c.tc : Thread Cert.S5fIdeal.nD Cert.S5fIdeal.τ).loc Cert.S5fIdeal.main_arg6)
      ∧ m' ((c.tc : Thread Cert.S5fRefIdeal.nD Cert.S5fRefIdeal.τ).loc Cert.S5fRefIdeal.main_arg7) = m ((c.tc : Thread Cert.S5fIdeal.nD Cert.S5fIdeal.τ).loc Cert.S5fIdeal.main_arg7)
      ∧ m' ((c.tc : Thread Cert.S5fRefIdeal.nD Cert.S5fRefIdeal.τ).loc Cert.S5fRefIdeal.main_arg8) = m ((c.tc : Thread Cert.S5fIdeal.nD Cert.S5fIdeal.τ).loc Cert.S5fIdeal.main_arg8)) →
    ∃ (v0 : (c : Dev Cert.S5fIdeal.nD) → Buf (Elt Ideal) ((c.tc : Thread Cert.S5fIdeal.nD Cert.S5fIdeal.τ).loc Cert.S5fIdeal.main_v193_2)),
      θ_run (Cert.S5fIdeal.defs (F := Ideal)) (onTc (τ := Cert.S5fIdeal.τ) (Cert.S5fIdeal.main (F := Ideal))) ⟨m, fun _ => 0, g⟩ (fun r => ∀ c : Dev Cert.S5fIdeal.nD,
          r.2.mem ((c.tc : Thread Cert.S5fIdeal.nD Cert.S5fIdeal.τ).loc Cert.S5fIdeal.main_v193_2) = v0 c
          ∧ r.2.mem ((c.tc : Thread Cert.S5fIdeal.nD Cert.S5fIdeal.τ).loc Cert.S5fIdeal.main_arg0) = m ((c.tc : Thread Cert.S5fIdeal.nD Cert.S5fIdeal.τ).loc Cert.S5fIdeal.main_arg0)
          ∧ r.2.mem ((c.tc : Thread Cert.S5fIdeal.nD Cert.S5fIdeal.τ).loc Cert.S5fIdeal.main_arg1) = m ((c.tc : Thread Cert.S5fIdeal.nD Cert.S5fIdeal.τ).loc Cert.S5fIdeal.main_arg1)
          ∧ r.2.mem ((c.tc : Thread Cert.S5fIdeal.nD Cert.S5fIdeal.τ).loc Cert.S5fIdeal.main_arg2) = m ((c.tc : Thread Cert.S5fIdeal.nD Cert.S5fIdeal.τ).loc Cert.S5fIdeal.main_arg2)
          ∧ r.2.mem ((c.tc : Thread Cert.S5fIdeal.nD Cert.S5fIdeal.τ).loc Cert.S5fIdeal.main_arg3) = m ((c.tc : Thread Cert.S5fIdeal.nD Cert.S5fIdeal.τ).loc Cert.S5fIdeal.main_arg3)
          ∧ r.2.mem ((c.tc : Thread Cert.S5fIdeal.nD Cert.S5fIdeal.τ).loc Cert.S5fIdeal.main_arg4) = m ((c.tc : Thread Cert.S5fIdeal.nD Cert.S5fIdeal.τ).loc Cert.S5fIdeal.main_arg4)
          ∧ r.2.mem ((c.tc : Thread Cert.S5fIdeal.nD Cert.S5fIdeal.τ).loc Cert.S5fIdeal.main_arg5) = m ((c.tc : Thread Cert.S5fIdeal.nD Cert.S5fIdeal.τ).loc Cert.S5fIdeal.main_arg5)
          ∧ r.2.mem ((c.tc : Thread Cert.S5fIdeal.nD Cert.S5fIdeal.τ).loc Cert.S5fIdeal.main_arg6) = m ((c.tc : Thread Cert.S5fIdeal.nD Cert.S5fIdeal.τ).loc Cert.S5fIdeal.main_arg6)
          ∧ r.2.mem ((c.tc : Thread Cert.S5fIdeal.nD Cert.S5fIdeal.τ).loc Cert.S5fIdeal.main_arg7) = m ((c.tc : Thread Cert.S5fIdeal.nD Cert.S5fIdeal.τ).loc Cert.S5fIdeal.main_arg7)
          ∧ r.2.mem ((c.tc : Thread Cert.S5fIdeal.nD Cert.S5fIdeal.τ).loc Cert.S5fIdeal.main_arg8) = m ((c.tc : Thread Cert.S5fIdeal.nD Cert.S5fIdeal.τ).loc Cert.S5fIdeal.main_arg8))
      ∧ θ_run (Cert.S5fRefIdeal.defs (F := Ideal)) (onTc (τ := Cert.S5fRefIdeal.τ) (Cert.S5fRefIdeal.main (F := Ideal))) ⟨m', fun _ => 0, g'⟩ (fun r => ∀ c : Dev Cert.S5fRefIdeal.nD,
          r.2.mem ((c.tc : Thread Cert.S5fRefIdeal.nD Cert.S5fRefIdeal.τ).loc Cert.S5fRefIdeal.main_v75) = v0 c
          ∧ r.2.mem ((c.tc : Thread Cert.S5fRefIdeal.nD Cert.S5fRefIdeal.τ).loc Cert.S5fRefIdeal.main_arg0) = m' ((c.tc : Thread Cert.S5fRefIdeal.nD Cert.S5fRefIdeal.τ).loc Cert.S5fRefIdeal.main_arg0)
          ∧ r.2.mem ((c.tc : Thread Cert.S5fRefIdeal.nD Cert.S5fRefIdeal.τ).loc Cert.S5fRefIdeal.main_arg1) = m' ((c.tc : Thread Cert.S5fRefIdeal.nD Cert.S5fRefIdeal.τ).loc Cert.S5fRefIdeal.main_arg1)
          ∧ r.2.mem ((c.tc : Thread Cert.S5fRefIdeal.nD Cert.S5fRefIdeal.τ).loc Cert.S5fRefIdeal.main_arg2) = m' ((c.tc : Thread Cert.S5fRefIdeal.nD Cert.S5fRefIdeal.τ).loc Cert.S5fRefIdeal.main_arg2)
          ∧ r.2.mem ((c.tc : Thread Cert.S5fRefIdeal.nD Cert.S5fRefIdeal.τ).loc Cert.S5fRefIdeal.main_arg3) = m' ((c.tc : Thread Cert.S5fRefIdeal.nD Cert.S5fRefIdeal.τ).loc Cert.S5fRefIdeal.main_arg3)
          ∧ r.2.mem ((c.tc : Thread Cert.S5fRefIdeal.nD Cert.S5fRefIdeal.τ).loc Cert.S5fRefIdeal.main_arg4) = m' ((c.tc : Thread Cert.S5fRefIdeal.nD Cert.S5fRefIdeal.τ).loc Cert.S5fRefIdeal.main_arg4)
          ∧ r.2.mem ((c.tc : Thread Cert.S5fRefIdeal.nD Cert.S5fRefIdeal.τ).loc Cert.S5fRefIdeal.main_arg5) = m' ((c.tc : Thread Cert.S5fRefIdeal.nD Cert.S5fRefIdeal.τ).loc Cert.S5fRefIdeal.main_arg5)
          ∧ r.2.mem ((c.tc : Thread Cert.S5fRefIdeal.nD Cert.S5fRefIdeal.τ).loc Cert.S5fRefIdeal.main_arg6) = m' ((c.tc : Thread Cert.S5fRefIdeal.nD Cert.S5fRefIdeal.τ).loc Cert.S5fRefIdeal.main_arg6)
          ∧ r.2.mem ((c.tc : Thread Cert.S5fRefIdeal.nD Cert.S5fRefIdeal.τ).loc Cert.S5fRefIdeal.main_arg7) = m' ((c.tc : Thread Cert.S5fRefIdeal.nD Cert.S5fRefIdeal.τ).loc Cert.S5fRefIdeal.main_arg7)
          ∧ r.2.mem ((c.tc : Thread Cert.S5fRefIdeal.nD Cert.S5fRefIdeal.τ).loc Cert.S5fRefIdeal.main_arg8) = m' ((c.tc : Thread Cert.S5fRefIdeal.nD Cert.S5fRefIdeal.τ).loc Cert.S5fRefIdeal.main_arg8))

def preserves_OutGlu_OutGluIdeal : Prop :=
  True

def algebraic_OutGluIdeal_OutGluRefIdeal [hOutGluIdeal : Cert.OutGluIdeal.Facts] [hOutGluRefIdeal : Cert.OutGluRefIdeal.Facts] : Prop :=
  ∀ (m : (ℓ : Loc Cert.OutGluIdeal.nD Cert.OutGluIdeal.τ Cert.OutGluIdeal.sig) → Buf (Elt Ideal) ℓ) (g : Dev Cert.OutGluIdeal.nD → PrngReg)
    (m' : (ℓ : Loc Cert.OutGluRefIdeal.nD Cert.OutGluRefIdeal.τ Cert.OutGluRefIdeal.sig) → Buf (Elt Ideal) ℓ) (g' : Dev Cert.OutGluRefIdeal.nD → PrngReg), Pre_OutGluIdeal m →
    (∀ c : Dev Cert.OutGluIdeal.nD,
      m' ((c.tc : Thread Cert.OutGluRefIdeal.nD Cert.OutGluRefIdeal.τ).loc Cert.OutGluRefIdeal.main_arg0) = m ((c.tc : Thread Cert.OutGluIdeal.nD Cert.OutGluIdeal.τ).loc Cert.OutGluIdeal.main_arg0)
      ∧ m' ((c.tc : Thread Cert.OutGluRefIdeal.nD Cert.OutGluRefIdeal.τ).loc Cert.OutGluRefIdeal.main_arg1) = m ((c.tc : Thread Cert.OutGluIdeal.nD Cert.OutGluIdeal.τ).loc Cert.OutGluIdeal.main_arg1)
      ∧ m' ((c.tc : Thread Cert.OutGluRefIdeal.nD Cert.OutGluRefIdeal.τ).loc Cert.OutGluRefIdeal.main_arg2) = m ((c.tc : Thread Cert.OutGluIdeal.nD Cert.OutGluIdeal.τ).loc Cert.OutGluIdeal.main_arg2)
      ∧ m' ((c.tc : Thread Cert.OutGluRefIdeal.nD Cert.OutGluRefIdeal.τ).loc Cert.OutGluRefIdeal.main_arg3) = m ((c.tc : Thread Cert.OutGluIdeal.nD Cert.OutGluIdeal.τ).loc Cert.OutGluIdeal.main_arg3)) →
    ∃ (v0 : (c : Dev Cert.OutGluIdeal.nD) → Buf (Elt Ideal) ((c.tc : Thread Cert.OutGluIdeal.nD Cert.OutGluIdeal.τ).loc Cert.OutGluIdeal.main_v0_0)) (v1 : (c : Dev Cert.OutGluIdeal.nD) → Buf (Elt Ideal) ((c.tc : Thread Cert.OutGluIdeal.nD Cert.OutGluIdeal.τ).loc Cert.OutGluIdeal.main_v0_1)) (v2 : (c : Dev Cert.OutGluIdeal.nD) → Buf (Elt Ideal) ((c.tc : Thread Cert.OutGluIdeal.nD Cert.OutGluIdeal.τ).loc Cert.OutGluIdeal.main_v0_2)),
      θ_run (Cert.OutGluIdeal.defs (F := Ideal)) (onTc (τ := Cert.OutGluIdeal.τ) (Cert.OutGluIdeal.main (F := Ideal))) ⟨m, fun _ => 0, g⟩ (fun r => ∀ c : Dev Cert.OutGluIdeal.nD,
          r.2.mem ((c.tc : Thread Cert.OutGluIdeal.nD Cert.OutGluIdeal.τ).loc Cert.OutGluIdeal.main_v0_0) = v0 c
          ∧ r.2.mem ((c.tc : Thread Cert.OutGluIdeal.nD Cert.OutGluIdeal.τ).loc Cert.OutGluIdeal.main_v0_1) = v1 c
          ∧ r.2.mem ((c.tc : Thread Cert.OutGluIdeal.nD Cert.OutGluIdeal.τ).loc Cert.OutGluIdeal.main_v0_2) = v2 c
          ∧ r.2.mem ((c.tc : Thread Cert.OutGluIdeal.nD Cert.OutGluIdeal.τ).loc Cert.OutGluIdeal.main_arg0) = m ((c.tc : Thread Cert.OutGluIdeal.nD Cert.OutGluIdeal.τ).loc Cert.OutGluIdeal.main_arg0)
          ∧ r.2.mem ((c.tc : Thread Cert.OutGluIdeal.nD Cert.OutGluIdeal.τ).loc Cert.OutGluIdeal.main_arg1) = m ((c.tc : Thread Cert.OutGluIdeal.nD Cert.OutGluIdeal.τ).loc Cert.OutGluIdeal.main_arg1)
          ∧ r.2.mem ((c.tc : Thread Cert.OutGluIdeal.nD Cert.OutGluIdeal.τ).loc Cert.OutGluIdeal.main_arg2) = m ((c.tc : Thread Cert.OutGluIdeal.nD Cert.OutGluIdeal.τ).loc Cert.OutGluIdeal.main_arg2)
          ∧ r.2.mem ((c.tc : Thread Cert.OutGluIdeal.nD Cert.OutGluIdeal.τ).loc Cert.OutGluIdeal.main_arg3) = m ((c.tc : Thread Cert.OutGluIdeal.nD Cert.OutGluIdeal.τ).loc Cert.OutGluIdeal.main_arg3))
      ∧ θ_run (Cert.OutGluRefIdeal.defs (F := Ideal)) (onTc (τ := Cert.OutGluRefIdeal.τ) (Cert.OutGluRefIdeal.main (F := Ideal))) ⟨m', fun _ => 0, g'⟩ (fun r => ∀ c : Dev Cert.OutGluRefIdeal.nD,
          r.2.mem ((c.tc : Thread Cert.OutGluRefIdeal.nD Cert.OutGluRefIdeal.τ).loc Cert.OutGluRefIdeal.main_v17) = v0 c
          ∧ r.2.mem ((c.tc : Thread Cert.OutGluRefIdeal.nD Cert.OutGluRefIdeal.τ).loc Cert.OutGluRefIdeal.main_v18) = v1 c
          ∧ r.2.mem ((c.tc : Thread Cert.OutGluRefIdeal.nD Cert.OutGluRefIdeal.τ).loc Cert.OutGluRefIdeal.main_v24) = v2 c
          ∧ r.2.mem ((c.tc : Thread Cert.OutGluRefIdeal.nD Cert.OutGluRefIdeal.τ).loc Cert.OutGluRefIdeal.main_arg0) = m' ((c.tc : Thread Cert.OutGluRefIdeal.nD Cert.OutGluRefIdeal.τ).loc Cert.OutGluRefIdeal.main_arg0)
          ∧ r.2.mem ((c.tc : Thread Cert.OutGluRefIdeal.nD Cert.OutGluRefIdeal.τ).loc Cert.OutGluRefIdeal.main_arg1) = m' ((c.tc : Thread Cert.OutGluRefIdeal.nD Cert.OutGluRefIdeal.τ).loc Cert.OutGluRefIdeal.main_arg1)
          ∧ r.2.mem ((c.tc : Thread Cert.OutGluRefIdeal.nD Cert.OutGluRefIdeal.τ).loc Cert.OutGluRefIdeal.main_arg2) = m' ((c.tc : Thread Cert.OutGluRefIdeal.nD Cert.OutGluRefIdeal.τ).loc Cert.OutGluRefIdeal.main_arg2)
          ∧ r.2.mem ((c.tc : Thread Cert.OutGluRefIdeal.nD Cert.OutGluRefIdeal.τ).loc Cert.OutGluRefIdeal.main_arg3) = m' ((c.tc : Thread Cert.OutGluRefIdeal.nD Cert.OutGluRefIdeal.τ).loc Cert.OutGluRefIdeal.main_arg3))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)) →
    ∃ (v0 : (c : Dev Cert.FfnInIdeal.nD) → Buf (Elt Ideal) ((c.tc : Thread Cert.FfnInIdeal.nD Cert.FfnInIdeal.τ).loc Cert.FfnInIdeal.main_v0_0)) (v1 : (c : Dev Cert.FfnInIdeal.nD) → Buf (Elt Ideal) ((c.tc : Thread Cert.FfnInIdeal.nD Cert.FfnInIdeal.τ).loc Cert.FfnInIdeal.main_v0_1)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v0_0) = v0 c
          ∧ r.2.mem ((c.tc : Thread Cert.FfnInIdeal.nD Cert.FfnInIdeal.τ).loc Cert.FfnInIdeal.main_v0_1) = v1 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v10) = v0 c
          ∧ r.2.mem ((c.tc : Thread Cert.FfnInRefIdeal.nD Cert.FfnInRefIdeal.τ).loc Cert.FfnInRefIdeal.main_v13) = v1 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1))

def preserves_ConvF_ConvFIdeal : Prop :=
  True

def algebraic_ConvFIdeal_ConvFRefIdeal [hConvFIdeal : Cert.ConvFIdeal.Facts] [hConvFRefIdeal : Cert.ConvFRefIdeal.Facts] : Prop :=
  ∀ (m : (ℓ : Loc Cert.ConvFIdeal.nD Cert.ConvFIdeal.τ Cert.ConvFIdeal.sig) → Buf (Elt Ideal) ℓ) (g : Dev Cert.ConvFIdeal.nD → PrngReg)
    (m' : (ℓ : Loc Cert.ConvFRefIdeal.nD Cert.ConvFRefIdeal.τ Cert.ConvFRefIdeal.sig) → Buf (Elt Ideal) ℓ) (g' : Dev Cert.ConvFRefIdeal.nD → PrngReg), Pre_ConvFIdeal m →
    (∀ c : Dev Cert.ConvFIdeal.nD,
      m' ((c.tc : Thread Cert.ConvFRefIdeal.nD Cert.ConvFRefIdeal.τ).loc Cert.ConvFRefIdeal.main_arg0) = m ((c.tc : Thread Cert.ConvFIdeal.nD Cert.ConvFIdeal.τ).loc Cert.ConvFIdeal.main_arg0)
      ∧ m' ((c.tc : Thread Cert.ConvFRefIdeal.nD Cert.ConvFRefIdeal.τ).loc Cert.ConvFRefIdeal.main_arg1) = m ((c.tc : Thread Cert.ConvFIdeal.nD Cert.ConvFIdeal.τ).loc Cert.ConvFIdeal.main_arg1)) →
    ∃ (v0 : (c : Dev Cert.ConvFIdeal.nD) → Buf (Elt Ideal) ((c.tc : Thread Cert.ConvFIdeal.nD Cert.ConvFIdeal.τ).loc Cert.ConvFIdeal.main_v0)),
      θ_run (Cert.ConvFIdeal.defs (F := Ideal)) (onTc (τ := Cert.ConvFIdeal.τ) (Cert.ConvFIdeal.main (F := Ideal))) ⟨m, fun _ => 0, g⟩ (fun r => ∀ c : Dev Cert.ConvFIdeal.nD,
          r.2.mem ((c.tc : Thread Cert.ConvFIdeal.nD Cert.ConvFIdeal.τ).loc Cert.ConvFIdeal.main_v0) = v0 c
          ∧ r.2.mem ((c.tc : Thread Cert.ConvFIdeal.nD Cert.ConvFIdeal.τ).loc Cert.ConvFIdeal.main_arg0) = m ((c.tc : Thread Cert.ConvFIdeal.nD Cert.ConvFIdeal.τ).loc Cert.ConvFIdeal.main_arg0)
          ∧ r.2.mem ((c.tc : Thread Cert.ConvFIdeal.nD Cert.ConvFIdeal.τ).loc Cert.ConvFIdeal.main_arg1) = m ((c.tc : Thread Cert.ConvFIdeal.nD Cert.ConvFIdeal.τ).loc Cert.ConvFIdeal.main_arg1))
      ∧ θ_run (Cert.ConvFRefIdeal.defs (F := Ideal)) (onTc (τ := Cert.ConvFRefIdeal.τ) (Cert.ConvFRefIdeal.main (F := Ideal))) ⟨m', fun _ => 0, g'⟩ (fun r => ∀ c : Dev Cert.ConvFRefIdeal.nD,
          r.2.mem ((c.tc : Thread Cert.ConvFRefIdeal.nD Cert.ConvFRefIdeal.τ).loc Cert.ConvFRefIdeal.main_v30) = v0 c
          ∧ r.2.mem ((c.tc : Thread Cert.ConvFRefIdeal.nD Cert.ConvFRefIdeal.τ).loc Cert.ConvFRefIdeal.main_arg0) = m' ((c.tc : Thread Cert.ConvFRefIdeal.nD Cert.ConvFRefIdeal.τ).loc Cert.ConvFRefIdeal.main_arg0)
          ∧ r.2.mem ((c.tc : Thread Cert.ConvFRefIdeal.nD Cert.ConvFRefIdeal.τ).loc Cert.ConvFRefIdeal.main_arg1) = m' ((c.tc : Thread Cert.ConvFRefIdeal.nD Cert.ConvFRefIdeal.τ).loc Cert.ConvFRefIdeal.main_arg1))

def preserves_NormF_NormFIdeal : Prop :=
  True

def algebraic_NormFIdeal_NormFRefIdeal [hNormFIdeal : Cert.NormFIdeal.Facts] [hNormFRefIdeal : Cert.NormFRefIdeal.Facts] : Prop :=
  ∀ (m : (ℓ : Loc Cert.NormFIdeal.nD Cert.NormFIdeal.τ Cert.NormFIdeal.sig) → Buf (Elt Ideal) ℓ) (g : Dev Cert.NormFIdeal.nD → PrngReg)
    (m' : (ℓ : Loc Cert.NormFRefIdeal.nD Cert.NormFRefIdeal.τ Cert.NormFRefIdeal.sig) → Buf (Elt Ideal) ℓ) (g' : Dev Cert.NormFRefIdeal.nD → PrngReg), Pre_NormFIdeal m →
    (∀ c : Dev Cert.NormFIdeal.nD,
      m' ((c.tc : Thread Cert.NormFRefIdeal.nD Cert.NormFRefIdeal.τ).loc Cert.NormFRefIdeal.main_arg0) = m ((c.tc : Thread Cert.NormFIdeal.nD Cert.NormFIdeal.τ).loc Cert.NormFIdeal.main_arg0)
      ∧ m' ((c.tc : Thread Cert.NormFRefIdeal.nD Cert.NormFRefIdeal.τ).loc Cert.NormFRefIdeal.main_arg1) = m ((c.tc : Thread Cert.NormFIdeal.nD Cert.NormFIdeal.τ).loc Cert.NormFIdeal.main_arg1)
      ∧ m' ((c.tc : Thread Cert.NormFRefIdeal.nD Cert.NormFRefIdeal.τ).loc Cert.NormFRefIdeal.main_arg2) = m ((c.tc : Thread Cert.NormFIdeal.nD Cert.NormFIdeal.τ).loc Cert.NormFIdeal.main_arg2)) →
    ∃ (v0 : (c : Dev Cert.NormFIdeal.nD) → Buf (Elt Ideal) ((c.tc : Thread Cert.NormFIdeal.nD Cert.NormFIdeal.τ).loc Cert.NormFIdeal.main_v0)),
      θ_run (Cert.NormFIdeal.defs (F := Ideal)) (onTc (τ := Cert.NormFIdeal.τ) (Cert.NormFIdeal.main (F := Ideal))) ⟨m, fun _ => 0, g⟩ (fun r => ∀ c : Dev Cert.NormFIdeal.nD,
          r.2.mem ((c.tc : Thread Cert.NormFIdeal.nD Cert.NormFIdeal.τ).loc Cert.NormFIdeal.main_v0) = v0 c
          ∧ r.2.mem ((c.tc : Thread Cert.NormFIdeal.nD Cert.NormFIdeal.τ).loc Cert.NormFIdeal.main_arg0) = m ((c.tc : Thread Cert.NormFIdeal.nD Cert.NormFIdeal.τ).loc Cert.NormFIdeal.main_arg0)
          ∧ r.2.mem ((c.tc : Thread Cert.NormFIdeal.nD Cert.NormFIdeal.τ).loc Cert.NormFIdeal.main_arg1) = m ((c.tc : Thread Cert.NormFIdeal.nD Cert.NormFIdeal.τ).loc Cert.NormFIdeal.main_arg1)
          ∧ r.2.mem ((c.tc : Thread Cert.NormFIdeal.nD Cert.NormFIdeal.τ).loc Cert.NormFIdeal.main_arg2) = m ((c.tc : Thread Cert.NormFIdeal.nD Cert.NormFIdeal.τ).loc Cert.NormFIdeal.main_arg2))
      ∧ θ_run (Cert.NormFRefIdeal.defs (F := Ideal)) (onTc (τ := Cert.NormFRefIdeal.τ) (Cert.NormFRefIdeal.main (F := Ideal))) ⟨m', fun _ => 0, g'⟩ (fun r => ∀ c : Dev Cert.NormFRefIdeal.nD,
          r.2.mem ((c.tc : Thread Cert.NormFRefIdeal.nD Cert.NormFRefIdeal.τ).loc Cert.NormFRefIdeal.main_v24) = v0 c
          ∧ r.2.mem ((c.tc : Thread Cert.NormFRefIdeal.nD Cert.NormFRefIdeal.τ).loc Cert.NormFRefIdeal.main_arg0) = m' ((c.tc : Thread Cert.NormFRefIdeal.nD Cert.NormFRefIdeal.τ).loc Cert.NormFRefIdeal.main_arg0)
          ∧ r.2.mem ((c.tc : Thread Cert.NormFRefIdeal.nD Cert.NormFRefIdeal.τ).loc Cert.NormFRefIdeal.main_arg1) = m' ((c.tc : Thread Cert.NormFRefIdeal.nD Cert.NormFRefIdeal.τ).loc Cert.NormFRefIdeal.main_arg1)
          ∧ r.2.mem ((c.tc : Thread Cert.NormFRefIdeal.nD Cert.NormFRefIdeal.τ).loc Cert.NormFRefIdeal.main_arg2) = m' ((c.tc : Thread Cert.NormFRefIdeal.nD Cert.NormFRefIdeal.τ).loc Cert.NormFRefIdeal.main_arg2))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v0)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v0) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v4) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_MmRes_MmResIdeal : Prop :=
  True

def algebraic_MmResIdeal_MmResRefIdeal [hMmResIdeal : Cert.MmResIdeal.Facts] [hMmResRefIdeal : Cert.MmResRefIdeal.Facts] : Prop :=
  ∀ (m : (ℓ : Loc Cert.MmResIdeal.nD Cert.MmResIdeal.τ Cert.MmResIdeal.sig) → Buf (Elt Ideal) ℓ) (g : Dev Cert.MmResIdeal.nD → PrngReg)
    (m' : (ℓ : Loc Cert.MmResRefIdeal.nD Cert.MmResRefIdeal.τ Cert.MmResRefIdeal.sig) → Buf (Elt Ideal) ℓ) (g' : Dev Cert.MmResRefIdeal.nD → PrngReg), Pre_MmResIdeal m →
    (∀ c : Dev Cert.MmResIdeal.nD,
      m' ((c.tc : Thread Cert.MmResRefIdeal.nD Cert.MmResRefIdeal.τ).loc Cert.MmResRefIdeal.main_arg0) = m ((c.tc : Thread Cert.MmResIdeal.nD Cert.MmResIdeal.τ).loc Cert.MmResIdeal.main_arg0)
      ∧ m' ((c.tc : Thread Cert.MmResRefIdeal.nD Cert.MmResRefIdeal.τ).loc Cert.MmResRefIdeal.main_arg1) = m ((c.tc : Thread Cert.MmResIdeal.nD Cert.MmResIdeal.τ).loc Cert.MmResIdeal.main_arg1)
      ∧ m' ((c.tc : Thread Cert.MmResRefIdeal.nD Cert.MmResRefIdeal.τ).loc Cert.MmResRefIdeal.main_arg2) = m ((c.tc : Thread Cert.MmResIdeal.nD Cert.MmResIdeal.τ).loc Cert.MmResIdeal.main_arg2)
      ∧ m' ((c.tc : Thread Cert.MmResRefIdeal.nD Cert.MmResRefIdeal.τ).loc Cert.MmResRefIdeal.main_arg3) = m ((c.tc : Thread Cert.MmResIdeal.nD Cert.MmResIdeal.τ).loc Cert.MmResIdeal.main_arg3)) →
    ∃ (v0 : (c : Dev Cert.MmResIdeal.nD) → Buf (Elt Ideal) ((c.tc : Thread Cert.MmResIdeal.nD Cert.MmResIdeal.τ).loc Cert.MmResIdeal.main_v0_0)) (v1 : (c : Dev Cert.MmResIdeal.nD) → Buf (Elt Ideal) ((c.tc : Thread Cert.MmResIdeal.nD Cert.MmResIdeal.τ).loc Cert.MmResIdeal.main_v0_1)),
      θ_run (Cert.MmResIdeal.defs (F := Ideal)) (onTc (τ := Cert.MmResIdeal.τ) (Cert.MmResIdeal.main (F := Ideal))) ⟨m, fun _ => 0, g⟩ (fun r => ∀ c : Dev Cert.MmResIdeal.nD,
          r.2.mem ((c.tc : Thread Cert.MmResIdeal.nD Cert.MmResIdeal.τ).loc Cert.MmResIdeal.main_v0_0) = v0 c
          ∧ r.2.mem ((c.tc : Thread Cert.MmResIdeal.nD Cert.MmResIdeal.τ).loc Cert.MmResIdeal.main_v0_1) = v1 c
          ∧ r.2.mem ((c.tc : Thread Cert.MmResIdeal.nD Cert.MmResIdeal.τ).loc Cert.MmResIdeal.main_arg0) = m ((c.tc : Thread Cert.MmResIdeal.nD Cert.MmResIdeal.τ).loc Cert.MmResIdeal.main_arg0)
          ∧ r.2.mem ((c.tc : Thread Cert.MmResIdeal.nD Cert.MmResIdeal.τ).loc Cert.MmResIdeal.main_arg1) = m ((c.tc : Thread Cert.MmResIdeal.nD Cert.MmResIdeal.τ).loc Cert.MmResIdeal.main_arg1)
          ∧ r.2.mem ((c.tc : Thread Cert.MmResIdeal.nD Cert.MmResIdeal.τ).loc Cert.MmResIdeal.main_arg2) = m ((c.tc : Thread Cert.MmResIdeal.nD Cert.MmResIdeal.τ).loc Cert.MmResIdeal.main_arg2)
          ∧ r.2.mem ((c.tc : Thread Cert.MmResIdeal.nD Cert.MmResIdeal.τ).loc Cert.MmResIdeal.main_arg3) = m ((c.tc : Thread Cert.MmResIdeal.nD Cert.MmResIdeal.τ).loc Cert.MmResIdeal.main_arg3))
      ∧ θ_run (Cert.MmResRefIdeal.defs (F := Ideal)) (onTc (τ := Cert.MmResRefIdeal.τ) (Cert.MmResRefIdeal.main (F := Ideal))) ⟨m', fun _ => 0, g'⟩ (fun r => ∀ c : Dev Cert.MmResRefIdeal.nD,
          r.2.mem ((c.tc : Thread Cert.MmResRefIdeal.nD Cert.MmResRefIdeal.τ).loc Cert.MmResRefIdeal.main_v4) = v0 c
          ∧ r.2.mem ((c.tc : Thread Cert.MmResRefIdeal.nD Cert.MmResRefIdeal.τ).loc Cert.MmResRefIdeal.main_v7) = v1 c
          ∧ r.2.mem ((c.tc : Thread Cert.MmResRefIdeal.nD Cert.MmResRefIdeal.τ).loc Cert.MmResRefIdeal.main_arg0) = m' ((c.tc : Thread Cert.MmResRefIdeal.nD Cert.MmResRefIdeal.τ).loc Cert.MmResRefIdeal.main_arg0)
          ∧ r.2.mem ((c.tc : Thread Cert.MmResRefIdeal.nD Cert.MmResRefIdeal.τ).loc Cert.MmResRefIdeal.main_arg1) = m' ((c.tc : Thread Cert.MmResRefIdeal.nD Cert.MmResRefIdeal.τ).loc Cert.MmResRefIdeal.main_arg1)
          ∧ r.2.mem ((c.tc : Thread Cert.MmResRefIdeal.nD Cert.MmResRefIdeal.τ).loc Cert.MmResRefIdeal.main_arg2) = m' ((c.tc : Thread Cert.MmResRefIdeal.nD Cert.MmResRefIdeal.τ).loc Cert.MmResRefIdeal.main_arg2)
          ∧ r.2.mem ((c.tc : Thread Cert.MmResRefIdeal.nD Cert.MmResRefIdeal.τ).loc Cert.MmResRefIdeal.main_arg3) = m' ((c.tc : Thread Cert.MmResRefIdeal.nD Cert.MmResRefIdeal.τ).loc Cert.MmResRefIdeal.main_arg3))

def preserves_MmNN_MmNNIdeal : Prop :=
  True

def algebraic_MmNNIdeal_MmNNRefIdeal [hMmNNIdeal : Cert.MmNNIdeal.Facts] [hMmNNRefIdeal : Cert.MmNNRefIdeal.Facts] : Prop :=
  ∀ (m : (ℓ : Loc Cert.MmNNIdeal.nD Cert.MmNNIdeal.τ Cert.MmNNIdeal.sig) → Buf (Elt Ideal) ℓ) (g : Dev Cert.MmNNIdeal.nD → PrngReg)
    (m' : (ℓ : Loc Cert.MmNNRefIdeal.nD Cert.MmNNRefIdeal.τ Cert.MmNNRefIdeal.sig) → Buf (Elt Ideal) ℓ) (g' : Dev Cert.MmNNRefIdeal.nD → PrngReg), Pre_MmNNIdeal m →
    (∀ c : Dev Cert.MmNNIdeal.nD,
      m' ((c.tc : Thread Cert.MmNNRefIdeal.nD Cert.MmNNRefIdeal.τ).loc Cert.MmNNRefIdeal.main_arg0) = m ((c.tc : Thread Cert.MmNNIdeal.nD Cert.MmNNIdeal.τ).loc Cert.MmNNIdeal.main_arg0)
      ∧ m' ((c.tc : Thread Cert.MmNNRefIdeal.nD Cert.MmNNRefIdeal.τ).loc Cert.MmNNRefIdeal.main_arg1) = m ((c.tc : Thread Cert.MmNNIdeal.nD Cert.MmNNIdeal.τ).loc Cert.MmNNIdeal.main_arg1)) →
    ∃ (v0 : (c : Dev Cert.MmNNIdeal.nD) → Buf (Elt Ideal) ((c.tc : Thread Cert.MmNNIdeal.nD Cert.MmNNIdeal.τ).loc Cert.MmNNIdeal.main_v0)),
      θ_run (Cert.MmNNIdeal.defs (F := Ideal)) (onTc (τ := Cert.MmNNIdeal.τ) (Cert.MmNNIdeal.main (F := Ideal))) ⟨m, fun _ => 0, g⟩ (fun r => ∀ c : Dev Cert.MmNNIdeal.nD,
          r.2.mem ((c.tc : Thread Cert.MmNNIdeal.nD Cert.MmNNIdeal.τ).loc Cert.MmNNIdeal.main_v0) = v0 c
          ∧ r.2.mem ((c.tc : Thread Cert.MmNNIdeal.nD Cert.MmNNIdeal.τ).loc Cert.MmNNIdeal.main_arg0) = m ((c.tc : Thread Cert.MmNNIdeal.nD Cert.MmNNIdeal.τ).loc Cert.MmNNIdeal.main_arg0)
          ∧ r.2.mem ((c.tc : Thread Cert.MmNNIdeal.nD Cert.MmNNIdeal.τ).loc Cert.MmNNIdeal.main_arg1) = m ((c.tc : Thread Cert.MmNNIdeal.nD Cert.MmNNIdeal.τ).loc Cert.MmNNIdeal.main_arg1))
      ∧ θ_run (Cert.MmNNRefIdeal.defs (F := Ideal)) (onTc (τ := Cert.MmNNRefIdeal.τ) (Cert.MmNNRefIdeal.main (F := Ideal))) ⟨m', fun _ => 0, g'⟩ (fun r => ∀ c : Dev Cert.MmNNRefIdeal.nD,
          r.2.mem ((c.tc : Thread Cert.MmNNRefIdeal.nD Cert.MmNNRefIdeal.τ).loc Cert.MmNNRefIdeal.main_v12) = v0 c
          ∧ r.2.mem ((c.tc : Thread Cert.MmNNRefIdeal.nD Cert.MmNNRefIdeal.τ).loc Cert.MmNNRefIdeal.main_arg0) = m' ((c.tc : Thread Cert.MmNNRefIdeal.nD Cert.MmNNRefIdeal.τ).loc Cert.MmNNRefIdeal.main_arg0)
          ∧ r.2.mem ((c.tc : Thread Cert.MmNNRefIdeal.nD Cert.MmNNRefIdeal.τ).loc Cert.MmNNRefIdeal.main_arg1) = m' ((c.tc : Thread Cert.MmNNRefIdeal.nD Cert.MmNNRefIdeal.τ).loc Cert.MmNNRefIdeal.main_arg1))

def preserves_MmNT_MmNTIdeal : Prop :=
  True

def algebraic_MmNTIdeal_MmNTRefIdeal [hMmNTIdeal : Cert.MmNTIdeal.Facts] [hMmNTRefIdeal : Cert.MmNTRefIdeal.Facts] : Prop :=
  ∀ (m : (ℓ : Loc Cert.MmNTIdeal.nD Cert.MmNTIdeal.τ Cert.MmNTIdeal.sig) → Buf (Elt Ideal) ℓ) (g : Dev Cert.MmNTIdeal.nD → PrngReg)
    (m' : (ℓ : Loc Cert.MmNTRefIdeal.nD Cert.MmNTRefIdeal.τ Cert.MmNTRefIdeal.sig) → Buf (Elt Ideal) ℓ) (g' : Dev Cert.MmNTRefIdeal.nD → PrngReg), Pre_MmNTIdeal m →
    (∀ c : Dev Cert.MmNTIdeal.nD,
      m' ((c.tc : Thread Cert.MmNTRefIdeal.nD Cert.MmNTRefIdeal.τ).loc Cert.MmNTRefIdeal.main_arg0) = m ((c.tc : Thread Cert.MmNTIdeal.nD Cert.MmNTIdeal.τ).loc Cert.MmNTIdeal.main_arg0)
      ∧ m' ((c.tc : Thread Cert.MmNTRefIdeal.nD Cert.MmNTRefIdeal.τ).loc Cert.MmNTRefIdeal.main_arg1) = m ((c.tc : Thread Cert.MmNTIdeal.nD Cert.MmNTIdeal.τ).loc Cert.MmNTIdeal.main_arg1)) →
    ∃ (v0 : (c : Dev Cert.MmNTIdeal.nD) → Buf (Elt Ideal) ((c.tc : Thread Cert.MmNTIdeal.nD Cert.MmNTIdeal.τ).loc Cert.MmNTIdeal.main_v0)),
      θ_run (Cert.MmNTIdeal.defs (F := Ideal)) (onTc (τ := Cert.MmNTIdeal.τ) (Cert.MmNTIdeal.main (F := Ideal))) ⟨m, fun _ => 0, g⟩ (fun r => ∀ c : Dev Cert.MmNTIdeal.nD,
          r.2.mem ((c.tc : Thread Cert.MmNTIdeal.nD Cert.MmNTIdeal.τ).loc Cert.MmNTIdeal.main_v0) = v0 c
          ∧ r.2.mem ((c.tc : Thread Cert.MmNTIdeal.nD Cert.MmNTIdeal.τ).loc Cert.MmNTIdeal.main_arg0) = m ((c.tc : Thread Cert.MmNTIdeal.nD Cert.MmNTIdeal.τ).loc Cert.MmNTIdeal.main_arg0)
          ∧ r.2.mem ((c.tc : Thread Cert.MmNTIdeal.nD Cert.MmNTIdeal.τ).loc Cert.MmNTIdeal.main_arg1) = m ((c.tc : Thread Cert.MmNTIdeal.nD Cert.MmNTIdeal.τ).loc Cert.MmNTIdeal.main_arg1))
      ∧ θ_run (Cert.MmNTRefIdeal.defs (F := Ideal)) (onTc (τ := Cert.MmNTRefIdeal.τ) (Cert.MmNTRefIdeal.main (F := Ideal))) ⟨m', fun _ => 0, g'⟩ (fun r => ∀ c : Dev Cert.MmNTRefIdeal.nD,
          r.2.mem ((c.tc : Thread Cert.MmNTRefIdeal.nD Cert.MmNTRefIdeal.τ).loc Cert.MmNTRefIdeal.main_v18) = v0 c
          ∧ r.2.mem ((c.tc : Thread Cert.MmNTRefIdeal.nD Cert.MmNTRefIdeal.τ).loc Cert.MmNTRefIdeal.main_arg0) = m' ((c.tc : Thread Cert.MmNTRefIdeal.nD Cert.MmNTRefIdeal.τ).loc Cert.MmNTRefIdeal.main_arg0)
          ∧ r.2.mem ((c.tc : Thread Cert.MmNTRefIdeal.nD Cert.MmNTRefIdeal.τ).loc Cert.MmNTRefIdeal.main_arg1) = m' ((c.tc : Thread Cert.MmNTRefIdeal.nD Cert.MmNTRefIdeal.τ).loc Cert.MmNTRefIdeal.main_arg1))

def preserves_MmTN_MmTNIdeal : Prop :=
  True

def algebraic_MmTNIdeal_MmTNRefIdeal [hMmTNIdeal : Cert.MmTNIdeal.Facts] [hMmTNRefIdeal : Cert.MmTNRefIdeal.Facts] : Prop :=
  ∀ (m : (ℓ : Loc Cert.MmTNIdeal.nD Cert.MmTNIdeal.τ Cert.MmTNIdeal.sig) → Buf (Elt Ideal) ℓ) (g : Dev Cert.MmTNIdeal.nD → PrngReg)
    (m' : (ℓ : Loc Cert.MmTNRefIdeal.nD Cert.MmTNRefIdeal.τ Cert.MmTNRefIdeal.sig) → Buf (Elt Ideal) ℓ) (g' : Dev Cert.MmTNRefIdeal.nD → PrngReg), Pre_MmTNIdeal m →
    (∀ c : Dev Cert.MmTNIdeal.nD,
      m' ((c.tc : Thread Cert.MmTNRefIdeal.nD Cert.MmTNRefIdeal.τ).loc Cert.MmTNRefIdeal.main_arg0) = m ((c.tc : Thread Cert.MmTNIdeal.nD Cert.MmTNIdeal.τ).loc Cert.MmTNIdeal.main_arg0)
      ∧ m' ((c.tc : Thread Cert.MmTNRefIdeal.nD Cert.MmTNRefIdeal.τ).loc Cert.MmTNRefIdeal.main_arg1) = m ((c.tc : Thread Cert.MmTNIdeal.nD Cert.MmTNIdeal.τ).loc Cert.MmTNIdeal.main_arg1)) →
    ∃ (v0 : (c : Dev Cert.MmTNIdeal.nD) → Buf (Elt Ideal) ((c.tc : Thread Cert.MmTNIdeal.nD Cert.MmTNIdeal.τ).loc Cert.MmTNIdeal.main_v0)),
      θ_run (Cert.MmTNIdeal.defs (F := Ideal)) (onTc (τ := Cert.MmTNIdeal.τ) (Cert.MmTNIdeal.main (F := Ideal))) ⟨m, fun _ => 0, g⟩ (fun r => ∀ c : Dev Cert.MmTNIdeal.nD,
          r.2.mem ((c.tc : Thread Cert.MmTNIdeal.nD Cert.MmTNIdeal.τ).loc Cert.MmTNIdeal.main_v0) = v0 c
          ∧ r.2.mem ((c.tc : Thread Cert.MmTNIdeal.nD Cert.MmTNIdeal.τ).loc Cert.MmTNIdeal.main_arg0) = m ((c.tc : Thread Cert.MmTNIdeal.nD Cert.MmTNIdeal.τ).loc Cert.MmTNIdeal.main_arg0)
          ∧ r.2.mem ((c.tc : Thread Cert.MmTNIdeal.nD Cert.MmTNIdeal.τ).loc Cert.MmTNIdeal.main_arg1) = m ((c.tc : Thread Cert.MmTNIdeal.nD Cert.MmTNIdeal.τ).loc Cert.MmTNIdeal.main_arg1))
      ∧ θ_run (Cert.MmTNRefIdeal.defs (F := Ideal)) (onTc (τ := Cert.MmTNRefIdeal.τ) (Cert.MmTNRefIdeal.main (F := Ideal))) ⟨m', fun _ => 0, g'⟩ (fun r => ∀ c : Dev Cert.MmTNRefIdeal.nD,
          r.2.mem ((c.tc : Thread Cert.MmTNRefIdeal.nD Cert.MmTNRefIdeal.τ).loc Cert.MmTNRefIdeal.main_v18) = v0 c
          ∧ r.2.mem ((c.tc : Thread Cert.MmTNRefIdeal.nD Cert.MmTNRefIdeal.τ).loc Cert.MmTNRefIdeal.main_arg0) = m' ((c.tc : Thread Cert.MmTNRefIdeal.nD Cert.MmTNRefIdeal.τ).loc Cert.MmTNRefIdeal.main_arg0)
          ∧ r.2.mem ((c.tc : Thread Cert.MmTNRefIdeal.nD Cert.MmTNRefIdeal.τ).loc Cert.MmTNRefIdeal.main_arg1) = m' ((c.tc : Thread Cert.MmTNRefIdeal.nD Cert.MmTNRefIdeal.τ).loc Cert.MmTNRefIdeal.main_arg1))

def preserves_AdamAda_AdamAdaIdeal : Prop :=
  True

def algebraic_AdamAdaIdeal_AdamAdaRefIdeal [hAdamAdaIdeal : Cert.AdamAdaIdeal.Facts] [hAdamAdaRefIdeal : Cert.AdamAdaRefIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg)
    (m' : (ℓ : Loc Cert.AdamAdaRefIdeal.nD Cert.AdamAdaRefIdeal.τ Cert.AdamAdaRefIdeal.sig) → Buf (Elt Ideal) ℓ) (g' : Dev Cert.AdamAdaRefIdeal.nD → PrngReg), Pre_AdamAdaIdeal m →
    (∀ c : Dev Cert.AdamAdaIdeal.nD,
      m' ((c.tc : Thread Cert.AdamAdaRefIdeal.nD Cert.AdamAdaRefIdeal.τ).loc Cert.AdamAdaRefIdeal.main_arg0) = m ((c.tc : Thread Cert.AdamAdaIdeal.nD Cert.AdamAdaIdeal.τ).loc Cert.AdamAdaIdeal.main_arg0)
      ∧ m' ((c.tc : Thread Cert.AdamAdaRefIdeal.nD Cert.AdamAdaRefIdeal.τ).loc Cert.AdamAdaRefIdeal.main_arg1) = m ((c.tc : Thread Cert.AdamAdaIdeal.nD Cert.AdamAdaIdeal.τ).loc Cert.AdamAdaIdeal.main_arg1)
      ∧ m' ((c.tc : Thread Cert.AdamAdaRefIdeal.nD Cert.AdamAdaRefIdeal.τ).loc Cert.AdamAdaRefIdeal.main_arg2) = m ((c.tc : Thread Cert.AdamAdaIdeal.nD Cert.AdamAdaIdeal.τ).loc Cert.AdamAdaIdeal.main_arg2)
      ∧ m' ((c.tc : Thread Cert.AdamAdaRefIdeal.nD Cert.AdamAdaRefIdeal.τ).loc Cert.AdamAdaRefIdeal.main_arg3) = m ((c.tc : Thread Cert.AdamAdaIdeal.nD Cert.AdamAdaIdeal.τ).loc Cert.AdamAdaIdeal.main_arg3)
      ∧ m' ((c.tc : Thread Cert.AdamAdaRefIdeal.nD Cert.AdamAdaRefIdeal.τ).loc Cert.AdamAdaRefIdeal.main_arg4) = m ((c.tc : Thread Cert.AdamAdaIdeal.nD Cert.AdamAdaIdeal.τ).loc Cert.AdamAdaIdeal.main_arg4)) →
    ∃ (v0 : (c : Dev Cert.AdamAdaIdeal.nD) → Buf (Elt Ideal) ((c.tc : Thread Cert.AdamAdaIdeal.nD Cert.AdamAdaIdeal.τ).loc Cert.AdamAdaIdeal.main_v0_0)) (v1 : (c : Dev Cert.AdamAdaIdeal.nD) → Buf (Elt Ideal) ((c.tc : Thread Cert.AdamAdaIdeal.nD Cert.AdamAdaIdeal.τ).loc Cert.AdamAdaIdeal.main_v0_1)) (v2 : (c : Dev Cert.AdamAdaIdeal.nD) → Buf (Elt Ideal) ((c.tc : Thread Cert.AdamAdaIdeal.nD Cert.AdamAdaIdeal.τ).loc Cert.AdamAdaIdeal.main_v0_2)) (v3 : (c : Dev Cert.AdamAdaIdeal.nD) → Buf (Elt Ideal) ((c.tc : Thread Cert.AdamAdaIdeal.nD Cert.AdamAdaIdeal.τ).loc Cert.AdamAdaIdeal.main_v0_3)),
      θ_run (Cert.AdamAdaIdeal.defs (F := Ideal)) (onTc (τ := Cert.AdamAdaIdeal.τ) (Cert.AdamAdaIdeal.main (F := Ideal))) ⟨m, fun _ => 0, g⟩ (fun r => ∀ c : Dev Cert.AdamAdaIdeal.nD,
          r.2.mem ((c.tc : Thread Cert.AdamAdaIdeal.nD Cert.AdamAdaIdeal.τ).loc Cert.AdamAdaIdeal.main_v0_0) = v0 c
          ∧ r.2.mem ((c.tc : Thread Cert.AdamAdaIdeal.nD Cert.AdamAdaIdeal.τ).loc Cert.AdamAdaIdeal.main_v0_1) = v1 c
          ∧ r.2.mem ((c.tc : Thread Cert.AdamAdaIdeal.nD Cert.AdamAdaIdeal.τ).loc Cert.AdamAdaIdeal.main_v0_2) = v2 c
          ∧ r.2.mem ((c.tc : Thread Cert.AdamAdaIdeal.nD Cert.AdamAdaIdeal.τ).loc Cert.AdamAdaIdeal.main_v0_3) = v3 c
          ∧ r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
          ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
          ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
          ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3)
          ∧ r.2.mem ((c.tc : Thread Cert.AdamAdaIdeal.nD Cert.AdamAdaIdeal.τ).loc Cert.AdamAdaIdeal.main_arg4) = m ((c.tc : Thread Cert.AdamAdaIdeal.nD Cert.AdamAdaIdeal.τ).loc Cert.AdamAdaIdeal.main_arg4))
      ∧ θ_run (Cert.AdamAdaRefIdeal.defs (F := Ideal)) (onTc (τ := Cert.AdamAdaRefIdeal.τ) (Cert.AdamAdaRefIdeal.main (F := Ideal))) ⟨m', fun _ => 0, g'⟩ (fun r => ∀ c : Dev Cert.AdamAdaRefIdeal.nD,
          r.2.mem ((c.tc : Thread Cert.AdamAdaRefIdeal.nD Cert.AdamAdaRefIdeal.τ).loc Cert.AdamAdaRefIdeal.main_v2) = v0 c
          ∧ r.2.mem ((c.tc : Thread Cert.AdamAdaRefIdeal.nD Cert.AdamAdaRefIdeal.τ).loc Cert.AdamAdaRefIdeal.main_v26) = v1 c
          ∧ r.2.mem ((c.tc : Thread Cert.AdamAdaRefIdeal.nD Cert.AdamAdaRefIdeal.τ).loc Cert.AdamAdaRefIdeal.main_v7) = v2 c
          ∧ r.2.mem ((c.tc : Thread Cert.AdamAdaRefIdeal.nD Cert.AdamAdaRefIdeal.τ).loc Cert.AdamAdaRefIdeal.main_v13) = v3 c
          ∧ r.2.mem ((c.tc : Thread Cert.AdamAdaRefIdeal.nD Cert.AdamAdaRefIdeal.τ).loc Cert.AdamAdaRefIdeal.main_arg0) = m' ((c.tc : Thread Cert.AdamAdaRefIdeal.nD Cert.AdamAdaRefIdeal.τ).loc Cert.AdamAdaRefIdeal.main_arg0)
          ∧ r.2.mem ((c.tc : Thread Cert.AdamAdaRefIdeal.nD Cert.AdamAdaRefIdeal.τ).loc Cert.AdamAdaRefIdeal.main_arg1) = m' ((c.tc : Thread Cert.AdamAdaRefIdeal.nD Cert.AdamAdaRefIdeal.τ).loc Cert.AdamAdaRefIdeal.main_arg1)
          ∧ r.2.mem ((c.tc : Thread Cert.AdamAdaRefIdeal.nD Cert.AdamAdaRefIdeal.τ).loc Cert.AdamAdaRefIdeal.main_arg2) = m' ((c.tc : Thread Cert.AdamAdaRefIdeal.nD Cert.AdamAdaRefIdeal.τ).loc Cert.AdamAdaRefIdeal.main_arg2)
          ∧ r.2.mem ((c.tc : Thread Cert.AdamAdaRefIdeal.nD Cert.AdamAdaRefIdeal.τ).loc Cert.AdamAdaRefIdeal.main_arg3) = m' ((c.tc : Thread Cert.AdamAdaRefIdeal.nD Cert.AdamAdaRefIdeal.τ).loc Cert.AdamAdaRefIdeal.main_arg3)
          ∧ r.2.mem ((c.tc : Thread Cert.AdamAdaRefIdeal.nD Cert.AdamAdaRefIdeal.τ).loc Cert.AdamAdaRefIdeal.main_arg4) = m' ((c.tc : Thread Cert.AdamAdaRefIdeal.nD Cert.AdamAdaRefIdeal.τ).loc Cert.AdamAdaRefIdeal.main_arg4))

def preserves_AdamSh_AdamShIdeal : Prop :=
  True

def algebraic_AdamShIdeal_AdamShRefIdeal [hAdamShIdeal : Cert.AdamShIdeal.Facts] [hAdamShRefIdeal : Cert.AdamShRefIdeal.Facts] : Prop :=
  ∀ (m : (ℓ : Loc Cert.AdamShIdeal.nD Cert.AdamShIdeal.τ Cert.AdamShIdeal.sig) → Buf (Elt Ideal) ℓ) (g : Dev Cert.AdamShIdeal.nD → PrngReg)
    (m' : (ℓ : Loc Cert.AdamShRefIdeal.nD Cert.AdamShRefIdeal.τ Cert.AdamShRefIdeal.sig) → Buf (Elt Ideal) ℓ) (g' : Dev Cert.AdamShRefIdeal.nD → PrngReg), Pre_AdamShIdeal m →
    (∀ c : Dev Cert.AdamShIdeal.nD,
      m' ((c.tc : Thread Cert.AdamShRefIdeal.nD Cert.AdamShRefIdeal.τ).loc Cert.AdamShRefIdeal.main_arg0) = m ((c.tc : Thread Cert.AdamShIdeal.nD Cert.AdamShIdeal.τ).loc Cert.AdamShIdeal.main_arg0)
      ∧ m' ((c.tc : Thread Cert.AdamShRefIdeal.nD Cert.AdamShRefIdeal.τ).loc Cert.AdamShRefIdeal.main_arg1) = m ((c.tc : Thread Cert.AdamShIdeal.nD Cert.AdamShIdeal.τ).loc Cert.AdamShIdeal.main_arg1)
      ∧ m' ((c.tc : Thread Cert.AdamShRefIdeal.nD Cert.AdamShRefIdeal.τ).loc Cert.AdamShRefIdeal.main_arg2) = m ((c.tc : Thread Cert.AdamShIdeal.nD Cert.AdamShIdeal.τ).loc Cert.AdamShIdeal.main_arg2)
      ∧ m' ((c.tc : Thread Cert.AdamShRefIdeal.nD Cert.AdamShRefIdeal.τ).loc Cert.AdamShRefIdeal.main_arg3) = m ((c.tc : Thread Cert.AdamShIdeal.nD Cert.AdamShIdeal.τ).loc Cert.AdamShIdeal.main_arg3)
      ∧ m' ((c.tc : Thread Cert.AdamShRefIdeal.nD Cert.AdamShRefIdeal.τ).loc Cert.AdamShRefIdeal.main_arg4) = m ((c.tc : Thread Cert.AdamShIdeal.nD Cert.AdamShIdeal.τ).loc Cert.AdamShIdeal.main_arg4)) →
    ∃ (v0 : (c : Dev Cert.AdamShIdeal.nD) → Buf (Elt Ideal) ((c.tc : Thread Cert.AdamShIdeal.nD Cert.AdamShIdeal.τ).loc Cert.AdamShIdeal.main_v0_0)) (v1 : (c : Dev Cert.AdamShIdeal.nD) → Buf (Elt Ideal) ((c.tc : Thread Cert.AdamShIdeal.nD Cert.AdamShIdeal.τ).loc Cert.AdamShIdeal.main_v0_1)) (v2 : (c : Dev Cert.AdamShIdeal.nD) → Buf (Elt Ideal) ((c.tc : Thread Cert.AdamShIdeal.nD Cert.AdamShIdeal.τ).loc Cert.AdamShIdeal.main_v0_2)) (v3 : (c : Dev Cert.AdamShIdeal.nD) → Buf (Elt Ideal) ((c.tc : Thread Cert.AdamShIdeal.nD Cert.AdamShIdeal.τ).loc Cert.AdamShIdeal.main_v0_3)),
      θ_run (Cert.AdamShIdeal.defs (F := Ideal)) (onTc (τ := Cert.AdamShIdeal.τ) (Cert.AdamShIdeal.main (F := Ideal))) ⟨m, fun _ => 0, g⟩ (fun r => ∀ c : Dev Cert.AdamShIdeal.nD,
          r.2.mem ((c.tc : Thread Cert.AdamShIdeal.nD Cert.AdamShIdeal.τ).loc Cert.AdamShIdeal.main_v0_0) = v0 c
          ∧ r.2.mem ((c.tc : Thread Cert.AdamShIdeal.nD Cert.AdamShIdeal.τ).loc Cert.AdamShIdeal.main_v0_1) = v1 c
          ∧ r.2.mem ((c.tc : Thread Cert.AdamShIdeal.nD Cert.AdamShIdeal.τ).loc Cert.AdamShIdeal.main_v0_2) = v2 c
          ∧ r.2.mem ((c.tc : Thread Cert.AdamShIdeal.nD Cert.AdamShIdeal.τ).loc Cert.AdamShIdeal.main_v0_3) = v3 c
          ∧ r.2.mem ((c.tc : Thread Cert.AdamShIdeal.nD Cert.AdamShIdeal.τ).loc Cert.AdamShIdeal.main_arg0) = m ((c.tc : Thread Cert.AdamShIdeal.nD Cert.AdamShIdeal.τ).loc Cert.AdamShIdeal.main_arg0)
          ∧ r.2.mem ((c.tc : Thread Cert.AdamShIdeal.nD Cert.AdamShIdeal.τ).loc Cert.AdamShIdeal.main_arg1) = m ((c.tc : Thread Cert.AdamShIdeal.nD Cert.AdamShIdeal.τ).loc Cert.AdamShIdeal.main_arg1)
          ∧ r.2.mem ((c.tc : Thread Cert.AdamShIdeal.nD Cert.AdamShIdeal.τ).loc Cert.AdamShIdeal.main_arg2) = m ((c.tc : Thread Cert.AdamShIdeal.nD Cert.AdamShIdeal.τ).loc Cert.AdamShIdeal.main_arg2)
          ∧ r.2.mem ((c.tc : Thread Cert.AdamShIdeal.nD Cert.AdamShIdeal.τ).loc Cert.AdamShIdeal.main_arg3) = m ((c.tc : Thread Cert.AdamShIdeal.nD Cert.AdamShIdeal.τ).loc Cert.AdamShIdeal.main_arg3)
          ∧ r.2.mem ((c.tc : Thread Cert.AdamShIdeal.nD Cert.AdamShIdeal.τ).loc Cert.AdamShIdeal.main_arg4) = m ((c.tc : Thread Cert.AdamShIdeal.nD Cert.AdamShIdeal.τ).loc Cert.AdamShIdeal.main_arg4))
      ∧ θ_run (Cert.AdamShRefIdeal.defs (F := Ideal)) (onTc (τ := Cert.AdamShRefIdeal.τ) (Cert.AdamShRefIdeal.main (F := Ideal))) ⟨m', fun _ => 0, g'⟩ (fun r => ∀ c : Dev Cert.AdamShRefIdeal.nD,
          r.2.mem ((c.tc : Thread Cert.AdamShRefIdeal.nD Cert.AdamShRefIdeal.τ).loc Cert.AdamShRefIdeal.main_v0) = v0 c
          ∧ r.2.mem ((c.tc : Thread Cert.AdamShRefIdeal.nD Cert.AdamShRefIdeal.τ).loc Cert.AdamShRefIdeal.main_v24) = v1 c
          ∧ r.2.mem ((c.tc : Thread Cert.AdamShRefIdeal.nD Cert.AdamShRefIdeal.τ).loc Cert.AdamShRefIdeal.main_v5) = v2 c
          ∧ r.2.mem ((c.tc : Thread Cert.AdamShRefIdeal.nD Cert.AdamShRefIdeal.τ).loc Cert.AdamShRefIdeal.main_v11) = v3 c
          ∧ r.2.mem ((c.tc : Thread Cert.AdamShRefIdeal.nD Cert.AdamShRefIdeal.τ).loc Cert.AdamShRefIdeal.main_arg0) = m' ((c.tc : Thread Cert.AdamShRefIdeal.nD Cert.AdamShRefIdeal.τ).loc Cert.AdamShRefIdeal.main_arg0)
          ∧ r.2.mem ((c.tc : Thread Cert.AdamShRefIdeal.nD Cert.AdamShRefIdeal.τ).loc Cert.AdamShRefIdeal.main_arg1) = m' ((c.tc : Thread Cert.AdamShRefIdeal.nD Cert.AdamShRefIdeal.τ).loc Cert.AdamShRefIdeal.main_arg1)
          ∧ r.2.mem ((c.tc : Thread Cert.AdamShRefIdeal.nD Cert.AdamShRefIdeal.τ).loc Cert.AdamShRefIdeal.main_arg2) = m' ((c.tc : Thread Cert.AdamShRefIdeal.nD Cert.AdamShRefIdeal.τ).loc Cert.AdamShRefIdeal.main_arg2)
          ∧ r.2.mem ((c.tc : Thread Cert.AdamShRefIdeal.nD Cert.AdamShRefIdeal.τ).loc Cert.AdamShRefIdeal.main_arg3) = m' ((c.tc : Thread Cert.AdamShRefIdeal.nD Cert.AdamShRefIdeal.τ).loc Cert.AdamShRefIdeal.main_arg3)
          ∧ r.2.mem ((c.tc : Thread Cert.AdamShRefIdeal.nD Cert.AdamShRefIdeal.τ).loc Cert.AdamShRefIdeal.main_arg4) = m' ((c.tc : Thread Cert.AdamShRefIdeal.nD Cert.AdamShRefIdeal.τ).loc Cert.AdamShRefIdeal.main_arg4))

def preserves_AdamSlab_AdamSlabIdeal : Prop :=
  True

def algebraic_AdamSlabIdeal_AdamSlabRefIdeal [hAdamSlabIdeal : Cert.AdamSlabIdeal.Facts] [hAdamSlabRefIdeal : Cert.AdamSlabRefIdeal.Facts] : Prop :=
  ∀ (m : (ℓ : Loc Cert.AdamSlabIdeal.nD Cert.AdamSlabIdeal.τ Cert.AdamSlabIdeal.sig) → Buf (Elt Ideal) ℓ) (g : Dev Cert.AdamSlabIdeal.nD → PrngReg)
    (m' : (ℓ : Loc Cert.AdamSlabRefIdeal.nD Cert.AdamSlabRefIdeal.τ Cert.AdamSlabRefIdeal.sig) → Buf (Elt Ideal) ℓ) (g' : Dev Cert.AdamSlabRefIdeal.nD → PrngReg), Pre_AdamSlabIdeal m →
    (∀ c : Dev Cert.AdamSlabIdeal.nD,
      m' ((c.tc : Thread Cert.AdamSlabRefIdeal.nD Cert.AdamSlabRefIdeal.τ).loc Cert.AdamSlabRefIdeal.main_arg0) = m ((c.tc : Thread Cert.AdamSlabIdeal.nD Cert.AdamSlabIdeal.τ).loc Cert.AdamSlabIdeal.main_arg0)
      ∧ m' ((c.tc : Thread Cert.AdamSlabRefIdeal.nD Cert.AdamSlabRefIdeal.τ).loc Cert.AdamSlabRefIdeal.main_arg1) = m ((c.tc : Thread Cert.AdamSlabIdeal.nD Cert.AdamSlabIdeal.τ).loc Cert.AdamSlabIdeal.main_arg1)
      ∧ m' ((c.tc : Thread Cert.AdamSlabRefIdeal.nD Cert.AdamSlabRefIdeal.τ).loc Cert.AdamSlabRefIdeal.main_arg2) = m ((c.tc : Thread Cert.AdamSlabIdeal.nD Cert.AdamSlabIdeal.τ).loc Cert.AdamSlabIdeal.main_arg2)
      ∧ m' ((c.tc : Thread Cert.AdamSlabRefIdeal.nD Cert.AdamSlabRefIdeal.τ).loc Cert.AdamSlabRefIdeal.main_arg3) = m ((c.tc : Thread Cert.AdamSlabIdeal.nD Cert.AdamSlabIdeal.τ).loc Cert.AdamSlabIdeal.main_arg3)) →
    ∃ (v0 : (c : Dev Cert.AdamSlabIdeal.nD) → Buf (Elt Ideal) ((c.tc : Thread Cert.AdamSlabIdeal.nD Cert.AdamSlabIdeal.τ).loc Cert.AdamSlabIdeal.main_v0_0)) (v1 : (c : Dev Cert.AdamSlabIdeal.nD) → Buf (Elt Ideal) ((c.tc : Thread Cert.AdamSlabIdeal.nD Cert.AdamSlabIdeal.τ).loc Cert.AdamSlabIdeal.main_v0_1)) (v2 : (c : Dev Cert.AdamSlabIdeal.nD) → Buf (Elt Ideal) ((c.tc : Thread Cert.AdamSlabIdeal.nD Cert.AdamSlabIdeal.τ).loc Cert.AdamSlabIdeal.main_v0_2)),
      θ_run (Cert.AdamSlabIdeal.defs (F := Ideal)) (onTc (τ := Cert.AdamSlabIdeal.τ) (Cert.AdamSlabIdeal.main (F := Ideal))) ⟨m, fun _ => 0, g⟩ (fun r => ∀ c : Dev Cert.AdamSlabIdeal.nD,
          r.2.mem ((c.tc : Thread Cert.AdamSlabIdeal.nD Cert.AdamSlabIdeal.τ).loc Cert.AdamSlabIdeal.main_v0_0) = v0 c
          ∧ r.2.mem ((c.tc : Thread Cert.AdamSlabIdeal.nD Cert.AdamSlabIdeal.τ).loc Cert.AdamSlabIdeal.main_v0_1) = v1 c
          ∧ r.2.mem ((c.tc : Thread Cert.AdamSlabIdeal.nD Cert.AdamSlabIdeal.τ).loc Cert.AdamSlabIdeal.main_v0_2) = v2 c
          ∧ r.2.mem ((c.tc : Thread Cert.AdamSlabIdeal.nD Cert.AdamSlabIdeal.τ).loc Cert.AdamSlabIdeal.main_arg0) = m ((c.tc : Thread Cert.AdamSlabIdeal.nD Cert.AdamSlabIdeal.τ).loc Cert.AdamSlabIdeal.main_arg0)
          ∧ r.2.mem ((c.tc : Thread Cert.AdamSlabIdeal.nD Cert.AdamSlabIdeal.τ).loc Cert.AdamSlabIdeal.main_arg1) = m ((c.tc : Thread Cert.AdamSlabIdeal.nD Cert.AdamSlabIdeal.τ).loc Cert.AdamSlabIdeal.main_arg1)
          ∧ r.2.mem ((c.tc : Thread Cert.AdamSlabIdeal.nD Cert.AdamSlabIdeal.τ).loc Cert.AdamSlabIdeal.main_arg2) = m ((c.tc : Thread Cert.AdamSlabIdeal.nD Cert.AdamSlabIdeal.τ).loc Cert.AdamSlabIdeal.main_arg2)
          ∧ r.2.mem ((c.tc : Thread Cert.AdamSlabIdeal.nD Cert.AdamSlabIdeal.τ).loc Cert.AdamSlabIdeal.main_arg3) = m ((c.tc : Thread Cert.AdamSlabIdeal.nD Cert.AdamSlabIdeal.τ).loc Cert.AdamSlabIdeal.main_arg3))
      ∧ θ_run (Cert.AdamSlabRefIdeal.defs (F := Ideal)) (onTc (τ := Cert.AdamSlabRefIdeal.τ) (Cert.AdamSlabRefIdeal.main (F := Ideal))) ⟨m', fun _ => 0, g'⟩ (fun r => ∀ c : Dev Cert.AdamSlabRefIdeal.nD,
          r.2.mem ((c.tc : Thread Cert.AdamSlabRefIdeal.nD Cert.AdamSlabRefIdeal.τ).loc Cert.AdamSlabRefIdeal.main_v23) = v0 c
          ∧ r.2.mem ((c.tc : Thread Cert.AdamSlabRefIdeal.nD Cert.AdamSlabRefIdeal.τ).loc Cert.AdamSlabRefIdeal.main_v4) = v1 c
          ∧ r.2.mem ((c.tc : Thread Cert.AdamSlabRefIdeal.nD Cert.AdamSlabRefIdeal.τ).loc Cert.AdamSlabRefIdeal.main_v10) = v2 c
          ∧ r.2.mem ((c.tc : Thread Cert.AdamSlabRefIdeal.nD Cert.AdamSlabRefIdeal.τ).loc Cert.AdamSlabRefIdeal.main_arg0) = m' ((c.tc : Thread Cert.AdamSlabRefIdeal.nD Cert.AdamSlabRefIdeal.τ).loc Cert.AdamSlabRefIdeal.main_arg0)
          ∧ r.2.mem ((c.tc : Thread Cert.AdamSlabRefIdeal.nD Cert.AdamSlabRefIdeal.τ).loc Cert.AdamSlabRefIdeal.main_arg1) = m' ((c.tc : Thread Cert.AdamSlabRefIdeal.nD Cert.AdamSlabRefIdeal.τ).loc Cert.AdamSlabRefIdeal.main_arg1)
          ∧ r.2.mem ((c.tc : Thread Cert.AdamSlabRefIdeal.nD Cert.AdamSlabRefIdeal.τ).loc Cert.AdamSlabRefIdeal.main_arg2) = m' ((c.tc : Thread Cert.AdamSlabRefIdeal.nD Cert.AdamSlabRefIdeal.τ).loc Cert.AdamSlabRefIdeal.main_arg2)
          ∧ r.2.mem ((c.tc : Thread Cert.AdamSlabRefIdeal.nD Cert.AdamSlabRefIdeal.τ).loc Cert.AdamSlabRefIdeal.main_arg3) = m' ((c.tc : Thread Cert.AdamSlabRefIdeal.nD Cert.AdamSlabRefIdeal.τ).loc Cert.AdamSlabRefIdeal.main_arg3))

def preserves_AdamPl_AdamPlIdeal : Prop :=
  True

def algebraic_AdamPlIdeal_AdamPlRefIdeal [hAdamPlIdeal : Cert.AdamPlIdeal.Facts] [hAdamPlRefIdeal : Cert.AdamPlRefIdeal.Facts] : Prop :=
  ∀ (m : (ℓ : Loc Cert.AdamPlIdeal.nD Cert.AdamPlIdeal.τ Cert.AdamPlIdeal.sig) → Buf (Elt Ideal) ℓ) (g : Dev Cert.AdamPlIdeal.nD → PrngReg)
    (m' : (ℓ : Loc Cert.AdamPlRefIdeal.nD Cert.AdamPlRefIdeal.τ Cert.AdamPlRefIdeal.sig) → Buf (Elt Ideal) ℓ) (g' : Dev Cert.AdamPlRefIdeal.nD → PrngReg), Pre_AdamPlIdeal m →
    (∀ c : Dev Cert.AdamPlIdeal.nD,
      m' ((c.tc : Thread Cert.AdamPlRefIdeal.nD Cert.AdamPlRefIdeal.τ).loc Cert.AdamPlRefIdeal.main_arg0) = m ((c.tc : Thread Cert.AdamPlIdeal.nD Cert.AdamPlIdeal.τ).loc Cert.AdamPlIdeal.main_arg0)
      ∧ m' ((c.tc : Thread Cert.AdamPlRefIdeal.nD Cert.AdamPlRefIdeal.τ).loc Cert.AdamPlRefIdeal.main_arg1) = m ((c.tc : Thread Cert.AdamPlIdeal.nD Cert.AdamPlIdeal.τ).loc Cert.AdamPlIdeal.main_arg1)
      ∧ m' ((c.tc : Thread Cert.AdamPlRefIdeal.nD Cert.AdamPlRefIdeal.τ).loc Cert.AdamPlRefIdeal.main_arg2) = m ((c.tc : Thread Cert.AdamPlIdeal.nD Cert.AdamPlIdeal.τ).loc Cert.AdamPlIdeal.main_arg2)
      ∧ m' ((c.tc : Thread Cert.AdamPlRefIdeal.nD Cert.AdamPlRefIdeal.τ).loc Cert.AdamPlRefIdeal.main_arg3) = m ((c.tc : Thread Cert.AdamPlIdeal.nD Cert.AdamPlIdeal.τ).loc Cert.AdamPlIdeal.main_arg3)) →
    ∃ (v0 : (c : Dev Cert.AdamPlIdeal.nD) → Buf (Elt Ideal) ((c.tc : Thread Cert.AdamPlIdeal.nD Cert.AdamPlIdeal.τ).loc Cert.AdamPlIdeal.main_v0_0)) (v1 : (c : Dev Cert.AdamPlIdeal.nD) → Buf (Elt Ideal) ((c.tc : Thread Cert.AdamPlIdeal.nD Cert.AdamPlIdeal.τ).loc Cert.AdamPlIdeal.main_v0_1)) (v2 : (c : Dev Cert.AdamPlIdeal.nD) → Buf (Elt Ideal) ((c.tc : Thread Cert.AdamPlIdeal.nD Cert.AdamPlIdeal.τ).loc Cert.AdamPlIdeal.main_v0_2)),
      θ_run (Cert.AdamPlIdeal.defs (F := Ideal)) (onTc (τ := Cert.AdamPlIdeal.τ) (Cert.AdamPlIdeal.main (F := Ideal))) ⟨m, fun _ => 0, g⟩ (fun r => ∀ c : Dev Cert.AdamPlIdeal.nD,
          r.2.mem ((c.tc : Thread Cert.AdamPlIdeal.nD Cert.AdamPlIdeal.τ).loc Cert.AdamPlIdeal.main_v0_0) = v0 c
          ∧ r.2.mem ((c.tc : Thread Cert.AdamPlIdeal.nD Cert.AdamPlIdeal.τ).loc Cert.AdamPlIdeal.main_v0_1) = v1 c
          ∧ r.2.mem ((c.tc : Thread Cert.AdamPlIdeal.nD Cert.AdamPlIdeal.τ).loc Cert.AdamPlIdeal.main_v0_2) = v2 c
          ∧ r.2.mem ((c.tc : Thread Cert.AdamPlIdeal.nD Cert.AdamPlIdeal.τ).loc Cert.AdamPlIdeal.main_arg0) = m ((c.tc : Thread Cert.AdamPlIdeal.nD Cert.AdamPlIdeal.τ).loc Cert.AdamPlIdeal.main_arg0)
          ∧ r.2.mem ((c.tc : Thread Cert.AdamPlIdeal.nD Cert.AdamPlIdeal.τ).loc Cert.AdamPlIdeal.main_arg1) = m ((c.tc : Thread Cert.AdamPlIdeal.nD Cert.AdamPlIdeal.τ).loc Cert.AdamPlIdeal.main_arg1)
          ∧ r.2.mem ((c.tc : Thread Cert.AdamPlIdeal.nD Cert.AdamPlIdeal.τ).loc Cert.AdamPlIdeal.main_arg2) = m ((c.tc : Thread Cert.AdamPlIdeal.nD Cert.AdamPlIdeal.τ).loc Cert.AdamPlIdeal.main_arg2)
          ∧ r.2.mem ((c.tc : Thread Cert.AdamPlIdeal.nD Cert.AdamPlIdeal.τ).loc Cert.AdamPlIdeal.main_arg3) = m ((c.tc : Thread Cert.AdamPlIdeal.nD Cert.AdamPlIdeal.τ).loc Cert.AdamPlIdeal.main_arg3))
      ∧ θ_run (Cert.AdamPlRefIdeal.defs (F := Ideal)) (onTc (τ := Cert.AdamPlRefIdeal.τ) (Cert.AdamPlRefIdeal.main (F := Ideal))) ⟨m', fun _ => 0, g'⟩ (fun r => ∀ c : Dev Cert.AdamPlRefIdeal.nD,
          r.2.mem ((c.tc : Thread Cert.AdamPlRefIdeal.nD Cert.AdamPlRefIdeal.τ).loc Cert.AdamPlRefIdeal.main_v23) = v0 c
          ∧ r.2.mem ((c.tc : Thread Cert.AdamPlRefIdeal.nD Cert.AdamPlRefIdeal.τ).loc Cert.AdamPlRefIdeal.main_v4) = v1 c
          ∧ r.2.mem ((c.tc : Thread Cert.AdamPlRefIdeal.nD Cert.AdamPlRefIdeal.τ).loc Cert.AdamPlRefIdeal.main_v10) = v2 c
          ∧ r.2.mem ((c.tc : Thread Cert.AdamPlRefIdeal.nD Cert.AdamPlRefIdeal.τ).loc Cert.AdamPlRefIdeal.main_arg0) = m' ((c.tc : Thread Cert.AdamPlRefIdeal.nD Cert.AdamPlRefIdeal.τ).loc Cert.AdamPlRefIdeal.main_arg0)
          ∧ r.2.mem ((c.tc : Thread Cert.AdamPlRefIdeal.nD Cert.AdamPlRefIdeal.τ).loc Cert.AdamPlRefIdeal.main_arg1) = m' ((c.tc : Thread Cert.AdamPlRefIdeal.nD Cert.AdamPlRefIdeal.τ).loc Cert.AdamPlRefIdeal.main_arg1)
          ∧ r.2.mem ((c.tc : Thread Cert.AdamPlRefIdeal.nD Cert.AdamPlRefIdeal.τ).loc Cert.AdamPlRefIdeal.main_arg2) = m' ((c.tc : Thread Cert.AdamPlRefIdeal.nD Cert.AdamPlRefIdeal.τ).loc Cert.AdamPlRefIdeal.main_arg2)
          ∧ r.2.mem ((c.tc : Thread Cert.AdamPlRefIdeal.nD Cert.AdamPlRefIdeal.τ).loc Cert.AdamPlRefIdeal.main_arg3) = m' ((c.tc : Thread Cert.AdamPlRefIdeal.nD Cert.AdamPlRefIdeal.τ).loc Cert.AdamPlRefIdeal.main_arg3))

def preserves_Red4_Red4Ideal : Prop :=
  True

def algebraic_Red4Ideal_Red4RefIdeal [hRed4Ideal : Cert.Red4Ideal.Facts] [hRed4RefIdeal : Cert.Red4RefIdeal.Facts] : Prop :=
  ∀ (m : (ℓ : Loc Cert.Red4Ideal.nD Cert.Red4Ideal.τ Cert.Red4Ideal.sig) → Buf (Elt Ideal) ℓ) (g : Dev Cert.Red4Ideal.nD → PrngReg)
    (m' : (ℓ : Loc Cert.Red4RefIdeal.nD Cert.Red4RefIdeal.τ Cert.Red4RefIdeal.sig) → Buf (Elt Ideal) ℓ) (g' : Dev Cert.Red4RefIdeal.nD → PrngReg), Pre_Red4Ideal m →
    (∀ c : Dev Cert.Red4Ideal.nD,
      m' ((c.tc : Thread Cert.Red4RefIdeal.nD Cert.Red4RefIdeal.τ).loc Cert.Red4RefIdeal.main_arg0) = m ((c.tc : Thread Cert.Red4Ideal.nD Cert.Red4Ideal.τ).loc Cert.Red4Ideal.main_arg0)) →
    ∃ (v0 : (c : Dev Cert.Red4Ideal.nD) → Buf (Elt Ideal) ((c.tc : Thread Cert.Red4Ideal.nD Cert.Red4Ideal.τ).loc Cert.Red4Ideal.main_v0)),
      θ_run (Cert.Red4Ideal.defs (F := Ideal)) (onTc (τ := Cert.Red4Ideal.τ) (Cert.Red4Ideal.main (F := Ideal))) ⟨m, fun _ => 0, g⟩ (fun r => ∀ c : Dev Cert.Red4Ideal.nD,
          r.2.mem ((c.tc : Thread Cert.Red4Ideal.nD Cert.Red4Ideal.τ).loc Cert.Red4Ideal.main_v0) = v0 c
          ∧ r.2.mem ((c.tc : Thread Cert.Red4Ideal.nD Cert.Red4Ideal.τ).loc Cert.Red4Ideal.main_arg0) = m ((c.tc : Thread Cert.Red4Ideal.nD Cert.Red4Ideal.τ).loc Cert.Red4Ideal.main_arg0))
      ∧ θ_run (Cert.Red4RefIdeal.defs (F := Ideal)) (onTc (τ := Cert.Red4RefIdeal.τ) (Cert.Red4RefIdeal.main (F := Ideal))) ⟨m', fun _ => 0, g'⟩ (fun r => ∀ c : Dev Cert.Red4RefIdeal.nD,
          r.2.mem ((c.tc : Thread Cert.Red4RefIdeal.nD Cert.Red4RefIdeal.τ).loc Cert.Red4RefIdeal.main_v1) = v0 c
          ∧ r.2.mem ((c.tc : Thread Cert.Red4RefIdeal.nD Cert.Red4RefIdeal.τ).loc Cert.Red4RefIdeal.main_arg0) = m' ((c.tc : Thread Cert.Red4RefIdeal.nD Cert.Red4RefIdeal.τ).loc Cert.Red4RefIdeal.main_arg0))

def preserves_Sum8_Sum8Ideal : Prop :=
  True

def algebraic_Sum8Ideal_Sum8RefIdeal [hSum8Ideal : Cert.Sum8Ideal.Facts] [hSum8RefIdeal : Cert.Sum8RefIdeal.Facts] : Prop :=
  ∀ (m : (ℓ : Loc Cert.Sum8Ideal.nD Cert.Sum8Ideal.τ Cert.Sum8Ideal.sig) → Buf (Elt Ideal) ℓ) (g : Dev Cert.Sum8Ideal.nD → PrngReg)
    (m' : (ℓ : Loc Cert.Sum8RefIdeal.nD Cert.Sum8RefIdeal.τ Cert.Sum8RefIdeal.sig) → Buf (Elt Ideal) ℓ) (g' : Dev Cert.Sum8RefIdeal.nD → PrngReg), Pre_Sum8Ideal m →
    (∀ c : Dev Cert.Sum8Ideal.nD,
      m' ((c.tc : Thread Cert.Sum8RefIdeal.nD Cert.Sum8RefIdeal.τ).loc Cert.Sum8RefIdeal.main_arg0) = m ((c.tc : Thread Cert.Sum8Ideal.nD Cert.Sum8Ideal.τ).loc Cert.Sum8Ideal.main_arg0)) →
    ∃ (v0 : (c : Dev Cert.Sum8Ideal.nD) → Buf (Elt Ideal) ((c.tc : Thread Cert.Sum8Ideal.nD Cert.Sum8Ideal.τ).loc Cert.Sum8Ideal.main_v0)),
      θ_run (Cert.Sum8Ideal.defs (F := Ideal)) (onTc (τ := Cert.Sum8Ideal.τ) (Cert.Sum8Ideal.main (F := Ideal))) ⟨m, fun _ => 0, g⟩ (fun r => ∀ c : Dev Cert.Sum8Ideal.nD,
          r.2.mem ((c.tc : Thread Cert.Sum8Ideal.nD Cert.Sum8Ideal.τ).loc Cert.Sum8Ideal.main_v0) = v0 c
          ∧ r.2.mem ((c.tc : Thread Cert.Sum8Ideal.nD Cert.Sum8Ideal.τ).loc Cert.Sum8Ideal.main_arg0) = m ((c.tc : Thread Cert.Sum8Ideal.nD Cert.Sum8Ideal.τ).loc Cert.Sum8Ideal.main_arg0))
      ∧ θ_run (Cert.Sum8RefIdeal.defs (F := Ideal)) (onTc (τ := Cert.Sum8RefIdeal.τ) (Cert.Sum8RefIdeal.main (F := Ideal))) ⟨m', fun _ => 0, g'⟩ (fun r => ∀ c : Dev Cert.Sum8RefIdeal.nD,
          r.2.mem ((c.tc : Thread Cert.Sum8RefIdeal.nD Cert.Sum8RefIdeal.τ).loc Cert.Sum8RefIdeal.main_v0) = v0 c
          ∧ r.2.mem ((c.tc : Thread Cert.Sum8RefIdeal.nD Cert.Sum8RefIdeal.τ).loc Cert.Sum8RefIdeal.main_arg0) = m' ((c.tc : Thread Cert.Sum8RefIdeal.nD Cert.Sum8RefIdeal.τ).loc Cert.Sum8RefIdeal.main_arg0))

def preserves_Swap_SwapIdeal : Prop :=
  True

def algebraic_SwapIdeal_SwapRefIdeal [hSwapIdeal : Cert.SwapIdeal.Facts] [hSwapRefIdeal : Cert.SwapRefIdeal.Facts] : Prop :=
  ∀ (m : (ℓ : Loc Cert.SwapIdeal.nD Cert.SwapIdeal.τ Cert.SwapIdeal.sig) → Buf (Elt Ideal) ℓ) (g : Dev Cert.SwapIdeal.nD → PrngReg)
    (m' : (ℓ : Loc Cert.SwapRefIdeal.nD Cert.SwapRefIdeal.τ Cert.SwapRefIdeal.sig) → Buf (Elt Ideal) ℓ) (g' : Dev Cert.SwapRefIdeal.nD → PrngReg), Pre_SwapIdeal m →
    (∀ c : Dev Cert.SwapIdeal.nD,
      m ((c.tc : Thread Cert.SwapIdeal.nD Cert.SwapIdeal.τ).loc Cert.SwapIdeal.main_arg0) = Layout.blockN ⟨3, ![2, 1024, 512]⟩ ⟨3, ![4, 1024, 512]⟩ (Layout.meshBlock [1, 1, 2] ![[2], [], []] c) (m' (((0 : Dev Cert.SwapRefIdeal.nD).tc : Thread Cert.SwapRefIdeal.nD Cert.SwapRefIdeal.τ).loc Cert.SwapRefIdeal.main_arg0))) →
    ∃ (v0 : Buf (Elt Ideal) (((0 : Dev Cert.SwapRefIdeal.nD).tc : Thread Cert.SwapRefIdeal.nD Cert.SwapRefIdeal.τ).loc Cert.SwapRefIdeal.main_v2)),
      θ_run (Cert.SwapIdeal.defs (F := Ideal)) (onTc (τ := Cert.SwapIdeal.τ) (Cert.SwapIdeal.main (F := Ideal))) ⟨m, fun _ => 0, g⟩ (fun r => ∀ c : Dev Cert.SwapIdeal.nD,
          r.2.mem ((c.tc : Thread Cert.SwapIdeal.nD Cert.SwapIdeal.τ).loc Cert.SwapIdeal.main_v1) = Layout.blockN ⟨3, ![2, 1024, 512]⟩ ⟨3, ![4, 1024, 512]⟩ (Layout.meshBlock [1, 1, 2] ![[2], [], []] c) v0
          ∧ r.2.mem ((c.tc : Thread Cert.SwapIdeal.nD Cert.SwapIdeal.τ).loc Cert.SwapIdeal.main_arg0) = m ((c.tc : Thread Cert.SwapIdeal.nD Cert.SwapIdeal.τ).loc Cert.SwapIdeal.main_arg0))
      ∧ θ_run (Cert.SwapRefIdeal.defs (F := Ideal)) (onTc (τ := Cert.SwapRefIdeal.τ) (Cert.SwapRefIdeal.main (F := Ideal))) ⟨m', fun _ => 0, g'⟩ (fun r =>
          r.2.mem (((0 : Dev Cert.SwapRefIdeal.nD).tc : Thread Cert.SwapRefIdeal.nD Cert.SwapRefIdeal.τ).loc Cert.SwapRefIdeal.main_v2) = v0
          ∧ r.2.mem (((0 : Dev Cert.SwapRefIdeal.nD).tc : Thread Cert.SwapRefIdeal.nD Cert.SwapRefIdeal.τ).loc Cert.SwapRefIdeal.main_arg0) = m' (((0 : Dev Cert.SwapRefIdeal.nD).tc : Thread Cert.SwapRefIdeal.nD Cert.SwapRefIdeal.τ).loc Cert.SwapRefIdeal.main_arg0))

def preserves_S5b_S5bIdeal : Prop :=
  True

def Claim : Prop :=
  ∃ (hGlu : Cert.Glu.Facts) (hGluIdeal : Cert.GluIdeal.Facts) (hGluRefIdeal : Cert.GluRefIdeal.Facts) (hConv : Cert.Conv.Facts) (hConvIdeal : Cert.ConvIdeal.Facts) (hConvRefIdeal : Cert.ConvRefIdeal.Facts) (hFfn : Cert.Ffn.Facts) (hFfnIdeal : Cert.FfnIdeal.Facts) (hFfnRefIdeal : Cert.FfnRefIdeal.Facts) (hNorm : Cert.Norm.Facts) (hNormIdeal : Cert.NormIdeal.Facts) (hNormRefIdeal : Cert.NormRefIdeal.Facts) (hBranch : Cert.Branch.Facts) (hBranchIdeal : Cert.BranchIdeal.Facts) (hBranchRefIdeal : Cert.BranchRefIdeal.Facts) (hJoin : Cert.Join.Facts) (hJoinIdeal : Cert.JoinIdeal.Facts) (hJoinRefIdeal : Cert.JoinRefIdeal.Facts) (hLoss : Cert.Loss.Facts) (hLossIdeal : Cert.LossIdeal.Facts) (hLossRefIdeal : Cert.LossRefIdeal.Facts) (hS5f : Cert.S5f.Facts) (hS5fIdeal : Cert.S5fIdeal.Facts) (hS5fRefIdeal : Cert.S5fRefIdeal.Facts) (hOutGlu : Cert.OutGlu.Facts) (hOutGluIdeal : Cert.OutGluIdeal.Facts) (hOutGluRefIdeal : Cert.OutGluRefIdeal.Facts) (hFfnIn : Cert.FfnIn.Facts) (hFfnInIdeal : Cert.FfnInIdeal.Facts) (hFfnInRefIdeal : Cert.FfnInRefIdeal.Facts) (hConvF : Cert.ConvF.Facts) (hConvFIdeal : Cert.ConvFIdeal.Facts) (hConvFRefIdeal : Cert.ConvFRefIdeal.Facts) (hNormF : Cert.NormF.Facts) (hNormFIdeal : Cert.NormFIdeal.Facts) (hNormFRefIdeal : Cert.NormFRefIdeal.Facts) (hAda : Cert.Ada.Facts) (hAdaIdeal : Cert.AdaIdeal.Facts) (hAdaRefIdeal : Cert.AdaRefIdeal.Facts) (hMmRes : Cert.MmRes.Facts) (hMmResIdeal : Cert.MmResIdeal.Facts) (hMmResRefIdeal : Cert.MmResRefIdeal.Facts) (hMmNN : Cert.MmNN.Facts) (hMmNNIdeal : Cert.MmNNIdeal.Facts) (hMmNNRefIdeal : Cert.MmNNRefIdeal.Facts) (hMmNT : Cert.MmNT.Facts) (hMmNTIdeal : Cert.MmNTIdeal.Facts) (hMmNTRefIdeal : Cert.MmNTRefIdeal.Facts) (hMmTN : Cert.MmTN.Facts) (hMmTNIdeal : Cert.MmTNIdeal.Facts) (hMmTNRefIdeal : Cert.MmTNRefIdeal.Facts) (hAdamAda : Cert.AdamAda.Facts) (hAdamAdaIdeal : Cert.AdamAdaIdeal.Facts) (hAdamAdaRefIdeal : Cert.AdamAdaRefIdeal.Facts) (hAdamSh : Cert.AdamSh.Facts) (hAdamShIdeal : Cert.AdamShIdeal.Facts) (hAdamShRefIdeal : Cert.AdamShRefIdeal.Facts) (hAdamSlab : Cert.AdamSlab.Facts) (hAdamSlabIdeal : Cert.AdamSlabIdeal.Facts) (hAdamSlabRefIdeal : Cert.AdamSlabRefIdeal.Facts) (hAdamPl : Cert.AdamPl.Facts) (hAdamPlIdeal : Cert.AdamPlIdeal.Facts) (hAdamPlRefIdeal : Cert.AdamPlRefIdeal.Facts) (hRed4 : Cert.Red4.Facts) (hRed4Ideal : Cert.Red4Ideal.Facts) (hRed4RefIdeal : Cert.Red4RefIdeal.Facts) (hSum8 : Cert.Sum8.Facts) (hSum8Ideal : Cert.Sum8Ideal.Facts) (hSum8RefIdeal : Cert.Sum8RefIdeal.Facts) (hSwap : Cert.Swap.Facts) (hSwapIdeal : Cert.SwapIdeal.Facts) (hSwapRefIdeal : Cert.SwapRefIdeal.Facts) (hS5b : Cert.S5b.Facts) (hS5bIdeal : Cert.S5bIdeal.Facts) (hPre_ffn_finite : Cert.Pre_ffn_finite.Facts) (hPre_s5_finite : Cert.Pre_s5_finite.Facts),
    quiescent_Glu (hGlu := hGlu)
    ∧ quiescent_GluIdeal (hGluIdeal := hGluIdeal)
    ∧ quiescent_GluRefIdeal (hGluRefIdeal := hGluRefIdeal)
    ∧ quiescent_Conv (hConv := hConv)
    ∧ quiescent_ConvIdeal (hConvIdeal := hConvIdeal)
    ∧ quiescent_ConvRefIdeal (hConvRefIdeal := hConvRefIdeal)
    ∧ quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_Norm (hNorm := hNorm)
    ∧ quiescent_NormIdeal (hNormIdeal := hNormIdeal)
    ∧ quiescent_NormRefIdeal (hNormRefIdeal := hNormRefIdeal)
    ∧ quiescent_Branch (hBranch := hBranch)
    ∧ quiescent_BranchIdeal (hBranchIdeal := hBranchIdeal)
    ∧ quiescent_BranchRefIdeal (hBranchRefIdeal := hBranchRefIdeal)
    ∧ quiescent_Join (hJoin := hJoin)
    ∧ quiescent_JoinIdeal (hJoinIdeal := hJoinIdeal)
    ∧ quiescent_JoinRefIdeal (hJoinRefIdeal := hJoinRefIdeal)
    ∧ quiescent_Loss (hLoss := hLoss)
    ∧ quiescent_LossIdeal (hLossIdeal := hLossIdeal)
    ∧ quiescent_LossRefIdeal (hLossRefIdeal := hLossRefIdeal)
    ∧ quiescent_S5f (hS5f := hS5f)
    ∧ quiescent_S5fIdeal (hS5fIdeal := hS5fIdeal)
    ∧ quiescent_S5fIdeal_pre_s5_finite (hS5fIdeal := hS5fIdeal) (hPre_s5_finite := hPre_s5_finite)
    ∧ quiescent_S5fRefIdeal (hS5fRefIdeal := hS5fRefIdeal)
    ∧ quiescent_S5fRefIdeal_pre_s5_finite (hS5fRefIdeal := hS5fRefIdeal) (hPre_s5_finite := hPre_s5_finite)
    ∧ quiescent_OutGlu (hOutGlu := hOutGlu)
    ∧ quiescent_OutGluIdeal (hOutGluIdeal := hOutGluIdeal)
    ∧ quiescent_OutGluRefIdeal (hOutGluRefIdeal := hOutGluRefIdeal)
    ∧ quiescent_FfnIn (hFfnIn := hFfnIn)
    ∧ quiescent_FfnInIdeal (hFfnInIdeal := hFfnInIdeal)
    ∧ quiescent_FfnInRefIdeal (hFfnInRefIdeal := hFfnInRefIdeal)
    ∧ quiescent_ConvF (hConvF := hConvF)
    ∧ quiescent_ConvFIdeal (hConvFIdeal := hConvFIdeal)
    ∧ quiescent_ConvFRefIdeal (hConvFRefIdeal := hConvFRefIdeal)
    ∧ quiescent_NormF (hNormF := hNormF)
    ∧ quiescent_NormFIdeal (hNormFIdeal := hNormFIdeal)
    ∧ quiescent_NormFRefIdeal (hNormFRefIdeal := hNormFRefIdeal)
    ∧ quiescent_Ada (hAda := hAda)
    ∧ quiescent_AdaIdeal (hAdaIdeal := hAdaIdeal)
    ∧ quiescent_AdaRefIdeal (hAdaRefIdeal := hAdaRefIdeal)
    ∧ quiescent_MmRes (hMmRes := hMmRes)
    ∧ quiescent_MmResIdeal (hMmResIdeal := hMmResIdeal)
    ∧ quiescent_MmResRefIdeal (hMmResRefIdeal := hMmResRefIdeal)
    ∧ quiescent_MmNN (hMmNN := hMmNN)
    ∧ quiescent_MmNNIdeal (hMmNNIdeal := hMmNNIdeal)
    ∧ quiescent_MmNNRefIdeal (hMmNNRefIdeal := hMmNNRefIdeal)
    ∧ quiescent_MmNT (hMmNT := hMmNT)
    ∧ quiescent_MmNTIdeal (hMmNTIdeal := hMmNTIdeal)
    ∧ quiescent_MmNTRefIdeal (hMmNTRefIdeal := hMmNTRefIdeal)
    ∧ quiescent_MmTN (hMmTN := hMmTN)
    ∧ quiescent_MmTNIdeal (hMmTNIdeal := hMmTNIdeal)
    ∧ quiescent_MmTNRefIdeal (hMmTNRefIdeal := hMmTNRefIdeal)
    ∧ quiescent_AdamAda (hAdamAda := hAdamAda)
    ∧ quiescent_AdamAdaIdeal (hAdamAdaIdeal := hAdamAdaIdeal)
    ∧ quiescent_AdamAdaRefIdeal (hAdamAdaRefIdeal := hAdamAdaRefIdeal)
    ∧ quiescent_AdamSh (hAdamSh := hAdamSh)
    ∧ quiescent_AdamShIdeal (hAdamShIdeal := hAdamShIdeal)
    ∧ quiescent_AdamShRefIdeal (hAdamShRefIdeal := hAdamShRefIdeal)
    ∧ quiescent_AdamSlab (hAdamSlab := hAdamSlab)
    ∧ quiescent_AdamSlabIdeal (hAdamSlabIdeal := hAdamSlabIdeal)
    ∧ quiescent_AdamSlabRefIdeal (hAdamSlabRefIdeal := hAdamSlabRefIdeal)
    ∧ quiescent_AdamPl (hAdamPl := hAdamPl)
    ∧ quiescent_AdamPlIdeal (hAdamPlIdeal := hAdamPlIdeal)
    ∧ quiescent_AdamPlRefIdeal (hAdamPlRefIdeal := hAdamPlRefIdeal)
    ∧ quiescent_Red4 (hRed4 := hRed4)
    ∧ quiescent_Red4Ideal (hRed4Ideal := hRed4Ideal)
    ∧ quiescent_Red4RefIdeal (hRed4RefIdeal := hRed4RefIdeal)
    ∧ quiescent_Sum8 (hSum8 := hSum8)
    ∧ quiescent_Sum8Ideal (hSum8Ideal := hSum8Ideal)
    ∧ quiescent_Sum8RefIdeal (hSum8RefIdeal := hSum8RefIdeal)
    ∧ quiescent_Swap (hSwap := hSwap)
    ∧ quiescent_SwapIdeal (hSwapIdeal := hSwapIdeal)
    ∧ quiescent_SwapRefIdeal (hSwapRefIdeal := hSwapRefIdeal)
    ∧ quiescent_S5b (hS5b := hS5b)
    ∧ quiescent_S5bIdeal (hS5bIdeal := hS5bIdeal)
    ∧ preserves_Glu_GluIdeal
    ∧ algebraic_GluIdeal_GluRefIdeal (hGluIdeal := hGluIdeal) (hGluRefIdeal := hGluRefIdeal)
    ∧ preserves_Conv_ConvIdeal
    ∧ algebraic_ConvIdeal_ConvRefIdeal (hConvIdeal := hConvIdeal) (hConvRefIdeal := hConvRefIdeal)
    ∧ preserves_Ffn_FfnIdeal
    ∧ algebraic_FfnIdeal_FfnRefIdeal_pre_ffn_finite (hFfnIdeal := hFfnIdeal) (hFfnRefIdeal := hFfnRefIdeal) (hPre_ffn_finite := hPre_ffn_finite)
    ∧ preserves_Norm_NormIdeal
    ∧ algebraic_NormIdeal_NormRefIdeal (hNormIdeal := hNormIdeal) (hNormRefIdeal := hNormRefIdeal)
    ∧ preserves_Branch_BranchIdeal
    ∧ algebraic_BranchIdeal_BranchRefIdeal (hBranchIdeal := hBranchIdeal) (hBranchRefIdeal := hBranchRefIdeal)
    ∧ preserves_Join_JoinIdeal
    ∧ algebraic_JoinIdeal_JoinRefIdeal (hJoinIdeal := hJoinIdeal) (hJoinRefIdeal := hJoinRefIdeal)
    ∧ preserves_Loss_LossIdeal
    ∧ algebraic_LossIdeal_LossRefIdeal (hLossIdeal := hLossIdeal) (hLossRefIdeal := hLossRefIdeal)
    ∧ preserves_S5f_S5fIdeal
    ∧ algebraic_S5fIdeal_S5fRefIdeal_pre_s5_finite (hS5fIdeal := hS5fIdeal) (hS5fRefIdeal := hS5fRefIdeal) (hPre_s5_finite := hPre_s5_finite)
    ∧ preserves_OutGlu_OutGluIdeal
    ∧ algebraic_OutGluIdeal_OutGluRefIdeal (hOutGluIdeal := hOutGluIdeal) (hOutGluRefIdeal := hOutGluRefIdeal)
    ∧ preserves_FfnIn_FfnInIdeal
    ∧ algebraic_FfnInIdeal_FfnInRefIdeal (hFfnInIdeal := hFfnInIdeal) (hFfnInRefIdeal := hFfnInRefIdeal)
    ∧ preserves_ConvF_ConvFIdeal
    ∧ algebraic_ConvFIdeal_ConvFRefIdeal (hConvFIdeal := hConvFIdeal) (hConvFRefIdeal := hConvFRefIdeal)
    ∧ preserves_NormF_NormFIdeal
    ∧ algebraic_NormFIdeal_NormFRefIdeal (hNormFIdeal := hNormFIdeal) (hNormFRefIdeal := hNormFRefIdeal)
    ∧ preserves_Ada_AdaIdeal
    ∧ algebraic_AdaIdeal_AdaRefIdeal (hAdaIdeal := hAdaIdeal) (hAdaRefIdeal := hAdaRefIdeal)
    ∧ preserves_MmRes_MmResIdeal
    ∧ algebraic_MmResIdeal_MmResRefIdeal (hMmResIdeal := hMmResIdeal) (hMmResRefIdeal := hMmResRefIdeal)
    ∧ preserves_MmNN_MmNNIdeal
    ∧ algebraic_MmNNIdeal_MmNNRefIdeal (hMmNNIdeal := hMmNNIdeal) (hMmNNRefIdeal := hMmNNRefIdeal)
    ∧ preserves_MmNT_MmNTIdeal
    ∧ algebraic_MmNTIdeal_MmNTRefIdeal (hMmNTIdeal := hMmNTIdeal) (hMmNTRefIdeal := hMmNTRefIdeal)
    ∧ preserves_MmTN_MmTNIdeal
    ∧ algebraic_MmTNIdeal_MmTNRefIdeal (hMmTNIdeal := hMmTNIdeal) (hMmTNRefIdeal := hMmTNRefIdeal)
    ∧ preserves_AdamAda_AdamAdaIdeal
    ∧ algebraic_AdamAdaIdeal_AdamAdaRefIdeal (hAdamAdaIdeal := hAdamAdaIdeal) (hAdamAdaRefIdeal := hAdamAdaRefIdeal)
    ∧ preserves_AdamSh_AdamShIdeal
    ∧ algebraic_AdamShIdeal_AdamShRefIdeal (hAdamShIdeal := hAdamShIdeal) (hAdamShRefIdeal := hAdamShRefIdeal)
    ∧ preserves_AdamSlab_AdamSlabIdeal
    ∧ algebraic_AdamSlabIdeal_AdamSlabRefIdeal (hAdamSlabIdeal := hAdamSlabIdeal) (hAdamSlabRefIdeal := hAdamSlabRefIdeal)
    ∧ preserves_AdamPl_AdamPlIdeal
    ∧ algebraic_AdamPlIdeal_AdamPlRefIdeal (hAdamPlIdeal := hAdamPlIdeal) (hAdamPlRefIdeal := hAdamPlRefIdeal)
    ∧ preserves_Red4_Red4Ideal
    ∧ algebraic_Red4Ideal_Red4RefIdeal (hRed4Ideal := hRed4Ideal) (hRed4RefIdeal := hRed4RefIdeal)
    ∧ preserves_Sum8_Sum8Ideal
    ∧ algebraic_Sum8Ideal_Sum8RefIdeal (hSum8Ideal := hSum8Ideal) (hSum8RefIdeal := hSum8RefIdeal)
    ∧ preserves_Swap_SwapIdeal
    ∧ algebraic_SwapIdeal_SwapRefIdeal (hSwapIdeal := hSwapIdeal) (hSwapRefIdeal := hSwapRefIdeal)
    ∧ preserves_S5b_S5bIdeal
-- ==== Pre_ffn_finite.lean ====
abbrev S4096x1024 : Shape := ⟨2, ![4096, 1024]⟩
abbrev S2816x1024 : Shape := ⟨2, ![2816, 1024]⟩
abbrev S2x4096x2816 : Shape := ⟨3, ![2, 4096, 2816]⟩
abbrev S_ : Shape := ⟨0, ![]⟩
abbrev S1x4096x2816 : Shape := ⟨3, ![1, 4096, 2816]⟩
abbrev S4096x2816 : Shape := ⟨2, ![4096, 2816]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  slices_S2x4096x2816_S1x4096x2816_1_0_0 : S2x4096x2816.Slices ![1, 0, 0] S1x4096x2816
  shapeCasts_S1x4096x2816_S4096x2816 : S1x4096x2816.ShapeCasts S4096x2816
  bcast_S_S4096x2816 : S_.BroadcastsInDim S4096x2816 (![] : Fin 0 → Fin S4096x2816.rank)
  reducesTo_S4096x2816_S_d0_1 : S4096x2816.ReducesTo [0, 1] S_

variable [Facts]

def fn {F : FTy → Type} [FloatOps F] (main_arg0 : FVec F S4096x1024 .bf16) (main_arg1 : FVec F S2816x1024 .bf16) (main_arg2 : FVec F S2x4096x2816 .bf16) : IVec S_ 1 :=
  let main_v0 : FVec F S4096x1024 .bf16 := Host.absf main_arg0
  let main_cst : FVec F S_ .bf16 := constant S_ .bf16 0x7F80#16
  let main_v1 : FVec F S4096x1024 .bf16 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S2816x1024 .bf16 := Host.absf main_arg1
  let main_cst_0 : FVec F S_ .bf16 := constant S_ .bf16 0x7F80#16
  let main_v5 : FVec F S2816x1024 .bf16 := broadcastInDim S2816x1024 ![] bcast_S_S2816x1024 main_cst_0
  let main_v6 : IVec S2816x1024 1 := cmpf .olt main_v4 main_v5
  let main_c_1 : IVec S_ 1 := constantI S_ 1 1#1
  let main_v7 : IVec S_ 1 := (fun x v => Host.reduce IntOp.andi x v reducesTo_S2816x1024_S_d0_1 h_S_) main_v6 main_c_1
  let main_v8 : IVec S_ 1 := andi main_v3 main_v7
  let main_v9 : FVec F S1x4096x2816 .bf16 := (extractStridedSlice S1x4096x2816 ![1, 0, 0] · slices_S2x4096x2816_S1x4096x2816_1_0_0) main_arg2
  let main_v10 : FVec F S4096x2816 .bf16 := shapeCast S4096x2816 main_v9 shapeCasts_S1x4096x2816_S4096x2816
  let main_v11 : FVec F S4096x2816 .bf16 := Host.absf main_v10
  let main_cst_2 : FVec F S_ .bf16 := constant S_ .bf16 0x7F80#16
  let main_v12 : FVec F S4096x2816 .bf16 := broadcastInDim S4096x2816 ![] bcast_S_S4096x2816 main_cst_2
  let main_v13 : IVec S4096x2816 1 := cmpf .olt main_v11 main_v12
  let main_c_3 : IVec S_ 1 := constantI S_ 1 1#1
  let main_v14 : IVec S_ 1 := (fun x v => Host.reduce IntOp.andi x v reducesTo_S4096x2816_S_d0_1 h_S_) main_v13 main_c_3
  let main_v15 : IVec S_ 1 := andi main_v8 main_v14
  main_v15
-- ==== Pre_s5_finite.lean ====
abbrev S4096x1024 : Shape := ⟨2, ![4096, 1024]⟩
abbrev S64x64 : Shape := ⟨2, ![64, 64]⟩
abbrev S64 : Shape := ⟨1, ![64]⟩
abbrev S64x64x16 : Shape := ⟨3, ![64, 64, 16]⟩
abbrev S64x16x64 : Shape := ⟨3, ![64, 16, 64]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x64x16 : S_.BroadcastsInDim S64x64x16 (![] : Fin 0 → Fin S64x64x16.rank)
  reducesTo_S64x64x16_S_d0_1_2 : S64x64x16.ReducesTo [0, 1, 2] S_
  bcast_S_S64x16x64 : S_.BroadcastsInDim S64x16x64 (![] : Fin 0 → Fin S64x16x64.rank)
  reducesTo_S64x16x64_S_d0_1_2 : S64x16x64.ReducesTo [0, 1, 2] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_arg7 : FVec F S64x16x64 .f32) (main_arg8 : FVec F S1x1024 .f32) (main_v33 : IVec S_ 1) : IVec S_ 1 :=
  let main_v34 : FVec F S64x16x64 .f32 := Host.absf main_arg7
  let main_cst_12 : FVec F S_ .f32 := constant S_ .f32 0x7F800000#32
  let main_v35 : FVec F S64x16x64 .f32 := broadcastInDim S64x16x64 ![] bcast_S_S64x16x64 main_cst_12
  let main_v36 : IVec S64x16x64 1 := cmpf .olt main_v34 main_v35
  let main_c_13 : IVec S_ 1 := constantI S_ 1 1#1
  let main_v37 : IVec S_ 1 := (fun x v => Host.reduce IntOp.andi x v reducesTo_S64x16x64_S_d0_1_2 h_S_) main_v36 main_c_13
  let main_v38 : IVec S_ 1 := andi main_v33 main_v37
  let main_v39 : FVec F S1x1024 .f32 := Host.absf main_arg8
  let main_cst_14 : FVec F S_ .f32 := constant S_ .f32 0x7F800000#32
  let main_v40 : FVec F S1x1024 .f32 := broadcastInDim S1x1024 ![] bcast_S_S1x1024 main_cst_14
  let main_v41 : IVec S1x1024 1 := cmpf .olt main_v39 main_v40
  let main_c_15 : IVec S_ 1 := constantI S_ 1 1#1
  let main_v42 : IVec S_ 1 := (fun x v => Host.reduce IntOp.andi x v reducesTo_S1x1024_S_d0_1 h_S_) main_v41 main_c_15
  let main_v43 : IVec S_ 1 := andi main_v38 main_v42
  main_v43

def fn_part1 {F : FTy → Type} [FloatOps F] (main_arg4 : FVec F S64x64x16 .f32) (main_arg5 : FVec F S64x64x16 .f32) (main_arg6 : FVec F S64x16x64 .f32) (main_arg7 : FVec F S64x16x64 .f32) (main_arg8 : FVec F S1x1024 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64x16 .f32 := Host.absf main_arg4
  let main_cst_6 : FVec F S_ .f32 := constant S_ .f32 0x7F800000#32
  let main_v20 : FVec F S64x64x16 .f32 := broadcastInDim S64x64x16 ![] bcast_S_S64x64x16 main_cst_6
  let main_v21 : IVec S64x64x16 1 := cmpf .olt main_v19 main_v20
  let main_c_7 : IVec S_ 1 := constantI S_ 1 1#1
  let main_v22 : IVec S_ 1 := (fun x v => Host.reduce IntOp.andi x v reducesTo_S64x64x16_S_d0_1_2 h_S_) main_v21 main_c_7
  let main_v23 : IVec S_ 1 := andi main_v18 main_v22
  let main_v24 : FVec F S64x64x16 .f32 := Host.absf main_arg5
  let main_cst_8 : FVec F S_ .f32 := constant S_ .f32 0x7F800000#32
  let main_v25 : FVec F S64x64x16 .f32 := broadcastInDim S64x64x16 ![] bcast_S_S64x64x16 main_cst_8
  let main_v26 : IVec S64x64x16 1 := cmpf .olt main_v24 main_v25
  let main_c_9 : IVec S_ 1 := constantI S_ 1 1#1
  let main_v27 : IVec S_ 1 := (fun x v => Host.reduce IntOp.andi x v reducesTo_S64x64x16_S_d0_1_2 h_S_) main_v26 main_c_9
  let main_v28 : IVec S_ 1 := andi main_v23 main_v27
  let main_v29 : FVec F S64x16x64 .f32 := Host.absf main_arg6
  let main_cst_10 : FVec F S_ .f32 := constant S_ .f32 0x7F800000#32
  let main_v30 : FVec F S64x16x64 .f32 := broadcastInDim S64x16x64 ![] bcast_S_S64x16x64 main_cst_10
  let main_v31 : IVec S64x16x64 1 := cmpf .olt main_v29 main_v30
  let main_c_11 : IVec S_ 1 := constantI S_ 1 1#1
  let main_v32 : IVec S_ 1 := (fun x v => Host.reduce IntOp.andi x v reducesTo_S64x16x64_S_d0_1_2 h_S_) main_v31 main_c_11
  let main_v33 : IVec S_ 1 := andi main_v28 main_v32
  fn_part2 (F := F) main_arg7 main_arg8 main_v33

def fn {F : FTy → Type} [FloatOps F] (main_arg0 : FVec F S4096x1024 .f32) (main_arg1 : FVec F S64x64 .f32) (main_arg2 : FVec F S64x64 .f32) (main_arg3 : FVec F S64 .f32) (main_arg4 : FVec F S64x64x16 .f32) (main_arg5 : FVec F S64x64x16 .f32) (main_arg6 : FVec F S64x16x64 .f32) (main_arg7 : FVec F S64x16x64 .f32) (main_arg8 : FVec F S1x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_v13 main_v16
-- ==== Glu.lean ====
abbrev S4096x1024 : Shape := ⟨2, ![4096, 1024]⟩
abbrev S2x4096x1024 : Shape := ⟨3, ![2, 4096, 1024]⟩
abbrev S512x1024 : Shape := ⟨2, ![512, 1024]⟩
abbrev S2x512x1024 : Shape := ⟨3, ![2, 512, 1024]⟩
abbrev S1x512x1024 : Shape := ⟨3, ![1, 512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2x4096x1024, .bf16⟩
  | .hbm, ⟨2, _⟩ => ⟨S2x4096x1024, .bf16⟩
  | .local _ .vmem, ⟨0, _⟩ => ⟨S512x1024, .bf16⟩
  | .local _ .vmem, ⟨1, _⟩ => ⟨S512x1024, .bf16⟩
  | .local _ .vmem, ⟨2, _⟩ => ⟨S2x512x1024, .bf16⟩
  | .local _ .vmem, ⟨3, _⟩ => ⟨S2x512x1024, .bf16⟩
  | .local _ .vmem, ⟨4, _⟩ => ⟨S2x512x1024, .bf16⟩
  | .local _ .vmem, ⟨5, _⟩ => ⟨S2x512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GluRefIdeal.lean ====
abbrev S4096x1024 : Shape := ⟨2, ![4096, 1024]⟩
abbrev S2x4096x1024 : Shape := ⟨3, ![2, 4096, 1024]⟩
abbrev S1x4096x1024 : Shape := ⟨3, ![1, 4096, 1024]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x4096x1024, .bf16⟩
  | .hbm, ⟨2, _⟩ => ⟨S2x4096x1024, .f32⟩
  | .hbm, ⟨3, _⟩ => ⟨S1x4096x1024, .f32⟩
  | .hbm, ⟨4, _⟩ => ⟨S4096x1024, .f32⟩
  | .hbm, ⟨5, _⟩ => ⟨S1x4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S1x4096x1024, .f32⟩
  | .hbm, ⟨25, _⟩ => ⟨S_, .f32⟩
  | .hbm, ⟨26, _⟩ => ⟨S2x4096x1024, .f32⟩
  | .hbm, ⟨27, _⟩ => ⟨S1x4096x1024, .f32⟩
  | .hbm, ⟨28, _⟩ => ⟨S_, .f32⟩
  | .hbm, ⟨29, _⟩ => ⟨S2x4096x1024, .f32⟩
  | .hbm, ⟨30, _⟩ => ⟨S2x4096x1024, .f32⟩
  | .hbm, ⟨31, _⟩ => ⟨S2x4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_cst_3 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Conv.lean ====
abbrev S4096x1024 : Shape := ⟨2, ![4096, 1024]⟩
abbrev S4096x3072 : Shape := ⟨2, ![4096, 3072]⟩
abbrev S3x1024 : Shape := ⟨2, ![3, 1024]⟩
abbrev S8x1024 : Shape := ⟨2, ![8, 1024]⟩
abbrev S4096x128 : Shape := ⟨2, ![4096, 128]⟩
abbrev S3x128 : Shape := ⟨2, ![3, 128]⟩
abbrev S8x128 : Shape := ⟨2, ![8, 128]⟩
abbrev S1x128 : Shape := ⟨2, ![1, 128]⟩
abbrev S128 : Shape := ⟨1, ![128]⟩

abbrev nBuf : Space → Nat
  | .hbm => 7
  | .vmem => 18
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S3x1024, .f32⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S8x1024, .f32⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S4096x128, .bf16⟩
  | .local _ .vmem, ⟨8, _⟩ => ⟨S3x128, .f32⟩
  | .local _ .vmem, ⟨9, _⟩ => ⟨S3x128, .f32⟩
  | .local _ .vmem, ⟨10, _⟩ => ⟨S4096x128, .bf16⟩
  | .local _ .vmem, ⟨11, _⟩ => ⟨S4096x128, .bf16⟩
  | .local _ .vmem, ⟨12, _⟩ => ⟨S4096x128, .bf16⟩
  | .local _ .vmem, ⟨13, _⟩ => ⟨S4096x128, .bf16⟩
  | .local _ .vmem, ⟨14, _⟩ => ⟨S4096x128, .bf16⟩
  | .local _ .vmem, ⟨15, _⟩ => ⟨S4096x128, .bf16⟩
  | .local _ .vmem, ⟨16, _⟩ => ⟨S8x128, .f32⟩
  | .local _ .vmem, ⟨17, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ConvRefIdeal.lean ====
abbrev S4096x1024 : Shape := ⟨2, ![4096, 1024]⟩
abbrev S4096x3072 : Shape := ⟨2, ![4096, 3072]⟩
abbrev S3x1024 : Shape := ⟨2, ![3, 1024]⟩
abbrev S_ : Shape := ⟨0, ![]⟩
abbrev S2x1024 : Shape := ⟨2, ![2, 1024]⟩
abbrev S4098x1024 : Shape := ⟨2, ![4098, 1024]⟩
abbrev S1x1024 : Shape := ⟨2, ![1, 1024]⟩
abbrev S1024 : Shape := ⟨1, ![1024]⟩
abbrev S8x1024 : Shape := ⟨2, ![8, 1024]⟩

abbrev nBuf : Space → Nat
  | .hbm => 95
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S3x1024, .f32⟩
  | .hbm, ⟨3, _⟩ => ⟨S4096x3072, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S2x1024, .f32⟩
  | .hbm, ⟨10, _⟩ => ⟨S4098x1024, .f32⟩
  | .hbm, ⟨11, _⟩ => ⟨S_, .f32⟩
  | .hbm, ⟨12, _⟩ => ⟨S2x1024, .f32⟩
  | .hbm, ⟨13, _⟩ => ⟨S1x1024, .f32⟩
  | .hbm, ⟨14, _⟩ => ⟨S1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S1x1024, .f32⟩
  | .hbm, ⟨30, _⟩ => ⟨S1024, .f32⟩
  | .hbm, ⟨31, _⟩ => ⟨S4096x1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S_, .f32⟩
  | .hbm, ⟨47, _⟩ => ⟨S1024, .f32⟩
  | .hbm, ⟨48, _⟩ => ⟨S_, .f32⟩
  | .hbm, ⟨49, _⟩ => ⟨S4098x1024, .f32⟩
  | .hbm, ⟨50, _⟩ => ⟨S1x1024, .f32⟩
  | .hbm, ⟨51, _⟩ => ⟨S_, .f32⟩
  | .hbm, ⟨52, _⟩ => ⟨S3x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S_, .f32⟩
  | .hbm, ⟨60, _⟩ => ⟨S1024, .f32⟩
  | .hbm, ⟨61, _⟩ => ⟨S_, .f32⟩
  | .hbm, ⟨62, _⟩ => ⟨S4098x1024, .f32⟩
  | .hbm, ⟨63, _⟩ => ⟨S4098x1024, .f32⟩
  | .hbm, ⟨64, _⟩ => ⟨S1x1024, .f32⟩
  | .hbm, ⟨65, _⟩ => ⟨S_, .f32⟩
  | .hbm, ⟨66, _⟩ => ⟨S3x1024, .f32⟩
  | .hbm, ⟨67, _⟩ => ⟨S3x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S_, .f32⟩
  | .hbm, ⟨72, _⟩ => ⟨S1024, .f32⟩
  | .hbm, ⟨73, _⟩ => ⟨S1x1024, .f32⟩
  | .hbm, ⟨74, _⟩ => ⟨S_, .f32⟩
  | .hbm, ⟨75, _⟩ => ⟨S1024, .f32⟩
  | .hbm, ⟨76, _⟩ => ⟨S_, .f32⟩
  | .hbm, ⟨77, _⟩ => ⟨S4098x1024, .f32⟩
  | .hbm, ⟨78, _⟩ => ⟨S4098x1024, .f32⟩
  | .hbm, ⟨79, _⟩ => ⟨S1x1024, .f32⟩
  | .hbm, ⟨80, _⟩ => ⟨S_, .f32⟩
  | .hbm, ⟨81, _⟩ => ⟨S3x1024, .f32⟩
  | .hbm, ⟨82, _⟩ => ⟨S3x1024, .f32⟩
  | .hbm, ⟨83, _⟩ => ⟨S2x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S4096x3072, .f32⟩
  | .hbm, ⟨88, _⟩ => ⟨S4096x3072, .bf16⟩
  | .hbm, ⟨89, _⟩ => ⟨S4096x1024, .bf16⟩
  | .hbm, ⟨90, _⟩ => ⟨S4096x1024, .bf16⟩
  | .hbm, ⟨91, _⟩ => ⟨S4096x1024, .bf16⟩
  | .hbm, ⟨92, _⟩ => ⟨S_, .i32⟩
  | .hbm, ⟨93, _⟩ => ⟨S_, .f32⟩
  | .hbm, ⟨94, _⟩ => ⟨S8x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst_2 : Ref sig .tc := ⟨.hbm, 43, rfl⟩
abbrev main_v37 : Ref sig .tc := ⟨.hbm, 44, rfl⟩
abbrev main_v38 : Ref sig .tc := ⟨.hbm, 45, rfl⟩
abbrev main_cst_3 : Ref sig .tc := ⟨.hbm, 46, rfl⟩
abbrev main_v39 : Ref sig .tc := ⟨.hbm, 47, rfl⟩
abbrev main_cst_4 : Ref sig .tc := ⟨.hbm, 48, rfl⟩
abbrev main_v40 : Ref sig .tc := ⟨.hbm, 49, rfl⟩
abbrev main_v41 : Ref sig .tc := ⟨.hbm, 50, rfl⟩
abbrev main_cst_5 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_6 : Ref sig .tc := ⟨.hbm, 56, rfl⟩
abbrev main_v46 : Ref sig .tc := ⟨.hbm, 57, rfl⟩
abbrev main_v47 : Ref sig .tc := ⟨.hbm, 58, rfl⟩
abbrev main_cst_7 : Ref sig .tc := ⟨.hbm, 59, rfl⟩
abbrev main_v48 : Ref sig .tc := ⟨.hbm, 60, rfl⟩
abbrev main_cst_8 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_9 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_10 : Ref sig .tc := ⟨.hbm, 71, rfl⟩
abbrev main_v57 : Ref sig .tc := ⟨.hbm, 72, rfl⟩
abbrev main_v58 : Ref sig .tc := ⟨.hbm, 73, rfl⟩
abbrev main_cst_11 : Ref sig .tc := ⟨.hbm, 74, rfl⟩
abbrev main_v59 : Ref sig .tc := ⟨.hbm, 75, rfl⟩
abbrev main_cst_12 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_13 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_c : Ref sig .tc := ⟨.hbm, 92, rfl⟩
abbrev main_call0_v0 : Ref sig .tc := ⟨.hbm, 93, rfl⟩
abbrev main_v74 : Ref sig .tc := ⟨.hbm, 94, rfl⟩

abbrev nD : Nat := 1
abbrev τ : Topo := Topo.v7x

variable {F : FTy → Type} [FloatOps F]
-- ==== Ffn.lean ====
abbrev S4096x1024 : Shape := ⟨2, ![4096, 1024]⟩
abbrev S2816x1024 : Shape := ⟨2, ![2816, 1024]⟩
abbrev S2x4096x2816 : Shape := ⟨3, ![2, 4096, 2816]⟩
abbrev S512x1024 : Shape := ⟨2, ![512, 1024]⟩
abbrev S2x512x2816 : Shape := ⟨3, ![2, 512, 2816]⟩
abbrev S256x1024 : Shape := ⟨2, ![256, 1024]⟩
abbrev S512x256 : Shape := ⟨2, ![512, 256]⟩
abbrev S1x512x256 : Shape := ⟨3, ![1, 512, 256]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S2x4096x2816, .bf16⟩
  | .hbm, ⟨3, _⟩ => ⟨S2x4096x2816, .bf16⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S2x512x2816, .bf16⟩
  | .local _ .vmem, ⟨4, _⟩ => ⟨S2x512x2816, .bf16⟩
  | .local _ .vmem, ⟨5, _⟩ => ⟨S2x512x2816, .bf16⟩
  | .local _ .vmem, ⟨6, _⟩ => ⟨S2x512x2816, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FfnRefIdeal.lean ====
abbrev S4096x1024 : Shape := ⟨2, ![4096, 1024]⟩
abbrev S2816x1024 : Shape := ⟨2, ![2816, 1024]⟩
abbrev S2x4096x2816 : Shape := ⟨3, ![2, 4096, 2816]⟩
abbrev S1x4096x2816 : Shape := ⟨3, ![1, 4096, 2816]⟩
abbrev S4096x2816 : Shape := ⟨2, ![4096, 2816]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S2x4096x2816, .bf16⟩
  | .hbm, ⟨3, _⟩ => ⟨S2x4096x2816, .f32⟩
  | .hbm, ⟨4, _⟩ => ⟨S2816x1024, .f32⟩
  | .hbm, ⟨5, _⟩ => ⟨S1x4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S1x4096x2816, .f32⟩
  | .hbm, ⟨21, _⟩ => ⟨S4096x2816, .f32⟩
  | .hbm, ⟨22, _⟩ => ⟨S4096x2816, .f32⟩
  | .hbm, ⟨23, _⟩ => ⟨S4096x1024, .f32⟩
  | .hbm, ⟨24, _⟩ => ⟨S4096x1024, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S1x4096x2816, .f32⟩
  | .hbm, ⟨29, _⟩ => ⟨S_, .f32⟩
  | .hbm, ⟨30, _⟩ => ⟨S2x4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S1x4096x2816, .f32⟩
  | .hbm, ⟨36, _⟩ => ⟨S_, .f32⟩
  | .hbm, ⟨37, _⟩ => ⟨S2x4096x2816, .f32⟩
  | .hbm, ⟨38, _⟩ => ⟨S2x4096x2816, .f32⟩
  | .hbm, ⟨39, _⟩ => ⟨S2x4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v4_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v4_1 : Ref sig .tc := ⟨.hbm, 18, rfl⟩
abbrev main_v4_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst : Ref sig .tc := ⟨.hbm, 29, rfl⟩
abbrev main_v14 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v15 : Ref sig .tc := ⟨.hbm, 34, rfl⟩
abbrev main_v16 : Ref sig .tc := ⟨.hbm, 35, rfl⟩
abbrev main_cst_0 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩

abbrev nD : Nat := 1
abbrev τ : Topo := Topo.v7x

variable {F : FTy → Type} [FloatOps F]
-- ==== Norm.lean ====
abbrev S4096x1024 : Shape := ⟨2, ![4096, 1024]⟩
abbrev S1x1024 : Shape := ⟨2, ![1, 1024]⟩
abbrev S6x1024 : Shape := ⟨2, ![6, 1024]⟩
abbrev S8x1024 : Shape := ⟨2, ![8, 1024]⟩
abbrev S512x1024 : Shape := ⟨2, ![512, 1024]⟩
abbrev S3x8x1024 : Shape := ⟨3, ![3, 8, 1024]⟩
abbrev S512 : Shape := ⟨1, ![512]⟩
abbrev S512x1 : Shape := ⟨2, ![512, 1]⟩
abbrev S1x8x1024 : Shape := ⟨3, ![1, 8, 1024]⟩
abbrev S64x8x1024 : Shape := ⟨3, ![64, 8, 1024]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S6x1024, .f32⟩
  | .hbm, ⟨5, _⟩ => ⟨S4096x1024, .f32⟩
  | .hbm, ⟨6, _⟩ => ⟨S8x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S6x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | .local _ .vmem, ⟨11, _⟩ => ⟨S3x8x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v65 : BitVec 1 := Scalar.cmpi .eq arg0 c7_i32
  let v66 : BitVec 32 := Scalar.extui v65
  let c0_i32_36 : BitVec 32 := 0#32
  let v67 : BitVec 1 := Scalar.cmpi .ne v66 c0_i32_36
  v67

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormRefIdeal.lean ====
abbrev S4096x1024 : Shape := ⟨2, ![4096, 1024]⟩
abbrev S1x1024 : Shape := ⟨2, ![1, 1024]⟩
abbrev S6x1024 : Shape := ⟨2, ![6, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S2x1024 : Shape := ⟨2, ![2, 1024]⟩
abbrev S5x1024 : Shape := ⟨2, ![5, 1024]⟩
abbrev S8x1024 : Shape := ⟨2, ![8, 1024]⟩

abbrev nBuf : Space → Nat
  | .hbm => 76
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S6x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S6x1024, .f32⟩
  | .hbm, ⟨45, _⟩ => ⟨S_, .f32⟩
  | .hbm, ⟨46, _⟩ => ⟨S6x1024, .f32⟩
  | .hbm, ⟨47, _⟩ => ⟨S6x1024, .f32⟩
  | .hbm, ⟨48, _⟩ => ⟨S4096x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S2x1024, .f32⟩
  | .hbm, ⟨73, _⟩ => ⟨S_, .f32⟩
  | .hbm, ⟨74, _⟩ => ⟨S5x1024, .f32⟩
  | .hbm, ⟨75, _⟩ => ⟨S8x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_8 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_9 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_10 : Ref sig .tc := ⟨.hbm, 61, rfl⟩
abbrev main_v45 : Ref sig .tc := ⟨.hbm, 62, rfl⟩
abbrev main_v46 : Ref sig .tc := ⟨.hbm, 63, rfl⟩
abbrev main_cst_11 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_12 : Ref sig .tc := ⟨.hbm, 73, rfl⟩
abbrev main_v55 : Ref sig .tc := ⟨.hbm, 74, rfl⟩
abbrev main_v56 : Ref sig .tc := ⟨.hbm, 75, rfl⟩

abbrev nD : Nat := 1
abbrev τ : Topo := Topo.v7x

variable {F : FTy → Type} [FloatOps F]
-- ==== Branch.lean ====
abbrev S4096x1024 : Shape := ⟨2, ![4096, 1024]⟩
abbrev S1x1024 : Shape := ⟨2, ![1, 1024]⟩
abbrev S6x1024 : Shape := ⟨2, ![6, 1024]⟩
abbrev S8x1024 : Shape := ⟨2, ![8, 1024]⟩
abbrev S512x1024 : Shape := ⟨2, ![512, 1024]⟩
abbrev S4x8x1024 : Shape := ⟨3, ![4, 8, 1024]⟩
abbrev S512 : Shape := ⟨1, ![512]⟩
abbrev S512x1 : Shape := ⟨2, ![512, 1]⟩
abbrev S1x8x1024 : Shape := ⟨3, ![1, 8, 1024]⟩
abbrev S64x8x1024 : Shape := ⟨3, ![64, 8, 1024]⟩
abbrev S1024 : Shape := ⟨1, ![1024]⟩

abbrev nBuf : Space → Nat
  | .hbm => 14
  | .vmem => 17
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4096x1024, .bf16⟩
  | .hbm, ⟨3, _⟩ => ⟨S4096x1024, .f32⟩
  | .hbm, ⟨4, _⟩ => ⟨S1x1024, .f32⟩
  | .hbm, ⟨5, _⟩ => ⟨S6x1024, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S8x1024, .f32⟩
  | .hbm, ⟨13, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S6x1024, .f32⟩
  | .local _ .vmem, ⟨8, _⟩ => ⟨S512x1024, .bf16⟩
  | .local _ .vmem, ⟨9, _⟩ => ⟨S512x1024, .bf16⟩
  | .local _ .vmem, ⟨10, _⟩ => ⟨S6x1024, .f32⟩
  | .local _ .vmem, ⟨11, _⟩ => ⟨S512x1024, .f32⟩
  | .local _ .vmem, ⟨12, _⟩ => ⟨S512x1024, .f32⟩
  | .local _ .vmem, ⟨13, _⟩ => ⟨S8x1024, .f32⟩
  | .local _ .vmem, ⟨14, _⟩ => ⟨S512x1024, .bf16⟩
  | .local _ .vmem, ⟨15, _⟩ => ⟨S512x1024, .bf16⟩
  | .local _ .vmem, ⟨16, _⟩ => ⟨S4x8x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v82 : BitVec 1 := Scalar.cmpi .eq arg0 c7_i32
  let v83 : BitVec 32 := Scalar.extui v82
  let c0_i32_47 : BitVec 32 := 0#32
  let v84 : BitVec 1 := Scalar.cmpi .ne v83 c0_i32_47
  v84

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S6x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== BranchRefIdeal.lean ====
abbrev S4096x1024 : Shape := ⟨2, ![4096, 1024]⟩
abbrev S1x1024 : Shape := ⟨2, ![1, 1024]⟩
abbrev S6x1024 : Shape := ⟨2, ![6, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S2x1024 : Shape := ⟨2, ![2, 1024]⟩
abbrev S4x1024 : Shape := ⟨2, ![4, 1024]⟩
abbrev S8x1024 : Shape := ⟨2, ![8, 1024]⟩

abbrev nBuf : Space → Nat
  | .hbm => 94
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4096x1024, .bf16⟩
  | .hbm, ⟨3, _⟩ => ⟨S4096x1024, .f32⟩
  | .hbm, ⟨4, _⟩ => ⟨S1x1024, .f32⟩
  | .hbm, ⟨5, _⟩ => ⟨S6x1024, .f32⟩
  | .hbm, ⟨6, _⟩ => ⟨S4096x1024, .f32⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S1x1024, .f32⟩
  | .hbm, ⟨31, _⟩ => ⟨S1x1024, .f32⟩
  | .hbm, ⟨32, _⟩ => ⟨S_, .f32⟩
  | .hbm, ⟨33, _⟩ => ⟨S1x1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S4096x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S6x1024, .f32⟩
  | .hbm, ⟨51, _⟩ => ⟨S_, .f32⟩
  | .hbm, ⟨52, _⟩ => ⟨S6x1024, .f32⟩
  | .hbm, ⟨53, _⟩ => ⟨S6x1024, .f32⟩
  | .hbm, ⟨54, _⟩ => ⟨S4096x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S_, .f32⟩
  | .hbm, ⟨72, _⟩ => ⟨S4096, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S_, .f32⟩
  | .hbm, ⟨83, _⟩ => ⟨S1024, .f32⟩
  | .hbm, ⟨84, _⟩ => ⟨S1x1024, .f32⟩
  | .hbm, ⟨85, _⟩ => ⟨S_, .f32⟩
  | .hbm, ⟨86, _⟩ => ⟨S6x1024, .f32⟩
  | .hbm, ⟨87, _⟩ => ⟨S6x1024, .f32⟩
  | .hbm, ⟨88, _⟩ => ⟨S2x1024, .f32⟩
  | .hbm, ⟨89, _⟩ => ⟨S1x1024, .f32⟩
  | .hbm, ⟨90, _⟩ => ⟨S_, .f32⟩
  | .hbm, ⟨91, _⟩ => ⟨S4x1024, .f32⟩
  | .hbm, ⟨92, _⟩ => ⟨S8x1024, .f32⟩
  | .hbm, ⟨93, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_9 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_10 : Ref sig .tc := ⟨.hbm, 68, rfl⟩
abbrev main_v51 : Ref sig .tc := ⟨.hbm, 69, rfl⟩
abbrev main_v52 : Ref sig .tc := ⟨.hbm, 70, rfl⟩
abbrev main_cst_11 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_12 : Ref sig .tc := ⟨.hbm, 82, rfl⟩
abbrev main_v63 : Ref sig .tc := ⟨.hbm, 83, rfl⟩
abbrev main_v64 : Ref sig .tc := ⟨.hbm, 84, rfl⟩
abbrev main_cst_13 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_14 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩

abbrev nD : Nat := 1
abbrev τ : Topo := Topo.v7x

variable {F : FTy → Type} [FloatOps F]
-- ==== Join.lean ====
abbrev S4096x1024 : Shape := ⟨2, ![4096, 1024]⟩
abbrev S1x1024 : Shape := ⟨2, ![1, 1024]⟩
abbrev S6x1024 : Shape := ⟨2, ![6, 1024]⟩
abbrev S8x1024 : Shape := ⟨2, ![8, 1024]⟩
abbrev S512x1024 : Shape := ⟨2, ![512, 1024]⟩
abbrev S4x8x1024 : Shape := ⟨3, ![4, 8, 1024]⟩
abbrev S512 : Shape := ⟨1, ![512]⟩
abbrev S512x1 : Shape := ⟨2, ![512, 1]⟩
abbrev S1x8x1024 : Shape := ⟨3, ![1, 8, 1024]⟩
abbrev S64x8x1024 : Shape := ⟨3, ![64, 8, 1024]⟩
abbrev S1024 : Shape := ⟨1, ![1024]⟩

abbrev nBuf : Space → Nat
  | .hbm => 15
  | .vmem => 17
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4096x1024, .bf16⟩
  | .hbm, ⟨3, _⟩ => ⟨S4096x1024, .f32⟩
  | .hbm, ⟨4, _⟩ => ⟨S1x1024, .f32⟩
  | .hbm, ⟨5, _⟩ => ⟨S6x1024, .f32⟩
  | .hbm, ⟨6, _⟩ => ⟨S6x1024, .f32⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S8x1024, .f32⟩
  | .hbm, ⟨14, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S6x1024, .f32⟩
  | .local _ .vmem, ⟨8, _⟩ => ⟨S512x1024, .bf16⟩
  | .local _ .vmem, ⟨9, _⟩ => ⟨S512x1024, .bf16⟩
  | .local _ .vmem, ⟨10, _⟩ => ⟨S6x1024, .f32⟩
  | .local _ .vmem, ⟨11, _⟩ => ⟨S512x1024, .f32⟩
  | .local _ .vmem, ⟨12, _⟩ => ⟨S512x1024, .f32⟩
  | .local _ .vmem, ⟨13, _⟩ => ⟨S8x1024, .f32⟩
  | .local _ .vmem, ⟨14, _⟩ => ⟨S512x1024, .bf16⟩
  | .local _ .vmem, ⟨15, _⟩ => ⟨S512x1024, .bf16⟩
  | .local _ .vmem, ⟨16, _⟩ => ⟨S4x8x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v82 : BitVec 1 := Scalar.cmpi .eq arg0 c7_i32
  let v83 : BitVec 32 := Scalar.extui v82
  let c0_i32_47 : BitVec 32 := 0#32
  let v84 : BitVec 1 := Scalar.cmpi .ne v83 c0_i32_47
  v84

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S6x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== JoinRefIdeal.lean ====
abbrev S4096x1024 : Shape := ⟨2, ![4096, 1024]⟩
abbrev S1x1024 : Shape := ⟨2, ![1, 1024]⟩
abbrev S6x1024 : Shape := ⟨2, ![6, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S2x1024 : Shape := ⟨2, ![2, 1024]⟩
abbrev S4x1024 : Shape := ⟨2, ![4, 1024]⟩
abbrev S8x1024 : Shape := ⟨2, ![8, 1024]⟩

abbrev nBuf : Space → Nat
  | .hbm => 94
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4096x1024, .bf16⟩
  | .hbm, ⟨3, _⟩ => ⟨S4096x1024, .f32⟩
  | .hbm, ⟨4, _⟩ => ⟨S1x1024, .f32⟩
  | .hbm, ⟨5, _⟩ => ⟨S6x1024, .f32⟩
  | .hbm, ⟨6, _⟩ => ⟨S6x1024, .f32⟩
  | .hbm, ⟨7, _⟩ => ⟨S4096x1024, .f32⟩
  | .hbm, ⟨8, _⟩ => ⟨S1x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S1x1024, .f32⟩
  | .hbm, ⟨32, _⟩ => ⟨S1x1024, .f32⟩
  | .hbm, ⟨33, _⟩ => ⟨S_, .f32⟩
  | .hbm, ⟨34, _⟩ => ⟨S1x1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S4096x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S6x1024, .f32⟩
  | .hbm, ⟨52, _⟩ => ⟨S_, .f32⟩
  | .hbm, ⟨53, _⟩ => ⟨S6x1024, .f32⟩
  | .hbm, ⟨54, _⟩ => ⟨S6x1024, .f32⟩
  | .hbm, ⟨55, _⟩ => ⟨S4096x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S4096, .f32⟩
  | .hbm, ⟨64, _⟩ => ⟨S4096x1, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1, .f32⟩
  | .hbm, ⟨69, _⟩ => ⟨S_, .f32⟩
  | .hbm, ⟨70, _⟩ => ⟨S4096x1, .f32⟩
  | .hbm, ⟨71, _⟩ => ⟨S4096x1, .f32⟩
  | .hbm, ⟨72, _⟩ => ⟨S_, .f32⟩
  | .hbm, ⟨73, _⟩ => ⟨S4096, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S_, .f32⟩
  | .hbm, ⟨84, _⟩ => ⟨S1024, .f32⟩
  | .hbm, ⟨85, _⟩ => ⟨S1x1024, .f32⟩
  | .hbm, ⟨86, _⟩ => ⟨S_, .f32⟩
  | .hbm, ⟨87, _⟩ => ⟨S6x1024, .f32⟩
  | .hbm, ⟨88, _⟩ => ⟨S2x1024, .f32⟩
  | .hbm, ⟨89, _⟩ => ⟨S1x1024, .f32⟩
  | .hbm, ⟨90, _⟩ => ⟨S_, .f32⟩
  | .hbm, ⟨91, _⟩ => ⟨S4x1024, .f32⟩
  | .hbm, ⟨92, _⟩ => ⟨S8x1024, .f32⟩
  | .hbm, ⟨93, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_10 : Ref sig .tc := ⟨.hbm, 69, rfl⟩
abbrev main_v51 : Ref sig .tc := ⟨.hbm, 70, rfl⟩
abbrev main_v52 : Ref sig .tc := ⟨.hbm, 71, rfl⟩
abbrev main_cst_11 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_12 : Ref sig .tc := ⟨.hbm, 83, rfl⟩
abbrev main_v63 : Ref sig .tc := ⟨.hbm, 84, rfl⟩
abbrev main_v64 : Ref sig .tc := ⟨.hbm, 85, rfl⟩
abbrev main_cst_13 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_14 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩

abbrev nD : Nat := 1
abbrev τ : Topo := Topo.v7x

variable {F : FTy → Type} [FloatOps F]
-- ==== Loss.lean ====
abbrev S4096x1024 : Shape := ⟨2, ![4096, 1024]⟩
abbrev S1x1024 : Shape := ⟨2, ![1, 1024]⟩
abbrev S6x1024 : Shape := ⟨2, ![6, 1024]⟩
abbrev S8x128 : Shape := ⟨2, ![8, 128]⟩
abbrev S8x1024 : Shape := ⟨2, ![8, 1024]⟩
abbrev S512x1024 : Shape := ⟨2, ![512, 1024]⟩
abbrev S2x8x1024 : Shape := ⟨3, ![2, 8, 1024]⟩
abbrev S1x1 : Shape := ⟨2, ![1, 1]⟩
abbrev S512 : Shape := ⟨1, ![512]⟩
abbrev S512x1 : Shape := ⟨2, ![512, 1]⟩
abbrev S1 : Shape := ⟨1, ![1]⟩
abbrev S1x8x1024 : Shape := ⟨3, ![1, 8, 1024]⟩
abbrev S64x8x1024 : Shape := ⟨3, ![64, 8, 1024]⟩
abbrev S1024 : Shape := ⟨1, ![1024]⟩

abbrev nBuf : Space → Nat
  | .hbm => 14
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .bf16⟩
  | .hbm, ⟨4, _⟩ => ⟨S6x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S8x128, .f32⟩
  | .hbm, ⟨11, _⟩ => ⟨S4096x1024, .f32⟩
  | .hbm, ⟨12, _⟩ => ⟨S8x1024, .f32⟩
  | .hbm, ⟨13, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | .local _ .vmem, ⟨7, _⟩ => ⟨S6x1024, .f32⟩
  | .local _ .vmem, ⟨8, _⟩ => ⟨S8x128, .f32⟩
  | .local _ .vmem, ⟨9, _⟩ => ⟨S512x1024, .f32⟩
  | .local _ .vmem, ⟨10, _⟩ => ⟨S512x1024, .f32⟩
  | .local _ .vmem, ⟨11, _⟩ => ⟨S8x1024, .f32⟩
  | .local _ .vmem, ⟨12, _⟩ => ⟨S512x1024, .bf16⟩
  | .local _ .vmem, ⟨13, _⟩ => ⟨S512x1024, .bf16⟩
  | .local _ .vmem, ⟨14, _⟩ => ⟨S2x8x1024, .f32⟩
  | .local _ .vmem, ⟨15, _⟩ => ⟨S1x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v74 : BitVec 1 := Scalar.cmpi .eq arg0 c7_i32
  let v75 : BitVec 32 := Scalar.extui v74
  let c0_i32_39 : BitVec 32 := 0#32
  let v76 : BitVec 1 := Scalar.cmpi .ne v75 c0_i32_39
  v76

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S6x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== LossRefIdeal.lean ====
abbrev S4096x1024 : Shape := ⟨2, ![4096, 1024]⟩
abbrev S1x1024 : Shape := ⟨2, ![1, 1024]⟩
abbrev S6x1024 : Shape := ⟨2, ![6, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S8x128 : Shape := ⟨2, ![8, 128]⟩
abbrev S8x1024 : Shape := ⟨2, ![8, 1024]⟩

abbrev nBuf : Space → Nat
  | .hbm => 89
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .bf16⟩
  | .hbm, ⟨4, _⟩ => ⟨S6x1024, .f32⟩
  | .hbm, ⟨5, _⟩ => ⟨S4096x1024, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S_, .f32⟩
  | .hbm, ⟨37, _⟩ => ⟨S4096, .f32⟩
  | .hbm, ⟨38, _⟩ => ⟨S4096, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S4096, .f32⟩
  | .hbm, ⟨47, _⟩ => ⟨S_, .f32⟩
  | .hbm, ⟨48, _⟩ => ⟨S4096, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S4096, .f32⟩
  | .hbm, ⟨61, _⟩ => ⟨S4096x1, .f32⟩
  | .hbm, ⟨62, _⟩ => ⟨S4096x1024, .f32⟩
  | .hbm, ⟨63, _⟩ => ⟨S4096x1024, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S_, .f32⟩
  | .hbm, ⟨69, _⟩ => ⟨S4096, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S_, .f32⟩
  | .hbm, ⟨79, _⟩ => ⟨S1024, .f32⟩
  | .hbm, ⟨80, _⟩ => ⟨S1x1024, .f32⟩
  | .hbm, ⟨81, _⟩ => ⟨S_, .f32⟩
  | .hbm, ⟨82, _⟩ => ⟨S6x1024, .f32⟩
  | .hbm, ⟨83, _⟩ => ⟨S8x128, .f32⟩
  | .hbm, ⟨84, _⟩ => ⟨S1x1024, .f32⟩
  | .hbm, ⟨85, _⟩ => ⟨S_, .f32⟩
  | .hbm, ⟨86, _⟩ => ⟨S6x1024, .f32⟩
  | .hbm, ⟨87, _⟩ => ⟨S8x1024, .f32⟩
  | .hbm, ⟨88, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_cst_8 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩
abbrev main_cst_10 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_11 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_12 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_13 : Ref sig .tc := ⟨.hbm, 65, rfl⟩
abbrev main_v46 : Ref sig .tc := ⟨.hbm, 66, rfl⟩
abbrev main_v47 : Ref sig .tc := ⟨.hbm, 67, rfl⟩
abbrev main_cst_14 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_15 : Ref sig .tc := ⟨.hbm, 78, rfl⟩
abbrev main_v57 : Ref sig .tc := ⟨.hbm, 79, rfl⟩
abbrev main_v58 : Ref sig .tc := ⟨.hbm, 80, rfl⟩
abbrev main_cst_16 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_17 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]
-- ==== S5f.lean ====
abbrev S4096x1024 : Shape := ⟨2, ![4096, 1024]⟩
abbrev S64x64 : Shape := ⟨2, ![64, 64]⟩
abbrev S64 : Shape := ⟨1, ![64]⟩
abbrev S64x64x16 : Shape := ⟨3, ![64, 64, 16]⟩
abbrev S64x16x64 : Shape := ⟨3, ![64, 16, 64]⟩
abbrev S1x1024 : Shape := ⟨2, ![1, 1024]⟩
abbrev S_ : Shape := ⟨0, ![]⟩
abbrev S64x1 : Shape := ⟨2, ![64, 1]⟩
abbrev S64x64x1 : Shape := ⟨3, ![64, 64, 1]⟩
abbrev S64x16x1x64 : Shape := ⟨4, ![64, 16, 1, 64]⟩
abbrev S64x16x2x64 : Shape := ⟨4, ![64, 16, 2, 64]⟩
abbrev S4x256x128 : Shape := ⟨3, ![4, 256, 128]⟩
abbrev S4x128x256 : Shape := ⟨3, ![4, 128, 256]⟩
abbrev S8 : Shape := ⟨1, ![8]⟩
abbrev S8x1x1 : Shape := ⟨3, ![8, 1, 1]⟩
abbrev S1x64x64 : Shape := ⟨3, ![1, 64, 64]⟩
abbrev S8x64x64 : Shape := ⟨3, ![8, 64, 64]⟩
abbrev S40x64x64 : Shape := ⟨3, ![40, 64, 64]⟩
abbrev S40x1x64x64 : Shape := ⟨4, ![40, 1, 64, 64]⟩
abbrev S40x2x64x64 : Shape := ⟨4, ![40, 2, 64, 64]⟩
abbrev S40x2x4x1024 : Shape := ⟨4, ![40, 2, 4, 1024]⟩
abbrev S4x40x2x1024 : Shape := ⟨4, ![4, 40, 2, 1024]⟩
abbrev S4x40x2048 : Shape := ⟨3, ![4, 40, 2048]⟩
abbrev S4096x8192 : Shape := ⟨2, ![4096, 8192]⟩
abbrev S512x512 : Shape := ⟨2, ![512, 512]⟩
abbrev S2x256x128 : Shape := ⟨3, ![2, 256, 128]⟩
abbrev S2x128x256 : Shape := ⟨3, ![2, 128, 256]⟩
abbrev S2x40x2048 : Shape := ⟨3, ![2, 40, 2048]⟩
abbrev S1x512 : Shape := ⟨2, ![1, 512]⟩
abbrev S512x4096 : Shape := ⟨2, ![512, 4096]⟩
abbrev S2x256x2048 : Shape := ⟨3, ![2, 256, 2048]⟩
abbrev S2x2048x256 : Shape := ⟨3, ![2, 2048, 256]⟩
abbrev S2x2x8x1024 : Shape := ⟨4, ![2, 2, 8, 1024]⟩
abbrev S1x256x128 : Shape := ⟨3, ![1, 256, 128]⟩
abbrev S256x128 : Shape := ⟨2, ![256, 128]⟩
abbrev S128x2048 : Shape := ⟨2, ![128, 2048]⟩
abbrev S256x2048 : Shape := ⟨2, ![256, 2048]⟩
abbrev S1x256x2048 : Shape := ⟨3, ![1, 256, 2048]⟩
abbrev S1x128x256 : Shape := ⟨3, ![1, 128, 256]⟩
abbrev S128x256 : Shape := ⟨2, ![128, 256]⟩
abbrev S2048x128 : Shape := ⟨2, ![2048, 128]⟩
abbrev S2048x256 : Shape := ⟨2, ![2048, 256]⟩
abbrev S1x2048x256 : Shape := ⟨3, ![1, 2048, 256]⟩
abbrev S8x1024 : Shape := ⟨2, ![8, 1024]⟩
abbrev S512x256 : Shape := ⟨2, ![512, 256]⟩
abbrev S1x256x512 : Shape := ⟨3, ![1, 256, 512]⟩
abbrev S256x512 : Shape := ⟨2, ![256, 512]⟩
abbrev S1x8x1024 : Shape := ⟨3, ![1, 8, 1024]⟩
abbrev S1x1x8x1024 : Shape := ⟨4, ![1, 1, 8, 1024]⟩
abbrev S1x512x256 : Shape := ⟨3, ![1, 512, 256]⟩
abbrev S1x256 : Shape := ⟨2, ![1, 256]⟩

abbrev nBuf : Space → Nat
  | .hbm => 244
  | .vmem => 21
  | .smem => 0
  | _ => 0

abbrev hbmTy0_0 (i : Nat) : BufTy := match i % 128 with
  | 0 => ⟨S4096x1024, .f32⟩
  | 1 => ⟨S64x64, .f32⟩
  | 2 => ⟨S64x64, .f32⟩
  | 3 => ⟨S64, .f32⟩
  | 4 => ⟨S64x64x16, .f32⟩
  | 5 => ⟨S64x64x16, .f32⟩
  | 6 => ⟨S64x16x64, .f32⟩
  | 7 => ⟨S64x16x64, .f32⟩
  | 8 => ⟨S1x1024, .f32⟩
  | 9 => ⟨S_, .f32⟩
  | 10 => ⟨S64x64, .f32⟩
  | 11 => ⟨S64x64, .f32⟩
  | 12 => ⟨S64, .f32⟩
  | 13 => ⟨S64x1, .f32⟩
  | 14 => ⟨S64x64, .f32⟩
  | 15 => ⟨S64x64, .f32⟩
  | 16 => ⟨S64x64, .f32⟩
  | 17 => ⟨S64x64, .f32⟩
  | 18 => ⟨S64x64, .f32⟩
  | 19 => ⟨S64x64, .f32⟩
  | 20 => ⟨S64x64, .f32⟩
  | 21 => ⟨S64x64, .f32⟩
  | 22 => ⟨S64x64, .f32⟩
  | 23 => ⟨S64x64, .f32⟩
  | 24 => ⟨S64x64, .f32⟩
  | 25 => ⟨S64x64, .f32⟩
  | 26 => ⟨S64x64, .f32⟩
  | 27 => ⟨S64x64, .f32⟩
  | 28 => ⟨S_, .f32⟩
  | 29 => ⟨S64x64, .f32⟩
  | 30 => ⟨S64x64, .f32⟩
  | 31 => ⟨S64x64, .f32⟩
  | 32 => ⟨S64x64, .f32⟩
  | 33 => ⟨S64x64, .f32⟩
  | 34 => ⟨S64x64, .f32⟩
  | 35 => ⟨S64x64, .f32⟩
  | 36 => ⟨S_, .f32⟩
  | 37 => ⟨S64x64, .f32⟩
  | 38 => ⟨S64x64, .f32⟩
  | 39 => ⟨S64x64, .f32⟩
  | 40 => ⟨S64x64, .f32⟩
  | 41 => ⟨S64x64, .f32⟩
  | 42 => ⟨S64x64x1, .f32⟩
  | 43 => ⟨S64x64x16, .f32⟩
  | 44 => ⟨S64x64x16, .f32⟩
  | 45 => ⟨S64x64x1, .f32⟩
  | 46 => ⟨S64x64x16, .f32⟩
  | 47 => ⟨S64x64x16, .f32⟩
  | 48 => ⟨S64x64x16, .f32⟩
  | 49 => ⟨S64x64x1, .f32⟩
  | 50 => ⟨S64x64x16, .f32⟩
  | 51 => ⟨S64x64x16, .f32⟩
  | 52 => ⟨S64x64x1, .f32⟩
  | 53 => ⟨S64x64x16, .f32⟩
  | 54 => ⟨S64x64x16, .f32⟩
  | 55 => ⟨S64x64x16, .f32⟩
  | 56 => ⟨S64x16x64, .f32⟩
  | 57 => ⟨S64x16x64, .f32⟩
  | 58 => ⟨S64x16x1x64, .f32⟩
  | 59 => ⟨S64x16x1x64, .f32⟩
  | 60 => ⟨S64x16x2x64, .f32⟩
  | 61 => ⟨S4x256x128, .f32⟩
  | 62 => ⟨S4x256x128, .bf16⟩
  | 63 => ⟨S4x128x256, .bf16⟩
  | 64 => ⟨S64x16x64, .f32⟩
  | 65 => ⟨S64x16x1x64, .f32⟩
  | 66 => ⟨S64x16x1x64, .f32⟩
  | 67 => ⟨S64x16x2x64, .f32⟩
  | 68 => ⟨S4x256x128, .f32⟩
  | 69 => ⟨S4x256x128, .bf16⟩
  | 70 => ⟨S4x128x256, .bf16⟩
  | 71 => ⟨S64x64, .f32⟩
  | 72 => ⟨S64x64, .f32⟩
  | 73 => ⟨S64x64, .f32⟩
  | 74 => ⟨S64x64, .f32⟩
  | 75 => ⟨S64x64, .f32⟩
  | 76 => ⟨S64x64, .f32⟩
  | 77 => ⟨S64x64, .f32⟩
  | 78 => ⟨S64x64, .f32⟩
  | 79 => ⟨S64x64, .f32⟩
  | 80 => ⟨S64x64, .f32⟩
  | 81 => ⟨S64x64, .f32⟩
  | 82 => ⟨S64x64, .f32⟩
  | 83 => ⟨S64x64, .f32⟩
  | 84 => ⟨S64x64, .f32⟩
  | 85 => ⟨S64x64, .f32⟩
  | 86 => ⟨S64x64, .f32⟩
  | 87 => ⟨S64x64, .f32⟩
  | 88 => ⟨S64x64, .f32⟩
  | 89 => ⟨S64x64, .f32⟩
  | 90 => ⟨S64x64, .f32⟩
  | 91 => ⟨S64x64, .f32⟩
  | 92 => ⟨S64x64, .f32⟩
  | 93 => ⟨S64x64, .f32⟩
  | 94 => ⟨S64x64, .f32⟩
  | 95 => ⟨S64x64, .f32⟩
  | 96 => ⟨S64x64, .f32⟩
  | 97 => ⟨S64x64, .f32⟩
  | 98 => ⟨S64x64, .f32⟩
  | 99 => ⟨S64x64, .f32⟩
  | 100 => ⟨S64x64, .f32⟩
  | 101 => ⟨S64x64, .f32⟩
  | 102 => ⟨S64x64, .f32⟩
  | 103 => ⟨S64x64, .f32⟩
  | 104 => ⟨S64x64, .f32⟩
  | 105 => ⟨S64x64, .f32⟩
  | 106 => ⟨S64x64, .f32⟩
  | 107 => ⟨S64x64, .f32⟩
  | 108 => ⟨S64x64, .f32⟩
  | 109 => ⟨S64x64, .f32⟩
  | 110 => ⟨S64x64, .f32⟩
  | 111 => ⟨S64x64, .f32⟩
  | 112 => ⟨S64x64, .f32⟩
  | 113 => ⟨S64x64, .f32⟩
  | 114 => ⟨S64x64, .f32⟩
  | 115 => ⟨S64x64, .f32⟩
  | 116 => ⟨S64x64, .f32⟩
  | 117 => ⟨S64x64, .f32⟩
  | 118 => ⟨S64x64, .f32⟩
  | 119 => ⟨S64x64, .f32⟩
  | 120 => ⟨S64x64, .f32⟩
  | 121 => ⟨S64x64, .f32⟩
  | 122 => ⟨S64x64, .f32⟩
  | 123 => ⟨S64x64, .f32⟩
  | 124 => ⟨S64x64, .f32⟩
  | 125 => ⟨S64x64, .f32⟩
  | 126 => ⟨S64x64, .f32⟩
  | 127 => ⟨S64x64, .f32⟩
  | _ => ⟨S4096x1024, .f32⟩

abbrev hbmTy0_1 (i : Nat) : BufTy := match i % 128 with
  | 0 => ⟨S64x64, .f32⟩
  | 1 => ⟨S64x64, .f32⟩
  | 2 => ⟨S64x64, .f32⟩
  | 3 => ⟨S64x64, .f32⟩
  | 4 => ⟨S64x64, .f32⟩
  | 5 => ⟨S64x64, .f32⟩
  | 6 => ⟨S64x64, .f32⟩
  | 7 => ⟨S64x64, .f32⟩
  | 8 => ⟨S64x64, .f32⟩
  | 9 => ⟨S64x64, .f32⟩
  | 10 => ⟨S64x64, .f32⟩
  | 11 => ⟨S64x64, .f32⟩
  | 12 => ⟨S64x64, .f32⟩
  | 13 => ⟨S64x64, .f32⟩
  | 14 => ⟨S64x64, .f32⟩
  | 15 => ⟨S64x64, .f32⟩
  | 16 => ⟨S64x64, .f32⟩
  | 17 => ⟨S64x64, .f32⟩
  | 18 => ⟨S64x64, .f32⟩
  | 19 => ⟨S64x64, .f32⟩
  | 20 => ⟨S64x64, .f32⟩
  | 21 => ⟨S8, .i32⟩
  | 22 => ⟨S8x1x1, .i32⟩
  | 23 => ⟨S1x64x64, .f32⟩
  | 24 => ⟨S8x64x64, .f32⟩
  | 25 => ⟨S_, .i32⟩
  | 26 => ⟨S8x1x1, .i32⟩
  | 27 => ⟨S8x1x1, .i1⟩
  | 28 => ⟨S1x64x64, .f32⟩
  | 29 => ⟨S_, .f32⟩
  | 30 => ⟨S_, .f32⟩
  | 31 => ⟨S8x64x64, .i1⟩
  | 32 => ⟨S8x64x64, .f32⟩
  | 33 => ⟨S8x64x64, .f32⟩
  | 34 => ⟨S8x64x64, .f32⟩
  | 35 => ⟨S_, .i32⟩
  | 36 => ⟨S8x1x1, .i32⟩
  | 37 => ⟨S8x1x1, .i1⟩
  | 38 => ⟨S1x64x64, .f32⟩
  | 39 => ⟨S_, .f32⟩
  | 40 => ⟨S_, .f32⟩
  | 41 => ⟨S8x64x64, .i1⟩
  | 42 => ⟨S8x64x64, .f32⟩
  | 43 => ⟨S8x64x64, .f32⟩
  | 44 => ⟨S8x64x64, .f32⟩
  | 45 => ⟨S_, .i32⟩
  | 46 => ⟨S8x1x1, .i32⟩
  | 47 => ⟨S8x1x1, .i1⟩
  | 48 => ⟨S1x64x64, .f32⟩
  | 49 => ⟨S_, .f32⟩
  | 50 => ⟨S_, .f32⟩
  | 51 => ⟨S8x64x64, .i1⟩
  | 52 => ⟨S8x64x64, .f32⟩
  | 53 => ⟨S8x64x64, .f32⟩
  | 54 => ⟨S8x64x64, .f32⟩
  | 55 => ⟨S1x64x64, .f32⟩
  | 56 => ⟨S1x64x64, .f32⟩
  | 57 => ⟨S1x64x64, .f32⟩
  | 58 => ⟨S1x64x64, .f32⟩
  | 59 => ⟨S1x64x64, .f32⟩
  | 60 => ⟨S1x64x64, .f32⟩
  | 61 => ⟨S1x64x64, .f32⟩
  | 62 => ⟨S1x64x64, .f32⟩
  | 63 => ⟨S8x64x64, .f32⟩
  | 64 => ⟨S40x64x64, .f32⟩
  | 65 => ⟨S1x64x64, .f32⟩
  | 66 => ⟨S8x64x64, .f32⟩
  | 67 => ⟨S_, .i32⟩
  | 68 => ⟨S8x1x1, .i32⟩
  | 69 => ⟨S8x1x1, .i1⟩
  | 70 => ⟨S1x64x64, .f32⟩
  | 71 => ⟨S_, .f32⟩
  | 72 => ⟨S_, .f32⟩
  | 73 => ⟨S8x64x64, .i1⟩
  | 74 => ⟨S8x64x64, .f32⟩
  | 75 => ⟨S8x64x64, .f32⟩
  | 76 => ⟨S8x64x64, .f32⟩
  | 77 => ⟨S_, .i32⟩
  | 78 => ⟨S8x1x1, .i32⟩
  | 79 => ⟨S8x1x1, .i1⟩
  | 80 => ⟨S1x64x64, .f32⟩
  | 81 => ⟨S_, .f32⟩
  | 82 => ⟨S_, .f32⟩
  | 83 => ⟨S8x64x64, .i1⟩
  | 84 => ⟨S8x64x64, .f32⟩
  | 85 => ⟨S8x64x64, .f32⟩
  | 86 => ⟨S8x64x64, .f32⟩
  | 87 => ⟨S_, .i32⟩
  | 88 => ⟨S8x1x1, .i32⟩
  | 89 => ⟨S8x1x1, .i1⟩
  | 90 => ⟨S1x64x64, .f32⟩
  | 91 => ⟨S_, .f32⟩
  | 92 => ⟨S_, .f32⟩
  | 93 => ⟨S8x64x64, .i1⟩
  | 94 => ⟨S8x64x64, .f32⟩
  | 95 => ⟨S8x64x64, .f32⟩
  | 96 => ⟨S8x64x64, .f32⟩
  | 97 => ⟨S1x64x64, .f32⟩
  | 98 => ⟨S1x64x64, .f32⟩
  | 99 => ⟨S1x64x64, .f32⟩
  | 100 => ⟨S1x64x64, .f32⟩
  | 101 => ⟨S1x64x64, .f32⟩
  | 102 => ⟨S1x64x64, .f32⟩
  | 103 => ⟨S1x64x64, .f32⟩
  | 104 => ⟨S1x64x64, .f32⟩
  | 105 => ⟨S8x64x64, .f32⟩
  | 106 => ⟨S40x64x64, .f32⟩
  | 107 => ⟨S40x1x64x64, .f32⟩
  | 108 => ⟨S40x1x64x64, .f32⟩
  | 109 => ⟨S40x2x64x64, .f32⟩
  | 110 => ⟨S40x2x4x1024, .f32⟩
  | 111 => ⟨S4x40x2x1024, .f32⟩
  | 112 => ⟨S4x40x2048, .f32⟩
  | 113 => ⟨S4096x8192, .f32⟩
  | 114 => ⟨S4096x1024, .f32⟩
  | 115 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | .local _ .vmem, ⟨0, _⟩ => ⟨S512x512, .f32⟩
  | .local _ .vmem, ⟨1, _⟩ => ⟨S512x512, .f32⟩
  | .local _ .vmem, ⟨2, _⟩ => ⟨S2x256x128, .bf16⟩
  | .local _ .vmem, ⟨3, _⟩ => ⟨S2x256x128, .bf16⟩
  | .local _ .vmem, ⟨4, _⟩ => ⟨S2x128x256, .bf16⟩
  | .local _ .vmem, ⟨5, _⟩ => ⟨S2x128x256, .bf16⟩
  | .local _ .vmem, ⟨6, _⟩ => ⟨S2x40x2048, .f32⟩
  | .local _ .vmem, ⟨7, _⟩ => ⟨S2x40x2048, .f32⟩
  | .local _ .vmem, ⟨8, _⟩ => ⟨S1x512, .f32⟩
  | .local _ .vmem, ⟨9, _⟩ => ⟨S1x512, .f32⟩
  | .local _ .vmem, ⟨10, _⟩ => ⟨S512x4096, .f32⟩
  | .local _ .vmem, ⟨11, _⟩ => ⟨S512x4096, .f32⟩
  | .local _ .vmem, ⟨12, _⟩ => ⟨S512x512, .f32⟩
  | .local _ .vmem, ⟨13, _⟩ => ⟨S512x512, .f32⟩
  | .local _ .vmem, ⟨14, _⟩ => ⟨S512x512, .bf16⟩
  | .local _ .vmem, ⟨15, _⟩ => ⟨S512x512, .bf16⟩
  | .local _ .vmem, ⟨16, _⟩ => ⟨S2x256x2048, .bf16⟩
  | .local _ .vmem, ⟨17, _⟩ => ⟨S2x2048x256, .bf16⟩
  | .local _ .vmem, ⟨18, _⟩ => ⟨S512x512, .bf16⟩
  | .local _ .vmem, ⟨19, _⟩ => ⟨S512x512, .bf16⟩
  | .local _ .vmem, ⟨20, _⟩ => ⟨S2x2x8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_1 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_c : Ref sig .tc := ⟨.hbm, 153, rfl⟩
abbrev main_v141 : Ref sig .tc := ⟨.hbm, 154, rfl⟩
abbrev main_v142 : Ref sig .tc := ⟨.hbm, 155, rfl⟩
abbrev main_v143 : Ref sig .tc := ⟨.hbm, 156, rfl⟩
abbrev main_cst_2 : Ref sig .tc := ⟨.hbm, 157, rfl⟩
abbrev main_call0_v0 : Ref sig .tc := ⟨.hbm, 158, rfl⟩
abbrev main_call0_v1 : Ref sig .tc := ⟨.hbm, 159, rfl⟩
abbrev main_call0_v2 : Ref sig .tc := ⟨.hbm, 160, rfl⟩
abbrev main_call0_v3 : Ref sig .tc := ⟨.hbm, 161, rfl⟩
abbrev main_v144 : Ref sig .tc := ⟨.hbm, 162, rfl⟩
abbrev main_c_3 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_cst_4 : Ref sig .tc := ⟨.hbm, 167, rfl⟩
abbrev main_call1_v0 : Ref sig .tc := ⟨.hbm, 168, rfl⟩
abbrev main_call1_v1 : Ref sig .tc := ⟨.hbm, 169, rfl⟩
abbrev main_call1_v2 : Ref sig .tc := ⟨.hbm, 170, rfl⟩
abbrev main_call1_v3 : Ref sig .tc := ⟨.hbm, 171, rfl⟩
abbrev main_v148 : Ref sig .tc := ⟨.hbm, 172, rfl⟩
abbrev main_c_5 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_cst_6 : Ref sig .tc := ⟨.hbm, 177, rfl⟩
abbrev main_call2_v0 : Ref sig .tc := ⟨.hbm, 178, rfl⟩
abbrev main_call2_v1 : Ref sig .tc := ⟨.hbm, 179, rfl⟩
abbrev main_call2_v2 : Ref sig .tc := ⟨.hbm, 180, rfl⟩
abbrev main_call2_v3 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_c_7 : Ref sig .tc := ⟨.hbm, 195, rfl⟩
abbrev main_v165 : Ref sig .tc := ⟨.hbm, 196, rfl⟩
abbrev main_v166 : Ref sig .tc := ⟨.hbm, 197, rfl⟩
abbrev main_v167 : Ref sig .tc := ⟨.hbm, 198, rfl⟩
abbrev main_cst_8 : Ref sig .tc := ⟨.hbm, 199, rfl⟩
abbrev main_call3_v0 : Ref sig .tc := ⟨.hbm, 200, rfl⟩
abbrev main_call3_v1 : Ref sig .tc := ⟨.hbm, 201, rfl⟩
abbrev main_call3_v2 : Ref sig .tc := ⟨.hbm, 202, rfl⟩
abbrev main_call3_v3 : Ref sig .tc := ⟨.hbm, 203, rfl⟩
abbrev main_v168 : Ref sig .tc := ⟨.hbm, 204, rfl⟩
abbrev main_c_9 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_cst_10 : Ref sig .tc := ⟨.hbm, 209, rfl⟩
abbrev main_call4_v0 : Ref sig .tc := ⟨.hbm, 210, rfl⟩
abbrev main_call4_v1 : Ref sig .tc := ⟨.hbm, 211, rfl⟩
abbrev main_call4_v2 : Ref sig .tc := ⟨.hbm, 212, rfl⟩
abbrev main_call4_v3 : Ref sig .tc := ⟨.hbm, 213, rfl⟩
abbrev main_v172 : Ref sig .tc := ⟨.hbm, 214, rfl⟩
abbrev main_c_11 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_cst_12 : Ref sig .tc := ⟨.hbm, 219, rfl⟩
abbrev main_call5_v0 : Ref sig .tc := ⟨.hbm, 220, rfl⟩
abbrev main_call5_v1 : Ref sig .tc := ⟨.hbm, 221, rfl⟩
abbrev main_call5_v2 : Ref sig .tc := ⟨.hbm, 222, rfl⟩
abbrev main_call5_v3 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩
abbrev main_v191 : Ref sig .tc := ⟨.hbm, 239, rfl⟩
abbrev main_v192 : Ref sig .tc := ⟨.hbm, 240, rfl⟩
abbrev main_v193_0 : Ref sig .tc := ⟨.hbm, 241, rfl⟩
abbrev main_v193_1 : Ref sig .tc := ⟨.hbm, 242, rfl⟩
abbrev main_v193_2 : Ref sig .tc := ⟨.hbm, 243, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x40x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== S5fRefIdeal.lean ====
abbrev S4096x1024 : Shape := ⟨2, ![4096, 1024]⟩
abbrev S64x64 : Shape := ⟨2, ![64, 64]⟩
abbrev S64 : Shape := ⟨1, ![64]⟩
abbrev S64x64x16 : Shape := ⟨3, ![64, 64, 16]⟩
abbrev S64x16x64 : Shape := ⟨3, ![64, 16, 64]⟩
abbrev S1x1024 : Shape := ⟨2, ![1, 1024]⟩
abbrev S4096x64x16 : Shape := ⟨3, ![4096, 64, 16]⟩
abbrev S_ : Shape := ⟨0, ![]⟩
abbrev S64x1 : Shape := ⟨2, ![64, 1]⟩
abbrev S64x64x1 : Shape := ⟨3, ![64, 64, 1]⟩
abbrev S64x64x4096 : Shape := ⟨3, ![64, 64, 4096]⟩
abbrev S4096x64x64 : Shape := ⟨3, ![4096, 64, 64]⟩
abbrev S1x64x64 : Shape := ⟨3, ![1, 64, 64]⟩
abbrev S64x4096x16 : Shape := ⟨3, ![64, 4096, 16]⟩

abbrev nBuf : Space → Nat
  | .hbm => 132
  | .vmem => 0
  | .smem => 0
  | _ => 0

abbrev hbmTy0_0 (i : Nat) : BufTy := match i % 128 with
  | 0 => ⟨S4096x1024, .f32⟩
  | 1 => ⟨S64x64, .f32⟩
  | 2 => ⟨S64x64, .f32⟩
  | 3 => ⟨S64, .f32⟩
  | 4 => ⟨S64x64x16, .f32⟩
  | 5 => ⟨S64x64x16, .f32⟩
  | 6 => ⟨S64x16x64, .f32⟩
  | 7 => ⟨S64x16x64, .f32⟩
  | 8 => ⟨S1x1024, .f32⟩
  | 9 => ⟨S4096x64x16, .f32⟩
  | 10 => ⟨S_, .f32⟩
  | 11 => ⟨S64x64, .f32⟩
  | 12 => ⟨S64x64, .f32⟩
  | 13 => ⟨S64, .f32⟩
  | 14 => ⟨S64x1, .f32⟩
  | 15 => ⟨S64x64, .f32⟩
  | 16 => ⟨S64x64, .f32⟩
  | 17 => ⟨S64x64, .f32⟩
  | 18 => ⟨S64x64, .f32⟩
  | 19 => ⟨S64x64, .f32⟩
  | 20 => ⟨S64x64, .f32⟩
  | 21 => ⟨S64x64, .f32⟩
  | 22 => ⟨S64x64, .f32⟩
  | 23 => ⟨S64x64, .f32⟩
  | 24 => ⟨S64x64, .f32⟩
  | 25 => ⟨S64x64, .f32⟩
  | 26 => ⟨S64x64, .f32⟩
  | 27 => ⟨S64x64, .f32⟩
  | 28 => ⟨S64x64, .f32⟩
  | 29 => ⟨S_, .f32⟩
  | 30 => ⟨S64x64, .f32⟩
  | 31 => ⟨S64x64, .f32⟩
  | 32 => ⟨S64x64, .f32⟩
  | 33 => ⟨S64x64, .f32⟩
  | 34 => ⟨S64x64, .f32⟩
  | 35 => ⟨S64x64, .f32⟩
  | 36 => ⟨S64x64, .f32⟩
  | 37 => ⟨S_, .f32⟩
  | 38 => ⟨S64x64, .f32⟩
  | 39 => ⟨S64x64, .f32⟩
  | 40 => ⟨S64x64, .f32⟩
  | 41 => ⟨S64x64, .f32⟩
  | 42 => ⟨S64x64, .f32⟩
  | 43 => ⟨S64x64x1, .f32⟩
  | 44 => ⟨S64x64x16, .f32⟩
  | 45 => ⟨S64x64x16, .f32⟩
  | 46 => ⟨S64x64x1, .f32⟩
  | 47 => ⟨S64x64x16, .f32⟩
  | 48 => ⟨S64x64x16, .f32⟩
  | 49 => ⟨S64x64x16, .f32⟩
  | 50 => ⟨S64x64x1, .f32⟩
  | 51 => ⟨S64x64x16, .f32⟩
  | 52 => ⟨S64x64x16, .f32⟩
  | 53 => ⟨S64x64x1, .f32⟩
  | 54 => ⟨S64x64x16, .f32⟩
  | 55 => ⟨S64x64x16, .f32⟩
  | 56 => ⟨S64x64x16, .f32⟩
  | 57 => ⟨S64x64x4096, .f32⟩
  | 58 => ⟨S4096x64x64, .f32⟩
  | 59 => ⟨S64x64x4096, .f32⟩
  | 60 => ⟨S4096x64x64, .f32⟩
  | 61 => ⟨S_, .f32⟩
  | 62 => ⟨S64x64, .f32⟩
  | 63 => ⟨S_, .f32⟩
  | 64 => ⟨S4096x64x64, .f32⟩
  | 65 => ⟨S_, .f32⟩
  | 66 => ⟨S4096x64x64, .f32⟩
  | 67 => ⟨S_, .i32⟩
  | 68 => ⟨S4096x64x64, .f32⟩
  | 69 => ⟨S4096x64x64, .f32⟩
  | 70 => ⟨S64x64, .f32⟩
  | 71 => ⟨S64x64, .f32⟩
  | 72 => ⟨S_, .i32⟩
  | 73 => ⟨S64x64, .f32⟩
  | 74 => ⟨S64x64, .f32⟩
  | 75 => ⟨S4096x64x64, .f32⟩
  | 76 => ⟨S4096x64x64, .f32⟩
  | 77 => ⟨S_, .i32⟩
  | 78 => ⟨S_, .i1⟩
  | 79 => ⟨S_, .i32⟩
  | 80 => ⟨S_, .i32⟩
  | 81 => ⟨S1x64x64, .f32⟩
  | 82 => ⟨S64x64, .f32⟩
  | 83 => ⟨S_, .i32⟩
  | 84 => ⟨S_, .i32⟩
  | 85 => ⟨S1x64x64, .f32⟩
  | 86 => ⟨S64x64, .f32⟩
  | 87 => ⟨S64x64, .f32⟩
  | 88 => ⟨S64x64, .f32⟩
  | 89 => ⟨S64x64, .f32⟩
  | 90 => ⟨S64x64, .f32⟩
  | 91 => ⟨S64x64, .f32⟩
  | 92 => ⟨S64x64, .f32⟩
  | 93 => ⟨S64x64, .f32⟩
  | 94 => ⟨S64x64, .f32⟩
  | 95 => ⟨S1x64x64, .f32⟩
  | 96 => ⟨S_, .i32⟩
  | 97 => ⟨S_, .i32⟩
  | 98 => ⟨S4096x64x64, .f32⟩
  | 99 => ⟨S1x64x64, .f32⟩
  | 100 => ⟨S_, .i32⟩
  | 101 => ⟨S_, .i32⟩
  | 102 => ⟨S4096x64x64, .f32⟩
  | 103 => ⟨S_, .i32⟩
  | 104 => ⟨S_, .i32⟩
  | 105 => ⟨S64x4096x16, .f32⟩
  | 106 => ⟨S4096x64x16, .f32⟩
  | 107 => ⟨S64x4096x16, .f32⟩
  | 108 => ⟨S4096x64x16, .f32⟩
  | 109 => ⟨S4096x64x16, .f32⟩
  | 110 => ⟨S4096x1024, .f32⟩
  | 111 => ⟨S4096x1024, .f32⟩
  | 112 => ⟨S4096x1024, .f32⟩
  | 113 => ⟨S4096x1024, .f32⟩
  | 114 => ⟨S4096x1024, .f32⟩
  | 115 => ⟨S4096x1024, .f32⟩
  | 116 => ⟨S_, .f32⟩
  | 117 => ⟨S4096x1024, .f32⟩
  | 118 => ⟨S4096x1024, .f32⟩
  | 119 => ⟨S4096x1024, .f32⟩
  | 120 => ⟨S_, .f32⟩
  | 121 => ⟨S4096x1024, .f32⟩
  | 122 => ⟨S4096x1024, .f32⟩
  | 123 => ⟨S4096x1024, .f32⟩
  | 124 => ⟨S_, .f32⟩
  | 125 => ⟨S4096x1024, .f32⟩
  | 126 => ⟨S4096x1024, .f32⟩
  | 127 => ⟨S_, .f32⟩
  | _ => ⟨S4096x1024, .f32⟩

abbrev hbmTy0_1 (i : Nat) : BufTy := match i % 128 with
  | 0 => ⟨S4096x1024, .f32⟩
  | 1 => ⟨S4096x1024, .f32⟩
  | 2 => ⟨S4096x1024, .f32⟩
  | 3 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_1 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_2 : Ref sig .tc := ⟨.hbm, 61, rfl⟩
abbrev main_v49 : Ref sig .tc := ⟨.hbm, 62, rfl⟩
abbrev main_cst_3 : Ref sig .tc := ⟨.hbm, 63, rfl⟩
abbrev main_v50 : Ref sig .tc := ⟨.hbm, 64, rfl⟩
abbrev main_cst_4 : Ref sig .tc := ⟨.hbm, 65, rfl⟩
abbrev main_v51 : Ref sig .tc := ⟨.hbm, 66, rfl⟩
abbrev main_c : Ref sig .tc := ⟨.hbm, 67, rfl⟩
abbrev main_v52_0 : Ref sig .tc := ⟨.hbm, 68, rfl⟩
abbrev main_v52_1 : Ref sig .tc := ⟨.hbm, 69, rfl⟩
abbrev main_v52_2 : Ref sig .tc := ⟨.hbm, 70, rfl⟩
abbrev main_v52_3 : Ref sig .tc := ⟨.hbm, 71, rfl⟩
abbrev main_v52_4 : Ref sig .tc := ⟨.hbm, 72, rfl⟩
abbrev main_v52_5 : Ref sig .tc := ⟨.hbm, 73, rfl⟩
abbrev main_v52_6 : Ref sig .tc := ⟨.hbm, 74, rfl⟩
abbrev main_v52_7 : Ref sig .tc := ⟨.hbm, 75, rfl⟩
abbrev main_v52_8 : Ref sig .tc := ⟨.hbm, 76, rfl⟩
abbrev main_while0c_c_17 : Ref sig .tc := ⟨.hbm, 77, rfl⟩
abbrev main_while0c_v76 : Ref sig .tc := ⟨.hbm, 78, rfl⟩
abbrev main_while0b_call0_c : Ref sig .tc := ⟨.hbm, 79, rfl⟩
abbrev main_while0b_call0_c_0 : Ref sig .tc := ⟨.hbm, 80, rfl⟩
abbrev main_while0b_call0_v0 : Ref sig .tc := ⟨.hbm, 81, rfl⟩
abbrev main_while0b_v76 : Ref sig .tc := ⟨.hbm, 82, rfl⟩
abbrev main_while0b_call1_c : Ref sig .tc := ⟨.hbm, 83, rfl⟩
abbrev main_while0b_call1_c_0 : Ref sig .tc := ⟨.hbm, 84, rfl⟩
abbrev main_while0b_call1_v0 : Ref sig .tc := ⟨.hbm, 85, rfl⟩
abbrev main_while0b_v77 : Ref sig .tc := ⟨.hbm, 86, rfl⟩
abbrev main_while0b_v78 : Ref sig .tc := ⟨.hbm, 87, rfl⟩
abbrev main_while0b_v79 : Ref sig .tc := ⟨.hbm, 88, rfl⟩
abbrev main_while0b_v80 : Ref sig .tc := ⟨.hbm, 89, rfl⟩
abbrev main_while0b_v81 : Ref sig .tc := ⟨.hbm, 90, rfl⟩
abbrev main_while0b_v82 : Ref sig .tc := ⟨.hbm, 91, rfl⟩
abbrev main_while0b_v83 : Ref sig .tc := ⟨.hbm, 92, rfl⟩
abbrev main_while0b_v84 : Ref sig .tc := ⟨.hbm, 93, rfl⟩
abbrev main_while0b_v85 : Ref sig .tc := ⟨.hbm, 94, rfl⟩
abbrev main_while0b_call2_v0 : Ref sig .tc := ⟨.hbm, 95, rfl⟩
abbrev main_while0b_call2_c : Ref sig .tc := ⟨.hbm, 96, rfl⟩
abbrev main_while0b_call2_c_0 : Ref sig .tc := ⟨.hbm, 97, rfl⟩
abbrev main_while0b_v86 : Ref sig .tc := ⟨.hbm, 98, rfl⟩
abbrev main_while0b_call3_v0 : Ref sig .tc := ⟨.hbm, 99, rfl⟩
abbrev main_while0b_call3_c : Ref sig .tc := ⟨.hbm, 100, rfl⟩
abbrev main_while0b_call3_c_0 : Ref sig .tc := ⟨.hbm, 101, rfl⟩
abbrev main_while0b_v87 : Ref sig .tc := ⟨.hbm, 102, rfl⟩
abbrev main_while0b_c_17 : Ref sig .tc := ⟨.hbm, 103, rfl⟩
abbrev main_while0b_v88 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_cst_5 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_cst_6 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_cst_7 : Ref sig .tc := ⟨.hbm, 124, rfl⟩
abbrev main_v70 : Ref sig .tc := ⟨.hbm, 125, rfl⟩
abbrev main_v71 : Ref sig .tc := ⟨.hbm, 126, rfl⟩
abbrev main_cst_8 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩

abbrev nD : Nat := 1
abbrev τ : Topo := Topo.v7x

variable {F : FTy → Type} [FloatOps F]

abbrev main_while0_count : Scf.Loop 32 := ⟨0#32, 4096#32, 1#32⟩
-- ==== OutGlu.lean ====
abbrev S4096x1024 : Shape := ⟨2, ![4096, 1024]⟩
abbrev S4x1024x512 : Shape := ⟨3, ![4, 1024, 512]⟩
abbrev S6x1024 : Shape := ⟨2, ![6, 1024]⟩
abbrev S2x4096x1024 : Shape := ⟨3, ![2, 4096, 1024]⟩
abbrev S1024x1024 : Shape := ⟨2, ![1024, 1024]⟩
abbrev S1x1024x512 : Shape := ⟨3, ![1, 1024, 512]⟩
abbrev S1024x512 : Shape := ⟨2, ![1024, 512]⟩
abbrev S6x512 : Shape := ⟨2, ![6, 512]⟩
abbrev S2x1024x512 : Shape := ⟨3, ![2, 1024, 512]⟩
abbrev S1x1024x256 : Shape := ⟨3, ![1, 1024, 256]⟩
abbrev S1024x256 : Shape := ⟨2, ![1024, 256]⟩
abbrev S1x256 : Shape := ⟨2, ![1, 256]⟩

abbrev nBuf : Space → Nat
  | .hbm => 7
  | .vmem => 16
  | .smem => 0
  | _ => 0

abbrev bufTy : (tb : Table) → Fin (tcTables nBuf tb) → BufTy
  | .hbm, ⟨0, _⟩ => ⟨S4096x1024, .bf16⟩
  | .hbm, ⟨1, _⟩ => ⟨S4x1024x512, .bf16⟩
  | .hbm, ⟨2, _⟩ => ⟨S4096x1024, .f32⟩
  | .hbm, ⟨3, _⟩ => ⟨S6x1024, .f32⟩
  | .hbm, ⟨4, _⟩ => ⟨S2x4096x1024, .bf16⟩
  | .hbm, ⟨5, _⟩ => ⟨S4096x1024, .bf16⟩
  | .hbm, ⟨6, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1024x512, .f32⟩
  | .local _ .vmem, ⟨7, _⟩ => ⟨S1024x512, .f32⟩
  | .local _ .vmem, ⟨8, _⟩ => ⟨S6x512, .f32⟩
  | .local _ .vmem, ⟨9, _⟩ => ⟨S6x512, .f32⟩
  | .local _ .vmem, ⟨10, _⟩ => ⟨S2x1024x512, .bf16⟩
  | .local _ .vmem, ⟨11, _⟩ => ⟨S2x1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .f32⟩
  | .local _ .vmem, ⟨15, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![2, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg0 c2_i32
  let c0_i32 : BitVec 32 := 0#32
  let c0_i32_0 : BitVec 32 := 0#32
  ![v0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  ![arg2.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, arg2.toNat, v1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  ![arg2.toNat, v1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  ![arg2.toNat, v1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S6x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S2x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== OutGluRefIdeal.lean ====
abbrev S4096x1024 : Shape := ⟨2, ![4096, 1024]⟩
abbrev S4x1024x512 : Shape := ⟨3, ![4, 1024, 512]⟩
abbrev S6x1024 : Shape := ⟨2, ![6, 1024]⟩
abbrev S1024x4x512 : Shape := ⟨3, ![1024, 4, 512]⟩
abbrev S1024x2048 : Shape := ⟨2, ![1024, 2048]⟩
abbrev S4096x2048 : Shape := ⟨2, ![4096, 2048]⟩
abbrev S_ : Shape := ⟨0, ![]⟩
abbrev S1x4096x1024 : Shape := ⟨3, ![1, 4096, 1024]⟩
abbrev S2x4096x1024 : Shape := ⟨3, ![2, 4096, 1024]⟩
abbrev S1x1024 : Shape := ⟨2, ![1, 1024]⟩
abbrev S1024 : Shape := ⟨1, ![1024]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x512, .bf16⟩
  | .hbm, ⟨2, _⟩ => ⟨S4096x1024, .f32⟩
  | .hbm, ⟨3, _⟩ => ⟨S6x1024, .f32⟩
  | .hbm, ⟨4, _⟩ => ⟨S4096x1024, .f32⟩
  | .hbm, ⟨5, _⟩ => ⟨S1024x4x512, .bf16⟩
  | .hbm, ⟨6, _⟩ => ⟨S1024x2048, .bf16⟩
  | .hbm, ⟨7, _⟩ => ⟨S1024x2048, .f32⟩
  | .hbm, ⟨8, _⟩ => ⟨S4096x2048, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S1x4096x1024, .f32⟩
  | .hbm, ⟨21, _⟩ => ⟨S1x4096x1024, .f32⟩
  | .hbm, ⟨22, _⟩ => ⟨S2x4096x1024, .f32⟩
  | .hbm, ⟨23, _⟩ => ⟨S2x4096x1024, .bf16⟩
  | .hbm, ⟨24, _⟩ => ⟨S4096x1024, .bf16⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== FfnIn.lean ====
abbrev S4096x1024 : Shape := ⟨2, ![4096, 1024]⟩
abbrev S4x1024x1408 : Shape := ⟨3, ![4, 1024, 1408]⟩
abbrev S2x4096x2816 : Shape := ⟨3, ![2, 4096, 2816]⟩
abbrev S4096x2816 : Shape := ⟨2, ![4096, 2816]⟩
abbrev S1024x1024 : Shape := ⟨2, ![1024, 1024]⟩
abbrev S1x1024x1408 : Shape := ⟨3, ![1, 1024, 1408]⟩
abbrev S2x1024x1408 : Shape := ⟨3, ![2, 1024, 1408]⟩
abbrev S1024x1408 : Shape := ⟨2, ![1024, 1408]⟩

abbrev nBuf : Space → Nat
  | .hbm => 4
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S4x1024x1408, .bf16⟩
  | .hbm, ⟨2, _⟩ => ⟨S2x4096x2816, .bf16⟩
  | .hbm, ⟨3, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S2x1024x1408, .bf16⟩
  | .local _ .vmem, ⟨7, _⟩ => ⟨S2x1024x1408, .bf16⟩
  | .local _ .vmem, ⟨8, _⟩ => ⟨S1024x1408, .bf16⟩
  | .local _ .vmem, ⟨9, _⟩ => ⟨S1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg0 c2_i32
  let c0_i32 : BitVec 32 := 0#32
  let c0_i32_0 : BitVec 32 := 0#32
  ![v0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, arg2.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  ![arg2.toNat, v1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== FfnInRefIdeal.lean ====
abbrev S4096x1024 : Shape := ⟨2, ![4096, 1024]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S4096x5632 : Shape := ⟨2, ![4096, 5632]⟩
abbrev S4096x2816 : Shape := ⟨2, ![4096, 2816]⟩
abbrev S1x4096x2816 : Shape := ⟨3, ![1, 4096, 2816]⟩
abbrev S2x4096x2816 : Shape := ⟨3, ![2, 4096, 2816]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x1408, .bf16⟩
  | .hbm, ⟨2, _⟩ => ⟨S4096x1024, .f32⟩
  | .hbm, ⟨3, _⟩ => ⟨S1024x4x1408, .bf16⟩
  | .hbm, ⟨4, _⟩ => ⟨S1024x5632, .bf16⟩
  | .hbm, ⟨5, _⟩ => ⟨S1024x5632, .f32⟩
  | .hbm, ⟨6, _⟩ => ⟨S4096x5632, .f32⟩
  | .hbm, ⟨7, _⟩ => ⟨S4096x2816, .f32⟩
  | .hbm, ⟨8, _⟩ => ⟨S4096x2816, .f32⟩
  | .hbm, ⟨9, _⟩ => ⟨S1x4096x2816, .f32⟩
  | .hbm, ⟨10, _⟩ => ⟨S1x4096x2816, .f32⟩
  | .hbm, ⟨11, _⟩ => ⟨S2x4096x2816, .f32⟩
  | .hbm, ⟨12, _⟩ => ⟨S2x4096x2816, .bf16⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S_, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]
-- ==== ConvF.lean ====
abbrev S4096x3072 : Shape := ⟨2, ![4096, 3072]⟩
abbrev S3x1024 : Shape := ⟨2, ![3, 1024]⟩
abbrev S4096x1024 : Shape := ⟨2, ![4096, 1024]⟩
abbrev S4096x128 : Shape := ⟨2, ![4096, 128]⟩
abbrev S3x128 : Shape := ⟨2, ![3, 128]⟩
abbrev S1x128 : Shape := ⟨2, ![1, 128]⟩

abbrev nBuf : Space → Nat
  | .hbm => 3
  | .vmem => 10
  | .smem => 0
  | _ => 0

abbrev bufTy : (tb : Table) → Fin (tcTables nBuf tb) → BufTy
  | .hbm, ⟨0, _⟩ => ⟨S4096x3072, .bf16⟩
  | .hbm, ⟨1, _⟩ => ⟨S3x1024, .f32⟩
  | .hbm, ⟨2, _⟩ => ⟨S4096x1024, .bf16⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S3x128, .f32⟩
  | .local _ .vmem, ⟨7, _⟩ => ⟨S3x128, .f32⟩
  | .local _ .vmem, ⟨8, _⟩ => ⟨S4096x128, .bf16⟩
  | .local _ .vmem, ⟨9, _⟩ => ⟨S4096x128, .bf16⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ConvFRefIdeal.lean ====
abbrev S4096x3072 : Shape := ⟨2, ![4096, 3072]⟩
abbrev S3x1024 : Shape := ⟨2, ![3, 1024]⟩
abbrev S4096x1024 : Shape := ⟨2, ![4096, 1024]⟩
abbrev S_ : Shape := ⟨0, ![]⟩
abbrev S2x1024 : Shape := ⟨2, ![2, 1024]⟩
abbrev S4098x1024 : Shape := ⟨2, ![4098, 1024]⟩
abbrev S1x1024 : Shape := ⟨2, ![1, 1024]⟩
abbrev S1024 : Shape := ⟨1, ![1024]⟩

abbrev nBuf : Space → Nat
  | .hbm => 35
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S3x1024, .f32⟩
  | .hbm, ⟨2, _⟩ => ⟨S4096x3072, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S2x1024, .f32⟩
  | .hbm, ⟨9, _⟩ => ⟨S4098x1024, .f32⟩
  | .hbm, ⟨10, _⟩ => ⟨S1x1024, .f32⟩
  | .hbm, ⟨11, _⟩ => ⟨S1024, .f32⟩
  | .hbm, ⟨12, _⟩ => ⟨S4096x1024, .f32⟩
  | .hbm, ⟨13, _⟩ => ⟨S1x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S1024, .f32⟩
  | .hbm, ⟨28, _⟩ => ⟨S4096x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .bf16⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩

abbrev nD : Nat := 1
abbrev τ : Topo := Topo.v7x

variable {F : FTy → Type} [FloatOps F]
-- ==== NormF.lean ====
abbrev S4096x1024 : Shape := ⟨2, ![4096, 1024]⟩
abbrev S1x1024 : Shape := ⟨2, ![1, 1024]⟩
abbrev S6x1024 : Shape := ⟨2, ![6, 1024]⟩
abbrev S3x256x1024 : Shape := ⟨3, ![3, 256, 1024]⟩
abbrev S2x256x1024 : Shape := ⟨3, ![2, 256, 1024]⟩
abbrev S3 : Shape := ⟨1, ![3]⟩
abbrev S2 : Shape := ⟨1, ![2]⟩
abbrev S1 : Shape := ⟨1, ![1]⟩
abbrev S_ : Shape := ⟨0, ![]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩

abbrev nBuf : Space → Nat
  | .hbm => 4
  | .vmem => 4
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S6x1024, .f32⟩
  | .hbm, ⟨3, _⟩ => ⟨S4096x1024, .bf16⟩
  | .local _ .vmem, ⟨0, _⟩ => ⟨S1x1024, .f32⟩
  | .local _ .vmem, ⟨1, _⟩ => ⟨S6x1024, .f32⟩
  | .local _ .vmem, ⟨2, _⟩ => ⟨S3x256x1024, .f32⟩
  | .local _ .vmem, ⟨3, _⟩ => ⟨S2x256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

def k0_mult1 : BitVec 32 :=
  let c0_i32 : BitVec 32 := 0#32
  c0_i32
def k0_mult2 : BitVec 32 :=
  let c256_i32 : BitVec 32 := 256#32
  c256_i32
def k0_mult3 : BitVec 32 :=
  let c512_i32 : BitVec 32 := 512#32
  c512_i32
@[reducible] def k0_t1_loop : Scf.Loop 32 :=
  let c0_i32_17 : BitVec 32 := 0#32
  let c16_i32 : BitVec 32 := 16#32
  let v21 : BitVec 32 := Scalar.addi c0_i32_17 c16_i32
  let c1_i32_18 : BitVec 32 := 1#32
  ⟨c0_i32_17, v21, c1_i32_18⟩
def k0_mult4 (k0_t1 : Fin k0_t1_loop.trips) : BitVec 32 :=
  let c0_i32_17 : BitVec 32 := 0#32
  let c1_i32_18 : BitVec 32 := 1#32
  let arg8 : BitVec 32 := Scf.iv c0_i32_17 c1_i32_18 k0_t1
  let c256_i32_31 : BitVec 32 := 256#32
  let v36 : BitVec 32 := Scalar.muli arg8 c256_i32_31
  v36
def k0_off1 (k0_t1 : Fin k0_t1_loop.trips) : Fin 1 → Nat :=
  let c0_i32_17 : BitVec 32 := 0#32
  let c1_i32_18 : BitVec 32 := 1#32
  let arg8 : BitVec 32 := Scf.iv c0_i32_17 c1_i32_18 k0_t1
  let c3_i32 : BitVec 32 := 3#32
  let v34 : BitVec 32 := Scalar.remsi arg8 c3_i32
  ![v34.toNat]
def k0_off2 (k0_t1 : Fin k0_t1_loop.trips) : Fin 3 → Nat :=
  let c0_i32_17 : BitVec 32 := 0#32
  let c1_i32_18 : BitVec 32 := 1#32
  let arg8 : BitVec 32 := Scf.iv c0_i32_17 c1_i32_18 k0_t1
  let c3_i32 : BitVec 32 := 3#32
  let v34 : BitVec 32 := Scalar.remsi arg8 c3_i32
  let c0_i32_32 : BitVec 32 := 0#32
  let c0_i32_33 : BitVec 32 := 0#32
  ![v34.toNat, 0, 0]
def k0_off3 (k0_t1 : Fin k0_t1_loop.trips) : Fin 2 → Nat :=
  let c0_i32_17 : BitVec 32 := 0#32
  let c1_i32_18 : BitVec 32 := 1#32
  let arg8 : BitVec 32 := Scf.iv c0_i32_17 c1_i32_18 k0_t1
  let c256_i32_31 : BitVec 32 := 256#32
  let v36 : BitVec 32 := Scalar.muli arg8 c256_i32_31
  let v37 : BitVec 32 := v36
  let c0_i32_34 : BitVec 32 := 0#32
  ![v37.toNat, 0]
def k0_cond1 (k0_t1 : Fin k0_t1_loop.trips) : BitVec 1 :=
  let c0_i32_17 : BitVec 32 := 0#32
  let c1_i32_18 : BitVec 32 := 1#32
  let arg8 : BitVec 32 := Scf.iv c0_i32_17 c1_i32_18 k0_t1
  let c2_i32_35 : BitVec 32 := 2#32
  let v43 : BitVec 1 := Scalar.cmpi .sge arg8 c2_i32_35
  let v44 : BitVec 32 := Scalar.extui v43
  let c0_i32_36 : BitVec 32 := 0#32
  let v45 : BitVec 1 := Scalar.cmpi .ne v44 c0_i32_36
  v45

def k0_mult5 (k0_t1 : Fin k0_t1_loop.trips) : BitVec 32 :=
  let c0_i32_17 : BitVec 32 := 0#32
  let c1_i32_18 : BitVec 32 := 1#32
  let arg8 : BitVec 32 := Scf.iv c0_i32_17 c1_i32_18 k0_t1
  let c2_i32_51 : BitVec 32 := 2#32
  let v83 : BitVec 32 := Scalar.subi arg8 c2_i32_51
  let c256_i32_52 : BitVec 32 := 256#32
  let v84 : BitVec 32 := Scalar.muli v83 c256_i32_52
  v84
def k0_off4 (k0_t1 : Fin k0_t1_loop.trips) : Fin 1 → Nat :=
  let c0_i32_17 : BitVec 32 := 0#32
  let c1_i32_18 : BitVec 32 := 1#32
  let arg8 : BitVec 32 := Scf.iv c0_i32_17 c1_i32_18 k0_t1
  let c2_i32_30 : BitVec 32 := 2#32
  let v35 : BitVec 32 := Scalar.remsi arg8 c2_i32_30
  ![v35.toNat]
def k0_off5 (k0_t1 : Fin k0_t1_loop.trips) : Fin 2 → Nat :=
  let c0_i32_17 : BitVec 32 := 0#32
  let c1_i32_18 : BitVec 32 := 1#32
  let arg8 : BitVec 32 := Scf.iv c0_i32_17 c1_i32_18 k0_t1
  let c2_i32_51 : BitVec 32 := 2#32
  let v83 : BitVec 32 := Scalar.subi arg8 c2_i32_51
  let c256_i32_52 : BitVec 32 := 256#32
  let v84 : BitVec 32 := Scalar.muli v83 c256_i32_52
  let v85 : BitVec 32 := v84
  let c0_i32_53 : BitVec 32 := 0#32
  ![v85.toNat, 0]
def k0_off6 (k0_t1 : Fin k0_t1_loop.trips) : Fin 3 → Nat :=
  let c0_i32_17 : BitVec 32 := 0#32
  let c1_i32_18 : BitVec 32 := 1#32
  let arg8 : BitVec 32 := Scf.iv c0_i32_17 c1_i32_18 k0_t1
  let c2_i32_30 : BitVec 32 := 2#32
  let v35 : BitVec 32 := Scalar.remsi arg8 c2_i32_30
  let c0_i32_54 : BitVec 32 := 0#32
  let c0_i32_55 : BitVec 32 := 0#32
  ![v35.toNat, 0, 0]
def k0_off7 (k0_t1 : Fin k0_t1_loop.trips) : Fin 3 → Nat :=
  let c0_i32_17 : BitVec 32 := 0#32
  let c1_i32_18 : BitVec 32 := 1#32
  let arg8 : BitVec 32 := Scf.iv c0_i32_17 c1_i32_18 k0_t1
  let c3_i32 : BitVec 32 := 3#32
  let v34 : BitVec 32 := Scalar.remsi arg8 c3_i32
  let v46 : Index := Scalar.indexCast v34
  let c0_37 : Index := 0#32
  let c0_38 : Index := 0#32
  ![v46.toNat, 0, 0]
def k0_off8 (k0_t1 : Fin k0_t1_loop.trips) : Fin 3 → Nat :=
  let c0_i32_17 : BitVec 32 := 0#32
  let c1_i32_18 : BitVec 32 := 1#32
  let arg8 : BitVec 32 := Scf.iv c0_i32_17 c1_i32_18 k0_t1
  let c2_i32_30 : BitVec 32 := 2#32
  let v35 : BitVec 32 := Scalar.remsi arg8 c2_i32_30
  let v68 : Index := Scalar.indexCast v35
  let c0_42 : Index := 0#32
  let c0_43 : Index := 0#32
  ![v68.toNat, 0, 0]
def k0_mult6 (k0_t1 : Fin k0_t1_loop.trips) : BitVec 32 :=
  let c0_i32_17 : BitVec 32 := 0#32
  let c1_i32_18 : BitVec 32 := 1#32
  let arg8 : BitVec 32 := Scf.iv c0_i32_17 c1_i32_18 k0_t1
  let c256_i32_44 : BitVec 32 := 256#32
  let v72 : BitVec 32 := Scalar.muli arg8 c256_i32_44
  v72
def k0_off9 (k0_t1 : Fin k0_t1_loop.trips) : Fin 1 → Nat :=
  let c0_i32_17 : BitVec 32 := 0#32
  let c1_i32_18 : BitVec 32 := 1#32
  let arg8 : BitVec 32 := Scf.iv c0_i32_17 c1_i32_18 k0_t1
  let c2_i32_30 : BitVec 32 := 2#32
  let v35 : BitVec 32 := Scalar.remsi arg8 c2_i32_30
  ![v35.toNat]
def k0_off10 (k0_t1 : Fin k0_t1_loop.trips) : Fin 3 → Nat :=
  let c0_i32_17 : BitVec 32 := 0#32
  let c1_i32_18 : BitVec 32 := 1#32
  let arg8 : BitVec 32 := Scf.iv c0_i32_17 c1_i32_18 k0_t1
  let c2_i32_30 : BitVec 32 := 2#32
  let v35 : BitVec 32 := Scalar.remsi arg8 c2_i32_30
  let c0_i32_46 : BitVec 32 := 0#32
  let c0_i32_47 : BitVec 32 := 0#32
  ![v35.toNat, 0, 0]
def k0_cond2 (k0_t1 : Fin k0_t1_loop.trips) : BitVec 1 :=
  let c0_i32_17 : BitVec 32 := 0#32
  let c1_i32_18 : BitVec 32 := 1#32
  let arg8 : BitVec 32 := Scf.iv c0_i32_17 c1_i32_18 k0_t1
  let c3_i32_48 : BitVec 32 := 3#32
  let v79 : BitVec 32 := Scalar.addi arg8 c3_i32_48
  let c16_i32_49 : BitVec 32 := 16#32
  let v80 : BitVec 1 := Scalar.cmpi .slt v79 c16_i32_49
  let v81 : BitVec 32 := Scalar.extui v80
  let c0_i32_50 : BitVec 32 := 0#32
  let v82 : BitVec 1 := Scalar.cmpi .ne v81 c0_i32_50
  v82

def k0_mult7 (k0_t1 : Fin k0_t1_loop.trips) : BitVec 32 :=
  let c0_i32_17 : BitVec 32 := 0#32
  let c1_i32_18 : BitVec 32 := 1#32
  let arg8 : BitVec 32 := Scf.iv c0_i32_17 c1_i32_18 k0_t1
  let c3_i32_51 : BitVec 32 := 3#32
  let v83 : BitVec 32 := Scalar.addi arg8 c3_i32_51
  let c256_i32_52 : BitVec 32 := 256#32
  let v84 : BitVec 32 := Scalar.muli v83 c256_i32_52
  v84
def k0_off11 (k0_t1 : Fin k0_t1_loop.trips) : Fin 1 → Nat :=
  let c0_i32_17 : BitVec 32 := 0#32
  let c1_i32_18 : BitVec 32 := 1#32
  let arg8 : BitVec 32 := Scf.iv c0_i32_17 c1_i32_18 k0_t1
  let c3_i32 : BitVec 32 := 3#32
  let v34 : BitVec 32 := Scalar.remsi arg8 c3_i32
  ![v34.toNat]
def k0_off12 (k0_t1 : Fin k0_t1_loop.trips) : Fin 3 → Nat :=
  let c0_i32_17 : BitVec 32 := 0#32
  let c1_i32_18 : BitVec 32 := 1#32
  let arg8 : BitVec 32 := Scf.iv c0_i32_17 c1_i32_18 k0_t1
  let c3_i32 : BitVec 32 := 3#32
  let v34 : BitVec 32 := Scalar.remsi arg8 c3_i32
  let c0_i32_53 : BitVec 32 := 0#32
  let c0_i32_54 : BitVec 32 := 0#32
  ![v34.toNat, 0, 0]
def k0_off13 (k0_t1 : Fin k0_t1_loop.trips) : Fin 2 → Nat :=
  let c0_i32_17 : BitVec 32 := 0#32
  let c1_i32_18 : BitVec 32 := 1#32
  let arg8 : BitVec 32 := Scf.iv c0_i32_17 c1_i32_18 k0_t1
  let c3_i32_51 : BitVec 32 := 3#32
  let v83 : BitVec 32 := Scalar.addi arg8 c3_i32_51
  let c256_i32_52 : BitVec 32 := 256#32
  let v84 : BitVec 32 := Scalar.muli v83 c256_i32_52
  let v85 : BitVec 32 := v84
  let c0_i32_55 : BitVec 32 := 0#32
  ![v85.toNat, 0]
def k0_mult8 : BitVec 32 :=
  let c3584_i32 : BitVec 32 := 3584#32
  c3584_i32
def k0_mult9 : BitVec 32 :=
  let c3840_i32 : BitVec 32 := 3840#32
  c3840_i32
abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== NormFRefIdeal.lean ====
abbrev S4096x1024 : Shape := ⟨2, ![4096, 1024]⟩
abbrev S1x1024 : Shape := ⟨2, ![1, 1024]⟩
abbrev S6x1024 : Shape := ⟨2, ![6, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 32
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S6x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Ada.lean ====
abbrev S8x1024 : Shape := ⟨2, ![8, 1024]⟩
abbrev S4x1024x1536 : Shape := ⟨3, ![4, 1024, 1536]⟩
abbrev S4x1x1536 : Shape := ⟨3, ![4, 1, 1536]⟩
abbrev S4x8x1536 : Shape := ⟨3, ![4, 8, 1536]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 4
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S4x1024x1536, .f32⟩
  | .hbm, ⟨2, _⟩ => ⟨S4x1x1536, .f32⟩
  | .hbm, ⟨3, _⟩ => ⟨S4x8x1536, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaRefIdeal.lean ====
abbrev S8x1024 : Shape := ⟨2, ![8, 1024]⟩
abbrev S4x1024x1536 : Shape := ⟨3, ![4, 1024, 1536]⟩
abbrev S4x1x1536 : Shape := ⟨3, ![4, 1, 1536]⟩
abbrev S_ : Shape := ⟨0, ![]⟩
abbrev S4x1536x8 : Shape := ⟨3, ![4, 1536, 8]⟩
abbrev S4x8x1536 : Shape := ⟨3, ![4, 8, 1536]⟩

abbrev nBuf : Space → Nat
  | .hbm => 16
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x1024x1536, .f32⟩
  | .hbm, ⟨2, _⟩ => ⟨S4x1x1536, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S4x1536x8, .f32⟩
  | .hbm, ⟨13, _⟩ => ⟨S4x8x1536, .f32⟩
  | .hbm, ⟨14, _⟩ => ⟨S4x8x1536, .f32⟩
  | .hbm, ⟨15, _⟩ => ⟨S4x8x1536, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== MmRes.lean ====
abbrev S4096x2816 : Shape := ⟨2, ![4096, 2816]⟩
abbrev S1x2816x1024 : Shape := ⟨3, ![1, 2816, 1024]⟩
abbrev S4096x1024 : Shape := ⟨2, ![4096, 1024]⟩
abbrev S1x1024 : Shape := ⟨2, ![1, 1024]⟩
abbrev S512x2816 : Shape := ⟨2, ![512, 2816]⟩
abbrev S512x1024 : Shape := ⟨2, ![512, 1024]⟩
abbrev S2816x1024 : Shape := ⟨2, ![2816, 1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x2816, .bf16⟩
  | .hbm, ⟨1, _⟩ => ⟨S1x2816x1024, .bf16⟩
  | .hbm, ⟨2, _⟩ => ⟨S4096x1024, .f32⟩
  | .hbm, ⟨3, _⟩ => ⟨S1x1024, .f32⟩
  | .hbm, ⟨4, _⟩ => ⟨S4096x1024, .bf16⟩
  | .hbm, ⟨5, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S1x2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  ![arg2.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  ![arg2.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  ![arg2.toNat, v1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== MmResRefIdeal.lean ====
abbrev S4096x2816 : Shape := ⟨2, ![4096, 2816]⟩
abbrev S1x2816x1024 : Shape := ⟨3, ![1, 2816, 1024]⟩
abbrev S4096x1024 : Shape := ⟨2, ![4096, 1024]⟩
abbrev S1x1024 : Shape := ⟨2, ![1, 1024]⟩
abbrev S2816x1024 : Shape := ⟨2, ![2816, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S1x2816x1024, .bf16⟩
  | .hbm, ⟨2, _⟩ => ⟨S4096x1024, .f32⟩
  | .hbm, ⟨3, _⟩ => ⟨S1x1024, .f32⟩
  | .hbm, ⟨4, _⟩ => ⟨S4096x2816, .f32⟩
  | .hbm, ⟨5, _⟩ => ⟨S2816x1024, .bf16⟩
  | .hbm, ⟨6, _⟩ => ⟨S2816x1024, .f32⟩
  | .hbm, ⟨7, _⟩ => ⟨S4096x1024, .f32⟩
  | .hbm, ⟨8, _⟩ => ⟨S4096x1024, .bf16⟩
  | .hbm, ⟨9, _⟩ => ⟨S4096x1024, .f32⟩
  | .hbm, ⟨10, _⟩ => ⟨S4096x1024, .f32⟩
  | .hbm, ⟨11, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== MmNN.lean ====
abbrev S4096x1024 : Shape := ⟨2, ![4096, 1024]⟩
abbrev S4x1024x768 : Shape := ⟨3, ![4, 1024, 768]⟩
abbrev S4096x3072 : Shape := ⟨2, ![4096, 3072]⟩
abbrev S2048x1024 : Shape := ⟨2, ![2048, 1024]⟩
abbrev S1x1024x768 : Shape := ⟨3, ![1, 1024, 768]⟩
abbrev S2048x768 : Shape := ⟨2, ![2048, 768]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x1024x768, .bf16⟩
  | .hbm, ⟨2, _⟩ => ⟨S4096x3072, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x768, .bf16⟩
  | .local _ .vmem, ⟨3, _⟩ => ⟨S1x1024x768, .bf16⟩
  | .local _ .vmem, ⟨4, _⟩ => ⟨S2048x768, .bf16⟩
  | .local _ .vmem, ⟨5, _⟩ => ⟨S2048x768, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  ![arg2.toNat, v1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== MmNNRefIdeal.lean ====
abbrev S4096x1024 : Shape := ⟨2, ![4096, 1024]⟩
abbrev S4x1024x768 : Shape := ⟨3, ![4, 1024, 768]⟩
abbrev S1x1024x768 : Shape := ⟨3, ![1, 1024, 768]⟩
abbrev S1024x768 : Shape := ⟨2, ![1024, 768]⟩
abbrev S1024x3072 : Shape := ⟨2, ![1024, 3072]⟩
abbrev S4096x3072 : Shape := ⟨2, ![4096, 3072]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x768, .bf16⟩
  | .hbm, ⟨2, _⟩ => ⟨S1x1024x768, .bf16⟩
  | .hbm, ⟨3, _⟩ => ⟨S1024x768, .bf16⟩
  | .hbm, ⟨4, _⟩ => ⟨S1x1024x768, .bf16⟩
  | .hbm, ⟨5, _⟩ => ⟨S1024x768, .bf16⟩
  | .hbm, ⟨6, _⟩ => ⟨S1x1024x768, .bf16⟩
  | .hbm, ⟨7, _⟩ => ⟨S1024x768, .bf16⟩
  | .hbm, ⟨8, _⟩ => ⟨S1x1024x768, .bf16⟩
  | .hbm, ⟨9, _⟩ => ⟨S1024x768, .bf16⟩
  | .hbm, ⟨10, _⟩ => ⟨S1024x3072, .bf16⟩
  | .hbm, ⟨11, _⟩ => ⟨S1024x3072, .f32⟩
  | .hbm, ⟨12, _⟩ => ⟨S4096x1024, .f32⟩
  | .hbm, ⟨13, _⟩ => ⟨S4096x3072, .f32⟩
  | .hbm, ⟨14, _⟩ => ⟨S4096x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩

abbrev nD : Nat := 1
abbrev τ : Topo := Topo.v7x

variable {F : FTy → Type} [FloatOps F]
-- ==== MmNT.lean ====
abbrev S2x4096x2816 : Shape := ⟨3, ![2, 4096, 2816]⟩
abbrev S4x1024x1408 : Shape := ⟨3, ![4, 1024, 1408]⟩
abbrev S4096x1024 : Shape := ⟨2, ![4096, 1024]⟩
abbrev S1x2048x1408 : Shape := ⟨3, ![1, 2048, 1408]⟩
abbrev S1x1024x1408 : Shape := ⟨3, ![1, 1024, 1408]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2x4096x2816, .bf16⟩
  | .hbm, ⟨1, _⟩ => ⟨S4x1024x1408, .bf16⟩
  | .hbm, ⟨2, _⟩ => ⟨S4096x1024, .bf16⟩
  | .local _ .vmem, ⟨0, _⟩ => ⟨S1x2048x1408, .bf16⟩
  | .local _ .vmem, ⟨1, _⟩ => ⟨S1x2048x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== MmNTRefIdeal.lean ====
abbrev S2x4096x2816 : Shape := ⟨3, ![2, 4096, 2816]⟩
abbrev S4x1024x1408 : Shape := ⟨3, ![4, 1024, 1408]⟩
abbrev S1x4096x2816 : Shape := ⟨3, ![1, 4096, 2816]⟩
abbrev S4096x2816 : Shape := ⟨2, ![4096, 2816]⟩
abbrev S4096x5632 : Shape := ⟨2, ![4096, 5632]⟩
abbrev S1x1024x1408 : Shape := ⟨3, ![1, 1024, 1408]⟩
abbrev S1024x1408 : Shape := ⟨2, ![1024, 1408]⟩
abbrev S1024x5632 : Shape := ⟨2, ![1024, 5632]⟩
abbrev S5632x1024 : Shape := ⟨2, ![5632, 1024]⟩
abbrev S4096x1024 : Shape := ⟨2, ![4096, 1024]⟩

abbrev nBuf : Space → Nat
  | .hbm => 21
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S4x1024x1408, .bf16⟩
  | .hbm, ⟨2, _⟩ => ⟨S1x4096x2816, .bf16⟩
  | .hbm, ⟨3, _⟩ => ⟨S4096x2816, .bf16⟩
  | .hbm, ⟨4, _⟩ => ⟨S1x4096x2816, .bf16⟩
  | .hbm, ⟨5, _⟩ => ⟨S4096x2816, .bf16⟩
  | .hbm, ⟨6, _⟩ => ⟨S4096x5632, .bf16⟩
  | .hbm, ⟨7, _⟩ => ⟨S4096x5632, .f32⟩
  | .hbm, ⟨8, _⟩ => ⟨S1x1024x1408, .bf16⟩
  | .hbm, ⟨9, _⟩ => ⟨S1024x1408, .bf16⟩
  | .hbm, ⟨10, _⟩ => ⟨S1x1024x1408, .bf16⟩
  | .hbm, ⟨11, _⟩ => ⟨S1024x1408, .bf16⟩
  | .hbm, ⟨12, _⟩ => ⟨S1x1024x1408, .bf16⟩
  | .hbm, ⟨13, _⟩ => ⟨S1024x1408, .bf16⟩
  | .hbm, ⟨14, _⟩ => ⟨S1x1024x1408, .bf16⟩
  | .hbm, ⟨15, _⟩ => ⟨S1024x1408, .bf16⟩
  | .hbm, ⟨16, _⟩ => ⟨S1024x5632, .bf16⟩
  | .hbm, ⟨17, _⟩ => ⟨S1024x5632, .f32⟩
  | .hbm, ⟨18, _⟩ => ⟨S5632x1024, .f32⟩
  | .hbm, ⟨19, _⟩ => ⟨S4096x1024, .f32⟩
  | .hbm, ⟨20, _⟩ => ⟨S4096x1024, .bf16⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩

abbrev nD : Nat := 1
abbrev τ : Topo := Topo.v7x

variable {F : FTy → Type} [FloatOps F]
-- ==== MmTN.lean ====
abbrev S4096x1024 : Shape := ⟨2, ![4096, 1024]⟩
abbrev S2x4096x2816 : Shape := ⟨3, ![2, 4096, 2816]⟩
abbrev S4x1024x1408 : Shape := ⟨3, ![4, 1024, 1408]⟩
abbrev S4096x512 : Shape := ⟨2, ![4096, 512]⟩
abbrev S1x4096x1408 : Shape := ⟨3, ![1, 4096, 1408]⟩
abbrev S1x512x1408 : Shape := ⟨3, ![1, 512, 1408]⟩
abbrev S4096x1408 : Shape := ⟨2, ![4096, 1408]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S4x1024x1408, .bf16⟩
  | .local _ .vmem, ⟨0, _⟩ => ⟨S4096x512, .bf16⟩
  | .local _ .vmem, ⟨1, _⟩ => ⟨S4096x512, .bf16⟩
  | .local _ .vmem, ⟨2, _⟩ => ⟨S1x4096x1408, .bf16⟩
  | .local _ .vmem, ⟨3, _⟩ => ⟨S1x4096x1408, .bf16⟩
  | .local _ .vmem, ⟨4, _⟩ => ⟨S1x512x1408, .bf16⟩
  | .local _ .vmem, ⟨5, _⟩ => ⟨S1x512x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmTNRefIdeal.lean ====
abbrev S4096x1024 : Shape := ⟨2, ![4096, 1024]⟩
abbrev S2x4096x2816 : Shape := ⟨3, ![2, 4096, 2816]⟩
abbrev S1x4096x2816 : Shape := ⟨3, ![1, 4096, 2816]⟩
abbrev S4096x2816 : Shape := ⟨2, ![4096, 2816]⟩
abbrev S4096x5632 : Shape := ⟨2, ![4096, 5632]⟩
abbrev S1024x4096 : Shape := ⟨2, ![1024, 4096]⟩
abbrev S1024x5632 : Shape := ⟨2, ![1024, 5632]⟩
abbrev S1024x1408 : Shape := ⟨2, ![1024, 1408]⟩
abbrev S1x1024x1408 : Shape := ⟨3, ![1, 1024, 1408]⟩
abbrev S4x1024x1408 : Shape := ⟨3, ![4, 1024, 1408]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S1x4096x2816, .bf16⟩
  | .hbm, ⟨3, _⟩ => ⟨S4096x2816, .bf16⟩
  | .hbm, ⟨4, _⟩ => ⟨S1x4096x2816, .bf16⟩
  | .hbm, ⟨5, _⟩ => ⟨S4096x2816, .bf16⟩
  | .hbm, ⟨6, _⟩ => ⟨S4096x5632, .bf16⟩
  | .hbm, ⟨7, _⟩ => ⟨S4096x5632, .f32⟩
  | .hbm, ⟨8, _⟩ => ⟨S4096x1024, .f32⟩
  | .hbm, ⟨9, _⟩ => ⟨S1024x4096, .f32⟩
  | .hbm, ⟨10, _⟩ => ⟨S1024x5632, .f32⟩
  | .hbm, ⟨11, _⟩ => ⟨S1024x1408, .f32⟩
  | .hbm, ⟨12, _⟩ => ⟨S1024x1408, .f32⟩
  | .hbm, ⟨13, _⟩ => ⟨S1024x1408, .f32⟩
  | .hbm, ⟨14, _⟩ => ⟨S1024x1408, .f32⟩
  | .hbm, ⟨15, _⟩ => ⟨S1x1024x1408, .f32⟩
  | .hbm, ⟨16, _⟩ => ⟨S1x1024x1408, .f32⟩
  | .hbm, ⟨17, _⟩ => ⟨S1x1024x1408, .f32⟩
  | .hbm, ⟨18, _⟩ => ⟨S1x1024x1408, .f32⟩
  | .hbm, ⟨19, _⟩ => ⟨S4x1024x1408, .f32⟩
  | .hbm, ⟨20, _⟩ => ⟨S4x1024x1408, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩

abbrev nD : Nat := 1
abbrev τ : Topo := Topo.v7x

variable {F : FTy → Type} [FloatOps F]
-- ==== AdamAda.lean ====
abbrev S1024x8 : Shape := ⟨2, ![1024, 8]⟩
abbrev S4x8x1536 : Shape := ⟨3, ![4, 8, 1536]⟩
abbrev S4x1024x1536 : Shape := ⟨3, ![4, 1024, 1536]⟩
abbrev S256x8 : Shape := ⟨2, ![256, 8]⟩
abbrev S1x8x1536 : Shape := ⟨3, ![1, 8, 1536]⟩
abbrev S1x256x1536 : Shape := ⟨3, ![1, 256, 1536]⟩
abbrev S8x1536 : Shape := ⟨2, ![8, 1536]⟩
abbrev S256x1536 : Shape := ⟨2, ![256, 1536]⟩

abbrev nBuf : Space → Nat
  | .hbm => 9
  | .vmem => 18
  | .smem => 0
  | _ => 0

abbrev bufTy : (tb : Table) → Fin (tcTables nBuf tb) → BufTy
  | .hbm, ⟨0, _⟩ => ⟨S1024x8, .f32⟩
  | .hbm, ⟨1, _⟩ => ⟨S4x8x1536, .f32⟩
  | .hbm, ⟨2, _⟩ => ⟨S4x1024x1536, .f32⟩
  | .hbm, ⟨3, _⟩ => ⟨S4x1024x1536, .f32⟩
  | .hbm, ⟨4, _⟩ => ⟨S4x1024x1536, .f32⟩
  | .hbm, ⟨5, _⟩ => ⟨S4x1024x1536, .f32⟩
  | .hbm, ⟨6, _⟩ => ⟨S4x1024x1536, .f32⟩
  | .hbm, ⟨7, _⟩ => ⟨S4x1024x1536, .f32⟩
  | .hbm, ⟨8, _⟩ => ⟨S4x1024x1536, .f32⟩
  | .local _ .vmem, ⟨0, _⟩ => ⟨S256x8, .f32⟩
  | .local _ .vmem, ⟨1, _⟩ => ⟨S256x8, .f32⟩
  | .local _ .vmem, ⟨2, _⟩ => ⟨S1x8x1536, .f32⟩
  | .local _ .vmem, ⟨3, _⟩ => ⟨S1x8x1536, .f32⟩
  | .local _ .vmem, ⟨4, _⟩ => ⟨S1x256x1536, .f32⟩
  | .local _ .vmem, ⟨5, _⟩ => ⟨S1x256x1536, .f32⟩
  | .local _ .vmem, ⟨6, _⟩ => ⟨S1x256x1536, .f32⟩
  | .local _ .vmem, ⟨7, _⟩ => ⟨S1x256x1536, .f32⟩
  | .local _ .vmem, ⟨8, _⟩ => ⟨S1x256x1536, .f32⟩
  | .local _ .vmem, ⟨9, _⟩ => ⟨S1x256x1536, .f32⟩
  | .local _ .vmem, ⟨10, _⟩ => ⟨S1x256x1536, .f32⟩
  | .local _ .vmem, ⟨11, _⟩ => ⟨S1x256x1536, .f32⟩
  | .local _ .vmem, ⟨12, _⟩ => ⟨S1x256x1536, .f32⟩
  | .local _ .vmem, ⟨13, _⟩ => ⟨S1x256x1536, .f32⟩
  | .local _ .vmem, ⟨14, _⟩ => ⟨S1x256x1536, .f32⟩
  | .local _ .vmem, ⟨15, _⟩ => ⟨S1x256x1536, .f32⟩
  | .local _ .vmem, ⟨16, _⟩ => ⟨S1x256x1536, .f32⟩
  | .local _ .vmem, ⟨17, _⟩ => ⟨S1x256x1536, .f32⟩
  | _, _ => ⟨S1024x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x8x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamAdaRefIdeal.lean ====
abbrev S1024x8 : Shape := ⟨2, ![1024, 8]⟩
abbrev S4x8x1536 : Shape := ⟨3, ![4, 8, 1536]⟩
abbrev S4x1024x1536 : Shape := ⟨3, ![4, 1024, 1536]⟩
abbrev S_ : Shape := ⟨0, ![]⟩
abbrev S4x1536x1024 : Shape := ⟨3, ![4, 1536, 1024]⟩

abbrev nBuf : Space → Nat
  | .hbm => 49
  | .vmem => 0
  | .smem => 0
  | _ => 0

abbrev bufTy : (tb : Table) → Fin (tcTables nBuf tb) → BufTy
  | .hbm, ⟨0, _⟩ => ⟨S1024x8, .f32⟩
  | .hbm, ⟨1, _⟩ => ⟨S4x8x1536, .f32⟩
  | .hbm, ⟨2, _⟩ => ⟨S4x1024x1536, .f32⟩
  | .hbm, ⟨3, _⟩ => ⟨S4x1024x1536, .f32⟩
  | .hbm, ⟨4, _⟩ => ⟨S4x1024x1536, .f32⟩
  | .hbm, ⟨5, _⟩ => ⟨S1024x8, .f32⟩
  | .hbm, ⟨6, _⟩ => ⟨S1024x8, .f32⟩
  | .hbm, ⟨7, _⟩ => ⟨S_, .f32⟩
  | .hbm, ⟨8, _⟩ => ⟨S1024x8, .f32⟩
  | .hbm, ⟨9, _⟩ => ⟨S1024x8, .f32⟩
  | .hbm, ⟨10, _⟩ => ⟨S_, .f32⟩
  | .hbm, ⟨11, _⟩ => ⟨S1024x8, .f32⟩
  | .hbm, ⟨12, _⟩ => ⟨S1024x8, .f32⟩
  | .hbm, ⟨13, _⟩ => ⟨S1024x8, .f32⟩
  | .hbm, ⟨14, _⟩ => ⟨S4x1536x1024, .f32⟩
  | .hbm, ⟨15, _⟩ => ⟨S4x1024x1536, .f32⟩
  | .hbm, ⟨16, _⟩ => ⟨S_, .f32⟩
  | .hbm, ⟨17, _⟩ => ⟨S4x1024x1536, .f32⟩
  | .hbm, ⟨18, _⟩ => ⟨S4x1024x1536, .f32⟩
  | .hbm, ⟨19, _⟩ => ⟨S_, .f32⟩
  | .hbm, ⟨20, _⟩ => ⟨S4x1024x1536, .f32⟩
  | .hbm, ⟨21, _⟩ => ⟨S4x1024x1536, .f32⟩
  | .hbm, ⟨22, _⟩ => ⟨S4x1024x1536, .f32⟩
  | .hbm, ⟨23, _⟩ => ⟨S_, .f32⟩
  | .hbm, ⟨24, _⟩ => ⟨S4x1024x1536, .f32⟩
  | .hbm, ⟨25, _⟩ => ⟨S4x1024x1536, .f32⟩
  | .hbm, ⟨26, _⟩ => ⟨S4x1024x1536, .f32⟩
  | .hbm, ⟨27, _⟩ => ⟨S_, .f32⟩
  | .hbm, ⟨28, _⟩ => ⟨S4x1024x1536, .f32⟩
  | .hbm, ⟨29, _⟩ => ⟨S4x1024x1536, .f32⟩
  | .hbm, ⟨30, _⟩ => ⟨S4x1024x1536, .f32⟩
  | .hbm, ⟨31, _⟩ => ⟨S_, .f32⟩
  | .hbm, ⟨32, _⟩ => ⟨S4x1024x1536, .f32⟩
  | .hbm, ⟨33, _⟩ => ⟨S4x1024x1536, .f32⟩
  | .hbm, ⟨34, _⟩ => ⟨S_, .f32⟩
  | .hbm, ⟨35, _⟩ => ⟨S4x1024x1536, .f32⟩
  | .hbm, ⟨36, _⟩ => ⟨S4x1024x1536, .f32⟩
  | .hbm, ⟨37, _⟩ => ⟨S4x1024x1536, .f32⟩
  | .hbm, ⟨38, _⟩ => ⟨S_, .f32⟩
  | .hbm, ⟨39, _⟩ => ⟨S4x1024x1536, .f32⟩
  | .hbm, ⟨40, _⟩ => ⟨S4x1024x1536, .f32⟩
  | .hbm, ⟨41, _⟩ => ⟨S4x1024x1536, .f32⟩
  | .hbm, ⟨42, _⟩ => ⟨S_, .f32⟩
  | .hbm, ⟨43, _⟩ => ⟨S4x1024x1536, .f32⟩
  | .hbm, ⟨44, _⟩ => ⟨S4x1024x1536, .f32⟩
  | .hbm, ⟨45, _⟩ => ⟨S4x1024x1536, .f32⟩
  | .hbm, ⟨46, _⟩ => ⟨S_, .f32⟩
  | .hbm, ⟨47, _⟩ => ⟨S4x1024x1536, .f32⟩
  | .hbm, ⟨48, _⟩ => ⟨S4x1024x1536, .f32⟩
  | _, _ => ⟨S1024x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_5 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_6 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_7 : Ref sig .tc := ⟨.hbm, 46, rfl⟩
abbrev main_v25 : Ref sig .tc := ⟨.hbm, 47, rfl⟩
abbrev main_v26 : Ref sig .tc := ⟨.hbm, 48, rfl⟩

abbrev nD : Nat := 1
abbrev τ : Topo := Topo.v7x

variable {F : FTy → Type} [FloatOps F]
-- ==== AdamSh.lean ====
abbrev S4x1024x1408 : Shape := ⟨3, ![4, 1024, 1408]⟩
abbrev S1x128x1408 : Shape := ⟨3, ![1, 128, 1408]⟩
abbrev S128x1408 : Shape := ⟨2, ![128, 1408]⟩

abbrev nBuf : Space → Nat
  | .hbm => 9
  | .vmem => 18
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S4x1024x1408, .f32⟩
  | .hbm, ⟨5, _⟩ => ⟨S4x1024x1408, .f32⟩
  | .hbm, ⟨6, _⟩ => ⟨S4x1024x1408, .f32⟩
  | .hbm, ⟨7, _⟩ => ⟨S4x1024x1408, .f32⟩
  | .hbm, ⟨8, _⟩ => ⟨S4x1024x1408, .f32⟩
  | .local _ .vmem, ⟨0, _⟩ => ⟨S1x128x1408, .f32⟩
  | .local _ .vmem, ⟨1, _⟩ => ⟨S1x128x1408, .f32⟩
  | .local _ .vmem, ⟨2, _⟩ => ⟨S1x128x1408, .f32⟩
  | .local _ .vmem, ⟨3, _⟩ => ⟨S1x128x1408, .f32⟩
  | .local _ .vmem, ⟨4, _⟩ => ⟨S1x128x1408, .f32⟩
  | .local _ .vmem, ⟨5, _⟩ => ⟨S1x128x1408, .f32⟩
  | .local _ .vmem, ⟨6, _⟩ => ⟨S1x128x1408, .f32⟩
  | .local _ .vmem, ⟨7, _⟩ => ⟨S1x128x1408, .f32⟩
  | .local _ .vmem, ⟨8, _⟩ => ⟨S1x128x1408, .f32⟩
  | .local _ .vmem, ⟨9, _⟩ => ⟨S1x128x1408, .f32⟩
  | .local _ .vmem, ⟨10, _⟩ => ⟨S1x128x1408, .f32⟩
  | .local _ .vmem, ⟨11, _⟩ => ⟨S1x128x1408, .f32⟩
  | .local _ .vmem, ⟨12, _⟩ => ⟨S1x128x1408, .f32⟩
  | .local _ .vmem, ⟨13, _⟩ => ⟨S1x128x1408, .f32⟩
  | .local _ .vmem, ⟨14, _⟩ => ⟨S1x128x1408, .f32⟩
  | .local _ .vmem, ⟨15, _⟩ => ⟨S1x128x1408, .f32⟩
  | .local _ .vmem, ⟨16, _⟩ => ⟨S1x128x1408, .f32⟩
  | .local _ .vmem, ⟨17, _⟩ => ⟨S1x128x1408, .f32⟩
  | _, _ => ⟨S4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamShRefIdeal.lean ====
abbrev S4x1024x1408 : Shape := ⟨3, ![4, 1024, 1408]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S4x1024x1408, .f32⟩
  | .hbm, ⟨5, _⟩ => ⟨S4x1024x1408, .f32⟩
  | .hbm, ⟨6, _⟩ => ⟨S_, .f32⟩
  | .hbm, ⟨7, _⟩ => ⟨S4x1024x1408, .f32⟩
  | .hbm, ⟨8, _⟩ => ⟨S4x1024x1408, .f32⟩
  | .hbm, ⟨9, _⟩ => ⟨S_, .f32⟩
  | .hbm, ⟨10, _⟩ => ⟨S4x1024x1408, .f32⟩
  | .hbm, ⟨11, _⟩ => ⟨S4x1024x1408, .f32⟩
  | .hbm, ⟨12, _⟩ => ⟨S4x1024x1408, .f32⟩
  | .hbm, ⟨13, _⟩ => ⟨S_, .f32⟩
  | .hbm, ⟨14, _⟩ => ⟨S4x1024x1408, .f32⟩
  | .hbm, ⟨15, _⟩ => ⟨S4x1024x1408, .f32⟩
  | .hbm, ⟨16, _⟩ => ⟨S4x1024x1408, .f32⟩
  | .hbm, ⟨17, _⟩ => ⟨S_, .f32⟩
  | .hbm, ⟨18, _⟩ => ⟨S4x1024x1408, .f32⟩
  | .hbm, ⟨19, _⟩ => ⟨S4x1024x1408, .f32⟩
  | .hbm, ⟨20, _⟩ => ⟨S4x1024x1408, .f32⟩
  | .hbm, ⟨21, _⟩ => ⟨S_, .f32⟩
  | .hbm, ⟨22, _⟩ => ⟨S4x1024x1408, .f32⟩
  | .hbm, ⟨23, _⟩ => ⟨S4x1024x1408, .f32⟩
  | .hbm, ⟨24, _⟩ => ⟨S_, .f32⟩
  | .hbm, ⟨25, _⟩ => ⟨S4x1024x1408, .f32⟩
  | .hbm, ⟨26, _⟩ => ⟨S4x1024x1408, .f32⟩
  | .hbm, ⟨27, _⟩ => ⟨S4x1024x1408, .f32⟩
  | .hbm, ⟨28, _⟩ => ⟨S_, .f32⟩
  | .hbm, ⟨29, _⟩ => ⟨S4x1024x1408, .f32⟩
  | .hbm, ⟨30, _⟩ => ⟨S4x1024x1408, .f32⟩
  | .hbm, ⟨31, _⟩ => ⟨S4x1024x1408, .f32⟩
  | .hbm, ⟨32, _⟩ => ⟨S_, .f32⟩
  | .hbm, ⟨33, _⟩ => ⟨S4x1024x1408, .f32⟩
  | .hbm, ⟨34, _⟩ => ⟨S4x1024x1408, .f32⟩
  | .hbm, ⟨35, _⟩ => ⟨S4x1024x1408, .f32⟩
  | .hbm, ⟨36, _⟩ => ⟨S_, .f32⟩
  | .hbm, ⟨37, _⟩ => ⟨S4x1024x1408, .f32⟩
  | .hbm, ⟨38, _⟩ => ⟨S4x1024x1408, .f32⟩
  | _, _ => ⟨S4x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamSlab.lean ====
abbrev S640x1024 : Shape := ⟨2, ![640, 1024]⟩
abbrev S160x1024 : Shape := ⟨2, ![160, 1024]⟩

abbrev nBuf : Space → Nat
  | .hbm => 7
  | .vmem => 14
  | .smem => 0
  | _ => 0

abbrev bufTy : (tb : Table) → Fin (tcTables nBuf tb) → BufTy
  | .hbm, ⟨0, _⟩ => ⟨S640x1024, .f32⟩
  | .hbm, ⟨1, _⟩ => ⟨S640x1024, .f32⟩
  | .hbm, ⟨2, _⟩ => ⟨S640x1024, .f32⟩
  | .hbm, ⟨3, _⟩ => ⟨S640x1024, .f32⟩
  | .hbm, ⟨4, _⟩ => ⟨S640x1024, .f32⟩
  | .hbm, ⟨5, _⟩ => ⟨S640x1024, .f32⟩
  | .hbm, ⟨6, _⟩ => ⟨S640x1024, .f32⟩
  | .local _ .vmem, ⟨0, _⟩ => ⟨S160x1024, .f32⟩
  | .local _ .vmem, ⟨1, _⟩ => ⟨S160x1024, .f32⟩
  | .local _ .vmem, ⟨2, _⟩ => ⟨S160x1024, .f32⟩
  | .local _ .vmem, ⟨3, _⟩ => ⟨S160x1024, .f32⟩
  | .local _ .vmem, ⟨4, _⟩ => ⟨S160x1024, .f32⟩
  | .local _ .vmem, ⟨5, _⟩ => ⟨S160x1024, .f32⟩
  | .local _ .vmem, ⟨6, _⟩ => ⟨S160x1024, .f32⟩
  | .local _ .vmem, ⟨7, _⟩ => ⟨S160x1024, .f32⟩
  | .local _ .vmem, ⟨8, _⟩ => ⟨S160x1024, .f32⟩
  | .local _ .vmem, ⟨9, _⟩ => ⟨S160x1024, .f32⟩
  | .local _ .vmem, ⟨10, _⟩ => ⟨S160x1024, .f32⟩
  | .local _ .vmem, ⟨11, _⟩ => ⟨S160x1024, .f32⟩
  | .local _ .vmem, ⟨12, _⟩ => ⟨S160x1024, .f32⟩
  | .local _ .vmem, ⟨13, _⟩ => ⟨S160x1024, .f32⟩
  | _, _ => ⟨S640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S160x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S160x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S160x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S160x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S160x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S160x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S160x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSlabRefIdeal.lean ====
abbrev S640x1024 : Shape := ⟨2, ![640, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S640x1024, .f32⟩
  | .hbm, ⟨1, _⟩ => ⟨S640x1024, .f32⟩
  | .hbm, ⟨2, _⟩ => ⟨S640x1024, .f32⟩
  | .hbm, ⟨3, _⟩ => ⟨S640x1024, .f32⟩
  | .hbm, ⟨4, _⟩ => ⟨S_, .f32⟩
  | .hbm, ⟨5, _⟩ => ⟨S640x1024, .f32⟩
  | .hbm, ⟨6, _⟩ => ⟨S640x1024, .f32⟩
  | .hbm, ⟨7, _⟩ => ⟨S_, .f32⟩
  | .hbm, ⟨8, _⟩ => ⟨S640x1024, .f32⟩
  | .hbm, ⟨9, _⟩ => ⟨S640x1024, .f32⟩
  | .hbm, ⟨10, _⟩ => ⟨S640x1024, .f32⟩
  | .hbm, ⟨11, _⟩ => ⟨S_, .f32⟩
  | .hbm, ⟨12, _⟩ => ⟨S640x1024, .f32⟩
  | .hbm, ⟨13, _⟩ => ⟨S640x1024, .f32⟩
  | .hbm, ⟨14, _⟩ => ⟨S640x1024, .f32⟩
  | .hbm, ⟨15, _⟩ => ⟨S_, .f32⟩
  | .hbm, ⟨16, _⟩ => ⟨S640x1024, .f32⟩
  | .hbm, ⟨17, _⟩ => ⟨S640x1024, .f32⟩
  | .hbm, ⟨18, _⟩ => ⟨S640x1024, .f32⟩
  | .hbm, ⟨19, _⟩ => ⟨S_, .f32⟩
  | .hbm, ⟨20, _⟩ => ⟨S640x1024, .f32⟩
  | .hbm, ⟨21, _⟩ => ⟨S640x1024, .f32⟩
  | .hbm, ⟨22, _⟩ => ⟨S_, .f32⟩
  | .hbm, ⟨23, _⟩ => ⟨S640x1024, .f32⟩
  | .hbm, ⟨24, _⟩ => ⟨S640x1024, .f32⟩
  | .hbm, ⟨25, _⟩ => ⟨S640x1024, .f32⟩
  | .hbm, ⟨26, _⟩ => ⟨S_, .f32⟩
  | .hbm, ⟨27, _⟩ => ⟨S640x1024, .f32⟩
  | .hbm, ⟨28, _⟩ => ⟨S640x1024, .f32⟩
  | .hbm, ⟨29, _⟩ => ⟨S640x1024, .f32⟩
  | .hbm, ⟨30, _⟩ => ⟨S_, .f32⟩
  | .hbm, ⟨31, _⟩ => ⟨S640x1024, .f32⟩
  | .hbm, ⟨32, _⟩ => ⟨S640x1024, .f32⟩
  | .hbm, ⟨33, _⟩ => ⟨S640x1024, .f32⟩
  | .hbm, ⟨34, _⟩ => ⟨S_, .f32⟩
  | .hbm, ⟨35, _⟩ => ⟨S640x1024, .f32⟩
  | .hbm, ⟨36, _⟩ => ⟨S640x1024, .f32⟩
  | _, _ => ⟨S640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamPl.lean ====
abbrev S6x256 : Shape := ⟨2, ![6, 256]⟩

abbrev nBuf : Space → Nat
  | .hbm => 7
  | .vmem => 7
  | .smem => 0
  | _ => 0

abbrev bufTy : (tb : Table) → Fin (tcTables nBuf tb) → BufTy
  | .hbm, ⟨0, _⟩ => ⟨S6x256, .f32⟩
  | .hbm, ⟨1, _⟩ => ⟨S6x256, .f32⟩
  | .hbm, ⟨2, _⟩ => ⟨S6x256, .f32⟩
  | .hbm, ⟨3, _⟩ => ⟨S6x256, .f32⟩
  | .hbm, ⟨4, _⟩ => ⟨S6x256, .f32⟩
  | .hbm, ⟨5, _⟩ => ⟨S6x256, .f32⟩
  | .hbm, ⟨6, _⟩ => ⟨S6x256, .f32⟩
  | .local _ .vmem, ⟨0, _⟩ => ⟨S6x256, .f32⟩
  | .local _ .vmem, ⟨1, _⟩ => ⟨S6x256, .f32⟩
  | .local _ .vmem, ⟨2, _⟩ => ⟨S6x256, .f32⟩
  | .local _ .vmem, ⟨3, _⟩ => ⟨S6x256, .f32⟩
  | .local _ .vmem, ⟨4, _⟩ => ⟨S6x256, .f32⟩
  | .local _ .vmem, ⟨5, _⟩ => ⟨S6x256, .f32⟩
  | .local _ .vmem, ⟨6, _⟩ => ⟨S6x256, .f32⟩
  | _, _ => ⟨S6x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S6x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamPlRefIdeal.lean ====
abbrev S6x256 : Shape := ⟨2, ![6, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S6x256, .f32⟩
  | .hbm, ⟨1, _⟩ => ⟨S6x256, .f32⟩
  | .hbm, ⟨2, _⟩ => ⟨S6x256, .f32⟩
  | .hbm, ⟨3, _⟩ => ⟨S6x256, .f32⟩
  | .hbm, ⟨4, _⟩ => ⟨S_, .f32⟩
  | .hbm, ⟨5, _⟩ => ⟨S6x256, .f32⟩
  | .hbm, ⟨6, _⟩ => ⟨S6x256, .f32⟩
  | .hbm, ⟨7, _⟩ => ⟨S_, .f32⟩
  | .hbm, ⟨8, _⟩ => ⟨S6x256, .f32⟩
  | .hbm, ⟨9, _⟩ => ⟨S6x256, .f32⟩
  | .hbm, ⟨10, _⟩ => ⟨S6x256, .f32⟩
  | .hbm, ⟨11, _⟩ => ⟨S_, .f32⟩
  | .hbm, ⟨12, _⟩ => ⟨S6x256, .f32⟩
  | .hbm, ⟨13, _⟩ => ⟨S6x256, .f32⟩
  | .hbm, ⟨14, _⟩ => ⟨S6x256, .f32⟩
  | .hbm, ⟨15, _⟩ => ⟨S_, .f32⟩
  | .hbm, ⟨16, _⟩ => ⟨S6x256, .f32⟩
  | .hbm, ⟨17, _⟩ => ⟨S6x256, .f32⟩
  | .hbm, ⟨18, _⟩ => ⟨S6x256, .f32⟩
  | .hbm, ⟨19, _⟩ => ⟨S_, .f32⟩
  | .hbm, ⟨20, _⟩ => ⟨S6x256, .f32⟩
  | .hbm, ⟨21, _⟩ => ⟨S6x256, .f32⟩
  | .hbm, ⟨22, _⟩ => ⟨S_, .f32⟩
  | .hbm, ⟨23, _⟩ => ⟨S6x256, .f32⟩
  | .hbm, ⟨24, _⟩ => ⟨S6x256, .f32⟩
  | .hbm, ⟨25, _⟩ => ⟨S6x256, .f32⟩
  | .hbm, ⟨26, _⟩ => ⟨S_, .f32⟩
  | .hbm, ⟨27, _⟩ => ⟨S6x256, .f32⟩
  | .hbm, ⟨28, _⟩ => ⟨S6x256, .f32⟩
  | .hbm, ⟨29, _⟩ => ⟨S6x256, .f32⟩
  | .hbm, ⟨30, _⟩ => ⟨S_, .f32⟩
  | .hbm, ⟨31, _⟩ => ⟨S6x256, .f32⟩
  | .hbm, ⟨32, _⟩ => ⟨S6x256, .f32⟩
  | .hbm, ⟨33, _⟩ => ⟨S6x256, .f32⟩
  | .hbm, ⟨34, _⟩ => ⟨S_, .f32⟩
  | .hbm, ⟨35, _⟩ => ⟨S6x256, .f32⟩
  | .hbm, ⟨36, _⟩ => ⟨S6x256, .f32⟩
  | _, _ => ⟨S6x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Red4.lean ====
abbrev S4x4x1024x1408 : Shape := ⟨4, ![4, 4, 1024, 1408]⟩
abbrev S4x1024x1408 : Shape := ⟨3, ![4, 1024, 1408]⟩
abbrev S1x4x128x1408 : Shape := ⟨4, ![1, 4, 128, 1408]⟩
abbrev S1x128x1408 : Shape := ⟨3, ![1, 128, 1408]⟩
abbrev S1x1x128x1408 : Shape := ⟨4, ![1, 1, 128, 1408]⟩
abbrev S128x1408 : Shape := ⟨2, ![128, 1408]⟩

abbrev nBuf : Space → Nat
  | .hbm => 2
  | .vmem => 4
  | .smem => 0
  | _ => 0

abbrev bufTy : (tb : Table) → Fin (tcTables nBuf tb) → BufTy
  | .hbm, ⟨0, _⟩ => ⟨S4x4x1024x1408, .bf16⟩
  | .hbm, ⟨1, _⟩ => ⟨S4x1024x1408, .f32⟩
  | .local _ .vmem, ⟨0, _⟩ => ⟨S1x4x128x1408, .bf16⟩
  | .local _ .vmem, ⟨1, _⟩ => ⟨S1x4x128x1408, .bf16⟩
  | .local _ .vmem, ⟨2, _⟩ => ⟨S1x128x1408, .f32⟩
  | .local _ .vmem, ⟨3, _⟩ => ⟨S1x128x1408, .f32⟩
  | _, _ => ⟨S4x4x1024x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x128x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Red4RefIdeal.lean ====
abbrev S4x4x1024x1408 : Shape := ⟨4, ![4, 4, 1024, 1408]⟩
abbrev S_ : Shape := ⟨0, ![]⟩
abbrev S4x1024x1408 : Shape := ⟨3, ![4, 1024, 1408]⟩

abbrev nBuf : Space → Nat
  | .hbm => 4
  | .vmem => 0
  | .smem => 0
  | _ => 0

abbrev bufTy : (tb : Table) → Fin (tcTables nBuf tb) → BufTy
  | .hbm, ⟨0, _⟩ => ⟨S4x4x1024x1408, .bf16⟩
  | .hbm, ⟨1, _⟩ => ⟨S4x4x1024x1408, .f32⟩
  | .hbm, ⟨2, _⟩ => ⟨S_, .f32⟩
  | .hbm, ⟨3, _⟩ => ⟨S4x1024x1408, .f32⟩
  | _, _ => ⟨S4x4x1024x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Sum8.lean ====
abbrev S8x80x1024 : Shape := ⟨3, ![8, 80, 1024]⟩
abbrev S80x1024 : Shape := ⟨2, ![80, 1024]⟩
abbrev S1x80x1024 : Shape := ⟨3, ![1, 80, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x80x1024, .f32⟩
  | .hbm, ⟨1, _⟩ => ⟨S80x1024, .f32⟩
  | .local _ .vmem, ⟨0, _⟩ => ⟨S8x80x1024, .f32⟩
  | .local _ .vmem, ⟨1, _⟩ => ⟨S80x1024, .f32⟩
  | _, _ => ⟨S8x80x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x80x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S80x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Sum8RefIdeal.lean ====
abbrev S8x80x1024 : Shape := ⟨3, ![8, 80, 1024]⟩
abbrev S_ : Shape := ⟨0, ![]⟩
abbrev S80x1024 : Shape := ⟨2, ![80, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x80x1024, .f32⟩
  | .hbm, ⟨1, _⟩ => ⟨S_, .f32⟩
  | .hbm, ⟨2, _⟩ => ⟨S80x1024, .f32⟩
  | _, _ => ⟨S8x80x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Swap.lean ====
abbrev S2x1024x512 : Shape := ⟨3, ![2, 1024, 512]⟩
abbrev S1 : Shape := ⟨1, ![1]⟩
abbrev S_ : Shape := ⟨0, ![]⟩

abbrev nBuf : Space → Nat
  | .hbm => 2
  | .vmem => 0
  | .smem => 0
  | _ => 0

abbrev bufTy : (tb : Table) → Fin (tcTables nBuf tb) → BufTy
  | .hbm, ⟨0, _⟩ => ⟨S2x1024x512, .f32⟩
  | .hbm, ⟨1, _⟩ => ⟨S2x1024x512, .f32⟩
  | _, _ => ⟨S2x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 2
abbrev τ : Topo := Topo.v7x

variable {F : FTy → Type} [FloatOps F]

abbrev grid0 : Pipeline.Grid := .none

def k0_dev1 (d0 : Dev nD) : Nat :=
  let c0_i32_7 : BitVec 32 := 0#32
  let v0 : BitVec 32 := Dev.word d0
  let c2_i32 : BitVec 32 := 2#32
  let v1 : BitVec 32 := Scalar.divsi v0 c2_i32
  let c1_i32 : BitVec 32 := 1#32
  let v2 : BitVec 32 := Scalar.remsi v1 c1_i32
  let c2_i32_6 : BitVec 32 := 2#32
  let v10 : BitVec 32 := Scalar.muli v2 c2_i32_6
  let v11 : BitVec 32 := Scalar.addi c0_i32_7 v10
  let v3 : BitVec 32 := Dev.word d0
  let c2_i32_1 : BitVec 32 := 2#32
  let v4 : BitVec 32 := Scalar.divsi v3 c2_i32_1
  let c1_i32_0 : BitVec 32 := 1#32
  let v5 : BitVec 32 := Scalar.remsi v4 c1_i32_0
  let c2_i32_8 : BitVec 32 := 2#32
  let v12 : BitVec 32 := Scalar.muli v5 c2_i32_8
  let v13 : BitVec 32 := Scalar.addi v11 v12
  let c1_i32_4 : BitVec 32 := 1#32
  let v6 : BitVec 32 := Dev.word d0
  let c1_i32_3 : BitVec 32 := 1#32
  let v7 : BitVec 32 := Scalar.divsi v6 c1_i32_3
  let c2_i32_2 : BitVec 32 := 2#32
  let v8 : BitVec 32 := Scalar.remsi v7 c2_i32_2
  let v9 : BitVec 32 := Scalar.subi c1_i32_4 v8
  let c1_i32_9 : BitVec 32 := 1#32
  let v14 : BitVec 32 := Scalar.muli v9 c1_i32_9
  let v15 : BitVec 32 := Scalar.addi v13 v14
  v15.toNat
-- ==== SwapRefIdeal.lean ====
abbrev S4x1024x512 : Shape := ⟨3, ![4, 1024, 512]⟩
abbrev S2x1024x512 : Shape := ⟨3, ![2, 1024, 512]⟩

abbrev nBuf : Space → Nat
  | .hbm => 4
  | .vmem => 0
  | .smem => 0
  | _ => 0

abbrev bufTy : (tb : Table) → Fin (tcTables nBuf tb) → BufTy
  | .hbm, ⟨0, _⟩ => ⟨S4x1024x512, .f32⟩
  | .hbm, ⟨1, _⟩ => ⟨S2x1024x512, .f32⟩
  | .hbm, ⟨2, _⟩ => ⟨S2x1024x512, .f32⟩
  | .hbm, ⟨3, _⟩ => ⟨S4x1024x512, .f32⟩
  | _, _ => ⟨S4x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== S5b.lean ====
abbrev S4096x1024 : Shape := ⟨2, ![4096, 1024]⟩
abbrev S4096x8192 : Shape := ⟨2, ![4096, 8192]⟩
abbrev S4x256x128 : Shape := ⟨3, ![4, 256, 128]⟩
abbrev S4x128x256 : Shape := ⟨3, ![4, 128, 256]⟩
abbrev S4x40x2048 : Shape := ⟨3, ![4, 40, 2048]⟩
abbrev S1x1024 : Shape := ⟨2, ![1, 1024]⟩
abbrev S8x1024 : Shape := ⟨2, ![8, 1024]⟩
abbrev S4x8x2048 : Shape := ⟨3, ![4, 8, 2048]⟩
abbrev S512x512 : Shape := ⟨2, ![512, 512]⟩
abbrev S512x4096 : Shape := ⟨2, ![512, 4096]⟩
abbrev S8x4096 : Shape := ⟨2, ![8, 4096]⟩
abbrev S2x256x128 : Shape := ⟨3, ![2, 256, 128]⟩
abbrev S2x128x256 : Shape := ⟨3, ![2, 128, 256]⟩
abbrev S2x40x2048 : Shape := ⟨3, ![2, 40, 2048]⟩
abbrev S1x512 : Shape := ⟨2, ![1, 512]⟩
abbrev S8x512 : Shape := ⟨2, ![8, 512]⟩
abbrev S2x8x2048 : Shape := ⟨3, ![2, 8, 2048]⟩
abbrev S2x512x2048 : Shape := ⟨3, ![2, 512, 2048]⟩
abbrev S2x256x2048 : Shape := ⟨3, ![2, 256, 2048]⟩
abbrev S2x2048x256 : Shape := ⟨3, ![2, 2048, 256]⟩
abbrev S2x2x8x1024 : Shape := ⟨4, ![2, 2, 8, 1024]⟩
abbrev S1x256x128 : Shape := ⟨3, ![1, 256, 128]⟩
abbrev S256x128 : Shape := ⟨2, ![256, 128]⟩
abbrev S128x2048 : Shape := ⟨2, ![128, 2048]⟩
abbrev S256x2048 : Shape := ⟨2, ![256, 2048]⟩
abbrev S1x256x2048 : Shape := ⟨3, ![1, 256, 2048]⟩
abbrev S1x128x256 : Shape := ⟨3, ![1, 128, 256]⟩
abbrev S128x256 : Shape := ⟨2, ![128, 256]⟩
abbrev S2048x128 : Shape := ⟨2, ![2048, 128]⟩
abbrev S2048x256 : Shape := ⟨2, ![2048, 256]⟩
abbrev S1x2048x256 : Shape := ⟨3, ![1, 2048, 256]⟩
abbrev S64x8x512 : Shape := ⟨3, ![64, 8, 512]⟩
abbrev S512x256 : Shape := ⟨2, ![512, 256]⟩
abbrev S1x256x512 : Shape := ⟨3, ![1, 256, 512]⟩
abbrev S256x512 : Shape := ⟨2, ![256, 512]⟩
abbrev S1x512x512 : Shape := ⟨3, ![1, 512, 512]⟩
abbrev S1x8x1024 : Shape := ⟨3, ![1, 8, 1024]⟩
abbrev S1x1x8x1024 : Shape := ⟨4, ![1, 1, 8, 1024]⟩
abbrev S1x512x256 : Shape := ⟨3, ![1, 512, 256]⟩
abbrev S1x256 : Shape := ⟨2, ![1, 256]⟩

abbrev nBuf : Space → Nat
  | .hbm => 13
  | .vmem => 37
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4096x1024, .f32⟩
  | .hbm, ⟨3, _⟩ => ⟨S4096x8192, .f32⟩
  | .hbm, ⟨4, _⟩ => ⟨S4x256x128, .bf16⟩
  | .hbm, ⟨5, _⟩ => ⟨S4x128x256, .bf16⟩
  | .hbm, ⟨6, _⟩ => ⟨S4x40x2048, .f32⟩
  | .hbm, ⟨7, _⟩ => ⟨S1x1024, .f32⟩
  | .hbm, ⟨8, _⟩ => ⟨S4096x1024, .bf16⟩
  | .hbm, ⟨9, _⟩ => ⟨S8x1024, .f32⟩
  | .hbm, ⟨10, _⟩ => ⟨S4x8x2048, .f32⟩
  | .hbm, ⟨11, _⟩ => ⟨S4x256x128, .f32⟩
  | .hbm, ⟨12, _⟩ => ⟨S4x256x128, .f32⟩
  | .local _ .vmem, ⟨0, _⟩ => ⟨S512x512, .bf16⟩
  | .local _ .vmem, ⟨1, _⟩ => ⟨S512x512, .bf16⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x4096, .f32⟩
  | .local _ .vmem, ⟨7, _⟩ => ⟨S512x4096, .f32⟩
  | .local _ .vmem, ⟨8, _⟩ => ⟨S8x4096, .f32⟩
  | .local _ .vmem, ⟨9, _⟩ => ⟨S8x4096, .f32⟩
  | .local _ .vmem, ⟨10, _⟩ => ⟨S2x256x128, .bf16⟩
  | .local _ .vmem, ⟨11, _⟩ => ⟨S2x256x128, .bf16⟩
  | .local _ .vmem, ⟨12, _⟩ => ⟨S2x128x256, .bf16⟩
  | .local _ .vmem, ⟨13, _⟩ => ⟨S2x128x256, .bf16⟩
  | .local _ .vmem, ⟨14, _⟩ => ⟨S2x40x2048, .f32⟩
  | .local _ .vmem, ⟨15, _⟩ => ⟨S2x40x2048, .f32⟩
  | .local _ .vmem, ⟨16, _⟩ => ⟨S1x512, .f32⟩
  | .local _ .vmem, ⟨17, _⟩ => ⟨S1x512, .f32⟩
  | .local _ .vmem, ⟨18, _⟩ => ⟨S512x512, .bf16⟩
  | .local _ .vmem, ⟨19, _⟩ => ⟨S512x512, .bf16⟩
  | .local _ .vmem, ⟨20, _⟩ => ⟨S8x512, .f32⟩
  | .local _ .vmem, ⟨21, _⟩ => ⟨S8x512, .f32⟩
  | .local _ .vmem, ⟨22, _⟩ => ⟨S2x8x2048, .f32⟩
  | .local _ .vmem, ⟨23, _⟩ => ⟨S2x8x2048, .f32⟩
  | .local _ .vmem, ⟨24, _⟩ => ⟨S2x256x128, .f32⟩
  | .local _ .vmem, ⟨25, _⟩ => ⟨S2x256x128, .f32⟩
  | .local _ .vmem, ⟨26, _⟩ => ⟨S2x256x128, .f32⟩
  | .local _ .vmem, ⟨27, _⟩ => ⟨S2x256x128, .f32⟩
  | .local _ .vmem, ⟨28, _⟩ => ⟨S2x512x2048, .f32⟩
  | .local _ .vmem, ⟨29, _⟩ => ⟨S2x256x2048, .bf16⟩
  | .local _ .vmem, ⟨30, _⟩ => ⟨S2x2048x256, .bf16⟩
  | .local _ .vmem, ⟨31, _⟩ => ⟨S2x256x2048, .f32⟩
  | .local _ .vmem, ⟨32, _⟩ => ⟨S2x256x2048, .f32⟩
  | .local _ .vmem, ⟨33, _⟩ => ⟨S512x512, .f32⟩
  | .local _ .vmem, ⟨34, _⟩ => ⟨S512x512, .bf16⟩
  | .local _ .vmem, ⟨35, _⟩ => ⟨S512x512, .bf16⟩
  | .local _ .vmem, ⟨36, _⟩ => ⟨S2x2x8x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_scratch4 : Ref sig .tc := ⟨.vmem, 32, rfl⟩
abbrev cc0_scratch5 : Ref sig .tc := ⟨.vmem, 33, rfl⟩
abbrev cc0_scratch6 : Ref sig .tc := ⟨.vmem, 34, rfl⟩
abbrev cc0_scratch7 : Ref sig .tc := ⟨.vmem, 35, rfl⟩
abbrev cc0_scratch8 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32_3990 : BitVec 32 := 7#32
  let v6474 : BitVec 1 := Scalar.cmpi .eq arg1 c7_i32_3990
  let v6475 : BitVec 32 := Scalar.extui v6474
  let c0_i32_3991 : BitVec 32 := 0#32
  let v6476 : BitVec 1 := Scalar.cmpi .ne v6475 c0_i32_3991
  v6476

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c64_i32 : BitVec 32 := 64#32
  let v1 : BitVec 32 := Scalar.muli v0 c64_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  ![v3.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2x40x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S2x8x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S2x256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S2x256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== Proof.Sigmoid.lean ====
/- The two spellings of the logistic function on the extended reals: `0.5 · tanh (0.5 · x) + 0.5`, as the kernels write it,
   and `1 / (1 + e⁻ˣ)`, as the host writes it. -/
module

public import Idealize.ShloMosaic.PureOps.Ideal
public import Idealize.ShloMosaic.Lib.Pointwise
public import Idealize.ShloMosaic.Lib.IdealHost

@[expose] public section

noncomputable section

namespace Cert.Proof

open Idealize.ShloMosaic

/-- The word of one half. -/
theorem ofBits_half : Ideal.ofBits .f32 0x3F000000#32 = ((1 / 2 : ℝ) : EReal) := by
  simp [Ideal.ofBits, Ideal.ieee, -EReal.coe_mul]; norm_num

/-- The logistic function of an extended real. -/
def sgm (x : EReal) : EReal := Ideal.div 1 (1 + Ideal.exp (-x))

/-- The logistic function of a real. -/
def rsgm (x : ℝ) : ℝ := 1 / (1 + Real.exp (-x))

theorem sgm_coe (x : ℝ) : sgm (x : EReal) = (rsgm x : ℝ) := by
  unfold sgm rsgm
  have h : (1 + Real.exp (-x)) ≠ 0 := by positivity
  rw [← EReal.coe_neg]
  show Ideal.div 1 (1 + ((Real.exp (-x) : ℝ) : EReal)) = _
  rw [← EReal.coe_one, ← EReal.coe_add]
  unfold Ideal.div
  rw [if_neg (by exact_mod_cast h), ← EReal.coe_inv, ← EReal.coe_mul]
  rw [one_div, one_mul]

theorem half_tanh_half (x : ℝ) : 1 / 2 * Real.tanh (1 / 2 * x) + 1 / 2 = rsgm x := by
  unfold rsgm
  rw [Real.tanh_eq_sinh_div_cosh, Real.sinh_eq, Real.cosh_eq]
  have e : Real.exp (-x) = Real.exp (-(1 / 2 * x)) * Real.exp (-(1 / 2 * x)) := by rw [← Real.exp_add]; congr 1; ring
  have f : Real.exp (1 / 2 * x) * Real.exp (-(1 / 2 * x)) = 1 := by rw [← Real.exp_add]; simp
  have p := Real.exp_pos (1 / 2 * x)
  have q := Real.exp_pos (-(1 / 2 * x))
  rw [e]
  generalize Real.exp (1 / 2 * x) = u at *
  generalize Real.exp (-(1 / 2 * x)) = v at *
  have h1 : u + v ≠ 0 := by positivity
  have h2 : 1 + v * v ≠ 0 := by positivity
  field_simp
  linear_combination (2 * v) * f

/-- The kernels' spelling is the host's, at every extended real. -/
theorem sgm_eq_tanh (x : EReal) :
    Ideal.ofBits .f32 0x3F000000#32 * Ideal.tanh (Ideal.ofBits .f32 0x3F000000#32 * x) + Ideal.ofBits .f32 0x3F000000#32 = sgm x := by
  rw [ofBits_half]
  induction x with
  | bot =>
    rw [EReal.coe_mul_bot_of_pos (by norm_num)]
    show ((1 / 2 : ℝ) : EReal) * (-1) + _ = Ideal.div 1 (1 + Ideal.exp (- ⊥))
    rw [EReal.neg_bot]
    show _ = Ideal.div 1 (1 + ⊤)
    rw [EReal.add_top_of_ne_bot (by decide)]
    unfold Ideal.div
    rw [if_neg (by decide), EReal.inv_top, mul_zero, ← EReal.coe_one, ← EReal.coe_neg, ← EReal.coe_mul, ← EReal.coe_add]
    norm_num
  | top =>
    rw [EReal.coe_mul_top_of_pos (by norm_num)]
    show ((1 / 2 : ℝ) : EReal) * 1 + _ = Ideal.div 1 (1 + Ideal.exp (- ⊤))
    rw [EReal.neg_top]
    show _ = Ideal.div 1 (1 + 0)
    unfold Ideal.div
    rw [add_zero, if_neg (by simp), ← EReal.coe_one, ← EReal.coe_inv, ← EReal.coe_mul, ← EReal.coe_mul, ← EReal.coe_add]
    norm_num
  | coe r =>
    rw [← EReal.coe_mul]
    show ((1 / 2 : ℝ) : EReal) * ((Real.tanh (1 / 2 * r) : ℝ) : EReal) + _ = _
    rw [← EReal.coe_mul, ← EReal.coe_add, half_tanh_half, sgm_coe]

end Cert.Proof

end
-- ==== Proof.Glu.lean ====
/- The gate's gradient: what the kernel's result array holds (`G`, at any point of the arrays), and that the reference's
   result is the same function. With `s` the logistic function of the gate, the value's gradient is `dmix · s` and the
   gate's `dmix · val · s · (1 - s)`; the reference groups the second product otherwise, and extended reals multiply in any
   grouping. -/
module

public import proofs.«01_k».proof.Proof.Gen.GluIdeal.Value
public import proofs.«01_k».proof.Proof.Gen.GluRefIdeal.Read
public import proofs.«01_k».proof.Proof.Sigmoid
public import Idealize.ShloMosaic.Lib.Pointwise
public import Idealize.ShloMosaic.Lib.Pipeline.ValueKit

@[expose] public section

noncomputable section

open Idealize.ShloMosaic Idealize.ShloMosaic.TcCoe Idealize.SL.Sem
open Idealize.ShloMosaic.Pipeline (Dat)

namespace Cert.Proof.Glu

/-- The two gradients at row `r`, column `k`, of the cotangent, the value and the gate there. -/
def dval (d g : EReal) : EReal := d * sgm g
def dgate (d v g : EReal) : EReal := d * v * sgm g * (1 - sgm g)

end Cert.Proof.Glu

namespace Cert.GluIdeal.RefValue

open Cert.GluIdeal Cert.GluIdeal.Gen Cert.Proof Cert.Proof.Glu

abbrev gi (h : Fin 2) (r : Fin 4096) (k : Fin 1024) : S2x4096x1024.Idx := ix3 h r k

/-- The whole result array of the two argument arrays. -/
def G (x0 : S4096x1024.Idx → EReal) (x1 : S2x4096x1024.Idx → EReal) : S2x4096x1024.Idx → EReal := fun i =>
  if (i 0).val = 0 then dval (x0 (ix2 (i 1) (i 2))) (x1 (ix3 1 (i 1) (i 2)))
  else dgate (x0 (ix2 (i 1) (i 2))) (x1 (ix3 0 (i 1) (i 2))) (x1 (ix3 1 (i 1) (i 2)))

/-- What one block of the result holds, of the blocks of the arguments. -/
theorem out_eq (x0 : Vec Ideal S512x1024 .bf16) (x1 : Vec Ideal S2x512x1024 .bf16) (y : S2x512x1024.Idx) :
    out0_2 x0 x1 y = if (y 0).val = 0 then dval (x0 (ix2 (y 1) (y 2))) (x1 (ix3 1 (y 1) (y 2)))
      else dgate (x0 (ix2 (y 1) (y 2))) (x1 (ix3 0 (y 1) (y 2))) (x1 (ix3 1 (y 1) (y 2))) := by
  canon_tiles x h
  all_goals
    have e1 : (y 1) = x 1 := Fin.ext h1
    have e2 : (y 2) = x 2 := Fin.ext h2
    rw [e1, e2]
    unfold_payloads
    pointwise
    simp only [sgm_eq_tanh]
  · rw [if_neg (by omega)]
    rfl
  · rw [if_pos (by omega)]
    rfl

variable (m : (ℓ : Loc nD τ sig) → Buf (Elt Ideal) ℓ) (c : Dev nD)

abbrev A0 : S4096x1024.Idx → EReal := m ((c : Thread nD τ).loc main_arg0)
abbrev A1 : S2x4096x1024.Idx → EReal := m ((c : Thread nD τ).loc main_arg1)

theorem index_facts : ∀ t : Fin cfg0.N, (win0_0.index t 0 = t.val ∧ win0_0.index t 1 = 0)
    ∧ (win0_1.index t 0 = 0 ∧ win0_1.index t 1 = t.val ∧ win0_1.index t 2 = 0)
    ∧ (win0_2.index t 0 = 0 ∧ win0_2.index t 1 = t.val ∧ win0_2.index t 2 = 0) :=
  (by decide +kernel : ∀ t : Fin grid0.N, _)

/-- Row `r` of block `t` among the array's rows. -/
def row (t : Fin cfg0.N) (r : Fin 512) : Fin 4096 := ⟨t.val * 512 + r.val, by have := t.isLt; have h : cfg0.N = 8 := N_0; omega⟩

theorem blk0 (t : Fin cfg0.N) (r : Fin 512) (k : Fin 1024) : iblk m c 0 t (ix2 r k) = A0 m c (ix2 (row t r) k) := by
  have h := index_facts t
  show V m c (Pipeline.arrRef spec0 0) ((win0_0.rect t).emb (ix2 r k)) = _
  rw [V_main_arg0]
  refine congrArg _ (funext fun a => Fin.ext ?_)
  rw [Pipeline.Window.rect_emb_val win0_0]
  match a with
  | ⟨0, _⟩ => show win0_0.index t 0 * 512 + r.val = _; rw [h.1.1]; rfl
  | ⟨1, _⟩ => show win0_0.index t 1 * 1024 + k.val = _; rw [h.1.2]; exact (by omega : 0 * 1024 + k.val = k.val)

theorem emb1 (t : Fin cfg0.N) (b : Fin 2) (r : Fin 512) (k : Fin 1024) : (win0_1.rect t).emb (ix3 b r k) = ix3 b (row t r) k := by
  have h := index_facts t
  refine funext fun a => Fin.ext ?_
  rw [Pipeline.Window.rect_emb_val win0_1]
  match a with
  | ⟨0, _⟩ => show win0_1.index t 0 * 2 + b.val = _; rw [h.2.1.1]; exact (by omega : 0 * 2 + b.val = b.val)
  | ⟨1, _⟩ => show win0_1.index t 1 * 512 + r.val = _; rw [h.2.1.2.1]; rfl
  | ⟨2, _⟩ => show win0_1.index t 2 * 1024 + k.val = _; rw [h.2.1.2.2]; exact (by omega : 0 * 1024 + k.val = k.val)

theorem blk1 (t : Fin cfg0.N) (b : Fin 2) (r : Fin 512) (k : Fin 1024) :
    iblk m c 1 t (ix3 b r k) = A1 m c (ix3 b (row t r) k) := by
  show V m c (Pipeline.arrRef spec0 1) ((win0_1.rect t).emb (ix3 b r k)) = _
  rw [V_main_arg1, emb1]

theorem flushed_eq (t : Fin cfg0.N) :
    (dats m 0 c).flushed 2 t = (win0_2.blk t).view.read (Elt Ideal) (G (A0 m c) (A1 m c)) := by
  rw [Value.flushed2]
  funext y
  obtain ⟨b, r, k, rfl⟩ : ∃ b r k, y = ix3 (n0 := 2) (n1 := 512) (n2 := 1024) b r k := ⟨y 0, y 1, y 2, by funext a; fin_cases a <;> rfl⟩
  show (out0_2 (iblk m c 0 t) (iblk m c 1 t) (ix3 b r k) : EReal) = G (A0 m c) (A1 m c) ((win0_1.rect t).emb (ix3 b r k))
  rw [out_eq, emb1]
  unfold G
  show (if b.val = 0 then dval (iblk m c 0 t (ix2 r k)) (iblk m c 1 t (ix3 1 r k))
    else dgate (iblk m c 0 t (ix2 r k)) (iblk m c 1 t (ix3 0 r k)) (iblk m c 1 t (ix3 1 r k))) = _
  rw [blk0, blk1, blk1]
  rfl

theorem cover (i : S2x4096x1024.Idx) :
    ∃ t : Fin cfg0.N, (cfg0.win 2).flush t = true ∧ i ∈ ((cfg0.win 2).blk t).view.set := by
  have h1 : (i 1 : Nat) < 4096 := (i 1).isLt
  have hN : cfg0.N = 8 := N_0
  let t : Fin cfg0.N := ⟨(i 1).val / 512, by omega⟩
  refine ⟨t, flush0_2 _, ?_⟩
  have e : (win0_2.rect t).emb (ix3 (n0 := 2) (n1 := 512) (n2 := 1024) (i 0) ⟨(i 1).val % 512, by omega⟩ (i 2)) = i := by
    refine (emb1 t _ _ _).trans (funext fun a => ?_)
    match a with
    | ⟨0, _⟩ => rfl
    | ⟨1, _⟩ => exact Fin.ext (show (i 1).val / 512 * 512 + (i 1).val % 512 = (i 1).val by omega)
    | ⟨2, _⟩ => rfl
  rw [← e]
  exact ((cfg0.win 2).blk t).view.emb_mem_set _

/-- The result array is `G` of the argument arrays. -/
theorem final : (dats m 0 c).arrAt 2 cfg0.N = G (A0 m c) (A1 m c) :=
  (dats m 0 c).arrAt_eq_of_cover 2 (G (A0 m c) (A1 m c)) (fun t _ => flushed_eq m c t) cover

end Cert.GluIdeal.RefValue

namespace Cert.GluRefIdeal.RefValue

open Cert.GluRefIdeal Cert.GluRefIdeal.Gen Cert.GluRefIdeal.Read Cert.Proof Cert.Proof.Glu

/-- The reference's result is `G` of its arguments. -/
theorem ref_eq (x0 : S4096x1024.Idx → EReal) (x1 : S2x4096x1024.Idx → EReal) :
    val_main_v24 (F := Ideal) x0 x1 = Cert.GluIdeal.RefValue.G x0 x1 := by
  funext i
  obtain ⟨b, r, k, rfl⟩ : ∃ b r k, i = ix3 (n0 := 2) (n1 := 4096) (n2 := 1024) b r k := ⟨i 0, i 1, i 2, by funext a; fin_cases a <;> rfl⟩
  unfold Cert.GluIdeal.RefValue.G
  rw [← val_main_v24_eq]
  pointwise
  by_cases hb : b.val = 0
  · rw [dif_neg (by omega), dif_pos (by omega), if_pos hb, zero_add]
    rfl
  · rw [dif_pos (by omega), dif_neg (by omega), if_neg hb, add_zero]
    unfold dgate sgm
    ac_rfl

end Cert.GluRefIdeal.RefValue
-- ==== Proof.GluClaims.lean ====
/- The claims about the gate's gradient, from the runs. -/
module

public import proofs.«01_k».proof.Defs
public import proofs.«01_k».proof.Proof.Glu
public import proofs.«01_k».proof.Proof.Gen.Glu.Frame

@[expose] public section

noncomputable section

open Idealize.ShloMosaic Idealize.ShloMosaic.TcCoe Idealize.SL.Sem

namespace Cert.Proof.Glu

theorem frame : Cert.quiescent_Glu (hGlu := Cert.Glu.Gen.facts) := fun m ρ _ => Cert.Glu.Gen.frame m ρ
theorem frame_ideal : Cert.quiescent_GluIdeal (hGluIdeal := Cert.GluIdeal.Gen.facts) := fun m ρ _ => Cert.GluIdeal.Gen.frame m ρ
theorem frame_ref : Cert.quiescent_GluRefIdeal (hGluRefIdeal := Cert.GluRefIdeal.Gen.facts) := fun m ρ _ =>
  (θ_run Cert.GluRefIdeal.defs _ _).mono (fun r h => ⟨fun c => (h c).2, sem_eq_zero_of_no_sems (by decide) r.2⟩)
    (Cert.GluRefIdeal.Value.run (F := Ideal) m ρ)

theorem algebraic : Cert.algebraic_GluIdeal_GluRefIdeal (hGluIdeal := Cert.GluIdeal.Gen.facts) (hGluRefIdeal := Cert.GluRefIdeal.Gen.facts) := by
  intro m ρ m' ρ' _ hagree
  refine ⟨fun c => Cert.GluIdeal.RefValue.G (Cert.GluIdeal.RefValue.A0 m c) (Cert.GluIdeal.RefValue.A1 m c), ?_, ?_⟩
  · refine (θ_run Cert.GluIdeal.defs _ _).mono (fun r h c => ⟨(h c).1.trans ?_, (h c).2⟩) (Cert.GluIdeal.Value.run_blocks (F := Ideal) m ρ)
    exact Cert.GluIdeal.RefValue.final m c
  · refine (θ_run Cert.GluRefIdeal.defs _ _).mono (fun r h c => ⟨(h c).1.trans ?_, (h c).2⟩) (Cert.GluRefIdeal.Value.run (F := Ideal) m' ρ')
    refine (Cert.GluRefIdeal.Read.val_main_v24_eq _ _).trans ((Cert.GluRefIdeal.RefValue.ref_eq _ _).trans ?_)
    simp only [hagree c, Cert.GluIdeal.RefValue.A0, Cert.GluIdeal.RefValue.A1]

end Cert.Proof.Glu

end
-- ==== Proof.Rows.lean ====
/- A buffer of a few rows whose rows are written one at a time over a fill, read at an index. -/
module

public import Idealize.ShloMosaic.Lib.Pointwise
public import Idealize.ShloMosaic.Lib.Pipeline.ValueKit

@[expose] public section

noncomputable section

open Idealize.ShloMosaic

namespace Cert.Proof

/-- Under a last write of row `q` the buffer holds that row there, and elsewhere what the earlier writes left. -/
theorem canon_row {Val : EltTy → Type} [∀ e, Nonempty (Val e)] {e : EltTy} {n k q : Nat}
    (inb : ∀ a, (![q, 0] : Fin 2 → Nat) a + (![1, k] : Fin 2 → Nat) a ≤ (⟨2, ![n, k]⟩ : Shape).size a)
    (w : (⟨2, ![1, k]⟩ : Shape).Idx → Val e) (L : List (View.Piece Val (⟨2, ![n, k]⟩ : Shape) e)) (a : Fin n) (b : Fin k) :
    View.canon ((⟨Rect.unit (s := (⟨2, ![n, k]⟩ : Shape)) ![q, 0] ![1, k] inb, w⟩ : View.Piece Val _ e) :: L) (ix2 a b)
      = if a.val = q then w (ix2 0 b) else View.canon L (ix2 a b) := by
  by_cases h : a.val = q
  · rw [if_pos h]
    have he : (ix2 a b : (⟨2, ![n, k]⟩ : Shape).Idx) = (Rect.unit (s := (⟨2, ![n, k]⟩ : Shape)) ![q, 0] ![1, k] inb).emb (ix2 0 b) := by
      funext x
      apply Fin.ext
      match x with
      | ⟨0, _⟩ => show a.val = q + 1 * 0; omega
      | ⟨1, _⟩ => show b.val = 0 + 1 * b.val; omega
    rw [he]
    exact View.canon_cons_emb (Rect.unit (s := (⟨2, ![n, k]⟩ : Shape)) ![q, 0] ![1, k] inb) w L (ix2 (n0 := 1) (n1 := k) 0 b)
  · rw [if_neg h, View.canon_cons_of_not_mem]
    intro hm
    have h1 : q ≤ a.val ∧ a.val < q + 1 := (Rect.mem_set_unit (inb := inb).mp hm) 0
    omega

/-- The same for a stack of planes: under a last write of plane `q` the buffer holds that plane there. -/
theorem canon_plane {Val : EltTy → Type} [∀ e, Nonempty (Val e)] {e : EltTy} {n l k q : Nat}
    (inb : ∀ a, (![q, 0, 0] : Fin 3 → Nat) a + (![1, l, k] : Fin 3 → Nat) a ≤ (⟨3, ![n, l, k]⟩ : Shape).size a)
    (w : (⟨3, ![1, l, k]⟩ : Shape).Idx → Val e) (L : List (View.Piece Val (⟨3, ![n, l, k]⟩ : Shape) e)) (a : Fin n) (b : Fin l) (d : Fin k) :
    View.canon ((⟨Rect.unit (s := (⟨3, ![n, l, k]⟩ : Shape)) ![q, 0, 0] ![1, l, k] inb, w⟩ : View.Piece Val _ e) :: L) (ix3 a b d)
      = if a.val = q then w (ix3 0 b d) else View.canon L (ix3 a b d) := by
  by_cases h : a.val = q
  · rw [if_pos h]
    have he : (ix3 a b d : (⟨3, ![n, l, k]⟩ : Shape).Idx) = (Rect.unit (s := (⟨3, ![n, l, k]⟩ : Shape)) ![q, 0, 0] ![1, l, k] inb).emb (ix3 0 b d) := by
      funext x
      apply Fin.ext
      match x with
      | ⟨0, _⟩ => show a.val = q + 1 * 0; omega
      | ⟨1, _⟩ => show b.val = 0 + 1 * b.val; omega
      | ⟨2, _⟩ => show d.val = 0 + 1 * d.val; omega
    rw [he]
    exact View.canon_cons_emb (Rect.unit (s := (⟨3, ![n, l, k]⟩ : Shape)) ![q, 0, 0] ![1, l, k] inb) w L (ix3 (n0 := 1) (n1 := l) (n2 := k) 0 b d)
  · rw [if_neg h, View.canon_cons_of_not_mem]
    intro hm
    have h1 : q ≤ a.val ∧ a.val < q + 1 := (Rect.mem_set_unit (inb := inb).mp hm) 0
    omega

/-- Rows taken in eight blocks of 512, and in each block in eight classes of 64, are all the rows. -/
theorem sum_rows (g : Fin 4096 → EReal) :
    ∑ l : Fin 8, ∑ t : Fin 8, ∑ a : Fin 64, g ⟨t.val * 512 + (a.val * 8 + l.val), by omega⟩ = ∑ r, g r := by
  rw [Finset.sum_comm, ← Fin.sum_mul_add_fin 8 512 g rfl]
  refine Finset.sum_congr rfl fun t _ => ?_
  rw [Finset.sum_comm, ← Fin.sum_mul_add_fin 64 8 (fun s : Fin 512 => g ⟨t.val * 512 + s.val, by omega⟩) rfl]

end Cert.Proof

end
-- ==== Proof.Conv.lean ====
/- The gradient of the gated short convolution: what the kernel's four result arrays hold. Every column is worked on by
   itself: with `f = c · v` down a column, the forward pass is `b · (w₂ f + w₁ f↓1 + w₀ f↓2)`, where `f↓k` is `f` moved `k`
   rows down with zeros on top. -/
module

public import proofs.«01_k».proof.Proof.Gen.ConvIdeal.Value
public import Idealize.ShloMosaic.Lib.Pointwise
public import Idealize.ShloMosaic.Lib.Pipeline.ValueKit
public import Idealize.ShloMosaic.Lib.Tactic.WordOmega
public import proofs.«01_k».proof.Proof.Rows

@[expose] public section

set_option maxRecDepth 16384

noncomputable section

open Idealize.ShloMosaic Idealize.ShloMosaic.TcCoe Idealize.SL.Sem
open Idealize.ShloMosaic.Pipeline (Dat)

namespace Cert.Proof.Conv

abbrev Col := Fin 4096 → EReal

/-- A column moved `k` rows down, and `k` rows up, with zeros where nothing comes from. -/
def dn (k : Nat) (f : Col) : Col := fun r => if k ≤ r.val then f ⟨r.val - k, by omega⟩ else 0
def up (k : Nat) (f : Col) : Col := fun r => if h : r.val + k < 4096 then f ⟨r.val + k, h⟩ else 0

/-- The gradients at row `r` of a column: of `b`, of the product `c · v`, and of the three weights. -/
def db (w : Fin 3 → EReal) (dm c v : Col) : Col := fun r =>
  dm r * (w 2 * (c r * v r) + w 1 * dn 1 (fun s => c s * v s) r + w 0 * dn 2 (fun s => c s * v s) r)
def dcv (w : Fin 3 → EReal) (dm b : Col) : Col := fun r =>
  w 2 * (dm r * b r) + w 1 * up 1 (fun s => dm s * b s) r + w 0 * up 2 (fun s => dm s * b s) r
def dw (dm b c v : Col) (k : Nat) : EReal := ∑ r : Fin 4096, dm r * b r * dn (2 - k) (fun s => c s * v s) r

theorem fin_eq {n a b : Nat} {ha : a < n} (h : a = b) : (⟨a, ha⟩ : Fin n) = ⟨b, h ▸ ha⟩ := Fin.ext h

theorem sel_sge {n k : Nat} (hn : n < 4096) (hk : k < 4096) (a b : EReal) :
    Scalar.select (IntOp.cmpi .sge (BitVec.ofNat 32 n) (BitVec.ofNat 32 k)) a b = if k ≤ n then a else b := by
  word_omega

theorem sel_slt {n k : Nat} (hn : n < 4096) (hk : k < 4096) (a b : EReal) :
    Scalar.select (IntOp.cmpi .slt (BitVec.ofNat 32 n) (BitVec.ofNat 32 k)) a b = if n < k then a else b := by
  word_omega

/-- A rotation with the rows that came around masked out is a move, under a factor. -/
theorem sel_dn (w : EReal) (f : Col) (k : Nat) (h0 : 0 < k) (hk : k < 4096) (r : Fin 4096) {h : (r.val + 4096 - k) % 4096 < 4096} :
    Scalar.select (IntOp.cmpi .sge (BitVec.ofNat 32 r.val) (BitVec.ofNat 32 k)) (w * f ⟨(r.val + 4096 - k) % 4096, h⟩) 0 = w * dn k f r := by
  rw [sel_sge r.isLt hk]
  unfold dn
  split
  · rw [fin_eq (n := 4096) (a := (r.val + 4096 - k) % 4096) (b := r.val - k) (by omega)]
  · rw [mul_zero]

theorem sel_up (w : EReal) (f : Col) (k c : Nat) (h0 : 0 < k) (hk : c + k = 4096) (r : Fin 4096) {h : (r.val + 4096 - c) % 4096 < 4096} :
    Scalar.select (IntOp.cmpi .slt (BitVec.ofNat 32 r.val) (BitVec.ofNat 32 c)) (w * f ⟨(r.val + 4096 - c) % 4096, h⟩) 0 = w * up k f r := by
  rw [sel_slt r.isLt (by omega)]
  unfold up
  by_cases hr : r.val < c
  · rw [if_pos hr, dif_pos (by omega), fin_eq (n := 4096) (a := (r.val + 4096 - c) % 4096) (b := r.val + k) (by omega)]
  · rw [if_neg hr, dif_neg (by omega), mul_zero]

theorem dn_zero (f : Col) (r : Fin 4096) : dn 0 f r = f r := if_pos (Nat.zero_le _)

end Cert.Proof.Conv

namespace Cert.ConvIdeal.RefValue

open Cert.ConvIdeal Cert.ConvIdeal.Gen Cert.Proof Cert.Proof.Conv

section block
variable (c : Dev nD) (i : grid0.Coords) {arg1 : Memref sig .tc .vmem S4096x128 .bf16} (harg1 : arg1.IsWhole) {arg2 : Memref sig .tc .vmem S4096x128 .bf16} (harg2 : arg2.IsWhole) {arg3 : Memref sig .tc .vmem S4096x128 .bf16} (harg3 : arg3.IsWhole) {arg4 : Memref sig .tc .vmem S4096x128 .bf16} (harg4 : arg4.IsWhole) {arg5 : Memref sig .tc .vmem S3x128 .f32} (harg5 : arg5.IsWhole) {arg6 : Memref sig .tc .vmem S4096x128 .bf16} (harg6 : arg6.IsWhole) {arg7 : Memref sig .tc .vmem S4096x128 .bf16} (harg7 : arg7.IsWhole) {arg8 : Memref sig .tc .vmem S4096x128 .bf16} (harg8 : arg8.IsWhole) {arg9 : Memref sig .tc .vmem S8x128 .f32} (harg9 : arg9.IsWhole)
  (x0 x1 x2 x3 : Vec Ideal S4096x128 .bf16) (x4 : Vec Ideal S3x128 .f32)

theorem out5_eq (y : S4096x128.Idx) : out0_A_5 c i arg1 harg1 arg2 harg2 arg3 harg3 arg4 harg4 arg5 harg5 arg6 harg6 arg7 harg7 arg8 harg8 arg9 harg9 x0 x1 x2 x3 x4 y
    = db (fun k => x4 (ix2 k (y 1))) (fun s => x0 (ix2 s (y 1))) (fun s => x2 (ix2 s (y 1))) (fun s => x3 (ix2 s (y 1))) (y 0) := by
  idx_vars y
  frame_out
  unfold_payloads
  pointwise
  refine congrArg _ (congrArg₂ _ (congrArg _ ?_) ?_)
  · exact sel_dn _ (fun s => x2 (ix2 s y1) * x3 (ix2 s y1)) 1 (by decide) (by decide) y0
  · exact sel_dn _ (fun s => x2 (ix2 s y1) * x3 (ix2 s y1)) 2 (by decide) (by decide) y0

set_option maxRecDepth 100000 in
theorem out6_eq (y : S4096x128.Idx) : out0_A_6 c i arg1 harg1 arg2 harg2 arg3 harg3 arg4 harg4 arg5 harg5 arg6 harg6 arg7 harg7 arg8 harg8 arg9 harg9 x0 x1 x2 x3 x4 y
    = dcv (fun k => x4 (ix2 k (y 1))) (fun s => x0 (ix2 s (y 1))) (fun s => x1 (ix2 s (y 1))) (y 0) * x3 y := by
  idx_vars y
  frame_out
  unfold_payloads
  pointwise
  refine congrArg₂ _ (congrArg₂ _ (congrArg _ ?_) ?_) rfl
  · exact sel_up _ (fun s => x0 (ix2 s y1) * x1 (ix2 s y1)) 1 4095 (by decide) (by decide) y0
  · exact sel_up _ (fun s => x0 (ix2 s y1) * x1 (ix2 s y1)) 2 4094 (by decide) (by decide) y0

set_option maxRecDepth 100000 in
theorem out7_eq (y : S4096x128.Idx) : out0_A_7 c i arg1 harg1 arg2 harg2 arg3 harg3 arg4 harg4 arg5 harg5 arg6 harg6 arg7 harg7 arg8 harg8 arg9 harg9 x0 x1 x2 x3 x4 y
    = dcv (fun k => x4 (ix2 k (y 1))) (fun s => x0 (ix2 s (y 1))) (fun s => x1 (ix2 s (y 1))) (y 0) * x2 y := by
  idx_vars y
  frame_out
  unfold_payloads
  pointwise
  refine congrArg₂ _ (congrArg₂ _ (congrArg _ ?_) ?_) rfl
  · exact sel_up _ (fun s => x0 (ix2 s y1) * x1 (ix2 s y1)) 1 4095 (by decide) (by decide) y0
  · exact sel_up _ (fun s => x0 (ix2 s y1) * x1 (ix2 s y1)) 2 4094 (by decide) (by decide) y0

theorem out8_eq (y : S8x128.Idx) : out0_A_8 c i arg1 harg1 arg2 harg2 arg3 harg3 arg4 harg4 arg5 harg5 arg6 harg6 arg7 harg7 arg8 harg8 arg9 harg9 x0 x1 x2 x3 x4 y
    = if (y 0).val < 3 then dw (fun s => x0 (ix2 s (y 1))) (fun s => x1 (ix2 s (y 1))) (fun s => x2 (ix2 s (y 1))) (fun s => x3 (ix2 s (y 1))) (y 0).val else 0 := by
  idx_vars y
  frame_out
  rw [canon_row, canon_row, canon_row, View.canon_cons_unit_lit _ _ _ (by decide)]
  unfold_payloads
  pointwise
  unfold dw
  by_cases h2 : y0.val = 2
  · rw [if_pos h2, if_pos (by omega), h2]
    rfl
  by_cases h1 : y0.val = 1
  · rw [if_neg h2, if_pos h1, if_pos (by omega), h1]
    exact Finset.sum_congr rfl fun x _ => sel_dn _ (fun s => x2 (ix2 s y1) * x3 (ix2 s y1)) 1 (by decide) (by decide) x
  by_cases h0 : y0.val = 0
  · rw [if_neg h2, if_neg h1, if_pos h0, if_pos (by omega), h0]
    exact Finset.sum_congr rfl fun x _ => sel_dn _ (fun s => x2 (ix2 s y1) * x3 (ix2 s y1)) 2 (by decide) (by decide) x
  rw [if_neg h2, if_neg h1, if_neg h0, if_neg (by omega)]

end block

section arrays
variable (m : (ℓ : Loc nD τ sig) → Buf (Elt Ideal) ℓ) (c : Dev nD)

abbrev A0 : S4096x1024.Idx → EReal := m ((c : Thread nD τ).loc main_arg0)
abbrev A1 : S4096x3072.Idx → EReal := m ((c : Thread nD τ).loc main_arg1)
abbrev A2 : S3x1024.Idx → EReal := m ((c : Thread nD τ).loc main_arg2)

theorem index_facts : ∀ t : Fin cfg0.N, win0_0.index t = ![0, t.val] ∧ win0_1.index t = ![0, t.val] ∧ win0_2.index t = ![0, t.val + 8]
    ∧ win0_3.index t = ![0, t.val + 16] ∧ win0_4.index t = ![0, t.val] ∧ win0_5.index t = ![0, t.val] ∧ win0_6.index t = ![0, t.val]
    ∧ win0_7.index t = ![0, t.val] ∧ win0_8.index t = ![0, t.val] :=
  (by decide +kernel : ∀ t : Fin grid0.N, _)

/-- The columns of the arrays that a gradient at column `k` is made of. -/
def colm (x0 : S4096x1024.Idx → EReal) (k : Fin 1024) : Col := fun s => x0 (ix2 s k)
def colb (x1 : S4096x3072.Idx → EReal) (k : Fin 1024) : Col := fun s => x1 (ix2 s ⟨k.val, by omega⟩)
def colc (x1 : S4096x3072.Idx → EReal) (k : Fin 1024) : Col := fun s => x1 (ix2 s ⟨1024 + k.val, by omega⟩)
def colv (x1 : S4096x3072.Idx → EReal) (k : Fin 1024) : Col := fun s => x1 (ix2 s ⟨2048 + k.val, by omega⟩)
def colw (x2 : S3x1024.Idx → EReal) (k : Fin 1024) : Fin 3 → EReal := fun j => x2 (ix2 j k)

def G5 (x0 : S4096x1024.Idx → EReal) (x1 : S4096x3072.Idx → EReal) (x2 : S3x1024.Idx → EReal) : S4096x1024.Idx → EReal := fun i =>
  db (colw x2 (i 1)) (colm x0 (i 1)) (colc x1 (i 1)) (colv x1 (i 1)) (i 0)
def G6 (x0 : S4096x1024.Idx → EReal) (x1 : S4096x3072.Idx → EReal) (x2 : S3x1024.Idx → EReal) : S4096x1024.Idx → EReal := fun i =>
  dcv (colw x2 (i 1)) (colm x0 (i 1)) (colb x1 (i 1)) (i 0) * colv x1 (i 1) (i 0)
def G7 (x0 : S4096x1024.Idx → EReal) (x1 : S4096x3072.Idx → EReal) (x2 : S3x1024.Idx → EReal) : S4096x1024.Idx → EReal := fun i =>
  dcv (colw x2 (i 1)) (colm x0 (i 1)) (colb x1 (i 1)) (i 0) * colc x1 (i 1) (i 0)
def G8 (x0 : S4096x1024.Idx → EReal) (x1 : S4096x3072.Idx → EReal) : S8x1024.Idx → EReal := fun i =>
  if (i 0).val < 3 then dw (colm x0 (i 1)) (colb x1 (i 1)) (colc x1 (i 1)) (colv x1 (i 1)) (i 0).val else 0

/-- Column `k` of block `t` among the arrays' columns. -/
def cl (t : Fin cfg0.N) (k : Fin 128) : Fin 1024 := ⟨t.val * 128 + k.val, by have := t.isLt; have h : cfg0.N = 8 := N_0; omega⟩

theorem blk0 (t : Fin cfg0.N) (k : Fin 128) : (fun s => iblk m c 0 t (ix2 s k)) = colm (A0 m c) (cl t k) := by
  have h := index_facts t
  funext s
  show iblk m c 0 t (ix2 s k) = A0 m c (ix2 s (cl t k))
  blk_ext [iblk, V_main_arg0, h.1, cl]

theorem blk1 (t : Fin cfg0.N) (k : Fin 128) : (fun s => iblk m c 1 t (ix2 s k)) = colb (A1 m c) (cl t k) := by
  have h := index_facts t
  funext s
  show iblk m c 1 t (ix2 s k) = A1 m c (ix2 s ⟨(cl t k).val, _⟩)
  blk_ext [iblk, V_main_arg1, h.2.1, cl]

theorem blk2 (t : Fin cfg0.N) (k : Fin 128) : (fun s => iblk m c 2 t (ix2 s k)) = colc (A1 m c) (cl t k) := by
  have h := index_facts t
  funext s
  show iblk m c 2 t (ix2 s k) = A1 m c (ix2 s ⟨1024 + (cl t k).val, _⟩)
  blk_ext [iblk, V_main_arg1, h.2.2.1, cl]

theorem blk3 (t : Fin cfg0.N) (k : Fin 128) : (fun s => iblk m c 3 t (ix2 s k)) = colv (A1 m c) (cl t k) := by
  have h := index_facts t
  funext s
  show iblk m c 3 t (ix2 s k) = A1 m c (ix2 s ⟨2048 + (cl t k).val, _⟩)
  blk_ext [iblk, V_main_arg1, h.2.2.2.1, cl]

theorem blk4 (t : Fin cfg0.N) (k : Fin 128) : (fun s => iblk m c 4 t (ix2 s k)) = colw (A2 m c) (cl t k) := by
  have h := index_facts t
  funext s
  show iblk m c 4 t (ix2 s k) = A2 m c (ix2 s (cl t k))
  blk_ext [iblk, V_main_arg2, h.2.2.2.2.1, cl]

theorem final5 : (dats m 0 c).arrAt 5 cfg0.N = G5 (A0 m c) (A1 m c) (A2 m c) := by
  refine (dats m 0 c).arrAt_eq_of_covers 5 _ (by decide +kernel) fun t hf y => ?_
  have h := index_facts t
  obtain ⟨r, k, rfl⟩ : ∃ r k, y = ix2 (n0 := 4096) (n1 := 128) r k := ⟨y 0, y 1, eq_ix2 y⟩
  have he : ((cfg0.win 5).blk t).view.emb (ix2 r k) = ix2 (n0 := 4096) (n1 := 1024) r (cl t k) := by
    blk_ext [h.2.2.2.2.2.1, cl]
  rw [he]
  blk_simp [after0_5]
  unfold outsAt0
  dsimp only
  rw [out5_eq]
  show db (fun s => iblk m c 4 t (ix2 s k)) (fun s => iblk m c 0 t (ix2 s k))
    (fun s => iblk m c 2 t (ix2 s k)) (fun s => iblk m c 3 t (ix2 s k)) r = G5 _ _ _ _
  rw [blk0, blk2, blk3, blk4]
  rfl

theorem final6 : (dats m 0 c).arrAt 6 cfg0.N = G6 (A0 m c) (A1 m c) (A2 m c) := by
  refine (dats m 0 c).arrAt_eq_of_covers 6 _ (by decide +kernel) fun t hf y => ?_
  have h := index_facts t
  obtain ⟨r, k, rfl⟩ : ∃ r k, y = ix2 (n0 := 4096) (n1 := 128) r k := ⟨y 0, y 1, eq_ix2 y⟩
  have he : ((cfg0.win 6).blk t).view.emb (ix2 r k) = ix2 (n0 := 4096) (n1 := 1024) r (cl t k) := by
    blk_ext [h.2.2.2.2.2.2.1, cl]
  rw [he]
  blk_simp [after0_6]
  unfold outsAt0
  dsimp only
  rw [out6_eq]
  show dcv (fun s => iblk m c 4 t (ix2 s k)) (fun s => iblk m c 0 t (ix2 s k))
    (fun s => iblk m c 1 t (ix2 s k)) r * iblk m c 3 t (ix2 r k) = G6 _ _ _ _
  rw [blk0, blk1, blk4]
  exact congrArg _ (congrFun (blk3 m c t k) r)

theorem final7 : (dats m 0 c).arrAt 7 cfg0.N = G7 (A0 m c) (A1 m c) (A2 m c) := by
  refine (dats m 0 c).arrAt_eq_of_covers 7 _ (by decide +kernel) fun t hf y => ?_
  have h := index_facts t
  obtain ⟨r, k, rfl⟩ : ∃ r k, y = ix2 (n0 := 4096) (n1 := 128) r k := ⟨y 0, y 1, eq_ix2 y⟩
  have he : ((cfg0.win 7).blk t).view.emb (ix2 r k) = ix2 (n0 := 4096) (n1 := 1024) r (cl t k) := by
    blk_ext [h.2.2.2.2.2.2.2.1, cl]
  rw [he]
  blk_simp [after0_7]
  unfold outsAt0
  dsimp only
  rw [out7_eq]
  show dcv (fun s => iblk m c 4 t (ix2 s k)) (fun s => iblk m c 0 t (ix2 s k))
    (fun s => iblk m c 1 t (ix2 s k)) r * iblk m c 2 t (ix2 r k) = G7 _ _ _ _
  rw [blk0, blk1, blk4]
  exact congrArg _ (congrFun (blk2 m c t k) r)

theorem final8 : (dats m 0 c).arrAt 8 cfg0.N = G8 (A0 m c) (A1 m c) := by
  refine (dats m 0 c).arrAt_eq_of_covers 8 _ (by decide +kernel) fun t hf y => ?_
  have h := index_facts t
  obtain ⟨r, k, rfl⟩ : ∃ r k, y = ix2 (n0 := 8) (n1 := 128) r k := ⟨y 0, y 1, eq_ix2 y⟩
  have he : ((cfg0.win 8).blk t).view.emb (ix2 r k) = ix2 (n0 := 8) (n1 := 1024) r (cl t k) := by
    blk_ext [h.2.2.2.2.2.2.2.2, cl]
  rw [he]
  blk_simp [after0_8]
  unfold outsAt0
  dsimp only
  rw [out8_eq]
  show (if r.val < 3 then dw (fun s => iblk m c 0 t (ix2 s k)) (fun s => iblk m c 1 t (ix2 s k))
    (fun s => iblk m c 2 t (ix2 s k)) (fun s => iblk m c 3 t (ix2 s k)) r.val else 0) = G8 _ _ _
  rw [blk0, blk1, blk2, blk3]
  rfl

end arrays

end Cert.ConvIdeal.RefValue
-- ==== Proof.ConvRef.lean ====
/- The gradient of the gated short convolution: what the reference's four results hold, with the forward pass's joined
   zero rows read as the rows a column is moved by. -/
module

public import proofs.«01_k».proof.Proof.Conv
public import proofs.«01_k».proof.Proof.Gen.ConvRefIdeal.Read

@[expose] public section

set_option maxRecDepth 100000

noncomputable section

open Idealize.ShloMosaic Idealize.ShloMosaic.TcCoe Idealize.SL.Sem

namespace Cert.ConvRefIdeal.RefValue

open Cert.ConvRefIdeal Cert.ConvRefIdeal.Gen Cert.ConvRefIdeal.Read Cert.Proof Cert.Proof.Conv
open Cert.ConvIdeal.RefValue (colm colb colc colv colw G5 G6 G7 G8)

variable (x0 : S4096x1024.Idx → EReal) (x1 : S4096x3072.Idx → EReal) (x2 : S3x1024.Idx → EReal) (r : Fin 4096) (k : Fin 1024)

/-- The product `c · v` down a column. -/
abbrev cv : Col := fun s => colc x1 k s * colv x1 k s
/-- The cotangent of the convolution down a column. -/
abbrev dcon : Col := fun s => colm x0 k s * colb x1 k s

theorem v10_eq : val_main_v10 (F := Ideal) x1 (ix2 r k) = dn 2 (cv x1 k) r := by
  pointwise [val_main_v10, val_main_v6, val_main_v5, val_main_cst, val_main_v4, val_main_v2, val_main_v3, val_main_v0]
  unfold dn
  by_cases h : r.val < 2
  · rw [dif_pos h, if_neg (by omega)]
  · exact (dif_neg h).trans (if_pos (show 2 ≤ r.val by omega)).symm

theorem v18_eq : val_main_v18 (F := Ideal) x1 (ix2 r k) = dn 1 (cv x1 k) r := by
  pointwise [val_main_v18, val_main_v6, val_main_v5, val_main_cst, val_main_v4, val_main_v2, val_main_v3, val_main_v0]
  unfold dn
  by_cases h : r.val < 1
  · rw [dif_pos (by omega), if_neg (by omega)]
  · refine (dif_neg (by omega)).trans (Eq.trans ?_ (if_pos (show 1 ≤ r.val by omega)).symm)
    exact congrArg (cv x1 k) (Fin.ext (show 1 + r.val - 2 = r.val - 1 by omega))

theorem v25_eq : val_main_v25 (F := Ideal) x1 (ix2 r k) = cv x1 k r := by
  pointwise [val_main_v25, val_main_v6, val_main_v5, val_main_cst, val_main_v4, val_main_v2, val_main_v3, val_main_v0]
  rfl

theorem v32_eq : val_main_v32 (F := Ideal) x0 x1 (ix2 r k) = dcon x0 x1 k r := by
  pointwise [val_main_v32, val_main_v31, val_main_v1, val_main_v0]
  exact mul_comm _ _

theorem v66_eq : val_main_v66 (F := Ideal) x0 x1 x2 (ix2 r k) = dcv (colw x2 k) (colm x0 k) (colb x1 k) r := by
  pointwise [val_main_v66, val_main_v61, val_main_v50, val_main_v40, val_main_v49, val_main_v60, val_main_cst_4, val_main_cst_8, val_main_cst_12, val_main_v35, val_main_v34, val_main_v26, val_main_v24, val_main_v23, val_main_v44, val_main_v43, val_main_v19, val_main_v17, val_main_v16, val_main_v55, val_main_v54, val_main_v11, val_main_v9, val_main_v8]
  simp only [v32_eq]
  unfold dcv up
  refine congrArg₂ _ (congrArg₂ _ ?_ ?_) ?_
  · rfl
  · by_cases h : r.val + 1 < 4096
    · rw [dif_pos (show 1 ≤ 2 + r.val ∧ 2 + r.val - 1 < 4096 by omega), dif_pos h]
      exact congrArg (fun s => x2 (ix2 1 k) * dcon x0 x1 k s) (Fin.ext (show 2 + r.val - 1 = r.val + 1 by omega))
    · rw [dif_neg (by omega), dif_neg h, mul_zero]
  · by_cases h : r.val + 2 < 4096
    · rw [dif_pos (show 2 + r.val < 4096 by omega), dif_pos h]
      exact congrArg (fun s => x2 (ix2 0 k) * dcon x0 x1 k s) (Fin.ext (show 2 + r.val = r.val + 2 by omega))
    · rw [dif_neg (by omega), dif_neg h, mul_zero]

theorem v33_eq : val_main_v33 (F := Ideal) x0 x1 x2 (ix2 r k) = db (colw x2 k) (colm x0 k) (colc x1 k) (colv x1 k) r := by
  pointwise [val_main_v33, val_main_v31, val_main_v29, val_main_v28, val_main_v27, val_main_v26, val_main_v24, val_main_v23, val_main_v22, val_main_v21, val_main_v20, val_main_v19, val_main_v17, val_main_v16, val_main_v15, val_main_v14, val_main_cst_1, val_main_v13, val_main_v12, val_main_v11, val_main_v9, val_main_v8]
  simp only [v10_eq, v18_eq, v25_eq]
  unfold db
  refine congrArg (x0 (ix2 r k) * ·) ?_
  rw [add_comm (x2 (ix2 0 k) * _), add_comm _ (x2 (ix2 2 k) * _), ← add_assoc]
  rfl

theorem ref0 : val_main_v71 (F := Ideal) x0 x1 x2 = G5 x0 x1 x2 := by
  funext i
  obtain ⟨r, k, rfl⟩ : ∃ r k, i = ix2 (n0 := 4096) (n1 := 1024) r k := ⟨i 0, i 1, eq_ix2 i⟩
  pointwise [val_main_v71, val_main_v70, val_main_v69]
  exact v33_eq x0 x1 x2 r k

theorem ref1 : val_main_v72 (F := Ideal) x0 x1 x2 = G6 x0 x1 x2 := by
  funext i
  obtain ⟨r, k, rfl⟩ : ∃ r k, i = ix2 (n0 := 4096) (n1 := 1024) r k := ⟨i 0, i 1, eq_ix2 i⟩
  pointwise [val_main_v72, val_main_v70, val_main_v69, val_main_v68, val_main_v3, val_main_v0]
  rw [v66_eq]
  rfl

theorem ref2 : val_main_v73 (F := Ideal) x0 x1 x2 = G7 x0 x1 x2 := by
  funext i
  obtain ⟨r, k, rfl⟩ : ∃ r k, i = ix2 (n0 := 4096) (n1 := 1024) r k := ⟨i 0, i 1, eq_ix2 i⟩
  pointwise [val_main_v73, val_main_v70, val_main_v69, val_main_v67, val_main_v2, val_main_v0]
  rw [dif_neg (by omega), dif_neg (by omega)]
  have e : 2048 + k.val - 1024 - 1024 = k.val := by omega
  simp only [v66_eq, e]
  exact mul_comm _ _

theorem ref3 : val_main_v74 (F := Ideal) x0 x1 = G8 x0 x1 := by
  funext i
  obtain ⟨r, k, rfl⟩ : ∃ r k, i = ix2 (n0 := 8) (n1 := 1024) r k := ⟨i 0, i 1, eq_ix2 i⟩
  pointwise [val_main_v74, val_main_call0_v0, val_main_c, val_main_v64, val_main_v63, val_main_v62, val_main_v59, val_main_v58, val_main_v57, val_main_v56, val_main_v53, val_main_v52, val_main_v51, val_main_v48, val_main_v47, val_main_v46, val_main_v45, val_main_v42, val_main_v41, val_main_v39, val_main_v38, val_main_v37, val_main_v36, val_main_cst_2, val_main_cst_3, val_main_cst_5, val_main_cst_6, val_main_cst_7, val_main_cst_9, val_main_cst_10, val_main_cst_11, val_main_cst_13]
  simp only [v32_eq, v25_eq, v18_eq, v10_eq]
  show _ = if r.val < 3 then dw (colm x0 k) (colb x1 k) (colc x1 k) (colv x1 k) r.val else 0
  unfold dw
  by_cases h : r.val < 3
  · rw [if_pos h, dif_pos h]
    obtain h0 | h0 | h0 : r.val = 0 ∨ r.val = 1 ∨ r.val = 2 := by omega
    · rw [dif_neg (by omega), dif_neg (by omega), dif_pos (by omega), zero_add, zero_add, Fin.sum_univ_one, h0]
    · rw [dif_neg (by omega), dif_pos (by omega), dif_neg (by omega), zero_add, add_zero, Fin.sum_univ_one, h0]
    · rw [dif_pos (by omega), dif_neg (by omega), dif_neg (by omega), add_zero, add_zero, Fin.sum_univ_one, h0]
      exact Finset.sum_congr rfl fun s _ => congrArg (dcon x0 x1 k s * ·) (dn_zero _ s).symm
  · rw [if_neg h, dif_neg h]
    show (((0#32).toInt : ℝ) : EReal) = 0
    simp

end Cert.ConvRefIdeal.RefValue

end
-- ==== Proof.ConvClaims.lean ====
/- The claims about the short convolution's gradient, from the runs. -/
module

public import proofs.«01_k».proof.Defs
public import proofs.«01_k».proof.Proof.ConvRef
public import proofs.«01_k».proof.Proof.Gen.Conv.Frame

@[expose] public section

noncomputable section

open Idealize.ShloMosaic Idealize.ShloMosaic.TcCoe Idealize.SL.Sem

namespace Cert.Proof.Conv

theorem frame : Cert.quiescent_Conv (hConv := Cert.Conv.Gen.facts) := fun m ρ _ => Cert.Conv.Gen.frame m ρ
theorem frame_ideal : Cert.quiescent_ConvIdeal (hConvIdeal := Cert.ConvIdeal.Gen.facts) := fun m ρ _ => Cert.ConvIdeal.Gen.frame m ρ
theorem frame_ref : Cert.quiescent_ConvRefIdeal (hConvRefIdeal := Cert.ConvRefIdeal.Gen.facts) := fun m ρ _ =>
  (θ_run Cert.ConvRefIdeal.defs _ _).mono (fun r h => ⟨fun c => (h c).2.2.2.2, sem_eq_zero_of_no_sems (by decide) r.2⟩)
    (Cert.ConvRefIdeal.Value.run (F := Ideal) m ρ)

open Cert.ConvIdeal.RefValue Cert.ConvRefIdeal.RefValue Cert.ConvRefIdeal.Read

theorem algebraic : Cert.algebraic_ConvIdeal_ConvRefIdeal (hConvIdeal := Cert.ConvIdeal.Gen.facts) (hConvRefIdeal := Cert.ConvRefIdeal.Gen.facts) := by
  intro m ρ m' ρ' _ hagree
  refine ⟨fun c => G5 (A0 m c) (A1 m c) (A2 m c), fun c => G6 (A0 m c) (A1 m c) (A2 m c), fun c => G7 (A0 m c) (A1 m c) (A2 m c),
    fun c => G8 (A0 m c) (A1 m c), ?_, ?_⟩
  · refine (θ_run Cert.ConvIdeal.defs _ _).mono (fun r h c => ?_) (Cert.ConvIdeal.Value.run_blocks (F := Ideal) m ρ)
    obtain ⟨h0, h1, h2, h3, hk⟩ := h c
    exact ⟨h0.trans (final5 m c), h1.trans (final6 m c), h2.trans (final7 m c), h3.trans (final8 m c), hk⟩
  · refine (θ_run Cert.ConvRefIdeal.defs _ _).mono (fun r h c => ?_) (Cert.ConvRefIdeal.Value.run (F := Ideal) m' ρ')
    obtain ⟨h0, h1, h2, h3, hk⟩ := h c
    obtain ⟨e0, e1, e2⟩ := hagree c
    refine ⟨h0.trans ((val_main_v71_eq m' c).trans ((ref0 _ _ _).trans ?_)), h1.trans ((val_main_v72_eq m' c).trans ((ref1 _ _ _).trans ?_)),
      h2.trans ((val_main_v73_eq m' c).trans ((ref2 _ _ _).trans ?_)), h3.trans ((val_main_v74_eq _ _).trans ((ref3 _ _).trans ?_)), hk⟩
    all_goals simp only [e0, e1, e2, A0, A1, A2]

end Cert.Proof.Conv

end
-- ==== Proof.Ffn.lean ====
/- The gradient of the feed-forward layer's gate and second product: what the kernel's result array holds (`G`, at any point
   of the arrays). The product with the weight gives the cotangent of the gated activation; the two halves of the result
   follow from it point by point. -/
module

public import proofs.«01_k».proof.Proof.Gen.FfnIdeal.Value
public import proofs.«01_k».proof.Proof.Sigmoid
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.Ffn

/-- The gradients of the gate and of the gated half at one point, of the activation's cotangent, the gate and the half. -/
def dg (a g u : EReal) : EReal := a * u * (sgm g + g * sgm g * (1 - sgm g))
def du (a g : EReal) : EReal := a * g * sgm g

end Cert.Proof.Ffn

namespace Cert.FfnIdeal.RefValue

open Cert.FfnIdeal Cert.FfnIdeal.Gen Cert.Proof Cert.Proof.Ffn

/-- The cotangent of the activation at row `r`, column `f`. -/
def da {n : Nat} (x0 : (Shape.Idx ⟨2, ![n, 1024]⟩) → EReal) (x1 : S2816x1024.Idx → EReal) (r : Fin n) (f : Fin 2816) : EReal :=
  ∑ d : Fin 1024, x0 (ix2 r d) * x1 (ix2 f d)

/-- The whole result array of the three argument arrays. -/
def G (x0 : S4096x1024.Idx → EReal) (x1 : S2816x1024.Idx → EReal) (x2 : S2x4096x2816.Idx → EReal) : S2x4096x2816.Idx → EReal := fun i =>
  if (i 0).val = 0 then dg (da x0 x1 (i 1) (i 2)) (x2 (ix3 0 (i 1) (i 2))) (x2 (ix3 1 (i 1) (i 2)))
  else du (da x0 x1 (i 1) (i 2)) (x2 (ix3 0 (i 1) (i 2)))

/-- What one block of the result holds, of the blocks of the arguments. -/
theorem out_eq (x0 : Vec Ideal S512x1024 .bf16) (x1 : Vec Ideal S2816x1024 .bf16) (x2 : Vec Ideal S2x512x2816 .bf16) (y : S2x512x2816.Idx) :
    out0_3 x0 x1 x2 y = if (y 0).val = 0 then dg (da x0 x1 (y 1) (y 2)) (x2 (ix3 0 (y 1) (y 2))) (x2 (ix3 1 (y 1) (y 2)))
      else du (da x0 x1 (y 1) (y 2)) (x2 (ix3 0 (y 1) (y 2))) := by
  canon_tiles x h
  all_goals
    have e1 : x 1 = y 1 := Fin.ext h1.symm
    unfold_payloads
    pointwise
    simp only [sgm_eq_tanh, ← h2, e1]
    first
    | rw [if_neg (by omega)]; rfl
    | rw [if_pos (by omega)]; rfl

variable (m : (ℓ : Loc nD τ sig) → Buf (Elt Ideal) ℓ) (c : Dev nD)

abbrev A0 : S4096x1024.Idx → EReal := m ((c : Thread nD τ).loc main_arg0)
abbrev A1 : S2816x1024.Idx → EReal := m ((c : Thread nD τ).loc main_arg1)
abbrev A2 : S2x4096x2816.Idx → EReal := m ((c : Thread nD τ).loc main_arg2)

theorem index_facts : ∀ t : Fin cfg0.N, (win0_0.index t 0 = t.val ∧ win0_0.index t 1 = 0)
    ∧ (win0_1.index t 0 = 0 ∧ win0_1.index t 1 = 0)
    ∧ (win0_2.index t 0 = 0 ∧ win0_2.index t 1 = t.val ∧ win0_2.index t 2 = 0)
    ∧ (win0_3.index t 0 = 0 ∧ win0_3.index t 1 = t.val ∧ win0_3.index t 2 = 0) :=
  (by decide +kernel : ∀ t : Fin grid0.N, _)

/-- Row `r` of block `t` among the array's rows. -/
def row (t : Fin cfg0.N) (r : Fin 512) : Fin 4096 := ⟨t.val * 512 + r.val, by have := t.isLt; have h : cfg0.N = 8 := N_0; omega⟩

theorem blk0 (t : Fin cfg0.N) (r : Fin 512) (k : Fin 1024) : iblk m c 0 t (ix2 r k) = A0 m c (ix2 (row t r) k) := by
  have h := index_facts t
  show V m c (Pipeline.arrRef spec0 0) ((win0_0.rect t).emb (ix2 r k)) = _
  rw [V_main_arg0]
  refine congrArg _ (funext fun a => Fin.ext ?_)
  rw [Pipeline.Window.rect_emb_val win0_0]
  match a with
  | ⟨0, _⟩ => show win0_0.index t 0 * 512 + r.val = _; rw [h.1.1]; rfl
  | ⟨1, _⟩ => show win0_0.index t 1 * 1024 + k.val = _; rw [h.1.2]; exact (by omega : 0 * 1024 + k.val = k.val)

theorem blk1 (t : Fin cfg0.N) : iblk m c 1 t = A1 m c := by
  have h := index_facts t
  funext y
  show V m c (Pipeline.arrRef spec0 1) ((win0_1.rect t).emb y) = _
  rw [V_main_arg1]
  refine congrArg _ (funext fun a => Fin.ext ?_)
  rw [Pipeline.Window.rect_emb_val win0_1]
  match a with
  | ⟨0, _⟩ => show win0_1.index t 0 * 2816 + (y 0).val = _; rw [h.2.1.1]; exact (by omega : 0 * 2816 + (y 0).val = (y 0).val)
  | ⟨1, _⟩ => show win0_1.index t 1 * 1024 + (y 1).val = _; rw [h.2.1.2]; exact (by omega : 0 * 1024 + (y 1).val = (y 1).val)

theorem emb2 (t : Fin cfg0.N) (b : Fin 2) (r : Fin 512) (k : Fin 2816) : (win0_2.rect t).emb (ix3 b r k) = ix3 b (row t r) k := by
  have h := index_facts t
  refine funext fun a => Fin.ext ?_
  rw [Pipeline.Window.rect_emb_val win0_2]
  match a with
  | ⟨0, _⟩ => show win0_2.index t 0 * 2 + b.val = _; rw [h.2.2.1.1]; exact (by omega : 0 * 2 + b.val = b.val)
  | ⟨1, _⟩ => show win0_2.index t 1 * 512 + r.val = _; rw [h.2.2.1.2.1]; rfl
  | ⟨2, _⟩ => show win0_2.index t 2 * 2816 + k.val = _; rw [h.2.2.1.2.2]; exact (by omega : 0 * 2816 + k.val = k.val)

theorem blk2 (t : Fin cfg0.N) (b : Fin 2) (r : Fin 512) (k : Fin 2816) :
    iblk m c 2 t (ix3 b r k) = A2 m c (ix3 b (row t r) k) := by
  show V m c (Pipeline.arrRef spec0 2) ((win0_2.rect t).emb (ix3 b r k)) = _
  rw [V_main_arg2, emb2]

theorem da_blk (t : Fin cfg0.N) (r : Fin 512) (k : Fin 2816) :
    da (iblk m c 0 t) (iblk m c 1 t) r k = da (A0 m c) (A1 m c) (row t r) k := by
  unfold da
  rw [blk1]
  exact Finset.sum_congr rfl fun d _ => congrArg (· * A1 m c (ix2 k d)) (blk0 m c t r d)

theorem flushed_eq (t : Fin cfg0.N) :
    (dats m 0 c).flushed 3 t = (win0_3.blk t).view.read (Elt Ideal) (G (A0 m c) (A1 m c) (A2 m c)) := by
  rw [Value.flushed3]
  funext y
  obtain ⟨b, r, k, rfl⟩ : ∃ b r k, y = ix3 (n0 := 2) (n1 := 512) (n2 := 2816) b r k := ⟨y 0, y 1, y 2, by funext a; fin_cases a <;> rfl⟩
  show (out0_3 (iblk m c 0 t) (iblk m c 1 t) (iblk m c 2 t) (ix3 b r k) : EReal) = G (A0 m c) (A1 m c) (A2 m c) ((win0_2.rect t).emb (ix3 b r k))
  rw [out_eq, emb2]
  unfold G
  show (if b.val = 0 then dg (da (iblk m c 0 t) (iblk m c 1 t) r k) (iblk m c 2 t (ix3 0 r k)) (iblk m c 2 t (ix3 1 r k))
    else du (da (iblk m c 0 t) (iblk m c 1 t) r k) (iblk m c 2 t (ix3 0 r k))) = _
  rw [da_blk, blk2, blk2]
  rfl

theorem cover (i : S2x4096x2816.Idx) :
    ∃ t : Fin cfg0.N, (cfg0.win 3).flush t = true ∧ i ∈ ((cfg0.win 3).blk t).view.set := by
  have h1 : (i 1 : Nat) < 4096 := (i 1).isLt
  have hN : cfg0.N = 8 := N_0
  let t : Fin cfg0.N := ⟨(i 1).val / 512, by omega⟩
  refine ⟨t, flush0_3 _, ?_⟩
  have e : (win0_3.rect t).emb (ix3 (n0 := 2) (n1 := 512) (n2 := 2816) (i 0) ⟨(i 1).val % 512, by omega⟩ (i 2)) = i := by
    refine (emb2 t _ _ _).trans (funext fun a => ?_)
    match a with
    | ⟨0, _⟩ => rfl
    | ⟨1, _⟩ => exact Fin.ext (show (i 1).val / 512 * 512 + (i 1).val % 512 = (i 1).val by omega)
    | ⟨2, _⟩ => rfl
  rw [← e]
  exact ((cfg0.win 3).blk t).view.emb_mem_set _

/-- The result array is `G` of the argument arrays. -/
theorem final : (dats m 0 c).arrAt 3 cfg0.N = G (A0 m c) (A1 m c) (A2 m c) :=
  (dats m 0 c).arrAt_eq_of_cover 3 (G (A0 m c) (A1 m c) (A2 m c)) (fun t _ => flushed_eq m c t) cover

end Cert.FfnIdeal.RefValue
-- ==== Proof.FfnPre.lean ====
/- What the condition on the arguments of the feed-forward gate's gradient says: the cotangent, the weight and the gated half
   are reals at every index. Then the activation's cotangent times the gated half is a real too. -/
module

public import proofs.«01_k».proof.Pre_ffn_finite
public import proofs.«01_k».proof.Proof.Ffn
public import Idealize.ShloMosaic.Lib.ReduceAll

@[expose] public section

set_option maxRecDepth 16384

noncomputable section

open Idealize.ShloMosaic

namespace Cert.Proof.Ffn

open Cert.Pre_ffn_finite

instance pre_facts : Cert.Pre_ffn_finite.Facts where
  bcast_S_S4096x1024 := by decide
  reducesTo_S4096x1024_S_d0_1 := by decide
  h_S_ := by decide
  bcast_S_S2816x1024 := by decide
  reducesTo_S2816x1024_S_d0_1 := by decide
  slices_S2x4096x2816_S1x4096x2816_1_0_0 := by decide
  shapeCasts_S1x4096x2816_S4096x2816 := by decide
  bcast_S_S4096x2816 := by decide
  reducesTo_S4096x2816_S_d0_1 := by decide

theorem bits_inf : Ideal.ofBits .bf16 0x7F80#16 = (⊤ : EReal) := by
  simp [Ideal.ofBits, Ideal.ieee]

/-- A magnitude below the infinity is a real's. -/
theorem real_of_abs_lt {x : EReal} (h : Ideal.cmp .olt (x ⊔ -x) (Ideal.ofBits .bf16 0x7F80#16) = 1#1) : ∃ r : ℝ, x = r := by
  rw [bits_inf] at h
  induction x with
  | bot => exact absurd h (by simp [Ideal.cmp])
  | top => exact absurd h (by simp [Ideal.cmp])
  | coe r => exact ⟨r, rfl⟩

theorem decode (x0 : S4096x1024.Idx → EReal) (x1 : S2816x1024.Idx → EReal) (x2 : S2x4096x2816.Idx → EReal)
    (h : fn (F := Ideal) x0 x1 x2 = fun _ => 1#1) :
    (∀ i, ∃ r : ℝ, x0 i = r) ∧ (∀ i, ∃ r : ℝ, x1 i = r) ∧ ∀ r k, ∃ v : ℝ, x2 (ix3 1 r k) = v := by
  have h := congrFun h (fun a => a.elim0)
  dsimp only [fn] at h
  obtain ⟨h, h2⟩ := IntOp.andi_eq_one.1 h
  obtain ⟨h0, h1⟩ := IntOp.andi_eq_one.1 h
  refine ⟨fun i => real_of_abs_lt (Host.reduce_andi_all _ _ _ _ _ h0 i), fun i => real_of_abs_lt (Host.reduce_andi_all _ _ _ _ _ h1 i), fun r k => ?_⟩
  have e := Host.reduce_andi_all _ _ _ _ _ h2 (ix2 r k)
  have e' : shapeCast S4096x2816 (extractStridedSlice S1x4096x2816 ![1, 0, 0] x2 Facts.slices_S2x4096x2816_S1x4096x2816_1_0_0) Facts.shapeCasts_S1x4096x2816_S4096x2816 (ix2 r k) = x2 (ix3 1 r k) := by
    pointwise
  rw [← e']
  exact real_of_abs_lt e

/-- A real sum of real products. -/
theorem da_real (x0 : S4096x1024.Idx → EReal) (x1 : S2816x1024.Idx → EReal) (h0 : ∀ i, ∃ r : ℝ, x0 i = r) (h1 : ∀ i, ∃ r : ℝ, x1 i = r)
    (r : Fin 4096) (f : Fin 2816) : ∃ v : ℝ, Cert.FfnIdeal.RefValue.da x0 x1 r f = v := by
  choose a ha using h0
  choose b hb using h1
  refine ⟨∑ d : Fin 1024, a (ix2 r d) * b (ix2 f d), ?_⟩
  unfold Cert.FfnIdeal.RefValue.da
  induction (Finset.univ : Finset (Fin 1024)) using Finset.induction_on with
  | empty => simp
  | insert d s hd ih => rw [Finset.sum_insert hd, Finset.sum_insert hd, ih, ha, hb, EReal.coe_add, EReal.coe_mul]

/-- The gate's two contributions have the common factor `a · u` when that is a real, whatever the gate. -/
theorem dg_split (a u g : EReal) (p : ℝ) (h : a * u = p) :
    a * u * sgm g + g * (a * u) * (sgm g * (1 - sgm g)) = dg a g u := by
  unfold dg
  rw [h]
  induction g with
  | bot =>
    have s : sgm ⊥ = 0 := by
      unfold sgm
      rw [EReal.neg_bot]
      show Ideal.div 1 (1 + ⊤) = 0
      rw [EReal.add_top_of_ne_bot (by decide)]
      unfold Ideal.div
      rw [if_neg (by decide), EReal.inv_top, mul_zero]
    rw [s]
    simp
  | top =>
    have s : sgm ⊤ = 1 := by
      unfold sgm
      rw [EReal.neg_top]
      show Ideal.div 1 (1 + 0) = 1
      unfold Ideal.div
      rw [add_zero, if_neg (by simp), ← EReal.coe_one, ← EReal.coe_inv, ← EReal.coe_mul]
      norm_num
    have z : (1 : EReal) - 1 = 0 := by
      rw [← EReal.coe_one, ← EReal.coe_sub, sub_self, EReal.coe_zero]
    rw [s, z]
    simp
  | coe r =>
    rw [sgm_coe, ← EReal.coe_one]
    norm_cast
    ring

end Cert.Proof.Ffn
-- ==== Proof.FfnRef.lean ====
/- The reference of the feed-forward gate's gradient is the same function of the arguments, where the product's cotangent
   and the gated half are finite: there the sum of the gate's two contributions has the common factor the kernel takes out. -/
module

public import proofs.«01_k».proof.Proof.FfnPre
public import proofs.«01_k».proof.Proof.Gen.FfnRefIdeal.Read

@[expose] public section

set_option maxRecDepth 16384

noncomputable section

open Idealize.ShloMosaic Idealize.ShloMosaic.TcCoe Idealize.SL.Sem

namespace Cert.FfnRefIdeal.RefValue

open Cert.FfnRefIdeal Cert.FfnRefIdeal.Gen Cert.FfnRefIdeal.Read Cert.Proof Cert.Proof.Ffn

theorem ref_eq (x0 : S4096x1024.Idx → EReal) (x1 : S2816x1024.Idx → EReal) (x2 : S2x4096x2816.Idx → EReal)
    (hp : Cert.Pre_ffn_finite.fn (F := Ideal) x0 x1 x2 = fun _ => 1#1) :
    val_main_v19 (F := Ideal) x0 x1 x2 = Cert.FfnIdeal.RefValue.G x0 x1 x2 := by
  funext i
  obtain ⟨b, r, k, rfl⟩ : ∃ b r k, i = ix3 (n0 := 2) (n1 := 4096) (n2 := 2816) b r k := ⟨i 0, i 1, i 2, by funext a; fin_cases a <;> rfl⟩
  unfold Cert.FfnIdeal.RefValue.G
  pointwise [val_main_v19, val_main_v18, val_main_v17, val_main_cst_0, val_main_v16, val_main_v15, val_main_call1_v2, val_main_call1_v1, val_main_call1_v0, val_main_v14, val_main_cst, val_main_v13, val_main_v12, val_main_v11, val_main_v10, val_main_v9, val_main_v6, val_main_v5, val_main_v4_0, val_main_v4_1, val_main_v4_2, val_main_call0_v7, val_main_call0_v6, val_main_call0_cst_1, val_main_call0_v4, val_main_call0_cst_0, val_main_call0_v3, val_main_call0_v2, val_main_call0_cst, val_main_call0_v1, val_main_call0_v0, val_main_v3, val_main_v2, val_main_v1, val_main_v0]
  obtain ⟨h0, h1, h2⟩ := decode x0 x1 x2 hp
  by_cases hb : b.val = 0
  · obtain ⟨p, hp⟩ := da_real x0 x1 h0 h1 r k
    obtain ⟨v, hv⟩ := h2 r k
    rw [dif_neg (by omega), dif_pos (by omega), if_pos hb, zero_add]
    exact dg_split _ _ _ (p * v) ((congrArg (· * x2 (ix3 1 r k)) hp).trans (by rw [hv, EReal.coe_mul]))
  · rw [dif_pos (by omega), dif_neg (by omega), if_neg hb, add_zero]
    unfold du sgm Cert.FfnIdeal.RefValue.da
    ac_rfl

end Cert.FfnRefIdeal.RefValue
-- ==== Proof.FfnClaims.lean ====
/- The claims about the feed-forward gate's gradient, from the runs. -/
module

public import proofs.«01_k».proof.Defs
public import proofs.«01_k».proof.Proof.FfnRef
public import proofs.«01_k».proof.Proof.Gen.Ffn.Frame

@[expose] public section

noncomputable section

open Idealize.ShloMosaic Idealize.ShloMosaic.TcCoe Idealize.SL.Sem

namespace Cert.Proof.Ffn

open Cert.FfnIdeal.RefValue (G A0 A1 A2)

theorem frame : Cert.quiescent_Ffn (hFfn := Cert.Ffn.Gen.facts) := fun m ρ _ => Cert.Ffn.Gen.frame m ρ
theorem frame_ideal : Cert.quiescent_FfnIdeal (hFfnIdeal := Cert.FfnIdeal.Gen.facts) := fun m ρ _ => Cert.FfnIdeal.Gen.frame m ρ
theorem frame_ideal_pre : Cert.quiescent_FfnIdeal_pre_ffn_finite (hFfnIdeal := Cert.FfnIdeal.Gen.facts) (hPre_ffn_finite := pre_facts) :=
  fun m ρ _ => frame_ideal m ρ trivial
theorem frame_ref : Cert.quiescent_FfnRefIdeal (hFfnRefIdeal := Cert.FfnRefIdeal.Gen.facts) := fun m ρ _ =>
  (θ_run Cert.FfnRefIdeal.defs _ _).mono (fun r h => ⟨fun c => (h c).2, sem_eq_zero_of_no_sems (by decide) r.2⟩)
    (Cert.FfnRefIdeal.Value.run (F := Ideal) m ρ)
theorem frame_ref_pre : Cert.quiescent_FfnRefIdeal_pre_ffn_finite (hFfnRefIdeal := Cert.FfnRefIdeal.Gen.facts) (hPre_ffn_finite := pre_facts) :=
  fun m ρ _ => frame_ref m ρ trivial

theorem algebraic : Cert.algebraic_FfnIdeal_FfnRefIdeal_pre_ffn_finite (hFfnIdeal := Cert.FfnIdeal.Gen.facts)
    (hFfnRefIdeal := Cert.FfnRefIdeal.Gen.facts) (hPre_ffn_finite := pre_facts) := by
  intro m ρ m' ρ' hpre hagree
  refine ⟨fun c => G (A0 m c) (A1 m c) (A2 m c), ?_, ?_⟩
  · refine (θ_run Cert.FfnIdeal.defs _ _).mono (fun r h c => ⟨(h c).1.trans ?_, (h c).2⟩) (Cert.FfnIdeal.Value.run_blocks (F := Ideal) m ρ)
    exact Cert.FfnIdeal.RefValue.final m c
  · refine (θ_run Cert.FfnRefIdeal.defs _ _).mono (fun r h c => ⟨(h c).1.trans ?_, (h c).2⟩) (Cert.FfnRefIdeal.Value.run (F := Ideal) m' ρ')
    obtain ⟨e0, e1, e2⟩ := hagree c
    refine (Cert.FfnRefIdeal.Read.val_main_v19_eq _ _ _).trans ?_
    rw [e0, e1, e2]
    exact Cert.FfnRefIdeal.RefValue.ref_eq _ _ _ (hpre c)

end Cert.Proof.Ffn

end
-- ==== Proof.Rms.lean ====
/- The root-mean-square norm of a row on the extended reals, and its gradient. The scale of a row is a positive real, or zero
   where an element is infinite, so it may be multiplied into sums; with that the gradient as the kernels write it,
   `r · (d - x̂ · mean (d · x̂))`, is the derivative that the reference's reverse pass builds from `r` and `r / v`. -/
module

public import Idealize.ShloMosaic.PureOps.Ideal
public import Idealize.ShloMosaic.Lib.Pointwise
public import Idealize.ShloMosaic.Lib.IdealHost

@[expose] public section

noncomputable section

namespace Cert.Proof

open Idealize.ShloMosaic

/-- The words of the row length, of the norm's offset and of minus one half, and what they denote. -/
abbrev cN : EReal := Ideal.ofBits .f32 0x44800000#32
abbrev cEps : EReal := Ideal.ofBits .f32 0x358637BD#32
abbrev cNegHalf : EReal := Ideal.ofBits .f32 0xBF000000#32

theorem cN_eq : cN = ((1024 : ℝ) : EReal) := by
  simp [Ideal.ofBits, Ideal.ieee, -EReal.coe_mul]; norm_num
theorem cNegHalf_eq : cNegHalf = ((-(1 / 2) : ℝ) : EReal) := by
  simp [Ideal.ofBits, Ideal.ieee, -EReal.coe_mul]; norm_num
theorem cEps_pos : ∃ e : ℝ, 0 < e ∧ cEps = (e : EReal) := by
  refine ⟨8796093 / 2 ^ 43, by norm_num, ?_⟩
  simp [Ideal.ofBits, Ideal.ieee, -EReal.coe_mul]; norm_num

/-- Division by the row length multiplies by a real. -/
theorem div_cN (a : EReal) : Ideal.div a cN = a * ((1 / 1024 : ℝ) : EReal) := by
  unfold Ideal.div
  rw [cN_eq, if_neg (by exact_mod_cast (by norm_num : (1024 : ℝ) ≠ 0)), ← EReal.coe_inv, one_div]

/-- The mean square of a row with the offset, and the row's scale. -/
def msq (x : Fin 1024 → EReal) : EReal := Ideal.div (∑ k, x k * x k) cN + cEps
def rr (x : Fin 1024 → EReal) : EReal := Ideal.rsqrt (msq x)

theorem sq_nonneg' (a : EReal) : 0 ≤ a * a := by
  rcases le_total 0 a with h | h
  · exact mul_nonneg h h
  · rw [← neg_mul_neg]
    exact mul_nonneg (EReal.neg_nonneg.2 h) (EReal.neg_nonneg.2 h)

theorem sum_sq_nonneg (x : Fin 1024 → EReal) : 0 ≤ ∑ k, x k * x k := Finset.sum_nonneg fun k _ => sq_nonneg' (x k)

/-- Either every element is a real and the mean square a positive real, or the mean square is infinite. -/
theorem msq_cases (x : Fin 1024 → EReal) :
    (∃ v : ℝ, 0 < v ∧ msq x = v ∧ ∀ k, ∃ y : ℝ, x k = y) ∨ msq x = ⊤ := by
  obtain ⟨e, he, hE⟩ := cEps_pos
  have hs := sum_sq_nonneg x
  unfold msq
  rw [div_cN, hE]
  by_cases ht : ∑ k, x k * x k = ⊤
  · right
    rw [ht, EReal.top_mul_coe_of_pos (by norm_num), EReal.top_add_coe]
  · left
    obtain ⟨s, hS⟩ : ∃ s : ℝ, ∑ k, x k * x k = s := by
      refine ⟨(∑ k, x k * x k).toReal, (EReal.coe_toReal ht ?_).symm⟩
      exact fun h => by rw [h] at hs; exact absurd hs (by decide)
    have h0 : 0 ≤ s := by rw [hS] at hs; exact_mod_cast hs
    refine ⟨s * (1 / 1024) + e, by positivity, by rw [hS]; norm_cast, fun k => ?_⟩
    have hk : x k * x k ≤ ∑ k, x k * x k := Finset.single_le_sum (fun k _ => sq_nonneg' (x k)) (Finset.mem_univ k)
    rw [hS] at hk
    refine ⟨(x k).toReal, (EReal.coe_toReal ?_ ?_).symm⟩
    · intro h
      rw [h, EReal.top_mul_top] at hk
      exact absurd hk (by simp)
    · intro h
      rw [h, EReal.bot_mul_bot] at hk
      exact absurd hk (by simp)

/-- A nonnegative real factor goes into a sum. -/
theorem coe_mul_sum {ι : Type} (s : Finset ι) (r : ℝ) (hr : 0 ≤ r) (f : ι → EReal) : (r : EReal) * ∑ k ∈ s, f k = ∑ k ∈ s, (r : EReal) * f k := by
  classical
  induction s using Finset.induction_on with
  | empty => simp
  | insert a s ha ih =>
    rw [Finset.sum_insert ha, Finset.sum_insert ha, EReal.left_distrib_of_nonneg_of_ne_top (by exact_mod_cast hr) (EReal.coe_ne_top r), ih]

theorem add_self_eq (a : EReal) : a + a = ((2 : ℝ) : EReal) * a := by
  induction a with
  | bot => rw [EReal.coe_mul_bot_of_pos (by norm_num)]; rfl
  | top => rw [EReal.coe_mul_top_of_pos (by norm_num)]; rfl
  | coe r => norm_cast; ring

/-- The gradient of the norm at column `k`: the kernels' spelling. -/
def rmsK (x d : Fin 1024 → EReal) (k : Fin 1024) : EReal :=
  rr x * (d k - x k * rr x * Ideal.div (∑ j, d j * (x j * rr x)) cN)

/-- The reverse pass' cotangent of the mean square, divided by the row length. -/
def rmsQ (x d : Fin 1024 → EReal) : EReal := Ideal.div ((∑ j, x j * d j) * (cNegHalf * Ideal.div (rr x) (msq x))) cN

/-- The kernels' spelling is the reverse pass'. -/
theorem rmsK_eq (x d : Fin 1024 → EReal) (k : Fin 1024) :
    rmsK x d k = d k * rr x + x k * rmsQ x d + rmsQ x d * x k := by
  unfold rmsK rmsQ
  rcases msq_cases x with ⟨v, hv, hm, hx⟩ | ht
  · have hs : 0 < Real.sqrt v := Real.sqrt_pos.2 hv
    have hr : rr x = (((Real.sqrt v)⁻¹ : ℝ) : EReal) := by
      unfold rr
      rw [hm]
      show (if v < 0 then ⊥ else if v = 0 then ⊤ else (((Real.sqrt v)⁻¹ : ℝ) : EReal)) = _
      rw [if_neg (by linarith), if_neg (by linarith)]
    have hd : Ideal.div (rr x) (msq x) = (((Real.sqrt v)⁻¹ * v⁻¹ : ℝ) : EReal) := by
      rw [hr, hm]
      unfold Ideal.div
      rw [if_neg (by exact_mod_cast hv.ne'), ← EReal.coe_inv, EReal.coe_mul]
    have hS : ∑ j, d j * (x j * rr x) = rr x * ∑ j, x j * d j := by
      rw [hr, coe_mul_sum _ _ (by positivity)]
      exact Finset.sum_congr rfl fun j _ => by ac_rfl
    obtain ⟨y, hy⟩ := hx k
    rw [hd, div_cN, div_cN, hS, hr, hy, cNegHalf_eq]
    generalize ∑ j, x j * d j = S
    have e2 : Real.sqrt v * Real.sqrt v = v := Real.mul_self_sqrt hv.le
    generalize Real.sqrt v = q at *
    subst e2
    rw [sub_eq_add_neg, EReal.left_distrib_of_nonneg_of_ne_top (by exact_mod_cast (by positivity : 0 ≤ q⁻¹)) (EReal.coe_ne_top _), add_assoc]
    refine congrArg₂ _ (mul_comm _ _) ?_
    rw [mul_comm _ (y : EReal), add_self_eq, ← neg_one_mul]
    have e : ∀ a b : ℝ, a = b → (a : EReal) * S = (b : EReal) * S := fun a b h => by rw [h]
    have h := e (q⁻¹ * (-1 * (y * q⁻¹ * (q⁻¹ * (1 / 1024))))) (2 * (y * (-(1 / 2) * (q⁻¹ * (q * q)⁻¹) * (1 / 1024)))) (by field_simp)
    simp only [EReal.coe_mul, EReal.coe_neg, EReal.coe_one] at h ⊢
    refine Eq.trans ?_ (h.trans ?_)
    · ac_rfl
    · ac_rfl
  · have hr : rr x = 0 := by unfold rr; rw [ht]; rfl
    have hd : Ideal.div (rr x) (msq x) = 0 := by
      rw [hr, ht]
      unfold Ideal.div
      rw [if_neg (by decide), zero_mul]
    rw [hd, hr]
    simp only [div_cN]
    simp

/-- What a row adds to the sums of a normed, scaled and shifted row's gradient: to the shift's, to the scale's and to the
    norm weight's, from the cotangent `d`, the row `x`, the scale `s` and the weight `g`. -/
def nst (q : Nat) (d x s g : Fin 1024 → EReal) : Fin 1024 → EReal := fun k =>
  if q = 2 then d k * (1 + s k) * (x k * rr x) else if q = 1 then d k * (x k * rr x * g k) else d k

/-- The gradient of a row of the normed array, the residual's added. -/
def dxr (d x s g dr : Fin 1024 → EReal) : Fin 1024 → EReal := fun k => dr k + rmsK x (fun j => d j * (1 + s j) * g j) k
/-- What a row adds to the four sums. -/
def bst (q : Nat) (d x s g dr f : Fin 1024 → EReal) : Fin 1024 → EReal := fun k =>
  if q = 3 then dxr d x s g dr k * f k else nst q d x s g k

end Cert.Proof

end
-- ==== Proof.Norm.lean ====
/- The gradient of a norm with its scale and shift: what the kernel's two result arrays hold. The rows are taken in eight
   blocks; a scratch of three planes of eight rows collects the sums, which the last block writes out. -/
module

public import proofs.«01_k».proof.Proof.Gen.NormIdeal.Value
public import proofs.«01_k».proof.Proof.Rms
public import proofs.«01_k».proof.Proof.Rows
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.NormIdeal.RefValue

open Cert.NormIdeal Cert.NormIdeal.Gen Cert.Proof

variable (m : (ℓ : Loc nD τ sig) → Buf (Elt Ideal) ℓ) (c : Dev nD)

/-- Row `r` of a point's blocks: of the cotangent, of the normed array, of the residual's gradient; the scale, the weight. -/
abbrev rD (t : Fin cfg0.N) (r : Fin 512) : Fin 1024 → EReal := fun k => iblk m c 0 t (ix2 r k)
abbrev rX (t : Fin cfg0.N) (r : Fin 512) : Fin 1024 → EReal := fun k => iblk m c 1 t (ix2 r k)
abbrev rR (t : Fin cfg0.N) (r : Fin 512) : Fin 1024 → EReal := fun k => iblk m c 2 t (ix2 r k)
abbrev rG (t : Fin cfg0.N) : Fin 1024 → EReal := fun k => iblk m c 3 t (ix2 0 k)
abbrev rS (t : Fin cfg0.N) : Fin 1024 → EReal := fun k => iblk m c 4 t (ix2 1 k)

/-- What a point adds to the scratch. -/
def term (t : Fin cfg0.N) : S3x8x1024.Idx → EReal := fun i =>
  ∑ x : Fin 64, nst (i 0).val (rD m c t ⟨x.val * 8 + (i 1).val, by have := (i 1).isLt; have h : S3x8x1024.size 1 = 8 := rfl; omega⟩)
    (rX m c t ⟨x.val * 8 + (i 1).val, by have := (i 1).isLt; have h : S3x8x1024.size 1 = 8 := rfl; omega⟩) (rS m c t) (rG m c t) (i 2)

theorem dx_point (t : Fin cfg0.N) (y : S512x1024.Idx) : (outsAt0 m c t.val t.isLt).1 y
    = rR m c t (y 0) (y 1) + rmsK (rX m c t (y 0)) (fun k => rD m c t (y 0) k * (1 + rS m c t k) * rG m c t k) (y 1) := by
  by_cases h0 : t.val % 8 = 0
  · rw [outsAt0_A m c t h0 (by omega)]
    idx_vars y
    frame_out
    unfold_payloads
    pointwise
    rfl
  · by_cases h1 : t.val % 8 = 7
    · rw [outsAt0_C m c t h0 h1]
      idx_vars y
      frame_out
      unfold_payloads
      pointwise
      rfl
    · rw [outsAt0_B m c t h0 h1]
      idx_vars y
      frame_out
      unfold_payloads
      pointwise
      rfl

theorem pick (q : Fin 3) (f : Nat → EReal) (z : EReal) :
    (if q.val = 2 then f 2 else if q.val = 1 then f 1 else if q.val = 0 then f 0 else z) = f q.val := by
  by_cases h2 : q.val = 2
  · rw [if_pos h2, h2]
  by_cases h1 : q.val = 1
  · rw [if_neg h2, if_pos h1, h1]
  have h0 : q.val = 0 := by omega
  rw [if_neg h2, if_neg h1, if_pos h0, h0]

theorem acc_first (t : Fin cfg0.N) (h0 : t.val % 8 = 0) (y : S3x8x1024.Idx) :
    (outsAt0 m c t.val t.isLt).2.2 y = 0 + term m c t y := by
  rw [outsAt0_A m c t h0 (by omega), zero_add]
  idx_vars y
  frame_open
  simp (disch := decide) only [↓ View.readCov_skip, ↓ View.readCov_cons_toLoadRect, ↓ View.readCov_fill]
  frame_out
  rw [canon_plane, canon_plane, canon_plane]
  unfold_payloads
  pointwise
  exact pick y0 (fun q => ∑ x : Fin 64, nst q (rD m c t ⟨x.val * 8 + y1.val, by omega⟩)
    (rX m c t ⟨x.val * 8 + y1.val, by omega⟩) (rS m c t) (rG m c t) y2) _

theorem acc_next (t : Fin cfg0.N) (h0 : ¬t.val % 8 = 0) (y : S3x8x1024.Idx) :
    (outsAt0 m c t.val t.isLt).2.2 y = (outsAt0 m c (t.val - 1) (Nat.lt_of_le_of_lt (Nat.sub_le _ _) t.isLt)).2.2 y + term m c t y := by
  by_cases h1 : t.val % 8 = 7
  · rw [outsAt0_C m c t h0 h1]
    idx_vars y
    frame_open
    simp (disch := decide) only [↓ View.readCov_skip, ↓ View.readCov_cons_toLoadRect, ↓ View.readCov_fill]
    frame_out
    simp only [read_unread_whole]
    rw [canon_plane, canon_plane, canon_plane]
    unfold_payloads
    pointwise
    have e : y0 = ⟨y0.val, y0.isLt⟩ := rfl
    by_cases h2 : y0.val = 2
    · rw [if_pos h2]; obtain rfl : y0 = 2 := Fin.ext h2; rfl
    rw [if_neg h2]
    by_cases h1 : y0.val = 1
    · rw [if_pos h1]; obtain rfl : y0 = 1 := Fin.ext h1; rfl
    rw [if_neg h1, if_pos (by omega)]
    obtain rfl : y0 = 0 := Fin.ext (by show y0.val = 0; omega)
    rfl
  · rw [outsAt0_B m c t h0 h1]
    idx_vars y
    frame_open
    simp (disch := decide) only [↓ View.readCov_skip, ↓ View.readCov_cons_toLoadRect, ↓ View.readCov_fill]
    frame_out
    simp only [read_unread_whole]
    rw [canon_plane, canon_plane, canon_plane]
    unfold_payloads
    pointwise
    by_cases h2 : y0.val = 2
    · rw [if_pos h2]; obtain rfl : y0 = 2 := Fin.ext h2; rfl
    rw [if_neg h2]
    by_cases h1 : y0.val = 1
    · rw [if_pos h1]; obtain rfl : y0 = 1 := Fin.ext h1; rfl
    rw [if_neg h1, if_pos (by omega)]
    obtain rfl : y0 = 0 := Fin.ext (by show y0.val = 0; omega)
    rfl

theorem stats_last (t : Fin cfg0.N) (h1 : t.val % 8 = 7) (y : S8x1024.Idx) : (outsAt0 m c t.val t.isLt).2.1 y
    = if h : (y 0).val < 3 then ∑ a : Fin 8, (outsAt0 m c t.val t.isLt).2.2 (ix3 ⟨(y 0).val, h⟩ a (y 1)) else 0 := by
  simp only [acc_next m c t (by omega)]
  rw [outsAt0_C m c t (by omega) h1]
  idx_vars y
  frame_open
  simp (disch := decide) only [↓ View.readCov_skip, ↓ View.readCov_cons_toLoadRect, ↓ View.readCov_fill]
  frame_out
  simp only [read_unread_whole]
  rw [canon_row, canon_row, canon_row, View.canon_cons_unit_lit _ _ _ (by decide)]
  unfold_payloads
  pointwise
  by_cases h : y0.val < 3
  · rw [dif_pos h]
    by_cases h2 : y0.val = 2
    · rw [if_pos h2]; obtain rfl : y0 = 2 := Fin.ext h2; rfl
    rw [if_neg h2]
    by_cases h1 : y0.val = 1
    · rw [if_pos h1]; obtain rfl : y0 = 1 := Fin.ext h1; rfl
    rw [if_neg h1, if_pos (by omega)]
    obtain rfl : y0 = 0 := Fin.ext (by show y0.val = 0; omega)
    rfl
  · rw [dif_neg h, if_neg (by omega), if_neg (by omega), if_neg (by omega)]

/-- The arrays, and the results as functions of them. -/
abbrev A0 : S4096x1024.Idx → EReal := m ((c : Thread nD τ).loc main_arg0)
abbrev A1 : S4096x1024.Idx → EReal := m ((c : Thread nD τ).loc main_arg1)
abbrev A2 : S4096x1024.Idx → EReal := m ((c : Thread nD τ).loc main_arg2)
abbrev A3 : S1x1024.Idx → EReal := m ((c : Thread nD τ).loc main_arg3)
abbrev A4 : S6x1024.Idx → EReal := m ((c : Thread nD τ).loc main_arg4)

theorem index_facts : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![0, 0] :=
  (by decide +kernel : ∀ t : Fin grid0.N, _)

def row {n : Nat} (x : (⟨2, ![n, 1024]⟩ : Shape).Idx → EReal) (r : Fin n) : Fin 1024 → EReal := fun k => x (ix2 r k)

def H5 (x0 x1 x2 : S4096x1024.Idx → EReal) (x3 : S1x1024.Idx → EReal) (x4 : S6x1024.Idx → EReal) : S4096x1024.Idx → EReal := fun i =>
  row x2 (i 0) (i 1) + rmsK (row x1 (i 0)) (fun k => row x0 (i 0) k * (1 + row x4 1 k) * row x3 0 k) (i 1)
def H6 (x0 x1 : S4096x1024.Idx → EReal) (x3 : S1x1024.Idx → EReal) (x4 : S6x1024.Idx → EReal) : S8x1024.Idx → EReal := fun i =>
  if (i 0).val < 3 then ∑ r : Fin 4096, nst (i 0).val (row x0 r) (row x1 r) (row x4 1) (row x3 0) (i 1) else 0

/-- Row `r` of block `t` among the arrays' rows. -/
def rw' (t : Fin cfg0.N) (r : Fin 512) : Fin 4096 := ⟨t.val * 512 + r.val, by have := t.isLt; have h : cfg0.N = 8 := N_0; omega⟩

theorem blk0 (t : Fin cfg0.N) (r : Fin 512) : rD m c t r = row (A0 m c) (rw' t r) := by
  have h := index_facts t
  funext k
  show iblk m c 0 t (ix2 r k) = A0 m c (ix2 (rw' t r) k)
  blk_ext [iblk, V_main_arg0, h.1, rw']

theorem blk1 (t : Fin cfg0.N) (r : Fin 512) : rX m c t r = row (A1 m c) (rw' t r) := by
  have h := index_facts t
  funext k
  show iblk m c 1 t (ix2 r k) = A1 m c (ix2 (rw' t r) k)
  blk_ext [iblk, V_main_arg1, h.2.1, rw']

theorem blk2 (t : Fin cfg0.N) (r : Fin 512) : rR m c t r = row (A2 m c) (rw' t r) := by
  have h := index_facts t
  funext k
  show iblk m c 2 t (ix2 r k) = A2 m c (ix2 (rw' t r) k)
  blk_ext [iblk, V_main_arg2, h.2.2.1, rw']

theorem blk3 (t : Fin cfg0.N) : rG m c t = row (A3 m c) 0 := by
  have h := index_facts t
  funext k
  show iblk m c 3 t (ix2 0 k) = A3 m c (ix2 0 k)
  blk_ext [iblk, V_main_arg3, h.2.2.2.1]

theorem blk4 (t : Fin cfg0.N) : rS m c t = row (A4 m c) 1 := by
  have h := index_facts t
  funext k
  show iblk m c 4 t (ix2 1 k) = A4 m c (ix2 1 k)
  blk_ext [iblk, V_main_arg4, h.2.2.2.2.1]

theorem final5 : (dats m 0 c).arrAt 5 cfg0.N = H5 (A0 m c) (A1 m c) (A2 m c) (A3 m c) (A4 m c) := by
  refine (dats m 0 c).arrAt_eq_of_covers 5 _ (by decide +kernel) fun t hf y => ?_
  have h := index_facts t
  obtain ⟨r, k, rfl⟩ : ∃ r k, y = ix2 (n0 := 512) (n1 := 1024) r k := ⟨y 0, y 1, eq_ix2 y⟩
  have he : ((cfg0.win 5).blk t).view.emb (ix2 r k) = ix2 (n0 := 4096) (n1 := 1024) (rw' t r) k := by
    blk_ext [h.2.2.2.2.2.1, rw']
  rw [he]
  blk_simp [after0_5]
  rw [dx_point]
  show rR m c t r k + rmsK (rX m c t r) (fun j => rD m c t r j * (1 + rS m c t j) * rG m c t j) k = _
  rw [blk0, blk1, blk2, blk3, blk4]
  rfl

theorem scratch_last (q : Fin 3) (a : Fin 8) (k : Fin 1024) : (outsAt0 m c t0_7.val t0_7.isLt).2.2 (ix3 q a k)
    = ∑ t : Fin 8, ∑ x : Fin 64, nst q.val (row (A0 m c) ⟨t.val * 512 + (x.val * 8 + a.val), by omega⟩)
        (row (A1 m c) ⟨t.val * 512 + (x.val * 8 + a.val), by omega⟩) (row (A4 m c) 1) (row (A3 m c) 0) k := by
  rw [Pipeline.eq_sum_fin_of_reset_step_apply_last (fun n h => (outsAt0 m c n h).2.2) 8 (fun _ => 0) (term m c)
    (acc_first m c) (acc_next m c) (le_of_eq N_0) t0_7 rfl (ix3 q a k), zero_add]
  unfold term
  simp only [blk0, blk1, blk3, blk4]
  rfl

theorem final6 : (dats m 0 c).arrAt 6 cfg0.N = H6 (A0 m c) (A1 m c) (A3 m c) (A4 m c) := by
  refine (dats m 0 c).arrAt_eq_of_after_last 6 t0_7 (by decide +kernel) _ fun y => ?_
  obtain ⟨r, k, rfl⟩ : ∃ r k, y = ix2 (n0 := 8) (n1 := 1024) r k := ⟨y 0, y 1, eq_ix2 y⟩
  have he : (cfg0.win 6).arr.view.emb (ix2 r k) = ix2 (n0 := 8) (n1 := 1024) r k := rfl
  rw [he]
  blk_simp [after0_6]
  rw [stats_last m c t0_7 rfl]
  show (if h : r.val < 3 then ∑ a : Fin 8, (outsAt0 m c t0_7.val t0_7.isLt).2.2 (ix3 ⟨r.val, h⟩ a k) else 0) = if r.val < 3 then _ else 0
  by_cases hr : r.val < 3
  · rw [dif_pos hr, if_pos hr]
    simp only [scratch_last]
    exact sum_rows (fun s => nst r.val (row (A0 m c) s) (row (A1 m c) s) (row (A4 m c) 1) (row (A3 m c) 0) k)
  · rw [dif_neg hr, if_neg hr]

end Cert.NormIdeal.RefValue
-- ==== Proof.NormRef.lean ====
/- The gradient of a norm with its scale and shift: the reference, stage by stage, is what the kernel's arrays hold. -/
module

public import proofs.«01_k».proof.Proof.Norm
public import proofs.«01_k».proof.Proof.Gen.NormRefIdeal.Run
public import proofs.«01_k».proof.Proof.Gen.NormRefIdeal.Read

@[expose] public section

set_option maxRecDepth 16384

noncomputable section

open Idealize.ShloMosaic Idealize.ShloMosaic.TcCoe Idealize.SL.Sem

namespace Cert.NormRefIdeal.RefValue

open Cert.NormRefIdeal Cert.NormRefIdeal.Gen Cert.NormRefIdeal.Read Cert.Proof
open Cert.NormIdeal.RefValue (row H5 H6)

variable (x0 x1 x2 : S4096x1024.Idx → EReal) (x3 : S1x1024.Idx → EReal) (x4 : S6x1024.Idx → EReal) (r : Fin 4096) (k : Fin 1024)

theorem v6_eq : val_main_v6 (F := Ideal) x1 (ix2 r 0) = msq (row x1 r) := by
  pointwise [val_main_v6, val_main_v5, val_main_v4, val_main_v3, val_main_v2, val_main_v1, val_main_v0, val_main_cst, val_main_cst_0, val_main_cst_1]
  rfl

theorem v7_eq : val_main_v7 (F := Ideal) x1 (ix2 r 0) = rr (row x1 r) := by
  pointwise [val_main_v7]
  rw [v6_eq]
  rfl

theorem v38_eq : val_main_v38 (F := Ideal) x0 x3 x4 (ix2 r k) = row x0 r k * (1 + row x4 1 k) * row x3 0 k := by
  pointwise [val_main_v38, val_main_v37, val_main_v30, val_main_v29, val_main_v23, val_main_v18, val_main_v17, val_main_v16, val_main_cst_3]
  rfl

theorem v48_eq : val_main_v48 (F := Ideal) x0 x1 x3 x4 (ix2 r k) = rmsQ (row x1 r) (fun j => row x0 r j * (1 + row x4 1 j) * row x3 0 j) := by
  pointwise [val_main_v48, val_main_v47, val_main_v46, val_main_v45, val_main_v44, val_main_v41, val_main_v40, val_main_v39, val_main_v10, val_main_v9, val_main_v8, val_main_cst_9, val_main_cst_10, val_main_cst_11, val_main_cst_2]
  rw [Fin.sum_univ_one]
  simp only [v6_eq, v7_eq, v38_eq]
  rfl

theorem ref0 : val_main_v53 (F := Ideal) x0 x1 x2 x3 x4 = H5 x0 x1 x2 x3 x4 := by
  funext i
  idx_vars i
  pointwise [val_main_v53, val_main_v52, val_main_v51, val_main_v50, val_main_v49, val_main_v43, val_main_v42]
  simp only [v7_eq, v38_eq, v48_eq]
  exact congrArg (_ + ·) (rmsK_eq (row x1 i0) (fun j => row x0 i0 j * (1 + row x4 1 j) * row x3 0 j) i1).symm

theorem ref1 : val_main_v56 (F := Ideal) x0 x1 x3 x4 = H6 x0 x1 x3 x4 := by
  funext i
  idx_vars i
  pointwise [val_main_v56, val_main_v55, val_main_v54, val_main_v36, val_main_v35, val_main_v34, val_main_v33, val_main_v32, val_main_v31, val_main_v30, val_main_v29, val_main_v28, val_main_v27, val_main_v26, val_main_v25, val_main_v24, val_main_v23, val_main_v18, val_main_v17, val_main_v16, val_main_v14, val_main_v13, val_main_v12, val_main_v11, val_main_cst_3, val_main_cst_4, val_main_cst_5, val_main_cst_6, val_main_cst_7, val_main_cst_8, val_main_cst_12]
  simp only [v7_eq]
  show _ = if i0.val < 3 then ∑ r : Fin 4096, nst i0.val (row x0 r) (row x1 r) (row x4 1) (row x3 0) i1 else 0
  by_cases h0 : i0.val = 0
  · rw [dif_pos (by omega), dif_neg (by omega), dif_pos (by omega), zero_add, if_pos (by omega), h0]
    rfl
  by_cases h1 : i0.val = 1
  · rw [dif_pos (by omega), dif_pos (by omega), dif_neg (by omega), add_zero, if_pos (by omega), h1]
    exact Finset.sum_congr rfl fun r _ => mul_comm _ _
  rw [dif_neg (by omega)]
  by_cases h2 : i0.val = 2
  · rw [dif_pos (by omega), if_pos (by omega), h2]
    exact Finset.sum_congr rfl fun r _ => mul_comm _ _
  rw [dif_neg (by omega), if_neg (by omega)]

end Cert.NormRefIdeal.RefValue
-- ==== Proof.NormClaims.lean ====
/- The claims about the norm's gradient, from the runs. -/
module

public import proofs.«01_k».proof.Defs
public import proofs.«01_k».proof.Proof.NormRef
public import proofs.«01_k».proof.Proof.Gen.Norm.Frame

@[expose] public section

noncomputable section

open Idealize.ShloMosaic Idealize.ShloMosaic.TcCoe Idealize.SL.Sem

namespace Cert.Proof.Norm

theorem frame : Cert.quiescent_Norm (hNorm := Cert.Norm.Gen.facts) := fun m ρ _ => Cert.Norm.Gen.frame m ρ
theorem frame_ideal : Cert.quiescent_NormIdeal (hNormIdeal := Cert.NormIdeal.Gen.facts) := fun m ρ _ => Cert.NormIdeal.Gen.frame m ρ
theorem frame_ref : Cert.quiescent_NormRefIdeal (hNormRefIdeal := Cert.NormRefIdeal.Gen.facts) := fun m ρ _ =>
  (θ_run Cert.NormRefIdeal.defs _ _).mono (fun r h => ⟨fun c => (h c).2.2, sem_eq_zero_of_no_sems (by decide) r.2⟩)
    (Cert.NormRefIdeal.Value.run (F := Ideal) m ρ)

open Cert.NormIdeal.RefValue Cert.NormRefIdeal.RefValue Cert.NormRefIdeal.Read

theorem algebraic : Cert.algebraic_NormIdeal_NormRefIdeal (hNormIdeal := Cert.NormIdeal.Gen.facts) (hNormRefIdeal := Cert.NormRefIdeal.Gen.facts) := by
  intro m ρ m' ρ' _ hagree
  refine ⟨fun c => H5 (A0 m c) (A1 m c) (A2 m c) (A3 m c) (A4 m c), fun c => H6 (A0 m c) (A1 m c) (A3 m c) (A4 m c), ?_, ?_⟩
  · refine (θ_run Cert.NormIdeal.defs _ _).mono (fun r h c => ?_) (Cert.NormIdeal.Value.run_blocks (F := Ideal) m ρ)
    obtain ⟨h0, h1, hk⟩ := h c
    exact ⟨h0.trans (final5 m c), h1.trans (final6 m c), hk⟩
  · refine (θ_run Cert.NormRefIdeal.defs _ _).mono (fun r h c => ?_) (Cert.NormRefIdeal.Value.run (F := Ideal) m' ρ')
    obtain ⟨h0, h1, hk⟩ := h c
    obtain ⟨e0, e1, e2, e3, e4⟩ := hagree c
    refine ⟨h0.trans ((val_main_v53_eq m' c).trans ((ref0 _ _ _ _ _).trans ?_)), h1.trans ((val_main_v56_eq _ _ _ _).trans ((ref1 _ _ _ _).trans ?_)), hk⟩
    all_goals simp only [e0, e1, e2, e3, e4, A0, A1, A2, A3, A4]

end Cert.Proof.Norm

end
-- ==== Proof.Branch.lean ====
/- The gradient of a norm with its scale and shift, and of the gated branch added before it: what the kernel's three result
   arrays hold. The rows are taken in eight blocks; a scratch of four planes of eight rows collects the sums, which the last
   block writes out. -/
module

public import proofs.«01_k».proof.Proof.Gen.BranchIdeal.Value
public import proofs.«01_k».proof.Proof.Rms
public import proofs.«01_k».proof.Proof.Rows
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.BranchIdeal.RefValue

open Cert.BranchIdeal Cert.BranchIdeal.Gen Cert.Proof

variable (m : (ℓ : Loc nD τ sig) → Buf (Elt Ideal) ℓ) (c : Dev nD)

/-- Row `r` of a point's blocks: of the cotangent, of the normed array, of the residual's gradient; the scale, the weight. -/
abbrev rD (t : Fin cfg0.N) (r : Fin 512) : Fin 1024 → EReal := fun k => iblk m c 0 t (ix2 r k)
abbrev rX (t : Fin cfg0.N) (r : Fin 512) : Fin 1024 → EReal := fun k => iblk m c 1 t (ix2 r k)
abbrev rR (t : Fin cfg0.N) (r : Fin 512) : Fin 1024 → EReal := fun k => iblk m c 2 t (ix2 r k)
abbrev rG (t : Fin cfg0.N) : Fin 1024 → EReal := fun k => iblk m c 3 t (ix2 0 k)
abbrev rS (t : Fin cfg0.N) : Fin 1024 → EReal := fun k => iblk m c 4 t (ix2 4 k)
/-- The branch's row and its gate. -/
abbrev rF (t : Fin cfg0.N) (r : Fin 512) : Fin 1024 → EReal := fun k => iblk m c 5 t (ix2 r k)
abbrev rM (t : Fin cfg0.N) : Fin 1024 → EReal := fun k => iblk m c 6 t (ix2 2 k)

/-- What a point adds to the scratch. -/
def term (t : Fin cfg0.N) : S4x8x1024.Idx → EReal := fun i =>
  ∑ x : Fin 64, (fun r : Fin 512 => bst (i 0).val (rD m c t r) (rX m c t r) (rS m c t) (rG m c t) (rR m c t r) (rF m c t r) (i 2))
    ⟨x.val * 8 + (i 1).val, by have := (i 1).isLt; have h : S4x8x1024.size 1 = 8 := rfl; omega⟩

theorem dx_point (t : Fin cfg0.N) (y : S512x1024.Idx) : (outsAt0 m c t.val t.isLt).1 y
    = dxr (rD m c t (y 0)) (rX m c t (y 0)) (rS m c t) (rG m c t) (rR m c t (y 0)) (y 1) := by
  by_cases h0 : t.val % 8 = 0
  · rw [outsAt0_A m c t h0 (by omega)]
    idx_vars y
    frame_out
    unfold_payloads
    pointwise
    rfl
  · by_cases h1 : t.val % 8 = 7
    · rw [outsAt0_C m c t h0 h1]
      idx_vars y
      frame_out
      unfold_payloads
      pointwise
      rfl
    · rw [outsAt0_B m c t h0 h1]
      idx_vars y
      frame_out
      unfold_payloads
      pointwise
      rfl

theorem df_point (t : Fin cfg0.N) (y : S512x1024.Idx) : (outsAt0 m c t.val t.isLt).2.2.1 y
    = dxr (rD m c t (y 0)) (rX m c t (y 0)) (rS m c t) (rG m c t) (rR m c t (y 0)) (y 1) * rM m c t (y 1) := by
  by_cases h0 : t.val % 8 = 0
  · rw [outsAt0_A m c t h0 (by omega)]
    idx_vars y
    frame_out
    unfold_payloads
    pointwise
    rfl
  · by_cases h1 : t.val % 8 = 7
    · rw [outsAt0_C m c t h0 h1]
      idx_vars y
      frame_out
      unfold_payloads
      pointwise
      rfl
    · rw [outsAt0_B m c t h0 h1]
      idx_vars y
      frame_out
      unfold_payloads
      pointwise
      rfl

theorem pick (q : Fin 4) (f : Nat → EReal) (z : EReal) :
    (if q.val = 3 then f 3 else if q.val = 2 then f 2 else if q.val = 1 then f 1 else if q.val = 0 then f 0 else z) = f q.val := by
  by_cases h3 : q.val = 3
  · rw [if_pos h3, h3]
  by_cases h2 : q.val = 2
  · rw [if_neg h3, if_pos h2, h2]
  by_cases h1 : q.val = 1
  · rw [if_neg h3, if_neg h2, if_pos h1, h1]
  have h0 : q.val = 0 := by omega
  rw [if_neg h3, if_neg h2, if_neg h1, if_pos h0, h0]

theorem acc_first (t : Fin cfg0.N) (h0 : t.val % 8 = 0) (y : S4x8x1024.Idx) :
    (outsAt0 m c t.val t.isLt).2.2.2 y = 0 + term m c t y := by
  rw [outsAt0_A m c t h0 (by omega), zero_add]
  idx_vars y
  frame_open
  simp (disch := decide) only [↓ View.readCov_skip, ↓ View.readCov_cons_toLoadRect, ↓ View.readCov_fill]
  frame_out
  rw [canon_plane, canon_plane, canon_plane, canon_plane]
  unfold_payloads
  pointwise
  exact pick y0 (fun q => ∑ x : Fin 64, (fun r : Fin 512 => bst q (rD m c t r) (rX m c t r) (rS m c t) (rG m c t) (rR m c t r) (rF m c t r) y2)
    ⟨x.val * 8 + y1.val, by omega⟩) _

theorem acc_next (t : Fin cfg0.N) (h0 : ¬t.val % 8 = 0) (y : S4x8x1024.Idx) :
    (outsAt0 m c t.val t.isLt).2.2.2 y = (outsAt0 m c (t.val - 1) (Nat.lt_of_le_of_lt (Nat.sub_le _ _) t.isLt)).2.2.2 y + term m c t y := by
  by_cases h1 : t.val % 8 = 7
  · rw [outsAt0_C m c t h0 h1]
    idx_vars y
    frame_open
    simp (disch := decide) only [↓ View.readCov_skip, ↓ View.readCov_cons_toLoadRect, ↓ View.readCov_fill]
    frame_out
    simp only [read_unread_whole]
    rw [canon_plane, canon_plane, canon_plane, canon_plane]
    unfold_payloads
    pointwise
    by_cases h3 : y0.val = 3
    · rw [if_pos h3]; obtain rfl : y0 = 3 := Fin.ext h3; rfl
    rw [if_neg h3]
    by_cases h2 : y0.val = 2
    · rw [if_pos h2]; obtain rfl : y0 = 2 := Fin.ext h2; rfl
    rw [if_neg h2]
    by_cases h1 : y0.val = 1
    · rw [if_pos h1]; obtain rfl : y0 = 1 := Fin.ext h1; rfl
    rw [if_neg h1, if_pos (by omega)]
    obtain rfl : y0 = 0 := Fin.ext (by show y0.val = 0; omega)
    rfl
  · rw [outsAt0_B m c t h0 h1]
    idx_vars y
    frame_open
    simp (disch := decide) only [↓ View.readCov_skip, ↓ View.readCov_cons_toLoadRect, ↓ View.readCov_fill]
    frame_out
    simp only [read_unread_whole]
    rw [canon_plane, canon_plane, canon_plane, canon_plane]
    unfold_payloads
    pointwise
    by_cases h3 : y0.val = 3
    · rw [if_pos h3]; obtain rfl : y0 = 3 := Fin.ext h3; rfl
    rw [if_neg h3]
    by_cases h2 : y0.val = 2
    · rw [if_pos h2]; obtain rfl : y0 = 2 := Fin.ext h2; rfl
    rw [if_neg h2]
    by_cases h1 : y0.val = 1
    · rw [if_pos h1]; obtain rfl : y0 = 1 := Fin.ext h1; rfl
    rw [if_neg h1, if_pos (by omega)]
    obtain rfl : y0 = 0 := Fin.ext (by show y0.val = 0; omega)
    rfl

theorem stats_last (t : Fin cfg0.N) (h1 : t.val % 8 = 7) (y : S8x1024.Idx) : (outsAt0 m c t.val t.isLt).2.1 y
    = if h : (y 0).val < 4 then ∑ a : Fin 8, (outsAt0 m c t.val t.isLt).2.2.2 (ix3 ⟨(y 0).val, h⟩ a (y 1)) else 0 := by
  simp only [acc_next m c t (by omega)]
  rw [outsAt0_C m c t (by omega) h1]
  idx_vars y
  frame_open
  simp (disch := decide) only [↓ View.readCov_skip, ↓ View.readCov_cons_toLoadRect, ↓ View.readCov_fill]
  frame_out
  simp only [read_unread_whole]
  rw [canon_row, canon_row, canon_row, canon_row, View.canon_cons_unit_lit _ _ _ (by decide)]
  unfold_payloads
  pointwise
  by_cases h : y0.val < 4
  · rw [dif_pos h]
    by_cases h3 : y0.val = 3
    · rw [if_pos h3]; obtain rfl : y0 = 3 := Fin.ext h3; rfl
    rw [if_neg h3]
    by_cases h2 : y0.val = 2
    · rw [if_pos h2]; obtain rfl : y0 = 2 := Fin.ext h2; rfl
    rw [if_neg h2]
    by_cases h1 : y0.val = 1
    · rw [if_pos h1]; obtain rfl : y0 = 1 := Fin.ext h1; rfl
    rw [if_neg h1, if_pos (by omega)]
    obtain rfl : y0 = 0 := Fin.ext (by show y0.val = 0; omega)
    rfl
  · rw [dif_neg h, if_neg (by omega), if_neg (by omega), if_neg (by omega), if_neg (by omega)]

/-- The arrays, and the results as functions of them. -/
abbrev A0 : S4096x1024.Idx → EReal := m ((c : Thread nD τ).loc main_arg0)
abbrev A1 : S4096x1024.Idx → EReal := m ((c : Thread nD τ).loc main_arg1)
abbrev A2 : S4096x1024.Idx → EReal := m ((c : Thread nD τ).loc main_arg2)
abbrev A3 : S4096x1024.Idx → EReal := m ((c : Thread nD τ).loc main_arg3)
abbrev A4 : S1x1024.Idx → EReal := m ((c : Thread nD τ).loc main_arg4)
abbrev A5 : S6x1024.Idx → EReal := m ((c : Thread nD τ).loc main_arg5)

theorem index_facts : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![0, 0]
    ∧ win0_7.index t = ![t.val, 0] ∧ win0_8.index t = ![0, 0] ∧ win0_9.index t = ![t.val, 0] :=
  (by decide +kernel : ∀ t : Fin grid0.N, _)

def row {n : Nat} (x : (⟨2, ![n, 1024]⟩ : Shape).Idx → EReal) (r : Fin n) : Fin 1024 → EReal := fun k => x (ix2 r k)
/-- A row of the normed array: the residual with the gated branch added. -/
def xrow (x1 x2 : S4096x1024.Idx → EReal) (x5 : S6x1024.Idx → EReal) (r : Fin 4096) : Fin 1024 → EReal := fun k =>
  row x1 r k + row x5 2 k * row x2 r k

section results
variable (x0 x1 x2 x3 : S4096x1024.Idx → EReal) (x4 : S1x1024.Idx → EReal) (x5 : S6x1024.Idx → EReal)
def H7 : S4096x1024.Idx → EReal := fun i =>
  dxr (row x0 (i 0)) (xrow x1 x2 x5 (i 0)) (row x5 4) (row x4 0) (row x3 (i 0)) (i 1)
def H8 : S8x1024.Idx → EReal := fun i => if (i 0).val < 4 then
  ∑ r : Fin 4096, bst (i 0).val (row x0 r) (xrow x1 x2 x5 r) (row x5 4) (row x4 0) (row x3 r) (row x2 r) (i 1) else 0
def H9 : S4096x1024.Idx → EReal := fun i => H7 x0 x1 x2 x3 x4 x5 i * row x5 2 (i 1)
end results

/-- Row `r` of block `t` among the arrays' rows. -/
def rw' (t : Fin cfg0.N) (r : Fin 512) : Fin 4096 := ⟨t.val * 512 + r.val, by have := t.isLt; have h : cfg0.N = 8 := N_0; omega⟩

theorem V_x (r : Fin 4096) (k : Fin 1024) : (V m c main_v4 : S4096x1024.Idx → EReal) (ix2 r k) = xrow (A1 m c) (A2 m c) (A5 m c) r k := by
  unfold_abbrev_sides
  after_results
  pointwise
  rfl

theorem blk0 (t : Fin cfg0.N) (r : Fin 512) : rD m c t r = row (A0 m c) (rw' t r) := by
  have h := index_facts t
  funext k
  show iblk m c 0 t (ix2 r k) = A0 m c (ix2 (rw' t r) k)
  blk_ext [iblk, V_main_arg0, h.1, rw']

theorem blk1 (t : Fin cfg0.N) (r : Fin 512) : rX m c t r = xrow (A1 m c) (A2 m c) (A5 m c) (rw' t r) := by
  have h := index_facts t
  funext k
  rw [← V_x]
  show iblk m c 1 t (ix2 r k) = (V m c main_v4 : S4096x1024.Idx → EReal) (ix2 (rw' t r) k)
  blk_ext [iblk, h.2.1, rw']

theorem blk2 (t : Fin cfg0.N) (r : Fin 512) : rR m c t r = row (A3 m c) (rw' t r) := by
  have h := index_facts t
  funext k
  show iblk m c 2 t (ix2 r k) = A3 m c (ix2 (rw' t r) k)
  blk_ext [iblk, V_main_arg3, h.2.2.1, rw']

theorem blk3 (t : Fin cfg0.N) : rG m c t = row (A4 m c) 0 := by
  have h := index_facts t
  funext k
  show iblk m c 3 t (ix2 0 k) = A4 m c (ix2 0 k)
  blk_ext [iblk, V_main_arg4, h.2.2.2.1]

theorem blk4 (t : Fin cfg0.N) : rS m c t = row (A5 m c) 4 := by
  have h := index_facts t
  funext k
  show iblk m c 4 t (ix2 4 k) = A5 m c (ix2 4 k)
  blk_ext [iblk, V_main_arg5, h.2.2.2.2.1]

theorem blk5 (t : Fin cfg0.N) (r : Fin 512) : rF m c t r = row (A2 m c) (rw' t r) := by
  have h := index_facts t
  funext k
  show iblk m c 5 t (ix2 r k) = A2 m c (ix2 (rw' t r) k)
  blk_ext [iblk, V_main_arg2, h.2.2.2.2.2.1, rw']

theorem blk6 (t : Fin cfg0.N) : rM m c t = row (A5 m c) 2 := by
  have h := index_facts t
  funext k
  show iblk m c 6 t (ix2 2 k) = A5 m c (ix2 2 k)
  blk_ext [iblk, V_main_arg5, h.2.2.2.2.2.2.1]

theorem final7 : (dats m 0 c).arrAt 7 cfg0.N = H7 (A0 m c) (A1 m c) (A2 m c) (A3 m c) (A4 m c) (A5 m c) := by
  refine (dats m 0 c).arrAt_eq_of_covers 7 _ (by decide +kernel) fun t hf y => ?_
  have h := index_facts t
  obtain ⟨r, k, rfl⟩ : ∃ r k, y = ix2 (n0 := 512) (n1 := 1024) r k := ⟨y 0, y 1, eq_ix2 y⟩
  have he : ((cfg0.win 7).blk t).view.emb (ix2 r k) = ix2 (n0 := 4096) (n1 := 1024) (rw' t r) k := by
    blk_ext [h.2.2.2.2.2.2.2.1, rw']
  rw [he]
  blk_simp [after0_7]
  rw [dx_point]
  show dxr (rD m c t r) (rX m c t r) (rS m c t) (rG m c t) (rR m c t r) k = _
  rw [blk0, blk1, blk2, blk3, blk4]
  rfl

theorem final9 : (dats m 0 c).arrAt 9 cfg0.N = H9 (A0 m c) (A1 m c) (A2 m c) (A3 m c) (A4 m c) (A5 m c) := by
  refine (dats m 0 c).arrAt_eq_of_covers 9 _ (by decide +kernel) fun t hf y => ?_
  have h := index_facts t
  obtain ⟨r, k, rfl⟩ : ∃ r k, y = ix2 (n0 := 512) (n1 := 1024) r k := ⟨y 0, y 1, eq_ix2 y⟩
  have he : ((cfg0.win 9).blk t).view.emb (ix2 r k) = ix2 (n0 := 4096) (n1 := 1024) (rw' t r) k := by
    blk_ext [h.2.2.2.2.2.2.2.2.2, rw']
  rw [he]
  blk_simp [after0_9]
  rw [df_point]
  show dxr (rD m c t r) (rX m c t r) (rS m c t) (rG m c t) (rR m c t r) k * rM m c t k = _
  rw [blk0, blk1, blk2, blk3, blk4, blk6]
  rfl

theorem scratch_last (q : Fin 4) (a : Fin 8) (k : Fin 1024) : (outsAt0 m c t0_7.val t0_7.isLt).2.2.2 (ix3 q a k)
    = ∑ t : Fin 8, ∑ x : Fin 64, (fun r : Fin 4096 => bst q.val (row (A0 m c) r) (xrow (A1 m c) (A2 m c) (A5 m c) r) (row (A5 m c) 4)
        (row (A4 m c) 0) (row (A3 m c) r) (row (A2 m c) r) k) ⟨t.val * 512 + (x.val * 8 + a.val), by omega⟩ := by
  rw [Pipeline.eq_sum_fin_of_reset_step_apply_last (fun n h => (outsAt0 m c n h).2.2.2) 8 (fun _ => 0) (term m c)
    (acc_first m c) (acc_next m c) (le_of_eq N_0) t0_7 rfl (ix3 q a k), zero_add]
  unfold term
  simp only [blk0, blk1, blk2, blk3, blk4, blk5]
  rfl

theorem final8 : (dats m 0 c).arrAt 8 cfg0.N = H8 (A0 m c) (A1 m c) (A2 m c) (A3 m c) (A4 m c) (A5 m c) := by
  refine (dats m 0 c).arrAt_eq_of_after_last 8 t0_7 (by decide +kernel) _ fun y => ?_
  obtain ⟨r, k, rfl⟩ : ∃ r k, y = ix2 (n0 := 8) (n1 := 1024) r k := ⟨y 0, y 1, eq_ix2 y⟩
  have he : (cfg0.win 8).arr.view.emb (ix2 r k) = ix2 (n0 := 8) (n1 := 1024) r k := rfl
  rw [he]
  blk_simp [after0_8]
  rw [stats_last m c t0_7 rfl]
  show (if h : r.val < 4 then ∑ a : Fin 8, (outsAt0 m c t0_7.val t0_7.isLt).2.2.2 (ix3 ⟨r.val, h⟩ a k) else 0) = if r.val < 4 then _ else 0
  by_cases hr : r.val < 4
  · rw [dif_pos hr, if_pos hr]
    simp only [scratch_last]
    exact sum_rows (fun s => bst r.val (row (A0 m c) s) (xrow (A1 m c) (A2 m c) (A5 m c) s) (row (A5 m c) 4) (row (A4 m c) 0)
      (row (A3 m c) s) (row (A2 m c) s) k)
  · rw [dif_neg hr, if_neg hr]

end Cert.BranchIdeal.RefValue
-- ==== Proof.BranchRef.lean ====
/- The gradient of a norm and the gated branch before it: the reference, stage by stage, is what the kernel's arrays hold. -/
module

public import proofs.«01_k».proof.Proof.Branch
public import proofs.«01_k».proof.Proof.Gen.BranchRefIdeal.Run
public import proofs.«01_k».proof.Proof.Gen.BranchRefIdeal.Read

@[expose] public section

set_option maxRecDepth 16384

noncomputable section

open Idealize.ShloMosaic Idealize.ShloMosaic.TcCoe Idealize.SL.Sem

namespace Cert.BranchRefIdeal.RefValue

open Cert.BranchRefIdeal Cert.BranchRefIdeal.Gen Cert.BranchRefIdeal.Read Cert.Proof
open Cert.BranchIdeal.RefValue (row xrow H7 H8 H9)

variable (x0 x1 x2 x3 : S4096x1024.Idx → EReal) (x4 : S1x1024.Idx → EReal) (x5 : S6x1024.Idx → EReal) (r : Fin 4096) (k : Fin 1024)

theorem v4_eq : val_main_v4 (F := Ideal) x1 x2 x5 (ix2 r k) = xrow x1 x2 x5 r k := by
  pointwise [val_main_v4, val_main_v3, val_main_v2, val_main_v1, val_main_v0]
  rfl

theorem v11_eq : val_main_v11 (F := Ideal) x1 x2 x5 (ix2 r 0) = msq (xrow x1 x2 x5 r) := by
  pointwise [val_main_v11, val_main_v10, val_main_v9, val_main_v8, val_main_v7, val_main_v6, val_main_v5, val_main_cst, val_main_cst_0, val_main_cst_1]
  simp only [v4_eq]
  rfl

theorem v12_eq : val_main_v12 (F := Ideal) x1 x2 x5 (ix2 r 0) = rr (xrow x1 x2 x5 r) := by
  pointwise [val_main_v12]
  rw [v11_eq]
  rfl

theorem v43_eq : val_main_v43 (F := Ideal) x0 x4 x5 (ix2 r k) = row x0 r k * (1 + row x5 4 k) * row x4 0 k := by
  pointwise [val_main_v43, val_main_v42, val_main_v35, val_main_v34, val_main_v28, val_main_v23, val_main_v22, val_main_v21, val_main_cst_3]
  rfl

theorem v54_eq : val_main_v54 (F := Ideal) x0 x1 x2 x4 x5 (ix2 r k)
    = rmsQ (xrow x1 x2 x5 r) (fun j => row x0 r j * (1 + row x5 4 j) * row x4 0 j) := by
  pointwise [val_main_v54, val_main_v53, val_main_v52, val_main_v51, val_main_v50, val_main_v46, val_main_v45, val_main_v44, val_main_v15, val_main_v14, val_main_v13, val_main_cst_9, val_main_cst_10, val_main_cst_11, val_main_cst_2]
  rw [Fin.sum_univ_one]
  simp only [v4_eq, v11_eq, v12_eq, v43_eq]
  rfl

theorem v58_eq : val_main_v58 (F := Ideal) x0 x1 x2 x3 x4 x5 (ix2 r k) = dxr (row x0 r) (xrow x1 x2 x5 r) (row x5 4) (row x4 0) (row x3 r) k := by
  pointwise [val_main_v58, val_main_v57, val_main_v56, val_main_v55, val_main_v49, val_main_v48, val_main_v47]
  simp only [v4_eq, v12_eq, v43_eq, v54_eq, add_assoc]
  refine congrArg (_ + ·) (Eq.trans ?_ (rmsK_eq (xrow x1 x2 x5 r) (fun j => row x0 r j * (1 + row x5 4 j) * row x4 0 j) k).symm)
  rw [add_assoc]

theorem ref0 : val_main_v58 (F := Ideal) x0 x1 x2 x3 x4 x5 = H7 x0 x1 x2 x3 x4 x5 := by
  funext i
  idx_vars i
  exact v58_eq x0 x1 x2 x3 x4 x5 i0 i1

theorem ref2 : val_main_v71 (F := Ideal) x0 x1 x2 x3 x4 x5 = H9 x0 x1 x2 x3 x4 x5 := by
  funext i
  idx_vars i
  pointwise [val_main_v71, val_main_v61, val_main_v60, val_main_v59, val_main_v1]
  rw [v58_eq]
  exact mul_comm _ _

theorem ref1 : val_main_v70 (F := Ideal) x0 x1 x2 x3 x4 x5 = H8 x0 x1 x2 x3 x4 x5 := by
  funext i
  idx_vars i
  pointwise [val_main_v70, val_main_v69, val_main_v68, val_main_v67, val_main_v66, val_main_v65, val_main_v64, val_main_v63, val_main_v62, val_main_v59, val_main_v41, val_main_v40, val_main_v39, val_main_v38, val_main_v37, val_main_v36, val_main_v35, val_main_v34, val_main_v33, val_main_v32, val_main_v31, val_main_v30, val_main_v29, val_main_v28, val_main_v23, val_main_v22, val_main_v21, val_main_v19, val_main_v18, val_main_v17, val_main_v16, val_main_v0, val_main_cst_3, val_main_cst_4, val_main_cst_5, val_main_cst_6, val_main_cst_7, val_main_cst_8, val_main_cst_12, val_main_cst_13, val_main_cst_14]
  simp only [v4_eq, v12_eq, v58_eq]
  show _ = if i0.val < 4 then ∑ r : Fin 4096, bst i0.val (row x0 r) (xrow x1 x2 x5 r) (row x5 4) (row x4 0) (row x3 r) (row x2 r) i1 else 0
  by_cases h0 : i0.val = 0
  · rw [dif_pos (by omega), dif_neg (by omega), dif_pos (by omega), dif_neg (by omega), zero_add, add_zero, if_pos (by omega), h0]
    rfl
  by_cases h1 : i0.val = 1
  · rw [dif_pos (by omega), dif_pos (by omega), dif_neg (by omega), dif_neg (by omega), add_zero, add_zero, if_pos (by omega), h1]
    exact Finset.sum_congr rfl fun r _ => mul_comm _ _
  rw [dif_neg (by omega)]
  by_cases h2 : i0.val = 2
  · rw [dif_pos (by omega), if_pos (by omega), h2]
    exact Finset.sum_congr rfl fun r _ => mul_comm _ _
  rw [dif_neg (by omega)]
  by_cases h3 : i0.val = 3
  · rw [dif_pos (by omega), dif_neg (by omega), dif_neg (by omega), dif_pos (by omega), zero_add, zero_add, if_pos (by omega), h3]
    rfl
  rw [dif_neg (by omega), if_neg (by omega)]

end Cert.BranchRefIdeal.RefValue
-- ==== Proof.BranchClaims.lean ====
/- The claims about the gradient of a norm and the branch before it, from the runs. -/
module

public import proofs.«01_k».proof.Defs
public import proofs.«01_k».proof.Proof.BranchRef
public import proofs.«01_k».proof.Proof.Gen.Branch.Frame

@[expose] public section

noncomputable section

open Idealize.ShloMosaic Idealize.ShloMosaic.TcCoe Idealize.SL.Sem

namespace Cert.Proof.Branch

theorem frame : Cert.quiescent_Branch (hBranch := Cert.Branch.Gen.facts) := fun m ρ _ => Cert.Branch.Gen.frame m ρ
theorem frame_ideal : Cert.quiescent_BranchIdeal (hBranchIdeal := Cert.BranchIdeal.Gen.facts) := fun m ρ _ => Cert.BranchIdeal.Gen.frame m ρ
theorem frame_ref : Cert.quiescent_BranchRefIdeal (hBranchRefIdeal := Cert.BranchRefIdeal.Gen.facts) := fun m ρ _ =>
  (θ_run Cert.BranchRefIdeal.defs _ _).mono (fun r h => ⟨fun c => (h c).2.2.2, sem_eq_zero_of_no_sems (by decide) r.2⟩)
    (Cert.BranchRefIdeal.Value.run (F := Ideal) m ρ)

open Cert.BranchIdeal.RefValue Cert.BranchRefIdeal.RefValue Cert.BranchRefIdeal.Read

theorem algebraic : Cert.algebraic_BranchIdeal_BranchRefIdeal (hBranchIdeal := Cert.BranchIdeal.Gen.facts) (hBranchRefIdeal := Cert.BranchRefIdeal.Gen.facts) := by
  intro m ρ m' ρ' _ hagree
  refine ⟨fun c => H7 (A0 m c) (A1 m c) (A2 m c) (A3 m c) (A4 m c) (A5 m c), fun c => H8 (A0 m c) (A1 m c) (A2 m c) (A3 m c) (A4 m c) (A5 m c),
    fun c => H9 (A0 m c) (A1 m c) (A2 m c) (A3 m c) (A4 m c) (A5 m c), ?_, ?_⟩
  · refine (θ_run Cert.BranchIdeal.defs _ _).mono (fun r h c => ?_) (Cert.BranchIdeal.Value.run_blocks (F := Ideal) m ρ)
    obtain ⟨h0, h1, h2, hk⟩ := h c
    exact ⟨h0.trans (final7 m c), h1.trans (final8 m c), h2.trans (final9 m c), hk⟩
  · refine (θ_run Cert.BranchRefIdeal.defs _ _).mono (fun r h c => ?_) (Cert.BranchRefIdeal.Value.run (F := Ideal) m' ρ')
    obtain ⟨h0, h1, h2, hk⟩ := h c
    obtain ⟨e0, e1, e2, e3, e4, e5⟩ := hagree c
    refine ⟨h0.trans ((val_main_v58_eq m' c).trans ((ref0 _ _ _ _ _ _).trans ?_)), h1.trans ((val_main_v70_eq m' c).trans ((ref1 _ _ _ _ _ _).trans ?_)),
      h2.trans ((val_main_v71_eq m' c).trans ((ref2 _ _ _ _ _ _).trans ?_)), hk⟩
    all_goals simp only [e0, e1, e2, e3, e4, e5, A0, A1, A2, A3, A4, A5]

end Cert.Proof.Branch

end
-- ==== Proof.Join.lean ====
/- The gradient of a norm with its scale and shift, and of the gated branch that ends the layer before: what the kernel's three result
   arrays hold. The rows are taken in eight blocks; a scratch of four planes of eight rows collects the sums, which the last
   block writes out. -/
module

public import proofs.«01_k».proof.Proof.Gen.JoinIdeal.Value
public import proofs.«01_k».proof.Proof.Rms
public import proofs.«01_k».proof.Proof.Rows
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.JoinIdeal.RefValue

open Cert.JoinIdeal Cert.JoinIdeal.Gen Cert.Proof

variable (m : (ℓ : Loc nD τ sig) → Buf (Elt Ideal) ℓ) (c : Dev nD)

/-- Row `r` of a point's blocks: of the cotangent, of the normed array, of the residual's gradient; the scale, the weight. -/
abbrev rD (t : Fin cfg0.N) (r : Fin 512) : Fin 1024 → EReal := fun k => iblk m c 0 t (ix2 r k)
abbrev rX (t : Fin cfg0.N) (r : Fin 512) : Fin 1024 → EReal := fun k => iblk m c 1 t (ix2 r k)
abbrev rR (t : Fin cfg0.N) (r : Fin 512) : Fin 1024 → EReal := fun k => iblk m c 2 t (ix2 r k)
abbrev rG (t : Fin cfg0.N) : Fin 1024 → EReal := fun k => iblk m c 3 t (ix2 0 k)
abbrev rS (t : Fin cfg0.N) : Fin 1024 → EReal := fun k => iblk m c 4 t (ix2 1 k)
/-- The branch's row and its gate. -/
abbrev rF (t : Fin cfg0.N) (r : Fin 512) : Fin 1024 → EReal := fun k => iblk m c 5 t (ix2 r k)
abbrev rM (t : Fin cfg0.N) : Fin 1024 → EReal := fun k => iblk m c 6 t (ix2 5 k)

/-- What a point adds to the scratch. -/
def term (t : Fin cfg0.N) : S4x8x1024.Idx → EReal := fun i =>
  ∑ x : Fin 64, (fun r : Fin 512 => bst (i 0).val (rD m c t r) (rX m c t r) (rS m c t) (rG m c t) (rR m c t r) (rF m c t r) (i 2))
    ⟨x.val * 8 + (i 1).val, by have := (i 1).isLt; have h : S4x8x1024.size 1 = 8 := rfl; omega⟩

theorem dx_point (t : Fin cfg0.N) (y : S512x1024.Idx) : (outsAt0 m c t.val t.isLt).1 y
    = dxr (rD m c t (y 0)) (rX m c t (y 0)) (rS m c t) (rG m c t) (rR m c t (y 0)) (y 1) := by
  by_cases h0 : t.val % 8 = 0
  · rw [outsAt0_A m c t h0 (by omega)]
    idx_vars y
    frame_out
    unfold_payloads
    pointwise
    rfl
  · by_cases h1 : t.val % 8 = 7
    · rw [outsAt0_C m c t h0 h1]
      idx_vars y
      frame_out
      unfold_payloads
      pointwise
      rfl
    · rw [outsAt0_B m c t h0 h1]
      idx_vars y
      frame_out
      unfold_payloads
      pointwise
      rfl

theorem df_point (t : Fin cfg0.N) (y : S512x1024.Idx) : (outsAt0 m c t.val t.isLt).2.2.1 y
    = dxr (rD m c t (y 0)) (rX m c t (y 0)) (rS m c t) (rG m c t) (rR m c t (y 0)) (y 1) * rM m c t (y 1) := by
  by_cases h0 : t.val % 8 = 0
  · rw [outsAt0_A m c t h0 (by omega)]
    idx_vars y
    frame_out
    unfold_payloads
    pointwise
    rfl
  · by_cases h1 : t.val % 8 = 7
    · rw [outsAt0_C m c t h0 h1]
      idx_vars y
      frame_out
      unfold_payloads
      pointwise
      rfl
    · rw [outsAt0_B m c t h0 h1]
      idx_vars y
      frame_out
      unfold_payloads
      pointwise
      rfl

theorem pick (q : Fin 4) (f : Nat → EReal) (z : EReal) :
    (if q.val = 3 then f 3 else if q.val = 2 then f 2 else if q.val = 1 then f 1 else if q.val = 0 then f 0 else z) = f q.val := by
  by_cases h3 : q.val = 3
  · rw [if_pos h3, h3]
  by_cases h2 : q.val = 2
  · rw [if_neg h3, if_pos h2, h2]
  by_cases h1 : q.val = 1
  · rw [if_neg h3, if_neg h2, if_pos h1, h1]
  have h0 : q.val = 0 := by omega
  rw [if_neg h3, if_neg h2, if_neg h1, if_pos h0, h0]

theorem acc_first (t : Fin cfg0.N) (h0 : t.val % 8 = 0) (y : S4x8x1024.Idx) :
    (outsAt0 m c t.val t.isLt).2.2.2 y = 0 + term m c t y := by
  rw [outsAt0_A m c t h0 (by omega), zero_add]
  idx_vars y
  frame_open
  simp (disch := decide) only [↓ View.readCov_skip, ↓ View.readCov_cons_toLoadRect, ↓ View.readCov_fill]
  frame_out
  rw [canon_plane, canon_plane, canon_plane, canon_plane]
  unfold_payloads
  pointwise
  exact pick y0 (fun q => ∑ x : Fin 64, (fun r : Fin 512 => bst q (rD m c t r) (rX m c t r) (rS m c t) (rG m c t) (rR m c t r) (rF m c t r) y2)
    ⟨x.val * 8 + y1.val, by omega⟩) _

theorem acc_next (t : Fin cfg0.N) (h0 : ¬t.val % 8 = 0) (y : S4x8x1024.Idx) :
    (outsAt0 m c t.val t.isLt).2.2.2 y = (outsAt0 m c (t.val - 1) (Nat.lt_of_le_of_lt (Nat.sub_le _ _) t.isLt)).2.2.2 y + term m c t y := by
  by_cases h1 : t.val % 8 = 7
  · rw [outsAt0_C m c t h0 h1]
    idx_vars y
    frame_open
    simp (disch := decide) only [↓ View.readCov_skip, ↓ View.readCov_cons_toLoadRect, ↓ View.readCov_fill]
    frame_out
    simp only [read_unread_whole]
    rw [canon_plane, canon_plane, canon_plane, canon_plane]
    unfold_payloads
    pointwise
    by_cases h3 : y0.val = 3
    · rw [if_pos h3]; obtain rfl : y0 = 3 := Fin.ext h3; rfl
    rw [if_neg h3]
    by_cases h2 : y0.val = 2
    · rw [if_pos h2]; obtain rfl : y0 = 2 := Fin.ext h2; rfl
    rw [if_neg h2]
    by_cases h1 : y0.val = 1
    · rw [if_pos h1]; obtain rfl : y0 = 1 := Fin.ext h1; rfl
    rw [if_neg h1, if_pos (by omega)]
    obtain rfl : y0 = 0 := Fin.ext (by show y0.val = 0; omega)
    rfl
  · rw [outsAt0_B m c t h0 h1]
    idx_vars y
    frame_open
    simp (disch := decide) only [↓ View.readCov_skip, ↓ View.readCov_cons_toLoadRect, ↓ View.readCov_fill]
    frame_out
    simp only [read_unread_whole]
    rw [canon_plane, canon_plane, canon_plane, canon_plane]
    unfold_payloads
    pointwise
    by_cases h3 : y0.val = 3
    · rw [if_pos h3]; obtain rfl : y0 = 3 := Fin.ext h3; rfl
    rw [if_neg h3]
    by_cases h2 : y0.val = 2
    · rw [if_pos h2]; obtain rfl : y0 = 2 := Fin.ext h2; rfl
    rw [if_neg h2]
    by_cases h1 : y0.val = 1
    · rw [if_pos h1]; obtain rfl : y0 = 1 := Fin.ext h1; rfl
    rw [if_neg h1, if_pos (by omega)]
    obtain rfl : y0 = 0 := Fin.ext (by show y0.val = 0; omega)
    rfl

theorem stats_last (t : Fin cfg0.N) (h1 : t.val % 8 = 7) (y : S8x1024.Idx) : (outsAt0 m c t.val t.isLt).2.1 y
    = if h : (y 0).val < 4 then ∑ a : Fin 8, (outsAt0 m c t.val t.isLt).2.2.2 (ix3 ⟨(y 0).val, h⟩ a (y 1)) else 0 := by
  simp only [acc_next m c t (by omega)]
  rw [outsAt0_C m c t (by omega) h1]
  idx_vars y
  frame_open
  simp (disch := decide) only [↓ View.readCov_skip, ↓ View.readCov_cons_toLoadRect, ↓ View.readCov_fill]
  frame_out
  simp only [read_unread_whole]
  rw [canon_row, canon_row, canon_row, canon_row, View.canon_cons_unit_lit _ _ _ (by decide)]
  unfold_payloads
  pointwise
  by_cases h : y0.val < 4
  · rw [dif_pos h]
    by_cases h3 : y0.val = 3
    · rw [if_pos h3]; obtain rfl : y0 = 3 := Fin.ext h3; rfl
    rw [if_neg h3]
    by_cases h2 : y0.val = 2
    · rw [if_pos h2]; obtain rfl : y0 = 2 := Fin.ext h2; rfl
    rw [if_neg h2]
    by_cases h1 : y0.val = 1
    · rw [if_pos h1]; obtain rfl : y0 = 1 := Fin.ext h1; rfl
    rw [if_neg h1, if_pos (by omega)]
    obtain rfl : y0 = 0 := Fin.ext (by show y0.val = 0; omega)
    rfl
  · rw [dif_neg h, if_neg (by omega), if_neg (by omega), if_neg (by omega), if_neg (by omega)]

/-- The arrays, and the results as functions of them. -/
abbrev A0 : S4096x1024.Idx → EReal := m ((c : Thread nD τ).loc main_arg0)
abbrev A1 : S4096x1024.Idx → EReal := m ((c : Thread nD τ).loc main_arg1)
abbrev A2 : S4096x1024.Idx → EReal := m ((c : Thread nD τ).loc main_arg2)
abbrev A3 : S4096x1024.Idx → EReal := m ((c : Thread nD τ).loc main_arg3)
abbrev A4 : S1x1024.Idx → EReal := m ((c : Thread nD τ).loc main_arg4)
abbrev A5 : S6x1024.Idx → EReal := m ((c : Thread nD τ).loc main_arg5)
abbrev A6 : S6x1024.Idx → EReal := m ((c : Thread nD τ).loc main_arg6)

theorem index_facts : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![0, 0]
    ∧ win0_7.index t = ![t.val, 0] ∧ win0_8.index t = ![0, 0] ∧ win0_9.index t = ![t.val, 0] :=
  (by decide +kernel : ∀ t : Fin grid0.N, _)

def row {n : Nat} (x : (⟨2, ![n, 1024]⟩ : Shape).Idx → EReal) (r : Fin n) : Fin 1024 → EReal := fun k => x (ix2 r k)
/-- A row of the normed array: the residual with the gated branch added. -/
def xrow (x1 x2 : S4096x1024.Idx → EReal) (x6 : S6x1024.Idx → EReal) (r : Fin 4096) : Fin 1024 → EReal := fun k =>
  row x1 r k + row x6 5 k * row x2 r k

section results
variable (x0 x1 x2 x3 : S4096x1024.Idx → EReal) (x4 : S1x1024.Idx → EReal) (x5 x6 : S6x1024.Idx → EReal)
def H7 : S4096x1024.Idx → EReal := fun i =>
  dxr (row x0 (i 0)) (xrow x1 x2 x6 (i 0)) (row x5 1) (row x4 0) (row x3 (i 0)) (i 1)
def H8 : S8x1024.Idx → EReal := fun i => if (i 0).val < 4 then
  ∑ r : Fin 4096, bst (i 0).val (row x0 r) (xrow x1 x2 x6 r) (row x5 1) (row x4 0) (row x3 r) (row x2 r) (i 1) else 0
def H9 : S4096x1024.Idx → EReal := fun i => H7 x0 x1 x2 x3 x4 x5 x6 i * row x6 5 (i 1)
end results

/-- Row `r` of block `t` among the arrays' rows. -/
def rw' (t : Fin cfg0.N) (r : Fin 512) : Fin 4096 := ⟨t.val * 512 + r.val, by have := t.isLt; have h : cfg0.N = 8 := N_0; omega⟩

theorem V_x (r : Fin 4096) (k : Fin 1024) : (V m c main_v4 : S4096x1024.Idx → EReal) (ix2 r k) = xrow (A1 m c) (A2 m c) (A6 m c) r k := by
  unfold_abbrev_sides
  after_results
  pointwise
  rfl

theorem blk0 (t : Fin cfg0.N) (r : Fin 512) : rD m c t r = row (A0 m c) (rw' t r) := by
  have h := index_facts t
  funext k
  show iblk m c 0 t (ix2 r k) = A0 m c (ix2 (rw' t r) k)
  blk_ext [iblk, V_main_arg0, h.1, rw']

theorem blk1 (t : Fin cfg0.N) (r : Fin 512) : rX m c t r = xrow (A1 m c) (A2 m c) (A6 m c) (rw' t r) := by
  have h := index_facts t
  funext k
  rw [← V_x]
  show iblk m c 1 t (ix2 r k) = (V m c main_v4 : S4096x1024.Idx → EReal) (ix2 (rw' t r) k)
  blk_ext [iblk, h.2.1, rw']

theorem blk2 (t : Fin cfg0.N) (r : Fin 512) : rR m c t r = row (A3 m c) (rw' t r) := by
  have h := index_facts t
  funext k
  show iblk m c 2 t (ix2 r k) = A3 m c (ix2 (rw' t r) k)
  blk_ext [iblk, V_main_arg3, h.2.2.1, rw']

theorem blk3 (t : Fin cfg0.N) : rG m c t = row (A4 m c) 0 := by
  have h := index_facts t
  funext k
  show iblk m c 3 t (ix2 0 k) = A4 m c (ix2 0 k)
  blk_ext [iblk, V_main_arg4, h.2.2.2.1]

theorem blk4 (t : Fin cfg0.N) : rS m c t = row (A5 m c) 1 := by
  have h := index_facts t
  funext k
  show iblk m c 4 t (ix2 1 k) = A5 m c (ix2 1 k)
  blk_ext [iblk, V_main_arg5, h.2.2.2.2.1]

theorem blk5 (t : Fin cfg0.N) (r : Fin 512) : rF m c t r = row (A2 m c) (rw' t r) := by
  have h := index_facts t
  funext k
  show iblk m c 5 t (ix2 r k) = A2 m c (ix2 (rw' t r) k)
  blk_ext [iblk, V_main_arg2, h.2.2.2.2.2.1, rw']

theorem blk6 (t : Fin cfg0.N) : rM m c t = row (A6 m c) 5 := by
  have h := index_facts t
  funext k
  show iblk m c 6 t (ix2 5 k) = A6 m c (ix2 5 k)
  blk_ext [iblk, V_main_arg6, h.2.2.2.2.2.2.1]

theorem final7 : (dats m 0 c).arrAt 7 cfg0.N = H7 (A0 m c) (A1 m c) (A2 m c) (A3 m c) (A4 m c) (A5 m c) (A6 m c) := by
  refine (dats m 0 c).arrAt_eq_of_covers 7 _ (by decide +kernel) fun t hf y => ?_
  have h := index_facts t
  obtain ⟨r, k, rfl⟩ : ∃ r k, y = ix2 (n0 := 512) (n1 := 1024) r k := ⟨y 0, y 1, eq_ix2 y⟩
  have he : ((cfg0.win 7).blk t).view.emb (ix2 r k) = ix2 (n0 := 4096) (n1 := 1024) (rw' t r) k := by
    blk_ext [h.2.2.2.2.2.2.2.1, rw']
  rw [he]
  blk_simp [after0_7]
  rw [dx_point]
  show dxr (rD m c t r) (rX m c t r) (rS m c t) (rG m c t) (rR m c t r) k = _
  rw [blk0, blk1, blk2, blk3, blk4]
  rfl

theorem final9 : (dats m 0 c).arrAt 9 cfg0.N = H9 (A0 m c) (A1 m c) (A2 m c) (A3 m c) (A4 m c) (A5 m c) (A6 m c) := by
  refine (dats m 0 c).arrAt_eq_of_covers 9 _ (by decide +kernel) fun t hf y => ?_
  have h := index_facts t
  obtain ⟨r, k, rfl⟩ : ∃ r k, y = ix2 (n0 := 512) (n1 := 1024) r k := ⟨y 0, y 1, eq_ix2 y⟩
  have he : ((cfg0.win 9).blk t).view.emb (ix2 r k) = ix2 (n0 := 4096) (n1 := 1024) (rw' t r) k := by
    blk_ext [h.2.2.2.2.2.2.2.2.2, rw']
  rw [he]
  blk_simp [after0_9]
  rw [df_point]
  show dxr (rD m c t r) (rX m c t r) (rS m c t) (rG m c t) (rR m c t r) k * rM m c t k = _
  rw [blk0, blk1, blk2, blk3, blk4, blk6]
  rfl

theorem scratch_last (q : Fin 4) (a : Fin 8) (k : Fin 1024) : (outsAt0 m c t0_7.val t0_7.isLt).2.2.2 (ix3 q a k)
    = ∑ t : Fin 8, ∑ x : Fin 64, (fun r : Fin 4096 => bst q.val (row (A0 m c) r) (xrow (A1 m c) (A2 m c) (A6 m c) r) (row (A5 m c) 1)
        (row (A4 m c) 0) (row (A3 m c) r) (row (A2 m c) r) k) ⟨t.val * 512 + (x.val * 8 + a.val), by omega⟩ := by
  rw [Pipeline.eq_sum_fin_of_reset_step_apply_last (fun n h => (outsAt0 m c n h).2.2.2) 8 (fun _ => 0) (term m c)
    (acc_first m c) (acc_next m c) (le_of_eq N_0) t0_7 rfl (ix3 q a k), zero_add]
  unfold term
  simp only [blk0, blk1, blk2, blk3, blk4, blk5]
  rfl

theorem final8 : (dats m 0 c).arrAt 8 cfg0.N = H8 (A0 m c) (A1 m c) (A2 m c) (A3 m c) (A4 m c) (A5 m c) (A6 m c) := by
  refine (dats m 0 c).arrAt_eq_of_after_last 8 t0_7 (by decide +kernel) _ fun y => ?_
  obtain ⟨r, k, rfl⟩ : ∃ r k, y = ix2 (n0 := 8) (n1 := 1024) r k := ⟨y 0, y 1, eq_ix2 y⟩
  have he : (cfg0.win 8).arr.view.emb (ix2 r k) = ix2 (n0 := 8) (n1 := 1024) r k := rfl
  rw [he]
  blk_simp [after0_8]
  rw [stats_last m c t0_7 rfl]
  show (if h : r.val < 4 then ∑ a : Fin 8, (outsAt0 m c t0_7.val t0_7.isLt).2.2.2 (ix3 ⟨r.val, h⟩ a k) else 0) = if r.val < 4 then _ else 0
  by_cases hr : r.val < 4
  · rw [dif_pos hr, if_pos hr]
    simp only [scratch_last]
    exact sum_rows (fun s => bst r.val (row (A0 m c) s) (xrow (A1 m c) (A2 m c) (A6 m c) s) (row (A5 m c) 1) (row (A4 m c) 0)
      (row (A3 m c) s) (row (A2 m c) s) k)
  · rw [dif_neg hr, if_neg hr]

end Cert.JoinIdeal.RefValue
-- ==== Proof.JoinRef.lean ====
/- The gradient of a norm and the gated branch that ends the layer before: the reference, stage by stage, is what the kernel's arrays hold. -/
module

public import proofs.«01_k».proof.Proof.Join
public import proofs.«01_k».proof.Proof.Gen.JoinRefIdeal.Run
public import proofs.«01_k».proof.Proof.Gen.JoinRefIdeal.Read

@[expose] public section

set_option maxRecDepth 16384

noncomputable section

open Idealize.ShloMosaic Idealize.ShloMosaic.TcCoe Idealize.SL.Sem

namespace Cert.JoinRefIdeal.RefValue

open Cert.JoinRefIdeal Cert.JoinRefIdeal.Gen Cert.JoinRefIdeal.Read Cert.Proof
open Cert.JoinIdeal.RefValue (row xrow H7 H8 H9)

variable (x0 x1 x2 x3 : S4096x1024.Idx → EReal) (x4 : S1x1024.Idx → EReal) (x5 x6 : S6x1024.Idx → EReal) (r : Fin 4096) (k : Fin 1024)

theorem v4_eq : val_main_v4 (F := Ideal) x1 x2 x6 (ix2 r k) = xrow x1 x2 x6 r k := by
  pointwise [val_main_v4, val_main_v3, val_main_v2, val_main_v1, val_main_v0]
  rfl

theorem v11_eq : val_main_v11 (F := Ideal) x1 x2 x6 (ix2 r 0) = msq (xrow x1 x2 x6 r) := by
  pointwise [val_main_v11, val_main_v10, val_main_v9, val_main_v8, val_main_v7, val_main_v6, val_main_v5, val_main_cst, val_main_cst_0, val_main_cst_1]
  simp only [v4_eq]
  rfl

theorem v12_eq : val_main_v12 (F := Ideal) x1 x2 x6 (ix2 r 0) = rr (xrow x1 x2 x6 r) := by
  pointwise [val_main_v12]
  rw [v11_eq]
  rfl

theorem v43_eq : val_main_v43 (F := Ideal) x0 x4 x5 (ix2 r k) = row x0 r k * (1 + row x5 1 k) * row x4 0 k := by
  pointwise [val_main_v43, val_main_v42, val_main_v35, val_main_v34, val_main_v28, val_main_v23, val_main_v22, val_main_v21, val_main_cst_3]
  rfl

theorem v54_eq : val_main_v54 (F := Ideal) x0 x1 x2 x4 x5 x6 (ix2 r k)
    = rmsQ (xrow x1 x2 x6 r) (fun j => row x0 r j * (1 + row x5 1 j) * row x4 0 j) := by
  pointwise [val_main_v54, val_main_v53, val_main_v52, val_main_v51, val_main_v50, val_main_v46, val_main_v45, val_main_v44, val_main_v15, val_main_v14, val_main_v13, val_main_cst_9, val_main_cst_10, val_main_cst_11, val_main_cst_2]
  rw [Fin.sum_univ_one]
  simp only [v4_eq, v11_eq, v12_eq, v43_eq]
  rfl

theorem v58_eq : val_main_v58 (F := Ideal) x0 x1 x2 x3 x4 x5 x6 (ix2 r k) = dxr (row x0 r) (xrow x1 x2 x6 r) (row x5 1) (row x4 0) (row x3 r) k := by
  pointwise [val_main_v58, val_main_v57, val_main_v56, val_main_v55, val_main_v49, val_main_v48, val_main_v47]
  simp only [v4_eq, v12_eq, v43_eq, v54_eq, add_assoc]
  refine congrArg (_ + ·) (Eq.trans ?_ (rmsK_eq (xrow x1 x2 x6 r) (fun j => row x0 r j * (1 + row x5 1 j) * row x4 0 j) k).symm)
  rw [add_assoc]

theorem ref0 : val_main_v58 (F := Ideal) x0 x1 x2 x3 x4 x5 x6 = H7 x0 x1 x2 x3 x4 x5 x6 := by
  funext i
  idx_vars i
  exact v58_eq x0 x1 x2 x3 x4 x5 x6 i0 i1

theorem ref2 : val_main_v70 (F := Ideal) x0 x1 x2 x3 x4 x5 x6 = H9 x0 x1 x2 x3 x4 x5 x6 := by
  funext i
  idx_vars i
  pointwise [val_main_v70, val_main_v61, val_main_v60, val_main_v59, val_main_v1]
  rw [v58_eq]
  exact mul_comm _ _

theorem ref1 : val_main_v69 (F := Ideal) x0 x1 x2 x3 x4 x5 x6 = H8 x0 x1 x2 x3 x4 x5 x6 := by
  funext i
  idx_vars i
  pointwise [val_main_v69, val_main_v68, val_main_v67, val_main_v66, val_main_v65, val_main_v64, val_main_v63, val_main_v62, val_main_v59, val_main_v41, val_main_v40, val_main_v39, val_main_v38, val_main_v37, val_main_v36, val_main_v35, val_main_v34, val_main_v33, val_main_v32, val_main_v31, val_main_v30, val_main_v29, val_main_v28, val_main_v23, val_main_v22, val_main_v21, val_main_v19, val_main_v18, val_main_v17, val_main_v16, val_main_v0, val_main_cst_3, val_main_cst_4, val_main_cst_5, val_main_cst_6, val_main_cst_7, val_main_cst_8, val_main_cst_12, val_main_cst_13, val_main_cst_14]
  simp only [v4_eq, v12_eq, v58_eq]
  show _ = if i0.val < 4 then ∑ r : Fin 4096, bst i0.val (row x0 r) (xrow x1 x2 x6 r) (row x5 1) (row x4 0) (row x3 r) (row x2 r) i1 else 0
  by_cases h0 : i0.val = 0
  · rw [dif_pos (by omega), dif_neg (by omega), dif_pos (by omega), zero_add, if_pos (by omega), h0]
    rfl
  by_cases h1 : i0.val = 1
  · rw [dif_pos (by omega), dif_pos (by omega), dif_neg (by omega), add_zero, if_pos (by omega), h1]
    exact Finset.sum_congr rfl fun r _ => mul_comm _ _
  rw [dif_neg (by omega)]
  by_cases h2 : i0.val = 2
  · rw [dif_pos (by omega), if_pos (by omega), h2]
    exact Finset.sum_congr rfl fun r _ => mul_comm _ _
  rw [dif_neg (by omega)]
  by_cases h3 : i0.val = 3
  · rw [dif_pos (by omega), if_pos (by omega), h3]
    rfl
  rw [dif_neg (by omega), if_neg (by omega)]

end Cert.JoinRefIdeal.RefValue
-- ==== Proof.JoinClaims.lean ====
/- The claims about the gradient of a norm and the branch that ends the layer before, from the runs. -/
module

public import proofs.«01_k».proof.Defs
public import proofs.«01_k».proof.Proof.JoinRef
public import proofs.«01_k».proof.Proof.Gen.Join.Frame

@[expose] public section

noncomputable section

open Idealize.ShloMosaic Idealize.ShloMosaic.TcCoe Idealize.SL.Sem

namespace Cert.Proof.Join

theorem frame : Cert.quiescent_Join (hJoin := Cert.Join.Gen.facts) := fun m ρ _ => Cert.Join.Gen.frame m ρ
theorem frame_ideal : Cert.quiescent_JoinIdeal (hJoinIdeal := Cert.JoinIdeal.Gen.facts) := fun m ρ _ => Cert.JoinIdeal.Gen.frame m ρ
theorem frame_ref : Cert.quiescent_JoinRefIdeal (hJoinRefIdeal := Cert.JoinRefIdeal.Gen.facts) := fun m ρ _ =>
  (θ_run Cert.JoinRefIdeal.defs _ _).mono (fun r h => ⟨fun c => (h c).2.2.2, sem_eq_zero_of_no_sems (by decide) r.2⟩)
    (Cert.JoinRefIdeal.Value.run (F := Ideal) m ρ)

open Cert.JoinIdeal.RefValue Cert.JoinRefIdeal.RefValue Cert.JoinRefIdeal.Read

theorem algebraic : Cert.algebraic_JoinIdeal_JoinRefIdeal (hJoinIdeal := Cert.JoinIdeal.Gen.facts) (hJoinRefIdeal := Cert.JoinRefIdeal.Gen.facts) := by
  intro m ρ m' ρ' _ hagree
  refine ⟨fun c => H7 (A0 m c) (A1 m c) (A2 m c) (A3 m c) (A4 m c) (A5 m c) (A6 m c), fun c => H8 (A0 m c) (A1 m c) (A2 m c) (A3 m c) (A4 m c) (A5 m c) (A6 m c),
    fun c => H9 (A0 m c) (A1 m c) (A2 m c) (A3 m c) (A4 m c) (A5 m c) (A6 m c), ?_, ?_⟩
  · refine (θ_run Cert.JoinIdeal.defs _ _).mono (fun r h c => ?_) (Cert.JoinIdeal.Value.run_blocks (F := Ideal) m ρ)
    obtain ⟨h0, h1, h2, hk⟩ := h c
    exact ⟨h0.trans (final7 m c), h1.trans (final8 m c), h2.trans (final9 m c), hk⟩
  · refine (θ_run Cert.JoinRefIdeal.defs _ _).mono (fun r h c => ?_) (Cert.JoinRefIdeal.Value.run (F := Ideal) m' ρ')
    obtain ⟨h0, h1, h2, hk⟩ := h c
    obtain ⟨e0, e1, e2, e3, e4, e5, e6⟩ := hagree c
    refine ⟨h0.trans ((val_main_v58_eq m' c).trans ((ref0 _ _ _ _ _ _ _).trans ?_)), h1.trans ((val_main_v69_eq m' c).trans ((ref1 _ _ _ _ _ _ _).trans ?_)),
      h2.trans ((val_main_v70_eq m' c).trans ((ref2 _ _ _ _ _ _ _).trans ?_)), hk⟩
    all_goals simp only [e0, e1, e2, e3, e4, e5, e6, A0, A1, A2, A3, A4, A5, A6]

end Cert.Proof.Join

end
-- ==== Proof.Loss.lean ====
/- The loss with its gradient, through the last norm and the gated branch before it: what the kernel's four result arrays
   hold. The rows are taken in eight blocks; two scratches collect the sums and the loss, which the last block writes out. -/
module

public import proofs.«01_k».proof.Proof.Gen.LossIdeal.Value
public import proofs.«01_k».proof.Proof.Rms
public import proofs.«01_k».proof.Proof.Rows
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.LossIdeal.RefValue

open Cert.LossIdeal Cert.LossIdeal.Gen Cert.Proof

variable (m : (ℓ : Loc nD τ sig) → Buf (Elt Ideal) ℓ) (c : Dev nD)

/-- Row `r` of a point's blocks: of the normed array, of the target, of the branch; the weight and the gate. -/
abbrev rX (t : Fin cfg0.N) (r : Fin 512) : Fin 1024 → EReal := fun k => iblk m c 0 t (ix2 r k)
abbrev rT (t : Fin cfg0.N) (r : Fin 512) : Fin 1024 → EReal := fun k => iblk m c 1 t (ix2 r k)
abbrev rG (t : Fin cfg0.N) : Fin 1024 → EReal := fun k => iblk m c 2 t (ix2 0 k)
abbrev rF (t : Fin cfg0.N) (r : Fin 512) : Fin 1024 → EReal := fun k => iblk m c 3 t (ix2 r k)
abbrev rM (t : Fin cfg0.N) : Fin 1024 → EReal := fun k => iblk m c 4 t (ix2 5 k)

def cInv : EReal := Ideal.ofBits .f32 0x3A800000#32
def cHalf : EReal := Ideal.ofBits .f32 0x3F000000#32

/-- The error of a row, the gradient of the row, what the row adds to the two sums, and to the loss. -/
def er (x g t : Fin 1024 → EReal) : Fin 1024 → EReal := fun k => x k * rr x * g k - t k
def ldx (x g t : Fin 1024 → EReal) : Fin 1024 → EReal := rmsK x (fun j => er x g t j * cInv * g j)
def lst (q : Nat) (x g t f : Fin 1024 → EReal) : Fin 1024 → EReal := fun k =>
  if q = 1 then ldx x g t k * f k else er x g t k * cInv * (x k * rr x)
def lrow (x g t : Fin 1024 → EReal) : EReal := cHalf * Ideal.div (∑ k, er x g t k * er x g t k) cN

/-- What a point adds to the scratches. -/
def term (t : Fin cfg0.N) : S2x8x1024.Idx → EReal := fun i =>
  ∑ x : Fin 64, (fun r : Fin 512 => lst (i 0).val (rX m c t r) (rG m c t) (rT m c t r) (rF m c t r) (i 2))
    ⟨x.val * 8 + (i 1).val, by have := (i 1).isLt; have h : S2x8x1024.size 1 = 8 := rfl; omega⟩
def lterm (t : Fin cfg0.N) : S1x1.Idx → EReal := fun _ => ∑ r : Fin 512, lrow (rX m c t r) (rG m c t) (rT m c t r)

theorem dx_point (t : Fin cfg0.N) (y : S512x1024.Idx) : (outsAt0 m c t.val t.isLt).2.1 y
    = ldx (rX m c t (y 0)) (rG m c t) (rT m c t (y 0)) (y 1) := by
  by_cases h0 : t.val % 8 = 0
  · rw [outsAt0_A m c t h0 (by omega)]
    idx_vars y
    frame_out
    unfold_payloads
    pointwise
    rfl
  · by_cases h1 : t.val % 8 = 7
    · rw [outsAt0_C m c t h0 h1]
      idx_vars y
      frame_out
      unfold_payloads
      pointwise
      rfl
    · rw [outsAt0_B m c t h0 h1]
      idx_vars y
      frame_out
      unfold_payloads
      pointwise
      rfl

theorem df_point (t : Fin cfg0.N) (y : S512x1024.Idx) : (outsAt0 m c t.val t.isLt).2.2.2.1 y
    = ldx (rX m c t (y 0)) (rG m c t) (rT m c t (y 0)) (y 1) * rM m c t (y 1) := by
  by_cases h0 : t.val % 8 = 0
  · rw [outsAt0_A m c t h0 (by omega)]
    idx_vars y
    frame_out
    unfold_payloads
    pointwise
    rfl
  · by_cases h1 : t.val % 8 = 7
    · rw [outsAt0_C m c t h0 h1]
      idx_vars y
      frame_out
      unfold_payloads
      pointwise
      rfl
    · rw [outsAt0_B m c t h0 h1]
      idx_vars y
      frame_out
      unfold_payloads
      pointwise
      rfl

theorem pick (q : Fin 2) (f : Nat → EReal) (z : EReal) :
    (if q.val = 1 then f 1 else if q.val = 0 then f 0 else z) = f q.val := by
  by_cases h1 : q.val = 1
  · rw [if_pos h1, h1]
  have h0 : q.val = 0 := by omega
  rw [if_neg h1, if_pos h0, h0]

theorem acc_first (t : Fin cfg0.N) (h0 : t.val % 8 = 0) (y : S2x8x1024.Idx) :
    (outsAt0 m c t.val t.isLt).2.2.2.2.1 y = 0 + term m c t y := by
  rw [outsAt0_A m c t h0 (by omega), zero_add]
  idx_vars y
  frame_open
  simp (disch := decide) only [↓ View.readCov_skip, ↓ View.readCov_cons_toLoadRect, ↓ View.readCov_fill]
  frame_out
  rw [canon_plane, canon_plane]
  unfold_payloads
  pointwise
  exact pick y0 (fun q => ∑ x : Fin 64, (fun r : Fin 512 => lst q (rX m c t r) (rG m c t) (rT m c t r) (rF m c t r) y2)
    ⟨x.val * 8 + y1.val, by omega⟩) _

theorem acc_next (t : Fin cfg0.N) (h0 : ¬t.val % 8 = 0) (y : S2x8x1024.Idx) :
    (outsAt0 m c t.val t.isLt).2.2.2.2.1 y = (outsAt0 m c (t.val - 1) (Nat.lt_of_le_of_lt (Nat.sub_le _ _) t.isLt)).2.2.2.2.1 y + term m c t y := by
  by_cases h1 : t.val % 8 = 7
  · rw [outsAt0_C m c t h0 h1]
    idx_vars y
    frame_open
    simp (disch := decide) only [↓ View.readCov_skip, ↓ View.readCov_cons_toLoadRect, ↓ View.readCov_fill]
    frame_out
    simp only [read_unread_whole]
    rw [canon_plane, canon_plane]
    unfold_payloads
    pointwise
    by_cases h1 : y0.val = 1
    · rw [if_pos h1]; obtain rfl : y0 = 1 := Fin.ext h1; rfl
    rw [if_neg h1, if_pos (by omega)]
    obtain rfl : y0 = 0 := Fin.ext (by show y0.val = 0; omega)
    rfl
  · rw [outsAt0_B m c t h0 h1]
    idx_vars y
    frame_open
    simp (disch := decide) only [↓ View.readCov_skip, ↓ View.readCov_cons_toLoadRect, ↓ View.readCov_fill]
    frame_out
    simp only [read_unread_whole]
    rw [canon_plane, canon_plane]
    unfold_payloads
    pointwise
    by_cases h1 : y0.val = 1
    · rw [if_pos h1]; obtain rfl : y0 = 1 := Fin.ext h1; rfl
    rw [if_neg h1, if_pos (by omega)]
    obtain rfl : y0 = 0 := Fin.ext (by show y0.val = 0; omega)
    rfl

theorem stats_last (t : Fin cfg0.N) (h1 : t.val % 8 = 7) (y : S8x1024.Idx) : (outsAt0 m c t.val t.isLt).2.2.1 y
    = if h : (y 0).val < 2 then ∑ a : Fin 8, (outsAt0 m c t.val t.isLt).2.2.2.2.1 (ix3 ⟨(y 0).val, h⟩ a (y 1)) else 0 := by
  simp only [acc_next m c t (by omega)]
  rw [outsAt0_C m c t (by omega) h1]
  idx_vars y
  frame_open
  simp (disch := decide) only [↓ View.readCov_skip, ↓ View.readCov_cons_toLoadRect, ↓ View.readCov_fill]
  frame_out
  simp only [read_unread_whole]
  rw [canon_row, canon_row, View.canon_cons_unit_lit _ _ _ (by decide)]
  unfold_payloads
  pointwise
  by_cases h : y0.val < 2
  · rw [dif_pos h]
    by_cases h1 : y0.val = 1
    · rw [if_pos h1]; obtain rfl : y0 = 1 := Fin.ext h1; rfl
    rw [if_neg h1, if_pos (by omega)]
    obtain rfl : y0 = 0 := Fin.ext (by show y0.val = 0; omega)
    rfl
  · rw [dif_neg h, if_neg (by omega), if_neg (by omega)]

theorem loss_first (t : Fin cfg0.N) (h0 : t.val % 8 = 0) (y : S1x1.Idx) :
    (outsAt0 m c t.val t.isLt).2.2.2.2.2 y = 0 + lterm m c t y := by
  rw [outsAt0_A m c t h0 (by omega), zero_add]
  idx_vars y
  frame_open
  simp (disch := decide) only [↓ View.readCov_skip, ↓ View.readCov_cons_toLoadRect, ↓ View.readCov_fill]
  frame_out
  unfold_payloads
  pointwise
  rfl

theorem loss_next (t : Fin cfg0.N) (h0 : ¬t.val % 8 = 0) (y : S1x1.Idx) :
    (outsAt0 m c t.val t.isLt).2.2.2.2.2 y
      = (outsAt0 m c (t.val - 1) (Nat.lt_of_le_of_lt (Nat.sub_le _ _) t.isLt)).2.2.2.2.2 y + lterm m c t y := by
  by_cases h1 : t.val % 8 = 7
  · rw [outsAt0_C m c t h0 h1]
    idx_vars y
    frame_open
    simp (disch := decide) only [↓ View.readCov_skip, ↓ View.readCov_cons_toLoadRect, ↓ View.readCov_fill]
    frame_out
    simp only [read_unread_whole]
    unfold_payloads
    pointwise
    rfl
  · rw [outsAt0_B m c t h0 h1]
    idx_vars y
    frame_open
    simp (disch := decide) only [↓ View.readCov_skip, ↓ View.readCov_cons_toLoadRect, ↓ View.readCov_fill]
    frame_out
    simp only [read_unread_whole]
    unfold_payloads
    pointwise
    rfl

theorem loss_last (t : Fin cfg0.N) (h1 : t.val % 8 = 7) (y : S8x128.Idx) :
    (outsAt0 m c t.val t.isLt).1 y = (outsAt0 m c t.val t.isLt).2.2.2.2.2 (ix2 0 0) := by
  rw [loss_next m c t (by omega), outsAt0_C m c t (by omega) h1]
  idx_vars y
  frame_open
  simp (disch := decide) only [↓ View.readCov_skip, ↓ View.readCov_cons_toLoadRect, ↓ View.readCov_fill]
  frame_out
  simp only [read_unread_whole]
  unfold_payloads
  pointwise
  rfl

/-- The arrays, and the results as functions of them. -/
abbrev A0 : S4096x1024.Idx → EReal := m ((c : Thread nD τ).loc main_arg0)
abbrev A1 : S4096x1024.Idx → EReal := m ((c : Thread nD τ).loc main_arg1)
abbrev A2 : S1x1024.Idx → EReal := m ((c : Thread nD τ).loc main_arg2)
abbrev A3 : S4096x1024.Idx → EReal := m ((c : Thread nD τ).loc main_arg3)
abbrev A4 : S6x1024.Idx → EReal := m ((c : Thread nD τ).loc main_arg4)

theorem index_facts : ∀ t : Fin cfg0.N, win0_0.index t = ![t.val, 0] ∧ win0_1.index t = ![t.val, 0] ∧ win0_2.index t = ![0, 0]
    ∧ win0_3.index t = ![t.val, 0] ∧ win0_4.index t = ![0, 0] ∧ win0_5.index t = ![0, 0] ∧ win0_6.index t = ![t.val, 0]
    ∧ win0_7.index t = ![0, 0] ∧ win0_8.index t = ![t.val, 0] :=
  (by decide +kernel : ∀ t : Fin grid0.N, _)

def row {n : Nat} (x : (⟨2, ![n, 1024]⟩ : Shape).Idx → EReal) (r : Fin n) : Fin 1024 → EReal := fun k => x (ix2 r k)
/-- A row of the normed array: the residual with the gated branch added. -/
def xrow (x0 x3 : S4096x1024.Idx → EReal) (x4 : S6x1024.Idx → EReal) (r : Fin 4096) : Fin 1024 → EReal := fun k =>
  row x0 r k + row x4 5 k * row x3 r k

section results
variable (x0 x1 : S4096x1024.Idx → EReal) (x2 : S1x1024.Idx → EReal) (x3 : S4096x1024.Idx → EReal) (x4 : S6x1024.Idx → EReal)
def H5 : S8x128.Idx → EReal := fun _ => ∑ r : Fin 4096, lrow (xrow x0 x3 x4 r) (row x2 0) (row x1 r)
def H6 : S4096x1024.Idx → EReal := fun i => ldx (xrow x0 x3 x4 (i 0)) (row x2 0) (row x1 (i 0)) (i 1)
def H7 : S8x1024.Idx → EReal := fun i => if (i 0).val < 2 then
  ∑ r : Fin 4096, lst (i 0).val (xrow x0 x3 x4 r) (row x2 0) (row x1 r) (row x3 r) (i 1) else 0
def H8 : S4096x1024.Idx → EReal := fun i => H6 x0 x1 x2 x3 x4 i * row x4 5 (i 1)
end results

/-- Row `r` of block `t` among the arrays' rows. -/
def rw' (t : Fin cfg0.N) (r : Fin 512) : Fin 4096 := ⟨t.val * 512 + r.val, by have := t.isLt; have h : cfg0.N = 8 := N_0; omega⟩

theorem V_x (r : Fin 4096) (k : Fin 1024) : (V m c main_v4 : S4096x1024.Idx → EReal) (ix2 r k) = xrow (A0 m c) (A3 m c) (A4 m c) r k := by
  unfold_abbrev_sides
  after_results
  pointwise
  rfl

theorem blk0 (t : Fin cfg0.N) (r : Fin 512) : rX m c t r = xrow (A0 m c) (A3 m c) (A4 m c) (rw' t r) := by
  have h := index_facts t
  funext k
  rw [← V_x]
  show iblk m c 0 t (ix2 r k) = (V m c main_v4 : S4096x1024.Idx → EReal) (ix2 (rw' t r) k)
  blk_ext [iblk, h.1, rw']

theorem blk1 (t : Fin cfg0.N) (r : Fin 512) : rT m c t r = row (A1 m c) (rw' t r) := by
  have h := index_facts t
  funext k
  show iblk m c 1 t (ix2 r k) = A1 m c (ix2 (rw' t r) k)
  blk_ext [iblk, V_main_arg1, h.2.1, rw']

theorem blk2 (t : Fin cfg0.N) : rG m c t = row (A2 m c) 0 := by
  have h := index_facts t
  funext k
  show iblk m c 2 t (ix2 0 k) = A2 m c (ix2 0 k)
  blk_ext [iblk, V_main_arg2, h.2.2.1]

theorem blk3 (t : Fin cfg0.N) (r : Fin 512) : rF m c t r = row (A3 m c) (rw' t r) := by
  have h := index_facts t
  funext k
  show iblk m c 3 t (ix2 r k) = A3 m c (ix2 (rw' t r) k)
  blk_ext [iblk, V_main_arg3, h.2.2.2.1, rw']

theorem blk4 (t : Fin cfg0.N) : rM m c t = row (A4 m c) 5 := by
  have h := index_facts t
  funext k
  show iblk m c 4 t (ix2 5 k) = A4 m c (ix2 5 k)
  blk_ext [iblk, V_main_arg4, h.2.2.2.2.1]

theorem final6 : (dats m 0 c).arrAt 6 cfg0.N = H6 (A0 m c) (A1 m c) (A2 m c) (A3 m c) (A4 m c) := by
  refine (dats m 0 c).arrAt_eq_of_covers 6 _ (by decide +kernel) fun t hf y => ?_
  have h := index_facts t
  obtain ⟨r, k, rfl⟩ : ∃ r k, y = ix2 (n0 := 512) (n1 := 1024) r k := ⟨y 0, y 1, eq_ix2 y⟩
  have he : ((cfg0.win 6).blk t).view.emb (ix2 r k) = ix2 (n0 := 4096) (n1 := 1024) (rw' t r) k := by
    blk_ext [h.2.2.2.2.2.2.1, rw']
  rw [he]
  blk_simp [after0_6]
  rw [dx_point]
  show ldx (rX m c t r) (rG m c t) (rT m c t r) k = _
  rw [blk0, blk1, blk2]
  rfl

theorem final8 : (dats m 0 c).arrAt 8 cfg0.N = H8 (A0 m c) (A1 m c) (A2 m c) (A3 m c) (A4 m c) := by
  refine (dats m 0 c).arrAt_eq_of_covers 8 _ (by decide +kernel) fun t hf y => ?_
  have h := index_facts t
  obtain ⟨r, k, rfl⟩ : ∃ r k, y = ix2 (n0 := 512) (n1 := 1024) r k := ⟨y 0, y 1, eq_ix2 y⟩
  have he : ((cfg0.win 8).blk t).view.emb (ix2 r k) = ix2 (n0 := 4096) (n1 := 1024) (rw' t r) k := by
    blk_ext [h.2.2.2.2.2.2.2.2, rw']
  rw [he]
  blk_simp [after0_8]
  rw [df_point]
  show ldx (rX m c t r) (rG m c t) (rT m c t r) k * rM m c t k = _
  rw [blk0, blk1, blk2, blk4]
  rfl

theorem scratch_last (q : Fin 2) (a : Fin 8) (k : Fin 1024) : (outsAt0 m c t0_7.val t0_7.isLt).2.2.2.2.1 (ix3 q a k)
    = ∑ t : Fin 8, ∑ x : Fin 64, (fun r : Fin 4096 => lst q.val (xrow (A0 m c) (A3 m c) (A4 m c) r) (row (A2 m c) 0) (row (A1 m c) r)
        (row (A3 m c) r) k) ⟨t.val * 512 + (x.val * 8 + a.val), by omega⟩ := by
  rw [Pipeline.eq_sum_fin_of_reset_step_apply_last (fun n h => (outsAt0 m c n h).2.2.2.2.1) 8 (fun _ => 0) (term m c)
    (acc_first m c) (acc_next m c) (le_of_eq N_0) t0_7 rfl (ix3 q a k), zero_add]
  unfold term
  simp only [blk0, blk1, blk2, blk3]
  rfl

theorem final7 : (dats m 0 c).arrAt 7 cfg0.N = H7 (A0 m c) (A1 m c) (A2 m c) (A3 m c) (A4 m c) := by
  refine (dats m 0 c).arrAt_eq_of_after_last 7 t0_7 (by decide +kernel) _ fun y => ?_
  obtain ⟨r, k, rfl⟩ : ∃ r k, y = ix2 (n0 := 8) (n1 := 1024) r k := ⟨y 0, y 1, eq_ix2 y⟩
  have he : (cfg0.win 7).arr.view.emb (ix2 r k) = ix2 (n0 := 8) (n1 := 1024) r k := rfl
  rw [he]
  blk_simp [after0_7]
  rw [stats_last m c t0_7 rfl]
  show (if h : r.val < 2 then ∑ a : Fin 8, (outsAt0 m c t0_7.val t0_7.isLt).2.2.2.2.1 (ix3 ⟨r.val, h⟩ a k) else 0) = if r.val < 2 then _ else 0
  by_cases hr : r.val < 2
  · rw [dif_pos hr, if_pos hr]
    simp only [scratch_last]
    exact sum_rows (fun s => lst r.val (xrow (A0 m c) (A3 m c) (A4 m c) s) (row (A2 m c) 0) (row (A1 m c) s) (row (A3 m c) s) k)
  · rw [dif_neg hr, if_neg hr]

theorem loss_total : (outsAt0 m c t0_7.val t0_7.isLt).2.2.2.2.2 (ix2 0 0)
    = ∑ r : Fin 4096, lrow (xrow (A0 m c) (A3 m c) (A4 m c) r) (row (A2 m c) 0) (row (A1 m c) r) := by
  rw [Pipeline.eq_sum_fin_of_reset_step_apply_last (fun n h => (outsAt0 m c n h).2.2.2.2.2) 8 (fun _ => 0) (lterm m c)
    (loss_first m c) (loss_next m c) (le_of_eq N_0) t0_7 rfl (ix2 0 0), zero_add]
  unfold lterm
  simp only [blk0, blk1, blk2]
  exact Fin.sum_mul_add_fin 8 512 (fun r : Fin 4096 => lrow (xrow (A0 m c) (A3 m c) (A4 m c) r) (row (A2 m c) 0) (row (A1 m c) r)) rfl

theorem final5 : (dats m 0 c).arrAt 5 cfg0.N = H5 (A0 m c) (A1 m c) (A2 m c) (A3 m c) (A4 m c) := by
  refine (dats m 0 c).arrAt_eq_of_after_last 5 t0_7 (by decide +kernel) _ fun y => ?_
  obtain ⟨r, k, rfl⟩ : ∃ r k, y = ix2 (n0 := 8) (n1 := 128) r k := ⟨y 0, y 1, eq_ix2 y⟩
  have he : (cfg0.win 5).arr.view.emb (ix2 r k) = ix2 (n0 := 8) (n1 := 128) r k := rfl
  rw [he]
  blk_simp [after0_5]
  rw [loss_last m c t0_7 rfl]
  exact loss_total m c

end Cert.LossIdeal.RefValue
-- ==== Proof.LossRef.lean ====
/- The loss with its gradient: the reference, stage by stage, is what the kernel's arrays hold. -/
module

public import proofs.«01_k».proof.Proof.Loss
public import proofs.«01_k».proof.Proof.Gen.LossRefIdeal.Run
public import proofs.«01_k».proof.Proof.Gen.LossRefIdeal.Read

@[expose] public section

set_option maxRecDepth 16384

noncomputable section

open Idealize.ShloMosaic Idealize.ShloMosaic.TcCoe Idealize.SL.Sem

namespace Cert.LossRefIdeal.RefValue

open Cert.LossRefIdeal Cert.LossRefIdeal.Gen Cert.LossRefIdeal.Read Cert.Proof
open Cert.LossIdeal.RefValue (row xrow er ldx lst lrow cInv cHalf H5 H6 H7 H8)

variable (x0 x1 : S4096x1024.Idx → EReal) (x2 : S1x1024.Idx → EReal) (x3 : S4096x1024.Idx → EReal) (x4 : S6x1024.Idx → EReal) (r : Fin 4096) (k : Fin 1024)

theorem cHalf_eq : cHalf = ((1 / 2 : ℝ) : EReal) := by
  simp [cHalf, Ideal.ofBits, Ideal.ieee, -EReal.coe_mul]; norm_num
theorem cInv_eq : cInv = ((1 / 1024 : ℝ) : EReal) := by
  simp [cInv, Ideal.ofBits, Ideal.ieee, -EReal.coe_mul]; norm_num
theorem two_eq : Ideal.ofBits .f32 0x40000000#32 = ((2 : ℝ) : EReal) := by
  simp [Ideal.ofBits, Ideal.ieee, -EReal.coe_mul]; norm_num

/-- Half of twice an error over the row's length is the error over the row's length. -/
theorem err_eq (e : EReal) : Ideal.div cHalf cN * (Ideal.ofBits .f32 0x40000000#32 * e) = e * cInv := by
  rw [div_cN, cHalf_eq, two_eq, cInv_eq, ← EReal.coe_mul, ← mul_assoc, ← EReal.coe_mul, mul_comm e]
  norm_num

theorem v4_eq : val_main_v4 (F := Ideal) x0 x3 x4 (ix2 r k) = xrow x0 x3 x4 r k := by
  pointwise [val_main_v4, val_main_v3, val_main_v2, val_main_v1, val_main_v0]
  rfl

theorem v11_eq : val_main_v11 (F := Ideal) x0 x3 x4 (ix2 r 0) = msq (xrow x0 x3 x4 r) := by
  pointwise [val_main_v11, val_main_v10, val_main_v9, val_main_v8, val_main_v7, val_main_v6, val_main_v5, val_main_cst, val_main_cst_0, val_main_cst_1]
  simp only [v4_eq]
  rfl

theorem v12_eq : val_main_v12 (F := Ideal) x0 x3 x4 (ix2 r 0) = rr (xrow x0 x3 x4 r) := by
  pointwise [val_main_v12]
  rw [v11_eq]
  rfl

theorem v20_eq : val_main_v20 (F := Ideal) x0 x1 x2 x3 x4 (ix2 r k) = er (xrow x0 x3 x4 r) (row x2 0) (row x1 r) k := by
  pointwise [val_main_v20, val_main_v19, val_main_v18, val_main_v17, val_main_v16]
  simp only [v4_eq, v12_eq]
  rfl

theorem v34_eq : val_main_v34 (F := Ideal) x0 x1 x2 x3 x4 (ix2 r k) = er (xrow x0 x3 x4 r) (row x2 0) (row x1 r) k * cInv := by
  pointwise [val_main_v34, val_main_v33, val_main_v32, val_main_v31, val_main_v30, val_main_v29, val_main_v23, val_main_v22, val_main_cst_3, val_main_cst_8, val_main_cst_9, val_main_cst_10]
  rw [v20_eq]
  exact err_eq _

theorem v39_eq : val_main_v39 (F := Ideal) x0 x1 x2 x3 x4 (ix2 r k) = er (xrow x0 x3 x4 r) (row x2 0) (row x1 r) k * cInv * row x2 0 k := by
  pointwise [val_main_v39, val_main_v38]
  rw [v34_eq]
  rfl

theorem v49_eq : val_main_v49 (F := Ideal) x0 x1 x2 x3 x4 (ix2 r k)
    = rmsQ (xrow x0 x3 x4 r) (fun j => er (xrow x0 x3 x4 r) (row x2 0) (row x1 r) j * cInv * row x2 0 j) := by
  pointwise [val_main_v49, val_main_v48, val_main_v47, val_main_v46, val_main_v45, val_main_v42, val_main_v41, val_main_v40, val_main_v15, val_main_v14, val_main_v13, val_main_cst_12, val_main_cst_13, val_main_cst_14, val_main_cst_2]
  rw [Fin.sum_univ_one]
  simp only [v4_eq, v11_eq, v12_eq, v39_eq]
  rfl

theorem v53_eq : val_main_v53 (F := Ideal) x0 x1 x2 x3 x4 (ix2 r k) = ldx (xrow x0 x3 x4 r) (row x2 0) (row x1 r) k := by
  pointwise [val_main_v53, val_main_v52, val_main_v51, val_main_v50, val_main_v44, val_main_v43]
  simp only [v4_eq, v12_eq, v39_eq, v49_eq]
  exact (rmsK_eq (xrow x0 x3 x4 r) (fun j => er (xrow x0 x3 x4 r) (row x2 0) (row x1 r) j * cInv * row x2 0 j) k).symm

theorem ref1 : val_main_v53 (F := Ideal) x0 x1 x2 x3 x4 = H6 x0 x1 x2 x3 x4 := by
  funext i
  idx_vars i
  exact v53_eq x0 x1 x2 x3 x4 i0 i1

theorem ref3 : val_main_v64 (F := Ideal) x0 x1 x2 x3 x4 = H8 x0 x1 x2 x3 x4 := by
  funext i
  idx_vars i
  pointwise [val_main_v64, val_main_v55, val_main_v54, val_main_v1]
  rw [v53_eq]
  exact mul_comm _ _

theorem ref0 : val_main_v60 (F := Ideal) x0 x1 x2 x3 x4 = H5 x0 x1 x2 x3 x4 := by
  funext i
  idx_vars i
  pointwise [val_main_v60, val_main_v28, val_main_v27, val_main_v26, val_main_v25, val_main_v24, val_main_v21, val_main_cst_4, val_main_cst_5, val_main_cst_6, val_main_cst_7]
  simp only [v20_eq]
  show cHalf * ∑ r : Fin 4096, Ideal.div (∑ k, er (xrow x0 x3 x4 r) (row x2 0) (row x1 r) k * er (xrow x0 x3 x4 r) (row x2 0) (row x1 r) k) cN
    = ∑ r : Fin 4096, lrow (xrow x0 x3 x4 r) (row x2 0) (row x1 r)
  unfold lrow
  rw [cHalf_eq]
  exact coe_mul_sum _ _ (by norm_num) _

theorem ref2 : val_main_v63 (F := Ideal) x0 x1 x2 x3 x4 = H7 x0 x1 x2 x3 x4 := by
  funext i
  idx_vars i
  pointwise [val_main_v63, val_main_v62, val_main_v61, val_main_v59, val_main_v58, val_main_v57, val_main_v56, val_main_v37, val_main_v36, val_main_v35, val_main_v17, val_main_v16, val_main_v0, val_main_cst_11, val_main_cst_15, val_main_cst_16, val_main_cst_17]
  simp only [v4_eq, v12_eq, v53_eq, v34_eq]
  show _ = if i0.val < 2 then ∑ r : Fin 4096, lst i0.val (xrow x0 x3 x4 r) (row x2 0) (row x1 r) (row x3 r) i1 else 0
  by_cases h0 : i0.val = 0
  · rw [dif_pos (by omega), if_pos (by omega), h0]
    exact Finset.sum_congr rfl fun r _ => mul_comm _ _
  rw [dif_neg (by omega)]
  by_cases h1 : i0.val = 1
  · rw [dif_pos (by omega), if_pos (by omega), h1]
    rfl
  rw [dif_neg (by omega), if_neg (by omega)]

end Cert.LossRefIdeal.RefValue
-- ==== Proof.LossClaims.lean ====
/- The claims about the loss and its gradient, from the runs. -/
module

public import proofs.«01_k».proof.Defs
public import proofs.«01_k».proof.Proof.LossRef
public import proofs.«01_k».proof.Proof.Gen.Loss.Frame

@[expose] public section

noncomputable section

open Idealize.ShloMosaic Idealize.ShloMosaic.TcCoe Idealize.SL.Sem

namespace Cert.Proof.Loss

theorem frame : Cert.quiescent_Loss (hLoss := Cert.Loss.Gen.facts) := fun m ρ _ => Cert.Loss.Gen.frame m ρ
theorem frame_ideal : Cert.quiescent_LossIdeal (hLossIdeal := Cert.LossIdeal.Gen.facts) := fun m ρ _ => Cert.LossIdeal.Gen.frame m ρ
theorem frame_ref : Cert.quiescent_LossRefIdeal (hLossRefIdeal := Cert.LossRefIdeal.Gen.facts) := fun m ρ _ =>
  (θ_run Cert.LossRefIdeal.defs _ _).mono (fun r h => ⟨fun c => (h c).2.2.2.2, sem_eq_zero_of_no_sems (by decide) r.2⟩)
    (Cert.LossRefIdeal.Value.run (F := Ideal) m ρ)

open Cert.LossIdeal.RefValue Cert.LossRefIdeal.RefValue Cert.LossRefIdeal.Read

theorem algebraic : Cert.algebraic_LossIdeal_LossRefIdeal (hLossIdeal := Cert.LossIdeal.Gen.facts) (hLossRefIdeal := Cert.LossRefIdeal.Gen.facts) := by
  intro m ρ m' ρ' _ hagree
  refine ⟨fun c => H5 (A0 m c) (A1 m c) (A2 m c) (A3 m c) (A4 m c), fun c => H6 (A0 m c) (A1 m c) (A2 m c) (A3 m c) (A4 m c),
    fun c => H7 (A0 m c) (A1 m c) (A2 m c) (A3 m c) (A4 m c), fun c => H8 (A0 m c) (A1 m c) (A2 m c) (A3 m c) (A4 m c), ?_, ?_⟩
  · refine (θ_run Cert.LossIdeal.defs _ _).mono (fun r h c => ?_) (Cert.LossIdeal.Value.run_blocks (F := Ideal) m ρ)
    obtain ⟨h0, h1, h2, h3, hk⟩ := h c
    exact ⟨h0.trans (final5 m c), h1.trans (final6 m c), h2.trans (final7 m c), h3.trans (final8 m c), hk⟩
  · refine (θ_run Cert.LossRefIdeal.defs _ _).mono (fun r h c => ?_) (Cert.LossRefIdeal.Value.run (F := Ideal) m' ρ')
    obtain ⟨h0, h1, h2, h3, hk⟩ := h c
    obtain ⟨e0, e1, e2, e3, e4⟩ := hagree c
    refine ⟨h0.trans ((val_main_v60_eq _ _ _ _ _).trans ((ref0 _ _ _ _ _).trans ?_)), h1.trans ((val_main_v53_eq m' c).trans ((ref1 _ _ _ _ _).trans ?_)),
      h2.trans ((val_main_v63_eq m' c).trans ((ref2 _ _ _ _ _).trans ?_)), h3.trans ((val_main_v64_eq m' c).trans ((ref3 _ _ _ _ _).trans ?_)), hk⟩
    all_goals simp only [e0, e1, e2, e3, e4, A0, A1, A2, A3, A4]

end Cert.Proof.Loss

end
-- ==== Proof.ScanMath.lean ====
module

public import Mathlib.Data.Complex.Basic
public import Mathlib.Data.EReal.Basic
public import Mathlib.Data.EReal.Operations
public import Mathlib.Tactic.FinCases
public import Mathlib.Tactic.Ring
public import Idealize.ShloMosaic.PureOps.Ideal

/-! # The recurrence in chunks

A linear recurrence `x ↦ u + a x` over complex numbers, cut into eight chunks: each chunk from rest, the chunks' ends
by doubling, and the entering state times a power of `a` added back. -/

@[expose] public section

noncomputable section

namespace Cert.S5Scan

/-- The state after `n` steps of `x ↦ u + a x` from `c`. -/
def run (a : ℂ) (u : ℕ → ℂ) (c : ℂ) : ℕ → ℂ
  | 0 => c
  | n + 1 => u n + a * run a u c n

theorem run_rest (a : ℂ) (u : ℕ → ℂ) (c : ℂ) (n : ℕ) : run a u c n = run a u 0 n + a ^ n * c := by
  induction n with
  | zero => simp [run]
  | succ n ih => rw [run, run, ih]; ring

theorem run_add (a : ℂ) (u : ℕ → ℂ) (c : ℂ) (m n : ℕ) :
    run a u c (m + n) = run a (fun i => u (m + i)) (run a u c m) n := by
  induction n with
  | zero => rfl
  | succ n ih => rw [← Nat.add_assoc, run, run, ih]

theorem run_congr (a : ℂ) (u v : ℕ → ℂ) (c : ℂ) (n : ℕ) (h : ∀ i < n, u i = v i) : run a u c n = run a v c n := by
  induction n with
  | zero => rfl
  | succ n ih => rw [run, run, h n (by omega), ih fun i hi => h i (by omega)]

/-- The chunk before, around the end. -/
def back (k : ℕ) (q : Fin 8) : Fin 8 := ⟨(q.val + 8 - k % 8) % 8, by omega⟩

/-- One round of doubling: the end `k` chunks before, where there is one, times `p`. -/
def double (k : ℕ) (p : ℂ) (e : Fin 8 → ℂ) (q : Fin 8) : ℂ := e q + (if k ≤ q.val then p else 0) * e (back k q)

/-- Three rounds give every chunk's end from the chunks' own ends. -/
theorem double_three (p : ℂ) (e : ℕ → ℂ) (c : ℂ) (q : Fin 8) :
    double 4 (p ^ 4) (double 2 (p ^ 2) (double 1 p fun q => e q.val)) q + p ^ (q.val + 1) * c
      = run p e c (q.val + 1) := by
  fin_cases q <;> simp [double, back, run] <;> ring

/-- The end of chunk `q`: the whole recurrence's state there. -/
theorem ends_run (a : ℂ) (u : ℕ → ℂ) (c : ℂ) (n : ℕ) :
    run (a ^ 64) (fun q => run a (fun i => u (64 * q + i)) 0 64) c n = run a u c (64 * n) := by
  induction n with
  | zero => rfl
  | succ n ih =>
    rw [run, ih, show 64 * (n + 1) = 64 * n + 64 by ring, run_add, run_rest _ _ (run a u c (64 * n))]

/-- A state inside chunk `q` from the chunk's own and what entered it. -/
theorem chunk_run (a : ℂ) (u : ℕ → ℂ) (c : ℂ) (q j : ℕ) :
    run a (fun i => u (64 * q + i)) 0 j + a ^ j * run a u c (64 * q) = run a u c (64 * q + j) := by
  rw [run_add, ← run_rest]

/-- Two extended reals that are the halves of a complex number. -/
def IsC (x y : EReal) (z : ℂ) : Prop := x = (z.re : EReal) ∧ y = (z.im : EReal)

theorem IsC.step {u u' a a' x x' : EReal} {U A X : ℂ} (hu : IsC u u' U) (ha : IsC a a' A) (hx : IsC x x' X) :
    IsC (u + a * x - a' * x') (u' + a * x' + a' * x) (U + A * X) := by
  obtain ⟨rfl, rfl⟩ := hu
  obtain ⟨rfl, rfl⟩ := ha
  obtain ⟨rfl, rfl⟩ := hx
  constructor
  · rw [← EReal.coe_mul, ← EReal.coe_mul, ← EReal.coe_add, ← EReal.coe_sub]
    congr 1
    simp only [Complex.add_re, Complex.mul_re]; ring
  · rw [← EReal.coe_mul, ← EReal.coe_mul, ← EReal.coe_add, ← EReal.coe_add]
    congr 1
    simp only [Complex.add_im, Complex.mul_im]; ring

theorem IsC.mul {a a' x x' : EReal} {A X : ℂ} (ha : IsC a a' A) (hx : IsC x x' X) :
    IsC (a * x - a' * x') (a * x' + a' * x) (A * X) := by
  obtain ⟨rfl, rfl⟩ := ha
  obtain ⟨rfl, rfl⟩ := hx
  constructor
  · rw [← EReal.coe_mul, ← EReal.coe_mul, ← EReal.coe_sub, Complex.mul_re]
  · rw [← EReal.coe_mul, ← EReal.coe_mul, ← EReal.coe_add, Complex.mul_im]

theorem IsC.add {a a' x x' : EReal} {A X : ℂ} (ha : IsC a a' A) (hx : IsC x x' X) : IsC (a + x) (a' + x') (A + X) := by
  obtain ⟨rfl, rfl⟩ := ha
  obtain ⟨rfl, rfl⟩ := hx
  exact ⟨by rw [← EReal.coe_add, Complex.add_re], by rw [← EReal.coe_add, Complex.add_im]⟩

theorem IsC.zero : IsC 0 0 0 := ⟨by simp, by simp⟩

end Cert.S5Scan
-- ==== Proof.ScanCoef.lean ====
module

public import proofs.«01_k».proof.Proof.ScanMath
public import Mathlib.Analysis.SpecialFunctions.Exp
public import Mathlib.Tactic.Positivity
public import Mathlib.Tactic.Linarith
public import Mathlib.Tactic.NormNum

/-! # The discretised coefficients, on numbers

From the continuous coefficient `a + ib` and the logarithm `s` of the step: the discrete coefficient, the factor of the
inputs, and that they are finite where `a`, `b` and `s` are. -/

@[expose] public section

noncomputable section

namespace Cert.S5Scan

open Idealize.ShloMosaic

/-- The bound from above on the real part. -/
abbrev cap : EReal := Ideal.ofBits FTy.f32 3100751639#32

def abrOf (a b s : EReal) : EReal := Ideal.exp (min a cap * Ideal.exp s) * Ideal.cos (b * Ideal.exp s)
def abiOf (a b s : EReal) : EReal := Ideal.exp (min a cap * Ideal.exp s) * Ideal.sin (b * Ideal.exp s)
def denOf (a b : EReal) : EReal := min a cap * min a cap + b * b
def qrOf (a b s : EReal) : EReal := Ideal.div ((abrOf a b s - 1) * min a cap + abiOf a b s * b) (denOf a b)
def qiOf (a b s : EReal) : EReal := Ideal.div (abiOf a b s * min a cap - (abrOf a b s - 1) * b) (denOf a b)
def bbrOf (a b s x y : EReal) : EReal := qrOf a b s * x - qiOf a b s * y
def bbiOf (a b s x y : EReal) : EReal := qrOf a b s * y + qiOf a b s * x

/-- A finite number. -/
abbrev IsR (x : EReal) : Prop := x = (x.toReal : EReal)

theorem IsR.of {x : EReal} {r : ℝ} (h : x = (r : EReal)) : IsR x := by rw [h, IsR, EReal.toReal_coe]

theorem cap_neg : ∃ r : ℝ, r < 0 ∧ cap = (r : EReal) := by
  refine ⟨_, ?_, rfl⟩
  norm_num
  rw [if_pos (by decide)]
  exact neg_neg_of_pos (by positivity)

theorem IsR.min {x y : EReal} (hx : IsR x) (hy : IsR y) : IsR (min x y) := by
  rcases min_choice x y with h | h <;> rw [h] <;> assumption
theorem IsR.add {x y : EReal} (hx : IsR x) (hy : IsR y) : IsR (x + y) := by
  rw [hx, hy]; exact IsR.of (EReal.coe_add _ _).symm
theorem IsR.sub {x y : EReal} (hx : IsR x) (hy : IsR y) : IsR (x - y) := by
  rw [hx, hy]; exact IsR.of (EReal.coe_sub _ _).symm
theorem IsR.mul {x y : EReal} (hx : IsR x) (hy : IsR y) : IsR (x * y) := by
  rw [hx, hy]; exact IsR.of (EReal.coe_mul _ _).symm
theorem IsR.exp {x : EReal} (hx : IsR x) : IsR (Ideal.exp x) := by rw [hx]; exact IsR.of (r := Real.exp _) rfl
theorem IsR.cos {x : EReal} (hx : IsR x) : IsR (Ideal.cos x) := by rw [hx]; exact IsR.of (r := Real.cos _) rfl
theorem IsR.sin {x : EReal} (hx : IsR x) : IsR (Ideal.sin x) := by rw [hx]; exact IsR.of (r := Real.sin _) rfl
theorem IsR.one : IsR 1 := IsR.of (r := 1) EReal.coe_one.symm
theorem IsR.div {x y : EReal} (hx : IsR x) (hy : IsR y) (h : y ≠ 0) : IsR (Ideal.div x y) := by
  unfold Ideal.div
  rw [if_neg h, hx, hy, ← EReal.coe_inv]
  exact IsR.of (EReal.coe_mul _ _).symm

section
variable {a b s x y : EReal} (ha : IsR a) (hb : IsR b) (hs : IsR s)
include ha

theorem low_isR : IsR (min a cap) := ha.min (by obtain ⟨r, -, h⟩ := cap_neg; exact IsR.of h)

theorem low_ne : (min a cap).toReal < 0 := by
  obtain ⟨r, hr, h⟩ := cap_neg
  have h1 : min a cap ≤ (r : EReal) := h ▸ min_le_right a cap
  have h2 := low_isR ha
  rw [h2] at h1
  exact lt_of_le_of_lt (EReal.coe_le_coe_iff.mp h1) hr

include hb
theorem den_isR : IsR (denOf a b) := ((low_isR ha).mul (low_isR ha)).add (hb.mul hb)

theorem den_ne : denOf a b ≠ 0 := by
  have h := low_ne ha
  have e : denOf a b = (((min a cap).toReal * (min a cap).toReal + b.toReal * b.toReal : ℝ) : EReal) := by
    unfold denOf
    rw [EReal.coe_add, EReal.coe_mul, EReal.coe_mul, ← low_isR ha, ← hb]
  rw [e]
  have hp : 0 < (min a cap).toReal * (min a cap).toReal + b.toReal * b.toReal :=
    add_pos_of_pos_of_nonneg (mul_pos_of_neg_of_neg h h) (mul_self_nonneg _)
  exact fun h0 => hp.ne' (EReal.coe_eq_zero.mp h0)

include hs
theorem abr_isR : IsR (abrOf a b s) := ((low_isR ha).mul hs.exp).exp.mul (hb.mul hs.exp).cos
theorem abi_isR : IsR (abiOf a b s) := ((low_isR ha).mul hs.exp).exp.mul (hb.mul hs.exp).sin
theorem qr_isR : IsR (qrOf a b s) :=
  ((((abr_isR ha hb hs).sub .one).mul (low_isR ha)).add ((abi_isR ha hb hs).mul hb)).div (den_isR ha hb) (den_ne ha hb)
theorem qi_isR : IsR (qiOf a b s) :=
  (((abi_isR ha hb hs).mul (low_isR ha)).sub (((abr_isR ha hb hs).sub .one).mul hb)).div (den_isR ha hb) (den_ne ha hb)

variable (hx : IsR x) (hy : IsR y)
include hx hy
theorem bbr_isR : IsR (bbrOf a b s x y) := ((qr_isR ha hb hs).mul hx).sub ((qi_isR ha hb hs).mul hy)
theorem bbi_isR : IsR (bbiOf a b s x y) := ((qr_isR ha hb hs).mul hy).add ((qi_isR ha hb hs).mul hx)
end

/-- The complex number with two finite halves. -/
def cpx (x y : EReal) : ℂ := ⟨x.toReal, y.toReal⟩
theorem cpx_isC {x y : EReal} (hx : IsR x) (hy : IsR y) : IsC x y (cpx x y) := ⟨hx, hy⟩

end Cert.S5Scan
-- ==== Proof.ScanPre.lean ====
module

public import proofs.«01_k».proof.Proof.ScanCoef
public import proofs.«01_k».proof.Pre_s5_finite
public import Idealize.ShloMosaic.Lib.ReduceAll

/-! # Finite arguments

What the precondition says: every entry of every argument is a finite number. -/

@[expose] public section

noncomputable section

namespace Cert.S5Scan

open Idealize.ShloMosaic Cert.Pre_s5_finite

theorem isR_of_abs_lt {x : EReal} (h : max x (-x) < ⊤) : IsR x := by
  induction x using EReal.rec with
  | bot => exact absurd h (by simp)
  | coe r => rfl
  | top => exact absurd h (by simp)

instance : Subsingleton S_.Idx := ⟨fun a b => funext fun k => k.elim0⟩

/-- An array whose absolute values are all below infinity. -/
theorem all_isR {s : Shape} {axes : List (Fin s.rank)} (x : FVec Ideal s .f32) (hb : S_.BroadcastsInDim s (![] : Fin 0 → Fin s.rank))
    (hr : s.ReducesTo axes S_) (h0 : 0 < S_.numel) (j : S_.Idx)
    (h : Host.reduce IntOp.andi (cmpf .olt (Host.absf x) (broadcastInDim s ![] hb (constant S_ .f32 0x7F800000#32)))
      (constantI S_ 1 1#1) hr h0 j = 1#1) (i : s.Idx) : IsR (x i) := by
  have e := Host.reduce_andi_all _ _ _ _ j h i
  have e' : BitVec.ofBool (decide (max (x i) (-x i) < (⊤ : EReal))) = 1#1 := e
  apply isR_of_abs_lt
  by_contra hn
  rw [decide_eq_false hn] at e'
  exact absurd e' (by decide)

/-- Every argument's entries are finite. -/
structure Finite (X0 : FVec Ideal S4096x1024 .f32) (X1 X2 : FVec Ideal S64x64 .f32) (X3 : FVec Ideal S64 .f32)
    (X4 X5 : FVec Ideal S64x64x16 .f32) (X6 X7 : FVec Ideal S64x16x64 .f32) (X8 : FVec Ideal S1x1024 .f32) : Prop where
  h : ∀ i, IsR (X0 i)
  are : ∀ i, IsR (X1 i)
  aim : ∀ i, IsR (X2 i)
  step : ∀ i, IsR (X3 i)
  bre : ∀ i, IsR (X4 i)
  bim : ∀ i, IsR (X5 i)
  cre : ∀ i, IsR (X6 i)
  cim : ∀ i, IsR (X7 i)
  d : ∀ i, IsR (X8 i)

theorem finite_of [Facts] {X0 : FVec Ideal S4096x1024 .f32} {X1 X2 : FVec Ideal S64x64 .f32} {X3 : FVec Ideal S64 .f32}
    {X4 X5 : FVec Ideal S64x64x16 .f32} {X6 X7 : FVec Ideal S64x16x64 .f32} {X8 : FVec Ideal S1x1024 .f32}
    (e : fn (F := Ideal) X0 X1 X2 X3 X4 X5 X6 X7 X8 = fun _ => 1#1) : Finite X0 X1 X2 X3 X4 X5 X6 X7 X8 := by
  have j : S_.Idx := fun k => k.elim0
  have e := congrFun e j
  unfold fn fn_part1 fn_part2 at e
  obtain ⟨e, h8⟩ := IntOp.andi_eq_one.1 e
  obtain ⟨e, h7⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨all_isR _ _ _ _ j h0, all_isR _ _ _ _ j h1, all_isR _ _ _ _ j h2, all_isR _ _ _ _ j h3, all_isR _ _ _ _ j h4,
    all_isR _ _ _ _ j h5, all_isR _ _ _ _ j h6, all_isR _ _ _ _ j h7, all_isR _ _ _ _ j h8⟩

end Cert.S5Scan
-- ==== Proof.ScanSpec.lean ====
module

public import proofs.«01_k».proof.Proof.ScanPre
public import Idealize.ShloMosaic.Lib.Pointwise

/-! # The recurrence the arguments describe

For every group and state of the layer: its coefficient, what each position feeds it, and the states; and the output
before the gate, read out of the states. -/

@[expose] public section

noncomputable section

namespace Cert.S5Scan

open Idealize.ShloMosaic Cert.Pre_s5_finite

/-- The nine arguments. -/
structure Args where
  h : FVec Ideal S4096x1024 .f32
  are : FVec Ideal S64x64 .f32
  aim : FVec Ideal S64x64 .f32
  step : FVec Ideal S64 .f32
  bre : FVec Ideal S64x64x16 .f32
  bim : FVec Ideal S64x64x16 .f32
  cre : FVec Ideal S64x16x64 .f32
  cim : FVec Ideal S64x16x64 .f32
  d : FVec Ideal S1x1024 .f32

/-- All their entries are finite. -/
abbrev Args.Finite (a : Args) : Prop := S5Scan.Finite a.h a.are a.aim a.step a.bre a.bim a.cre a.cim a.d

section
variable (a : Args) (g p : Fin 64)

def Args.abr : EReal := abrOf (a.are (ix2 (n0 := 64) (n1 := 64) g p)) (a.aim (ix2 (n0 := 64) (n1 := 64) g p)) (a.step (ix1 (n0 := 64) g))
def Args.abi : EReal := abiOf (a.are (ix2 (n0 := 64) (n1 := 64) g p)) (a.aim (ix2 (n0 := 64) (n1 := 64) g p)) (a.step (ix1 (n0 := 64) g))
def Args.bbr (h : Fin 16) : EReal :=
  bbrOf (a.are (ix2 (n0 := 64) (n1 := 64) g p)) (a.aim (ix2 (n0 := 64) (n1 := 64) g p)) (a.step (ix1 (n0 := 64) g))
    (a.bre (ix3 (n0 := 64) (n1 := 64) (n2 := 16) g p h)) (a.bim (ix3 (n0 := 64) (n1 := 64) (n2 := 16) g p h))
def Args.bbi (h : Fin 16) : EReal :=
  bbiOf (a.are (ix2 (n0 := 64) (n1 := 64) g p)) (a.aim (ix2 (n0 := 64) (n1 := 64) g p)) (a.step (ix1 (n0 := 64) g))
    (a.bre (ix3 (n0 := 64) (n1 := 64) (n2 := 16) g p h)) (a.bim (ix3 (n0 := 64) (n1 := 64) (n2 := 16) g p h))

/-- The discrete coefficient. -/
def Args.coef : ℂ := cpx (a.abr g p) (a.abi g p)
/-- The factor of the `h`-th input of the group. -/
def Args.fact (h : Fin 16) : ℂ := cpx (a.bbr g p h) (a.bbi g p h)
/-- The row at position `n`. -/
def Args.row (n : ℕ) (j : Fin 1024) : ℝ := if h : n < 4096 then (a.h (ix2 (n0 := 4096) (n1 := 1024) ⟨n, h⟩ j)).toReal else 0
/-- What position `n` feeds the state. -/
def Args.input (n : ℕ) : ℂ := ∑ h : Fin 16, (a.row n ⟨16 * g.val + h.val, by omega⟩ : ℂ) * a.fact g p h
/-- The state after `n` positions. -/
def Args.state (n : ℕ) : ℂ := run (a.coef g p) (a.input g p) 0 n

/-- The output before the gate. -/
def Args.out (l : Fin 4096) (j : Fin 1024) : EReal :=
  (∑ p : Fin 64, ((a.state ⟨j.val / 16, by omega⟩ p (l.val + 1)).re : EReal)
      * a.cre (ix3 (n0 := 64) (n1 := 16) (n2 := 64) ⟨j.val / 16, by omega⟩ ⟨j.val % 16, by omega⟩ p))
    + (∑ p : Fin 64, ((a.state ⟨j.val / 16, by omega⟩ p (l.val + 1)).im : EReal)
      * -a.cim (ix3 (n0 := 64) (n1 := 16) (n2 := 64) ⟨j.val / 16, by omega⟩ ⟨j.val % 16, by omega⟩ p))
    + a.d (ix2 (n0 := 1) (n1 := 1024) 0 j) * (a.row l.val j : EReal)

variable {a} (f : a.Finite)
include f

theorem coef_isC : IsC (a.abr g p) (a.abi g p) (a.coef g p) :=
  cpx_isC (abr_isR (f.are _) (f.aim _) (f.step _)) (abi_isR (f.are _) (f.aim _) (f.step _))

theorem fact_isC (h : Fin 16) : IsC (a.bbr g p h) (a.bbi g p h) (a.fact g p h) :=
  cpx_isC (bbr_isR (f.are _) (f.aim _) (f.step _) (f.bre _) (f.bim _)) (bbi_isR (f.are _) (f.aim _) (f.step _) (f.bre _) (f.bim _))

theorem row_eq (l : Fin 4096) (j : Fin 1024) : a.h (ix2 (n0 := 4096) (n1 := 1024) l j) = (a.row l.val j : EReal) := by
  unfold Args.row
  rw [dif_pos l.isLt]
  exact f.h _

end

end Cert.S5Scan
-- ==== Proof.ScanTable.lean ====
module

public import proofs.«01_k».proof.Proof.Gen.S5fIdeal.Value
public import Idealize.ShloMosaic.Lib.Pointwise
public import Idealize.ShloMosaic.Lib.Pipeline.ValueKit
public import Idealize.ShloMosaic.Lib.Pipeline.ReadBack

/-! # The table of powers

The rows of powers the scan reads, as the lines before it build them: the coefficient, its 64th power masked for the
three rounds of doubling, and that power's first eight powers. -/

@[expose] public section

set_option maxRecDepth 16384

noncomputable section

namespace Cert.S5Scan

open Idealize.ShloMosaic Idealize.ShloMosaic.TcCoe Idealize.SL.Sem Cert.S5fIdeal Cert.S5fIdeal.Gen

/-- A number for every group and state, and two of them: the halves of complex numbers. -/
abbrev Coef := FVec Ideal S64x64 .f32
abbrev Pair := Coef × Coef

def cmul (u v : Pair) : Pair :=
  (subf (mulf u.1 v.1) (mulf u.2 v.2), addf (mulf u.1 v.2) (mulf u.2 v.1))

/-- The square, `n` times over. -/
def squares (u : Pair) : ℕ → Pair
  | 0 => u
  | n + 1 => cmul (squares u n) (squares u n)

/-- The powers, from the first. -/
def powers (u : Pair) : ℕ → Pair
  | 0 => u
  | n + 1 => cmul (powers u n) u

def one8 (x : Coef) : FVec Ideal S1x64x64 .f32 := broadcastInDim S1x64x64 ![1, 2] bcast_S64x64_S1x64x64_1_2 x
def all8 (x : Coef) : FVec Ideal S8x64x64 .f32 := broadcastInDim S8x64x64 ![0, 1, 2] bcast_S1x64x64_S8x64x64_0_1_2 (one8 x)

/-- The rows from `k` on. -/
def from8 (k : BitVec 32) (x : Coef) : FVec Ideal S8x64x64 .f32 :=
  select
    (broadcastInDim S8x64x64 ![0, 1, 2] bcast_S8x1x1_S8x64x64_0_1_2
      (cmpi .sge (broadcastInDim S8x1x1 ![0] bcast_S8_S8x1x1_0 (iotaInDim S8 32 0))
        (broadcastInDim S8x1x1 ![] bcast_S_S8x1x1 (constantI S_ 32 k))))
    (all8 x) (broadcastInDim S8x64x64 ![] bcast_S_S8x64x64 (constant S_ .f32 0x00000000#32))

/-- Eight powers, one in each row. -/
def each8 (q : ℕ → Coef) : FVec Ideal S8x64x64 .f32 :=
  concatenate S8x64x64 0 [⟨S1x64x64, one8 (q 0)⟩, ⟨S1x64x64, one8 (q 1)⟩, ⟨S1x64x64, one8 (q 2)⟩, ⟨S1x64x64, one8 (q 3)⟩,
    ⟨S1x64x64, one8 (q 4)⟩, ⟨S1x64x64, one8 (q 5)⟩, ⟨S1x64x64, one8 (q 6)⟩, ⟨S1x64x64, one8 (q 7)⟩]
    concatenates_S1x64x64_S1x64x64_S1x64x64_S1x64x64_S1x64x64_S1x64x64_S1x64x64_S1x64x64_S8x64x64_d0

/-- One half of the table. -/
def half (a : Coef) (q : ℕ → Coef) : FVec Ideal S40x64x64 .f32 :=
  concatenate S40x64x64 0 [⟨S8x64x64, all8 a⟩, ⟨S8x64x64, from8 1#32 (q 0)⟩, ⟨S8x64x64, from8 2#32 (q 1)⟩,
    ⟨S8x64x64, from8 4#32 (q 3)⟩, ⟨S8x64x64, each8 q⟩]
    concatenates_S8x64x64_S8x64x64_S8x64x64_S8x64x64_S8x64x64_S40x64x64_d0

/-- Both halves, by blocks of sixteen groups. -/
def table (x y : FVec Ideal S40x64x64 .f32) : FVec Ideal S4x40x2048 .f32 :=
  shapeCast S4x40x2048
    (transpose S4x40x2x1024 [2, 0, 1, 3]
      (shapeCast S40x2x4x1024
        (concatenate S40x2x64x64 1
          [⟨S40x1x64x64, broadcastInDim S40x1x64x64 ![0, 2, 3] bcast_S40x64x64_S40x1x64x64_0_2_3 x⟩,
            ⟨S40x1x64x64, broadcastInDim S40x1x64x64 ![0, 2, 3] bcast_S40x64x64_S40x1x64x64_0_2_3 y⟩]
          concatenates_S40x1x64x64_S40x1x64x64_S40x2x64x64_d1) shapeCasts_S40x2x64x64_S40x2x4x1024)
      transposes_S40x2x4x1024_S4x40x2x1024_2_0_1_3) shapeCasts_S4x40x2x1024_S4x40x2048

theorem table_apply (x y : FVec Ideal S40x64x64 .f32) (kb : Fin 4) (r : Fin 40) (w : Fin 2048) :
    table x y (ix3 (n0 := 4) (n1 := 40) (n2 := 2048) kb r w)
      = (if w.val < 1024 then x else y) (ix3 (n0 := 40) (n1 := 64) (n2 := 64) r ⟨16 * kb.val + w.val % 1024 / 64, by omega⟩
          ⟨w.val % 64, by omega⟩) := by
  unfold table
  pointwise
  have e : ∀ z : FVec Ideal S40x64x64 .f32, z (ix3 (n0 := 40) (n1 := 64) (n2 := 64) r
      ⟨kb.val * 16 + w.val % 1024 / 64, by omega⟩ ⟨w.val % 1024 % 64, by omega⟩)
        = z (ix3 (n0 := 40) (n1 := 64) (n2 := 64) r ⟨16 * kb.val + w.val % 1024 / 64, by omega⟩ ⟨w.val % 64, by omega⟩) := by
    intro z
    have e1 : (⟨kb.val * 16 + w.val % 1024 / 64, by omega⟩ : Fin 64) = ⟨16 * kb.val + w.val % 1024 / 64, by omega⟩ :=
      Fin.ext (by show _ * 16 + _ = 16 * _ + _; omega)
    have e2 : (⟨w.val % 1024 % 64, by omega⟩ : Fin 64) = ⟨w.val % 64, by omega⟩ := Fin.ext (by show _ % _ % _ = _ % _; omega)
    rw [e1, e2]
  by_cases h : w.val < 1024
  · exact ((dif_pos (show w.val / 1024 < 1 by omega)).trans (e x)).trans (congrFun (if_pos h).symm _)
  · exact ((dif_neg (show ¬w.val / 1024 < 1 by omega)).trans (e y)).trans (congrFun (if_neg h).symm _)

theorem half_apply (a : Coef) (q : ℕ → Coef) (k : Fin 5) (r : Fin 8) (g p : Fin 64) :
    half a q (ix3 (n0 := 40) (n1 := 64) (n2 := 64) ⟨8 * k.val + r.val, by omega⟩ g p)
      = (match k with
          | 0 => a
          | 1 => if 1 ≤ r.val then q 0 else fun _ => 0
          | 2 => if 2 ≤ r.val then q 1 else fun _ => 0
          | 3 => if 4 ≤ r.val then q 3 else fun _ => 0
          | 4 => q r.val) (ix2 (n0 := 64) (n1 := 64) g p) := by
  unfold half each8 from8 all8 one8
  pointwise
  fin_cases k <;> fin_cases r <;> rfl

variable (m : (ℓ : Loc nD τ sig) → Buf (Elt Ideal) ℓ) (c : Dev nD)

/-- The discretised coefficients, as the lines before the scan leave them. -/
def coefs : Pair := (V m c main_v10, V m c main_v14)

set_option maxHeartbeats 4000000 in
theorem V_table : V m c main_v192 = table (half (coefs m c).1 fun n => (powers (squares (coefs m c) 6) n).1)
    (half (coefs m c).2 fun n => (powers (squares (coefs m c) 6) n).2) := by
  unfold coefs
  unfold_abbrev_sides
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results
  sl_kernel_rfl

end Cert.S5Scan
-- ==== Proof.ScanBody.lean ====
module

public import proofs.«01_k».proof.Proof.Gen.S5fIdeal.Skeleton

/-! # One tile of the state scan, as a recursion

The printed body of the scan treats its 512 rows as eight chunks of 64, held as 64 slabs of eight rows: row `8 j + q`
of the tile is position `64 q + j` of the sequence. It is straight-line code of some four thousand lines. Here the
same work is a recursion over the slabs, over any format: what is loaded, what is computed and what is stored, in the
order of the printed stores. -/

@[expose] public section

set_option maxRecDepth 16384

noncomputable section

namespace Cert.S5Scan

open Idealize.ShloMosaic Idealize.SL.Sem Cert.S5fIdeal Cert.S5fIdeal.Gen

variable {F : FTy → Type} [FloatOps F]

/-- Eight rows of one half (real or imaginary) of one block's states. -/
abbrev Slab (F : FTy → Type) := FVec F S8x1024 .f32

/-- The stores made so far into the tile of states, last first. -/
abbrev Stores (F : FTy → Type) := List (View.Piece (Elt F) S512x4096 .f32)

theorem slab_inb (b p j : ℕ) :
    ∀ a, (![8 * (j % 64), 2048 * (b % 2) + 1024 * (p % 2)] : Fin 2 → Nat) a + S8x1024.size a ≤ S512x4096.size a := by
  intro a
  fin_cases a
  · show 8 * (j % 64) + 8 ≤ 512
    omega
  · show 2048 * (b % 2) + 1024 * (p % 2) + 1024 ≤ 4096
    omega

/-- Where slab `j` of block `b` lies: its real half (`p = 0`) or its imaginary half (`p = 1`). -/
def slabAt (b p j : ℕ) : Rect S512x4096 :=
  Rect.unit ![8 * (j % 64), 2048 * (b % 2) + 1024 * (p % 2)] S8x1024.size (slab_inb b p j)

theorem panel_inb (b c : ℕ) :
    ∀ a, (![0, 2048 * (b % 2) + 512 * (c % 4)] : Fin 2 → Nat) a + S512x512.size a ≤ S512x4096.size a := by
  intro a
  fin_cases a
  · show 0 + 512 ≤ 512
    omega
  · show 2048 * (b % 2) + 512 * (c % 4) + 512 ≤ 4096
    omega

/-- Where panel `c` (512 columns) of block `b` lies. -/
def panelAt (b c : ℕ) : Rect S512x4096 :=
  Rect.unit ![0, 2048 * (b % 2) + 512 * (c % 4)] S512x512.size (panel_inb b c)

/-- What one tile works on: the reordered inputs, both expanded matrices by panels, the rows of powers, what the tile
    before left, the direct coefficients and the matrix that puts the rows back. -/
structure Tile (F : FTy → Type) where
  hp : FVec F S512x512 .f32
  hpb : FVec F S512x512 .bf16
  bw : ℕ → ℕ → Vec F S1x256x512 .bf16
  cw : ℕ → ℕ → Vec F S1x512x256 .bf16
  pw : ℕ → ℕ → ℕ → Vec F S1x8x1024 .f32
  carry : ℕ → ℕ → Vec F S1x1x8x1024 .f32
  dv : ℕ → Vec F S1x256 .f32
  unperm : Vec F S512x512 .bf16

variable (v : View sig .tc .vmem S512x4096 .f32) (T : Tile F)

/-- A loaded slab of powers. -/
def pow (b k p : ℕ) : Slab F := shapeCast S8x1024 (T.pw b k p) shapeCasts_S1x8x1024_S8x1024

/-- The state left by the tile before, in eight equal rows. -/
def left (b p : ℕ) : Slab F := shapeCast S8x1024 (T.carry b p) shapeCasts_S1x1x8x1024_S8x1024

/-- The slab as it stands after the stores `L`. -/
def load (L : Stores F) (b p j : ℕ) : Slab F :=
  shapeCast S8x1024 (v.readCov L (slabAt b p j).toLoadRect) shapeCasts_S8x1024_S8x1024

/-- `u + a x` of complex numbers held as two halves: the real half, -/
def stepRe (u ar ai xr xi : Slab F) : Slab F := subf (addf u (mulf ar xr)) (mulf ai xi)
/-- and the imaginary half. -/
def stepIm (u ar ai xr xi : Slab F) : Slab F := addf (addf u (mulf ar xi)) (mulf ai xr)

/-- Stores and the two halves of the running state. -/
abbrev Run (F : FTy → Type) := Stores F × Slab F × Slab F

/-- One step of the recurrence inside the chunks, on all eight at once; `more` is what else is stored after it. -/
def ownStep (b : ℕ) (more : Stores F) (j : ℕ) (s : Run F) : Run F :=
  (more ++ (⟨slabAt b 1 j, stepIm (load v s.1 b 1 j) (pow T b 0 0) (pow T b 0 1) s.2.1 s.2.2⟩ ::
      ⟨slabAt b 0 j, stepRe (load v s.1 b 0 j) (pow T b 0 0) (pow T b 0 1) s.2.1 s.2.2⟩ :: s.1),
    stepRe (load v s.1 b 0 j) (pow T b 0 0) (pow T b 0 1) s.2.1 s.2.2,
    stepIm (load v s.1 b 1 j) (pow T b 0 0) (pow T b 0 1) s.2.1 s.2.2)

/-- The first `n` steps inside the chunks, from rest. -/
def own (b : ℕ) (more : ℕ → Stores F) (L : Stores F) : ℕ → Run F
  | 0 => (L, broadcast S8x1024 (Scalar.ofBits .f32 0x00000000#32), broadcast S8x1024 (Scalar.ofBits .f32 0x00000000#32))
  | n + 1 => ownStep v T b (more n) n (own b more L n)

/-- The product of two complex numbers held as halves. -/
def mulRe (ar ai xr xi : Slab F) : Slab F := subf (mulf ar xr) (mulf ai xi)
def mulIm (ar ai xr xi : Slab F) : Slab F := addf (mulf ar xi) (mulf ai xr)

/-- One step of adding what entered the chunk: the running term is multiplied once more and added. -/
def carriedStep (b : ℕ) (more : Stores F) (j : ℕ) (s : Run F) : Run F :=
  let cr := mulRe (pow T b 0 0) (pow T b 0 1) s.2.1 s.2.2
  let ci := mulIm (pow T b 0 0) (pow T b 0 1) s.2.1 s.2.2
  let L := ⟨slabAt b 0 j, addf (load v s.1 b 0 j) cr⟩ :: s.1
  (more ++ (⟨slabAt b 1 j, addf (load v L b 1 j) ci⟩ :: L), cr, ci)

/-- The first `n` steps of adding what entered the chunks. -/
def carried (b : ℕ) (more : ℕ → Stores F) (s : Run F) : ℕ → Run F
  | 0 => s
  | n + 1 => carriedStep v T b (more n) n (carried b more s n)

/-- One round of doubling over the eight chunks: to each chunk's end, the end `amt` chunks before times the power
    row `k`. -/
def round (b k : ℕ) (amt : BitVec 32) (x : Slab F × Slab F) : Slab F × Slab F :=
  (stepRe x.1 (pow T b k 0) (pow T b k 1) (dynamicRotate 0 amt none x.1 rotates_S8x1024_d0)
      (dynamicRotate 0 amt none x.2 rotates_S8x1024_d0),
    stepIm x.2 (pow T b k 0) (pow T b k 1) (dynamicRotate 0 amt none x.1 rotates_S8x1024_d0)
      (dynamicRotate 0 amt none x.2 rotates_S8x1024_d0))

/-- The states at the eight chunks' ends. -/
def ends (b : ℕ) (x : Slab F × Slab F) : Slab F × Slab F :=
  let y := round T b 3 4#32 (round T b 2 2#32 (round T b 1 1#32 x))
  (stepRe y.1 (pow T b 4 0) (pow T b 4 1) (left T b 0) (left T b 1),
    stepIm y.2 (pow T b 4 0) (pow T b 4 1) (left T b 0) (left T b 1))

/-- The row that is the first of its slab. -/
def first : IVec S8x1024 1 := cmpi .eq (iota .tc S8x1024 32 [0] iota_S8x1024_d0_w32) (broadcast S8x1024 0#32)

/-- What enters each chunk: the end of the chunk before, and for the first chunk what the tile before left. -/
def enter (left x : Slab F) : Slab F := select first left (dynamicRotate 0 1#32 none x rotates_S8x1024_d0)

/-- The last chunk's end, in eight equal rows, as it is stored for the tile after. -/
def leave (x : Slab F) : FVec F S1x1x8x1024 .f32 :=
  shapeCast S1x1x8x1024
    (broadcastTo S8x1024
      (shapeCast S1x1024 (extractStridedSlice S1x1024 ![7, 0] x slices_S8x1024_o7_0_S1x1024) shapeCasts_S1x1024_S1x1024)
      broadcasts_S1x1024_S8x1024) shapeCasts_S8x1024_S1x1x8x1024

/-- Block 0 and block 1 of the inputs. -/
def cut : ℕ → FVec F S512x256 .bf16
  | 0 => extractStridedSlice S512x256 ![0, 0] T.hpb slices_S512x512_o0_0_S512x256
  | _ => extractStridedSlice S512x256 ![0, 256] T.hpb slices_S512x512_o0_256_S512x256

/-- The inputs times panel `c` of block `b`'s expanded matrix, stored. -/
def project (b c : ℕ) : View.Piece (Elt F) S512x4096 .f32 :=
  ⟨panelAt b c, matmul dot_S512x256_S256x512_S512x512_1_0_0_1_n_n none (cut T b)
    (shapeCast S256x512 (T.bw b c) shapeCasts_S1x256x512_S256x512) (constant S512x512 .f32 0x00000000#32)⟩

def base0 : Stores F := [project T 0 3, project T 0 2, project T 0 1, project T 0 0]
def own0 : ℕ → Run F := own v T 0 (fun j => if j = 32 then [project T 1 0] else []) (base0 T)
def ends0 : Slab F × Slab F := ends T 0 (own0 v T 64).2
def carried0 : ℕ → Run F :=
  carried v T 0 (fun j => if j = 31 then [project T 1 2] else if j = 63 then [project T 1 3] else [])
    (project T 1 1 :: (own0 v T 64).1, enter (left T 0 0) (ends0 v T).1, enter (left T 0 1) (ends0 v T).2)
def own1 : ℕ → Run F := own v T 1 (fun _ => []) (carried0 v T 64).1
def ends1 : Slab F × Slab F := ends T 1 (own1 v T 64).2
def carried1 : ℕ → Run F :=
  carried v T 1 (fun _ => [])
    ((own1 v T 64).1, enter (left T 1 0) (ends1 v T).1, enter (left T 1 1) (ends1 v T).2)

/-- Panel `c` of block `b`'s states, as they stand after the stores `L`, times its part of the expanded matrix. -/
def readout (L : Stores F) (b c : ℕ) : FVec F S512x256 .f32 :=
  matmul dot_S512x512_S512x256_S512x256_1_0_0_1_n_n none
    (truncf .bf16 (shapeCast S512x512 (v.readCov L (panelAt b c).toLoadRect) shapeCasts_S512x512_S512x512) bitsLt_bf16_f32)
    (shapeCast S512x256 (T.cw b c) shapeCasts_S1x512x256_S512x256) (constant S512x256 .f32 0x00000000#32)

/-- The reordered inputs of a block. -/
def hcut : ℕ → FVec F S512x256 .f32
  | 0 => extractStridedSlice S512x256 ![0, 0] T.hp slices_S512x512_o0_0_S512x256
  | _ => extractStridedSlice S512x256 ![0, 256] T.hp slices_S512x512_o0_256_S512x256

/-- The output before the gate of a block, its four panels read after four lists of stores. -/
def outY (b : ℕ) (L₀ L₁ L₂ L₃ : Stores F) : FVec F S512x256 .f32 :=
  addf (addf (addf (addf (readout v T L₀ b 0) (readout v T L₁ b 1)) (readout v T L₂ b 2)) (readout v T L₃ b 3))
    (mulf (broadcastTo S512x256 (T.dv b) broadcasts_S1x256_S512x256) (hcut T b))

def lit (w : BitVec 32) : FVec F S512x256 .f32 := broadcast S512x256 (Scalar.ofBits .f32 w)

/-- The gate. -/
def gate (y : FVec F S512x256 .f32) : FVec F S512x256 .f32 :=
  mulf (mulf (lit 0x3F000000#32) y)
    (addf (lit 0x3F800000#32)
      (tanh (mulf (lit 0x3F4C422A#32) (addf y (mulf (mulf (mulf (lit 0x3D372713#32) y) y) y)))))

/-- The output of a block, its rows put back. -/
def outZ (y : FVec F S512x256 .f32) : FVec F S512x256 .bf16 :=
  truncf .bf16 (matmul dot_S512x512_S512x256_S512x256_1_0_0_1_n_n none T.unperm (truncf .bf16 (gate y) bitsLt_bf16_f32)
    (constant S512x256 .f32 0x00000000#32)) bitsLt_bf16_f32

def y0 : FVec F S512x256 .f32 :=
  outY v T 0 (own1 v T 26).1 (own1 v T 52).1 (carried1 v T 13).1 (carried1 v T 39).1
def y1 : FVec F S512x256 .f32 :=
  outY v T 1 (carried1 v T 64).1 (carried1 v T 64).1 (carried1 v T 64).1 (carried1 v T 64).1

end Cert.S5Scan
-- ==== Proof.ScanStep.lean ====
module

public import proofs.«01_k».proof.Proof.ScanBody
public import proofs.«01_k».proof.Proof.Gen.S5fIdeal.Frame
public import Idealize.ShloMosaic.Lib.Pipeline.ValueKit

/-! # The printed body is the recursion

The stores of the printed body are those of `ScanBody`, by evaluation: once for the first tile of a pair of blocks,
which fills the scratch, once for the others, which find it. -/

@[expose] public section

set_option maxRecDepth 16384

noncomputable section

namespace Cert.S5Scan

open Idealize.ShloMosaic Idealize.SL.Sem Cert.S5fIdeal Cert.S5fIdeal.Gen

variable {F : FTy → Type} [FloatOps F]

theorem bw_inb (b c : ℕ) :
    ∀ a, (![b % 2, 0, 512 * (c % 4)] : Fin 3 → Nat) a + S1x256x512.size a ≤ S2x256x2048.size a := by
  intro a
  fin_cases a
  · show b % 2 + 1 ≤ 2
    omega
  · show 0 + 256 ≤ 256
    omega
  · show 512 * (c % 4) + 512 ≤ 2048
    omega

theorem cw_inb (b c : ℕ) :
    ∀ a, (![b % 2, 512 * (c % 4), 0] : Fin 3 → Nat) a + S1x512x256.size a ≤ S2x2048x256.size a := by
  intro a
  fin_cases a
  · show b % 2 + 1 ≤ 2
    omega
  · show 512 * (c % 4) + 512 ≤ 2048
    omega
  · show 0 + 256 ≤ 256
    omega

theorem pw_inb (b k p : ℕ) :
    ∀ a, (![b % 2, 8 * (k % 5), 1024 * (p % 2)] : Fin 3 → Nat) a + S1x8x1024.size a ≤ S2x40x2048.size a := by
  intro a
  fin_cases a
  · show b % 2 + 1 ≤ 2
    omega
  · show 8 * (k % 5) + 8 ≤ 40
    omega
  · show 1024 * (p % 2) + 1024 ≤ 2048
    omega

theorem carry_inb (b p : ℕ) :
    ∀ a, (![b % 2, p % 2, 0, 0] : Fin 4 → Nat) a + S1x1x8x1024.size a ≤ S2x2x8x1024.size a := by
  intro a
  fin_cases a
  · show b % 2 + 1 ≤ 2
    omega
  · show p % 2 + 1 ≤ 2
    omega
  · show 0 + 8 ≤ 8
    omega
  · show 0 + 1024 ≤ 1024
    omega

theorem dv_inb (b : ℕ) : ∀ a, (![0, 256 * (b % 2)] : Fin 2 → Nat) a + S1x256.size a ≤ S1x512.size a := by
  intro a
  fin_cases a
  · show 0 + 1 ≤ 1
    omega
  · show 256 * (b % 2) + 256 ≤ 512
    omega

abbrev bwAt (b c : ℕ) : Rect S2x256x2048 := Rect.unit ![b % 2, 0, 512 * (c % 4)] S1x256x512.size (bw_inb b c)
abbrev cwAt (b c : ℕ) : Rect S2x2048x256 := Rect.unit ![b % 2, 512 * (c % 4), 0] S1x512x256.size (cw_inb b c)
abbrev pwAt (b k p : ℕ) : Rect S2x40x2048 :=
  Rect.unit ![b % 2, 8 * (k % 5), 1024 * (p % 2)] S1x8x1024.size (pw_inb b k p)
abbrev carryAt (b p : ℕ) : Rect S2x2x8x1024 := Rect.unit ![b % 2, p % 2, 0, 0] S1x1x8x1024.size (carry_inb b p)
abbrev dvAt (b : ℕ) : Rect S1x512 := Rect.unit ![0, 256 * (b % 2)] S1x256.size (dv_inb b)
abbrev allAt : Rect S512x512 := Rect.unit ![0, 0] S512x512.size inb_S512x512_S512x512_0_0

variable (c : Dev nD) (i : grid0.Coords)
  (arg2 : Memref sig .tc .vmem S512x512 .f32) (harg2 : arg2.IsWhole)
  (arg3 : Memref sig .tc .vmem S2x256x128 .bf16) (harg3 : arg3.IsWhole)
  (arg4 : Memref sig .tc .vmem S2x128x256 .bf16) (harg4 : arg4.IsWhole)
  (arg5 : Memref sig .tc .vmem S2x40x2048 .f32) (harg5 : arg5.IsWhole)
  (arg6 : Memref sig .tc .vmem S1x512 .f32) (harg6 : arg6.IsWhole)
  (arg7 : Memref sig .tc .vmem S512x4096 .f32) (harg7 : arg7.IsWhole)
  (arg8 : Memref sig .tc .vmem S512x512 .f32) (harg8 : arg8.IsWhole)
  (arg9 : Memref sig .tc .vmem S512x512 .bf16) (harg9 : arg9.IsWhole)
  (arg10 : Memref sig .tc .vmem S2x256x2048 .bf16) (harg10 : arg10.IsWhole)
  (arg11 : Memref sig .tc .vmem S2x2048x256 .bf16) (harg11 : arg11.IsWhole)
  (arg12 : Memref sig .tc .vmem S512x512 .bf16) (harg12 : arg12.IsWhole)
  (arg13 : Memref sig .tc .vmem S512x512 .bf16) (harg13 : arg13.IsWhole)
  (arg14 : Memref sig .tc .vmem S2x2x8x1024 .f32) (harg14 : arg14.IsWhole)

/-- The inputs of the tile, reordered: the matrix of the order times the rows' high and low parts. -/
def reorder (perm : Vec F S512x512 .bf16) (h : Vec F S512x512 .f32) : FVec F S512x512 .f32 :=
  addf
    (matmul dot_S512x512_S512x512_S512x512_1_0_0_1_n_n none perm (truncf .bf16 h bitsLt_bf16_f32) (constant S512x512 .f32 0x00000000#32))
    (matmul dot_S512x512_S512x512_S512x512_1_0_0_1_n_n none perm
      (truncf .bf16 (subf h (extf .f32 (truncf .bf16 h bitsLt_bf16_f32) bitsLt_bf16_f32)) bitsLt_bf16_f32)
      (constant S512x512 .f32 0x00000000#32))

/-- What a tile works on, from the values of its inputs and of the scratch. -/
def tileOf (x0 : Vec F S512x512 .f32) (x3 : Vec F S2x40x2048 .f32) (x4 : Vec F S1x512 .f32)
    (xs0 : Vec F S2x256x2048 .bf16) (xs1 : Vec F S2x2048x256 .bf16) (xs2 : Vec F S512x512 .bf16) (xs3 : Vec F S512x512 .bf16) (xs4 : Vec F S2x2x8x1024 .f32) : Tile F where
  hp := reorder xs2 x0
  hpb := truncf .bf16 (reorder xs2 x0) bitsLt_bf16_f32
  bw b c := View.ld xs0 (bwAt b c)
  cw b c := View.ld xs1 (cwAt b c)
  pw b k p := View.ld x3 (pwAt b k p)
  carry b p := View.ld xs4 (carryAt b p)
  dv b := View.ld x4 (dvAt b)
  unperm := xs3

theorem tb_inb (b : ℕ) : ∀ a, (![b % 2, 0, 0] : Fin 3 → Nat) a + S1x256x128.size a ≤ S2x256x128.size a := by
  intro a
  fin_cases a
  · show b % 2 + 1 ≤ 2
    omega
  · show 0 + 256 ≤ 256
    omega
  · show 0 + 128 ≤ 128
    omega

theorem tc_inb (b : ℕ) : ∀ a, (![b % 2, 0, 0] : Fin 3 → Nat) a + S1x128x256.size a ≤ S2x128x256.size a := by
  intro a
  fin_cases a
  · show b % 2 + 1 ≤ 2
    omega
  · show 0 + 128 ≤ 128
    omega
  · show 0 + 256 ≤ 256
    omega

theorem half_inb (b : ℕ) : ∀ a, (![0, 256 * (b % 2)] : Fin 2 → Nat) a + S512x256.size a ≤ S512x512.size a := by
  intro a
  fin_cases a
  · show 0 + 512 ≤ 512
    omega
  · show 256 * (b % 2) + 256 ≤ 512
    omega

abbrev tbAt (b : ℕ) : Rect S2x256x128 := Rect.unit ![b % 2, 0, 0] S1x256x128.size (tb_inb b)
abbrev tcAt (b : ℕ) : Rect S2x128x256 := Rect.unit ![b % 2, 0, 0] S1x128x256.size (tc_inb b)
abbrev halfAt (b : ℕ) : Rect S512x512 := Rect.unit ![0, 256 * (b % 2)] S512x256.size (half_inb b)

/-- What a tile leaves: its states, its output before the gate, its output, and the carried states. -/
def statesOf (v : View sig .tc .vmem S512x4096 .f32) (T : Tile F) : Vec F S512x4096 .f32 := View.canon (carried1 v T 64).1
def ysOf (v : View sig .tc .vmem S512x4096 .f32) (T : Tile F) : Vec F S512x512 .f32 :=
  View.canon (Val := Elt F) (e := .f32) [⟨halfAt 1, y1 v T⟩, ⟨halfAt 0, y0 v T⟩]
def zsOf (v : View sig .tc .vmem S512x4096 .f32) (T : Tile F) : Vec F S512x512 .bf16 :=
  View.canon (Val := Elt F) (e := .bf16) [⟨halfAt 1, outZ T (y1 v T)⟩, ⟨halfAt 0, outZ T (y0 v T)⟩]
def leaving (v : View sig .tc .vmem S512x4096 .f32) (T : Tile F) : List (View.Piece (Elt F) S2x2x8x1024 .f32) :=
  [⟨carryAt 0 1, leave (ends0 v T).2⟩, ⟨carryAt 0 0, leave (ends0 v T).1⟩]
def carryOf (v : View sig .tc .vmem S512x4096 .f32) (T : Tile F) : Vec F S2x2x8x1024 .f32 :=
  View.canon (Val := Elt F) (e := .f32)
    (⟨carryAt 1 1, leave (ends1 v T).2⟩ :: ⟨carryAt 1 0, leave (ends1 v T).1⟩ :: leaving v T)

/-- The same tile, its values read through the buffers they are staged in. -/
def tileB (x0 : Vec F S512x512 .f32) (x1 : Vec F S2x256x128 .bf16) (x2 : Vec F S2x128x256 .bf16) (x3 : Vec F S2x40x2048 .f32) (x4 : Vec F S1x512 .f32)
    (xs0 : Vec F S2x256x2048 .bf16) (xs1 : Vec F S2x2048x256 .bf16) (xs2 : Vec F S512x512 .bf16) (xs3 : Vec F S512x512 .bf16) (xs4 : Vec F S2x2x8x1024 .f32) : Tile F where
  hp := reorder (View.readAt (Elt F) arg12.view allAt.toLoadRect (harg12.unread xs2)) (View.readAt (Elt F) arg2.view allAt.toLoadRect (harg2.unread x0))
  hpb := truncf .bf16 (reorder (View.readAt (Elt F) arg12.view allAt.toLoadRect (harg12.unread xs2)) (View.readAt (Elt F) arg2.view allAt.toLoadRect (harg2.unread x0))) bitsLt_bf16_f32
  bw b c := View.readAt (Elt F) arg10.view (bwAt b c).toLoadRect (harg10.unread xs0)
  cw b c := View.readAt (Elt F) arg11.view (cwAt b c).toLoadRect (harg11.unread xs1)
  pw b k p := View.readAt (Elt F) arg5.view (pwAt b k p).toLoadRect (harg5.unread x3)
  carry b p := View.readAt (Elt F) arg14.view (carryAt b p).toLoadRect (harg14.unread xs4)
  dv b := View.readAt (Elt F) arg6.view (dvAt b).toLoadRect (harg6.unread x4)
  unperm := View.readAt (Elt F) arg13.view allAt.toLoadRect (harg13.unread xs3)

theorem tileB_eq (x0 : Vec F S512x512 .f32) (x1 : Vec F S2x256x128 .bf16) (x2 : Vec F S2x128x256 .bf16) (x3 : Vec F S2x40x2048 .f32) (x4 : Vec F S1x512 .f32)
    (xs0 : Vec F S2x256x2048 .bf16) (xs1 : Vec F S2x2048x256 .bf16) (xs2 : Vec F S512x512 .bf16) (xs3 : Vec F S512x512 .bf16) (xs4 : Vec F S2x2x8x1024 .f32) :
    tileB arg2 harg2 arg5 harg5 arg6 harg6 arg10 harg10 arg11 harg11 arg12 harg12 arg13 harg13 arg14 harg14 x0 x1 x2 x3 x4 xs0 xs1 xs2 xs3 xs4 = tileOf x0 x3 x4 xs0 xs1 xs2 xs3 xs4 := by
  unfold tileB tileOf
  simp only [View.readAt_eq_ld, Memref.IsWhole.read_unread]
  rw [View.ld_unit_lit _ xs2 (by decide), View.ld_unit_lit _ xs3 (by decide), View.ld_unit_lit _ x0 (by decide)]

/-- What the first tile stores into the scratch: both expanded matrices, both orders, and no state carried. -/
def fillB (x1 : Vec F S2x256x128 .bf16) : List (View.Piece (Elt F) S2x256x2048 .bf16) :=
  [⟨Rect.unit ![1, 0, 0] S1x256x2048.size inb_S2x256x2048_S1x256x2048_1_0_0, k0_pay3 (View.readAt (Elt F) arg3.view (tbAt 1).toLoadRect (harg3.unread x1))⟩,
    ⟨Rect.unit ![0, 0, 0] S1x256x2048.size inb_S2x256x2048_S1x256x2048_0_0_0, k0_pay3 (View.readAt (Elt F) arg3.view (tbAt 0).toLoadRect (harg3.unread x1))⟩]
def fillC (x2 : Vec F S2x128x256 .bf16) : List (View.Piece (Elt F) S2x2048x256 .bf16) :=
  [⟨Rect.unit ![1, 0, 0] S1x2048x256.size inb_S2x2048x256_S1x2048x256_1_0_0, k0_pay4 (View.readAt (Elt F) arg4.view (tcAt 1).toLoadRect (harg4.unread x2))⟩,
    ⟨Rect.unit ![0, 0, 0] S1x2048x256.size inb_S2x2048x256_S1x2048x256_0_0_0, k0_pay4 (View.readAt (Elt F) arg4.view (tcAt 0).toLoadRect (harg4.unread x2))⟩]
def order : Vec F S512x512 .bf16 := k0_pay13
def orderBack : Vec F S512x512 .bf16 :=
  k0_pay15 (iota .tc S512x512 32 [1] iota_S512x512_d1_w32) (iota .tc S512x512 32 [0] iota_S512x512_d0_w32) k0_pay14
def rest : List (View.Piece (Elt F) S2x2x8x1024 .f32) :=
  [⟨Rect.unit ![0, 0, 0, 0] S2x2x8x1024.size inb_S2x2x8x1024_S2x2x8x1024_0_0_0_0, k0_pay2⟩]

/-- What the first tile works on; `more` is what is already stored over the carried states when block 1 reads them. -/
def tileA (more : List (View.Piece (Elt F) S2x2x8x1024 .f32)) (x0 : Vec F S512x512 .f32) (x1 : Vec F S2x256x128 .bf16) (x2 : Vec F S2x128x256 .bf16) (x3 : Vec F S2x40x2048 .f32) (x4 : Vec F S1x512 .f32) : Tile F where
  hp := reorder (arg12.view.readCov [⟨allAt, order⟩] allAt.toLoadRect) (View.readAt (Elt F) arg2.view allAt.toLoadRect (harg2.unread x0))
  hpb := truncf .bf16 (reorder (arg12.view.readCov [⟨allAt, order⟩] allAt.toLoadRect) (View.readAt (Elt F) arg2.view allAt.toLoadRect (harg2.unread x0))) bitsLt_bf16_f32
  bw b c := arg10.view.readCov (fillB arg3 harg3 x1) (bwAt b c).toLoadRect
  cw b c := arg11.view.readCov (fillC arg4 harg4 x2) (cwAt b c).toLoadRect
  pw b k p := View.readAt (Elt F) arg5.view (pwAt b k p).toLoadRect (harg5.unread x3)
  carry b p := match b with
    | 0 => arg14.view.readCov rest (carryAt 0 p).toLoadRect
    | _ => arg14.view.readCov (more ++ rest) (carryAt 1 p).toLoadRect
  dv b := View.readAt (Elt F) arg6.view (dvAt b).toLoadRect (harg6.unread x4)
  unperm := arg13.view.readCov [⟨allAt, orderBack⟩] allAt.toLoadRect

/-- The first tile's stores over the carried states, before block 1 reads them. -/
abbrev leavingA (x0 : Vec F S512x512 .f32) (x1 : Vec F S2x256x128 .bf16) (x2 : Vec F S2x128x256 .bf16) (x3 : Vec F S2x40x2048 .f32) (x4 : Vec F S1x512 .f32) : List (View.Piece (Elt F) S2x2x8x1024 .f32) :=
  leaving arg7.view (tileA arg2 harg2 arg3 harg3 arg4 harg4 arg5 harg5 arg6 harg6 arg10 arg11 arg12 arg13 arg14 [] x0 x1 x2 x3 x4)

variable (hc0 : ¬cond0_0 i) (hc1 : cond0_0 i) (x0 : Vec F S512x512 .f32) (x1 : Vec F S2x256x128 .bf16) (x2 : Vec F S2x128x256 .bf16) (x3 : Vec F S2x40x2048 .f32) (x4 : Vec F S1x512 .f32)
  (xs0 : Vec F S2x256x2048 .bf16) (xs1 : Vec F S2x2048x256 .bf16) (xs2 : Vec F S512x512 .bf16) (xs3 : Vec F S512x512 .bf16) (xs4 : Vec F S2x2x8x1024 .f32)

theorem outB_states : out0_B_5 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0 xs1 xs2 xs3 xs4 = statesOf arg7.view (tileB arg2 harg2 arg5 harg5 arg6 harg6 arg10 harg10 arg11 harg11 arg12 harg12 arg13 harg13 arg14 harg14 x0 x1 x2 x3 x4 xs0 xs1 xs2 xs3 xs4) :=
  (View.read_writes_junk_eq_canon _ _).trans (congrArg View.canon (by sl_kernel_rfl))

theorem outB_ys : out0_B_6 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0 xs1 xs2 xs3 xs4 = ysOf arg7.view (tileB arg2 harg2 arg5 harg5 arg6 harg6 arg10 harg10 arg11 harg11 arg12 harg12 arg13 harg13 arg14 harg14 x0 x1 x2 x3 x4 xs0 xs1 xs2 xs3 xs4) :=
  (View.read_writes_junk_eq_canon _ _).trans (congrArg View.canon (by sl_kernel_rfl))

theorem outB_zs : out0_B_7 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0 xs1 xs2 xs3 xs4 = zsOf arg7.view (tileB arg2 harg2 arg5 harg5 arg6 harg6 arg10 harg10 arg11 harg11 arg12 harg12 arg13 harg13 arg14 harg14 x0 x1 x2 x3 x4 xs0 xs1 xs2 xs3 xs4) :=
  (View.read_writes_junk_eq_canon _ _).trans (congrArg View.canon (by sl_kernel_rfl))

theorem outB_carry : sout0_B_4 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0 xs1 xs2 xs3 xs4 = carryOf arg7.view (tileB arg2 harg2 arg5 harg5 arg6 harg6 arg10 harg10 arg11 harg11 arg12 harg12 arg13 harg13 arg14 harg14 x0 x1 x2 x3 x4 xs0 xs1 xs2 xs3 xs4) :=
  (View.read_writes_junk_eq_canon _ _).trans (congrArg View.canon (by sl_kernel_rfl))

theorem outA_states : out0_A_5 c i arg2 harg2 arg3 harg3 arg4 harg4 arg5 harg5 arg6 harg6 arg7 harg7 arg8 harg8 arg9 harg9 arg10 harg10 arg11 harg11 arg12 harg12 arg13 harg13 arg14 harg14 hc1 x0 x1 x2 x3 x4 =
    statesOf arg7.view (tileA arg2 harg2 arg3 harg3 arg4 harg4 arg5 harg5 arg6 harg6 arg10 arg11 arg12 arg13 arg14 (leavingA arg2 harg2 arg3 harg3 arg4 harg4 arg5 harg5 arg6 harg6 arg7 arg10 arg11 arg12 arg13 arg14 x0 x1 x2 x3 x4) x0 x1 x2 x3 x4) :=
  (View.read_writes_junk_eq_canon _ _).trans (congrArg View.canon (by sl_kernel_rfl))

theorem outA_ys : out0_A_6 c i arg2 harg2 arg3 harg3 arg4 harg4 arg5 harg5 arg6 harg6 arg7 harg7 arg8 harg8 arg9 harg9 arg10 harg10 arg11 harg11 arg12 harg12 arg13 harg13 arg14 harg14 hc1 x0 x1 x2 x3 x4 =
    ysOf arg7.view (tileA arg2 harg2 arg3 harg3 arg4 harg4 arg5 harg5 arg6 harg6 arg10 arg11 arg12 arg13 arg14 (leavingA arg2 harg2 arg3 harg3 arg4 harg4 arg5 harg5 arg6 harg6 arg7 arg10 arg11 arg12 arg13 arg14 x0 x1 x2 x3 x4) x0 x1 x2 x3 x4) :=
  (View.read_writes_junk_eq_canon _ _).trans (congrArg View.canon (by sl_kernel_rfl))

theorem outA_zs : out0_A_7 c i arg2 harg2 arg3 harg3 arg4 harg4 arg5 harg5 arg6 harg6 arg7 harg7 arg8 harg8 arg9 harg9 arg10 harg10 arg11 harg11 arg12 harg12 arg13 harg13 arg14 harg14 hc1 x0 x1 x2 x3 x4 =
    zsOf arg7.view (tileA arg2 harg2 arg3 harg3 arg4 harg4 arg5 harg5 arg6 harg6 arg10 arg11 arg12 arg13 arg14 (leavingA arg2 harg2 arg3 harg3 arg4 harg4 arg5 harg5 arg6 harg6 arg7 arg10 arg11 arg12 arg13 arg14 x0 x1 x2 x3 x4) x0 x1 x2 x3 x4) :=
  (View.read_writes_junk_eq_canon _ _).trans (congrArg View.canon (by sl_kernel_rfl))

theorem outA_carry : sout0_A_4 c i arg2 harg2 arg3 harg3 arg4 harg4 arg5 harg5 arg6 harg6 arg7 harg7 arg8 harg8 arg9 harg9 arg10 harg10 arg11 harg11 arg12 harg12 arg13 harg13 arg14 harg14 hc1 x0 x1 x2 x3 x4 =
    View.canon (Val := Elt F) (e := .f32)
      (⟨carryAt 1 1, leave (ends1 arg7.view (tileA arg2 harg2 arg3 harg3 arg4 harg4 arg5 harg5 arg6 harg6 arg10 arg11 arg12 arg13 arg14 (leavingA arg2 harg2 arg3 harg3 arg4 harg4 arg5 harg5 arg6 harg6 arg7 arg10 arg11 arg12 arg13 arg14 x0 x1 x2 x3 x4) x0 x1 x2 x3 x4)).2⟩ ::
        ⟨carryAt 1 0, leave (ends1 arg7.view (tileA arg2 harg2 arg3 harg3 arg4 harg4 arg5 harg5 arg6 harg6 arg10 arg11 arg12 arg13 arg14 (leavingA arg2 harg2 arg3 harg3 arg4 harg4 arg5 harg5 arg6 harg6 arg7 arg10 arg11 arg12 arg13 arg14 x0 x1 x2 x3 x4) x0 x1 x2 x3 x4)).1⟩ ::
        (leavingA arg2 harg2 arg3 harg3 arg4 harg4 arg5 harg5 arg6 harg6 arg7 arg10 arg11 arg12 arg13 arg14 x0 x1 x2 x3 x4 ++ rest)) :=
  (View.read_writes_junk_eq_canon _ _).trans (congrArg View.canon (by sl_kernel_rfl))

theorem outA_bw : sout0_A_0 c i arg2 harg2 arg3 harg3 arg4 harg4 arg5 harg5 arg6 harg6 arg7 harg7 arg8 harg8 arg9 harg9 arg10 harg10 arg11 harg11 arg12 harg12 arg13 harg13 arg14 harg14 hc1 x0 x1 x2 x3 x4 = View.canon (fillB arg3 harg3 x1) :=
  (View.read_writes_junk_eq_canon _ _).trans (congrArg View.canon (by sl_kernel_rfl))
theorem outA_cw : sout0_A_1 c i arg2 harg2 arg3 harg3 arg4 harg4 arg5 harg5 arg6 harg6 arg7 harg7 arg8 harg8 arg9 harg9 arg10 harg10 arg11 harg11 arg12 harg12 arg13 harg13 arg14 harg14 hc1 x0 x1 x2 x3 x4 = View.canon (fillC arg4 harg4 x2) :=
  (View.read_writes_junk_eq_canon _ _).trans (congrArg View.canon (by sl_kernel_rfl))
theorem outA_order : sout0_A_2 c i arg2 harg2 arg3 harg3 arg4 harg4 arg5 harg5 arg6 harg6 arg7 harg7 arg8 harg8 arg9 harg9 arg10 harg10 arg11 harg11 arg12 harg12 arg13 harg13 arg14 harg14 hc1 x0 x1 x2 x3 x4 = View.canon (Val := Elt F) (e := .bf16) [⟨allAt, order⟩] :=
  (View.read_writes_junk_eq_canon _ _).trans (congrArg View.canon (by sl_kernel_rfl))
theorem outA_back : sout0_A_3 c i arg2 harg2 arg3 harg3 arg4 harg4 arg5 harg5 arg6 harg6 arg7 harg7 arg8 harg8 arg9 harg9 arg10 harg10 arg11 harg11 arg12 harg12 arg13 harg13 arg14 harg14 hc1 x0 x1 x2 x3 x4 = View.canon (Val := Elt F) (e := .bf16) [⟨allAt, orderBack⟩] :=
  (View.read_writes_junk_eq_canon _ _).trans (congrArg View.canon (by sl_kernel_rfl))

end Cert.S5Scan
-- ==== Proof.ScanRead.lean ====
module

public import proofs.«01_k».proof.Proof.ScanBody
public import Idealize.ShloMosaic.Lib.Pointwise
public import Idealize.ShloMosaic.Lib.Pipeline.ValueKit

/-! # Reading the tile of states

A slab or a panel stored into the tile, and the tile read at one place of one block. -/

@[expose] public section

set_option maxRecDepth 16384

noncomputable section

namespace Cert.S5Scan

open Idealize.ShloMosaic Idealize.SL.Sem Cert.S5fIdeal Cert.S5fIdeal.Gen

variable {F : FTy → Type} [FloatOps F]

/-- The place of row `q`, column `k` of slab `j` of block `b`, in the real half (`p = 0`) or the imaginary one. -/
def cell (b p j : ℕ) (q : Fin 8) (k : Fin 1024) : S512x4096.Idx :=
  ix2 (n0 := 512) (n1 := 4096) ⟨8 * (j % 64) + q.val, by omega⟩ ⟨2048 * (b % 2) + 1024 * (p % 2) + k.val, by omega⟩

theorem cell_eq (b p j : ℕ) (q : Fin 8) (k : Fin 1024) :
    cell b p j q k = (slabAt b p j).emb (ix2 (n0 := 8) (n1 := 1024) q k) := by
  funext a
  apply Fin.ext
  match a with
  | ⟨0, _⟩ => show 8 * (j % 64) + q.val = 8 * (j % 64) + 1 * q.val; omega
  | ⟨1, _⟩ => show 2048 * (b % 2) + 1024 * (p % 2) + k.val = 2048 * (b % 2) + 1024 * (p % 2) + 1 * k.val; omega

/-- A stored slab, read back at a place. -/
theorem canon_slab (b p j : ℕ) (w : Slab F) (L : Stores F) (b' p' j' : ℕ) (q : Fin 8) (k : Fin 1024) :
    View.canon (Val := Elt F) (e := .f32) (⟨slabAt b p j, w⟩ :: L) (cell b' p' j' q k)
      = if b % 2 = b' % 2 ∧ p % 2 = p' % 2 ∧ j % 64 = j' % 64 then w (ix2 (n0 := 8) (n1 := 1024) q k)
        else View.canon L (cell b' p' j' q k) := by
  by_cases h : b % 2 = b' % 2 ∧ p % 2 = p' % 2 ∧ j % 64 = j' % 64
  · rw [if_pos h]
    have e : cell b' p' j' q k = cell b p j q k := by simp only [cell, h.1, h.2.1, h.2.2]
    rw [e, cell_eq]
    exact View.canon_cons_emb (slabAt b p j) w L _
  · rw [if_neg h, View.canon_cons_of_not_mem]
    intro hm
    have h0 := (Rect.mem_set_unit (inb := slab_inb b p j).mp hm) 0
    have h1 := (Rect.mem_set_unit (inb := slab_inb b p j).mp hm) 1
    have h0' : 8 * (j % 64) ≤ 8 * (j' % 64) + q.val ∧ 8 * (j' % 64) + q.val < 8 * (j % 64) + 8 := h0
    have h1' : 2048 * (b % 2) + 1024 * (p % 2) ≤ 2048 * (b' % 2) + 1024 * (p' % 2) + k.val ∧
        2048 * (b' % 2) + 1024 * (p' % 2) + k.val < 2048 * (b % 2) + 1024 * (p % 2) + 1024 := h1
    exact h ⟨by omega, by omega, by omega⟩

/-- A stored panel, read back at a place. -/
theorem canon_panel (b c : ℕ) (w : FVec F S512x512 .f32) (L : Stores F) (b' p' j' : ℕ) (q : Fin 8) (k : Fin 1024) :
    View.canon (Val := Elt F) (e := .f32) (⟨panelAt b c, w⟩ :: L) (cell b' p' j' q k)
      = if b % 2 = b' % 2 ∧ c % 4 = 2 * (p' % 2) + k.val / 512 then
          w (ix2 (n0 := 512) (n1 := 512) ⟨8 * (j' % 64) + q.val, by omega⟩ ⟨k.val % 512, by omega⟩)
        else View.canon L (cell b' p' j' q k) := by
  by_cases h : b % 2 = b' % 2 ∧ c % 4 = 2 * (p' % 2) + k.val / 512
  · rw [if_pos h]
    have e : cell b' p' j' q k = (panelAt b c).emb
        (ix2 (n0 := 512) (n1 := 512) ⟨8 * (j' % 64) + q.val, by omega⟩ ⟨k.val % 512, by omega⟩) := by
      funext a
      apply Fin.ext
      match a with
      | ⟨0, _⟩ => show 8 * (j' % 64) + q.val = 0 + 1 * (8 * (j' % 64) + q.val); omega
      | ⟨1, _⟩ =>
        show 2048 * (b' % 2) + 1024 * (p' % 2) + k.val = 2048 * (b % 2) + 512 * (c % 4) + 1 * (k.val % 512)
        omega
    rw [e]
    exact View.canon_cons_emb (panelAt b c) w L _
  · rw [if_neg h, View.canon_cons_of_not_mem]
    intro hm
    have h1 := (Rect.mem_set_unit (inb := panel_inb b c).mp hm) 1
    have h1' : 2048 * (b % 2) + 512 * (c % 4) ≤ 2048 * (b' % 2) + 1024 * (p' % 2) + k.val ∧
        2048 * (b' % 2) + 1024 * (p' % 2) + k.val < 2048 * (b % 2) + 512 * (c % 4) + 512 := h1
    exact h ⟨by omega, by omega⟩

variable (v : View sig .tc .vmem S512x4096 .f32)

/-- A loaded slab. -/
theorem load_apply (L : Stores F) (b p j : ℕ) (q : Fin 8) (k : Fin 1024) :
    load v L b p j (ix2 (n0 := 8) (n1 := 1024) q k) = View.canon L (cell b p j q k) := by
  have h := congrFun (shapeCast_id (s := S8x1024) (v.readCov L (slabAt b p j).toLoadRect) shapeCasts_S8x1024_S8x1024) (ix2 q k)
  refine h.trans ?_
  rw [View.readCov_eq_canon', cell_eq]
  rfl

/-- A loaded panel. -/
theorem readCov_panel (L : Stores F) (b c : ℕ) (r k : Fin 512) :
    v.readCov L (panelAt b c).toLoadRect (ix2 (n0 := 512) (n1 := 512) r k)
      = View.canon L (cell b (c % 4 / 2) (r.val / 8) ⟨r.val % 8, by omega⟩ ⟨512 * (c % 2) + k.val, by omega⟩) := by
  rw [View.readCov_eq_canon']
  refine congrArg (View.canon L) (funext fun a => Fin.ext ?_)
  match a with
  | ⟨0, _⟩ => show 0 + 1 * r.val = 8 * (r.val / 8 % 64) + r.val % 8; omega
  | ⟨1, _⟩ =>
    show 2048 * (b % 2) + 512 * (c % 4) + 1 * k.val = 2048 * (b % 2) + 1024 * (c % 4 / 2 % 2) + (512 * (c % 2) + k.val)
    omega

end Cert.S5Scan
-- ==== Proof.ScanSem.lean ====
module

public import proofs.«01_k».proof.Proof.ScanRead
public import proofs.«01_k».proof.Proof.ScanMath
public import Idealize.ShloMosaic.Lib.KernelVsHost

/-! # What the recursion over slabs computes

On real inputs the slabs hold the recurrence of `ScanMath`: inside the chunks from rest, then with what entered each
chunk added. -/

@[expose] public section

set_option maxRecDepth 16384

noncomputable section

namespace Cert.S5Scan

open Idealize.ShloMosaic Idealize.SL.Sem Cert.S5fIdeal Cert.S5fIdeal.Gen

abbrev sl (q : Fin 8) (k : Fin 1024) : S8x1024.Idx := ix2 (n0 := 8) (n1 := 1024) q k

/-- The two halves of a slab of complex numbers. -/
def Halves (x y : Slab Ideal) (f : Fin 8 → Fin 1024 → ℂ) : Prop := ∀ q k, IsC (x (sl q k)) (y (sl q k)) (f q k)

/-- The stores leave the numbers `g` in block `b`. -/
def Holds (L : Stores Ideal) (b : ℕ) (g : ℕ → Fin 8 → Fin 1024 → ℂ) : Prop :=
  ∀ j < 64, ∀ q k, IsC (View.canon L (cell b 0 j q k)) (View.canon L (cell b 1 j q k)) (g j q k)

variable (v : View sig .tc .vmem S512x4096 .f32) (T : Tile Ideal)

/-- What holds of the stores made before and survives every store of a step holds after every step. -/
theorem own_keeps (b : ℕ) (more : ℕ → Stores Ideal) (Q : Stores Ideal → Prop)
    (hs : ∀ p j w L, Q L → Q (⟨slabAt b p j, w⟩ :: L)) (hm : ∀ j L, Q L → Q (more j ++ L)) (L : Stores Ideal) (hL : Q L) :
    ∀ n, Q (own v T b more L n).1
  | 0 => hL
  | n + 1 => hm _ _ (hs _ _ _ _ (hs _ _ _ _ (own_keeps b more Q hs hm L hL n)))

theorem carried_keeps (b : ℕ) (more : ℕ → Stores Ideal) (Q : Stores Ideal → Prop)
    (hs : ∀ p j w L, Q L → Q (⟨slabAt b p j, w⟩ :: L)) (hm : ∀ j L, Q L → Q (more j ++ L)) (s : Run Ideal) (hL : Q s.1) :
    ∀ n, Q (carried v T b more s n).1
  | 0 => hL
  | n + 1 => hm _ _ (hs _ _ _ _ (hs _ _ _ _ (carried_keeps b more Q hs hm s hL n)))

/-- What a step's further stores bring holds after it. -/
theorem own_gets (b : ℕ) (more : ℕ → Stores Ideal) (Q : Stores Ideal → Prop)
    (hs : ∀ p j w L, Q L → Q (⟨slabAt b p j, w⟩ :: L)) (hm : ∀ j L, Q L → Q (more j ++ L)) (i : ℕ)
    (hi : ∀ L, Q (more i ++ L)) (L : Stores Ideal) : ∀ n, i < n → Q (own v T b more L n).1
  | 0, h => absurd h (by omega)
  | n + 1, h => by
    rcases Nat.lt_succ_iff_lt_or_eq.mp h with h | rfl
    · exact hm _ _ (hs _ _ _ _ (hs _ _ _ _ (own_gets b more Q hs hm i hi L n h)))
    · exact hi _

theorem carried_gets (b : ℕ) (more : ℕ → Stores Ideal) (Q : Stores Ideal → Prop)
    (hs : ∀ p j w L, Q L → Q (⟨slabAt b p j, w⟩ :: L)) (hm : ∀ j L, Q L → Q (more j ++ L)) (i : ℕ)
    (hi : ∀ L, Q (more i ++ L)) (s : Run Ideal) : ∀ n, i < n → Q (carried v T b more s n).1
  | 0, h => absurd h (by omega)
  | n + 1, h => by
    rcases Nat.lt_succ_iff_lt_or_eq.mp h with h | rfl
    · exact hm _ _ (hs _ _ _ _ (hs _ _ _ _ (carried_gets b more Q hs hm i hi s n h)))
    · exact hi _

/-- `more` stores nothing into block `b`. -/
def Away (b : ℕ) (more : ℕ → Stores Ideal) : Prop :=
  ∀ i L p j q k, View.canon (more i ++ L) (cell b p j q k) = View.canon L (cell b p j q k)

variable {v T}

theorem Holds.away {b : ℕ} {more : ℕ → Stores Ideal} (hm : Away b more) {L : Stores Ideal} {g : ℕ → Fin 8 → Fin 1024 → ℂ}
    (h : Holds L b g) (i : ℕ) : Holds (more i ++ L) b g := fun j hj q k => by
  rw [hm, hm]; exact h j hj q k

/-- Two stored halves of a slab replace it. -/
theorem Holds.put {b n : ℕ} (hn : n < 64) {x y : Slab Ideal} {L : Stores Ideal} {f : Fin 8 → Fin 1024 → ℂ}
    {g : ℕ → Fin 8 → Fin 1024 → ℂ} (hf : Halves x y f) (h : Holds L b g) :
    Holds (⟨slabAt b 1 n, y⟩ :: ⟨slabAt b 0 n, x⟩ :: L) b (fun j q k => if j = n then f q k else g j q k) := by
  intro j hj q k
  rw [canon_slab, canon_slab, canon_slab, canon_slab]
  beta_reduce
  by_cases e : j = n
  · subst e
    rw [if_neg (by omega), if_pos (by omega), if_pos (by omega), if_pos rfl]
    exact hf q k
  · rw [if_neg (by omega), if_neg (by omega), if_neg (by omega), if_neg (by omega), if_neg e]
    exact h j hj q k

theorem Holds.congr {b : ℕ} {L : Stores Ideal} {g g' : ℕ → Fin 8 → Fin 1024 → ℂ} (h : Holds L b g)
    (e : ∀ j < 64, ∀ q k, g j q k = g' j q k) : Holds L b g' := fun j hj q k => e j hj q k ▸ h j hj q k

/-- The two loaded halves of a slab. -/
theorem Holds.load {b : ℕ} {L : Stores Ideal} {g : ℕ → Fin 8 → Fin 1024 → ℂ} (h : Holds L b g) {n : ℕ} (hn : n < 64) :
    Halves (load v L b 0 n) (load v L b 1 n) (g n) := fun q k => by
  rw [load_apply, load_apply]; exact h n hn q k

/-- The same, the real half having been stored over meanwhile. -/
theorem Holds.load_over {b : ℕ} {L : Stores Ideal} {g : ℕ → Fin 8 → Fin 1024 → ℂ} (h : Holds L b g) {n : ℕ} (hn : n < 64)
    (w : Slab Ideal) : Halves (Cert.S5Scan.load v L b 0 n) (Cert.S5Scan.load v (⟨slabAt b 0 n, w⟩ :: L) b 1 n) (g n) :=
  fun q k => by
    rw [load_apply, load_apply, canon_slab, if_neg (by omega)]; exact h n hn q k

theorem Halves.step {u u' a a' x x' : Slab Ideal} {U A X : Fin 8 → Fin 1024 → ℂ} (hu : Halves u u' U) (ha : Halves a a' A)
    (hx : Halves x x' X) : Halves (stepRe u a a' x x') (stepIm u' a a' x x') (fun q k => U q k + A q k * X q k) :=
  fun q k => IsC.step (hu q k) (ha q k) (hx q k)

theorem Halves.mul {a a' x x' : Slab Ideal} {A X : Fin 8 → Fin 1024 → ℂ} (ha : Halves a a' A) (hx : Halves x x' X) :
    Halves (mulRe a a' x x') (mulIm a a' x x') (fun q k => A q k * X q k) := fun q k => IsC.mul (ha q k) (hx q k)

theorem Halves.add {a a' x x' : Slab Ideal} {A X : Fin 8 → Fin 1024 → ℂ} (ha : Halves a a' A) (hx : Halves x x' X) :
    Halves (addf a x) (addf a' x') (fun q k => A q k + X q k) := fun q k => IsC.add (ha q k) (hx q k)

theorem Halves.congr {x x' : Slab Ideal} {X X' : Fin 8 → Fin 1024 → ℂ} (h : Halves x x' X) (e : ∀ q k, X q k = X' q k) :
    Halves x x' X' := fun q k => e q k ▸ h q k

theorem Halves.zero : Halves (broadcast S8x1024 (Scalar.ofBits .f32 0x00000000#32))
    (broadcast S8x1024 (Scalar.ofBits .f32 0x00000000#32)) (fun _ _ => 0) := fun q k => by
  have h : (broadcast S8x1024 (Scalar.ofBits (F := Ideal) .f32 0x00000000#32)) (sl q k) = 0 := by pointwise
  rw [h]; exact IsC.zero

variable (v T)

/-- The steps inside the chunks: after `n`, the slabs before the `n`-th hold the states, the others what they held, and the
    running state is the last. -/
theorem own_spec (b : ℕ) (more : ℕ → Stores Ideal) (L : Stores Ideal) (A : Fin 8 → Fin 1024 → ℂ)
    (U : ℕ → Fin 8 → Fin 1024 → ℂ) (hA : Halves (pow T b 0 0) (pow T b 0 1) A) (hL : Holds L b U) (hm : Away b more) :
    ∀ n ≤ 64, Holds (own v T b more L n).1 b
        (fun j q k => if j < n then run (A q k) (fun i => U i q k) 0 (j + 1) else U j q k) ∧
      Halves (own v T b more L n).2.1 (own v T b more L n).2.2 (fun q k => run (A q k) (fun i => U i q k) 0 n)
  | 0, _ => ⟨hL.congr fun j hj q k => by simp, Halves.zero⟩
  | n + 1, hn => by
    obtain ⟨ih, ihx⟩ := own_spec b more L A U hA hL hm n (by omega)
    have hs := (((ih.load (v := v) (n := n) (by omega)).step hA ihx).congr
      (X' := fun q k => run (A q k) (fun i => U i q k) 0 (n + 1))
      fun q k => by rw [if_neg (by omega)]; rfl)
    refine ⟨((Holds.put (n := n) (by omega) hs ih).away hm n).congr fun j hj q k => ?_, hs⟩
    by_cases e : j = n
    · subst e; rw [if_pos rfl, if_pos (Nat.lt_succ_self j)]
    · rw [if_neg e]
      exact if_congr (by omega) rfl rfl

/-- The steps that add what entered the chunks. -/
theorem carried_spec (b : ℕ) (more : ℕ → Stores Ideal) (s : Run Ideal) (A C : Fin 8 → Fin 1024 → ℂ)
    (S : ℕ → Fin 8 → Fin 1024 → ℂ) (hA : Halves (pow T b 0 0) (pow T b 0 1) A) (hL : Holds s.1 b S)
    (hC : Halves s.2.1 s.2.2 C) (hm : Away b more) :
    ∀ n ≤ 64, Holds (carried v T b more s n).1 b
        (fun j q k => if j < n then S j q k + A q k ^ (j + 1) * C q k else S j q k) ∧
      Halves (carried v T b more s n).2.1 (carried v T b more s n).2.2 (fun q k => A q k ^ n * C q k)
  | 0, _ => ⟨hL.congr fun j hj q k => by simp, hC.congr fun q k => by simp⟩
  | n + 1, hn => by
    obtain ⟨ih, ihx⟩ := carried_spec b more s A C S hA hL hC hm n (by omega)
    have hs := (hA.mul ihx).congr (X' := fun q k => A q k ^ (n + 1) * C q k) fun q k => by ring
    have hp := (ih.load_over (v := v) (n := n) (by omega)
      (addf (load v (carried v T b more s n).1 b 0 n)
        (mulRe (pow T b 0 0) (pow T b 0 1) (carried v T b more s n).2.1 (carried v T b more s n).2.2))).add hs
    refine ⟨((Holds.put (n := n) (by omega) hp ih).away hm n).congr fun j hj q k => ?_, hs⟩
    by_cases e : j = n
    · subst e; rw [if_pos rfl, if_neg (lt_irrefl j), if_pos (Nat.lt_succ_self j)]
    · rw [if_neg e]
      exact if_congr (by omega) rfl rfl

/-! ## The chunks' ends -/

/-- The rotation by `amt` chunks. -/
theorem rotate_apply (amt : BitVec 32) (x : Slab Ideal) (q : Fin 8) (k : Fin 1024) :
    dynamicRotate 0 amt none x rotates_S8x1024_d0 (sl q k) = x (sl (back amt.toNat q) k) :=
  dynamicRotate_apply 0 amt x rotates_S8x1024_d0 (sl q k) (sl (back amt.toNat q) k) fun a => by
    fin_cases a <;> simp [back] <;> rfl

theorem Halves.rotate {x x' : Slab Ideal} {X : Fin 8 → Fin 1024 → ℂ} (h : Halves x x' X) (amt : BitVec 32) :
    Halves (dynamicRotate 0 amt none x rotates_S8x1024_d0) (dynamicRotate 0 amt none x' rotates_S8x1024_d0)
      (fun q k => X (back amt.toNat q) k) := fun q k => by
  rw [rotate_apply, rotate_apply]; exact h _ k

/-- What the rows of powers are: `A` itself, `B = A ^ 64` and two squares of it where there is a chunk so far before, and
    the first eight powers of `B`. -/
structure Powers (b : ℕ) (A : Fin 1024 → ℂ) : Prop where
  one : Halves (pow T b 0 0) (pow T b 0 1) (fun _ k => A k)
  r1 : Halves (pow T b 1 0) (pow T b 1 1) (fun q k => if 1 ≤ q.val then A k ^ 64 else 0)
  r2 : Halves (pow T b 2 0) (pow T b 2 1) (fun q k => if 2 ≤ q.val then (A k ^ 64) ^ 2 else 0)
  r4 : Halves (pow T b 3 0) (pow T b 3 1) (fun q k => if 4 ≤ q.val then (A k ^ 64) ^ 4 else 0)
  all : Halves (pow T b 4 0) (pow T b 4 1) (fun q k => (A k ^ 64) ^ (q.val + 1))

variable {T}

/-- The ends of the chunks, from each chunk's own end and the state before the tile. -/
theorem Powers.ends {b : ℕ} {A C : Fin 1024 → ℂ} (hp : Powers T b A) {E : ℕ → Fin 1024 → ℂ} {x : Slab Ideal × Slab Ideal}
    (hx : Halves x.1 x.2 (fun q k => E q.val k)) (hc : Halves (left T b 0) (left T b 1) (fun _ k => C k)) :
    Halves (Cert.S5Scan.ends T b x).1 (Cert.S5Scan.ends T b x).2
      (fun q k => run (A k ^ 64) (fun i => E i k) (C k) (q.val + 1)) := by
  have h1 := hx.step hp.r1 (hx.rotate 1#32)
  have h2 := h1.step hp.r2 (h1.rotate 2#32)
  have h4 := h2.step hp.r4 (h2.rotate 4#32)
  exact (h4.step hp.all hc).congr fun q k => double_three (A k ^ 64) (fun i => E i k) (C k) q

theorem first_apply (q : Fin 8) (k : Fin 1024) : first (sl q k) = if q = 0 then 1 else 0 := by
  unfold first
  pointwise
  fin_cases q <;> rfl

/-- What enters the chunks. -/
theorem Halves.enter {l l' x x' : Slab Ideal} {C : Fin 1024 → ℂ} {X : ℕ → Fin 1024 → ℂ}
    (hl : Halves l l' (fun _ k => C k)) (hx : Halves x x' (fun q k => X (q.val + 1) k)) (h0 : ∀ k, X 0 k = C k) :
    Halves (Cert.S5Scan.enter l x) (Cert.S5Scan.enter l' x') (fun q k => X q.val k) := fun q k => by
  have e : ∀ a b : Slab Ideal, Cert.S5Scan.enter a b (sl q k) = if q = 0 then a (sl q k) else b (sl (back 1 q) k) := by
    intro a b
    show (if first (sl q k) = 1 then a (sl q k) else dynamicRotate 0 1#32 none b rotates_S8x1024_d0 (sl q k)) = _
    rw [first_apply, rotate_apply]
    by_cases h : q = 0
    · simp [h]
    · simp only [if_neg h]; rfl
  rw [e, e]
  by_cases h : q = 0
  · rw [if_pos h, if_pos h]
    have := hl q k
    beta_reduce at this
    rw [← h0] at this
    subst h; exact this
  · rw [if_neg h, if_neg h]
    have := hx (back 1 q) k
    have hv : (back 1 q).val + 1 = q.val := by
      have : q.val ≠ 0 := fun hq => h (Fin.ext hq)
      show (q.val + 8 - 1 % 8) % 8 + 1 = q.val
      omega
    beta_reduce at this
    rw [hv] at this
    exact this

end Cert.S5Scan
-- ==== Proof.ScanTile.lean ====
module

public import proofs.«01_k».proof.Proof.ScanSem

/-! # The states of a tile

Both blocks of a tile, one after the other: the second block's inputs are stored while the first is scanned. What the
scan leaves is the recurrence over the tile's 512 positions from the state before it. -/

@[expose] public section

set_option maxRecDepth 16384

noncomputable section

namespace Cert.S5Scan

open Idealize.ShloMosaic Idealize.SL.Sem Cert.S5fIdeal Cert.S5fIdeal.Gen

variable (v : View sig .tc .vmem S512x4096 .f32) (T : Tile Ideal)

/-- The inputs times panel `c` of block `b`'s expanded matrix. -/
def proj (b c : ℕ) : FVec Ideal S512x512 .f32 :=
  matmul (φ₂ := .bf16) dot_S512x256_S256x512_S512x512_1_0_0_1_n_n none (cut T b)
    (shapeCast S256x512 (T.bw b c : Vec Ideal S1x256x512 .bf16) shapeCasts_S1x256x512_S256x512) (constant S512x512 .f32 0x00000000#32)

theorem project_eq (b c : ℕ) : project T b c = ⟨panelAt b c, proj T b c⟩ := rfl

/-- Row `q` of slab `j`, column `k` of a half: its place within its panel. -/
abbrev spot (j : ℕ) (q : Fin 8) (k : Fin 1024) : S512x512.Idx :=
  ix2 (n0 := 512) (n1 := 512) ⟨8 * (j % 64) + q.val, by omega⟩ ⟨k.val % 512, by omega⟩

/-- The stores leave panel `c` of block `b`'s inputs. -/
def HasPanel (b c : ℕ) (L : Stores Ideal) : Prop :=
  ∀ j < 64, ∀ p < 2, ∀ q k, 2 * p + k.val / 512 = c → View.canon L (cell b p j q k) = proj T b c (spot j q k)

variable {T}

theorem HasPanel.slab {b c b' p j : ℕ} (hb : b % 2 ≠ b' % 2) (w : Slab Ideal) {L : Stores Ideal} (h : HasPanel T b c L) :
    HasPanel T b c (⟨slabAt b' p j, w⟩ :: L) := fun j hj p hp q k e => by
  rw [canon_slab, if_neg (by omega)]; exact h j hj p hp q k e

theorem HasPanel.other {b c b' c' : ℕ} (hb : ¬(b % 2 = b' % 2 ∧ c % 4 = c' % 4)) {L : Stores Ideal} (h : HasPanel T b c L) :
    HasPanel T b c (project T b' c' :: L) := fun j hj p hp q k e => by
  rw [project_eq, canon_panel, if_neg (by omega)]; exact h j hj p hp q k e

theorem HasPanel.this {b c : ℕ} (hc : c < 4) (L : Stores Ideal) : HasPanel T b c (project T b c :: L) :=
  fun j hj p hp q k e => by
    rw [project_eq, canon_panel, if_pos (by omega)]

/-- What a block of a tile works on, in complex numbers: the coefficients `A`, the state before `C`, the inputs `U`. -/
structure Works (b : ℕ) (A C : Fin 1024 → ℂ) (U : ℕ → Fin 1024 → ℂ) : Prop where
  powers : Powers T b A
  left : Halves (left T b 0) (left T b 1) (fun _ k => C k)
  inputs : ∀ j < 64, ∀ q k, IsC (proj T b (k.val / 512) (spot j q k)) (proj T b (2 + k.val / 512) (spot j q k))
    (U (64 * q.val + j) k)

theorem Works.holds {b : ℕ} {A C : Fin 1024 → ℂ} {U : ℕ → Fin 1024 → ℂ} (h : Works (T := T) b A C U) {L : Stores Ideal}
    (hL : ∀ c < 4, HasPanel T b c L) : Holds L b (fun j q k => U (64 * q.val + j) k) := fun j hj q k => by
  rw [hL (k.val / 512) (by omega) j hj 0 (by omega) q k (by omega),
    hL (2 + k.val / 512) (by omega) j hj 1 (by omega) q k (by omega)]
  exact h.inputs j hj q k

/-- The states of the recurrence over the tile, in the slabs' order. -/
abbrev states (A C : Fin 1024 → ℂ) (U : ℕ → Fin 1024 → ℂ) : ℕ → Fin 8 → Fin 1024 → ℂ :=
  fun j q k => run (A k) (fun i => U i k) (C k) (64 * q.val + j + 1)

/-- One block: the chunks from rest, their ends, and what entered each. `own` and `carried` are what is stored besides. -/
theorem Works.block {b : ℕ} {A C : Fin 1024 → ℂ} {U : ℕ → Fin 1024 → ℂ} (h : Works (T := T) b A C U)
    {mo mc : ℕ → Stores Ideal} (hmo : Away b mo) (hmc : Away b mc) {L L' : Stores Ideal}
    (hL : Holds L b (fun j q k => U (64 * q.val + j) k))
    (hL' : ∀ g, Holds (own v T b mo L 64).1 b g → Holds L' b g) :
    Halves (ends T b (own v T b mo L 64).2).1 (ends T b (own v T b mo L 64).2).2
        (fun q k => run (A k) (fun i => U i k) (C k) (64 * (q.val + 1))) ∧
      Holds (carried v T b mc (L', enter (Cert.S5Scan.left T b 0) (ends T b (own v T b mo L 64).2).1,
        enter (Cert.S5Scan.left T b 1) (ends T b (own v T b mo L 64).2).2) 64).1 b (states A C U) := by
  obtain ⟨ho, hx⟩ := own_spec v T b mo L (fun _ k => A k) (fun j q k => U (64 * q.val + j) k) h.powers.one hL hmo 64 le_rfl
  have he := (h.powers.ends (C := C) (E := fun i k => run (A k) (fun n => U (64 * i + n) k) 0 64) hx h.left).congr
    (X' := fun q k => run (A k) (fun i => U i k) (C k) (64 * (q.val + 1)))
    fun q k => ends_run (A k) (fun i => U i k) (C k) (q.val + 1)
  refine ⟨he, ?_⟩
  have hc := Halves.enter (X := fun n k => run (A k) (fun i => U i k) (C k) (64 * n)) h.left he fun k => rfl
  have hf := (carried_spec v T b mc (L', _, _) (fun _ k => A k) _ _ h.powers.one (hL' _ ho) hc hmc 64 le_rfl).1
  refine hf.congr fun j hj q k => ?_
  beta_reduce
  rw [if_pos hj, if_pos hj]
  exact chunk_run (A k) (fun i => U i k) (C k) q.val (j + 1)

theorem away_nil (b : ℕ) : Away b (fun _ => []) := fun _ _ _ _ _ _ => rfl

/-- Panels of the other block are stored away from this one. -/
theorem away_panel {b b' : ℕ} (hb : b % 2 ≠ b' % 2) (c : ℕ) (L : Stores Ideal) (p j : ℕ) (q : Fin 8) (k : Fin 1024) :
    View.canon (project T b' c :: L) (cell b p j q k) = View.canon L (cell b p j q k) := by
  rw [project_eq, canon_panel, if_neg (by omega)]

theorem away_own : Away 0 (fun j => if j = 32 then [project T 1 0] else []) := fun i L p j q k => by
  beta_reduce
  split
  · exact away_panel (by decide) _ _ _ _ _ _
  · rfl

theorem away_carried : Away 0 (fun j => if j = 31 then [project T 1 2] else if j = 63 then [project T 1 3] else []) :=
  fun i L p j q k => by
    beta_reduce
    split
    · exact away_panel (by decide) _ _ _ _ _ _
    · split
      · exact away_panel (by decide) _ _ _ _ _ _
      · rfl

theorem base0_has : ∀ c < 4, HasPanel T 0 c (base0 T)
  | 0, _ => .other (by decide) (.other (by decide) (.other (by decide) (.this (by decide) [])))
  | 1, _ => .other (by decide) (.other (by decide) (.this (by decide) _))
  | 2, _ => .other (by decide) (.this (by decide) _)
  | 3, _ => .this (by decide) _
  | n + 4, h => absurd h (by omega)

/-- Block 0. -/
theorem Works.block0 {A C : Fin 1024 → ℂ} {U : ℕ → Fin 1024 → ℂ} (h : Works (T := T) 0 A C U) :
    Halves (ends0 v T).1 (ends0 v T).2 (fun q k => run (A k) (fun i => U i k) (C k) (64 * (q.val + 1))) ∧
      Holds (carried0 v T 64).1 0 (states A C U) :=
  h.block v away_own away_carried (h.holds base0_has) fun _ hg j hj q k => by
    rw [away_panel (by decide), away_panel (by decide)]; exact hg j hj q k

theorem carried0_has : ∀ c < 4, HasPanel T 1 c (carried0 v T 64).1 := by
  have hs : ∀ c p j w L, HasPanel T 1 c L → HasPanel T 1 c (⟨slabAt 0 p j, w⟩ :: L) := fun c p j w L h =>
    h.slab (by decide) w
  have ho : ∀ c : ℕ, c % 4 ≠ 0 → ∀ j L, HasPanel T 1 c L → HasPanel T 1 c ((if j = 32 then [project T 1 0] else []) ++ L) := by
    intro c hc j L h
    split
    · exact h.other (by omega)
    · exact h
  have hk : ∀ c : ℕ, c % 4 ≠ 2 → c % 4 ≠ 3 → ∀ j L, HasPanel T 1 c L → HasPanel T 1 c
      ((if j = 31 then [project T 1 2] else if j = 63 then [project T 1 3] else []) ++ L) := by
    intro c h2 h3 j L h
    split
    · exact h.other (by omega)
    · split
      · exact h.other (by omega)
      · exact h
  intro c hc
  have hcases : c = 0 ∨ c = 1 ∨ c = 2 ∨ c = 3 := by omega
  rcases hcases with rfl | rfl | rfl | rfl
  · refine carried_keeps v T 0 _ (HasPanel T 1 0) (hs 0) (hk 0 (by decide) (by decide)) _ (.other (by decide) ?_) 64
    refine own_gets v T 0 _ (HasPanel T 1 0) (hs 0) ?_ 32 (fun L => ?_) _ 64 (by decide)
    · intro j L h
      split
      · exact .this (by decide) _
      · exact h
    · rw [if_pos rfl]; exact .this (by decide) _
  · exact carried_keeps v T 0 _ (HasPanel T 1 1) (hs 1) (hk 1 (by decide) (by decide)) _ (.this (by decide) _) 64
  · refine carried_gets v T 0 _ (HasPanel T 1 2) (hs 2) ?_ 31 (fun L => ?_) _ 64 (by decide)
    · intro j L h
      split
      · exact .this (by decide) _
      · split
        · exact h.other (by decide)
        · exact h
    · rw [if_pos rfl]; exact .this (by decide) _
  · refine carried_gets v T 0 _ (HasPanel T 1 3) (hs 3) ?_ 63 (fun L => ?_) _ 64 (by decide)
    · intro j L h
      split
      · exact h.other (by decide)
      · split
        · exact .this (by decide) _
        · exact h
    · rw [if_neg (by decide), if_pos rfl]; exact .this (by decide) _

/-- Block 1. -/
theorem Works.block1 {A C : Fin 1024 → ℂ} {U : ℕ → Fin 1024 → ℂ} (h : Works (T := T) 1 A C U) :
    Halves (ends1 v T).1 (ends1 v T).2 (fun q k => run (A k) (fun i => U i k) (C k) (64 * (q.val + 1))) ∧
      Holds (carried1 v T 64).1 1 (states A C U) :=
  h.block v (away_nil 1) (away_nil 1) (h.holds (carried0_has v)) fun _ hg => hg

/-- Block 1's slabs leave block 0's states alone. -/
theorem holds_slab {g : ℕ → Fin 8 → Fin 1024 → ℂ} (p j : ℕ) (w : Slab Ideal) (L : Stores Ideal) (h : Holds L 0 g) :
    Holds (⟨slabAt 1 p j, w⟩ :: L) 0 g := fun j hj q k => by
  rw [canon_slab, canon_slab, if_neg (by omega), if_neg (by omega)]; exact h j hj q k

theorem Works.own1_holds {A C : Fin 1024 → ℂ} {U : ℕ → Fin 1024 → ℂ} (h : Works (T := T) 0 A C U) (n : ℕ) :
    Holds (own1 v T n).1 0 (states A C U) :=
  own_keeps v T 1 (fun _ => []) (fun L => Holds L 0 (states A C U)) holds_slab (fun _ _ h => h) _ (h.block0 v).2 n

theorem Works.carried1_holds {A C : Fin 1024 → ℂ} {U : ℕ → Fin 1024 → ℂ} (h : Works (T := T) 0 A C U) (n : ℕ) :
    Holds (carried1 v T n).1 0 (states A C U) :=
  carried_keeps v T 1 (fun _ => []) (fun L => Holds L 0 (states A C U)) holds_slab (fun _ _ h => h)
    ((own1 v T 64).1, enter (Cert.S5Scan.left T 1 0) (ends1 v T).1, enter (Cert.S5Scan.left T 1 1) (ends1 v T).2)
    (h.own1_holds v 64) n

end Cert.S5Scan
-- ==== Proof.ScanMasks.lean ====
module

public import proofs.«01_k».proof.Proof.ScanStep
public import proofs.«01_k».proof.Proof.ScanTile
public import Idealize.ShloMosaic.Lib.Tactic.WordOmega

/-! # The matrices of zeros and ones

The order of the rows, its inverse, and the two expanded matrices, read at an entry. -/

@[expose] public section

set_option maxRecDepth 16384
set_option backward.proofsInPublic true

noncomputable section

namespace Cert.S5Scan

open Idealize.ShloMosaic Idealize.SL.Sem Cert.S5fIdeal Cert.S5fIdeal.Gen

/-! ## Words -/

theorem word_inj {a b : ℕ} (ha : a < 2 ^ 32) (hb : b < 2 ^ 32) : BitVec.ofNat 32 a = BitVec.ofNat 32 b ↔ a = b :=
  ⟨fun h => by
    have := congrArg BitVec.toNat h
    rwa [BitVec.toNat_ofNat, BitVec.toNat_ofNat, Nat.mod_eq_of_lt ha, Nat.mod_eq_of_lt hb] at this, fun h => h ▸ rfl⟩

theorem eq_word {a b : ℕ} (ha : a < 2 ^ 32) (hb : b < 2 ^ 32) :
    IntOp.cmpi .eq (BitVec.ofNat 32 a) (BitVec.ofNat 32 b) = if a = b then 1 else 0 := by
  by_cases h : a = b
  · subst h; rw [if_pos rfl]; simp [IntOp.cmpi]
  · rw [if_neg h]
    have : ¬BitVec.ofNat 32 a = BitVec.ofNat 32 b := fun e => h ((word_inj ha hb).mp e)
    show BitVec.ofBool (BitVec.ofNat 32 a == BitVec.ofNat 32 b) = 0#1
    rw [beq_eq_false_iff_ne.mpr this]; rfl

/-- A bit as a number. -/
theorem bit_value (p : Prop) [Decidable p] :
    (FloatOps.sitofp FTy.f32 (BitVec.setWidth 32 (if p then 1 else 0 : BitVec 1)) : Ideal .f32) = if p then 1 else 0 := by
  by_cases h : p
  · rw [if_pos h, if_pos h]
    show (((BitVec.setWidth 32 (1 : BitVec 1)).toInt : ℝ) : EReal) = 1
    rw [show (BitVec.setWidth 32 (1 : BitVec 1)).toInt = 1 by decide]
    simp
  · rw [if_neg h, if_neg h]
    show (((BitVec.setWidth 32 (0 : BitVec 1)).toInt : ℝ) : EReal) = 0
    rw [show (BitVec.setWidth 32 (0 : BitVec 1)).toInt = 0 by decide]
    simp

theorem bits_and (p q : Prop) [Decidable p] [Decidable q] :
    IntOp.andi (if p then 1 else 0 : BitVec 1) (if q then 1 else 0) = if p ∧ q then 1 else 0 := by
  by_cases hp : p <;> by_cases hq : q <;> simp [hp, hq, IntOp.andi]

theorem at_order : ∀ r : Fin 512,
    IntOp.addi (IntOp.shli ArithUnit.vector (IntOp.andi (BitVec.ofNat 32 r.val) 7#32) 6#32)
      (IntOp.shrsi ArithUnit.vector (BitVec.ofNat 32 r.val) 3#32) = BitVec.ofNat 32 (64 * (r.val % 8) + r.val / 8) := by
  decide +kernel
theorem shift4 : ∀ r : Fin 256, IntOp.shrsi ArithUnit.vector (BitVec.ofNat 32 r.val) 4#32 = BitVec.ofNat 32 (r.val / 16) := by
  decide +kernel
theorem shift6 : ∀ r : Fin 128, IntOp.shrsi ArithUnit.vector (BitVec.ofNat 32 r.val) 6#32 = BitVec.ofNat 32 (r.val / 64) := by
  decide +kernel
theorem shift10 : ∀ c : Fin 2048, IntOp.shrsi ArithUnit.vector (BitVec.ofNat 32 c.val) 10#32 = BitVec.ofNat 32 (c.val / 1024) := by
  decide +kernel
theorem low6 : ∀ c : Fin 2048, IntOp.andi (BitVec.ofNat 32 c.val) 63#32 = BitVec.ofNat 32 (c.val % 64) := by
  decide +kernel
theorem group_of : ∀ c : Fin 2048, IntOp.shrsi ArithUnit.vector (IntOp.andi (BitVec.ofNat 32 c.val) 1023#32) 6#32
    = BitVec.ofNat 32 (c.val % 1024 / 64) := by
  decide +kernel

/-! ## The order of the rows -/

theorem order_apply (r k : Fin 512) : order (F := Ideal) (ix2 (n0 := 512) (n1 := 512) r k)
    = if k.val = 64 * (r.val % 8) + r.val / 8 then 1 else 0 := by
  unfold order k0_pay13
  pointwise
  rw [at_order, eq_word (by omega) (by omega), bit_value]

theorem orderBack_apply (r k : Fin 512) : orderBack (F := Ideal) (ix2 (n0 := 512) (n1 := 512) r k)
    = if r.val = 64 * (k.val % 8) + k.val / 8 then 1 else 0 := by
  unfold orderBack k0_pay15 k0_pay14
  pointwise
  rw [at_order, eq_word (by omega) (by omega), bit_value]

/-! ## The expanded matrices -/

/-- Where a column of the compact matrix goes. -/
theorem copied (x : Fin 128) (c : Fin 2048) :
    (FloatOps.sitofp FTy.f32 (BitVec.setWidth 32 (IntOp.andi
        (IntOp.cmpi CmpIPredicate.eq (IntOp.shrsi ArithUnit.vector (BitVec.ofNat 32 x.val) 6#32)
          (IntOp.shrsi ArithUnit.vector (BitVec.ofNat 32 c.val) 10#32))
        (IntOp.cmpi CmpIPredicate.eq (IntOp.andi (BitVec.ofNat 32 x.val) 63#32)
          (IntOp.andi (BitVec.ofNat 32 c.val) 63#32)))) : Ideal .f32)
      = if x = ⟨64 * (c.val / 1024) + c.val % 64, by omega⟩ then 1 else 0 := by
  rw [shift6, shift10, low6, low6 ⟨x.val, by omega⟩, eq_word (by omega) (by omega), eq_word (by omega) (by omega), bits_and,
    bit_value]
  refine if_congr ?_ rfl rfl
  rw [Fin.ext_iff]
  show (x.val / 64 = c.val / 1024 ∧ x.val % 64 = c.val % 64) ↔ x.val = 64 * (c.val / 1024) + c.val % 64
  omega

theorem on_diagonal (r : Fin 256) (c : Fin 2048) (x : EReal) :
    Scalar.select (IntOp.cmpi CmpIPredicate.eq (IntOp.shrsi ArithUnit.vector (BitVec.ofNat 32 r.val) 4#32)
        (IntOp.shrsi ArithUnit.vector (IntOp.andi (BitVec.ofNat 32 c.val) 1023#32) 6#32)) x 0
      = if r.val / 16 = c.val % 1024 / 64 then x else 0 := by
  rw [shift4, group_of, eq_word (by omega) (by omega)]
  by_cases h : r.val / 16 = c.val % 1024 / 64
  · rw [if_pos h, if_pos h]; rfl
  · rw [if_neg h, if_neg h]; rfl

theorem pay3_apply (t : Vec Ideal S1x256x128 .bf16) (r : Fin 256) (c : Fin 2048) :
    k0_pay3 t (ix3 (n0 := 1) (n1 := 256) (n2 := 2048) 0 r c)
      = if r.val / 16 = c.val % 1024 / 64 then
          t (ix3 (n0 := 1) (n1 := 256) (n2 := 128) 0 r ⟨64 * (c.val / 1024) + c.val % 64, by omega⟩) else 0 := by
  unfold k0_pay3
  pointwise
  rw [on_diagonal]
  refine if_congr Iff.rfl ?_ rfl
  simp only [copied, mul_ite, mul_one, mul_zero]
  rw [Finset.sum_ite_eq' Finset.univ, if_pos (Finset.mem_univ _)]

theorem pay4_apply (t : Vec Ideal S1x128x256 .bf16) (c : Fin 2048) (r : Fin 256) :
    k0_pay4 t (ix3 (n0 := 1) (n1 := 2048) (n2 := 256) 0 c r)
      = if r.val / 16 = c.val % 1024 / 64 then
          t (ix3 (n0 := 1) (n1 := 128) (n2 := 256) 0 ⟨64 * (c.val / 1024) + c.val % 64, by omega⟩ r) else 0 := by
  unfold k0_pay4
  pointwise
  rw [on_diagonal]
  refine if_congr Iff.rfl ?_ rfl
  simp only [copied, ite_mul, one_mul, zero_mul]
  rw [Finset.sum_ite_eq' Finset.univ, if_pos (Finset.mem_univ _)]

/-! ## The reordered rows -/

/-- Row `r` of the reordered tile is position `64 (r mod 8) + r / 8`. -/
def seat (r : Fin 512) : Fin 512 := ⟨64 * (r.val % 8) + r.val / 8, by omega⟩
/-- Where a position is seated. -/
def row (n : Fin 512) : Fin 512 := ⟨8 * (n.val % 64) + n.val / 64, by omega⟩

theorem reorder_apply (h : Vec Ideal S512x512 .f32) (hr : ∀ i, ∃ x : ℝ, h i = (x : EReal)) (r k : Fin 512) :
    reorder order h (ix2 (n0 := 512) (n1 := 512) r k) = h (ix2 (n0 := 512) (n1 := 512) (seat r) k) := by
  have e : ∀ n : Fin 512, (n.val = 64 * (r.val % 8) + r.val / 8) = (n = seat r) := fun n => propext
    ⟨fun h => Fin.ext h, fun h => congrArg Fin.val h⟩
  have z : ∀ i, h i - h i = 0 := fun i => by
    obtain ⟨x, hx⟩ := hr i
    rw [hx, ← EReal.coe_sub, sub_self, EReal.coe_zero]
  unfold reorder
  pointwise
  simp only [order_apply, e, ite_mul, one_mul, zero_mul, z]
  simp

/-- The gate, on a number. -/
def gelu (y : EReal) : EReal :=
  Ideal.ofBits FTy.f32 0x3F000000#32 * y *
    (1 + Ideal.tanh (Ideal.ofBits FTy.f32 0x3F4C422A#32 * (y + Ideal.ofBits FTy.f32 0x3D372713#32 * y * y * y)))

theorem outZ_apply (T : Tile Ideal) (hT : T.unperm = orderBack) (y : FVec Ideal S512x256 .f32) (n : Fin 512) (k : Fin 256) :
    outZ T y (ix2 (n0 := 512) (n1 := 256) n k) = gelu (y (ix2 (n0 := 512) (n1 := 256) (row n) k)) := by
  have e : ∀ r : Fin 512, (n.val = 64 * (r.val % 8) + r.val / 8) = (r = row n) := fun r => propext
    ⟨fun h => Fin.ext (by show r.val = 8 * (n.val % 64) + n.val / 64; omega),
      fun h => by have := congrArg Fin.val h; simp only [row] at this; omega⟩
  unfold outZ gate lit
  pointwise
  simp only [hT, orderBack_apply, e, ite_mul, one_mul, zero_mul]
  rw [Finset.sum_ite_eq' Finset.univ, if_pos (Finset.mem_univ _)]
  rfl

theorem readout_apply (v : View sig .tc .vmem S512x4096 .f32) (T : Tile Ideal) (L : Stores Ideal) (b c : ℕ) (r : Fin 512)
    (k : Fin 256) : readout v T L b c (ix2 (n0 := 512) (n1 := 256) r k)
      = ∑ x : Fin 512, View.canon L (cell b (c % 4 / 2) (r.val / 8) ⟨r.val % 8, by omega⟩ ⟨512 * (c % 2) + x.val, by omega⟩)
          * T.cw b c (ix3 (n0 := 1) (n1 := 512) (n2 := 256) 0 x k) := by
  unfold readout
  pointwise
  exact Finset.sum_congr rfl fun x _ => by rw [readCov_panel]

end Cert.S5Scan
-- ==== Proof.ScanFill.lean ====
module

public import proofs.«01_k».proof.Proof.Rows
public import proofs.«01_k».proof.Proof.ScanMasks

/-! # The scratch the tiles share

What the first tile stores into the scratch, read at an entry; with it every tile is `tileOf` of its own inputs and of
the scratch. What a tile leaves for the next one, read at an entry. -/

@[expose] public section

set_option maxRecDepth 16384
set_option backward.proofsInPublic true

noncomputable section

namespace Cert.S5Scan

open Idealize.ShloMosaic Idealize.SL.Sem Cert.S5fIdeal Cert.S5fIdeal.Gen

/-! ## The expanded matrices -/

@[irreducible] def wideB (x1 : Vec Ideal S2x256x128 .bf16) : Vec Ideal S2x256x2048 .bf16 :=
  View.canon (Val := Elt Ideal) (e := .bf16)
    [⟨Rect.unit ![1, 0, 0] S1x256x2048.size inb_S2x256x2048_S1x256x2048_1_0_0, k0_pay3 (View.ld x1 (tbAt 1))⟩,
      ⟨Rect.unit ![0, 0, 0] S1x256x2048.size inb_S2x256x2048_S1x256x2048_0_0_0, k0_pay3 (View.ld x1 (tbAt 0))⟩]

@[irreducible] def wideC (x2 : Vec Ideal S2x128x256 .bf16) : Vec Ideal S2x2048x256 .bf16 :=
  View.canon (Val := Elt Ideal) (e := .bf16)
    [⟨Rect.unit ![1, 0, 0] S1x2048x256.size inb_S2x2048x256_S1x2048x256_1_0_0, k0_pay4 (View.ld x2 (tcAt 1))⟩,
      ⟨Rect.unit ![0, 0, 0] S1x2048x256.size inb_S2x2048x256_S1x2048x256_0_0_0, k0_pay4 (View.ld x2 (tcAt 0))⟩]

theorem planesB (w1 w0 : FVec Ideal S1x256x2048 .bf16) (b : Fin 2) (r : Fin 256) (k : Fin 2048) :
    View.canon (Val := Elt Ideal) (e := .bf16)
        [⟨Rect.unit (s := S2x256x2048) ![1, 0, 0] S1x256x2048.size inb_S2x256x2048_S1x256x2048_1_0_0, w1⟩, ⟨Rect.unit (s := S2x256x2048) ![0, 0, 0] S1x256x2048.size inb_S2x256x2048_S1x256x2048_0_0_0, w0⟩]
        (ix3 (n0 := 2) (n1 := 256) (n2 := 2048) b r k)
      = if b.val = 1 then w1 (ix3 (n0 := 1) (n1 := 256) (n2 := 2048) 0 r k) else w0 (ix3 (n0 := 1) (n1 := 256) (n2 := 2048) 0 r k) := by
  refine (Cert.Proof.canon_plane _ _ _ b r k).trans ?_
  by_cases h : b.val = 1
  · rw [if_pos h, if_pos h]
  · rw [if_neg h, if_neg h]
    exact (Cert.Proof.canon_plane (Val := Elt Ideal) (e := .bf16) (n := 2) (l := 256) (k := 2048) (q := 0) _ w0 [] b r k).trans (if_pos (by omega))

theorem wideB_apply (x1 : Vec Ideal S2x256x128 .bf16) (b : Fin 2) (r : Fin 256) (k : Fin 2048) :
    wideB x1 (ix3 (n0 := 2) (n1 := 256) (n2 := 2048) b r k)
      = if r.val / 16 = k.val % 1024 / 64 then
          x1 (ix3 (n0 := 2) (n1 := 256) (n2 := 128) b r ⟨64 * (k.val / 1024) + k.val % 64, by omega⟩) else 0 := by
  have e : ∀ b : Fin 2, k0_pay3 (View.ld x1 (tbAt b.val)) (ix3 (n0 := 1) (n1 := 256) (n2 := 2048) 0 r k)
      = if r.val / 16 = k.val % 1024 / 64 then
          x1 (ix3 (n0 := 2) (n1 := 256) (n2 := 128) b r ⟨64 * (k.val / 1024) + k.val % 64, by omega⟩) else 0 := by
    intro b
    rw [pay3_apply]
    refine if_congr Iff.rfl (View.ld_unit_apply_of x1 _ _ _ _ _ fun a => ?_) rfl
    match a with
    | ⟨0, _⟩ => show b.val = b.val % 2 + 0; omega
    | ⟨1, _⟩ => show r.val = 0 + r.val; omega
    | ⟨2, _⟩ => show 64 * (k.val / 1024) + k.val % 64 = 0 + (64 * (k.val / 1024) + k.val % 64); omega
  unfold wideB
  refine (planesB _ _ b r k).trans ?_
  fin_cases b
  · exact e 0
  · exact e 1

theorem planesC (w1 w0 : FVec Ideal S1x2048x256 .bf16) (b : Fin 2) (k : Fin 2048) (r : Fin 256) :
    View.canon (Val := Elt Ideal) (e := .bf16)
        [⟨Rect.unit (s := S2x2048x256) ![1, 0, 0] S1x2048x256.size inb_S2x2048x256_S1x2048x256_1_0_0, w1⟩, ⟨Rect.unit (s := S2x2048x256) ![0, 0, 0] S1x2048x256.size inb_S2x2048x256_S1x2048x256_0_0_0, w0⟩]
        (ix3 (n0 := 2) (n1 := 2048) (n2 := 256) b k r)
      = if b.val = 1 then w1 (ix3 (n0 := 1) (n1 := 2048) (n2 := 256) 0 k r) else w0 (ix3 (n0 := 1) (n1 := 2048) (n2 := 256) 0 k r) := by
  refine (Cert.Proof.canon_plane _ _ _ b k r).trans ?_
  by_cases h : b.val = 1
  · rw [if_pos h, if_pos h]
  · rw [if_neg h, if_neg h]
    exact (Cert.Proof.canon_plane (Val := Elt Ideal) (e := .bf16) (n := 2) (l := 2048) (k := 256) (q := 0) _ w0 [] b k r).trans (if_pos (by omega))

theorem wideC_apply (x2 : Vec Ideal S2x128x256 .bf16) (b : Fin 2) (k : Fin 2048) (r : Fin 256) :
    wideC x2 (ix3 (n0 := 2) (n1 := 2048) (n2 := 256) b k r)
      = if r.val / 16 = k.val % 1024 / 64 then
          x2 (ix3 (n0 := 2) (n1 := 128) (n2 := 256) b ⟨64 * (k.val / 1024) + k.val % 64, by omega⟩ r) else 0 := by
  have e : ∀ b : Fin 2, k0_pay4 (View.ld x2 (tcAt b.val)) (ix3 (n0 := 1) (n1 := 2048) (n2 := 256) 0 k r)
      = if r.val / 16 = k.val % 1024 / 64 then
          x2 (ix3 (n0 := 2) (n1 := 128) (n2 := 256) b ⟨64 * (k.val / 1024) + k.val % 64, by omega⟩ r) else 0 := by
    intro b
    rw [pay4_apply]
    refine if_congr Iff.rfl (View.ld_unit_apply_of x2 _ _ _ _ _ fun a => ?_) rfl
    match a with
    | ⟨0, _⟩ => show b.val = b.val % 2 + 0; omega
    | ⟨1, _⟩ => show 64 * (k.val / 1024) + k.val % 64 = 0 + (64 * (k.val / 1024) + k.val % 64); omega
    | ⟨2, _⟩ => show r.val = 0 + r.val; omega
  unfold wideC
  refine (planesC _ _ b k r).trans ?_
  fin_cases b
  · exact e 0
  · exact e 1

/-! ## The first tile -/

variable (c : Dev nD) (i : grid0.Coords)
  (arg2 : Memref sig .tc .vmem S512x512 .f32) (harg2 : arg2.IsWhole)
  (arg3 : Memref sig .tc .vmem S2x256x128 .bf16) (harg3 : arg3.IsWhole)
  (arg4 : Memref sig .tc .vmem S2x128x256 .bf16) (harg4 : arg4.IsWhole)
  (arg5 : Memref sig .tc .vmem S2x40x2048 .f32) (harg5 : arg5.IsWhole)
  (arg6 : Memref sig .tc .vmem S1x512 .f32) (harg6 : arg6.IsWhole)
  (arg7 : Memref sig .tc .vmem S512x4096 .f32)
  (arg10 : Memref sig .tc .vmem S2x256x2048 .bf16)
  (arg11 : Memref sig .tc .vmem S2x2048x256 .bf16)
  (arg12 : Memref sig .tc .vmem S512x512 .bf16)
  (arg13 : Memref sig .tc .vmem S512x512 .bf16)
  (arg14 : Memref sig .tc .vmem S2x2x8x1024 .f32)

theorem fillB_eq (x1 : Vec Ideal S2x256x128 .bf16) : View.canon (fillB arg3 harg3 x1) = wideB x1 := by
  unfold fillB wideB
  simp only [View.readAt_eq_ld, Memref.IsWhole.read_unread]

theorem fillC_eq (x2 : Vec Ideal S2x128x256 .bf16) : View.canon (fillC arg4 harg4 x2) = wideC x2 := by
  unfold fillC wideC
  simp only [View.readAt_eq_ld, Memref.IsWhole.read_unread]

theorem canon_all (w : Vec Ideal S512x512 .bf16) :
    View.canon (Val := Elt Ideal) (e := .bf16) [⟨allAt, w⟩] = w := by
  funext i
  have h := View.canon_cons_emb (Val := Elt Ideal) (e := .bf16) allAt w [] i
  rwa [show allAt.emb i = i from funext fun a => Fin.ext (by
    match a with
    | ⟨0, _⟩ => show 0 + 1 * _ = _; omega
    | ⟨1, _⟩ => show 0 + 1 * _ = _; omega)] at h

/-- No state carried. -/
def none4 : Vec Ideal S2x2x8x1024 .f32 := fun _ => 0

theorem rest_eq : View.canon (rest (F := Ideal)) = none4 := by
  unfold rest
  funext i
  have h := View.canon_cons_emb (Val := Elt Ideal) (e := .f32)
    (Rect.unit ![0, 0, 0, 0] S2x2x8x1024.size inb_S2x2x8x1024_S2x2x8x1024_0_0_0_0) (k0_pay2 (F := Ideal)) [] i
  rw [show (Rect.unit ![0, 0, 0, 0] S2x2x8x1024.size inb_S2x2x8x1024_S2x2x8x1024_0_0_0_0).emb i = i from
    funext fun a => Fin.ext (by
      match a with
      | ⟨0, _⟩ => show 0 + 1 * _ = _; omega
      | ⟨1, _⟩ => show 0 + 1 * _ = _; omega
      | ⟨2, _⟩ => show 0 + 1 * _ = _; omega
      | ⟨3, _⟩ => show 0 + 1 * _ = _; omega)] at h
  refine h.trans ?_
  unfold k0_pay2 none4
  pointwise

/-- A stored slab of carried states, read back at a place. -/
theorem canon_carry (b p : ℕ) (w : FVec Ideal S1x1x8x1024 .f32) (L : List (View.Piece (Elt Ideal) S2x2x8x1024 .f32))
    (b' p' : Fin 2) (q : Fin 8) (k : Fin 1024) :
    View.canon (Val := Elt Ideal) (e := .f32) (⟨carryAt b p, w⟩ :: L) (ix4 (n0 := 2) (n1 := 2) (n2 := 8) (n3 := 1024) b' p' q k)
      = if b % 2 = b'.val ∧ p % 2 = p'.val then w (ix4 (n0 := 1) (n1 := 1) (n2 := 8) (n3 := 1024) 0 0 q k)
        else View.canon L (ix4 (n0 := 2) (n1 := 2) (n2 := 8) (n3 := 1024) b' p' q k) := by
  by_cases h : b % 2 = b'.val ∧ p % 2 = p'.val
  · rw [if_pos h]
    have e : (ix4 (n0 := 2) (n1 := 2) (n2 := 8) (n3 := 1024) b' p' q k : S2x2x8x1024.Idx)
        = (carryAt b p).emb (ix4 (n0 := 1) (n1 := 1) (n2 := 8) (n3 := 1024) 0 0 q k) := by
      funext a
      apply Fin.ext
      match a with
      | ⟨0, _⟩ => show b'.val = b % 2 + 1 * 0; omega
      | ⟨1, _⟩ => show p'.val = p % 2 + 1 * 0; omega
      | ⟨2, _⟩ => show q.val = 0 + 1 * q.val; omega
      | ⟨3, _⟩ => show k.val = 0 + 1 * k.val; omega
    rw [e]
    exact View.canon_cons_emb (Val := Elt Ideal) (e := .f32) (carryAt b p) w L
      (ix4 (n0 := 1) (n1 := 1) (n2 := 8) (n3 := 1024) 0 0 q k)
  · rw [if_neg h, View.canon_cons_of_not_mem]
    intro hm
    have h0 := (Rect.mem_set_unit (inb := carry_inb b p).mp hm) 0
    have h1 := (Rect.mem_set_unit (inb := carry_inb b p).mp hm) 1
    have h0' : b % 2 ≤ b'.val ∧ b'.val < b % 2 + 1 := h0
    have h1' : p % 2 ≤ p'.val ∧ p'.val < p % 2 + 1 := h1
    exact h ⟨by omega, by omega⟩

/-- A slab of carried states, loaded. -/
theorem ld_carry (X : Vec Ideal S2x2x8x1024 .f32) (b p : Fin 2) (q : Fin 8) (k : Fin 1024) :
    View.ld X (carryAt b.val p.val) (ix4 (n0 := 1) (n1 := 1) (n2 := 8) (n3 := 1024) 0 0 q k)
      = X (ix4 (n0 := 2) (n1 := 2) (n2 := 8) (n3 := 1024) b p q k) :=
  View.ld_unit_apply_of X _ _ _ _ _ fun a => by
    match a with
    | ⟨0, _⟩ => show b.val = b.val % 2 + 0; omega
    | ⟨1, _⟩ => show p.val = p.val % 2 + 0; omega
    | ⟨2, _⟩ => show q.val = 0 + q.val; omega
    | ⟨3, _⟩ => show k.val = 0 + k.val; omega

/-- The state before a tile, at an entry. -/
theorem left_apply (T : Tile Ideal) (b p : ℕ) (q : Fin 8) (k : Fin 1024) :
    left T b p (ix2 (n0 := 8) (n1 := 1024) q k) = T.carry b p (ix4 (n0 := 1) (n1 := 1) (n2 := 8) (n3 := 1024) 0 0 q k) := by
  unfold left
  pointwise

/-- What a tile leaves: the last chunk's end. -/
theorem leave_apply (x : Slab Ideal) (q : Fin 8) (k : Fin 1024) :
    leave x (ix4 (n0 := 1) (n1 := 1) (n2 := 8) (n3 := 1024) 0 0 q k) = x (ix2 (n0 := 8) (n1 := 1024) 7 k) := by
  unfold leave
  pointwise

/-- The first tile's work. -/
theorem tileA_eq (more : List (View.Piece (Elt Ideal) S2x2x8x1024 .f32))
    (hmore : ∀ (p : ℕ) j, View.canon (more ++ rest) ((carryAt 1 p).idx j) = 0)
    (x0 : Vec Ideal S512x512 .f32) (x1 : Vec Ideal S2x256x128 .bf16) (x2 : Vec Ideal S2x128x256 .bf16)
    (x3 : Vec Ideal S2x40x2048 .f32) (x4 : Vec Ideal S1x512 .f32) :
    tileA arg2 harg2 arg3 harg3 arg4 harg4 arg5 harg5 arg6 harg6 arg10 arg11 arg12 arg13 arg14 more x0 x1 x2 x3 x4
      = tileOf x0 x3 x4 (wideB x1) (wideC x2) order orderBack none4 := by
  have hc : ∀ b p, (tileA arg2 harg2 arg3 harg3 arg4 harg4 arg5 harg5 arg6 harg6 arg10 arg11 arg12 arg13 arg14 more x0 x1 x2 x3 x4).carry b p
      = View.ld none4 (carryAt b p) := by
    intro b p
    funext j
    match b with
    | 0 =>
      refine (congrFun (View.readCov_eq_canon' arg14.view rest (carryAt 0 p).toLoadRect) j).trans ?_
      rw [rest_eq]
    | b + 1 =>
      exact (congrFun (View.readCov_eq_canon' arg14.view (more ++ rest) (carryAt 1 p).toLoadRect) j).trans (hmore p j)
  have ho : ∀ w : Vec Ideal S512x512 .bf16, ∀ v : View sig .tc .vmem S512x512 .bf16,
      v.readCov [⟨allAt, w⟩] allAt.toLoadRect = w := by
    intro w v
    rw [View.readCov_eq_canon', canon_all]
    exact View.ld_unit_lit _ w (by decide)
  have hb : ∀ b p, (tileA arg2 harg2 arg3 harg3 arg4 harg4 arg5 harg5 arg6 harg6 arg10 arg11 arg12 arg13 arg14 more x0 x1 x2 x3 x4).bw b p
      = View.ld (wideB x1) (bwAt b p) := fun b p => by
    rw [← fillB_eq arg3 harg3]; exact View.readCov_eq_canon' arg10.view (fillB arg3 harg3 x1) (bwAt b p).toLoadRect
  have hw : ∀ b p, (tileA arg2 harg2 arg3 harg3 arg4 harg4 arg5 harg5 arg6 harg6 arg10 arg11 arg12 arg13 arg14 more x0 x1 x2 x3 x4).cw b p
      = View.ld (wideC x2) (cwAt b p) := fun b p => by
    rw [← fillC_eq arg4 harg4]; exact View.readCov_eq_canon' arg11.view (fillC arg4 harg4 x2) (cwAt b p).toLoadRect
  have e0 : View.readAt (Elt Ideal) arg2.view allAt.toLoadRect (harg2.unread x0) = x0 := by
    simp only [View.readAt_eq_ld, Memref.IsWhole.read_unread]
    exact View.ld_unit_lit _ x0 (by decide)
  rw [show tileA arg2 harg2 arg3 harg3 arg4 harg4 arg5 harg5 arg6 harg6 arg10 arg11 arg12 arg13 arg14 more x0 x1 x2 x3 x4
    = ⟨_, _, _, _, _, _, _, _⟩ from rfl]
  unfold tileOf
  rw [Tile.mk.injEq]
  refine ⟨?_, ?_, funext fun b => funext fun p => hb b p, funext fun b => funext fun p => hw b p, ?_,
    funext fun b => funext fun p => hc b p, ?_, ho _ _⟩
  · rw [ho, e0]
  · rw [ho, e0]
  · funext b k p
    show View.readAt (Elt Ideal) arg5.view (pwAt b k p).toLoadRect (harg5.unread x3) = _
    simp only [View.readAt_eq_ld, Memref.IsWhole.read_unread]
  · funext b
    show View.readAt (Elt Ideal) arg6.view (dvAt b).toLoadRect (harg6.unread x4) = _
    simp only [View.readAt_eq_ld, Memref.IsWhole.read_unread]

theorem rest_zero (p : ℕ) (j) : View.canon (([] : List (View.Piece (Elt Ideal) S2x2x8x1024 .f32)) ++ rest) ((carryAt 1 p).idx j) = 0 := by
  rw [List.nil_append, rest_eq]; rfl

/-- What block 0 leaves is not what block 1 finds. -/
theorem leaving_zero (v : View sig .tc .vmem S512x4096 .f32) (T : Tile Ideal) (p : ℕ) (j) :
    View.canon (leaving v T ++ rest) ((carryAt 1 p).idx j) = 0 := by
  obtain ⟨q, k, e⟩ : ∃ (q : Fin 8) (k : Fin 1024), (carryAt 1 p).idx j
      = ix4 (n0 := 2) (n1 := 2) (n2 := 8) (n3 := 1024) 1 ⟨p % 2, by omega⟩ q k := by
    have h2 : (j 2).val < 8 := (j 2).isLt
    have h3 : (j 3).val < 1024 := (j 3).isLt
    have h0 : (j 0).val < 1 := (j 0).isLt
    have h1 : (j 1).val < 1 := (j 1).isLt
    refine ⟨⟨(j 2).val, h2⟩, ⟨(j 3).val, h3⟩, funext fun a => Fin.ext ((Rect.idx_unit_val _ _ _ j a).trans ?_)⟩
    match a with
    | ⟨0, _⟩ => show 1 % 2 + (j 0).val = 1; omega
    | ⟨1, _⟩ => show p % 2 + (j 1).val = p % 2; omega
    | ⟨2, _⟩ => show 0 + (j 2).val = (j 2).val; omega
    | ⟨3, _⟩ => show 0 + (j 3).val = (j 3).val; omega
  rw [e]
  unfold leaving
  rw [List.cons_append, List.cons_append, List.nil_append]
  refine (canon_carry 0 1 _ _ 1 _ q k).trans ((if_neg (fun h => absurd h.1 (by decide))).trans ?_)
  refine (canon_carry 0 0 _ _ 1 _ q k).trans ((if_neg (fun h => absurd h.1 (by decide))).trans ?_)
  rw [rest_eq]; rfl

/-- What a tile leaves, at an entry, whatever was stored before. -/
theorem carryOf_apply (v : View sig .tc .vmem S512x4096 .f32) (T : Tile Ideal) (L : List (View.Piece (Elt Ideal) S2x2x8x1024 .f32))
    (b p : Fin 2) (q : Fin 8) (k : Fin 1024) :
    View.canon (Val := Elt Ideal) (e := .f32)
        (⟨carryAt 1 1, leave (ends1 v T).2⟩ :: ⟨carryAt 1 0, leave (ends1 v T).1⟩ :: (leaving v T ++ L))
        (ix4 (n0 := 2) (n1 := 2) (n2 := 8) (n3 := 1024) b p q k)
      = (if p = 0 then (if b = 0 then ends0 v T else ends1 v T).1 else (if b = 0 then ends0 v T else ends1 v T).2)
          (ix2 (n0 := 8) (n1 := 1024) 7 k) := by
  unfold leaving
  rw [List.cons_append, List.cons_append, List.nil_append]
  refine (canon_carry 1 1 _ _ b p q k).trans ?_
  rw [canon_carry, canon_carry, canon_carry]
  simp only [leave_apply]
  fin_cases b <;> fin_cases p <;> rfl

end Cert.S5Scan
-- ==== Proof.ScanOut.lean ====
module

public import proofs.«01_k».proof.Proof.ScanFill

/-! # A tile's output

The inputs of a tile's recurrence, and its output, from the tile's rows and the compact matrices. -/

@[expose] public section

set_option maxRecDepth 16384
set_option backward.proofsInPublic true

noncomputable section

namespace Cert.S5Scan

open Idealize.ShloMosaic Idealize.SL.Sem Cert.S5fIdeal Cert.S5fIdeal.Gen

/-! ## Sums -/

theorem IsC.real_mul {h x y : EReal} {H : ℝ} {z : ℂ} (hh : h = (H : EReal)) (hx : IsC x y z) :
    IsC (h * x) (h * y) ((H : ℂ) * z) := by
  obtain ⟨rfl, rfl⟩ := hx
  subst hh
  exact ⟨by rw [← EReal.coe_mul, Complex.re_ofReal_mul], by rw [← EReal.coe_mul, Complex.im_ofReal_mul]⟩

theorem IsC.sum {ι : Type} (s : Finset ι) {x y : ι → EReal} {z : ι → ℂ} (h : ∀ i ∈ s, IsC (x i) (y i) (z i)) :
    IsC (∑ i ∈ s, x i) (∑ i ∈ s, y i) (∑ i ∈ s, z i) := by
  classical
  induction s using Finset.induction_on with
  | empty => exact IsC.zero
  | insert a s ha ih =>
    rw [Finset.sum_insert ha, Finset.sum_insert ha, Finset.sum_insert ha]
    exact (h a (Finset.mem_insert_self a s)).add (ih fun i hi => h i (Finset.mem_insert_of_mem hi))

theorem IsC.ite {p : Prop} [Decidable p] {x y : EReal} {z : ℂ} (h : IsC x y z) :
    IsC (if p then x else 0) (if p then y else 0) (if p then z else 0) := by
  split
  · exact h
  · exact IsC.zero

/-- A sum over the members of one block among equal blocks. -/
theorem sum_one_block {M : Type} [AddCommMonoid M] {a b n : ℕ} (hn : a * b = n) (hb : 0 < b) (g : ℕ) (hg : g < a) (f : Fin n → M) :
    (∑ x : Fin n, if x.val / b = g then f x else 0)
      = ∑ h : Fin b, f ⟨g * b + h.val, by have := h.isLt; subst hn; nlinarith⟩ := by
  subst hn
  rw [← Fin.sum_mul_add_fin a b _ rfl]
  have e : ∀ (i : Fin a) (h : Fin b), (i.val * b + h.val) / b = i.val := fun i h => by
    rw [Nat.mul_comm, Nat.mul_add_div hb, Nat.div_eq_of_lt h.isLt, Nat.add_zero]
  simp only [e]
  rw [Finset.sum_eq_single (⟨g, hg⟩ : Fin a)]
  · exact Finset.sum_congr rfl fun h _ => if_pos rfl
  · intro i _ hi
    exact Finset.sum_eq_zero fun h _ => if_neg fun e => hi (Fin.ext e)
  · intro h; exact absurd (Finset.mem_univ _) h

/-! ## What feeds the recurrence -/

/-- A tile that finds the scratch as the first one fills it. -/
abbrev tileWith (x0 : Vec Ideal S512x512 .f32) (x1 : Vec Ideal S2x256x128 .bf16) (x2 : Vec Ideal S2x128x256 .bf16)
    (x3 : Vec Ideal S2x40x2048 .f32) (x4 : Vec Ideal S1x512 .f32) (xs4 : Vec Ideal S2x2x8x1024 .f32) : Tile Ideal :=
  tileOf x0 x3 x4 (wideB x1) (wideC x2) order orderBack xs4

section
variable (x0 : Vec Ideal S512x512 .f32) (x1 : Vec Ideal S2x256x128 .bf16) (x2 : Vec Ideal S2x128x256 .bf16)
  (x3 : Vec Ideal S2x40x2048 .f32) (x4 : Vec Ideal S1x512 .f32) (xs4 : Vec Ideal S2x2x8x1024 .f32) (b c k : ℕ)
theorem tile_bw : (tileWith x0 x1 x2 x3 x4 xs4).bw b c = View.ld (wideB x1) (bwAt b c) := rfl
theorem tile_cw : (tileWith x0 x1 x2 x3 x4 xs4).cw b c = View.ld (wideC x2) (cwAt b c) := rfl
theorem tile_pw : (tileWith x0 x1 x2 x3 x4 xs4).pw b k c = View.ld x3 (pwAt b k c) := rfl
theorem tile_dv : (tileWith x0 x1 x2 x3 x4 xs4).dv b = View.ld x4 (dvAt b) := rfl
theorem tile_carry : (tileWith x0 x1 x2 x3 x4 xs4).carry b c = View.ld xs4 (carryAt b c) := rfl
end

theorem ld_bw (X : Vec Ideal S2x256x2048 .bf16) (b : Fin 2) (c : Fin 4) (x : Fin 256) (k : Fin 512) :
    View.ld X (bwAt b.val c.val) (ix3 (n0 := 1) (n1 := 256) (n2 := 512) 0 x k)
      = X (ix3 (n0 := 2) (n1 := 256) (n2 := 2048) b x ⟨512 * c.val + k.val, by omega⟩) :=
  View.ld_unit_apply_of X _ _ _ _ _ fun a => by
    match a with
    | ⟨0, _⟩ => show b.val = b.val % 2 + 0; omega
    | ⟨1, _⟩ => show x.val = 0 + x.val; omega
    | ⟨2, _⟩ => show 512 * c.val + k.val = 512 * (c.val % 4) + k.val; omega

theorem ld_cw (X : Vec Ideal S2x2048x256 .bf16) (b : Fin 2) (c : Fin 4) (x : Fin 512) (k : Fin 256) :
    View.ld X (cwAt b.val c.val) (ix3 (n0 := 1) (n1 := 512) (n2 := 256) 0 x k)
      = X (ix3 (n0 := 2) (n1 := 2048) (n2 := 256) b ⟨512 * c.val + x.val, by omega⟩ k) :=
  View.ld_unit_apply_of X _ _ _ _ _ fun a => by
    match a with
    | ⟨0, _⟩ => show b.val = b.val % 2 + 0; omega
    | ⟨1, _⟩ => show 512 * c.val + x.val = 512 * (c.val % 4) + x.val; omega
    | ⟨2, _⟩ => show k.val = 0 + k.val; omega

theorem ld_pw (X : Vec Ideal S2x40x2048 .f32) (b : Fin 2) (n : Fin 5) (p : Fin 2) (q : Fin 8) (k : Fin 1024) :
    View.ld X (pwAt b.val n.val p.val) (ix3 (n0 := 1) (n1 := 8) (n2 := 1024) 0 q k)
      = X (ix3 (n0 := 2) (n1 := 40) (n2 := 2048) b ⟨8 * n.val + q.val, by omega⟩ ⟨1024 * p.val + k.val, by omega⟩) :=
  View.ld_unit_apply_of X _ _ _ _ _ fun a => by
    match a with
    | ⟨0, _⟩ => show b.val = b.val % 2 + 0; omega
    | ⟨1, _⟩ => show 8 * n.val + q.val = 8 * (n.val % 5) + q.val; omega
    | ⟨2, _⟩ => show 1024 * p.val + k.val = 1024 * (p.val % 2) + k.val; omega

theorem ld_dv (X : Vec Ideal S1x512 .f32) (b : Fin 2) (k : Fin 256) :
    View.ld X (dvAt b.val) (ix2 (n0 := 1) (n1 := 256) 0 k) = X (ix2 (n0 := 1) (n1 := 512) 0 ⟨256 * b.val + k.val, by omega⟩) :=
  View.ld_unit_apply_of X _ _ _ _ _ fun a => by
    match a with
    | ⟨0, _⟩ => rfl
    | ⟨1, _⟩ => show 256 * b.val + k.val = 256 * (b.val % 2) + k.val; omega

/-- A loaded slab of powers, at an entry. -/
theorem pow_apply (T : Tile Ideal) (b n p : ℕ) (q : Fin 8) (k : Fin 1024) :
    pow T b n p (ix2 (n0 := 8) (n1 := 1024) q k) = T.pw b n p (ix3 (n0 := 1) (n1 := 8) (n2 := 1024) 0 q k) := by
  unfold pow
  pointwise

theorem cut_apply (T : Tile Ideal) (b : Fin 2) (r : Fin 512) (x : Fin 256) :
    cut T b.val (ix2 (n0 := 512) (n1 := 256) r x) = T.hpb (ix2 (n0 := 512) (n1 := 512) r ⟨256 * b.val + x.val, by omega⟩) := by
  fin_cases b
  · show cut T 0 _ = _
    unfold cut
    pointwise
  · show cut T 1 _ = _
    unfold cut
    pointwise

theorem hcut_apply (T : Tile Ideal) (b : Fin 2) (r : Fin 512) (x : Fin 256) :
    hcut T b.val (ix2 (n0 := 512) (n1 := 256) r x) = T.hp (ix2 (n0 := 512) (n1 := 512) r ⟨256 * b.val + x.val, by omega⟩) := by
  fin_cases b
  · show hcut T 0 _ = _
    unfold hcut
    pointwise
  · show hcut T 1 _ = _
    unfold hcut
    pointwise

theorem proj_apply (T : Tile Ideal) (b c : ℕ) (r k : Fin 512) : proj T b c (ix2 (n0 := 512) (n1 := 512) r k)
    = ∑ x : Fin 256, cut T b (ix2 (n0 := 512) (n1 := 256) r x) * T.bw b c (ix3 (n0 := 1) (n1 := 256) (n2 := 512) 0 x k) := by
  unfold proj
  pointwise

/-- What enters state `k` at position `n`: the rows of its group times the group's part of the compact matrix. -/
def feed (b : Fin 2) (H : ℕ → Fin 512 → ℝ) (B : Fin 256 → Fin 64 → ℂ) (n : ℕ) (k : Fin 1024) : ℂ :=
  ∑ x : Fin 256, if x.val / 16 = k.val / 64 then (H n ⟨256 * b.val + x.val, by omega⟩ : ℂ) * B x ⟨k.val % 64, by omega⟩ else 0

section tile
variable {x0 : Vec Ideal S512x512 .f32} {x1 : Vec Ideal S2x256x128 .bf16} {x2 : Vec Ideal S2x128x256 .bf16}
  {x3 : Vec Ideal S2x40x2048 .f32} {x4 : Vec Ideal S1x512 .f32} {xs4 : Vec Ideal S2x2x8x1024 .f32}
  {H : ℕ → Fin 512 → ℝ} (hH : ∀ n k : Fin 512, x0 (ix2 (n0 := 512) (n1 := 512) n k) = (H n.val k : EReal))
  {b : Fin 2} {B : Fin 256 → Fin 64 → ℂ}
  (hB : ∀ (r : Fin 256) (p : Fin 64), IsC (x1 (ix3 (n0 := 2) (n1 := 256) (n2 := 128) b r ⟨p.val, by omega⟩))
    (x1 (ix3 (n0 := 2) (n1 := 256) (n2 := 128) b r ⟨64 + p.val, by omega⟩)) (B r p))
include hH

theorem reordered (r k : Fin 512) :
    reorder order x0 (ix2 (n0 := 512) (n1 := 512) r k) = (H (seat r).val k : EReal) := by
  rw [reorder_apply x0 (fun i => ?_), hH]
  idx_vars i
  exact ⟨_, hH _ _⟩

theorem cut_fed (r : Fin 512) (x : Fin 256) :
    cut (tileWith x0 x1 x2 x3 x4 xs4) b.val (ix2 (n0 := 512) (n1 := 256) r x) = (H (seat r).val ⟨256 * b.val + x.val, by omega⟩ : EReal) := by
  rw [cut_apply]
  show truncf FTy.bf16 (reorder order x0) bitsLt_bf16_f32 _ = _
  pointwise
  exact reordered hH _ _

include hB in
theorem inputs_fed (j : ℕ) (hj : j < 64) (q : Fin 8) (k : Fin 1024) :
    IsC (proj (tileWith x0 x1 x2 x3 x4 xs4) b.val (k.val / 512) (spot j q k))
      (proj (tileWith x0 x1 x2 x3 x4 xs4) b.val (2 + k.val / 512) (spot j q k)) (feed b H B (64 * q.val + j) k) := by
  rw [proj_apply, proj_apply]
  refine IsC.sum _ fun x _ => ?_
  have hw : ∀ p : Fin 2, (tileWith x0 x1 x2 x3 x4 xs4).bw b.val (2 * p.val + k.val / 512)
      (ix3 (n0 := 1) (n1 := 256) (n2 := 512) 0 x ⟨k.val % 512, by omega⟩)
        = if x.val / 16 = k.val / 64 then x1 (ix3 (n0 := 2) (n1 := 256) (n2 := 128) b x ⟨64 * p.val + k.val % 64, by omega⟩) else 0 := by
    intro p
    rw [tile_bw]
    have h := ld_bw (wideB x1) b ⟨2 * p.val + k.val / 512, by omega⟩ x ⟨k.val % 512, by omega⟩
    refine h.trans ?_
    rw [wideB_apply]
    have e1 : (512 * (2 * p.val + k.val / 512) + k.val % 512) % 1024 / 64 = k.val / 64 := by omega
    have e2 : (⟨64 * ((512 * (2 * p.val + k.val / 512) + k.val % 512) / 1024)
        + (512 * (2 * p.val + k.val / 512) + k.val % 512) % 64, by omega⟩ : Fin 128)
        = ⟨64 * p.val + k.val % 64, by omega⟩ := Fin.ext (by show 64 * _ + _ = 64 * _ + _; omega)
    exact if_congr (by rw [← e1]) (by rw [← e2]) rfl
  have h0 := hw 0
  have h1 := hw 1
  simp only [Fin.val_zero, Fin.val_one, Nat.mul_zero, Nat.mul_one, Nat.zero_add] at h0 h1
  rw [h0, h1, cut_fed hH]
  have es : (seat ⟨8 * (j % 64) + q.val, by omega⟩).val = 64 * q.val + j := by
    show 64 * ((8 * (j % 64) + q.val) % 8) + (8 * (j % 64) + q.val) / 8 = _
    omega
  rw [es]
  simp only [mul_ite, mul_zero]
  exact ((hB x ⟨k.val % 64, by omega⟩).real_mul rfl).ite

include hB in
theorem works_fed {A C : Fin 1024 → ℂ} (hp : Powers (tileWith x0 x1 x2 x3 x4 xs4) b.val A)
    (hl : ∀ q k, IsC (xs4 (ix4 (n0 := 2) (n1 := 2) (n2 := 8) (n3 := 1024) b 0 q k))
      (xs4 (ix4 (n0 := 2) (n1 := 2) (n2 := 8) (n3 := 1024) b 1 q k)) (C k)) :
    Works (T := tileWith x0 x1 x2 x3 x4 xs4) b.val A C (feed b H B) where
  powers := hp
  left q k := by
    have h : ∀ p : Fin 2, left (tileWith x0 x1 x2 x3 x4 xs4) b.val p.val (sl q k)
        = xs4 (ix4 (n0 := 2) (n1 := 2) (n2 := 8) (n3 := 1024) b p q k) := fun p =>
      (left_apply _ _ _ q k).trans (ld_carry xs4 b p q k)
    rw [show left (tileWith x0 x1 x2 x3 x4 xs4) b.val 0 (sl q k) = _ from h 0,
      show left (tileWith x0 x1 x2 x3 x4 xs4) b.val 1 (sl q k) = _ from h 1]
    exact hl q k
  inputs j hj q k := inputs_fed hH hB j hj q k

end tile

/-! ## The readout -/

/-- One half of a complex number: the real one (`p = 0`) or the imaginary one. -/
def part (p : Fin 2) (z : ℂ) : ℝ := if p = 0 then z.re else z.im

theorem Holds.part {L : Stores Ideal} {b : ℕ} {g : ℕ → Fin 8 → Fin 1024 → ℂ} (h : Holds L b g) (p : Fin 2) (j : ℕ) (hj : j < 64)
    (q : Fin 8) (k : Fin 1024) : View.canon L (cell b p.val j q k) = (part p (g j q k) : EReal) := by
  fin_cases p
  · exact (h j hj q k).1
  · exact (h j hj q k).2

section readout
variable (v : View sig .tc .vmem S512x4096 .f32)
  {x0 : Vec Ideal S512x512 .f32} {x1 : Vec Ideal S2x256x128 .bf16} {x2 : Vec Ideal S2x128x256 .bf16}
  {x3 : Vec Ideal S2x40x2048 .f32} {x4 : Vec Ideal S1x512 .f32} {xs4 : Vec Ideal S2x2x8x1024 .f32}
  {b : Fin 2} {A C : Fin 1024 → ℂ} {U : ℕ → Fin 1024 → ℂ}

/-- The state `k` after position `n`. -/
abbrev after (A C : Fin 1024 → ℂ) (U : ℕ → Fin 1024 → ℂ) (n : ℕ) (k : Fin 1024) : ℂ := run (A k) (fun i => U i k) (C k) (n + 1)

/-- A state's half times its entry of the compact matrix, for one output column. -/
def term (x2 : Vec Ideal S2x128x256 .bf16) (b p : Fin 2) (s : Fin 1024 → ℂ) (k : Fin 256) (x : Fin 1024) : EReal :=
  (part p (s x) : EReal) * x2 (ix3 (n0 := 2) (n1 := 128) (n2 := 256) b ⟨64 * p.val + x.val % 64, by omega⟩ k)

theorem readout_one {L : Stores Ideal} (hL : Holds L b.val (states A C U)) (p e : Fin 2) (n : Fin 512) (k : Fin 256) :
    readout v (tileWith x0 x1 x2 x3 x4 xs4) L b.val (2 * p.val + e.val) (ix2 (n0 := 512) (n1 := 256) (row n) k)
      = ∑ x : Fin 512, if (e.val * 512 + x.val) / 64 = k.val / 16 then
          term x2 b p (after A C U n.val) k ⟨e.val * 512 + x.val, by omega⟩ else 0 := by
  rw [readout_apply]
  refine Finset.sum_congr rfl fun x _ => ?_
  have hs : View.canon L (cell b.val ((2 * p.val + e.val) % 4 / 2) ((row n).val / 8) ⟨(row n).val % 8, by omega⟩
      ⟨512 * ((2 * p.val + e.val) % 2) + x.val, by omega⟩)
        = (part p (after A C U n.val ⟨e.val * 512 + x.val, by omega⟩) : EReal) := by
    have e1 : (2 * p.val + e.val) % 4 / 2 = p.val := by omega
    have e2 : (row n).val / 8 = n.val % 64 := by show (8 * (n.val % 64) + n.val / 64) / 8 = _; omega
    have e3 : (⟨(row n).val % 8, by omega⟩ : Fin 8) = ⟨n.val / 64, by omega⟩ :=
      Fin.ext (by show (8 * (n.val % 64) + n.val / 64) % 8 = n.val / 64; omega)
    have e4 : (⟨512 * ((2 * p.val + e.val) % 2) + x.val, by omega⟩ : Fin 1024) = ⟨e.val * 512 + x.val, by omega⟩ :=
      Fin.ext (by show 512 * _ + _ = _ * 512 + _; omega)
    rw [e1, e2, e3, e4, hL.part p _ (by omega)]
    have e5 : 64 * (n.val / 64) + n.val % 64 + 1 = n.val + 1 := by omega
    show (part p (run _ _ _ (64 * (n.val / 64) + n.val % 64 + 1)) : EReal) = _
    rw [e5]
  have hw : (tileWith x0 x1 x2 x3 x4 xs4).cw b.val (2 * p.val + e.val) (ix3 (n0 := 1) (n1 := 512) (n2 := 256) 0 x k)
      = if (e.val * 512 + x.val) / 64 = k.val / 16 then
          x2 (ix3 (n0 := 2) (n1 := 128) (n2 := 256) b ⟨64 * p.val + (e.val * 512 + x.val) % 64, by omega⟩ k) else 0 := by
    rw [tile_cw]
    have h := ld_cw (wideC x2) b ⟨2 * p.val + e.val, by omega⟩ x k
    refine h.trans ?_
    rw [wideC_apply]
    have e1 : (512 * (2 * p.val + e.val) + x.val) % 1024 / 64 = (e.val * 512 + x.val) / 64 := by omega
    have e2 : (⟨64 * ((512 * (2 * p.val + e.val) + x.val) / 1024) + (512 * (2 * p.val + e.val) + x.val) % 64, by omega⟩ : Fin 128)
        = ⟨64 * p.val + (e.val * 512 + x.val) % 64, by omega⟩ := Fin.ext (by show 64 * _ + _ = 64 * _ + _; omega)
    exact if_congr (by rw [← e1]; exact eq_comm) (by rw [← e2]) rfl
  rw [hs, hw]
  simp only [mul_ite, mul_zero]
  rfl

theorem readout_two {L L' : Stores Ideal} (hL : Holds L b.val (states A C U)) (hL' : Holds L' b.val (states A C U)) (p : Fin 2)
    (n : Fin 512) (k : Fin 256) :
    readout v (tileWith x0 x1 x2 x3 x4 xs4) L b.val (2 * p.val) (ix2 (n0 := 512) (n1 := 256) (row n) k)
      + readout v (tileWith x0 x1 x2 x3 x4 xs4) L' b.val (2 * p.val + 1) (ix2 (n0 := 512) (n1 := 256) (row n) k)
      = ∑ s : Fin 64, term x2 b p (after A C U n.val) k ⟨k.val / 16 * 64 + s.val, by omega⟩ := by
  have h0 := readout_one (x0 := x0) (x1 := x1) (x2 := x2) (x3 := x3) (x4 := x4) (xs4 := xs4) v hL p 0 n k
  have h1 := readout_one (x0 := x0) (x1 := x1) (x2 := x2) (x3 := x3) (x4 := x4) (xs4 := xs4) v hL' p 1 n k
  rw [← sum_one_block (a := 16) (b := 64) (n := 1024) rfl (by decide) (k.val / 16) (by omega)
    (term x2 b p (after A C U n.val) k), ← Fin.sum_mul_add_fin 2 512 _ rfl, Fin.sum_univ_two]
  exact congrArg₂ (· + ·) h0 h1

/-- The output before the gate: both halves read out, and the rows themselves. -/
theorem out_apply {H : ℕ → Fin 512 → ℝ} (hH : ∀ n k : Fin 512, x0 (ix2 (n0 := 512) (n1 := 512) n k) = (H n.val k : EReal))
    {L₀ L₁ L₂ L₃ : Stores Ideal} (h0 : Holds L₀ b.val (states A C U)) (h1 : Holds L₁ b.val (states A C U))
    (h2 : Holds L₂ b.val (states A C U)) (h3 : Holds L₃ b.val (states A C U)) (n : Fin 512) (k : Fin 256) :
    outY v (tileWith x0 x1 x2 x3 x4 xs4) b.val L₀ L₁ L₂ L₃ (ix2 (n0 := 512) (n1 := 256) (row n) k)
      = (∑ s : Fin 64, term x2 b 0 (after A C U n.val) k ⟨k.val / 16 * 64 + s.val, by omega⟩)
        + (∑ s : Fin 64, term x2 b 1 (after A C U n.val) k ⟨k.val / 16 * 64 + s.val, by omega⟩)
        + x4 (ix2 (n0 := 1) (n1 := 512) 0 ⟨256 * b.val + k.val, by omega⟩) * (H n.val ⟨256 * b.val + k.val, by omega⟩ : EReal) := by
  have r0 := readout_two (x0 := x0) (x1 := x1) (x2 := x2) (x3 := x3) (x4 := x4) (xs4 := xs4) v h0 h1 0 n k
  have r1 := readout_two (x0 := x0) (x1 := x1) (x2 := x2) (x3 := x3) (x4 := x4) (xs4 := xs4) v h2 h3 1 n k
  have hd := ld_dv x4 b k
  have hh := reordered hH (row n) ⟨256 * b.val + k.val, by omega⟩
  have es : (seat (row n)).val = n.val := by
    show 64 * ((8 * (n.val % 64) + n.val / 64) % 8) + (8 * (n.val % 64) + n.val / 64) / 8 = _
    omega
  rw [es] at hh
  rw [← r0, ← r1, ← hh]
  unfold outY
  pointwise
  rw [hcut_apply, add_assoc (_ + _) _ (readout v _ L₃ b.val 3 _), tile_dv, hd]
  rfl

end readout

end Cert.S5Scan
-- ==== Proof.ScanZ.lean ====
module

public import proofs.«01_k».proof.Proof.ScanOut

/-! # What a tile leaves

A tile of a pair of blocks, from its rows, the pair's matrices and the states before it: the states after it, and its
output. -/

@[expose] public section

set_option maxRecDepth 16384
set_option backward.proofsInPublic true

noncomputable section

namespace Cert.S5Scan

open Idealize.ShloMosaic Idealize.SL.Sem Cert.S5fIdeal Cert.S5fIdeal.Gen

/-- Row `q` of the `n`-th slab of powers of `a`. -/
def powAt (n : Fin 5) (q : Fin 8) (a : ℂ) : ℂ :=
  match n with
  | 0 => a
  | 1 => if 1 ≤ q.val then a ^ 64 else 0
  | 2 => if 2 ≤ q.val then (a ^ 64) ^ 2 else 0
  | 3 => if 4 ≤ q.val then (a ^ 64) ^ 4 else 0
  | 4 => (a ^ 64) ^ (q.val + 1)

/-- The pair's matrix of inputs and its rows of powers hold complex numbers. -/
structure Fits (x1 : Vec Ideal S2x256x128 .bf16) (x3 : Vec Ideal S2x40x2048 .f32) (A : Fin 2 → Fin 1024 → ℂ)
    (B : Fin 2 → Fin 256 → Fin 64 → ℂ) : Prop where
  inputs : ∀ (b : Fin 2) (r : Fin 256) (p : Fin 64),
    IsC (x1 (ix3 (n0 := 2) (n1 := 256) (n2 := 128) b r ⟨p.val, by omega⟩))
      (x1 (ix3 (n0 := 2) (n1 := 256) (n2 := 128) b r ⟨64 + p.val, by omega⟩)) (B b r p)
  rows : ∀ (b : Fin 2) (n : Fin 5) (q : Fin 8) (k : Fin 1024),
    IsC (x3 (ix3 (n0 := 2) (n1 := 40) (n2 := 2048) b ⟨8 * n.val + q.val, by omega⟩ ⟨k.val, by omega⟩))
      (x3 (ix3 (n0 := 2) (n1 := 40) (n2 := 2048) b ⟨8 * n.val + q.val, by omega⟩ ⟨1024 + k.val, by omega⟩)) (powAt n q (A b k))

section
variable {x0 : Vec Ideal S512x512 .f32} {x1 : Vec Ideal S2x256x128 .bf16} {x2 : Vec Ideal S2x128x256 .bf16}
  {x3 : Vec Ideal S2x40x2048 .f32} {x4 : Vec Ideal S1x512 .f32} {xs4 : Vec Ideal S2x2x8x1024 .f32}
  {A : Fin 2 → Fin 1024 → ℂ} {B : Fin 2 → Fin 256 → Fin 64 → ℂ}

theorem Fits.powers (f : Fits x1 x3 A B) (b : Fin 2) : Powers (tileWith x0 x1 x2 x3 x4 xs4) b.val (A b) := by
  have h : ∀ n : Fin 5, Halves (pow (tileWith x0 x1 x2 x3 x4 xs4) b.val n.val 0) (pow (tileWith x0 x1 x2 x3 x4 xs4) b.val n.val 1)
      (fun q k => powAt n q (A b k)) := by
    intro n q k
    have e0 := ld_pw x3 b n 0 q k
    have e1 := ld_pw x3 b n 1 q k
    have h0 := f.rows b n q k
    rw [pow_apply, pow_apply, tile_pw, tile_pw]
    have z : (⟨1024 * (0 : Fin 2).val + k.val, by have := k.isLt; show 1024 * 0 + _ < _; omega⟩ : Fin 2048) = ⟨k.val, by omega⟩ :=
      Fin.ext (by show 1024 * 0 + k.val = k.val; omega)
    rw [z] at e0
    exact ⟨e0.trans h0.1, e1.trans h0.2⟩
  exact ⟨h 0, h 1, h 2, h 3, h 4⟩

/-- A tile's output before the gate, at position `n` and column `k` of block `b`, from the states `s` there. -/
def outAt (x2 : Vec Ideal S2x128x256 .bf16) (x4 : Vec Ideal S1x512 .f32) (H : Fin 512 → ℝ) (b : Fin 2) (s : Fin 1024 → ℂ)
    (k : Fin 256) : EReal :=
  (∑ p : Fin 64, term x2 b 0 s k ⟨k.val / 16 * 64 + p.val, by omega⟩)
    + (∑ p : Fin 64, term x2 b 1 s k ⟨k.val / 16 * 64 + p.val, by omega⟩)
    + x4 (ix2 (n0 := 1) (n1 := 512) 0 ⟨256 * b.val + k.val, by omega⟩) * (H ⟨256 * b.val + k.val, by omega⟩ : EReal)

variable (v : View sig .tc .vmem S512x4096 .f32)
  {H : ℕ → Fin 512 → ℝ} (hH : ∀ n k : Fin 512, x0 (ix2 (n0 := 512) (n1 := 512) n k) = (H n.val k : EReal))
  {C : Fin 2 → Fin 1024 → ℂ}
  (hl : ∀ (b : Fin 2) (q : Fin 8) (k : Fin 1024), IsC (xs4 (ix4 (n0 := 2) (n1 := 2) (n2 := 8) (n3 := 1024) b 0 q k))
    (xs4 (ix4 (n0 := 2) (n1 := 2) (n2 := 8) (n3 := 1024) b 1 q k)) (C b k))
  (f : Fits x1 x3 A B)
include hH hl f

theorem tile_works (b : Fin 2) : Works (T := tileWith x0 x1 x2 x3 x4 xs4) b.val (A b) (C b) (feed b H (B b)) :=
  works_fed hH (f.inputs b) (f.powers b) (hl b)

/-- The states after the tile. -/
theorem tile_leaves (L : List (View.Piece (Elt Ideal) S2x2x8x1024 .f32)) (b : Fin 2) (q : Fin 8) (k : Fin 1024) :
    IsC
      (View.canon (Val := Elt Ideal) (e := .f32)
        (⟨carryAt 1 1, leave (ends1 v (tileWith x0 x1 x2 x3 x4 xs4)).2⟩ :: ⟨carryAt 1 0, leave (ends1 v (tileWith x0 x1 x2 x3 x4 xs4)).1⟩ ::
          (leaving v (tileWith x0 x1 x2 x3 x4 xs4) ++ L)) (ix4 (n0 := 2) (n1 := 2) (n2 := 8) (n3 := 1024) b 0 q k))
      (View.canon (Val := Elt Ideal) (e := .f32)
        (⟨carryAt 1 1, leave (ends1 v (tileWith x0 x1 x2 x3 x4 xs4)).2⟩ :: ⟨carryAt 1 0, leave (ends1 v (tileWith x0 x1 x2 x3 x4 xs4)).1⟩ ::
          (leaving v (tileWith x0 x1 x2 x3 x4 xs4) ++ L)) (ix4 (n0 := 2) (n1 := 2) (n2 := 8) (n3 := 1024) b 1 q k))
      (run (A b k) (fun n => feed b H (B b) n k) (C b k) 512) := by
  have w0 := ((tile_works hH hl f (x2 := x2) (x4 := x4) 0).block0 v).1 7 k
  have w1 := ((tile_works hH hl f (x2 := x2) (x4 := x4) 1).block1 v).1 7 k
  rw [carryOf_apply, carryOf_apply]
  fin_cases b
  · exact w0
  · exact w1

omit hH hl f in
theorem canon_halves (w1 w0 : FVec Ideal S512x256 .bf16) (n : Fin 512) (b : Fin 2) (k : Fin 256) :
    View.canon (Val := Elt Ideal) (e := .bf16) [⟨halfAt 1, w1⟩, ⟨halfAt 0, w0⟩]
        (ix2 (n0 := 512) (n1 := 512) n ⟨256 * b.val + k.val, by omega⟩)
      = (if b = 0 then w0 else w1) (ix2 (n0 := 512) (n1 := 256) n k) := by
  have e : ∀ b : Fin 2, (ix2 (n0 := 512) (n1 := 512) n ⟨256 * b.val + k.val, by omega⟩ : S512x512.Idx)
      = (halfAt b.val).emb (ix2 (n0 := 512) (n1 := 256) n k) := by
    intro b
    funext a
    apply Fin.ext
    match a with
    | ⟨0, _⟩ => show n.val = 0 + 1 * n.val; omega
    | ⟨1, _⟩ => show 256 * b.val + k.val = 256 * (b.val % 2) + 1 * k.val; omega
  fin_cases b
  · rw [View.canon_cons_of_not_mem]
    · refine (congrArg _ (e 0)).trans ?_
      exact View.canon_cons_emb (Val := Elt Ideal) (e := .bf16) (halfAt 0) w0 [] (ix2 (n0 := 512) (n1 := 256) n k)
    · intro hm
      have h1 := (Rect.mem_set_unit (inb := half_inb 1).mp hm) 1
      have h1' : 256 * (1 % 2) ≤ 256 * 0 + k.val ∧ 256 * 0 + k.val < 256 * (1 % 2) + 256 := h1
      omega
  · refine (congrArg _ (e 1)).trans ?_
    exact View.canon_cons_emb (Val := Elt Ideal) (e := .bf16) (halfAt 1) w1 [⟨halfAt 0, w0⟩] (ix2 (n0 := 512) (n1 := 256) n k)

/-- The tile's output. -/
theorem tile_out (n : Fin 512) (b : Fin 2) (k : Fin 256) :
    zsOf v (tileWith x0 x1 x2 x3 x4 xs4) (ix2 (n0 := 512) (n1 := 512) n ⟨256 * b.val + k.val, by omega⟩)
      = gelu (outAt x2 x4 (H n.val) b (fun x => run (A b x) (fun i => feed b H (B b) i x) (C b x) (n.val + 1)) k) := by
  have w0 := tile_works hH hl f (x2 := x2) (x4 := x4) 0
  have w1 := tile_works hH hl f (x2 := x2) (x4 := x4) 1
  unfold zsOf
  refine (canon_halves _ _ n b k).trans ?_
  fin_cases b
  · refine (outZ_apply _ rfl (y0 v _) n k).trans (congrArg gelu ?_)
    exact out_apply (b := 0) v hH (w0.own1_holds v 26) (w0.own1_holds v 52) (w0.carried1_holds v 13) (w0.carried1_holds v 39) n k
  · refine (outZ_apply _ rfl (y1 v _) n k).trans (congrArg gelu ?_)
    exact out_apply (b := 1) v hH (w1.block1 v).2 (w1.block1 v).2 (w1.block1 v).2 (w1.block1 v).2 n k

end

end Cert.S5Scan
-- ==== Proof.ScanTime.lean ====
module

public import proofs.«01_k».proof.Proof.ScanZ
public import proofs.«01_k».proof.Proof.Gen.S5fIdeal.Value

/-! # The tiles in time

Each pair of blocks is scanned tile after tile, the states carried: after every tile the scratch is as the first tile
filled it, the carried states are those of the whole recurrence, and the tile's output is read out of them. -/

@[expose] public section

set_option maxRecDepth 16384
set_option backward.proofsInPublic true

noncomputable section

namespace Cert.S5Scan

open Idealize.ShloMosaic Idealize.ShloMosaic.TcCoe Idealize.SL.Sem Cert.S5fIdeal Cert.S5fIdeal.Gen Cert.S5fIdeal.Value

variable (m : (ℓ : Loc nD τ sig) → Buf (Elt Ideal) ℓ) (c : Dev nD)

/-- What the outputs and the scratch hold after a tile. -/
abbrev Held := Vec Ideal S512x4096 .f32 × Vec Ideal S512x512 .f32 × Vec Ideal S512x512 .bf16 × Vec Ideal S2x256x2048 .bf16 ×
  Vec Ideal S2x2048x256 .bf16 × Vec Ideal S512x512 .bf16 × Vec Ideal S512x512 .bf16 × Vec Ideal S2x2x8x1024 .f32

/-- What the scratch holds, and the last output, with the carried states `C` and an output `Z`. -/
structure After (x1 : Vec Ideal S2x256x128 .bf16) (x2 : Vec Ideal S2x128x256 .bf16) (C : Fin 2 → Fin 1024 → ℂ)
    (Z : Fin 512 → Fin 2 → Fin 256 → EReal) (o : Held) : Prop where
  bw : o.2.2.2.1 = wideB x1
  cw : o.2.2.2.2.1 = wideC x2
  order : o.2.2.2.2.2.1 = order
  back : o.2.2.2.2.2.2.1 = orderBack
  states : ∀ (b : Fin 2) (q : Fin 8) (k : Fin 1024),
    IsC (o.2.2.2.2.2.2.2 (ix4 (n0 := 2) (n1 := 2) (n2 := 8) (n3 := 1024) b 0 q k))
      (o.2.2.2.2.2.2.2 (ix4 (n0 := 2) (n1 := 2) (n2 := 8) (n3 := 1024) b 1 q k)) (C b k)
  out : ∀ (r : Fin 512) (b : Fin 2) (k : Fin 256),
    o.2.2.1 (ix2 (n0 := 512) (n1 := 512) r ⟨256 * b.val + k.val, by omega⟩) = Z r b k

section tiles
variable {x1 : Vec Ideal S2x256x128 .bf16} {x2 : Vec Ideal S2x128x256 .bf16} {A : Fin 2 → Fin 1024 → ℂ}
  {B : Fin 2 → Fin 256 → Fin 64 → ℂ} {H : ℕ → Fin 512 → ℝ}
  (t : Fin cfg0.N)
  (hH : ∀ n k : Fin 512, iblk m c 0 t (ix2 (n0 := 512) (n1 := 512) n k) = (H n.val k : EReal))
  (f : Fits x1 (iblk m c 3 t) A B)
include hH f

/-- The states after a tile that begins with the states `C`. -/
abbrev next (A : Fin 2 → Fin 1024 → ℂ) (B : Fin 2 → Fin 256 → Fin 64 → ℂ) (H : ℕ → Fin 512 → ℝ) (C : Fin 2 → Fin 1024 → ℂ)
    (n : ℕ) (b : Fin 2) (k : Fin 1024) : ℂ := run (A b k) (fun i => feed b H (B b) i k) (C b k) n

theorem after_first (h0 : t.val % 8 = 0) (e1 : iblk m c 1 t = x1) (e2 : iblk m c 2 t = x2) (acc : Held) :
    After x1 x2 (next A B H (fun _ _ => 0) 512)
      (fun r b k => gelu (outAt x2 (iblk m c 4 t) (H r.val) b (next A B H (fun _ _ => 0) (r.val + 1) b) k))
      (stAt0 m c t.val t.isLt acc) := by
  have hl : ∀ (b : Fin 2) (q : Fin 8) (k : Fin 1024), IsC (none4 (ix4 (n0 := 2) (n1 := 2) (n2 := 8) (n3 := 1024) b 0 q k))
      (none4 (ix4 (n0 := 2) (n1 := 2) (n2 := 8) (n3 := 1024) b 1 q k)) ((fun _ _ => 0 : Fin 2 → Fin 1024 → ℂ) b k) :=
    fun b q k => IsC.zero
  rw [stAt0_A m c t acc h0, e1, e2]
  refine ⟨?_, ?_, ?_, ?_, fun b q k => ?_, fun r b k => ?_⟩ <;> dsimp only
  · rw [outA_bw, fillB_eq]
  · rw [outA_cw, fillC_eq]
  · rw [outA_order, canon_all]
  · rw [outA_back, canon_all]
  · rw [outA_carry, tileA_eq _ _ _ _ _ _ _ _ _ _ _ _ _ _ _ _ (leaving_zero _ _)]
    unfold leavingA
    rw [tileA_eq _ _ _ _ _ _ _ _ _ _ _ _ _ _ _ _ rest_zero]
    exact tile_leaves _ hH hl f rest b q k
  · rw [outA_zs, tileA_eq _ _ _ _ _ _ _ _ _ _ _ _ _ _ _ _ (leaving_zero _ _)]
    exact tile_out _ hH hl f r b k

theorem after_next (h0 : ¬t.val % 8 = 0) {C : Fin 2 → Fin 1024 → ℂ} {Z : Fin 512 → Fin 2 → Fin 256 → EReal} {acc : Held}
    (ha : After x1 x2 C Z acc) :
    After x1 x2 (next A B H C 512)
      (fun r b k => gelu (outAt x2 (iblk m c 4 t) (H r.val) b (next A B H C (r.val + 1) b) k))
      (stAt0 m c t.val t.isLt acc) := by
  have hl := ha.states
  rw [stAt0_B m c t acc h0, ha.bw, ha.cw, ha.order, ha.back]
  refine ⟨rfl, rfl, rfl, rfl, fun b q k => ?_, fun r b k => ?_⟩ <;> dsimp only
  · rw [outB_carry, tileB_eq]
    have h := tile_leaves (x2 := x2) (x4 := iblk m c 4 t) (Memref.view (ms0_5 t)) hH hl f [] b q k
    rw [List.append_nil] at h
    exact h
  · rw [outB_zs, tileB_eq]
    exact tile_out _ hH hl f r b k

end tiles

/-! ## The blocks of the arrays -/

theorem index_facts : ∀ t : Fin cfg0.N, (win0_0.index t 0 = t.val % 8 ∧ win0_0.index t 1 = t.val / 8)
    ∧ (win0_1.index t 0 = t.val / 8 ∧ win0_1.index t 1 = 0 ∧ win0_1.index t 2 = 0)
    ∧ (win0_2.index t 0 = t.val / 8 ∧ win0_2.index t 1 = 0 ∧ win0_2.index t 2 = 0)
    ∧ (win0_3.index t 0 = t.val / 8 ∧ win0_3.index t 1 = 0 ∧ win0_3.index t 2 = 0)
    ∧ (win0_4.index t 0 = 0 ∧ win0_4.index t 1 = t.val / 8) :=
  (by decide +kernel : ∀ t : Fin grid0.N, _)

theorem points (t : Fin cfg0.N) : t.val < 16 := lt_of_lt_of_eq t.isLt N_0

theorem blk0 (t : Fin cfg0.N) (r k : Fin 512) : iblk m c 0 t (ix2 (n0 := 512) (n1 := 512) r k)
    = m ((c : Thread nD τ).loc main_arg0) (ix2 (n0 := 4096) (n1 := 1024) ⟨512 * (t.val % 8) + r.val, by omega⟩
        ⟨512 * (t.val / 8) + k.val, by have := points t; omega⟩) := by
  have h := (index_facts t).1
  show V m c (Pipeline.arrRef spec0 0) ((win0_0.rect t).emb (ix2 r k)) = _
  rw [V_main_arg0]
  refine congrArg _ (funext fun a => Fin.ext ?_)
  rw [Pipeline.Window.rect_emb_val win0_0]
  match a with
  | ⟨0, _⟩ => show win0_0.index t 0 * 512 + r.val = 512 * (t.val % 8) + r.val; rw [h.1]; omega
  | ⟨1, _⟩ => show win0_0.index t 1 * 512 + k.val = 512 * (t.val / 8) + k.val; rw [h.2]; omega

theorem blk1 (t : Fin cfg0.N) (b : Fin 2) (r : Fin 256) (x : Fin 128) :
    iblk m c 1 t (ix3 (n0 := 2) (n1 := 256) (n2 := 128) b r x)
      = V m c main_v50 (ix3 (n0 := 4) (n1 := 256) (n2 := 128) ⟨2 * (t.val / 8) + b.val, by have := points t; omega⟩ r x) := by
  have h := (index_facts t).2.1
  show V m c (Pipeline.arrRef spec0 1) ((win0_1.rect t).emb (ix3 b r x)) = _
  refine congrArg _ (funext fun a => Fin.ext ?_)
  rw [Pipeline.Window.rect_emb_val win0_1]
  match a with
  | ⟨0, _⟩ => show win0_1.index t 0 * 2 + b.val = 2 * (t.val / 8) + b.val; rw [h.1]; omega
  | ⟨1, _⟩ => show win0_1.index t 1 * 256 + r.val = r.val; rw [h.2.1]; omega
  | ⟨2, _⟩ => show win0_1.index t 2 * 128 + x.val = x.val; rw [h.2.2]; omega

theorem blk2 (t : Fin cfg0.N) (b : Fin 2) (x : Fin 128) (r : Fin 256) :
    iblk m c 2 t (ix3 (n0 := 2) (n1 := 128) (n2 := 256) b x r)
      = V m c main_v58 (ix3 (n0 := 4) (n1 := 128) (n2 := 256) ⟨2 * (t.val / 8) + b.val, by have := points t; omega⟩ x r) := by
  have h := (index_facts t).2.2.1
  show V m c (Pipeline.arrRef spec0 2) ((win0_2.rect t).emb (ix3 b x r)) = _
  refine congrArg _ (funext fun a => Fin.ext ?_)
  rw [Pipeline.Window.rect_emb_val win0_2]
  match a with
  | ⟨0, _⟩ => show win0_2.index t 0 * 2 + b.val = 2 * (t.val / 8) + b.val; rw [h.1]; omega
  | ⟨1, _⟩ => show win0_2.index t 1 * 128 + x.val = x.val; rw [h.2.1]; omega
  | ⟨2, _⟩ => show win0_2.index t 2 * 256 + r.val = r.val; rw [h.2.2]; omega

theorem blk3 (t : Fin cfg0.N) (b : Fin 2) (r : Fin 40) (x : Fin 2048) :
    iblk m c 3 t (ix3 (n0 := 2) (n1 := 40) (n2 := 2048) b r x)
      = V m c main_v192 (ix3 (n0 := 4) (n1 := 40) (n2 := 2048) ⟨2 * (t.val / 8) + b.val, by have := points t; omega⟩ r x) := by
  have h := (index_facts t).2.2.2.1
  show V m c (Pipeline.arrRef spec0 3) ((win0_3.rect t).emb (ix3 b r x)) = _
  refine congrArg _ (funext fun a => Fin.ext ?_)
  rw [Pipeline.Window.rect_emb_val win0_3]
  match a with
  | ⟨0, _⟩ => show win0_3.index t 0 * 2 + b.val = 2 * (t.val / 8) + b.val; rw [h.1]; omega
  | ⟨1, _⟩ => show win0_3.index t 1 * 40 + r.val = r.val; rw [h.2.1]; omega
  | ⟨2, _⟩ => show win0_3.index t 2 * 2048 + x.val = x.val; rw [h.2.2]; omega

theorem blk4 (t : Fin cfg0.N) (k : Fin 512) : iblk m c 4 t (ix2 (n0 := 1) (n1 := 512) 0 k)
    = m ((c : Thread nD τ).loc main_arg8) (ix2 (n0 := 1) (n1 := 1024) 0 ⟨512 * (t.val / 8) + k.val, by have := points t; omega⟩) := by
  have h := (index_facts t).2.2.2.2
  show V m c (Pipeline.arrRef spec0 4) ((win0_4.rect t).emb (ix2 0 k)) = _
  rw [V_main_arg8]
  refine congrArg _ (funext fun a => Fin.ext ?_)
  rw [Pipeline.Window.rect_emb_val win0_4]
  match a with
  | ⟨0, _⟩ => show win0_4.index t 0 * 1 + 0 = 0; rw [h.1]
  | ⟨1, _⟩ => show win0_4.index t 1 * 512 + k.val = 512 * (t.val / 8) + k.val; rw [h.2]; omega

/-! ## All tiles of a pair -/

/-- Tile `n` of pair `i`. -/
abbrev pt (i : Fin 2) (n : ℕ) (hn : n < 8) : Fin cfg0.N := ⟨8 * i.val + n, lt_of_lt_of_eq (by omega) N_0.symm⟩

theorem same1 (i : Fin 2) (n : ℕ) (hn : n < 8) : iblk m c 1 (pt i n hn) = iblk m c 1 (pt i 0 (by decide)) := by
  funext y
  obtain ⟨b, r, x, rfl⟩ : ∃ b r x, y = ix3 (n0 := 2) (n1 := 256) (n2 := 128) b r x :=
    ⟨y 0, y 1, y 2, by funext a; fin_cases a <;> rfl⟩
  rw [blk1, blk1]
  exact congrArg (fun z => V m c main_v50 (ix3 (n0 := 4) (n1 := 256) (n2 := 128) z r x))
    (Fin.ext (by show 2 * ((8 * i.val + n) / 8) + b.val = 2 * ((8 * i.val + 0) / 8) + b.val; omega))

theorem same2 (i : Fin 2) (n : ℕ) (hn : n < 8) : iblk m c 2 (pt i n hn) = iblk m c 2 (pt i 0 (by decide)) := by
  funext y
  obtain ⟨b, x, r, rfl⟩ : ∃ b r x, y = ix3 (n0 := 2) (n1 := 128) (n2 := 256) b r x :=
    ⟨y 0, y 1, y 2, by funext a; fin_cases a <;> rfl⟩
  rw [blk2, blk2]
  exact congrArg (fun z => V m c main_v58 (ix3 (n0 := 4) (n1 := 128) (n2 := 256) z x r))
    (Fin.ext (by show 2 * ((8 * i.val + n) / 8) + b.val = 2 * ((8 * i.val + 0) / 8) + b.val; omega))

theorem same3 (i : Fin 2) (n : ℕ) (hn : n < 8) : iblk m c 3 (pt i n hn) = iblk m c 3 (pt i 0 (by decide)) := by
  funext y
  obtain ⟨b, r, x, rfl⟩ : ∃ b r x, y = ix3 (n0 := 2) (n1 := 40) (n2 := 2048) b r x :=
    ⟨y 0, y 1, y 2, by funext a; fin_cases a <;> rfl⟩
  rw [blk3, blk3]
  exact congrArg (fun z => V m c main_v192 (ix3 (n0 := 4) (n1 := 40) (n2 := 2048) z r x))
    (Fin.ext (by show 2 * ((8 * i.val + n) / 8) + b.val = 2 * ((8 * i.val + 0) / 8) + b.val; omega))

theorem same4 (i : Fin 2) (n : ℕ) (hn : n < 8) : iblk m c 4 (pt i n hn) = iblk m c 4 (pt i 0 (by decide)) := by
  funext y
  obtain ⟨k, rfl⟩ : ∃ k, y = ix2 (n0 := 1) (n1 := 512) 0 k :=
    ⟨y 1, by funext a; fin_cases a; exact Fin.ext (by have := (y 0).isLt; show (y 0).val = 0; exact Nat.lt_one_iff.mp this); rfl⟩
  rw [blk4, blk4]
  exact congrArg (fun z => m ((c : Thread nD τ).loc main_arg8) (ix2 (n0 := 1) (n1 := 1024) 0 z))
    (Fin.ext (by show 512 * ((8 * i.val + n) / 8) + k.val = 512 * ((8 * i.val + 0) / 8) + k.val; omega))

/-- After tile `n` of pair `i`: the states are those of the recurrence over the whole sequence so far. -/
theorem after_tile (i : Fin 2) {A : Fin 2 → Fin 1024 → ℂ} {B : Fin 2 → Fin 256 → Fin 64 → ℂ} {H : ℕ → Fin 512 → ℝ}
    (hH : ∀ (n : ℕ) (hn : n < 8) (r k : Fin 512),
      iblk m c 0 (pt i n hn) (ix2 (n0 := 512) (n1 := 512) r k) = (H (512 * n + r.val) k : EReal))
    (f : Fits (iblk m c 1 (pt i 0 (by decide))) (iblk m c 3 (pt i 0 (by decide))) A B) (n : ℕ) (hn : n < 8) :
    After (iblk m c 1 (pt i 0 (by decide))) (iblk m c 2 (pt i 0 (by decide))) (next A B H (fun _ _ => 0) (512 * (n + 1)))
      (fun r b k => gelu (outAt (iblk m c 2 (pt i 0 (by decide))) (iblk m c 4 (pt i 0 (by decide))) (H (512 * n + r.val)) b
        (next A B H (fun _ _ => 0) (512 * n + r.val + 1) b) k))
      (outsAt0 m c (8 * i.val + n) (pt i n hn).isLt) := by
  induction n with
  | zero =>
    have h := after_first m c (pt i 0 (by decide)) (H := H) (fun r k => by have := hH 0 (by decide) r k; rwa [Nat.mul_zero, Nat.zero_add] at this)
      f (by show (8 * i.val + 0) % 8 = 0; omega) rfl rfl
    simp only [Nat.mul_zero, Nat.zero_add, Nat.mul_one]
    fin_cases i
    · have e := outsAt0_zero m c (pt 0 0 (by decide)).isLt
      exact e ▸ h junk0
    · have e := outsAt0_succ m c 7 (pt 1 0 (by decide)).isLt
      exact e ▸ h _
  | succ n ih =>
    have h := after_next m c (pt i (n + 1) hn) (H := fun j => H (512 * (n + 1) + j)) (fun r k => hH (n + 1) hn r k)
      (A := A) (B := B) (x1 := iblk m c 1 (pt i 0 (by decide))) (x2 := iblk m c 2 (pt i 0 (by decide)))
      (by rw [same3]; exact f) (by show ¬(8 * i.val + (n + 1)) % 8 = 0; omega) (ih (by omega))
    have e := outsAt0_succ m c (8 * i.val + n) (pt i (n + 1) hn).isLt
    rw [same4] at h
    have hr : ∀ (j : ℕ) (b : Fin 2) (k : Fin 1024),
        next A B (fun j => H (512 * (n + 1) + j)) (next A B H (fun _ _ => 0) (512 * (n + 1))) j b k
          = next A B H (fun _ _ => 0) (512 * (n + 1) + j) b k := fun j b k =>
      (run_add (A b k) (fun i => feed b H (B b) i k) 0 (512 * (n + 1)) j).symm
    rw [show outsAt0 m c (8 * i.val + (n + 1)) (pt i (n + 1) hn).isLt = _ from e]
    refine ⟨h.bw, h.cw, h.order, h.back, fun b q k => ?_, fun r b k => ?_⟩
    · have := h.states b q k
      rwa [hr, show 512 * (n + 1) + 512 = 512 * (n + 1 + 1) by omega] at this
    · refine (h.out r b k).trans ?_
      have : next A B (fun j => H (512 * (n + 1) + j)) (next A B H (fun _ _ => 0) (512 * (n + 1))) (r.val + 1) b
          = next A B H (fun _ _ => 0) (512 * (n + 1) + r.val + 1) b := funext fun x => hr _ b x
      rw [this]

end Cert.S5Scan
-- ==== Proof.ScanHost.lean ====
module

public import proofs.«01_k».proof.Proof.ScanSpec
public import proofs.«01_k».proof.Proof.ScanTable
public import proofs.«01_k».proof.Proof.ScanTime

/-! # What the lines before the scan leave

The matrices of inputs and outputs and the rows of powers, block by block, from the arguments. -/

@[expose] public section

set_option maxRecDepth 16384
set_option backward.proofsInPublic true

noncomputable section

namespace Cert.S5Scan

open Idealize.ShloMosaic Idealize.ShloMosaic.TcCoe Idealize.SL.Sem Cert.S5fIdeal Cert.S5fIdeal.Gen

variable (m : (ℓ : Loc nD τ sig) → Buf (Elt Ideal) ℓ) (c : Dev nD)

/-- The arguments in memory. -/
def argsOf : Args where
  h := m ((c : Thread nD τ).loc main_arg0)
  are := m ((c : Thread nD τ).loc main_arg1)
  aim := m ((c : Thread nD τ).loc main_arg2)
  step := m ((c : Thread nD τ).loc main_arg3)
  bre := m ((c : Thread nD τ).loc main_arg4)
  bim := m ((c : Thread nD τ).loc main_arg5)
  cre := m ((c : Thread nD τ).loc main_arg6)
  cim := m ((c : Thread nD τ).loc main_arg7)
  d := m ((c : Thread nD τ).loc main_arg8)

set_option maxHeartbeats 1000000 in
theorem V_abr (g p : Fin 64) : V m c main_v10 (ix2 (n0 := 64) (n1 := 64) g p) = ((argsOf m c).abr g p : EReal) := by
  unfold_abbrev_sides
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results
  pointwise
  rfl

set_option maxHeartbeats 1000000 in
theorem V_abi (g p : Fin 64) : V m c main_v14 (ix2 (n0 := 64) (n1 := 64) g p) = ((argsOf m c).abi g p : EReal) := by
  unfold_abbrev_sides
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results
  pointwise
  rfl

set_option maxHeartbeats 4000000 in
theorem V_inputs (k : Fin 4) (r : Fin 256) (x : Fin 128) : V m c main_v50 (ix3 (n0 := 4) (n1 := 256) (n2 := 128) k r x)
    = ((if x.val / 64 < 1 then (argsOf m c).bbr ⟨k.val * 16 + r.val / 16, by omega⟩ ⟨x.val % 64, by omega⟩ ⟨r.val % 16, by omega⟩
        else (argsOf m c).bbi ⟨k.val * 16 + r.val / 16, by omega⟩ ⟨x.val % 64, by omega⟩ ⟨r.val % 16, by omega⟩ : EReal)) := by
  unfold_abbrev_sides
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results
  pointwise
  by_cases h : x.val / 64 < 1
  · exact (dif_pos h).trans (if_pos h).symm
  · exact (dif_neg h).trans (if_neg h).symm

set_option maxHeartbeats 4000000 in
theorem V_outputs (k : Fin 4) (r : Fin 256) (x : Fin 128) : V m c main_v58 (ix3 (n0 := 4) (n1 := 128) (n2 := 256) k x r)
    = ((if x.val / 64 < 1 then
          (argsOf m c).cre (ix3 (n0 := 64) (n1 := 16) (n2 := 64) ⟨k.val * 16 + r.val / 16, by omega⟩ ⟨r.val % 16, by omega⟩ ⟨x.val % 64, by omega⟩)
        else -(argsOf m c).cim (ix3 (n0 := 64) (n1 := 16) (n2 := 64) ⟨k.val * 16 + r.val / 16, by omega⟩ ⟨r.val % 16, by omega⟩ ⟨x.val % 64, by omega⟩)
        : EReal)) := by
  unfold_abbrev_sides
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results
  pointwise
  by_cases h : x.val / 64 < 1
  · exact (dif_pos h).trans (if_pos h).symm
  · exact (dif_neg h).trans (if_neg h).symm

/-! ## The powers -/

/-- A pair holds the halves of `z`. -/
def PairIs (u : Pair) (z : Fin 64 → Fin 64 → ℂ) : Prop :=
  ∀ g p : Fin 64, IsC (u.1 (ix2 (n0 := 64) (n1 := 64) g p)) (u.2 (ix2 (n0 := 64) (n1 := 64) g p)) (z g p)

theorem PairIs.mul {u v : Pair} {y z : Fin 64 → Fin 64 → ℂ} (hu : PairIs u y) (hv : PairIs v z) :
    PairIs (cmul u v) fun g p => y g p * z g p := fun g p => (hu g p).mul (hv g p)

theorem PairIs.squares {u : Pair} {z : Fin 64 → Fin 64 → ℂ} (hu : PairIs u z) (n : ℕ) :
    PairIs (squares u n) fun g p => z g p ^ 2 ^ n := by
  induction n with
  | zero => simpa [S5Scan.squares] using hu
  | succ n ih =>
    have h := ih.mul ih
    simp only [← pow_add, ← two_mul, ← pow_succ'] at h
    exact h

theorem PairIs.powers {u : Pair} {z : Fin 64 → Fin 64 → ℂ} (hu : PairIs u z) (n : ℕ) :
    PairIs (powers u n) fun g p => z g p ^ (n + 1) := by
  induction n with
  | zero => simpa [S5Scan.powers] using hu
  | succ n ih =>
    have h := ih.mul hu
    simp only [← pow_succ] at h
    exact h

variable {m c} (f : (argsOf m c).Finite)
include f

theorem coefs_is : PairIs (coefs m c) (argsOf m c).coef := fun g p => by
  have h := coef_isC g p f
  exact ⟨(V_abr m c g p).trans h.1, (V_abi m c g p).trans h.2⟩

theorem powers_is (n : ℕ) : PairIs (powers (squares (coefs m c) 6) n) fun g p => ((argsOf m c).coef g p ^ 64) ^ (n + 1) :=
  ((coefs_is f).squares 6).powers n

theorem halves_is (n : Fin 5) (q : Fin 8) (g p : Fin 64) :
    IsC
      (half (coefs m c).1 (fun n => (powers (squares (coefs m c) 6) n).1)
        (ix3 (n0 := 40) (n1 := 64) (n2 := 64) ⟨8 * n.val + q.val, by omega⟩ g p))
      (half (coefs m c).2 (fun n => (powers (squares (coefs m c) 6) n).2)
        (ix3 (n0 := 40) (n1 := 64) (n2 := 64) ⟨8 * n.val + q.val, by omega⟩ g p))
      (powAt n q ((argsOf m c).coef g p)) := by
  have h1 := powers_is f 0 g p
  have h2 := powers_is f 1 g p
  have h4 := powers_is f 3 g p
  have h8 := powers_is f q.val g p
  have h0 := coefs_is f g p
  rw [half_apply, half_apply]
  match n with
  | 0 => exact h0
  | 1 =>
    show IsC ((if 1 ≤ q.val then _ else fun _ => 0 : Coef) _) ((if 1 ≤ q.val then _ else fun _ => 0 : Coef) _) (if 1 ≤ q.val then _ else 0)
    split
    · simpa using h1
    · exact IsC.zero
  | 2 =>
    show IsC ((if 2 ≤ q.val then _ else fun _ => 0 : Coef) _) ((if 2 ≤ q.val then _ else fun _ => 0 : Coef) _) (if 2 ≤ q.val then _ else 0)
    split
    · exact h2
    · exact IsC.zero
  | 3 =>
    show IsC ((if 4 ≤ q.val then _ else fun _ => 0 : Coef) _) ((if 4 ≤ q.val then _ else fun _ => 0 : Coef) _) (if 4 ≤ q.val then _ else 0)
    split
    · exact h4
    · exact IsC.zero
  | 4 => exact h8

end Cert.S5Scan
-- ==== Proof.ScanKernel.lean ====
module

public import proofs.«01_k».proof.Proof.ScanHost

/-! # The kernel's output

Every entry of the kernel's result: the gate of the output the arguments describe. -/

@[expose] public section

set_option maxRecDepth 16384
set_option backward.proofsInPublic true

noncomputable section

namespace Cert.S5Scan

open Idealize.ShloMosaic Idealize.ShloMosaic.TcCoe Idealize.SL.Sem Cert.S5fIdeal Cert.S5fIdeal.Gen Cert.S5fIdeal.Value

variable (m : (ℓ : Loc nD τ sig) → Buf (Elt Ideal) ℓ) (c : Dev nD)

/-- The group of column `k` of the states of block `b` of pair `i`. -/
abbrev grp (i b : Fin 2) (k : ℕ) (hk : k < 16) : Fin 64 := ⟨16 * (2 * i.val + b.val) + k, by omega⟩

def coefAt (a : Args) (i b : Fin 2) (k : Fin 1024) : ℂ := a.coef (grp i b (k.val / 64) (by omega)) ⟨k.val % 64, by omega⟩
def factAt (a : Args) (i b : Fin 2) (r : Fin 256) (p : Fin 64) : ℂ := a.fact (grp i b (r.val / 16) (by omega)) p ⟨r.val % 16, by omega⟩
def rowAt (a : Args) (i : Fin 2) (n : ℕ) (k : Fin 512) : ℝ := a.row n ⟨512 * i.val + k.val, by omega⟩

variable {m c} (f : (argsOf m c).Finite)
include f

theorem fits (i : Fin 2) : Fits (iblk m c 1 (pt i 0 (by decide))) (iblk m c 3 (pt i 0 (by decide)))
    (coefAt (argsOf m c) i) (factAt (argsOf m c) i) where
  inputs b r p := by
    have h := fact_isC (grp i b (r.val / 16) (by omega)) p f ⟨r.val % 16, by omega⟩
    have e : ∀ z : Fin 4, z.val = 2 * i.val + b.val → (⟨z.val * 16 + r.val / 16, by omega⟩ : Fin 64) = grp i b (r.val / 16) (by omega) :=
      fun z hz => Fin.ext (by show z.val * 16 + r.val / 16 = 16 * (2 * i.val + b.val) + r.val / 16; omega)
    have hz : 2 * ((8 * i.val + 0) / 8) + b.val = 2 * i.val + b.val := by omega
    rw [blk1, blk1, V_inputs, V_inputs]
    have e0 : (⟨p.val % 64, by omega⟩ : Fin 64) = p := Fin.ext (Nat.mod_eq_of_lt p.isLt)
    have e1 : (⟨(64 + p.val) % 64, by omega⟩ : Fin 64) = p := Fin.ext (by show (64 + p.val) % 64 = p.val; omega)
    constructor
    · refine (if_pos (by show p.val / 64 < 1; omega)).trans ?_
      refine Eq.trans ?_ h.1
      exact congrArg₂ (fun g s => (argsOf m c).bbr g s _) (e _ hz) e0
    · refine (if_neg (by show ¬(64 + p.val) / 64 < 1; omega)).trans ?_
      refine Eq.trans ?_ h.2
      exact congrArg₂ (fun g s => (argsOf m c).bbi g s _) (e _ hz) e1
  rows b n q k := by
    have h := halves_is f n q (grp i b (k.val / 64) (by omega)) ⟨k.val % 64, by omega⟩
    rw [blk3, blk3, V_table, table_apply, table_apply]
    have hz : 2 * ((8 * i.val + 0) / 8) + b.val = 2 * i.val + b.val := by omega
    constructor
    · refine (congrFun (if_pos (by show k.val < 1024; omega)) _).trans (Eq.trans ?_ h.1)
      refine congrArg₂ (fun g s => half (coefs m c).1 (fun n => (powers (squares (coefs m c) 6) n).1)
        (ix3 (n0 := 40) (n1 := 64) (n2 := 64) ⟨8 * n.val + q.val, by omega⟩ g s)) ?_ ?_
      · exact Fin.ext (by show 16 * (2 * ((8 * i.val + 0) / 8) + b.val) + k.val % 1024 / 64 = 16 * (2 * i.val + b.val) + k.val / 64; omega)
      · rfl
    · refine (congrFun (if_neg (by show ¬1024 + k.val < 1024; omega)) _).trans (Eq.trans ?_ h.2)
      refine congrArg₂ (fun g s => half (coefs m c).2 (fun n => (powers (squares (coefs m c) 6) n).2)
        (ix3 (n0 := 40) (n1 := 64) (n2 := 64) ⟨8 * n.val + q.val, by omega⟩ g s)) ?_ ?_
      · exact Fin.ext (by show 16 * (2 * ((8 * i.val + 0) / 8) + b.val) + (1024 + k.val) % 1024 / 64 = 16 * (2 * i.val + b.val) + k.val / 64; omega)
      · exact Fin.ext (by show (1024 + k.val) % 64 = k.val % 64; omega)

theorem rows_at (i : Fin 2) (n : ℕ) (hn : n < 8) (r k : Fin 512) :
    iblk m c 0 (pt i n hn) (ix2 (n0 := 512) (n1 := 512) r k) = (rowAt (argsOf m c) i (512 * n + r.val) k : EReal) := by
  rw [blk0]
  have h := row_eq f ⟨512 * n + r.val, by omega⟩ ⟨512 * i.val + k.val, by omega⟩
  refine Eq.trans ?_ h
  show (argsOf m c).h _ = (argsOf m c).h _
  refine congrArg₂ (fun x y => (argsOf m c).h (ix2 (n0 := 4096) (n1 := 1024) x y)) ?_ ?_
  · exact Fin.ext (by show 512 * ((8 * i.val + n) % 8) + r.val = 512 * n + r.val; omega)
  · exact Fin.ext (by show 512 * ((8 * i.val + n) / 8) + k.val = 512 * i.val + k.val; omega)

omit f in
/-- What feeds a column of the tile is what feeds its group's state. -/
theorem feed_eq (a : Args) (i b : Fin 2) (n : ℕ) (k : Fin 1024) :
    feed b (rowAt a i) (factAt a i b) n k = a.input (grp i b (k.val / 64) (by omega)) ⟨k.val % 64, by omega⟩ n := by
  unfold feed
  rw [sum_one_block (a := 16) (b := 16) (n := 256) rfl (by decide) (k.val / 64) (by omega)
    (fun x : Fin 256 => (rowAt a i n ⟨256 * b.val + x.val, by omega⟩ : ℂ) * factAt a i b x ⟨k.val % 64, by omega⟩)]
  unfold Args.input
  refine Finset.sum_congr rfl fun h _ => ?_
  unfold rowAt factAt
  refine congrArg₂ (· * ·) ?_ ?_
  · refine congrArg (fun x => ((a.row n x : ℝ) : ℂ)) (Fin.ext ?_)
    show 512 * i.val + (256 * b.val + (k.val / 64 * 16 + h.val)) = 16 * (16 * (2 * i.val + b.val) + k.val / 64) + h.val
    omega
  · refine congrArg₂ (fun g h => a.fact g _ h) (Fin.ext ?_) (Fin.ext ?_)
    · show 16 * (2 * i.val + b.val) + (k.val / 64 * 16 + h.val) / 16 = 16 * (2 * i.val + b.val) + k.val / 64
      omega
    · show (k.val / 64 * 16 + h.val) % 16 = h.val
      omega

omit f in
theorem next_eq (a : Args) (i b : Fin 2) (n : ℕ) (k : Fin 1024) :
    next (coefAt a i) (factAt a i) (rowAt a i) (fun _ _ => 0) n b k
      = a.state (grp i b (k.val / 64) (by omega)) ⟨k.val % 64, by omega⟩ n := by
  unfold next Args.state
  exact run_congr _ _ _ _ _ fun x _ => feed_eq a i b x k

theorem outAt_eq (i b : Fin 2) (l : Fin 4096) (k : Fin 256) :
    outAt (iblk m c 2 (pt i 0 (by decide))) (iblk m c 4 (pt i 0 (by decide))) (rowAt (argsOf m c) i l.val) b
        (next (coefAt (argsOf m c) i) (factAt (argsOf m c) i) (rowAt (argsOf m c) i) (fun _ _ => 0) (l.val + 1) b) k
      = (argsOf m c).out l ⟨512 * i.val + 256 * b.val + k.val, by omega⟩ := by
  have hg : grp i b (k.val / 16) (by omega) = (⟨(512 * i.val + 256 * b.val + k.val) / 16, by omega⟩ : Fin 64) :=
    Fin.ext (by show 16 * (2 * i.val + b.val) + k.val / 16 = (512 * i.val + 256 * b.val + k.val) / 16; omega)
  have hs : ∀ p : Fin 64, next (coefAt (argsOf m c) i) (factAt (argsOf m c) i) (rowAt (argsOf m c) i) (fun _ _ => 0) (l.val + 1) b
      ⟨k.val / 16 * 64 + p.val, by omega⟩
        = (argsOf m c).state (⟨(512 * i.val + 256 * b.val + k.val) / 16, by omega⟩ : Fin 64) p (l.val + 1) := by
    intro p
    rw [next_eq, ← hg]
    refine congrArg₂ (fun g s => (argsOf m c).state g s (l.val + 1)) (Fin.ext ?_) (Fin.ext ?_)
    · show 16 * (2 * i.val + b.val) + (k.val / 16 * 64 + p.val) / 64 = 16 * (2 * i.val + b.val) + k.val / 16
      omega
    · show (k.val / 16 * 64 + p.val) % 64 = p.val
      omega
  have hx : ∀ (w : Fin 2) (p : Fin 64), iblk m c 2 (pt i 0 (by decide))
      (ix3 (n0 := 2) (n1 := 128) (n2 := 256) b ⟨64 * w.val + (k.val / 16 * 64 + p.val) % 64, by omega⟩ k)
        = (if w = 0 then (argsOf m c).cre (ix3 (n0 := 64) (n1 := 16) (n2 := 64) ⟨(512 * i.val + 256 * b.val + k.val) / 16, by omega⟩
              ⟨(512 * i.val + 256 * b.val + k.val) % 16, by omega⟩ p)
          else -(argsOf m c).cim (ix3 (n0 := 64) (n1 := 16) (n2 := 64) ⟨(512 * i.val + 256 * b.val + k.val) / 16, by omega⟩
              ⟨(512 * i.val + 256 * b.val + k.val) % 16, by omega⟩ p) : EReal) := by
    intro w p
    rw [blk2, V_outputs]
    have e : ∀ X : FVec Ideal S64x16x64 .f32, X (ix3 (n0 := 64) (n1 := 16) (n2 := 64)
          ⟨(2 * ((8 * i.val + 0) / 8) + b.val) * 16 + k.val / 16, by omega⟩ ⟨k.val % 16, by omega⟩
          ⟨(64 * w.val + (k.val / 16 * 64 + p.val) % 64) % 64, by omega⟩)
        = X (ix3 (n0 := 64) (n1 := 16) (n2 := 64) ⟨(512 * i.val + 256 * b.val + k.val) / 16, by omega⟩
              ⟨(512 * i.val + 256 * b.val + k.val) % 16, by omega⟩ p) := by
      intro X
      have e1 : (⟨(2 * ((8 * i.val + 0) / 8) + b.val) * 16 + k.val / 16, by omega⟩ : Fin 64)
          = ⟨(512 * i.val + 256 * b.val + k.val) / 16, by omega⟩ :=
        Fin.ext (by show (2 * ((8 * i.val + 0) / 8) + b.val) * 16 + k.val / 16 = (512 * i.val + 256 * b.val + k.val) / 16; omega)
      have e2 : (⟨k.val % 16, by omega⟩ : Fin 16) = ⟨(512 * i.val + 256 * b.val + k.val) % 16, by omega⟩ :=
        Fin.ext (by show k.val % 16 = (512 * i.val + 256 * b.val + k.val) % 16; omega)
      have e3 : (⟨(64 * w.val + (k.val / 16 * 64 + p.val) % 64) % 64, by omega⟩ : Fin 64) = p :=
        Fin.ext (by show (64 * w.val + (k.val / 16 * 64 + p.val) % 64) % 64 = p.val; omega)
      rw [e1, e2, e3]
    by_cases hw : w = 0
    · subst hw
      exact (if_pos (by show (64 * 0 + (k.val / 16 * 64 + p.val) % 64) / 64 < 1; omega)).trans (e _)
    · obtain rfl : w = 1 := by omega
      exact (if_neg (by show ¬(64 * 1 + (k.val / 16 * 64 + p.val) % 64) / 64 < 1; omega)).trans (congrArg (fun z : EReal => -z) (e _))
  unfold outAt Args.out
  refine congrArg₂ (· + ·) (congrArg₂ (· + ·) ?_ ?_) (congrArg₂ (· * ·) ?_ ?_)
  · refine Finset.sum_congr rfl fun p _ => ?_
    unfold term
    exact congrArg₂ (· * ·) (congrArg (fun z : ℂ => ((part 0 z : ℝ) : EReal)) (hs p)) (hx 0 p)
  · refine Finset.sum_congr rfl fun p _ => ?_
    unfold term
    exact congrArg₂ (· * ·) (congrArg (fun z : ℂ => ((part 1 z : ℝ) : EReal)) (hs p)) (hx 1 p)
  · rw [blk4]
    exact congrArg (fun z => (argsOf m c).d (ix2 (n0 := 1) (n1 := 1024) 0 z))
      (Fin.ext (by show 512 * ((8 * i.val + 0) / 8) + (256 * b.val + k.val) = 512 * i.val + 256 * b.val + k.val; omega))
  · unfold rowAt
    exact congrArg (fun z => (((argsOf m c).row l.val z : ℝ) : EReal))
      (Fin.ext (by show 512 * i.val + (256 * b.val + k.val) = 512 * i.val + 256 * b.val + k.val; omega))

/-- Every entry of the kernel's result. -/
theorem G7_apply (l : Fin 4096) (j : Fin 1024) :
    G7 m c (ix2 (n0 := 4096) (n1 := 1024) l j) = gelu ((argsOf m c).out l j) := by
  let i : Fin 2 := ⟨j.val / 512, by omega⟩
  let b : Fin 2 := ⟨j.val % 512 / 256, by omega⟩
  let k : Fin 256 := ⟨j.val % 256, by omega⟩
  have hn : l.val / 512 < 8 := by omega
  have h := (after_tile m c i (rows_at f i) (fits f i) (l.val / 512) hn).out ⟨l.val % 512, by omega⟩ b k
  have hl : 512 * (l.val / 512) + l.val % 512 = l.val := Nat.div_add_mod _ _
  have o := outAt_eq f i b l k
  have ej : (⟨512 * i.val + 256 * b.val + k.val, by omega⟩ : Fin 1024) = j :=
    Fin.ext (by show 512 * (j.val / 512) + 256 * (j.val % 512 / 256) + j.val % 256 = j.val; omega)
  rw [ej] at o
  simp only [hl] at h
  rw [o] at h
  refine Eq.trans ?_ h
  have hp : pt7Of (ix2 (n0 := 4096) (n1 := 1024) l j) = 8 * i.val + l.val / 512 := by
    show 1 * (l.val / 512 - 0) + 8 * (j.val / 512 - 0) = 8 * (j.val / 512) + l.val / 512
    omega
  have hN : pt7Of (ix2 (n0 := 4096) (n1 := 1024) l j) < cfg0.N := hp ▸ (pt i (l.val / 512) hn).isLt
  have ho : ∀ (n n' : ℕ) (e : n = n') (h : n < cfg0.N) (h' : n' < cfg0.N), outsAt0 m c n h = outsAt0 m c n' h' := by
    rintro n _ rfl _ _; rfl
  unfold G7
  rw [dif_pos hN]
  rw [← outsAt0_sweep m c _ hN, ho _ _ hp hN (pt i (l.val / 512) hn).isLt]
  refine congrArg _ (funext fun a => ?_)
  fin_cases a
  · rfl
  · exact Fin.ext (by show j.val % 512 = 256 * (j.val % 512 / 256) + j.val % 256; omega)

end Cert.S5Scan
-- ==== Proof.ScanLoop.lean ====
module

public import proofs.«01_k».proof.Proof.ScanSpec
public import proofs.«01_k».proof.Proof.ScanOut
public import proofs.«01_k».proof.Proof.Gen.S5fRefIdeal.Run

/-! # The reference's loop

What the reference's loop carries before trip `n`: the states after `n` positions, and the states so far in rows. -/

@[expose] public section

set_option maxRecDepth 16384
set_option backward.proofsInPublic true

noncomputable section

namespace Cert.S5Scan

open Idealize.ShloMosaic Idealize.ShloMosaic.TcCoe Idealize.SL.Sem Idealize.ShloMosaic.StableHlo
open Cert.S5fRefIdeal Cert.S5fRefIdeal.Gen Cert.S5fRefIdeal.Value

/-! ## A row of an array at a position known only in the run -/

section rows
variable {start : Fin 3 → Int} {n : ℕ} (h0 : start 0 = n) (h1 : start 1 = 0) (h2 : start 2 = 0) (hn : n < 4096)
include h0 h1 h2 hn

theorem clamped (a : Fin 3) : Host.clampedStart S4096x64x64 S1x64x64 rfl start a = (![n, 0, 0] : Fin 3 → ℕ) a := by
  fin_cases a
  · exact Host.clampedStart_of_le _ _ _ n h0 (by show n + 1 ≤ 4096; omega)
  · exact Host.clampedStart_of_le _ _ _ 0 h1 (by show 0 + 64 ≤ 64; omega)
  · exact Host.clampedStart_of_le _ _ _ 0 h2 (by show 0 + 64 ≤ 64; omega)

theorem taken_apply (x : FVec Ideal S4096x64x64 .f32) (g p : Fin 64) :
    shapeCast S64x64 (Host.dynamicSlice S1x64x64 x start sliceFits_S4096x64x64_S1x64x64) shapeCasts_S1x64x64_S64x64
        (ix2 (n0 := 64) (n1 := 64) g p)
      = x (ix3 (n0 := 4096) (n1 := 64) (n2 := 64) ⟨n, hn⟩ g p) := by
  have c := clamped h0 h1 h2 hn
  pointwise
  refine congrArg x (funext fun a => Fin.ext ?_)
  match a with
  | ⟨0, _⟩ => exact c 0
  | ⟨1, _⟩ => exact (congrArg (· + g.val) (c 1)).trans (Nat.zero_add _)
  | ⟨2, _⟩ => exact (congrArg (· + p.val) (c 2)).trans (Nat.zero_add _)

theorem put_apply (x : FVec Ideal S4096x64x64 .f32) (u : FVec Ideal S64x64 .f32) (l : Fin 4096) (g p : Fin 64) :
    Host.dynamicUpdateSlice x (broadcastInDim S1x64x64 ![1, 2] bcast_S64x64_S1x64x64_1_2 u) start updateFits_S4096x64x64_S1x64x64
        (ix3 (n0 := 4096) (n1 := 64) (n2 := 64) l g p)
      = if l.val = n then u (ix2 (n0 := 64) (n1 := 64) g p) else x (ix3 (n0 := 4096) (n1 := 64) (n2 := 64) l g p) := by
  have c := clamped h0 h1 h2 hn
  rw [Host.dynamicUpdateSlice_apply]
  have c0 : Host.clampedStart S4096x64x64 S1x64x64 rfl start 0 = n := c 0
  have c1 : Host.clampedStart S4096x64x64 S1x64x64 rfl start 1 = 0 := c 1
  have c2 : Host.clampedStart S4096x64x64 S1x64x64 rfl start 2 = 0 := c 2
  by_cases hl : l.val = n
  · rw [if_pos hl, dif_pos]
    · pointwise
      refine congrArg u (funext fun a => Fin.ext ?_)
      match a with
      | ⟨0, _⟩ => exact (congrArg (g.val - ·) c1).trans (Nat.sub_zero _)
      | ⟨1, _⟩ => exact (congrArg (p.val - ·) c2).trans (Nat.sub_zero _)
    · intro a
      match a with
      | ⟨0, _⟩ =>
        show Host.clampedStart S4096x64x64 S1x64x64 rfl start 0 ≤ l.val ∧ l.val < Host.clampedStart S4096x64x64 S1x64x64 rfl start 0 + 1
        rw [c0]; omega
      | ⟨1, _⟩ =>
        show Host.clampedStart S4096x64x64 S1x64x64 rfl start 1 ≤ g.val ∧ g.val < Host.clampedStart S4096x64x64 S1x64x64 rfl start 1 + 64
        rw [c1]; omega
      | ⟨2, _⟩ =>
        show Host.clampedStart S4096x64x64 S1x64x64 rfl start 2 ≤ p.val ∧ p.val < Host.clampedStart S4096x64x64 S1x64x64 rfl start 2 + 64
        rw [c2]; omega
  · rw [if_neg hl, dif_neg]
    intro hin
    have h := hin 0
    have h' : Host.clampedStart S4096x64x64 S1x64x64 rfl start 0 ≤ l.val ∧ l.val < Host.clampedStart S4096x64x64 S1x64x64 rfl start 0 + 1 := h
    rw [c0] at h'
    omega

end rows

/-! ## What the loop carries -/

/-- Before trip `n`, on the arguments `a`. -/
structure Carries (a : Args) (n : ℕ) (V : Valuation τ sig (Elt Ideal)) : Prop where
  fed : ∀ (l : Fin 4096) (g p : Fin 64), IsC ((V (Proc.devRef .tc main_v52_0) : FVec Ideal S4096x64x64 .f32) (ix3 (n0 := 4096) (n1 := 64) (n2 := 64) l g p))
    ((V (Proc.devRef .tc main_v52_1) : FVec Ideal S4096x64x64 .f32) (ix3 (n0 := 4096) (n1 := 64) (n2 := 64) l g p)) (a.input g p l.val)
  coef : ∀ g p : Fin 64, IsC ((V (Proc.devRef .tc main_v52_2) : FVec Ideal S64x64 .f32) (ix2 (n0 := 64) (n1 := 64) g p))
    ((V (Proc.devRef .tc main_v52_3) : FVec Ideal S64x64 .f32) (ix2 (n0 := 64) (n1 := 64) g p)) (a.coef g p)
  count : (V (Proc.devRef .tc main_v52_4) : IVec S_ 32) = fun _ => BitVec.ofNat 32 n
  state : ∀ g p : Fin 64, IsC ((V (Proc.devRef .tc main_v52_5) : FVec Ideal S64x64 .f32) (ix2 (n0 := 64) (n1 := 64) g p))
    ((V (Proc.devRef .tc main_v52_6) : FVec Ideal S64x64 .f32) (ix2 (n0 := 64) (n1 := 64) g p)) (a.state g p n)
  past : ∀ (l : Fin 4096) (g p : Fin 64), l.val < n →
    IsC ((V (Proc.devRef .tc main_v52_7) : FVec Ideal S4096x64x64 .f32) (ix3 (n0 := 4096) (n1 := 64) (n2 := 64) l g p))
      ((V (Proc.devRef .tc main_v52_8) : FVec Ideal S4096x64x64 .f32) (ix3 (n0 := 4096) (n1 := 64) (n2 := 64) l g p))
      (a.state g p (l.val + 1))

variable {a : Args} {n : ℕ} {V : Valuation τ sig (Elt Ideal)}

/-- Where the loop reads and writes. -/
abbrev startOf (V : Valuation τ sig (Elt Ideal)) : Fin 3 → Int :=
  fun k => (((![V (Proc.devRef .tc main_v52_4), constantI S_ 32 0#32, constantI S_ 32 0#32] : Fin 3 → (⟨S_, .i32⟩ : BufTy).Contents (Elt Ideal)))
    k (Shape.Idx.first h_S_)).toInt

theorem Carries.start (h : Carries a n V) (hn : n < 4096) : startOf V 0 = n := by
  show ((V (Proc.devRef .tc main_v52_4) : IVec S_ 32) (Shape.Idx.first h_S_)).toInt = n
  rw [h.count, BitVec.toInt_eq_toNat_of_lt]
  · rw [BitVec.toNat_ofNat, Nat.mod_eq_of_lt (by omega)]
  · rw [BitVec.toNat_ofNat, Nat.mod_eq_of_lt (by omega)]; omega

/-- The states the trip makes. -/
theorem Carries.new (h : Carries a n V) (hn : n < 4096) (g p : Fin 64) :
    IsC (res_main_while0b_v81 V (ix2 (n0 := 64) (n1 := 64) g p)) (res_main_while0b_v85 V (ix2 (n0 := 64) (n1 := 64) g p))
      (a.state g p (n + 1)) := by
  have hs := ((h.coef g p).mul (h.state g p)).add (h.fed ⟨n, hn⟩ g p)
  have e : a.coef g p * a.state g p n + a.input g p n = a.state g p (n + 1) := by rw [add_comm]; rfl
  rw [e] at hs
  have t := fun x => taken_apply (start := startOf V) (h.start hn) rfl rfl hn x g p
  unfold res_main_while0b_v81 res_main_while0b_v85
  refine ⟨Eq.trans ?_ hs.1, Eq.trans ?_ hs.2⟩
  · exact congrArg₂ (· + ·) rfl (t (V (Proc.devRef .tc main_v52_0)))
  · exact congrArg₂ (· + ·) rfl (t (V (Proc.devRef .tc main_v52_1)))

theorem Carries.next (h : Carries a n V) (hn : n < 4096) : Carries a (n + 1) (STEP V) where
  fed l g p := by rw [STEP_main_v52_0, STEP_main_v52_1]; exact h.fed l g p
  coef g p := by rw [STEP_main_v52_2, STEP_main_v52_3]; exact h.coef g p
  count := by
    rw [STEP_main_v52_4]
    unfold step_main_v52_4
    funext i
    exact (congrArg (fun z : BitVec 32 => z + 1#32) (congrFun h.count i)).trans (BitVec.ofNat_add n 1).symm
  state g p := by
    rw [STEP_main_v52_5, STEP_main_v52_6]
    exact h.new hn g p
  past l g p hl := by
    rw [STEP_main_v52_7, STEP_main_v52_8]
    have t := fun x u => put_apply (start := startOf V) (h.start hn) rfl rfl hn x u l g p
    have hs := h.new hn g p
    unfold step_main_v52_7 step_main_v52_8
    by_cases e : l.val = n
    · refine ⟨((t _ _).trans (if_pos e)).trans ?_, ((t _ _).trans (if_pos e)).trans ?_⟩
      · rw [e]; exact hs.1
      · rw [e]; exact hs.2
    · have hp := h.past l g p (by omega)
      exact ⟨((t _ _).trans (if_neg e)).trans hp.1, ((t _ _).trans (if_neg e)).trans hp.2⟩

/-- Through the whole loop. -/
theorem Carries.iterate (h : Carries a 0 V) : ∀ n ≤ 4096, Carries a n (STEP^[n] V)
  | 0, _ => h
  | n + 1, hn => by
    rw [Function.iterate_succ_apply']
    exact (Carries.iterate h n (by omega)).next (by omega)

end Cert.S5Scan
-- ==== Proof.ScanRef.lean ====
module

public import proofs.«01_k».proof.Proof.ScanLoop

/-! # The reference's output

What the reference's loop starts from, and its result: the gate of the output the arguments describe. -/

@[expose] public section

set_option maxRecDepth 16384
set_option backward.proofsInPublic true

noncomputable section

namespace Cert.S5Scan

open Idealize.ShloMosaic Idealize.ShloMosaic.TcCoe Idealize.SL.Sem Idealize.ShloMosaic.StableHlo
open Cert.S5fRefIdeal Cert.S5fRefIdeal.Gen Cert.S5fRefIdeal.Value

variable (m : (ℓ : Loc nD τ sig) → Buf (Elt Ideal) ℓ) (c : Dev nD)

/-- The arguments in the reference's memory. -/
def refArgs : Args where
  h := m ((c : Thread nD τ).loc main_arg0)
  are := m ((c : Thread nD τ).loc main_arg1)
  aim := m ((c : Thread nD τ).loc main_arg2)
  step := m ((c : Thread nD τ).loc main_arg3)
  bre := m ((c : Thread nD τ).loc main_arg4)
  bim := m ((c : Thread nD τ).loc main_arg5)
  cre := m ((c : Thread nD τ).loc main_arg6)
  cim := m ((c : Thread nD τ).loc main_arg7)
  d := m ((c : Thread nD τ).loc main_arg8)

/-! ## Before the loop -/

/-- The position `l` of row `g` of the groups, as the reference's products meet it. -/
def Args.fed (a : Args) (l : Fin 4096) (g : Fin 64) (h : Fin 16) : EReal :=
  a.h (ix2 (n0 := 4096) (n1 := 1024) l ⟨g.val * 16 + h.val, by omega⟩)

set_option maxHeartbeats 1000000 in
theorem entry_re (l : Fin 4096) (g p : Fin 64) :
    entryContents preI m c (Proc.devRef .tc main_v52_0) (ix3 (n0 := 4096) (n1 := 64) (n2 := 64) l g p)
      = (∑ h : Fin 16, (refArgs m c).bbr g p h * (refArgs m c).fed l g h : EReal) := by
  simp only [entryContents, afterL_cons, afterL_nil]
  after_reads_simp
  simp only [id_eq]
  pointwise
  rfl

set_option maxHeartbeats 1000000 in
theorem entry_im (l : Fin 4096) (g p : Fin 64) :
    entryContents preI m c (Proc.devRef .tc main_v52_1) (ix3 (n0 := 4096) (n1 := 64) (n2 := 64) l g p)
      = (∑ h : Fin 16, (refArgs m c).bbi g p h * (refArgs m c).fed l g h : EReal) := by
  simp only [entryContents, afterL_cons, afterL_nil]
  after_reads_simp
  simp only [id_eq]
  pointwise
  rfl

theorem entry_abr (g p : Fin 64) :
    entryContents preI m c (Proc.devRef .tc main_v52_2) (ix2 (n0 := 64) (n1 := 64) g p) = ((refArgs m c).abr g p : EReal) := by
  simp only [entryContents, afterL_cons, afterL_nil]
  after_reads_simp
  simp only [id_eq]
  pointwise
  rfl

theorem entry_abi (g p : Fin 64) :
    entryContents preI m c (Proc.devRef .tc main_v52_3) (ix2 (n0 := 64) (n1 := 64) g p) = ((refArgs m c).abi g p : EReal) := by
  simp only [entryContents, afterL_cons, afterL_nil]
  after_reads_simp
  simp only [id_eq]
  pointwise
  rfl

theorem entry_xr (g p : Fin 64) :
    entryContents preI m c (Proc.devRef .tc main_v52_5) (ix2 (n0 := 64) (n1 := 64) g p) = (0 : EReal) := by
  simp only [entryContents, afterL_cons, afterL_nil]
  after_reads_simp
  simp only [id_eq]
  pointwise

theorem entry_xi (g p : Fin 64) :
    entryContents preI m c (Proc.devRef .tc main_v52_6) (ix2 (n0 := 64) (n1 := 64) g p) = (0 : EReal) := by
  simp only [entryContents, afterL_cons, afterL_nil]
  after_reads_simp
  simp only [id_eq]
  pointwise

section
variable {m c} (f : (refArgs m c).Finite)
include f

theorem entry_fed (l : Fin 4096) (g p : Fin 64) :
    IsC (∑ h : Fin 16, (refArgs m c).bbr g p h * (refArgs m c).fed l g h : EReal)
      (∑ h : Fin 16, (refArgs m c).bbi g p h * (refArgs m c).fed l g h : EReal) ((refArgs m c).input g p l.val) := by
  refine IsC.sum _ fun h _ => ?_
  have e : (refArgs m c).fed l g h = ((refArgs m c).row l.val ⟨16 * g.val + h.val, by omega⟩ : EReal) := by
    rw [← row_eq f]
    exact congrArg (fun z => (refArgs m c).h (ix2 (n0 := 4096) (n1 := 1024) l z))
      (Fin.ext (by show g.val * 16 + h.val = 16 * g.val + h.val; omega))
  have q := IsC.real_mul e (fact_isC g p f h)
  rw [mul_comm ((refArgs m c).bbr g p h), mul_comm ((refArgs m c).bbi g p h)]
  exact q

theorem carries_entry : Carries (refArgs m c) 0 (entryContents preI m c) where
  fed l g p := ⟨(entry_re m c l g p).trans (entry_fed f l g p).1, (entry_im m c l g p).trans (entry_fed f l g p).2⟩
  coef g p := ⟨(entry_abr m c g p).trans (coef_isC g p f).1, (entry_abi m c g p).trans (coef_isC g p f).2⟩
  count := ctr_entry m c
  state g p := ⟨(entry_xr m c g p).trans IsC.zero.1, (entry_xi m c g p).trans IsC.zero.2⟩
  past l g p hl := absurd hl (Nat.not_lt_zero _)

end

/-! ## After the loop -/

/-- A finite sum of finite numbers, each negated. -/
theorem sum_neg {ι : Type} (s : Finset ι) {x : ι → EReal} (h : ∀ i ∈ s, IsR (x i)) : (∑ i ∈ s, -x i) = -∑ i ∈ s, x i := by
  have e : IsC (∑ i ∈ s, x i) (∑ i ∈ s, -x i) (∑ i ∈ s, (⟨(x i).toReal, -(x i).toReal⟩ : ℂ)) :=
    IsC.sum _ fun i hi => ⟨h i hi, by rw [EReal.coe_neg, ← h i hi]⟩
  rw [e.1, e.2, Complex.re_sum, Complex.im_sum, ← EReal.coe_neg, Finset.sum_neg_distrib]

theorem gelu_eq (y : EReal) :
    y * (Ideal.ofBits FTy.f32 1056964608#32 * (1 + Ideal.tanh (Ideal.ofBits FTy.f32 1061962282#32 *
      (y + Ideal.ofBits FTy.f32 1027024659#32 * (y * y * y))))) = gelu y := by
  unfold gelu
  rw [← mul_assoc, mul_comm y, ← mul_assoc, ← mul_assoc]

/-- The output before the gate, as the reference computes it from the states in rows. -/
def readOf (yr yi : FVec Ideal S4096x64x64 .f32) (cr ci : FVec Ideal S64x16x64 .f32) (d : FVec Ideal S1x1024 .f32)
    (h : FVec Ideal S4096x1024 .f32) (l : Fin 4096) (j : Fin 1024) : EReal :=
  (∑ p : Fin 64, yr (ix3 (n0 := 4096) (n1 := 64) (n2 := 64) l ⟨j.val / 16, by omega⟩ p)
      * cr (ix3 (n0 := 64) (n1 := 16) (n2 := 64) ⟨j.val / 16, by omega⟩ ⟨j.val % 16, by omega⟩ p))
    - (∑ p : Fin 64, yi (ix3 (n0 := 4096) (n1 := 64) (n2 := 64) l ⟨j.val / 16, by omega⟩ p)
      * ci (ix3 (n0 := 64) (n1 := 16) (n2 := 64) ⟨j.val / 16, by omega⟩ ⟨j.val % 16, by omega⟩ p))
    + d (ix2 (n0 := 1) (n1 := 1024) 0 j) * h (ix2 (n0 := 4096) (n1 := 1024) l j)

theorem read_gate (V : Valuation τ sig (Elt Ideal)) (l : Fin 4096) (j : Fin 1024) :
    out_main_v75 V (ix2 (n0 := 4096) (n1 := 1024) l j)
      = gelu (readOf (V (Proc.devRef .tc main_v52_7)) (V (Proc.devRef .tc main_v52_8)) (V (Proc.devRef .tc main_arg6))
          (V (Proc.devRef .tc main_arg7)) (V (Proc.devRef .tc main_arg8)) (V (Proc.devRef .tc main_arg0)) l j) := by
  rw [← gelu_eq]
  unfold out_main_v75 readOf
  pointwise

/-- Read out of the states the loop ends with. -/
theorem read_states {a : Args} (f : a.Finite) {yr yi : FVec Ideal S4096x64x64 .f32}
    (hp : ∀ (l : Fin 4096) (g p : Fin 64), IsC (yr (ix3 (n0 := 4096) (n1 := 64) (n2 := 64) l g p))
      (yi (ix3 (n0 := 4096) (n1 := 64) (n2 := 64) l g p)) (a.state g p (l.val + 1))) (l : Fin 4096) (j : Fin 1024) :
    readOf yr yi a.cre a.cim a.d a.h l j = a.out l j := by
  unfold readOf Args.out
  have hp := hp l ⟨j.val / 16, by omega⟩
  refine congrArg₂ (· + ·) ?_ ?_
  · rw [sub_eq_add_neg, ← sum_neg]
    · refine congrArg₂ (· + ·) (Finset.sum_congr rfl fun p _ => ?_) (Finset.sum_congr rfl fun p _ => ?_)
      · rw [(hp p).1]
      · rw [mul_neg, (hp p).2]
    · intro p _
      exact IsR.mul (IsR.of (hp p).2) (f.cim _)
  · rw [row_eq f]

variable {m c} (f : (refArgs m c).Finite)
include f

/-- Every entry of the reference's result. -/
theorem ref_apply (l : Fin 4096) (j : Fin 1024) :
    out_main_v75 (STEP^[4096] (entryContents preI m c)) (ix2 (n0 := 4096) (n1 := 1024) l j) = gelu ((refArgs m c).out l j) := by
  have h := (carries_entry f).iterate 4096 le_rfl
  rw [read_gate, iter_main_arg6 m c 4096, iter_main_arg7 m c 4096, iter_main_arg8 m c 4096, iter_main_arg0 m c 4096]
  exact congrArg gelu (read_states f (fun l g p => h.past l g p l.isLt) l j)

end Cert.S5Scan
-- ==== Proof.ScanClaims.lean ====
/- The claims about the state-space mixer's forward call, from the runs: the blocked scan of the kernel and the plain
   recurrence of the reference give the same gated output for arguments that are finite. -/
module

public import proofs.«01_k».proof.Defs
public import proofs.«01_k».proof.Proof.ScanKernel
public import proofs.«01_k».proof.Proof.ScanRef
public import proofs.«01_k».proof.Proof.Gen.S5f.Frame

@[expose] public section

noncomputable section

open Idealize.ShloMosaic Idealize.ShloMosaic.TcCoe Idealize.SL.Sem

namespace Cert.Proof.S5f

open Cert.S5Scan

instance pre_facts : Cert.Pre_s5_finite.Facts where
  bcast_S_S4096x1024 := by decide
  reducesTo_S4096x1024_S_d0_1 := by decide
  h_S_ := by decide
  bcast_S_S64x64 := by decide
  reducesTo_S64x64_S_d0_1 := by decide
  bcast_S_S64 := by decide
  reducesTo_S64_S_d0 := by decide
  bcast_S_S64x64x16 := by decide
  reducesTo_S64x64x16_S_d0_1_2 := by decide
  bcast_S_S64x16x64 := by decide
  reducesTo_S64x16x64_S_d0_1_2 := by decide
  bcast_S_S1x1024 := by decide
  reducesTo_S1x1024_S_d0_1 := by decide

theorem frame : Cert.quiescent_S5f (hS5f := Cert.S5f.Gen.facts) := fun m ρ _ => Cert.S5f.Gen.frame m ρ
theorem frame_ideal : Cert.quiescent_S5fIdeal (hS5fIdeal := Cert.S5fIdeal.Gen.facts) := fun m ρ _ => Cert.S5fIdeal.Gen.frame m ρ
theorem frame_ideal_pre : Cert.quiescent_S5fIdeal_pre_s5_finite (hS5fIdeal := Cert.S5fIdeal.Gen.facts) (hPre_s5_finite := pre_facts) :=
  fun m ρ _ => frame_ideal m ρ trivial
theorem frame_ref : Cert.quiescent_S5fRefIdeal (hS5fRefIdeal := Cert.S5fRefIdeal.Gen.facts) := fun m ρ _ =>
  (θ_run Cert.S5fRefIdeal.defs _ _).mono (fun r h => ⟨fun c => (h c).2, sem_eq_zero_of_no_sems (by decide) r.2⟩)
    (Cert.S5fRefIdeal.Value.run (F := Ideal) m ρ)
theorem frame_ref_pre : Cert.quiescent_S5fRefIdeal_pre_s5_finite (hS5fRefIdeal := Cert.S5fRefIdeal.Gen.facts) (hPre_s5_finite := pre_facts) :=
  fun m ρ _ => frame_ref m ρ trivial

theorem algebraic : Cert.algebraic_S5fIdeal_S5fRefIdeal_pre_s5_finite (hS5fIdeal := Cert.S5fIdeal.Gen.facts)
    (hS5fRefIdeal := Cert.S5fRefIdeal.Gen.facts) (hPre_s5_finite := pre_facts) := by
  intro m ρ m' ρ' hpre hagree
  refine ⟨fun c => Cert.S5fIdeal.Value.G7 m c, ?_, ?_⟩
  · exact (θ_run Cert.S5fIdeal.defs _ _).mono (fun r h c => ⟨(h c).2.2.1, (h c).2.2.2⟩) (Cert.S5fIdeal.Value.run (F := Ideal) m ρ)
  · refine (θ_run Cert.S5fRefIdeal.defs _ _).mono (fun r h c => ⟨(h c).1.trans ?_, (h c).2⟩) (Cert.S5fRefIdeal.Value.run (F := Ideal) m' ρ')
    have e : refArgs m' c = argsOf m c := by
      obtain ⟨e0, e1, e2, e3, e4, e5, e6, e7, e8⟩ := hagree c
      unfold refArgs argsOf
      rw [e0, e1, e2, e3, e4, e5, e6, e7, e8]
    have f : (argsOf m c).Finite := finite_of (hpre c)
    have f' : (refArgs m' c).Finite := e ▸ f
    funext i
    obtain ⟨l, j, rfl⟩ : ∃ (l : Fin 4096) (j : Fin 1024), i = ix2 (n0 := 4096) (n1 := 1024) l j :=
      ⟨i 0, i 1, funext fun a => by fin_cases a <;> rfl⟩
    have h : gelu ((refArgs m' c).out l j) = gelu ((argsOf m c).out l j) := by rw [e]
    exact (ref_apply f' l j).trans (h.trans (G7_apply f l j).symm)

end Cert.Proof.S5f

end
-- ==== Proof.GluFwd.lean ====
/- The second product of the state-space mixer with its gate: what the kernel's three results hold and that the reference's
   are the same. The weight's columns are in four parts; the first two give the value, the last two the gate. -/
module

public import proofs.«01_k».proof.Proof.Gen.OutGluIdeal.Value
public import proofs.«01_k».proof.Proof.Gen.OutGluRefIdeal.Read
public import proofs.«01_k».proof.Proof.Sigmoid
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.OutGluIdeal.RefValue

open Cert.OutGluIdeal Cert.OutGluIdeal.Gen Cert.Proof

/-- A row times a column. -/
def dot (a w : Fin 1024 → EReal) : EReal := ∑ d : Fin 1024, a d * w d
/-- Column `k` of the value's half (`b = 0`) and of the gate's (`b = 1`). -/
def colw (w : S4x1024x512.Idx → EReal) (b : Fin 2) (k : Fin 1024) : Fin 1024 → EReal := fun d =>
  w (ix3 ⟨2 * b.val + k.val / 512, by omega⟩ d ⟨k.val % 512, by omega⟩)
def rowz (z : S4096x1024.Idx → EReal) (r : Fin 4096) : Fin 1024 → EReal := fun d => z (ix2 r d)
/-- The gated value. -/
def mix (a v g : Fin 1024 → EReal) : EReal := dot a v * sgm (dot a g)

def G5 (z : S4096x1024.Idx → EReal) (w : S4x1024x512.Idx → EReal) : S2x4096x1024.Idx → EReal := fun i =>
  dot (rowz z (i 1)) (colw w (i 0) (i 2))
def G6 (z : S4096x1024.Idx → EReal) (w : S4x1024x512.Idx → EReal) : S4096x1024.Idx → EReal := fun i =>
  mix (rowz z (i 0)) (colw w 0 (i 1)) (colw w 1 (i 1))
def G7 (z : S4096x1024.Idx → EReal) (w : S4x1024x512.Idx → EReal) (x : S4096x1024.Idx → EReal) (g : S6x1024.Idx → EReal) : S4096x1024.Idx → EReal := fun i =>
  x i + g (ix2 2 (i 1)) * mix (rowz z (i 0)) (colw w 0 (i 1)) (colw w 1 (i 1))

section block
variable (x0 : Vec Ideal S1024x1024 .bf16) (x1 x2 : Vec Ideal S1x1024x512 .bf16) (x3 : Vec Ideal S1024x512 .f32) (x4 : Vec Ideal S6x512 .f32)
  (r : Fin 1024) (k : Fin 512)

theorem out5_eq (b : Fin 2) : out0_5 x0 x1 x2 x3 x4 (ix3 b r k)
    = dot (fun d => x0 (ix2 r d)) (if b.val = 0 then fun d => x1 (ix3 0 d k) else fun d => x2 (ix3 0 d k)) := by
  canon_tiles x h
  all_goals
    obtain rfl : r = x 1 := Fin.ext h1
    have hb : b.val = _ := h0
    have hk : k.val = _ := h2
    unfold_payloads
    pointwise
    simp only [← hk]
    first | rw [if_pos (by omega)] | rw [if_neg (by omega)]
    rfl

theorem out6_eq : out0_6 x0 x1 x2 x3 x4 (ix2 r k)
    = mix (fun d => x0 (ix2 r d)) (fun d => x1 (ix3 0 d k)) (fun d => x2 (ix3 0 d k)) := by
  canon_tiles x h
  all_goals
    obtain rfl : r = x 0 := Fin.ext h0
    have hk : k.val = _ := h1
    unfold_payloads
    pointwise
    simp only [sgm_eq_tanh, ← hk]
    rfl

theorem out7_eq : out0_7 x0 x1 x2 x3 x4 (ix2 r k)
    = (fun a b : EReal => a + b) (x3 (ix2 r k)) ((fun a b : EReal => a * b) (x4 (ix2 2 k)) (mix (fun d => x0 (ix2 r d)) (fun d => x1 (ix3 0 d k)) (fun d => x2 (ix3 0 d k)))) := by
  canon_tiles x h
  all_goals
    obtain rfl : r = x 0 := Fin.ext h0
    have hk : k.val = _ := h1
    unfold_payloads
    pointwise
    simp only [sgm_eq_tanh, ← hk]
    rfl

end block

section arrays
variable (m : (ℓ : Loc nD τ sig) → Buf (Elt Ideal) ℓ) (c : Dev nD)

abbrev A0 : S4096x1024.Idx → EReal := m ((c : Thread nD τ).loc main_arg0)
abbrev A1 : S4x1024x512.Idx → EReal := m ((c : Thread nD τ).loc main_arg1)
abbrev A2 : S4096x1024.Idx → EReal := m ((c : Thread nD τ).loc main_arg2)
abbrev A3 : S6x1024.Idx → EReal := m ((c : Thread nD τ).loc main_arg3)

theorem index_facts : ∀ t : Fin cfg0.N, win0_0.index t = ![t.val % 4, 0] ∧ win0_1.index t = ![t.val / 4, 0, 0] ∧ win0_2.index t = ![t.val / 4 + 2, 0, 0]
    ∧ win0_3.index t = ![t.val % 4, t.val / 4] ∧ win0_4.index t = ![0, t.val / 4] ∧ win0_5.index t = ![0, t.val % 4, t.val / 4]
    ∧ win0_6.index t = ![t.val % 4, t.val / 4] ∧ win0_7.index t = ![t.val % 4, t.val / 4] :=
  (by decide +kernel : ∀ t : Fin grid0.N, _)

/-- Row `r` and column `k` of block `t` among the arrays' rows and columns. -/
def rw' (t : Fin cfg0.N) (r : Fin 1024) : Fin 4096 := ⟨t.val % 4 * 1024 + r.val, by omega⟩
def cl (t : Fin cfg0.N) (k : Fin 512) : Fin 1024 := ⟨t.val / 4 * 512 + k.val, by have := t.isLt; have h : cfg0.N = 8 := N_0; omega⟩

theorem blk0 (t : Fin cfg0.N) (r : Fin 1024) : (fun d => iblk m c 0 t (ix2 r d)) = rowz (A0 m c) (rw' t r) := by
  have h := index_facts t
  funext d
  show iblk m c 0 t (ix2 r d) = A0 m c (ix2 (rw' t r) d)
  blk_ext [iblk, V_main_arg0, h.1, rw']

theorem part (t : Fin cfg0.N) (k : Fin 512) : (cl t k).val / 512 = t.val / 4 ∧ (cl t k).val % 512 = k.val := by
  unfold cl
  dsimp only
  omega

theorem blk1 (t : Fin cfg0.N) (k : Fin 512) : (fun d => iblk m c 1 t (ix3 0 d k)) = colw (A1 m c) 0 (cl t k) := by
  have h := index_facts t
  have e := part t k
  funext d
  show iblk m c 1 t (ix3 0 d k) = A1 m c (ix3 ⟨2 * 0 + (cl t k).val / 512, _⟩ d ⟨(cl t k).val % 512, _⟩)
  blk_ext [iblk, V_main_arg1, h.2.1, e.1, e.2]

theorem blk2 (t : Fin cfg0.N) (k : Fin 512) : (fun d => iblk m c 2 t (ix3 0 d k)) = colw (A1 m c) 1 (cl t k) := by
  have h := index_facts t
  have e := part t k
  funext d
  show iblk m c 2 t (ix3 0 d k) = A1 m c (ix3 ⟨2 * 1 + (cl t k).val / 512, _⟩ d ⟨(cl t k).val % 512, _⟩)
  blk_ext [iblk, V_main_arg1, h.2.2.1, e.1, e.2]

theorem blk3 (t : Fin cfg0.N) (r : Fin 1024) (k : Fin 512) : iblk m c 3 t (ix2 r k) = A2 m c (ix2 (rw' t r) (cl t k)) := by
  have h := index_facts t
  blk_ext [iblk, V_main_arg2, h.2.2.2.1, rw', cl]

theorem blk4 (t : Fin cfg0.N) (k : Fin 512) : iblk m c 4 t (ix2 2 k) = A3 m c (ix2 2 (cl t k)) := by
  have h := index_facts t
  blk_ext [iblk, V_main_arg3, h.2.2.2.2.1, cl]

theorem final5 : (dats m 0 c).arrAt 5 cfg0.N = G5 (A0 m c) (A1 m c) := by
  refine (dats m 0 c).arrAt_eq_of_covers 5 _ (by decide +kernel) fun t hf y => ?_
  have h := index_facts t
  obtain ⟨b, r, k, rfl⟩ : ∃ b r k, y = ix3 (n0 := 2) (n1 := 1024) (n2 := 512) b r k := ⟨y 0, y 1, y 2, by funext a; fin_cases a <;> rfl⟩
  have he : ((cfg0.win 5).blk t).view.emb (ix3 b r k) = ix3 (n0 := 2) (n1 := 4096) (n2 := 1024) b (rw' t r) (cl t k) := by
    blk_ext [h.2.2.2.2.2.1, rw', cl]
  rw [he]
  blk_simp [after0_5]
  rw [out5_eq]
  show dot (fun d => iblk m c 0 t (ix2 r d)) (if b.val = 0 then fun d => iblk m c 1 t (ix3 0 d k) else fun d => iblk m c 2 t (ix3 0 d k))
    = dot (rowz (A0 m c) (rw' t r)) (colw (A1 m c) b (cl t k))
  rw [blk0, blk1, blk2]
  refine congrArg _ ?_
  fin_cases b <;> rfl

theorem final6 : (dats m 0 c).arrAt 6 cfg0.N = G6 (A0 m c) (A1 m c) := by
  refine (dats m 0 c).arrAt_eq_of_covers 6 _ (by decide +kernel) fun t hf y => ?_
  have h := index_facts t
  obtain ⟨r, k, rfl⟩ : ∃ r k, y = ix2 (n0 := 1024) (n1 := 512) r k := ⟨y 0, y 1, eq_ix2 y⟩
  have he : ((cfg0.win 6).blk t).view.emb (ix2 r k) = ix2 (n0 := 4096) (n1 := 1024) (rw' t r) (cl t k) := by
    blk_ext [h.2.2.2.2.2.2.1, rw', cl]
  rw [he]
  blk_simp [after0_6]
  rw [out6_eq]
  show mix (fun d => iblk m c 0 t (ix2 r d)) (fun d => iblk m c 1 t (ix3 0 d k)) (fun d => iblk m c 2 t (ix3 0 d k)) = _
  rw [blk0, blk1, blk2]
  rfl

theorem final7 : (dats m 0 c).arrAt 7 cfg0.N = G7 (A0 m c) (A1 m c) (A2 m c) (A3 m c) := by
  refine (dats m 0 c).arrAt_eq_of_covers 7 _ (by decide +kernel) fun t hf y => ?_
  have h := index_facts t
  obtain ⟨r, k, rfl⟩ : ∃ r k, y = ix2 (n0 := 1024) (n1 := 512) r k := ⟨y 0, y 1, eq_ix2 y⟩
  have he : ((cfg0.win 7).blk t).view.emb (ix2 r k) = ix2 (n0 := 4096) (n1 := 1024) (rw' t r) (cl t k) := by
    blk_ext [h.2.2.2.2.2.2.2, rw', cl]
  rw [he]
  blk_simp [after0_7]
  rw [out7_eq]
  show (fun a b : EReal => a + b) (iblk m c 3 t (ix2 r k)) ((fun a b : EReal => a * b) (iblk m c 4 t (ix2 2 k))
    (mix (fun d => iblk m c 0 t (ix2 r d)) (fun d => iblk m c 1 t (ix3 0 d k)) (fun d => iblk m c 2 t (ix3 0 d k)))) = _
  rw [blk0, blk1, blk2, blk3, blk4]
  rfl

end arrays

end Cert.OutGluIdeal.RefValue

namespace Cert.OutGluRefIdeal.RefValue

open Cert.OutGluRefIdeal Cert.OutGluRefIdeal.Gen Cert.OutGluRefIdeal.Read Cert.Proof
open Cert.OutGluIdeal.RefValue (dot mix rowz colw G5 G6 G7)

variable (x0 : S4096x1024.Idx → EReal) (x1 : S4x1024x512.Idx → EReal) (x2 : S4096x1024.Idx → EReal) (x3 : S6x1024.Idx → EReal) (r : Fin 4096) (k : Fin 1024)

/-- The two halves of the product. -/
theorem val_eq : val_main_v5 (F := Ideal) x0 x1 (ix2 r k) = dot (rowz x0 r) (colw x1 0 k) := by
  pointwise [val_main_v5, val_main_v4, val_main_v3, val_main_v2, val_main_v1, val_main_v0]
  refine congrArg (fun w => dot (rowz x0 r) w) (funext fun d => congrArg x1 ?_)
  refine congrArg₂ (fun a b => ix3 a d b) (Fin.ext (show k.val / 512 = 2 * 0 + k.val / 512 by omega)) rfl

theorem gate_eq : val_main_v6 (F := Ideal) x0 x1 (ix2 r k) = dot (rowz x0 r) (colw x1 1 k) := by
  pointwise [val_main_v6, val_main_v4, val_main_v3, val_main_v2, val_main_v1, val_main_v0]
  refine congrArg (fun w => dot (rowz x0 r) w) (funext fun d => congrArg x1 ?_)
  refine congrArg₂ (fun a b => ix3 a d b) (Fin.ext (show (1024 + k.val) / 512 = 2 * 1 + k.val / 512 by omega)) (Fin.ext (show (1024 + k.val) % 512 = k.val % 512 by omega))

theorem mix_eq : val_main_v13 (F := Ideal) x0 x1 (ix2 r k) = mix (rowz x0 r) (colw x1 0 k) (colw x1 1 k) := by
  pointwise [val_main_v13, val_main_v12, val_main_v11, val_main_cst_0, val_main_v10, val_main_v9, val_main_cst, val_main_v8, val_main_v7]
  rw [val_eq, gate_eq]
  rfl

theorem ref0 : val_main_v17 (F := Ideal) x0 x1 = G5 x0 x1 := by
  funext i
  obtain ⟨b, r, k, rfl⟩ : ∃ b r k, i = ix3 (n0 := 2) (n1 := 4096) (n2 := 1024) b r k := ⟨i 0, i 1, i 2, by funext a; fin_cases a <;> rfl⟩
  pointwise [val_main_v17, val_main_v16, val_main_v15, val_main_v14]
  rw [val_eq, gate_eq]
  fin_cases b <;> rfl

theorem ref1 : val_main_v18 (F := Ideal) x0 x1 = G6 x0 x1 := by
  funext i
  obtain ⟨r, k, rfl⟩ : ∃ r k, i = ix2 (n0 := 4096) (n1 := 1024) r k := ⟨i 0, i 1, eq_ix2 i⟩
  pointwise [val_main_v18]
  exact mix_eq x0 x1 r k

theorem ref2 : val_main_v24 (F := Ideal) x0 x1 x2 x3 = G7 x0 x1 x2 x3 := by
  funext i
  obtain ⟨r, k, rfl⟩ : ∃ r k, i = ix2 (n0 := 4096) (n1 := 1024) r k := ⟨i 0, i 1, eq_ix2 i⟩
  pointwise [val_main_v24, val_main_v23, val_main_v22, val_main_v21, val_main_v20, val_main_v19]
  rw [mix_eq]
  rfl

end Cert.OutGluRefIdeal.RefValue
-- ==== Proof.OutGluClaims.lean ====
/- The claims about the forward calls, from the runs. -/
module

public import proofs.«01_k».proof.Defs
public import proofs.«01_k».proof.Proof.GluFwd
public import proofs.«01_k».proof.Proof.Gen.OutGlu.Frame

@[expose] public section

noncomputable section

open Idealize.ShloMosaic Idealize.ShloMosaic.TcCoe Idealize.SL.Sem

namespace Cert.Proof.OutGlu

open Cert.OutGluIdeal.RefValue Cert.OutGluIdeal.Value Cert.OutGluRefIdeal

theorem frame : Cert.quiescent_OutGlu (hOutGlu := Cert.OutGlu.Gen.facts) := fun m ρ _ => Cert.OutGlu.Gen.frame m ρ
theorem frame_ideal : Cert.quiescent_OutGluIdeal (hOutGluIdeal := Cert.OutGluIdeal.Gen.facts) := fun m ρ _ => Cert.OutGluIdeal.Gen.frame m ρ
theorem frame_ref : Cert.quiescent_OutGluRefIdeal (hOutGluRefIdeal := Cert.OutGluRefIdeal.Gen.facts) := fun m ρ _ =>
  (θ_run Cert.OutGluRefIdeal.defs _ _).mono (fun r h => ⟨fun c => (h c).2.2.2, sem_eq_zero_of_no_sems (by decide) r.2⟩)
    (Cert.OutGluRefIdeal.Value.run (F := Ideal) m ρ)

theorem algebraic : Cert.algebraic_OutGluIdeal_OutGluRefIdeal (hOutGluIdeal := Cert.OutGluIdeal.Gen.facts) (hOutGluRefIdeal := Cert.OutGluRefIdeal.Gen.facts) := by
  intro m ρ m' ρ' _ hagree
  refine ⟨fun c => G5 (A0 m c) (A1 m c), fun c => G6 (A0 m c) (A1 m c), fun c => G7 (A0 m c) (A1 m c) (A2 m c) (A3 m c), ?_, ?_⟩
  · exact (θ_run Cert.OutGluIdeal.defs _ _).mono (fun r h c => ⟨(h c).1.trans (final5 m c), (h c).2.1.trans (final6 m c), (h c).2.2.1.trans (final7 m c), (h c).2.2.2⟩) (Cert.OutGluIdeal.Value.run_blocks (F := Ideal) m ρ)
  · refine (θ_run Cert.OutGluRefIdeal.defs _ _).mono (fun r h c => ⟨(h c).1.trans ?_, (h c).2.1.trans ?_, (h c).2.2.1.trans ?_, (h c).2.2.2⟩) (Cert.OutGluRefIdeal.Value.run (F := Ideal) m' ρ')
    · refine (Read.val_main_v17_eq _ _).trans ((RefValue.ref0 _ _).trans ?_)
      simp only [hagree c, A0, A1]
    · refine (Read.val_main_v18_eq _ _).trans ((RefValue.ref1 _ _).trans ?_)
      simp only [hagree c, A0, A1]
    · refine (Read.val_main_v24_eq _ _ _ _).trans ((RefValue.ref2 _ _ _ _).trans ?_)
      simp only [hagree c, A0, A1, A2, A3]

end Cert.Proof.OutGlu

end
-- ==== Proof.FfnFwd.lean ====
/- The first product of the feed-forward layer with its activation: what the kernel's two results hold and that the reference's
   are the same. The weight's columns are in four parts; the first two give the gate, the last two the linear branch. -/
module

public import proofs.«01_k».proof.Proof.Gen.FfnInIdeal.Value
public import proofs.«01_k».proof.Proof.Gen.FfnInRefIdeal.Read
public import proofs.«01_k».proof.Proof.GluFwd
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FfnInIdeal.RefValue

open Cert.FfnInIdeal Cert.FfnInIdeal.Gen Cert.Proof
open Cert.OutGluIdeal.RefValue (dot rowz)

/-- Column `k` of the gate's half (`b = 0`) and of the linear one's (`b = 1`). -/
def colw (w : S4x1024x1408.Idx → EReal) (b : Fin 2) (k : Fin 2816) : Fin 1024 → EReal := fun d =>
  w (ix3 ⟨2 * b.val + k.val / 1408, by omega⟩ d ⟨k.val % 1408, by omega⟩)
/-- The activated gate times the linear branch. -/
def act (a g u : Fin 1024 → EReal) : EReal := dot a g * sgm (dot a g) * dot a u

def G3 (a : S4096x1024.Idx → EReal) (w : S4x1024x1408.Idx → EReal) : S2x4096x2816.Idx → EReal := fun i =>
  dot (rowz a (i 1)) (colw w (i 0) (i 2))
def G4 (a : S4096x1024.Idx → EReal) (w : S4x1024x1408.Idx → EReal) : S4096x2816.Idx → EReal := fun i =>
  act (rowz a (i 0)) (colw w 0 (i 1)) (colw w 1 (i 1))

section block
variable (x0 : Vec Ideal S1024x1024 .bf16) (x1 x2 : Vec Ideal S1x1024x1408 .bf16) (r : Fin 1024) (k : Fin 1408)

theorem out3_eq (b : Fin 2) : out0_3 x0 x1 x2 (ix3 b r k)
    = dot (fun d => x0 (ix2 r d)) (if b.val = 0 then fun d => x1 (ix3 0 d k) else fun d => x2 (ix3 0 d k)) := by
  canon_tiles x h
  all_goals
    obtain rfl : r = x 1 := Fin.ext h1
    obtain rfl : k = x 2 := Fin.ext h2
    have hb : b.val = _ := h0
    unfold_payloads
    pointwise
    first | rw [if_pos (by omega)] | rw [if_neg (by omega)]
    rfl

theorem out4_eq : out0_4 x0 x1 x2 (ix2 r k)
    = act (fun d => x0 (ix2 r d)) (fun d => x1 (ix3 0 d k)) (fun d => x2 (ix3 0 d k)) := by
  canon_tiles x h
  obtain rfl : r = x 0 := Fin.ext h0
  obtain rfl : k = x 1 := Fin.ext h1
  unfold_payloads
  pointwise
  simp only [sgm_eq_tanh]
  rfl

end block

section arrays
variable (m : (ℓ : Loc nD τ sig) → Buf (Elt Ideal) ℓ) (c : Dev nD)

abbrev A0 : S4096x1024.Idx → EReal := m ((c : Thread nD τ).loc main_arg0)
abbrev A1 : S4x1024x1408.Idx → EReal := m ((c : Thread nD τ).loc main_arg1)

theorem index_facts : ∀ t : Fin cfg0.N, win0_0.index t = ![t.val % 4, 0] ∧ win0_1.index t = ![t.val / 4, 0, 0] ∧ win0_2.index t = ![t.val / 4 + 2, 0, 0]
    ∧ win0_3.index t = ![0, t.val % 4, t.val / 4] ∧ win0_4.index t = ![t.val % 4, t.val / 4] :=
  (by decide +kernel : ∀ t : Fin grid0.N, _)

/-- Row `r` and column `k` of block `t` among the arrays' rows and columns. -/
def rw' (t : Fin cfg0.N) (r : Fin 1024) : Fin 4096 := ⟨t.val % 4 * 1024 + r.val, by omega⟩
def cl (t : Fin cfg0.N) (k : Fin 1408) : Fin 2816 := ⟨t.val / 4 * 1408 + k.val, by have := t.isLt; have h : cfg0.N = 8 := N_0; omega⟩

theorem blk0 (t : Fin cfg0.N) (r : Fin 1024) : (fun d => iblk m c 0 t (ix2 r d)) = rowz (A0 m c) (rw' t r) := by
  have h := index_facts t
  funext d
  show iblk m c 0 t (ix2 r d) = A0 m c (ix2 (rw' t r) d)
  blk_ext [iblk, V_main_arg0, h.1, rw']

theorem part (t : Fin cfg0.N) (k : Fin 1408) : (cl t k).val / 1408 = t.val / 4 ∧ (cl t k).val % 1408 = k.val := by
  unfold cl
  dsimp only
  omega

theorem blk1 (t : Fin cfg0.N) (k : Fin 1408) : (fun d => iblk m c 1 t (ix3 0 d k)) = colw (A1 m c) 0 (cl t k) := by
  have h := index_facts t
  have e := part t k
  funext d
  show iblk m c 1 t (ix3 0 d k) = A1 m c (ix3 ⟨2 * 0 + (cl t k).val / 1408, _⟩ d ⟨(cl t k).val % 1408, _⟩)
  blk_ext [iblk, V_main_arg1, h.2.1, e.1, e.2]

theorem blk2 (t : Fin cfg0.N) (k : Fin 1408) : (fun d => iblk m c 2 t (ix3 0 d k)) = colw (A1 m c) 1 (cl t k) := by
  have h := index_facts t
  have e := part t k
  funext d
  show iblk m c 2 t (ix3 0 d k) = A1 m c (ix3 ⟨2 * 1 + (cl t k).val / 1408, _⟩ d ⟨(cl t k).val % 1408, _⟩)
  blk_ext [iblk, V_main_arg1, h.2.2.1, e.1, e.2]

theorem final3 : (dats m 0 c).arrAt 3 cfg0.N = G3 (A0 m c) (A1 m c) := by
  refine (dats m 0 c).arrAt_eq_of_covers 3 _ (by decide +kernel) fun t hf y => ?_
  have h := index_facts t
  obtain ⟨b, r, k, rfl⟩ : ∃ b r k, y = ix3 (n0 := 2) (n1 := 1024) (n2 := 1408) b r k := ⟨y 0, y 1, y 2, by funext a; fin_cases a <;> rfl⟩
  have he : ((cfg0.win 3).blk t).view.emb (ix3 b r k) = ix3 (n0 := 2) (n1 := 4096) (n2 := 2816) b (rw' t r) (cl t k) := by
    blk_ext [h.2.2.2.1, rw', cl]
  rw [he]
  blk_simp [after0_3]
  rw [out3_eq]
  show dot (fun d => iblk m c 0 t (ix2 r d)) (if b.val = 0 then fun d => iblk m c 1 t (ix3 0 d k) else fun d => iblk m c 2 t (ix3 0 d k))
    = dot (rowz (A0 m c) (rw' t r)) (colw (A1 m c) b (cl t k))
  rw [blk0, blk1, blk2]
  refine congrArg _ ?_
  fin_cases b <;> rfl

theorem final4 : (dats m 0 c).arrAt 4 cfg0.N = G4 (A0 m c) (A1 m c) := by
  refine (dats m 0 c).arrAt_eq_of_covers 4 _ (by decide +kernel) fun t hf y => ?_
  have h := index_facts t
  obtain ⟨r, k, rfl⟩ : ∃ r k, y = ix2 (n0 := 1024) (n1 := 1408) r k := ⟨y 0, y 1, eq_ix2 y⟩
  have he : ((cfg0.win 4).blk t).view.emb (ix2 r k) = ix2 (n0 := 4096) (n1 := 2816) (rw' t r) (cl t k) := by
    blk_ext [h.2.2.2.2, rw', cl]
  rw [he]
  blk_simp [after0_4]
  rw [out4_eq]
  show act (fun d => iblk m c 0 t (ix2 r d)) (fun d => iblk m c 1 t (ix3 0 d k)) (fun d => iblk m c 2 t (ix3 0 d k)) = _
  rw [blk0, blk1, blk2]
  rfl

end arrays

end Cert.FfnInIdeal.RefValue

namespace Cert.FfnInRefIdeal.RefValue

open Cert.FfnInRefIdeal Cert.FfnInRefIdeal.Gen Cert.FfnInRefIdeal.Read Cert.Proof
open Cert.OutGluIdeal.RefValue (dot rowz)
open Cert.FfnInIdeal.RefValue (act colw G3 G4)

variable (x0 : S4096x1024.Idx → EReal) (x1 : S4x1024x1408.Idx → EReal) (r : Fin 4096) (k : Fin 2816)

/-- The two halves of the product. -/
theorem gate_eq : val_main_v5 (F := Ideal) x0 x1 (ix2 r k) = dot (rowz x0 r) (colw x1 0 k) := by
  pointwise [val_main_v5, val_main_v4, val_main_v3, val_main_v2, val_main_v1, val_main_v0]
  refine congrArg (fun w => dot (rowz x0 r) w) (funext fun d => congrArg x1 ?_)
  exact congrArg₂ (fun a b => ix3 a d b) (Fin.ext (show k.val / 1408 = 2 * 0 + k.val / 1408 by omega)) rfl

theorem lin_eq : val_main_v6 (F := Ideal) x0 x1 (ix2 r k) = dot (rowz x0 r) (colw x1 1 k) := by
  pointwise [val_main_v6, val_main_v4, val_main_v3, val_main_v2, val_main_v1, val_main_v0]
  refine congrArg (fun w => dot (rowz x0 r) w) (funext fun d => congrArg x1 ?_)
  exact congrArg₂ (fun a b => ix3 a d b) (Fin.ext (show (2816 + k.val) / 1408 = 2 * 1 + k.val / 1408 by omega)) (Fin.ext (show (2816 + k.val) % 1408 = k.val % 1408 by omega))

theorem ref0 : val_main_v10 (F := Ideal) x0 x1 = G3 x0 x1 := by
  funext i
  obtain ⟨b, r, k, rfl⟩ : ∃ b r k, i = ix3 (n0 := 2) (n1 := 4096) (n2 := 2816) b r k := ⟨i 0, i 1, i 2, by funext a; fin_cases a <;> rfl⟩
  pointwise [val_main_v10, val_main_v9, val_main_v8, val_main_v7]
  rw [gate_eq, lin_eq]
  fin_cases b <;> rfl

theorem ref1 : val_main_v13 (F := Ideal) x0 x1 = G4 x0 x1 := by
  funext i
  obtain ⟨r, k, rfl⟩ : ∃ r k, i = ix2 (n0 := 4096) (n1 := 2816) r k := ⟨i 0, i 1, eq_ix2 i⟩
  pointwise [val_main_v13, val_main_v12, val_main_v11, val_main_call0_v5, val_main_call0_v4, val_main_call0_cst_0, val_main_call0_v3, val_main_call0_v2,
    val_main_call0_cst, val_main_call0_v1, val_main_call0_v0]
  rw [gate_eq, lin_eq]
  rfl

end Cert.FfnInRefIdeal.RefValue
-- ==== Proof.FfnInClaims.lean ====
/- The claims about the forward calls, from the runs. -/
module

public import proofs.«01_k».proof.Defs
public import proofs.«01_k».proof.Proof.FfnFwd
public import proofs.«01_k».proof.Proof.Gen.FfnIn.Frame

@[expose] public section

noncomputable section

open Idealize.ShloMosaic Idealize.ShloMosaic.TcCoe Idealize.SL.Sem

namespace Cert.Proof.FfnIn

open Cert.FfnInIdeal.RefValue Cert.FfnInIdeal.Value Cert.FfnInRefIdeal

theorem frame : Cert.quiescent_FfnIn (hFfnIn := Cert.FfnIn.Gen.facts) := fun m ρ _ => Cert.FfnIn.Gen.frame m ρ
theorem frame_ideal : Cert.quiescent_FfnInIdeal (hFfnInIdeal := Cert.FfnInIdeal.Gen.facts) := fun m ρ _ => Cert.FfnInIdeal.Gen.frame m ρ
theorem frame_ref : Cert.quiescent_FfnInRefIdeal (hFfnInRefIdeal := Cert.FfnInRefIdeal.Gen.facts) := fun m ρ _ =>
  (θ_run Cert.FfnInRefIdeal.defs _ _).mono (fun r h => ⟨fun c => (h c).2.2, sem_eq_zero_of_no_sems (by decide) r.2⟩)
    (Cert.FfnInRefIdeal.Value.run (F := Ideal) m ρ)

theorem algebraic : Cert.algebraic_FfnInIdeal_FfnInRefIdeal (hFfnInIdeal := Cert.FfnInIdeal.Gen.facts) (hFfnInRefIdeal := Cert.FfnInRefIdeal.Gen.facts) := by
  intro m ρ m' ρ' _ hagree
  refine ⟨fun c => G3 (A0 m c) (A1 m c), fun c => G4 (A0 m c) (A1 m c), ?_, ?_⟩
  · exact (θ_run Cert.FfnInIdeal.defs _ _).mono (fun r h c => ⟨(h c).1.trans (final3 m c), (h c).2.1.trans (final4 m c), (h c).2.2⟩) (Cert.FfnInIdeal.Value.run_blocks (F := Ideal) m ρ)
  · refine (θ_run Cert.FfnInRefIdeal.defs _ _).mono (fun r h c => ⟨(h c).1.trans ?_, (h c).2.1.trans ?_, (h c).2.2⟩) (Cert.FfnInRefIdeal.Value.run (F := Ideal) m' ρ')
    · refine (Read.val_main_v10_eq _ _).trans ((RefValue.ref0 _ _).trans ?_)
      simp only [hagree c, A0, A1]
    · refine (Read.val_main_v13_eq _ _).trans ((RefValue.ref1 _ _).trans ?_)
      simp only [hagree c, A0, A1]

end Cert.Proof.FfnIn

end
-- ==== Proof.ConvFwd.lean ====
/- The gated short convolution, forward: what the kernel's result holds and that the reference's is the same, column by
   column. -/
module

public import proofs.«01_k».proof.Proof.Conv
public import proofs.«01_k».proof.Proof.Gen.ConvFIdeal.Value
public import proofs.«01_k».proof.Proof.Gen.ConvFRefIdeal.Read

@[expose] public section

set_option maxRecDepth 16384

noncomputable section

open Idealize.ShloMosaic Idealize.ShloMosaic.TcCoe Idealize.SL.Sem
open Idealize.ShloMosaic.Pipeline (Dat)

namespace Cert.ConvFIdeal.RefValue

open Cert.ConvFIdeal Cert.ConvFIdeal.Gen Cert.Proof Cert.Proof.Conv
open Cert.ConvIdeal.RefValue (colb colc colv colw)

/-- The whole result: the gate `b` times the convolution of `c · v`. That is the gradient of `b` for the cotangent `b`. -/
def G (x0 : S4096x3072.Idx → EReal) (x1 : S3x1024.Idx → EReal) : S4096x1024.Idx → EReal := fun i =>
  db (colw x1 (i 1)) (colb x0 (i 1)) (colc x0 (i 1)) (colv x0 (i 1)) (i 0)

set_option maxRecDepth 100000 in
set_option maxHeartbeats 1000000 in
theorem out_eq (x0 x1 x2 : Vec Ideal S4096x128 .bf16) (x3 : Vec Ideal S3x128 .f32) (r : Fin 4096) (k : Fin 128) :
    out0_4 x0 x1 x2 x3 (ix2 r k) = db (fun j => x3 (ix2 j k)) (fun s => x0 (ix2 s k)) (fun s => x1 (ix2 s k)) (fun s => x2 (ix2 s k)) r := by
  canon_tiles x h
  obtain ⟨a, b, rfl⟩ : ∃ a b, x = ix2 (n0 := 4096) (n1 := 128) a b := ⟨x 0, x 1, eq_ix2 x⟩
  obtain rfl : r = a := Fin.ext h0
  obtain rfl : k = b := Fin.ext h1
  unfold_payloads
  pointwise
  refine congrArg (x0 (ix2 r k) * ·) (congrArg₂ (· + ·) (congrArg (x3 (ix2 2 k) * (x1 (ix2 r k) * x2 (ix2 r k)) + ·) ?_) ?_)
  · exact sel_dn _ (fun s => x1 (ix2 s k) * x2 (ix2 s k)) 1 (by decide) (by decide) r
  · exact sel_dn _ (fun s => x1 (ix2 s k) * x2 (ix2 s k)) 2 (by decide) (by decide) r

section arrays
variable (m : (ℓ : Loc nD τ sig) → Buf (Elt Ideal) ℓ) (c : Dev nD)

abbrev A0 : S4096x3072.Idx → EReal := m ((c : Thread nD τ).loc main_arg0)
abbrev A1 : S3x1024.Idx → EReal := m ((c : Thread nD τ).loc main_arg1)

theorem index_facts : ∀ t : Fin cfg0.N, win0_0.index t = ![0, t.val] ∧ win0_1.index t = ![0, t.val + 8] ∧ win0_2.index t = ![0, t.val + 16]
    ∧ win0_3.index t = ![0, t.val] ∧ win0_4.index t = ![0, t.val] :=
  (by decide +kernel : ∀ t : Fin grid0.N, _)

/-- Column `k` of block `t` among the arrays' columns. -/
def cl (t : Fin cfg0.N) (k : Fin 128) : Fin 1024 := ⟨t.val * 128 + k.val, by have := t.isLt; have h : cfg0.N = 8 := N_0; omega⟩

theorem blk0 (t : Fin cfg0.N) (k : Fin 128) : (fun s => iblk m c 0 t (ix2 s k)) = colb (A0 m c) (cl t k) := by
  have h := index_facts t
  funext s
  show iblk m c 0 t (ix2 s k) = A0 m c (ix2 s ⟨(cl t k).val, _⟩)
  blk_ext [iblk, V_main_arg0, h.1, cl]

theorem blk1 (t : Fin cfg0.N) (k : Fin 128) : (fun s => iblk m c 1 t (ix2 s k)) = colc (A0 m c) (cl t k) := by
  have h := index_facts t
  funext s
  show iblk m c 1 t (ix2 s k) = A0 m c (ix2 s ⟨1024 + (cl t k).val, _⟩)
  blk_ext [iblk, V_main_arg0, h.2.1, cl]

theorem blk2 (t : Fin cfg0.N) (k : Fin 128) : (fun s => iblk m c 2 t (ix2 s k)) = colv (A0 m c) (cl t k) := by
  have h := index_facts t
  funext s
  show iblk m c 2 t (ix2 s k) = A0 m c (ix2 s ⟨2048 + (cl t k).val, _⟩)
  blk_ext [iblk, V_main_arg0, h.2.2.1, cl]

theorem blk3 (t : Fin cfg0.N) (k : Fin 128) : (fun s => iblk m c 3 t (ix2 s k)) = colw (A1 m c) (cl t k) := by
  have h := index_facts t
  funext s
  show iblk m c 3 t (ix2 s k) = A1 m c (ix2 s (cl t k))
  blk_ext [iblk, V_main_arg1, h.2.2.2.1, cl]

theorem final : (dats m 0 c).arrAt 4 cfg0.N = G (A0 m c) (A1 m c) := by
  refine (dats m 0 c).arrAt_eq_of_covers 4 _ (by decide +kernel) fun t hf y => ?_
  have h := index_facts t
  obtain ⟨r, k, rfl⟩ : ∃ r k, y = ix2 (n0 := 4096) (n1 := 128) r k := ⟨y 0, y 1, eq_ix2 y⟩
  have he : ((cfg0.win 4).blk t).view.emb (ix2 r k) = ix2 (n0 := 4096) (n1 := 1024) r (cl t k) := by
    blk_ext [h.2.2.2.2, cl]
  rw [he]
  blk_simp [after0_4]
  rw [out_eq]
  show db (fun s => iblk m c 3 t (ix2 s k)) (fun s => iblk m c 0 t (ix2 s k))
    (fun s => iblk m c 1 t (ix2 s k)) (fun s => iblk m c 2 t (ix2 s k)) r = G _ _ _
  rw [blk0, blk1, blk2, blk3]
  rfl

end arrays

end Cert.ConvFIdeal.RefValue

namespace Cert.ConvFRefIdeal.RefValue

open Cert.ConvFRefIdeal Cert.ConvFRefIdeal.Gen Cert.ConvFRefIdeal.Read Cert.Proof Cert.Proof.Conv
open Cert.ConvIdeal.RefValue (colb colc colv colw)

theorem ref_eq (x0 : S4096x3072.Idx → EReal) (x1 : S3x1024.Idx → EReal) :
    val_main_v30 (F := Ideal) x0 x1 = Cert.ConvFIdeal.RefValue.G x0 x1 := by
  funext i
  obtain ⟨r, k, rfl⟩ : ∃ r k, i = ix2 (n0 := 4096) (n1 := 1024) r k := ⟨i 0, i 1, eq_ix2 i⟩
  rw [← val_main_v30_eq]
  pointwise
  show _ = db (colw x1 k) (colb x0 k) (colc x0 k) (colv x0 k) r
  unfold db dn
  refine congrArg (colb x0 k r * ·) ?_
  rw [add_comm (x1 (ix2 0 k) * _), add_comm _ (x1 (ix2 2 k) * _), ← add_assoc]
  refine congrArg₂ (· + ·) (congrArg (colw x1 k 2 * (colc x0 k r * colv x0 k r) + ·) (congrArg (colw x1 k 1 * ·) ?_)) (congrArg (colw x1 k 0 * ·) ?_)
  · by_cases h : r.val < 1
    · rw [dif_pos (by omega), if_neg (by omega)]
    · refine (dif_neg (by omega)).trans (Eq.trans ?_ (if_pos (show 1 ≤ r.val by omega)).symm)
      exact congrArg (fun s => colc x0 k s * colv x0 k s) (Fin.ext (show 1 + r.val - 2 = r.val - 1 by omega))
  · by_cases h : r.val < 2
    · rw [dif_pos h, if_neg (by omega)]
    · exact (dif_neg h).trans (if_pos (show 2 ≤ r.val by omega)).symm

end Cert.ConvFRefIdeal.RefValue
-- ==== Proof.ConvFClaims.lean ====
/- The claims about the forward calls, from the runs. -/
module

public import proofs.«01_k».proof.Defs
public import proofs.«01_k».proof.Proof.ConvFwd
public import proofs.«01_k».proof.Proof.Gen.ConvF.Frame

@[expose] public section

noncomputable section

open Idealize.ShloMosaic Idealize.ShloMosaic.TcCoe Idealize.SL.Sem

namespace Cert.Proof.ConvF

open Cert.ConvFIdeal.RefValue Cert.ConvFIdeal.Value Cert.ConvFRefIdeal

theorem frame : Cert.quiescent_ConvF (hConvF := Cert.ConvF.Gen.facts) := fun m ρ _ => Cert.ConvF.Gen.frame m ρ
theorem frame_ideal : Cert.quiescent_ConvFIdeal (hConvFIdeal := Cert.ConvFIdeal.Gen.facts) := fun m ρ _ => Cert.ConvFIdeal.Gen.frame m ρ
theorem frame_ref : Cert.quiescent_ConvFRefIdeal (hConvFRefIdeal := Cert.ConvFRefIdeal.Gen.facts) := fun m ρ _ =>
  (θ_run Cert.ConvFRefIdeal.defs _ _).mono (fun r h => ⟨fun c => (h c).2, sem_eq_zero_of_no_sems (by decide) r.2⟩)
    (Cert.ConvFRefIdeal.Value.run (F := Ideal) m ρ)

theorem algebraic : Cert.algebraic_ConvFIdeal_ConvFRefIdeal (hConvFIdeal := Cert.ConvFIdeal.Gen.facts) (hConvFRefIdeal := Cert.ConvFRefIdeal.Gen.facts) := by
  intro m ρ m' ρ' _ hagree
  refine ⟨fun c => G (A0 m c) (A1 m c), ?_, ?_⟩
  · exact (θ_run Cert.ConvFIdeal.defs _ _).mono (fun r h c => ⟨(h c).1.trans (final m c), (h c).2⟩) (Cert.ConvFIdeal.Value.run_blocks (F := Ideal) m ρ)
  · refine (θ_run Cert.ConvFRefIdeal.defs _ _).mono (fun r h c => ⟨(h c).1.trans ?_, (h c).2⟩) (Cert.ConvFRefIdeal.Value.run (F := Ideal) m' ρ')
    refine (Read.val_main_v30_eq _ _).trans ((RefValue.ref_eq _ _).trans ?_)
    simp only [hagree c, A0, A1]

end Cert.Proof.ConvF

end
-- ==== Proof.NormRing.lean ====
module

public import proofs.«01_k».proof.Proof.Gen.NormF
public import proofs.«01_k».proof.Proof.Gen.NormF.Skeleton
public import proofs.«01_k».proof.Proof.Gen.NormF.Loops
public import proofs.«01_k».proof.Proof.Gen.NormF.Launch
public import proofs.«01_k».proof.Proof.Gen.NormF.Points
public import proofs.«01_k».proof.Proof.Gen.NormF.Frame
public import Idealize.ShloMosaic.Lib.Pipeline.Routed
public import Idealize.ShloMosaic.Lib.Ring.Trips
public import Idealize.ShloMosaic.Lib.Tactic
public import Idealize.ShloMosaic.Lib.Pipeline.Value

/-! The row normalisation of the forward pass: the rings its kernel moves blocks of rows through, and one trip of its loop. -/

@[expose] public section

set_option sl_exec.respelt true

noncomputable section

namespace Cert.NormF.Ring

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.Ring (sl bk)
open Cert.NormF.Facts₀

variable {F : FTy → Type} [FloatOps F]

/-- What the proof's assertions are about. -/
abbrev Res (F : FTy → Type) [FloatOps F] : Type := MT nD τ sig Unit (Elt F) ℕ (Pipeline.UC sig nD τ) ℕ

/-! ## Slots and blocks -/

theorem xs_inb (s : Fin 3) : ∀ a, (![s.val, 0, 0] : Fin 3 → Nat) a + S1x256x1024.size a ≤ S3x256x1024.size a := by
  revert s; decide
theorem os_inb (s : Fin 2) : ∀ a, (![s.val, 0, 0] : Fin 3 → Nat) a + S1x256x1024.size a ≤ S2x256x1024.size a := by
  revert s; decide
theorem row_inb (b : Fin 16) : ∀ a, (![256 * b.val, 0] : Fin 2 → Nat) a + S256x1024.size a ≤ S4096x1024.size a := by
  revert b; decide
theorem xsem_inb (s : Fin 3) : ∀ a, (![s.val] : Fin 1 → Nat) a + S1.size a ≤ S3.size a := by revert s; decide
theorem osem_inb (s : Fin 2) : ∀ a, (![s.val] : Fin 1 → Nat) a + S1.size a ≤ S2.size a := by revert s; decide

/-- Slot `s` of the buffer blocks of the input arrive in. -/
def xs (s : Fin 3) : Memref sig .tc .vmem S256x1024 .f32 :=
  ((Memref.whole cc0_scratch0).slice (Rect.unit (s := S3x256x1024) ![s.val, 0, 0] S1x256x1024.size (xs_inb s)) (fun _ => rfl)).squeeze
    S256x1024 squeezes_S1x256x1024_S256x1024
/-- Slot `s` of the buffer blocks of the result leave from. -/
def os (s : Fin 2) : Memref sig .tc .vmem S256x1024 .bf16 :=
  ((Memref.whole cc0_scratch1).slice (Rect.unit (s := S2x256x1024) ![s.val, 0, 0] S1x256x1024.size (os_inb s)) (fun _ => rfl)).squeeze
    S256x1024 squeezes_S1x256x1024_S256x1024
/-- Block `b` of the input's rows. -/
def xb (b : Fin 16) : Memref sig .tc .hbm S256x1024 .f32 :=
  (Memref.whole main_arg0).slice (Rect.unit (s := S4096x1024) ![256 * b.val, 0] S256x1024.size (row_inb b)) (fun _ => rfl)
/-- Block `b` of the result's rows. -/
def ob (b : Fin 16) : Memref sig .tc .hbm S256x1024 .bf16 :=
  (Memref.whole main_v0).slice (Rect.unit (s := S4096x1024) ![256 * b.val, 0] S256x1024.size (row_inb b)) (fun _ => rfl)
/-- The counters of the two rings' slots. -/
def xsem (s : Fin 3) : DmaSems sig S_ := (cc0_scratch2.slice (Rect.unit (s := S3) ![s.val] S1.size (xsem_inb s))).squeeze S_ squeezes_S1_S_
def osem (s : Fin 2) : DmaSems sig S_ := (cc0_scratch3.slice (Rect.unit (s := S2) ![s.val] S1.size (osem_inb s))).squeeze S_ squeezes_S1_S_

section Names

variable (k : Fin k0_t1_loop.trips)

theorem trips_lt : k.val < 16 := k.isLt

theorem cond1_iff : ∀ k : Fin k0_t1_loop.trips, k0_cond1 k = 1#1 ↔ 2 ≤ k.val := by decide +kernel
theorem cond2_iff : ∀ k : Fin k0_t1_loop.trips, k0_cond2 k = 1#1 ↔ k.val + 3 < 16 := by decide +kernel
theorem off5_eq : ∀ k : Fin k0_t1_loop.trips, k0_cond1 k = 1#1 → k0_off5 k = ![256 * (bk 16 (k.val - 2)).val, 0] := by decide +kernel
theorem off13_eq : ∀ k : Fin k0_t1_loop.trips, k0_cond2 k = 1#1 → k0_off13 k = ![256 * (bk 16 (k.val + 3)).val, 0] := by decide +kernel
theorem off3_eq : ∀ k : Fin k0_t1_loop.trips, k0_off3 k = ![256 * (bk 16 k.val).val, 0] := by decide +kernel

theorem slot_of {off : Fin 3 → Nat} (s : Fin 3) (e : off = ![s.val, 0, 0]) (h : ∀ a, off a + S1x256x1024.size a ≤ S3x256x1024.size a) :
    ((Memref.whole cc0_scratch0 : Memref sig .tc .vmem S3x256x1024 .f32).slice (Rect.unit (s := S3x256x1024) off S1x256x1024.size h) (fun _ => rfl)).squeeze
      S256x1024 squeezes_S1x256x1024_S256x1024 = xs s := by subst e; rfl
theorem oslot_of {off : Fin 3 → Nat} (s : Fin 2) (e : off = ![s.val, 0, 0]) (h : ∀ a, off a + S1x256x1024.size a ≤ S2x256x1024.size a) :
    ((Memref.whole cc0_scratch1 : Memref sig .tc .vmem S2x256x1024 .bf16).slice (Rect.unit (s := S2x256x1024) off S1x256x1024.size h) (fun _ => rfl)).squeeze
      S256x1024 squeezes_S1x256x1024_S256x1024 = os s := by subst e; rfl
theorem xblock_of {off : Fin 2 → Nat} (b : Fin 16) (e : off = ![256 * b.val, 0]) (h : ∀ a, off a + S256x1024.size a ≤ S4096x1024.size a) :
    (Memref.whole main_arg0 : Memref sig .tc .hbm S4096x1024 .f32).slice (Rect.unit (s := S4096x1024) off S256x1024.size h) (fun _ => rfl) = xb b := by subst e; rfl
theorem oblock_of {off : Fin 2 → Nat} (b : Fin 16) (e : off = ![256 * b.val, 0]) (h : ∀ a, off a + S256x1024.size a ≤ S4096x1024.size a) :
    (Memref.whole main_v0 : Memref sig .tc .hbm S4096x1024 .bf16).slice (Rect.unit (s := S4096x1024) off S256x1024.size h) (fun _ => rfl) = ob b := by subst e; rfl
theorem xsem_of {off : Fin 1 → Nat} (s : Fin 3) (e : off = ![s.val]) (h : ∀ a, off a + S1.size a ≤ S3.size a) :
    (cc0_scratch2.slice (Rect.unit (s := S3) off S1.size h)).squeeze S_ squeezes_S1_S_ = xsem s := by subst e; rfl
theorem osem_of {off : Fin 1 → Nat} (s : Fin 2) (e : off = ![s.val]) (h : ∀ a, off a + S1.size a ≤ S2.size a) :
    (cc0_scratch3.slice (Rect.unit (s := S2) off S1.size h)).squeeze S_ squeezes_S1_S_ = osem s := by subst e; rfl

@[sl_canon] theorem c2 (h) : ((Memref.whole cc0_scratch0 : Memref sig .tc .vmem S3x256x1024 .f32).slice (Rect.unit (s := S3x256x1024) (k0_off2 k) S1x256x1024.size h) (fun _ => rfl)).squeeze
      S256x1024 squeezes_S1x256x1024_S256x1024 = xs (sl 3 k.val) := slot_of _ (Gen.k0_off2_eq k) h
@[sl_canon] theorem c12 (h) : ((Memref.whole cc0_scratch0 : Memref sig .tc .vmem S3x256x1024 .f32).slice (Rect.unit (s := S3x256x1024) (k0_off12 k) S1x256x1024.size h) (fun _ => rfl)).squeeze
      S256x1024 squeezes_S1x256x1024_S256x1024 = xs (sl 3 k.val) := slot_of _ (Gen.k0_off12_eq k) h
@[sl_canon] theorem c6 (h) : ((Memref.whole cc0_scratch1 : Memref sig .tc .vmem S2x256x1024 .bf16).slice (Rect.unit (s := S2x256x1024) (k0_off6 k) S1x256x1024.size h) (fun _ => rfl)).squeeze
      S256x1024 squeezes_S1x256x1024_S256x1024 = os (sl 2 k.val) := oslot_of _ (Gen.k0_off6_eq k) h
@[sl_canon] theorem c10 (h) : ((Memref.whole cc0_scratch1 : Memref sig .tc .vmem S2x256x1024 .bf16).slice (Rect.unit (s := S2x256x1024) (k0_off10 k) S1x256x1024.size h) (fun _ => rfl)).squeeze
      S256x1024 squeezes_S1x256x1024_S256x1024 = os (sl 2 k.val) := oslot_of _ (Gen.k0_off10_eq k) h
@[sl_canon] theorem c3 (h) : (Memref.whole main_arg0 : Memref sig .tc .hbm S4096x1024 .f32).slice (Rect.unit (s := S4096x1024) (k0_off3 k) S256x1024.size h) (fun _ => rfl)
    = xb (bk 16 k.val) := xblock_of _ (off3_eq k) h
@[sl_canon] theorem c3o (h) : (Memref.whole main_v0 : Memref sig .tc .hbm S4096x1024 .bf16).slice (Rect.unit (s := S4096x1024) (k0_off3 k) S256x1024.size h) (fun _ => rfl)
    = ob (bk 16 k.val) := oblock_of _ (off3_eq k) h
@[sl_canon] theorem c13 (hc : k0_cond2 k = 1#1) (h) : (Memref.whole main_arg0 : Memref sig .tc .hbm S4096x1024 .f32).slice (Rect.unit (s := S4096x1024) (k0_off13 k) S256x1024.size h) (fun _ => rfl)
    = xb (bk 16 (k.val + 3)) := xblock_of _ (off13_eq k hc) h
@[sl_canon] theorem c5 (hc : k0_cond1 k = 1#1) (h) : (Memref.whole main_v0 : Memref sig .tc .hbm S4096x1024 .bf16).slice (Rect.unit (s := S4096x1024) (k0_off5 k) S256x1024.size h) (fun _ => rfl)
    = ob (bk 16 (k.val - 2)) := oblock_of _ (off5_eq k hc) h
@[sl_canon] theorem c1 (h) : (cc0_scratch2.slice (Rect.unit (s := S3) (k0_off1 k) S1.size h)).squeeze S_ squeezes_S1_S_ = xsem (sl 3 k.val) := xsem_of _ (Gen.k0_off1_eq k) h
@[sl_canon] theorem c11 (h) : (cc0_scratch2.slice (Rect.unit (s := S3) (k0_off11 k) S1.size h)).squeeze S_ squeezes_S1_S_ = xsem (sl 3 k.val) := xsem_of _ (Gen.k0_off11_eq k) h
@[sl_canon] theorem c4 (h) : (cc0_scratch3.slice (Rect.unit (s := S2) (k0_off4 k) S1.size h)).squeeze S_ squeezes_S1_S_ = osem (sl 2 k.val) := osem_of _ (Gen.k0_off4_eq k) h
@[sl_canon] theorem c9 (h) : (cc0_scratch3.slice (Rect.unit (s := S2) (k0_off9 k) S1.size h)).squeeze S_ squeezes_S1_S_ = osem (sl 2 k.val) := osem_of _ (Gen.k0_off9_eq k) h

@[sl_canon] theorem c10' (h) : ((Memref.whole cc0_scratch1 : Memref sig .tc .vmem S2x256x1024 .bf16).slice (Rect.unit (s := S2x256x1024) (k0_off10 k) ![1, 256, 1024] h) (fun _ => rfl)).squeeze
      S256x1024 squeezes_S1x256x1024_S256x1024 = os (sl 2 k.val) := oslot_of _ (Gen.k0_off10_eq k) h
@[sl_canon] theorem c3o' (h) : (Memref.whole main_v0 : Memref sig .tc .hbm S4096x1024 .bf16).slice (Rect.unit (s := S4096x1024) (k0_off3 k) ![256, 1024] h) (fun _ => rfl)
    = ob (bk 16 k.val) := oblock_of _ (off3_eq k) h
@[sl_canon] theorem c9' (h) : (cc0_scratch3.slice (Rect.unit (s := S2) (k0_off9 k) ![1] h)).squeeze S_ squeezes_S1_S_ = osem (sl 2 k.val) := osem_of _ (Gen.k0_off9_eq k) h
@[sl_canon] theorem c13' (hc : k0_cond2 k = 1#1) (h) : (Memref.whole main_arg0 : Memref sig .tc .hbm S4096x1024 .f32).slice (Rect.unit (s := S4096x1024) (k0_off13 k) ![256, 1024] h) (fun _ => rfl)
    = xb (bk 16 (k.val + 3)) := xblock_of _ (off13_eq k hc) h
@[sl_canon] theorem c12' (h) : ((Memref.whole cc0_scratch0 : Memref sig .tc .vmem S3x256x1024 .f32).slice (Rect.unit (s := S3x256x1024) (k0_off12 k) ![1, 256, 1024] h) (fun _ => rfl)).squeeze
      S256x1024 squeezes_S1x256x1024_S256x1024 = xs (sl 3 k.val) := slot_of _ (Gen.k0_off12_eq k) h
@[sl_canon] theorem c11' (h) : (cc0_scratch2.slice (Rect.unit (s := S3) (k0_off11 k) ![1] h)).squeeze S_ squeezes_S1_S_ = xsem (sl 3 k.val) := xsem_of _ (Gen.k0_off11_eq k) h

theorem xin_of {off : Fin 3 → Nat} (s : Fin 3) (e : off = ![s.val, 0, 0]) (h) : ((Memref.whole cc0_scratch0 : Memref sig .tc .vmem S3x256x1024 .f32).access (Rect.unit (s := S3x256x1024) off S1x256x1024.size h)).set ⊆ (xs s).view.set := by
  subst e; exact (View.set_reshape _ _).symm.le
theorem oin_of {off : Fin 3 → Nat} (s : Fin 2) (e : off = ![s.val, 0, 0]) (h) : ((Memref.whole cc0_scratch1 : Memref sig .tc .vmem S2x256x1024 .bf16).access (Rect.unit (s := S2x256x1024) off S1x256x1024.size h)).setOn Finset.univ ⊆ (os s).view.set := by
  subst e; rw [View.setOn_univ]; exact (View.set_reshape _ _).symm.le

end Names

/-! ## What is held -/

section Held

variable (c : Dev nD) (X : (main_arg0).ty.Contents (Elt F)) (R : (main_v0).ty.Contents (Elt F)) (g sh sc : Vec F S1x1024 .f32)

/-- A memref held by exactly its own elements. -/
abbrev own {sp : Space} {S : Shape} {e : EltTy} (M : Memref sig .tc sp S e) (f : Buf (Elt F) (M.view.loc (c : Thread nD τ))) : sProp (Res F) :=
  M.view.loc (c : Thread nD τ) ↦[M.view.set]{fullShare} f

/-- Block `b` on its way into slot `s`. -/
abbrev infl (s : Fin 3) (b : Fin 16) : sProp (Res F) :=
  iprop(∃ f, ⌜(xs s).view.read (Elt F) f = (xb b).view.read (Elt F) X⌝
    ∗ Transfers.Flight (countersEmb (U := Pipeline.UC sig nD τ)) (c : Thread nD τ) (.dma (xsem s).sem) () 32768 iprop(own c (xs s) f ∗ own c (xb b) X))
/-- Slot `s` with nothing on its way. -/
abbrev free (s : Fin 3) : sProp (Res F) := iprop((∃ f, own c (xs s) f) ∗ semVal ((c : Thread nD τ), SemLoc.dma (xsem s).sem) 0)
/-- Block `b` of the result on its way out of slot `s`. -/
abbrev outfl (s : Fin 2) (b : Fin 16) : sProp (Res F) :=
  iprop(∃ f, Transfers.Flight (countersEmb (U := Pipeline.UC sig nD τ)) (c : Thread nD τ) (.dma (osem s).sem) () 16384 iprop(own c (ob b) R ∗ own c (os s) f))
abbrev ofree (s : Fin 2) : sProp (Res F) := iprop((∃ f, own c (os s) f) ∗ semVal ((c : Thread nD τ), SemLoc.dma (osem s).sem) 0)
abbrev ahead (b : Fin 16) : sProp (Res F) := iprop(∃ f, own c (ob b) f)

/-- The rows of a block normalised, scaled and shifted. -/
def rows (z : Vec F S256x1024 .f32) : FVec F S256x1024 .bf16 :=
  shapeCast S256x1024 (Gen.k0_pay1 g sh sc (shapeCast S1x256x1024 z Gen.shapeCasts_S256x1024_S1x256x1024)) Gen.shapeCasts_S1x256x1024_S256x1024

theorem pay_rows (v : Vec F S1x256x1024 .f32) :
    shapeCast S256x1024 (Gen.k0_pay1 g sh sc v) Gen.shapeCasts_S1x256x1024_S256x1024 = rows g sh sc (shapeCast S256x1024 v Gen.shapeCasts_S1x256x1024_S256x1024) := by
  unfold rows; rw [shapeCast_shapeCast]

/-- Contents that read alike through a memref are alike where it is held. -/
theorem own_congr {sp : Space} {S : Shape} {e : EltTy} (M : Memref sig .tc sp S e) (f h : Buf (Elt F) (M.view.loc (c : Thread nD τ)))
    (e : M.view.read (Elt F) f = M.view.read (Elt F) h) : own c M f = own c M h :=
  pointsTo_congr fun i hi => by
    obtain ⟨y, -, rfl⟩ := Finset.mem_map.mp hi
    exact (cast_inj _).mp (congrFun e y)

theorem read_landed {sp : Space} {S : Shape} {e : EltTy} (v : View sig .tc sp S e) (f : v.ty.Contents (Elt F)) (w : S.Idx → Elt F e) (L) :
    v.read (Elt F) (v.writes (Elt F) f (⟨Rect.whole S, w⟩ :: L)) = w :=
  funext fun y => View.read_writes_cons_hit_of_coords v f (Rect.whole S) w L y y fun a => by simp [Rect.whole]

theorem os_read (s : Fin 2) (G : (cc0_scratch1).ty.Contents (Elt F)) (h) :
    (os s).view.read (Elt F) G = shapeCast S256x1024 (((Memref.whole cc0_scratch1 : Memref sig .tc .vmem S2x256x1024 .bf16).access (Rect.unit (s := S2x256x1024) ![s.val, 0, 0] S1x256x1024.size h)).read (Elt F) G)
      Gen.shapeCasts_S1x256x1024_S256x1024 := rfl
theorem xs_read (s : Fin 3) (G : (cc0_scratch0).ty.Contents (Elt F)) (h) :
    (xs s).view.read (Elt F) G = shapeCast S256x1024 ((Memref.whole cc0_scratch0 : Memref sig .tc .vmem S3x256x1024 .f32).view.readAt (Elt F) (Rect.unit (s := S3x256x1024) ![s.val, 0, 0] S1x256x1024.size h).toLoadRect G)
      Gen.shapeCasts_S1x256x1024_S256x1024 := rfl

/-- What a trip's store leaves in the slot it stores into, from what came into the slot it loads. -/
theorem stored (s : Fin 3) (s' : Fin 2) (b : Fin 16) {o7 o8 : Fin 3 → Nat} (e7 : o7 = ![s.val, 0, 0]) (e8 : o8 = ![s'.val, 0, 0]) (h7) (h8)
    (f : (cc0_scratch0).ty.Contents (Elt F)) (hf : (xs s).view.read (Elt F) f = (xb b).view.read (Elt F) X)
    (f2 : (cc0_scratch1).ty.Contents (Elt F)) :
    (os s').view.read (Elt F) (((Memref.whole cc0_scratch1 : Memref sig .tc .vmem S2x256x1024 .bf16).access (Rect.unit (s := S2x256x1024) o8 S1x256x1024.size h8)).write (Elt F) f2
      (Gen.k0_pay1 g sh sc ((Memref.whole cc0_scratch0 : Memref sig .tc .vmem S3x256x1024 .f32).view.readAt (Elt F) (Rect.unit (s := S3x256x1024) o7 S1x256x1024.size h7).toLoadRect f)) Finset.univ)
      = rows g sh sc ((xb b).view.read (Elt F) X) := by
  subst e7 e8
  refine (os_read s' _ h8).trans ?_
  refine (congrArg (fun w => shapeCast S256x1024 w Gen.shapeCasts_S1x256x1024_S256x1024) (View.read_write_univ (v := (Memref.whole cc0_scratch1 : Memref sig .tc .vmem S2x256x1024 .bf16).access (Rect.unit (s := S2x256x1024) ![s'.val, 0, 0] S1x256x1024.size h8)) f2 _)).trans ?_
  refine (pay_rows g sh sc _).trans ?_
  exact congrArg (rows g sh sc) ((xs_read s f h7).symm.trans hf)

end Held

section Trip

variable (c : Dev nD) (X : (main_arg0).ty.Contents (Elt F)) (R : (main_v0).ty.Contents (Elt F))
    (arg1 : Memref sig .tc .vmem S1x1024 .f32) (harg1 : arg1.IsWhole) (arg2 : Memref sig .tc .vmem S6x1024 .f32) (harg2 : arg2.IsWhole)
    (g sh sc : Vec F S1x1024 .f32) (hR : ∀ b, rows g sh sc ((xb b).view.read (Elt F) X) = (ob b).view.read (Elt F) R)
    (k : Fin k0_t1_loop.trips)

abbrev body : Prog (TpuEff nD τ sig (Elt F) Λ₀ .tc) Unit :=
  Gen.k0_t1_body (F := F) (Memref.whole main_arg0) (Memref.isWhole_whole _) arg1 harg1 arg2 harg2 (Memref.whole main_v0) (Memref.isWhole_whole _)
            (Memref.whole cc0_scratch0) (Memref.isWhole_whole _) (Memref.whole cc0_scratch1) (Memref.isWhole_whole _) cc0_scratch2 cc0_scratch3 g sh sc k ()

include hR in
set_option maxHeartbeats 4000000 in
/-- A trip with a block to wait for out and a block to fetch. -/
theorem trip_mid (h2 : 2 ≤ k.val) (h3 : k.val + 3 < 16) :
    iprop(infl c X (sl 3 k.val) (bk 16 k.val) ∗ own c (xb (bk 16 (k.val + 3))) X
        ∗ outfl c R (sl 2 k.val) (bk 16 (k.val - 2)) ∗ ahead c (bk 16 k.val) ∗ (∃ W, owes (c : Thread nD τ) 0 W))
      ⊢ wp frame (wpE (defs₀ (F := F)) Variants.none c none) Set.univ (body arg1 harg1 arg2 harg2 g sh sc k)
          (fun _ => iprop(own c (xb (bk 16 k.val)) X ∗ own c (ob (bk 16 (k.val - 2))) R ∗ infl c X (sl 3 k.val) (bk 16 (k.val + 3))
            ∗ outfl c R (sl 2 k.val) (bk 16 k.val) ∗ (∃ W, owes (c : Thread nD τ) 0 W))) := by
  have hc1 := (cond1_iff k).2 h2
  have hc2 := (cond2_iff k).2 h3
  have hxi := xin_of (sl 3 k.val) (Gen.k0_off7_eq k) (k0_off7_inb k)
  have hoi := oin_of (sl 2 k.val) (Gen.k0_off8_eq k) (k0_off8_inb k)
  have hoj := (View.setOn_univ _).symm.le.trans hoi
  iintro ⟨⟨%f0, %hf0, HX⟩, HB, ⟨%f2, HO⟩, ⟨%fo, Hob⟩, ⟨%W, HW⟩⟩
  unfold body Gen.k0_t1_body
  simp only [Gen.k0_part1_eq_skeleton]
  unfold Gen.k0_part1_skel
  sl_exec
  sl_step
  isplitl [HX_src]; · iexact HX_src
  isplitl [HO_dst]; · iexact HO_dst
  isplitl [HX]
  · iexists _; isplitr; swap
    · iexact HX
    ipureintro; exact read_landed _ _ _ _
  isplitl [HO]
  · iexists _
    rw [← own_congr c (ob (bk 16 k.val)) _ R ((read_landed _ fo _ []).trans ((stored X g sh sc (sl 3 k.val) (sl 2 k.val) (bk 16 k.val) (Gen.k0_off7_eq k) (Gen.k0_off8_eq k) (k0_off7_inb k) (k0_off8_inb k) f0 hf0 f2).trans (hR _)))]
    iexact HO
  iexists _; iexact HW

include hR in
set_option maxHeartbeats 4000000 in
/-- One of the first two trips: nothing on its way out of the slot. -/
theorem trip_lo (h2 : ¬2 ≤ k.val) :
    iprop(infl c X (sl 3 k.val) (bk 16 k.val) ∗ own c (xb (bk 16 (k.val + 3))) X
        ∗ ofree c (sl 2 k.val) ∗ ahead c (bk 16 k.val) ∗ (∃ W, owes (c : Thread nD τ) 0 W))
      ⊢ wp frame (wpE (defs₀ (F := F)) Variants.none c none) Set.univ (body arg1 harg1 arg2 harg2 g sh sc k)
          (fun _ => iprop(own c (xb (bk 16 k.val)) X ∗ infl c X (sl 3 k.val) (bk 16 (k.val + 3))
            ∗ outfl c R (sl 2 k.val) (bk 16 k.val) ∗ (∃ W, owes (c : Thread nD τ) 0 W))) := by
  have hc1 := mt (cond1_iff k).1 h2
  have hc2 := (cond2_iff k).2 (by omega)
  have hxi := xin_of (sl 3 k.val) (Gen.k0_off7_eq k) (k0_off7_inb k)
  have hoi := oin_of (sl 2 k.val) (Gen.k0_off8_eq k) (k0_off8_inb k)
  have hoj := (View.setOn_univ _).symm.le.trans hoi
  iintro ⟨⟨%f0, %hf0, HX⟩, HB, ⟨⟨%f2, Hos⟩, HO⟩, ⟨%fo, Hob⟩, ⟨%W, HW⟩⟩
  unfold body Gen.k0_t1_body
  simp only [Gen.k0_part1_eq_skeleton]
  unfold Gen.k0_part1_skel
  sl_exec
  sl_step
  isplitl [HX_src]; · iexact HX_src
  isplitl [HX]
  · iexists _; isplitr; swap
    · iexact HX
    ipureintro; exact read_landed _ _ _ _
  isplitl [HO]
  · iexists _
    rw [← own_congr c (ob (bk 16 k.val)) _ R ((read_landed _ fo _ []).trans ((stored X g sh sc (sl 3 k.val) (sl 2 k.val) (bk 16 k.val) (Gen.k0_off7_eq k) (Gen.k0_off8_eq k) (k0_off7_inb k) (k0_off8_inb k) f0 hf0 f2).trans (hR _)))]
    iexact HO
  iexists _; iexact HW

include hR in
set_option maxHeartbeats 4000000 in
/-- One of the last three trips: no block left to fetch. -/
theorem trip_hi (h3 : ¬k.val + 3 < 16) :
    iprop(infl c X (sl 3 k.val) (bk 16 k.val)
        ∗ outfl c R (sl 2 k.val) (bk 16 (k.val - 2)) ∗ ahead c (bk 16 k.val) ∗ (∃ W, owes (c : Thread nD τ) 0 W))
      ⊢ wp frame (wpE (defs₀ (F := F)) Variants.none c none) Set.univ (body arg1 harg1 arg2 harg2 g sh sc k)
          (fun _ => iprop(own c (xb (bk 16 k.val)) X ∗ own c (ob (bk 16 (k.val - 2))) R ∗ free c (sl 3 k.val)
            ∗ outfl c R (sl 2 k.val) (bk 16 k.val) ∗ (∃ W, owes (c : Thread nD τ) 0 W))) := by
  have hc1 := (cond1_iff k).2 (by omega)
  have hc2 := mt (cond2_iff k).1 h3
  have hxi := xin_of (sl 3 k.val) (Gen.k0_off7_eq k) (k0_off7_inb k)
  have hoi := oin_of (sl 2 k.val) (Gen.k0_off8_eq k) (k0_off8_inb k)
  have hoj := (View.setOn_univ _).symm.le.trans hoi
  iintro ⟨⟨%f0, %hf0, HX⟩, ⟨%f2, HO⟩, ⟨%fo, Hob⟩, ⟨%W, HW⟩⟩
  unfold body Gen.k0_t1_body
  simp only [Gen.k0_part1_eq_skeleton]
  unfold Gen.k0_part1_skel
  sl_exec
  sl_step
  isplitl [HX_src]; · iexact HX_src
  isplitl [HO_dst]; · iexact HO_dst
  isplitl [HX HX_dst]
  · isplitl [HX_dst]; · iexists _; iexact HX_dst
    iexact HX
  isplitl [HO]
  · iexists _
    rw [← own_congr c (ob (bk 16 k.val)) _ R ((read_landed _ fo _ []).trans ((stored X g sh sc (sl 3 k.val) (sl 2 k.val) (bk 16 k.val) (Gen.k0_off7_eq k) (Gen.k0_off8_eq k) (k0_off7_inb k) (k0_off8_inb k) f0 hf0 f2).trans (hR _)))]
    iexact HO
  iexists _; iexact HW

/-! ## The loop's invariant -/

abbrev Rd (p : ℕ) : sProp (Res F) := Ring.roleAt (NB := 16) (free c (sl 3 p)) (infl c X (sl 3 p)) p
abbrev Wr (p : ℕ) : sProp (Res F) := Ring.roleBAt (NB := 16) 2 (ofree c (sl 2 p)) (outfl c R (sl 2 p)) p
abbrev home (b : Fin 16) : sProp (Res F) := own c (xb b) X
abbrev done (b : Fin 16) : sProp (Res F) := own c (ob b) R

/-- What is held before trip `k`. -/
@[irreducible] def inv (k : ℕ) : sProp (Res F) :=
  iprop((∃ W, owes (c : Thread nD τ) 0 W) ∗ (bigSep (Ring.homeSet 3 k) (home c X)) ∗ Rd c X k ∗ Rd c X (k + 1) ∗ Rd c X (k + 2)
    ∗ Wr c R k ∗ Wr c R (k + 1) ∗ bigSep (Ring.aheadSet k) (ahead c) ∗ bigSep (Ring.behindSet 2 k) (done c R))

theorem sl3 (k : ℕ) : sl 3 (k + 1 + 2) = sl 3 k := Ring.sl_add 3 k
theorem sl2 (k : ℕ) : sl 2 (k + 1 + 1) = sl 2 k := Ring.sl_add 2 k

theorem homes_here (k : ℕ) (h : k + 3 < 16) :
    bigSep (Ring.homeSet 3 k) (home c X) = iprop(home c X (bk 16 (k + 3)) ∗ bigSep ((Ring.homeSet 3 k).erase (bk 16 (k + 3))) (home c X)) := by
  conv_lhs => rw [Ring.homeSet_out 3 k h, bigSep_insert (Ring.bkL_not_mem_erase 3 k)]
  rfl
theorem homes_next (k : ℕ) (h : k + 3 < 16) :
    bigSep (Ring.homeSet 3 (k + 1)) (home c X) = iprop(home c X (bk 16 k) ∗ bigSep ((Ring.homeSet 3 k).erase (bk 16 (k + 3))) (home c X)) := by
  conv_lhs => rw [Ring.homeSet_succ 3 k h, bigSep_insert (Ring.bk_not_mem_erase 3 k (by omega) (by decide))]
  rfl
theorem homes_tail (k : ℕ) (h : ¬k + 3 < 16) (hk : k < 16) :
    bigSep (Ring.homeSet 3 (k + 1)) (home c X) = iprop(home c X (bk 16 k) ∗ bigSep (Ring.homeSet 3 k) (home c X)) := by
  conv_lhs => rw [Ring.homeSet_succ_tail 3 k (by omega) hk, bigSep_insert (Ring.bk_not_mem_homeSet 3 k hk (by decide))]
  rfl
theorem aheads (k : ℕ) (hk : k < 16) :
    bigSep (Ring.aheadSet k) (ahead (F := F) c) = iprop(ahead c (bk 16 k) ∗ bigSep (Ring.aheadSet (k + 1)) (ahead c)) := by
  conv_lhs => rw [Ring.aheadSet_open k hk, bigSep_insert (Ring.bk_not_mem_aheadSet_succ k hk)]
  rfl
theorem dones (k : ℕ) (h2 : 2 ≤ k) (hk : k < 16) :
    bigSep (Ring.behindSet 2 (k + 1)) (done c R) = iprop(done c R (bk 16 (k - 2)) ∗ bigSep (Ring.behindSet 2 k) (done c R)) := by
  conv_lhs => rw [Ring.behindSet_close 2 k h2 hk, bigSep_insert (Ring.bk_not_mem_behindSet 2 k h2 hk)]
  rfl

include hR in
/-- A trip carries what is held before it to what is held before the next. -/
theorem step : inv c X R k.val ⊢ wp frame (wpE (defs₀ (F := F)) Variants.none c none) Set.univ (body arg1 harg1 arg2 harg2 g sh sc k) (fun _ => inv c X R (k.val + 1)) := by
  have hk := trips_lt k
  unfold inv Rd Wr
  rw [aheads c k.val hk, sl3, sl2, Ring.roleAt_of_lt _ _ k.val hk,
    Ring.roleBAt_of_le 2 _ _ (k.val + 1 + 1) (by omega), show k.val + 1 + 1 - 2 = k.val by omega]
  by_cases h2 : 2 ≤ k.val
  · rw [dones c R k.val h2 hk, Ring.roleBAt_of_le 2 _ _ k.val h2]
    by_cases h3 : k.val + 3 < 16
    · rw [homes_here c X k.val h3, homes_next c X k.val h3, Ring.roleAt_of_lt _ _ (k.val + 1 + 2) (by omega)]
      iintro ⟨HW, ⟨Hn, HH⟩, H0, H1, H2, W0, W1, ⟨Ha, HA⟩, HB⟩
      iapply (wp_wand_r Idealize.ShloMosaic.frame (wpE (defs₀ (F := F)) Variants.none c none) Set.univ)
      isplitl [H0 Hn W0 Ha HW]
      · iapply (trip_mid c X R arg1 harg1 arg2 harg2 g sh sc hR k h2 h3)
        iframe
      · iintro %_ ⟨P0, P1, P2, P3, P4⟩
        iframe
    · rw [homes_tail c X k.val h3 hk, Ring.roleAt_of_le _ _ (k.val + 1 + 2) (by omega)]
      iintro ⟨HW, HH, H0, H1, H2, W0, W1, ⟨Ha, HA⟩, HB⟩
      iapply (wp_wand_r Idealize.ShloMosaic.frame (wpE (defs₀ (F := F)) Variants.none c none) Set.univ)
      isplitl [H0 W0 Ha HW]
      · iapply (trip_hi c X R arg1 harg1 arg2 harg2 g sh sc hR k h3)
        iframe
      · iintro %_ ⟨P0, P1, P2, P3, P4⟩
        iframe
  · rw [Ring.behindSet_boot 2 k.val (by omega), Ring.behindSet_boot 2 (k.val + 1) (by omega), Ring.roleBAt_of_lt 2 _ _ k.val (by omega),
      homes_here c X k.val (by omega), homes_next c X k.val (by omega), Ring.roleAt_of_lt _ _ (k.val + 1 + 2) (by omega)]
    iintro ⟨HW, ⟨Hn, HH⟩, H0, H1, H2, W0, W1, ⟨Ha, HA⟩, HB⟩
    iapply (wp_wand_r Idealize.ShloMosaic.frame (wpE (defs₀ (F := F)) Variants.none c none) Set.univ)
    isplitl [H0 Hn W0 Ha HW]
    · iapply (trip_lo c X R arg1 harg1 arg2 harg2 g sh sc hR k h2)
      iframe
    · iintro %_ ⟨P0, P2, P3, P4⟩
      iframe

set_option warn.classDefReducibility false in
/-- The loop's invariant, for the run to find. -/
@[sl_loop] def loopInv (hR : ∀ b, rows g sh sc ((xb b).view.read (Elt F) X) = (ob b).view.read (Elt F) R) :
    Gen.LoopInvTy_k0_t1 (F := F) Unit ℕ (Pipeline.UC sig nD τ) ℕ Variants.none c none Set.univ (Memref.whole main_arg0) (Memref.isWhole_whole _) arg1 harg1 arg2 harg2
      (Memref.whole main_v0) (Memref.isWhole_whole _) (Memref.whole cc0_scratch0) (Memref.isWhole_whole _) (Memref.whole cc0_scratch1) (Memref.isWhole_whole _)
      cc0_scratch2 cc0_scratch3 g sh sc where
  inv k _ := inv c X R k
  step k _ := step c X R arg1 harg1 arg2 harg2 g sh sc hR k

end Trip

end Cert.NormF.Ring

end
-- ==== Proof.NormRun.lean ====
module

public import proofs.«01_k».proof.Proof.Gen.NormF
public import proofs.«01_k».proof.Proof.Gen.NormF.Skeleton
public import proofs.«01_k».proof.Proof.Gen.NormF.Loops
public import proofs.«01_k».proof.Proof.Gen.NormF.Launch
public import proofs.«01_k».proof.Proof.Gen.NormF.Points
public import proofs.«01_k».proof.Proof.Gen.NormF.Frame
public import Idealize.ShloMosaic.Lib.Pipeline.Routed
public import Idealize.ShloMosaic.Lib.Ring.Trips
public import Idealize.ShloMosaic.Lib.Tactic
public import Idealize.ShloMosaic.Lib.Pipeline.Value
public import proofs.«01_k».proof.Proof.NormRing

/-! The row normalisation of the forward pass: its kernel from the first fetch to the last block out. -/

@[expose] public section

set_option sl_exec.respelt true

noncomputable section

namespace Cert.NormF.Ring

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.Ring (sl bk)
open Cert.NormF.Facts₀

variable {F : FTy → Type} [FloatOps F]

/-! ## The slots and blocks the kernel names by numbers -/

@[sl_canon] theorem x0 (h) : ((Memref.whole cc0_scratch0 : Memref sig .tc .vmem S3x256x1024 .f32).slice (Rect.unit (s := S3x256x1024) ![0, 0, 0] ![1, 256, 1024] h) (fun _ => rfl)).squeeze
      S256x1024 squeezes_S1x256x1024_S256x1024 = xs 0 := slot_of 0 rfl h
@[sl_canon] theorem b0 (h) : (Memref.whole main_arg0 : Memref sig .tc .hbm S4096x1024 .f32).slice (Rect.unit (s := S4096x1024) ![0, 0] ![256, 1024] h) (fun _ => rfl)
    = xb 0 := xblock_of 0 rfl h
@[sl_canon] theorem s0 (h) : (cc0_scratch2.slice (Rect.unit (s := S3) ![0] ![1] h)).squeeze S_ squeezes_S1_S_ = xsem 0 := xsem_of 0 rfl h
@[sl_canon] theorem x1 (h) : ((Memref.whole cc0_scratch0 : Memref sig .tc .vmem S3x256x1024 .f32).slice (Rect.unit (s := S3x256x1024) ![1, 0, 0] ![1, 256, 1024] h) (fun _ => rfl)).squeeze
      S256x1024 squeezes_S1x256x1024_S256x1024 = xs 1 := slot_of 1 rfl h
@[sl_canon] theorem b1 (h) : (Memref.whole main_arg0 : Memref sig .tc .hbm S4096x1024 .f32).slice (Rect.unit (s := S4096x1024) ![256, 0] ![256, 1024] h) (fun _ => rfl)
    = xb 1 := xblock_of 1 rfl h
@[sl_canon] theorem s1 (h) : (cc0_scratch2.slice (Rect.unit (s := S3) ![1] ![1] h)).squeeze S_ squeezes_S1_S_ = xsem 1 := xsem_of 1 rfl h
@[sl_canon] theorem x2 (h) : ((Memref.whole cc0_scratch0 : Memref sig .tc .vmem S3x256x1024 .f32).slice (Rect.unit (s := S3x256x1024) ![2, 0, 0] ![1, 256, 1024] h) (fun _ => rfl)).squeeze
      S256x1024 squeezes_S1x256x1024_S256x1024 = xs 2 := slot_of 2 rfl h
@[sl_canon] theorem b2 (h) : (Memref.whole main_arg0 : Memref sig .tc .hbm S4096x1024 .f32).slice (Rect.unit (s := S4096x1024) ![512, 0] ![256, 1024] h) (fun _ => rfl)
    = xb 2 := xblock_of 2 rfl h
@[sl_canon] theorem s2 (h) : (cc0_scratch2.slice (Rect.unit (s := S3) ![2] ![1] h)).squeeze S_ squeezes_S1_S_ = xsem 2 := xsem_of 2 rfl h
@[sl_canon] theorem o0 (h) : ((Memref.whole cc0_scratch1 : Memref sig .tc .vmem S2x256x1024 .bf16).slice (Rect.unit (s := S2x256x1024) ![0, 0, 0] ![1, 256, 1024] h) (fun _ => rfl)).squeeze
      S256x1024 squeezes_S1x256x1024_S256x1024 = os 0 := oslot_of 0 rfl h
@[sl_canon] theorem r0 (h) : (Memref.whole main_v0 : Memref sig .tc .hbm S4096x1024 .bf16).slice (Rect.unit (s := S4096x1024) ![3584, 0] ![256, 1024] h) (fun _ => rfl)
    = ob 14 := oblock_of 14 rfl h
@[sl_canon] theorem t0 (h) : (cc0_scratch3.slice (Rect.unit (s := S2) ![0] ![1] h)).squeeze S_ squeezes_S1_S_ = osem 0 := osem_of 0 rfl h
@[sl_canon] theorem o1 (h) : ((Memref.whole cc0_scratch1 : Memref sig .tc .vmem S2x256x1024 .bf16).slice (Rect.unit (s := S2x256x1024) ![1, 0, 0] ![1, 256, 1024] h) (fun _ => rfl)).squeeze
      S256x1024 squeezes_S1x256x1024_S256x1024 = os 1 := oslot_of 1 rfl h
@[sl_canon] theorem r1 (h) : (Memref.whole main_v0 : Memref sig .tc .hbm S4096x1024 .bf16).slice (Rect.unit (s := S4096x1024) ![3840, 0] ![256, 1024] h) (fun _ => rfl)
    = ob 15 := oblock_of 15 rfl h
@[sl_canon] theorem t1 (h) : (cc0_scratch3.slice (Rect.unit (s := S2) ![1] ![1] h)).squeeze S_ squeezes_S1_S_ = osem 1 := osem_of 1 rfl h
@[sl_canon] theorem x0' (h) : ((Memref.whole cc0_scratch0 : Memref sig .tc .vmem S3x256x1024 .f32).slice (Rect.unit (s := S3x256x1024) ![0, 0, 0] S1x256x1024.size h) (fun _ => rfl)).squeeze
      S256x1024 squeezes_S1x256x1024_S256x1024 = xs 0 := slot_of 0 rfl h
@[sl_canon] theorem b0' (h) : (Memref.whole main_arg0 : Memref sig .tc .hbm S4096x1024 .f32).slice (Rect.unit (s := S4096x1024) ![0, 0] S256x1024.size h) (fun _ => rfl)
    = xb 0 := xblock_of 0 rfl h
@[sl_canon] theorem s0' (h) : (cc0_scratch2.slice (Rect.unit (s := S3) ![0] S1.size h)).squeeze S_ squeezes_S1_S_ = xsem 0 := xsem_of 0 rfl h
@[sl_canon] theorem x1' (h) : ((Memref.whole cc0_scratch0 : Memref sig .tc .vmem S3x256x1024 .f32).slice (Rect.unit (s := S3x256x1024) ![1, 0, 0] S1x256x1024.size h) (fun _ => rfl)).squeeze
      S256x1024 squeezes_S1x256x1024_S256x1024 = xs 1 := slot_of 1 rfl h
@[sl_canon] theorem b1' (h) : (Memref.whole main_arg0 : Memref sig .tc .hbm S4096x1024 .f32).slice (Rect.unit (s := S4096x1024) ![256, 0] S256x1024.size h) (fun _ => rfl)
    = xb 1 := xblock_of 1 rfl h
@[sl_canon] theorem s1' (h) : (cc0_scratch2.slice (Rect.unit (s := S3) ![1] S1.size h)).squeeze S_ squeezes_S1_S_ = xsem 1 := xsem_of 1 rfl h
@[sl_canon] theorem x2' (h) : ((Memref.whole cc0_scratch0 : Memref sig .tc .vmem S3x256x1024 .f32).slice (Rect.unit (s := S3x256x1024) ![2, 0, 0] S1x256x1024.size h) (fun _ => rfl)).squeeze
      S256x1024 squeezes_S1x256x1024_S256x1024 = xs 2 := slot_of 2 rfl h
@[sl_canon] theorem b2' (h) : (Memref.whole main_arg0 : Memref sig .tc .hbm S4096x1024 .f32).slice (Rect.unit (s := S4096x1024) ![512, 0] S256x1024.size h) (fun _ => rfl)
    = xb 2 := xblock_of 2 rfl h
@[sl_canon] theorem s2' (h) : (cc0_scratch2.slice (Rect.unit (s := S3) ![2] S1.size h)).squeeze S_ squeezes_S1_S_ = xsem 2 := xsem_of 2 rfl h
@[sl_canon] theorem o0' (h) : ((Memref.whole cc0_scratch1 : Memref sig .tc .vmem S2x256x1024 .bf16).slice (Rect.unit (s := S2x256x1024) ![0, 0, 0] S1x256x1024.size h) (fun _ => rfl)).squeeze
      S256x1024 squeezes_S1x256x1024_S256x1024 = os 0 := oslot_of 0 rfl h
@[sl_canon] theorem r0' (h) : (Memref.whole main_v0 : Memref sig .tc .hbm S4096x1024 .bf16).slice (Rect.unit (s := S4096x1024) ![3584, 0] S256x1024.size h) (fun _ => rfl)
    = ob 14 := oblock_of 14 rfl h
@[sl_canon] theorem t0' (h) : (cc0_scratch3.slice (Rect.unit (s := S2) ![0] S1.size h)).squeeze S_ squeezes_S1_S_ = osem 0 := osem_of 0 rfl h
@[sl_canon] theorem o1' (h) : ((Memref.whole cc0_scratch1 : Memref sig .tc .vmem S2x256x1024 .bf16).slice (Rect.unit (s := S2x256x1024) ![1, 0, 0] S1x256x1024.size h) (fun _ => rfl)).squeeze
      S256x1024 squeezes_S1x256x1024_S256x1024 = os 1 := oslot_of 1 rfl h
@[sl_canon] theorem r1' (h) : (Memref.whole main_v0 : Memref sig .tc .hbm S4096x1024 .bf16).slice (Rect.unit (s := S4096x1024) ![3840, 0] S256x1024.size h) (fun _ => rfl)
    = ob 15 := oblock_of 15 rfl h
@[sl_canon] theorem t1' (h) : (cc0_scratch3.slice (Rect.unit (s := S2) ![1] S1.size h)).squeeze S_ squeezes_S1_S_ = osem 1 := osem_of 1 rfl h

section Run

variable (c : Dev nD) (X : (main_arg0).ty.Contents (Elt F)) (R : (main_v0).ty.Contents (Elt F))
    (arg1 : Memref sig .tc .vmem S1x1024 .f32) (harg1 : arg1.IsWhole) (arg2 : Memref sig .tc .vmem S6x1024 .f32) (harg2 : arg2.IsWhole)

theorem start_homes : bigSep Finset.univ (home c X) = iprop(home c X 0 ∗ home c X 1 ∗ home c X 2 ∗ bigSep (Ring.homeSet 3 0) (home c X)) := by
  rw [show (Finset.univ : Finset (Fin 16)) = insert 0 (insert 1 (insert 2 (Ring.homeSet 3 0))) by decide, bigSep_insert (by decide), bigSep_insert (by decide),
    bigSep_insert (by decide)]
  rfl
theorem end_dones : bigSep Finset.univ (done c R) = iprop(done c R 14 ∗ done c R 15 ∗ bigSep (Ring.behindSet 2 16) (done c R)) := by
  rw [show (Finset.univ : Finset (Fin 16)) = insert 14 (insert 15 (Ring.behindSet 2 16)) by decide, bigSep_insert (by decide), bigSep_insert (by decide)]
  rfl

/-- What is held before the first trip. -/
theorem inv_first : iprop((∃ W, owes (c : Thread nD τ) 0 W) ∗ bigSep (Ring.homeSet 3 0) (home c X) ∗ infl c X 0 0 ∗ infl c X 1 1 ∗ infl c X 2 2
    ∗ ofree c 0 ∗ ofree c 1 ∗ bigSep Finset.univ (ahead c)) ⊢ inv c X R 0 := by
  unfold inv Rd Wr
  rw [Ring.roleAt_of_lt _ _ 0 (by decide), Ring.roleAt_of_lt _ _ (0 + 1) (by decide), Ring.roleAt_of_lt _ _ (0 + 2) (by decide),
    Ring.roleBAt_of_lt 2 _ _ 0 (by decide), Ring.roleBAt_of_lt 2 _ _ (0 + 1) (by decide), Ring.aheadSet_zero, Ring.behindSet_boot 2 0 (by decide), bigSep_empty]
  iintro ⟨HW, HH, H0, H1, H2, W0, W1, HA⟩
  isplitl [HW]; · iexact HW
  isplitl [HH]; · iexact HH
  isplitl [H0]; · iexact H0
  isplitl [H1]; · iexact H1
  isplitl [H2]; · iexact H2
  isplitl [W0]; · iexact W0
  isplitl [W1]; · iexact W1
  isplitl [HA]; · iexact HA
  iempintro

/-- What is held after the last. -/
theorem inv_last : inv c X R 16 ⊢ iprop((∃ W, owes (c : Thread nD τ) 0 W) ∗ bigSep Finset.univ (home c X) ∗ free c 1 ∗ free c 2 ∗ free c 0
    ∗ outfl c R 0 14 ∗ outfl c R 1 15 ∗ bigSep (Ring.behindSet 2 16) (done c R)) := by
  unfold inv Rd Wr
  rw [Ring.roleAt_of_le _ _ 16 (by decide), Ring.roleAt_of_le _ _ (16 + 1) (by decide), Ring.roleAt_of_le _ _ (16 + 2) (by decide),
    Ring.roleBAt_of_le 2 _ _ 16 (by decide), Ring.roleBAt_of_le 2 _ _ (16 + 1) (by decide), Ring.aheadSet_end 16 (by decide), bigSep_empty,
    show Ring.homeSet (NB := 16) 3 16 = Finset.univ by decide]
  iintro ⟨HW, HH, H0, H1, H2, W0, W1, -, HB⟩
  isplitl [HW]; · iexact HW
  isplitl [HH]; · iexact HH
  isplitl [H0]; · iexact H0
  isplitl [H1]; · iexact H1
  isplitl [H2]; · iexact H2
  isplitl [W0]; · iexact W0
  isplitl [W1]; · iexact W1
  iexact HB

abbrev row0 (M : Memref sig .tc .vmem S1x1024 .f32) (G : Buf (Elt F) (M.view.loc (c : Thread nD τ))) : Vec F S1x1024 .f32 :=
  M.view.readAt (Elt F) (Rect.unit (s := S1x1024) ![0, 0] S1x1024.size inb_S1x1024_S1x1024_0_0).toLoadRect G
abbrev modrow0 (M : Memref sig .tc .vmem S6x1024 .f32) (G : Buf (Elt F) (M.view.loc (c : Thread nD τ))) : Vec F S1x1024 .f32 :=
  M.view.readAt (Elt F) (Rect.unit (s := S6x1024) ![0, 0] S1x1024.size inb_S6x1024_S1x1024_0_0).toLoadRect G
abbrev modrow1 (M : Memref sig .tc .vmem S6x1024 .f32) (G : Buf (Elt F) (M.view.loc (c : Thread nD τ))) : Vec F S1x1024 .f32 :=
  M.view.readAt (Elt F) (Rect.unit (s := S6x1024) ![1, 0] S1x1024.size inb_S6x1024_S1x1024_1_0).toLoadRect G

variable (G1 : Buf (Elt F) (arg1.view.loc (c : Thread nD τ))) (G2 : Buf (Elt F) (arg2.view.loc (c : Thread nD τ)))
  (hR : ∀ b, rows (row0 c arg1 G1) (modrow0 c arg2 G2) (modrow1 c arg2 G2) ((xb b).view.read (Elt F) X) = (ob b).view.read (Elt F) R)

abbrev held (P : Fin 16 → sProp (Res F)) : sProp (Res F) :=
  iprop(own c arg1 G1 ∗ own c arg2 G2 ∗ bigSep Finset.univ (home c X) ∗ bigSep Finset.univ P ∗ (free c 0 ∗ free c 1 ∗ free c 2) ∗ (ofree c 0 ∗ ofree c 1)
    ∗ ∃ W, owes (c : Thread nD τ) 0 W)

include hR in
set_option maxHeartbeats 4000000 in
/-- The kernel, from its blocks at anything to its blocks at the result. -/
theorem kernel_run : held c X arg1 arg2 G1 G2 (ahead c)
    ⊢ wp frame (wpE (defs₀ (F := F)) Variants.none c none) Set.univ
        (cc0_norm_mod (Memref.whole main_arg0) (Memref.isWhole_whole _) arg1 harg1 arg2 harg2 (Memref.whole main_v0) (Memref.isWhole_whole _)
            (Memref.whole cc0_scratch0) (Memref.isWhole_whole _) (Memref.whole cc0_scratch1) (Memref.isWhole_whole _) cc0_scratch2 cc0_scratch3)
        (fun _ => held c X arg1 arg2 G1 G2 (done c R)) := by
  rw [show held c X arg1 arg2 G1 G2 (done c R) = iprop(own c arg1 G1 ∗ own c arg2 G2 ∗ bigSep Finset.univ (home c X) ∗ bigSep Finset.univ (done c R)
    ∗ (free c 0 ∗ free c 1 ∗ free c 2) ∗ (ofree c 0 ∗ ofree c 1) ∗ ∃ W, owes (c : Thread nD τ) 0 W) from rfl, end_dones]
  rw [show held c X arg1 arg2 G1 G2 (ahead c) = iprop(own c arg1 G1 ∗ own c arg2 G2 ∗ bigSep Finset.univ (home c X) ∗ bigSep Finset.univ (ahead c)
    ∗ (free c 0 ∗ free c 1 ∗ free c 2) ∗ (ofree c 0 ∗ ofree c 1) ∗ ∃ W, owes (c : Thread nD τ) 0 W) from rfl]
  iintro ⟨HG, HM, HH, HA, ⟨⟨⟨%f0, Hs0⟩, Hc0⟩, ⟨⟨%f1, Hs1⟩, Hc1⟩, ⟨⟨%f2, Hs2⟩, Hc2⟩⟩, ⟨Ho0, Ho1⟩, ⟨%W, HW⟩⟩
  ihave HH := (show bigSep Finset.univ (home c X) ⊢ _ from by rw [start_homes]) $$ HH
  icases HH with ⟨Hb0, Hb1, Hb2, HH⟩
  simp only [Gen.cc0_norm_mod_eq_skeleton]
  unfold Gen.cc0_norm_mod_skel
  simp only [Gen.k0_part2_eq_skeleton]
  unfold Gen.k0_part2_skel
  simp only [Prog.bind_assoc]
  sl_exec
  ihave HI := (inv_first c X R) $$ [HW HH Hc0 Hc1 Hc2 Ho0 Ho1 HA]
  · isplitl [HW]; · iexists W; iexact HW
    isplitl [HH]; · iexact HH
    isplitl [Hc0]
    · iexists _; isplitr; swap
      · iexact Hc0
      ipureintro; exact read_landed _ _ _ _
    isplitl [Hc1]
    · iexists _; isplitr; swap
      · iexact Hc1
      ipureintro; exact read_landed _ _ _ _
    isplitl [Hc2]
    · iexists _; isplitr; swap
      · iexact Hc2
      ipureintro; exact read_landed _ _ _ _
    isplitl [Ho0]; · iexact Ho0
    isplitl [Ho1]; · iexact Ho1
    iexact HA
  sl_for (fun k _ => inv c X R k) $$ [HI]
  case region => exact fun k _ => step c X R arg1 harg1 arg2 harg2 _ _ _ hR k
  · iexact HI
  iintro %_ HI
  ihave HI := (show inv c X R (Scf.trips k0_t1_loop.lb k0_t1_loop.ub k0_t1_loop.st) ⊢ inv c X R 16 from by rw [show Scf.trips k0_t1_loop.lb k0_t1_loop.ub k0_t1_loop.st = 16 by decide]) $$ HI
  ihave HI := (inv_last c X R) $$ HI
  icases HI with ⟨⟨%W', HW⟩, HH, H1, H2, H0, ⟨%e0, Ho0⟩, ⟨%e1, Ho1⟩, HB⟩
  sl_exec
  sl_step
  isplitl [HG]; · iexact HG
  isplitl [HM]; · iexact HM
  isplitl [HH]; · iexact HH
  isplitl [Ho0_dst Ho1_dst HB]
  · isplitl [Ho0_dst]; · iexact Ho0_dst
    isplitl [Ho1_dst]; · iexact Ho1_dst
    iexact HB
  isplitl [H0 H1 H2]
  · isplitl [H0]; · iexact H0
    isplitl [H1]; · iexact H1
    iexact H2
  isplitl [Ho0_src Ho0 Ho1_src Ho1]
  · isplitl [Ho0_src Ho0]
    · isplitl [Ho0_src]; · iexists e0; iexact Ho0_src
      iexact Ho0
    isplitl [Ho1_src]; · iexists e1; iexact Ho1_src
    iexact Ho1
  iexists _; iexact HW

end Run

end Cert.NormF.Ring

end
-- ==== Proof.NormRegion.lean ====
module

public import proofs.«01_k».proof.Proof.Gen.NormF
public import proofs.«01_k».proof.Proof.Gen.NormF.Skeleton
public import proofs.«01_k».proof.Proof.Gen.NormF.Loops
public import proofs.«01_k».proof.Proof.Gen.NormF.Launch
public import proofs.«01_k».proof.Proof.Gen.NormF.Points
public import proofs.«01_k».proof.Proof.Gen.NormF.Frame
public import Idealize.ShloMosaic.Lib.Pipeline.Routed
public import Idealize.ShloMosaic.Lib.Ring.Trips
public import Idealize.ShloMosaic.Lib.Tactic
public import Idealize.ShloMosaic.Lib.Pipeline.Value
public import proofs.«01_k».proof.Proof.NormRun
public import Idealize.ShloMosaic.Lib.Pointwise

/-! The row normalisation of the forward pass: its run from the arrays it is launched on to the arrays it leaves. -/

@[expose] public section

set_option sl_exec.respelt true

noncomputable section

namespace Cert.NormF.Ring

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.Ring (sl bk)
open Cert.NormF.Facts₀

variable {F : FTy → Type} [FloatOps F]

variable (m : (ℓ : Loc nD τ sig) → Buf (Elt F) ℓ) (ρ : Dev nD → PrngReg)

/-! ## Buffers as their slots and arrays as their blocks -/

/-- The elements of a slot of the input ring, of a slot of the output ring, and of a block of rows. -/
def slotSet (s : Fin 3) : Finset S3x256x1024.Idx := (Rect.unit (s := S3x256x1024) ![s.val, 0, 0] S1x256x1024.size (xs_inb s)).set
def oslotSet (s : Fin 2) : Finset S2x256x1024.Idx := (Rect.unit (s := S2x256x1024) ![s.val, 0, 0] S1x256x1024.size (os_inb s)).set
def rowSet (b : Fin 16) : Finset S4096x1024.Idx := (Rect.unit (s := S4096x1024) ![256 * b.val, 0] S256x1024.size (row_inb b)).set

theorem xs_set (s : Fin 3) : (xs s).view.set = slotSet s := (View.set_reshape _ _).trans (View.set_slice_whole _ _)
theorem os_set (s : Fin 2) : (os s).view.set = oslotSet s := (View.set_reshape _ _).trans (View.set_slice_whole _ _)
theorem xb_set (b : Fin 16) : (xb b).view.set = rowSet b := View.set_slice_whole _ _
theorem ob_set (b : Fin 16) : (ob b).view.set = rowSet b := View.set_slice_whole _ _

theorem slots_disjoint (s s' : Fin 3) (h : s ≠ s') : Disjoint (slotSet s) (slotSet s') :=
  Ring.lead_disjoint (s := S3x256x1024) 0 1 (fun b : Fin 3 => ![b.val, 0, 0]) S1x256x1024.size xs_inb (fun b => (Nat.one_mul _).symm) rfl s s' h
theorem oslots_disjoint (s s' : Fin 2) (h : s ≠ s') : Disjoint (oslotSet s) (oslotSet s') :=
  Ring.lead_disjoint (s := S2x256x1024) 0 1 (fun b : Fin 2 => ![b.val, 0, 0]) S1x256x1024.size os_inb (fun b => (Nat.one_mul _).symm) rfl s s' h
theorem rows_disjoint (b b' : Fin 16) (h : b ≠ b') : Disjoint (rowSet b) (rowSet b') :=
  Ring.lead_disjoint (s := S4096x1024) 0 256 (fun b : Fin 16 => ![256 * b.val, 0]) S256x1024.size row_inb (fun _ => rfl) rfl b b' h

theorem slots_cover : Finset.univ.biUnion slotSet = Finset.univ :=
  Ring.lead_cover (s := S3x256x1024) 0 1 (fun b : Fin 3 => ![b.val, 0, 0]) S1x256x1024.size xs_inb (fun b => (Nat.one_mul _).symm)
    (fun b a ha => by fin_cases a <;> first | exact absurd rfl ha | rfl) rfl
    (fun a ha => by fin_cases a <;> first | exact absurd rfl ha | rfl) rfl
theorem oslots_cover : Finset.univ.biUnion oslotSet = Finset.univ :=
  Ring.lead_cover (s := S2x256x1024) 0 1 (fun b : Fin 2 => ![b.val, 0, 0]) S1x256x1024.size os_inb (fun b => (Nat.one_mul _).symm)
    (fun b a ha => by fin_cases a <;> first | exact absurd rfl ha | rfl) rfl
    (fun a ha => by fin_cases a <;> first | exact absurd rfl ha | rfl) rfl
theorem rows_cover : Finset.univ.biUnion rowSet = Finset.univ :=
  Ring.lead_cover (s := S4096x1024) 0 256 (fun b : Fin 16 => ![256 * b.val, 0]) S256x1024.size row_inb (fun _ => rfl)
    (fun b a ha => by fin_cases a <;> first | exact absurd rfl ha | rfl) rfl
    (fun a ha => by fin_cases a <;> first | exact absurd rfl ha | rfl) rfl

abbrev held0 (c : Dev nD) (I : Finset S3x256x1024.Idx) (f : Buf (Elt F) ((c : Thread nD τ).loc cc0_scratch0)) : sProp (Res F) :=
  ((c : Thread nD τ).loc cc0_scratch0) ↦[I]{fullShare} f
abbrev held1 (c : Dev nD) (I : Finset S2x256x1024.Idx) (f : Buf (Elt F) ((c : Thread nD τ).loc cc0_scratch1)) : sProp (Res F) :=
  ((c : Thread nD τ).loc cc0_scratch1) ↦[I]{fullShare} f
abbrev heldX (c : Dev nD) (I : Finset S4096x1024.Idx) (f : Buf (Elt F) ((c : Thread nD τ).loc main_arg0)) : sProp (Res F) :=
  ((c : Thread nD τ).loc main_arg0) ↦[I]{fullShare} f
abbrev heldR (c : Dev nD) (I : Finset S4096x1024.Idx) (f : Buf (Elt F) ((c : Thread nD τ).loc main_v0)) : sProp (Res F) :=
  ((c : Thread nD τ).loc main_v0) ↦[I]{fullShare} f

theorem own_xs (c : Dev nD) (s : Fin 3) (f : Buf (Elt F) ((c : Thread nD τ).loc cc0_scratch0)) : (own c (xs s) f : sProp (Res F)) = held0 c (slotSet s) f :=
  congrArg (fun I => held0 c I f) (xs_set s)
theorem own_os (c : Dev nD) (s : Fin 2) (f : Buf (Elt F) ((c : Thread nD τ).loc cc0_scratch1)) : (own c (os s) f : sProp (Res F)) = held1 c (oslotSet s) f :=
  congrArg (fun I => held1 c I f) (os_set s)
theorem own_xb (c : Dev nD) (b : Fin 16) (f : Buf (Elt F) ((c : Thread nD τ).loc main_arg0)) : (own c (xb b) f : sProp (Res F)) = heldX c (rowSet b) f :=
  congrArg (fun I => heldX c I f) (xb_set b)
theorem own_ob (c : Dev nD) (b : Fin 16) (f : Buf (Elt F) ((c : Thread nD τ).loc main_v0)) : (own c (ob b) f : sProp (Res F)) = heldR c (rowSet b) f :=
  congrArg (fun I => heldR c I f) (ob_set b)

theorem homes_eq (c : Dev nD) (X : Buf (Elt F) ((c : Thread nD τ).loc main_arg0)) :
    ((((c : Thread nD τ).loc main_arg0) ↦{fullShare} X : sProp (Res F))) = bigSep Finset.univ (home c X) :=
  (Ring.pointsTo_blocks (ℓ := (c : Thread nD τ).loc main_arg0) (B := Fin 16) rowSet rows_disjoint rows_cover X).trans
    (congrArg (bigSep Finset.univ) (funext fun b => (own_xb c b X).symm))
theorem dones_eq (c : Dev nD) (R : Buf (Elt F) ((c : Thread nD τ).loc main_v0)) :
    ((((c : Thread nD τ).loc main_v0) ↦{fullShare} R : sProp (Res F))) = bigSep Finset.univ (done c R) :=
  (Ring.pointsTo_blocks (ℓ := (c : Thread nD τ).loc main_v0) (B := Fin 16) rowSet rows_disjoint rows_cover R).trans
    (congrArg (bigSep Finset.univ) (funext fun b => (own_ob c b R).symm))
theorem done_to_ahead (c : Dev nD) (R : Buf (Elt F) ((c : Thread nD τ).loc main_v0)) (b : Fin 16) :
    own c (ob b) R ⊢ (iprop(∃ f, own c (ob b) f) : sProp (Res F)) := by iintro H; iexists R; iexact H
theorem done_ahead (c : Dev nD) (R : Buf (Elt F) ((c : Thread nD τ).loc main_v0)) : bigSep Finset.univ (done c R) ⊢ bigSep Finset.univ (ahead (F := F) c) :=
  bigSep_mono fun b _ => done_to_ahead c R b

abbrev some0 (c : Dev nD) : sProp (Res F) := iprop(∃ f : Buf (Elt F) ((c : Thread nD τ).loc cc0_scratch0), ((c : Thread nD τ).loc cc0_scratch0) ↦{fullShare} f)
abbrev some1 (c : Dev nD) : sProp (Res F) := iprop(∃ f : Buf (Elt F) ((c : Thread nD τ).loc cc0_scratch1), ((c : Thread nD τ).loc cc0_scratch1) ↦{fullShare} f)

theorem slots_split (c : Dev nD) : some0 (F := F) c ⊢ iprop((∃ f, own c (xs 0) f) ∗ (∃ f, own c (xs 1) f) ∗ ∃ f, own c (xs 2) f) :=
  Ring.slots3_split (ℓ := (c : Thread nD τ).loc cc0_scratch0) slotSet slots_disjoint slots_cover (fun f => own c (xs 0) f) (fun f => own c (xs 1) f) (fun f => own c (xs 2) f) (own_xs c 0) (own_xs c 1) (own_xs c 2)
theorem slots_join (c : Dev nD) : iprop((∃ f, own c (xs 0) f) ∗ (∃ f, own c (xs 1) f) ∗ ∃ f, own c (xs 2) f) ⊢ some0 (F := F) c :=
  Ring.slots3_join (ℓ := (c : Thread nD τ).loc cc0_scratch0) slotSet slots_disjoint slots_cover (fun f => own c (xs 0) f) (fun f => own c (xs 1) f) (fun f => own c (xs 2) f) (own_xs c 0) (own_xs c 1) (own_xs c 2)
theorem oslots_split (c : Dev nD) : some1 (F := F) c ⊢ iprop((∃ f, own c (os 0) f) ∗ ∃ f, own c (os 1) f) :=
  Ring.slots2_split (ℓ := (c : Thread nD τ).loc cc0_scratch1) oslotSet oslots_disjoint oslots_cover (fun f => own c (os 0) f) (fun f => own c (os 1) f) (own_os c 0) (own_os c 1)
theorem oslots_join (c : Dev nD) : iprop((∃ f, own c (os 0) f) ∗ ∃ f, own c (os 1) f) ⊢ some1 (F := F) c :=
  Ring.slots2_join (ℓ := (c : Thread nD τ).loc cc0_scratch1) oslotSet oslots_disjoint oslots_cover (fun f => own c (os 0) f) (fun f => own c (os 1) f) (own_os c 0) (own_os c 1)

/-! ## What the kernel leaves -/

abbrev V (c : Dev nD) (b : Ref sig .tc) : Buf (Elt F) ((c : Thread nD τ).loc b) := m ((c : Thread nD τ).loc b)

/-- Rows of the two small operands, as the kernel reads them. -/
abbrev gain (x : Vec F S1x1024 .f32) : Vec F S1x1024 .f32 := fun y => x ((Rect.unit (s := S1x1024) ![0, 0] S1x1024.size inb_S1x1024_S1x1024_0_0).toLoadRect.idx y)
abbrev shift (x : Vec F S6x1024 .f32) : Vec F S1x1024 .f32 := fun y => x ((Rect.unit (s := S6x1024) ![0, 0] S1x1024.size inb_S6x1024_S1x1024_0_0).toLoadRect.idx y)
abbrev scale (x : Vec F S6x1024 .f32) : Vec F S1x1024 .f32 := fun y => x ((Rect.unit (s := S6x1024) ![1, 0] S1x1024.size inb_S6x1024_S1x1024_1_0).toLoadRect.idx y)

/-- The result: each block of rows normalised, scaled and shifted. -/
def res (X : (main_arg0).ty.Contents (Elt F)) (x1 : Vec F S1x1024 .f32) (x2 : Vec F S6x1024 .f32) : (main_v0).ty.Contents (Elt F) := fun i =>
  rows (gain x1) (shift x2) (scale x2) ((xb ⟨(i 0).val / 256, Nat.div_lt_of_lt_mul (i 0).isLt⟩).view.read (Elt F) X)
    (ix2 (n0 := 256) (n1 := 1024) ⟨(i 0).val % 256, Nat.mod_lt _ (by decide)⟩ (i 1))

theorem res_at (X : (main_arg0).ty.Contents (Elt F)) (x1 : Vec F S1x1024 .f32) (x2 : Vec F S6x1024 .f32) (p : Fin 4096) (d : Fin 1024) (b : Fin 16) (r : Fin 256)
    (hb : p.val / 256 = b.val) (hr : p.val % 256 = r.val) :
    res X x1 x2 (ix2 (n0 := 4096) (n1 := 1024) p d) = rows (gain x1) (shift x2) (scale x2) ((xb b).view.read (Elt F) X) (ix2 (n0 := 256) (n1 := 1024) r d) := by
  obtain rfl : (⟨p.val / 256, Nat.div_lt_of_lt_mul p.isLt⟩ : Fin 16) = b := Fin.ext hb
  obtain rfl : (⟨p.val % 256, Nat.mod_lt _ (by decide)⟩ : Fin 256) = r := Fin.ext hr
  rfl

theorem ob_emb (b : Fin 16) (r : Fin 256) (d : Fin 1024) :
    (ob b).view.emb (ix2 (n0 := 256) (n1 := 1024) r d) = ix2 (n0 := 4096) (n1 := 1024) ⟨256 * b.val + r.val, by omega⟩ d := by
  unfold ob
  funext a
  refine Fin.ext ?_
  fin_cases a
  · show 256 * b.val + 1 * r.val = 256 * b.val + r.val; omega
  · show 0 + 1 * d.val = d.val; omega

theorem res_block (X : (main_arg0).ty.Contents (Elt F)) (x1 : Vec F S1x1024 .f32) (x2 : Vec F S6x1024 .f32) (b : Fin 16) :
    rows (gain x1) (shift x2) (scale x2) ((xb b).view.read (Elt F) X) = (ob b).view.read (Elt F) (res X x1 x2) := by
  funext y
  obtain ⟨r, d, rfl⟩ : ∃ r d, y = ix2 (n0 := 256) (n1 := 1024) r d := ⟨y 0, y 1, eq_ix2 y⟩
  rw [View.read_apply (v := (ob b).view) (f := res X x1 x2), ob_emb]
  exact (res_at X x1 x2 ⟨256 * b.val + r.val, by omega⟩ d b r (by show (256 * b.val + r.val) / 256 = b.val; omega) (by show (256 * b.val + r.val) % 256 = r.val; omega)).symm

/-! ## The run -/

abbrev osem0 : Fin 5 → SemLoc sig := fun j => (![SemLoc.dma 2, SemLoc.dma 3, SemLoc.dma 4, SemLoc.dma 5, SemLoc.dma 6] : Fin 5 → SemLoc sig) j
theorem ownSemFacts0 : Pipeline.OwnSemFacts spec0 osem0 := by decide
theorem ownSems0_eq (c : Dev nD) : (Pipeline.ownSems0 (Ix := Unit) (Name := ℕ) (U := Pipeline.UC sig nD τ) (Lvl := ℕ) (Val := Elt F) (τ := τ) osem0 c : sProp (Res F))
      = iprop(semVal ((c : Thread nD τ), SemLoc.dma (xsem 0).sem) 0 ∗ semVal ((c : Thread nD τ), SemLoc.dma (xsem 1).sem) 0 ∗ semVal ((c : Thread nD τ), SemLoc.dma (xsem 2).sem) 0
          ∗ semVal ((c : Thread nD τ), SemLoc.dma (osem 0).sem) 0 ∗ semVal ((c : Thread nD τ), SemLoc.dma (osem 1).sem) 0) := by
  rw [Pipeline.ownSems0_eq_of_list c osem0 [0, 1, 2, 3, 4] (by decide) (by decide)]; rfl

def routes : Finset (Ref sig .tc) := {main_arg0, main_v0}
theorem routed_eq (c : Dev nD) (W : (b : Ref sig .tc) → Buf (Elt F) ((c : Thread nD τ).loc b)) : (Pipeline.routed routes c W : sProp (Res F))
    = iprop((((c : Thread nD τ).loc main_arg0) ↦{fullShare} W main_arg0) ∗ (((c : Thread nD τ).loc main_v0) ↦{fullShare} W main_v0)) := by
  unfold Pipeline.routed; rw [BI.bigSep_eq_bigSepL_of_eq [main_arg0, main_v0] (by decide) (by decide)]; rfl

/-- The arrays after the kernel. -/
def after (c : Dev nD) : (b : Ref sig .tc) → Buf (Elt F) ((c : Thread nD τ).loc b) :=
  Function.update (V m c) main_v0 (res (V m c main_arg0) (Gen.iblk m c 0 Gen.t0_0) (Gen.iblk m c 1 Gen.t0_0))
theorem after_arg0 (c : Dev nD) : after m c main_arg0 = V m c main_arg0 := Function.update_of_ne (by decide) _ _
theorem after_v0 (c : Dev nD) : after m c main_v0 = res (V m c main_arg0) (Gen.iblk m c 0 Gen.t0_0) (Gen.iblk m c 1 Gen.t0_0) := Function.update_self _ _ _

def dats (_ : Fin 1) (c : Dev nD) : Dat τ (Elt F) Unit ℕ (Pipeline.UC sig nD τ) ℕ cfg0 c where
  A w := V m c (Pipeline.arrRef spec0 w)
  after w t := match w with
    | ⟨0, _⟩ => Gen.iblk m c 0 t
    | ⟨1, _⟩ => Gen.iblk m c 1 t
  Φ i := Pipeline.Ends spec0 osem0 routes c (if i.val = 0 then V m c else after m c)
  q _ := fullShare
  owed _ := 0

theorem A_eq (c : Dev nD) (w : Fin cfg0.W) : (dats m 0 c).A w = V m c (Pipeline.arrRef spec0 w) := by dsimp only [dats]
theorem after0_eq (c : Dev nD) (t : Fin cfg0.N) : (dats m 0 c).after 0 t = Gen.iblk m c 0 t := by dsimp only [dats]
theorem after1_eq (c : Dev nD) (t : Fin cfg0.N) : (dats m 0 c).after 1 t = Gen.iblk m c 1 t := by dsimp only [dats]

theorem before0 (c : Dev nD) (t : Fin cfg0.N) (d) : (dats m 0 c).before 0 t d = Gen.iblk m c 0 t :=
  ((dats m 0 c).before_in_eq_fetched 0 rfl (fun _ => rfl) (fun _ _ _ => rfl) (fun t => by rw [after0_eq]; unfold Dat.blockOf Gen.iblk; rw [A_eq]) t d).trans
    (by unfold Dat.fetched Dat.blockOf Gen.iblk; rw [A_eq]; try rfl)
theorem before1 (c : Dev nD) (t : Fin cfg0.N) (d) : (dats m 0 c).before 1 t d = Gen.iblk m c 1 t :=
  ((dats m 0 c).before_in_eq_fetched 1 rfl (fun _ => rfl) (fun _ _ _ => rfl) (fun t => by rw [after1_eq]; unfold Dat.blockOf Gen.iblk; rw [A_eq]) t d).trans
    (by unfold Dat.fetched Dat.blockOf Gen.iblk; rw [A_eq]; try rfl)

def bodyPre (c : Dev nD) (t : Fin cfg0.N) : sProp (Res F) :=
  iprop((dats m 0 c).Φ t.castSucc ∗ (dats m 0 c).owesAt () t.castSucc
    ∗ (∃ d, owns (c : Thread nD τ) (Gen.st0_0 t) fullShare ((dats m 0 c).before 0 t d))
    ∗ (∃ d, owns (c : Thread nD τ) (Gen.st0_1 t) fullShare ((dats m 0 c).before 1 t d)))
def bodyPost (c : Dev nD) (t : Fin cfg0.N) : sProp (Res F) :=
  iprop((dats m 0 c).Φ t.succ ∗ (dats m 0 c).owesAt () t.succ
    ∗ owns (c : Thread nD τ) (Gen.st0_0 t) fullShare ((dats m 0 c).after 0 t)
    ∗ owns (c : Thread nD τ) (Gen.st0_1 t) fullShare ((dats m 0 c).after 1 t))

theorem sound_body (c : Dev nD) (t : Fin cfg0.N) :
    bodyPre m c t ⊢ wp frame (wpE (defs₀ (F := F)) Variants.none c none) Set.univ (Gen.bodyAt0 t) (fun _ => bodyPost m c t) := by
  obtain rfl := Gen.fin_N0 t
  unfold bodyPre bodyPost Gen.bodyAt0
  rw [after0_eq, after1_eq, show (dats m 0 c).Φ Gen.t0_0.castSucc = Pipeline.Ends spec0 osem0 routes c (V m c) from rfl,
    show (dats m 0 c).Φ Gen.t0_0.succ = Pipeline.Ends spec0 osem0 routes c (after m c) from rfl]
  unfold Pipeline.Ends Dat.owesAt Pipeline.owesWithin
  rw [show (dats m 0 c).owed Gen.t0_0.castSucc = 0 from rfl, show (dats m 0 c).owed Gen.t0_0.succ = 0 from rfl, routed_eq, routed_eq, ownSems0_eq, Gen.scopedRest0_eq,
    after_arg0, after_v0, homes_eq, dones_eq, dones_eq]
  unfold owns
  iintro ⟨⟨⟨HX, HR⟩, ⟨Hc0, Hc1, Hc2, Hd0, Hd1⟩, ⟨HS, HT⟩, Hg⟩, ⟨%W, -, HW⟩, ⟨%d1, %G1, %h1, HG⟩, ⟨%d2, %G2, %h2, HM⟩⟩
  ihave HR := (done_ahead c _) $$ HR
  ihave HS := (slots_split c) $$ HS
  ihave HT := (oslots_split c) $$ HT
  icases HS with ⟨HS0, HS1, HS2⟩
  icases HT with ⟨HT0, HT1⟩
  iapply (wp_wand_r Idealize.ShloMosaic.frame (wpE (defs₀ (F := F)) Variants.none c none) Set.univ)
  isplitl [HG HM HX HR HS0 HS1 HS2 HT0 HT1 Hc0 Hc1 Hc2 Hd0 Hd1 HW]
  · iapply (kernel_run c (V m c main_arg0) (res (V m c main_arg0) (Gen.iblk m c 0 Gen.t0_0) (Gen.iblk m c 1 Gen.t0_0)) _ _ _ _ G1 G2 (by
      rw [← before0 m c Gen.t0_0 d1, ← before1 m c Gen.t0_0 d2, ← h1, ← h2]; exact res_block _ _ _))
    unfold held free ofree
    iframe
    iexists W; iexact HW
  · iintro %_ H
    unfold held free ofree
    icases H with ⟨HG, HM, HX, HR, ⟨⟨HS0, Hc0⟩, ⟨HS1, Hc1⟩, ⟨HS2, Hc2⟩⟩, ⟨⟨HT0, Hd0⟩, ⟨HT1, Hd1⟩⟩, ⟨%W', HW⟩⟩
    ihave HS := (slots_join c) $$ [HS0 HS1 HS2]
    · iframe
    ihave HT := (oslots_join c) $$ [HT0 HT1]
    · iframe
    isplitl [HX HR Hc0 Hc1 Hc2 Hd0 Hd1 HS HT Hg]; · iframe
    isplitl [HW]; · iexists W'; isplitr; · ipureintro; exact fun _ _ => Or.inl trivial
                    iexact HW
    isplitl [HG]; · iexists G1; isplitr; · ipureintro; exact h1.trans (before0 m c _ _)
                    iexact HG
    iexists G2; isplitr; · ipureintro; exact h2.trans (before1 m c _ _)
    iexact HM

theorem defs₀_row (t : Fin cfg0.N) : defs₀ (F := F) .tc cfg0.body (cfg0.bodyArgs t (cfg0.slots t)) = Gen.bodyAt0 t := by
  unfold defs₀; rw [Defs.onTc_tc]

theorem body_obligation (c : Dev nD) : BodyObligation (dats (F := F) m 0 c) (defs₀ (F := F)) Variants.none () Set.univ := fun t => by
  rw [Gen.bigSep_W0, Gen.bigSep_W0, defs₀_row]
  exact triple_restated (sound_body m c t) rfl .rfl fun _ => .rfl

theorem hmain : Pipeline.HMain (Ix := Unit) (Name := ℕ) (U := Pipeline.UC sig nD τ) (Lvl := ℕ) cfgs 0 defs₀ Variants.none m (main (F := F)) (V m) :=
  Pipeline.hmain_region cfgs 0 defs₀ Variants.none m main fun c => (Gen.main_chain c).trans rfl

set_option backward.isDefEq.respectTransparency.types false in
theorem run_main : θ_run defs (onTc (τ := τ) (main (F := F))) (s₀ m ρ)
    (fun r => Pipeline.RoutedPost cfgs (dats m) 0 routes (V m) (after m) r ∧ r.2.sem = fun _ => 0) :=
  Pipeline.θ_run_frame_routed (Q' := _) cfgs (dats m) (0 : Fin 1) Gen.launch0 ownSemFacts0 defs₀ Variants.none m ρ main
    (hbody := fun c => (body_obligation m c).loose) (hshare := fun c => (dats m 0 c).share_full fun _ => rfl)
    (howed := fun _ _ => rfl) (V := V m) (hmain := hmain m) (hA := A_eq m) (R := routes) (hR := by decide) (Y := after m)
    (hin := fun _ => .rfl) (hout := fun _ => .rfl)

/-- Every run ends with the arguments unchanged, the result at `res` and every counter at zero. -/
theorem run : θ_run defs (onTc (τ := τ) (main (F := F))) ⟨m, fun _ => 0, ρ⟩ (fun r => (∀ c : Dev nD,
      r.2.mem ((c.tc : Thread nD τ).loc main_v0) = res (V m c main_arg0) (Gen.iblk m c 0 Gen.t0_0) (Gen.iblk m c 1 Gen.t0_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2.1 main_v0 (by decide)).trans (after_v0 m c), ((h.1 c).2.1 main_arg0 (by decide)).trans (after_arg0 m c),
      ((h.1 c).1 0).trans (((dats m 0 c).arrAt_in 0 rfl _).trans (A_eq m c 0)), ((h.1 c).1 1).trans (((dats m 0 c).arrAt_in 1 rfl _).trans (A_eq m c 1))⟩, h.2⟩) (run_main m ρ)

end Cert.NormF.Ring

end
-- ==== Proof.NormFwd.lean ====
/- The row normalisation of the forward pass: what the kernel's result holds on the extended reals, and that the reference's is
   the same. -/
module

public import proofs.«01_k».proof.Proof.NormRegion
public import proofs.«01_k».proof.Proof.Rms
public import proofs.«01_k».proof.Proof.Gen.NormFRefIdeal.Run
public import proofs.«01_k».proof.Proof.Gen.NormFRefIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.NormF.Ring

open Cert.NormF Cert.NormF.Gen Cert.Proof

/-- One element: the element times its row's scale and its column's gain, scaled and shifted. -/
def elem (x : Fin 1024 → EReal) (g sc sh : EReal) (d : Fin 1024) : EReal := x d * rr x * g * (1 + sc) + sh

/-- The whole result of the three argument arrays. -/
def H (x0 : S4096x1024.Idx → EReal) (x1 : S1x1024.Idx → EReal) (x2 : S6x1024.Idx → EReal) : S4096x1024.Idx → EReal := fun i =>
  elem (fun k => x0 (ix2 (i 0) k)) (x1 (ix2 0 (i 1))) (x2 (ix2 1 (i 1))) (x2 (ix2 0 (i 1))) (i 1)

theorem rows_apply (g sh sc : Vec Ideal S1x1024 .f32) (z : Vec Ideal S256x1024 .f32) (r : Fin 256) (d : Fin 1024) :
    rows g sh sc z (ix2 r d) = elem (fun k => z (ix2 r k)) (g (ix2 0 d)) (sc (ix2 0 d)) (sh (ix2 0 d)) d := by
  unfold rows k0_pay1
  pointwise
  rfl

theorem xb_emb (b : Fin 16) (r : Fin 256) (d : Fin 1024) :
    (xb b).view.emb (ix2 (n0 := 256) (n1 := 1024) r d) = ix2 (n0 := 4096) (n1 := 1024) ⟨256 * b.val + r.val, by omega⟩ d := by
  unfold xb
  funext a
  refine Fin.ext ?_
  fin_cases a
  · show 256 * b.val + 1 * r.val = 256 * b.val + r.val; omega
  · show 0 + 1 * d.val = d.val; omega

theorem xb_read (b : Fin 16) (X : (main_arg0).ty.Contents (Elt Ideal)) (r : Fin 256) (d : Fin 1024) :
    (xb b).view.read (Elt Ideal) X (ix2 (n0 := 256) (n1 := 1024) r d) = X (ix2 (n0 := 4096) (n1 := 1024) ⟨256 * b.val + r.val, by omega⟩ d) := by
  rw [View.read_apply (v := (xb b).view) (f := X), xb_emb]
  rfl

theorem gain_apply (x1 : Vec Ideal S1x1024 .f32) (d : Fin 1024) : gain x1 (ix2 0 d) = x1 (ix2 0 d) := by
  refine congrArg x1 (funext fun a => Fin.ext ?_)
  fin_cases a
  · rfl
  · show 0 + 1 * d.val = d.val; omega
theorem shift_apply (x2 : Vec Ideal S6x1024 .f32) (d : Fin 1024) : shift x2 (ix2 0 d) = x2 (ix2 0 d) := by
  refine congrArg x2 (funext fun a => Fin.ext ?_)
  fin_cases a
  · rfl
  · show 0 + 1 * d.val = d.val; omega
theorem scale_apply (x2 : Vec Ideal S6x1024 .f32) (d : Fin 1024) : scale x2 (ix2 0 d) = x2 (ix2 1 d) := by
  refine congrArg x2 (funext fun a => Fin.ext ?_)
  fin_cases a
  · rfl
  · show 0 + 1 * d.val = d.val; omega

theorem res_eq (x0 : (main_arg0).ty.Contents (Elt Ideal)) (x1 : Vec Ideal S1x1024 .f32) (x2 : Vec Ideal S6x1024 .f32) : res x0 x1 x2 = H x0 x1 x2 := by
  funext i
  obtain ⟨p, d, rfl⟩ : ∃ p d, i = ix2 (n0 := 4096) (n1 := 1024) p d := ⟨i 0, i 1, eq_ix2 i⟩
  rw [res_at x0 x1 x2 p d ⟨p.val / 256, by omega⟩ ⟨p.val % 256, by omega⟩ rfl rfl, rows_apply, gain_apply, shift_apply, scale_apply]
  simp only [xb_read]
  have hp : (⟨256 * (p.val / 256) + p.val % 256, by omega⟩ : Fin 4096) = p := Fin.ext (Nat.div_add_mod _ _)
  rw [hp]
  rfl

section arrays
variable (m : (ℓ : Loc nD τ sig) → Buf (Elt Ideal) ℓ) (c : Dev nD)

abbrev A0 : S4096x1024.Idx → EReal := m ((c : Thread nD τ).loc main_arg0)
abbrev A1 : S1x1024.Idx → EReal := m ((c : Thread nD τ).loc main_arg1)
abbrev A2 : S6x1024.Idx → EReal := m ((c : Thread nD τ).loc main_arg2)

theorem index_facts : ∀ t : Fin cfg0.N, win0_0.index t = ![0, 0] ∧ win0_1.index t = ![0, 0] := (by decide +kernel : ∀ t : Fin grid0.N, _)

theorem blk0 : (iblk m c 0 t0_0 : S1x1024.Idx → EReal) = A1 m c := by
  funext y
  have h := index_facts t0_0
  obtain ⟨r, d, rfl⟩ : ∃ r d, y = ix2 (n0 := 1) (n1 := 1024) r d := ⟨y 0, y 1, eq_ix2 y⟩
  blk_ext [iblk, Gen.V_main_arg1, h.1]
theorem blk1 : (iblk m c 1 t0_0 : S6x1024.Idx → EReal) = A2 m c := by
  funext y
  have h := index_facts t0_0
  obtain ⟨r, d, rfl⟩ : ∃ r d, y = ix2 (n0 := 6) (n1 := 1024) r d := ⟨y 0, y 1, eq_ix2 y⟩
  blk_ext [iblk, Gen.V_main_arg2, h.2]

/-- Every run ends with the result at `H` of the arguments, the arguments unchanged and every counter at zero. -/
theorem run_value (ρ : Dev nD → PrngReg) : θ_run defs (onTc (τ := τ) (main (F := Ideal))) ⟨m, fun _ => 0, ρ⟩ (fun r => (∀ c : Dev nD,
      r.2.mem ((c.tc : Thread nD τ).loc main_v0) = H (A0 m c) (A1 m c) (A2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1 c).1.trans ((res_eq _ _ _).trans (by rw [blk0, blk1])), (h.1 c).2⟩, h.2⟩) (run (F := Ideal) m ρ)

end arrays

end Cert.NormF.Ring

namespace Cert.NormFRefIdeal.RefValue

open Cert.NormFRefIdeal Cert.NormFRefIdeal.Gen Cert.NormFRefIdeal.Read Cert.Proof

theorem ref_eq (x0 : S4096x1024.Idx → EReal) (x1 : S1x1024.Idx → EReal) (x2 : S6x1024.Idx → EReal) :
    val_main_v24 (F := Ideal) x0 x1 x2 = Cert.NormF.Ring.H x0 x1 x2 := by
  funext i
  obtain ⟨r, d, rfl⟩ : ∃ r d, i = ix2 (n0 := 4096) (n1 := 1024) r d := ⟨i 0, i 1, eq_ix2 i⟩
  rw [← val_main_v24_eq]
  pointwise
  rfl

end Cert.NormFRefIdeal.RefValue

end
-- ==== Proof.NormFClaims.lean ====
/- The claims about the row normalisation of the forward pass, from its run. -/
module

public import proofs.«01_k».proof.Defs
public import proofs.«01_k».proof.Proof.NormFwd
public import proofs.«01_k».proof.Proof.Gen.NormFIdeal

@[expose] public section

noncomputable section

open Idealize.ShloMosaic Idealize.ShloMosaic.TcCoe Idealize.SL.Sem

namespace Cert.Proof.NormF

open Cert.NormF.Ring Cert.NormFRefIdeal

theorem frame : Cert.quiescent_NormF (hNormF := Cert.NormF.Gen.facts) := fun m ρ _ =>
  (θ_run Cert.NormF.defs _ _).mono (fun r h => ⟨fun c => (h.1 c).2, h.2⟩) (Cert.NormF.Ring.run (F := Bits) m ρ)

theorem kernels_eq : Cert.NormFIdeal.defs₀ (F := Ideal) = Cert.NormF.defs₀ (F := Ideal) := by
  unfold Cert.NormFIdeal.defs₀ Cert.NormF.defs₀
  refine congrArg Defs.onTc (funext fun l => funext fun a => ?_)
  obtain rfl : l = 0 := Subsingleton.elim (α := Fin 1) _ _
  rfl
theorem defs_eq : Cert.NormFIdeal.defs (F := Ideal) = Cert.NormF.defs (F := Ideal) := congrArg (Pipeline.defs Cert.NormF.pcfgs) kernels_eq

/-- The idealised program is the program at the extended reals. -/
theorem run_ideal (m : (ℓ : Loc Cert.NormFIdeal.nD Cert.NormFIdeal.τ Cert.NormFIdeal.sig) → Buf (Elt Ideal) ℓ) (ρ : Dev Cert.NormFIdeal.nD → PrngReg) :
    θ_run (Cert.NormFIdeal.defs (F := Ideal)) (onTc (τ := Cert.NormFIdeal.τ) (Cert.NormFIdeal.main (F := Ideal))) ⟨m, fun _ => 0, ρ⟩
      (fun r => (∀ c : Dev Cert.NormFIdeal.nD,
        r.2.mem ((c.tc : Thread Cert.NormFIdeal.nD Cert.NormFIdeal.τ).loc Cert.NormFIdeal.main_v0) = H (A0 m c) (A1 m c) (A2 m c)
        ∧ r.2.mem ((c.tc : Thread Cert.NormFIdeal.nD Cert.NormFIdeal.τ).loc Cert.NormFIdeal.main_arg0) = m ((c.tc : Thread Cert.NormFIdeal.nD Cert.NormFIdeal.τ).loc Cert.NormFIdeal.main_arg0)
        ∧ r.2.mem ((c.tc : Thread Cert.NormFIdeal.nD Cert.NormFIdeal.τ).loc Cert.NormFIdeal.main_arg1) = m ((c.tc : Thread Cert.NormFIdeal.nD Cert.NormFIdeal.τ).loc Cert.NormFIdeal.main_arg1)
        ∧ r.2.mem ((c.tc : Thread Cert.NormFIdeal.nD Cert.NormFIdeal.τ).loc Cert.NormFIdeal.main_arg2) = m ((c.tc : Thread Cert.NormFIdeal.nD Cert.NormFIdeal.τ).loc Cert.NormFIdeal.main_arg2))
        ∧ r.2.sem = fun _ => 0) := by
  rw [defs_eq]
  exact Cert.NormF.Ring.run_value m ρ

theorem frame_ideal : Cert.quiescent_NormFIdeal (hNormFIdeal := Cert.NormFIdeal.Gen.facts) := fun m ρ _ =>
  (θ_run Cert.NormFIdeal.defs _ _).mono (fun r h => ⟨fun c => (h.1 c).2, h.2⟩) (run_ideal m ρ)
theorem frame_ref : Cert.quiescent_NormFRefIdeal (hNormFRefIdeal := Cert.NormFRefIdeal.Gen.facts) := fun m ρ _ =>
  (θ_run Cert.NormFRefIdeal.defs _ _).mono (fun r h => ⟨fun c => (h c).2, sem_eq_zero_of_no_sems (by decide) r.2⟩)
    (Cert.NormFRefIdeal.Value.run (F := Ideal) m ρ)

theorem algebraic : Cert.algebraic_NormFIdeal_NormFRefIdeal (hNormFIdeal := Cert.NormFIdeal.Gen.facts) (hNormFRefIdeal := Cert.NormFRefIdeal.Gen.facts) := by
  intro m ρ m' ρ' _ hagree
  refine ⟨fun c => H (A0 m c) (A1 m c) (A2 m c), ?_, ?_⟩
  · exact (θ_run Cert.NormFIdeal.defs _ _).mono (fun r h c => ⟨(h.1 c).1, (h.1 c).2⟩) (run_ideal m ρ)
  · refine (θ_run Cert.NormFRefIdeal.defs _ _).mono (fun r h c => ⟨(h c).1.trans ?_, (h c).2⟩) (Cert.NormFRefIdeal.Value.run (F := Ideal) m' ρ')
    refine (Read.val_main_v24_eq _ _ _).trans ((RefValue.ref_eq _ _ _).trans ?_)
    simp only [hagree c, A0, A1, A2]

end Cert.Proof.NormF

end
-- ==== Proof.AdaMods.lean ====
/- The modulation of every layer: what the kernel's result holds and that the reference's is the same. A row of the result is
   the product of the activated conditioning row with the layer's weight, and the layer's offset. -/
module

public import proofs.«01_k».proof.Proof.Gen.AdaIdeal.Value
public import proofs.«01_k».proof.Proof.Gen.AdaRefIdeal.Read
public import proofs.«01_k».proof.Proof.Sigmoid
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AdaIdeal.RefValue

open Cert.AdaIdeal Cert.AdaIdeal.Gen Cert.Proof

/-- An activated row times a column, and the column's offset. -/
def entry (c w : Fin 1024 → EReal) (b : EReal) : EReal := (∑ d : Fin 1024, c d * sgm (c d) * w d) + b

/-- The whole result of the three argument arrays. -/
def G (x0 : S8x1024.Idx → EReal) (x1 : S4x1024x1536.Idx → EReal) (x2 : S4x1x1536.Idx → EReal) : S4x8x1536.Idx → EReal := fun i =>
  entry (fun d => x0 (ix2 (i 1) d)) (fun d => x1 (ix3 (i 0) d (i 2))) (x2 (ix3 (i 0) 0 (i 2)))

theorem out_eq (x0 : Vec Ideal S8x1024 .f32) (x1 : Vec Ideal S1x1024x1536 .f32) (x2 : Vec Ideal S1x1x1536 .f32) (l : Fin 1) (r : Fin 8) (k : Fin 1536) :
    out0_3 x0 x1 x2 (ix3 l r k) = entry (fun d => x0 (ix2 r d)) (fun d => x1 (ix3 0 d k)) (x2 (ix3 0 0 k)) := by
  canon_tiles x h
  obtain rfl : r = x 1 := Fin.ext h1
  obtain rfl : k = x 2 := Fin.ext h2
  unfold_payloads
  pointwise
  simp only [sgm_eq_tanh]
  rfl

section arrays
variable (m : (ℓ : Loc nD τ sig) → Buf (Elt Ideal) ℓ) (c : Dev nD)

abbrev A0 : S8x1024.Idx → EReal := m ((c : Thread nD τ).loc main_arg0)
abbrev A1 : S4x1024x1536.Idx → EReal := m ((c : Thread nD τ).loc main_arg1)
abbrev A2 : S4x1x1536.Idx → EReal := m ((c : Thread nD τ).loc main_arg2)

theorem index_facts : ∀ t : Fin cfg0.N, win0_0.index t = ![0, 0] ∧ win0_1.index t = ![t.val, 0, 0] ∧ win0_2.index t = ![t.val, 0, 0]
    ∧ win0_3.index t = ![t.val, 0, 0] :=
  (by decide +kernel : ∀ t : Fin grid0.N, _)

/-- The layer of block `t`. -/
def ly (t : Fin cfg0.N) : Fin 4 := ⟨t.val, by have := t.isLt; have h : cfg0.N = 4 := N_0; omega⟩

theorem blk0 (t : Fin cfg0.N) (r : Fin 8) (d : Fin 1024) : iblk m c 0 t (ix2 r d) = A0 m c (ix2 r d) := by
  have h := index_facts t
  blk_ext [iblk, V_main_arg0, h.1]

theorem blk1 (t : Fin cfg0.N) (d : Fin 1024) (k : Fin 1536) : iblk m c 1 t (ix3 0 d k) = A1 m c (ix3 (ly t) d k) := by
  have h := index_facts t
  blk_ext [iblk, V_main_arg1, h.2.1, ly]

theorem blk2 (t : Fin cfg0.N) (k : Fin 1536) : iblk m c 2 t (ix3 0 0 k) = A2 m c (ix3 (ly t) 0 k) := by
  have h := index_facts t
  blk_ext [iblk, V_main_arg2, h.2.2.1, ly]

theorem final : (dats m 0 c).arrAt 3 cfg0.N = G (A0 m c) (A1 m c) (A2 m c) := by
  refine (dats m 0 c).arrAt_eq_of_covers 3 _ (by decide +kernel) fun t hf y => ?_
  have h := index_facts t
  obtain ⟨l, r, k, rfl⟩ : ∃ l r k, y = ix3 (n0 := 1) (n1 := 8) (n2 := 1536) l r k := ⟨y 0, y 1, y 2, by funext a; fin_cases a <;> rfl⟩
  have he : ((cfg0.win 3).blk t).view.emb (ix3 l r k) = ix3 (n0 := 4) (n1 := 8) (n2 := 1536) (ly t) r k := by
    obtain rfl : l = 0 := Subsingleton.elim _ _
    blk_ext [h.2.2.2, ly]
  rw [he]
  blk_simp [after0_3]
  rw [out_eq]
  show entry (fun d => iblk m c 0 t (ix2 r d)) (fun d => iblk m c 1 t (ix3 0 d k)) (iblk m c 2 t (ix3 0 0 k)) = _
  simp only [blk0, blk1, blk2]
  rfl

end arrays

end Cert.AdaIdeal.RefValue

namespace Cert.AdaRefIdeal.RefValue

open Cert.AdaRefIdeal Cert.AdaRefIdeal.Gen Cert.AdaRefIdeal.Read Cert.Proof

theorem ref_eq (x0 : S8x1024.Idx → EReal) (x1 : S4x1024x1536.Idx → EReal) (x2 : S4x1x1536.Idx → EReal) :
    val_main_v4 (F := Ideal) x0 x1 x2 = Cert.AdaIdeal.RefValue.G x0 x1 x2 := by
  funext i
  obtain ⟨l, r, k, rfl⟩ : ∃ l r k, i = ix3 (n0 := 4) (n1 := 8) (n2 := 1536) l r k := ⟨i 0, i 1, i 2, by funext a; fin_cases a <;> rfl⟩
  unfold Cert.AdaIdeal.RefValue.G
  rw [← val_main_v4_eq]
  pointwise
  refine congrArg (· + x2 (ix3 l 0 k)) (Finset.sum_congr rfl fun d _ => ?_)
  exact mul_comm _ _

end Cert.AdaRefIdeal.RefValue
-- ==== Proof.AdaClaims.lean ====
/- The claims about the forward calls, from the runs. -/
module

public import proofs.«01_k».proof.Defs
public import proofs.«01_k».proof.Proof.AdaMods
public import proofs.«01_k».proof.Proof.Gen.Ada.Frame

@[expose] public section

noncomputable section

open Idealize.ShloMosaic Idealize.ShloMosaic.TcCoe Idealize.SL.Sem

namespace Cert.Proof.Ada

open Cert.AdaIdeal.RefValue Cert.AdaIdeal.Value Cert.AdaRefIdeal

theorem frame : Cert.quiescent_Ada (hAda := Cert.Ada.Gen.facts) := fun m ρ _ => Cert.Ada.Gen.frame m ρ
theorem frame_ideal : Cert.quiescent_AdaIdeal (hAdaIdeal := Cert.AdaIdeal.Gen.facts) := fun m ρ _ => Cert.AdaIdeal.Gen.frame m ρ
theorem frame_ref : Cert.quiescent_AdaRefIdeal (hAdaRefIdeal := Cert.AdaRefIdeal.Gen.facts) := fun m ρ _ =>
  (θ_run Cert.AdaRefIdeal.defs _ _).mono (fun r h => ⟨fun c => (h c).2, sem_eq_zero_of_no_sems (by decide) r.2⟩)
    (Cert.AdaRefIdeal.Value.run (F := Ideal) m ρ)

theorem algebraic : Cert.algebraic_AdaIdeal_AdaRefIdeal (hAdaIdeal := Cert.AdaIdeal.Gen.facts) (hAdaRefIdeal := Cert.AdaRefIdeal.Gen.facts) := by
  intro m ρ m' ρ' _ hagree
  refine ⟨fun c => G (A0 m c) (A1 m c) (A2 m c), ?_, ?_⟩
  · exact (θ_run Cert.AdaIdeal.defs _ _).mono (fun r h c => ⟨(h c).1.trans (final m c), (h c).2⟩) (Cert.AdaIdeal.Value.run_blocks (F := Ideal) m ρ)
  · refine (θ_run Cert.AdaRefIdeal.defs _ _).mono (fun r h c => ⟨(h c).1.trans ?_, (h c).2⟩) (Cert.AdaRefIdeal.Value.run (F := Ideal) m' ρ')
    refine (Read.val_main_v4_eq _ _ _).trans ((RefValue.ref_eq _ _ _).trans ?_)
    simp only [hagree c, A0, A1, A2]

end Cert.Proof.Ada

end
-- ==== Proof.Products.lean ====
/- Products: a plain one, the transposed one that gives a weight's cotangent, and the one whose result is added to the residual.
   A weight is kept as its shards by columns. -/
module

public import proofs.«01_k».proof.Proof.Gen.MmResIdeal.Value
public import proofs.«01_k».proof.Proof.Gen.MmResRefIdeal.Read
public import proofs.«01_k».proof.Proof.Gen.MmNNIdeal.Value
public import proofs.«01_k».proof.Proof.Gen.MmNNRefIdeal.Read
public import proofs.«01_k».proof.Proof.Gen.MmTNIdeal.Value
public import proofs.«01_k».proof.Proof.Gen.MmTNRefIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof

/-- Two entries of an array at indices with the same numbers. -/
theorem same3 {n0 n1 n2 : ℕ} (x : (⟨3, ![n0, n1, n2]⟩ : Shape).Idx → EReal) {s s' : Fin n0} {d : Fin n1} {k k' : Fin n2}
    (hs : s.val = s'.val) (hk : k.val = k'.val) : x (ix3 s d k) = x (ix3 s' d k') := by
  rw [Fin.ext hs, Fin.ext hk]

/-- A row times a column. -/
def line {n : ℕ} (a b : Fin n → EReal) : EReal := ∑ d : Fin n, a d * b d

end Cert.Proof

namespace Cert.MmResIdeal.RefValue

open Cert.MmResIdeal Cert.MmResIdeal.Gen Cert.Proof

def P (a : S4096x2816.Idx → EReal) (w : S1x2816x1024.Idx → EReal) : S4096x1024.Idx → EReal := fun i =>
  line (fun d => a (ix2 (i 0) d)) (fun d => w (ix3 0 d (i 1)))
def R (a : S4096x2816.Idx → EReal) (w : S1x2816x1024.Idx → EReal) (x : S4096x1024.Idx → EReal) (g : S1x1024.Idx → EReal) :
    S4096x1024.Idx → EReal := fun i => x i + g (ix2 0 (i 1)) * P a w i

section block
variable (a : Vec Ideal S512x2816 .bf16) (w : Vec Ideal S1x2816x1024 .bf16) (x : Vec Ideal S512x1024 .f32) (g : Vec Ideal S1x1024 .f32)
  (r : Fin 512) (k : Fin 1024)

theorem out4_eq : out0_4 a w x g (ix2 r k) = line (fun d => a (ix2 r d)) (fun d => w (ix3 0 d k)) := by
  canon_tiles z h
  obtain rfl : r = z 0 := Fin.ext h0
  obtain rfl : k = z 1 := Fin.ext h1
  unfold_payloads
  pointwise
  rfl

theorem out5_eq : out0_5 a w x g (ix2 r k)
    = x (ix2 r k) + g (ix2 0 k) * line (fun d => a (ix2 r d)) (fun d => w (ix3 0 d k)) := by
  canon_tiles z h
  obtain rfl : r = z 0 := Fin.ext h0
  obtain rfl : k = z 1 := Fin.ext h1
  unfold_payloads
  pointwise
  rfl

end block

section arrays
variable (m : (ℓ : Loc nD τ sig) → Buf (Elt Ideal) ℓ) (c : Dev nD)

abbrev A0 : S4096x2816.Idx → EReal := m ((c : Thread nD τ).loc main_arg0)
abbrev A1 : S1x2816x1024.Idx → EReal := m ((c : Thread nD τ).loc main_arg1)
abbrev A2 : S4096x1024.Idx → EReal := m ((c : Thread nD τ).loc main_arg2)
abbrev A3 : S1x1024.Idx → EReal := m ((c : Thread nD τ).loc main_arg3)

theorem index_facts : ∀ t : Fin cfg0.N, win0_0.index t = ![t.val, 0] ∧ win0_1.index t = ![0, 0, 0] ∧ win0_2.index t = ![t.val, 0]
    ∧ win0_3.index t = ![0, 0] ∧ win0_4.index t = ![t.val, 0] ∧ win0_5.index t = ![t.val, 0] :=
  (by decide +kernel : ∀ t : Fin grid0.N, _)

/-- Row `r` of block `t` among all rows. -/
def rw' (t : Fin cfg0.N) (r : Fin 512) : Fin 4096 := ⟨t.val * 512 + r.val, by have := t.isLt; have h : cfg0.N = 8 := N_0; omega⟩

variable (t : Fin cfg0.N) (r : Fin 512) (k : Fin 1024)

theorem product_block : line (fun d => iblk m c 0 t (ix2 r d)) (fun d => iblk m c 1 t (ix3 0 d k)) = P (A0 m c) (A1 m c) (ix2 (rw' t r) k) := by
  have h := index_facts t
  have e0 (d : Fin 2816) : iblk m c 0 t (ix2 r d) = A0 m c (ix2 (rw' t r) d) := by blk_ext [iblk, V_main_arg0, h.1, rw']
  have e1 (d : Fin 2816) : iblk m c 1 t (ix3 0 d k) = A1 m c (ix3 0 d k) := by blk_ext [iblk, V_main_arg1, h.2.1]
  simp only [e0, e1]
  rfl

theorem blk2 : iblk m c 2 t (ix2 r k) = A2 m c (ix2 (rw' t r) k) := by
  have h := index_facts t
  blk_ext [iblk, V_main_arg2, h.2.2.1, rw']

theorem blk3 : iblk m c 3 t (ix2 0 k) = A3 m c (ix2 0 k) := by
  have h := index_facts t
  blk_ext [iblk, V_main_arg3, h.2.2.2.1]

theorem product_eq : (dats m 0 c).arrAt 4 cfg0.N = P (A0 m c) (A1 m c) := by
  refine (dats m 0 c).arrAt_eq_of_covers 4 _ (by decide +kernel) fun t hf y => ?_
  have h := (index_facts t).2.2.2.2.1
  obtain ⟨r, k, rfl⟩ : ∃ r k, y = ix2 (n0 := 512) (n1 := 1024) r k := ⟨y 0, y 1, eq_ix2 y⟩
  have he : ((cfg0.win 4).blk t).view.emb (ix2 r k) = ix2 (n0 := 4096) (n1 := 1024) (rw' t r) k := by blk_ext [h, rw']
  rw [he]
  blk_simp [after0_4]
  rw [out4_eq, product_block]

theorem residual_eq : (dats m 0 c).arrAt 5 cfg0.N = R (A0 m c) (A1 m c) (A2 m c) (A3 m c) := by
  refine (dats m 0 c).arrAt_eq_of_covers 5 _ (by decide +kernel) fun t hf y => ?_
  have h := (index_facts t).2.2.2.2.2
  obtain ⟨r, k, rfl⟩ : ∃ r k, y = ix2 (n0 := 512) (n1 := 1024) r k := ⟨y 0, y 1, eq_ix2 y⟩
  have he : ((cfg0.win 5).blk t).view.emb (ix2 r k) = ix2 (n0 := 4096) (n1 := 1024) (rw' t r) k := by blk_ext [h, rw']
  rw [he]
  blk_simp [after0_5]
  rw [out5_eq, product_block, blk2, blk3]
  rfl

end arrays

end Cert.MmResIdeal.RefValue

namespace Cert.MmResRefIdeal.RefValue

open Cert.MmResRefIdeal Cert.MmResRefIdeal.Gen Cert.MmResRefIdeal.Read Cert.MmResIdeal.RefValue

variable (x0 : S4096x2816.Idx → EReal) (x1 : S1x2816x1024.Idx → EReal) (x2 : S4096x1024.Idx → EReal) (x3 : S1x1024.Idx → EReal)

theorem ref_product : val_main_v4 (F := Ideal) x0 x1 = P x0 x1 := by
  funext i
  obtain ⟨r, k, rfl⟩ : ∃ r k, i = ix2 (n0 := 4096) (n1 := 1024) r k := ⟨i 0, i 1, eq_ix2 i⟩
  rw [← val_main_v4_eq]
  pointwise
  rfl

theorem ref_residual : val_main_v7 (F := Ideal) x0 x1 x2 x3 = R x0 x1 x2 x3 := by
  funext i
  obtain ⟨r, k, rfl⟩ : ∃ r k, i = ix2 (n0 := 4096) (n1 := 1024) r k := ⟨i 0, i 1, eq_ix2 i⟩
  rw [← val_main_v7_eq]
  pointwise
  rfl

end Cert.MmResRefIdeal.RefValue

namespace Cert.MmNNIdeal.RefValue

open Cert.MmNNIdeal Cert.MmNNIdeal.Gen Cert.Proof

/-- Column `k` of the whole weight: shard `k / 768`, its column `k % 768`. -/
def colw (w : S4x1024x768.Idx → EReal) (k : Fin 3072) : Fin 1024 → EReal := fun d =>
  w (ix3 ⟨k.val / 768, by omega⟩ d ⟨k.val % 768, by omega⟩)

def G (a : S4096x1024.Idx → EReal) (w : S4x1024x768.Idx → EReal) : S4096x3072.Idx → EReal := fun i =>
  line (fun d => a (ix2 (i 0) d)) (colw w (i 1))

theorem out_eq (a : Vec Ideal S2048x1024 .bf16) (w : Vec Ideal S1x1024x768 .bf16) (r : Fin 2048) (k : Fin 768) :
    out0_2 a w (ix2 r k) = line (fun d => a (ix2 r d)) (fun d => w (ix3 0 d k)) := by
  canon_tiles z h
  obtain rfl : r = z 0 := Fin.ext h0
  obtain rfl : k = z 1 := Fin.ext h1
  unfold_payloads
  pointwise
  rfl

section arrays
variable (m : (ℓ : Loc nD τ sig) → Buf (Elt Ideal) ℓ) (c : Dev nD)

abbrev A0 : S4096x1024.Idx → EReal := m ((c : Thread nD τ).loc main_arg0)
abbrev A1 : S4x1024x768.Idx → EReal := m ((c : Thread nD τ).loc main_arg1)

theorem index_facts : ∀ t : Fin cfg0.N, win0_0.index t = ![t.val % 2, 0] ∧ win0_1.index t = ![t.val / 2, 0, 0]
    ∧ win0_2.index t = ![t.val % 2, t.val / 2] :=
  (by decide +kernel : ∀ t : Fin grid0.N, _)

/-- Row `r` and column `k` of block `t` among the arrays' rows and columns. -/
def rw' (t : Fin cfg0.N) (r : Fin 2048) : Fin 4096 := ⟨t.val % 2 * 2048 + r.val, by omega⟩
def cl (t : Fin cfg0.N) (k : Fin 768) : Fin 3072 := ⟨t.val / 2 * 768 + k.val, by have := t.isLt; have h : cfg0.N = 8 := N_0; omega⟩

theorem blk0 (t : Fin cfg0.N) (r : Fin 2048) (d : Fin 1024) : iblk m c 0 t (ix2 r d) = A0 m c (ix2 (rw' t r) d) := by
  have h := index_facts t
  blk_ext [iblk, V_main_arg0, h.1, rw']

theorem part (t : Fin cfg0.N) (k : Fin 768) : (cl t k).val / 768 = t.val / 2 ∧ (cl t k).val % 768 = k.val := by
  unfold cl
  dsimp only
  omega

theorem blk1 (t : Fin cfg0.N) (d : Fin 1024) (k : Fin 768) : iblk m c 1 t (ix3 0 d k) = colw (A1 m c) (cl t k) d := by
  have h := index_facts t
  have e := part t k
  show _ = A1 m c (ix3 ⟨(cl t k).val / 768, _⟩ d ⟨(cl t k).val % 768, _⟩)
  blk_ext [iblk, V_main_arg1, h.2.1, e.1, e.2]

theorem final : (dats m 0 c).arrAt 2 cfg0.N = G (A0 m c) (A1 m c) := by
  refine (dats m 0 c).arrAt_eq_of_covers 2 _ (by decide +kernel) fun t hf y => ?_
  have h := index_facts t
  obtain ⟨r, k, rfl⟩ : ∃ r k, y = ix2 (n0 := 2048) (n1 := 768) r k := ⟨y 0, y 1, eq_ix2 y⟩
  have he : ((cfg0.win 2).blk t).view.emb (ix2 r k) = ix2 (n0 := 4096) (n1 := 3072) (rw' t r) (cl t k) := by blk_ext [h.2.2, rw', cl]
  rw [he]
  blk_simp [after0_2]
  rw [out_eq]
  simp only [blk0, blk1]
  rfl

end arrays

end Cert.MmNNIdeal.RefValue

namespace Cert.MmNNRefIdeal.RefValue

open Cert.MmNNRefIdeal Cert.MmNNRefIdeal.Gen Cert.MmNNRefIdeal.Read Cert.Proof Cert.MmNNIdeal.RefValue

theorem ref_eq (x0 : S4096x1024.Idx → EReal) (x1 : S4x1024x768.Idx → EReal) : val_main_v12 (F := Ideal) x0 x1 = G x0 x1 := by
  funext i
  obtain ⟨r, k, rfl⟩ : ∃ r k, i = ix2 (n0 := 4096) (n1 := 3072) r k := ⟨i 0, i 1, eq_ix2 i⟩
  rw [← val_main_v12_eq]
  pointwise
  refine Finset.sum_congr rfl fun d _ => congrArg (x0 (ix2 r d) * ·) ?_
  show _ = x1 (ix3 ⟨k.val / 768, _⟩ d ⟨k.val % 768, _⟩)
  have hk := k.isLt
  by_cases h1 : k.val < 768
  · rw [dif_pos h1]
    exact same3 x1 (show 0 = k.val / 768 by omega) (show k.val = k.val % 768 by omega)
  rw [dif_neg h1]
  by_cases h2 : k.val - 768 < 768
  · rw [dif_pos h2]
    exact same3 x1 (show 1 = k.val / 768 by omega) (show k.val - 768 = k.val % 768 by omega)
  rw [dif_neg h2]
  by_cases h3 : k.val - 768 - 768 < 768
  · rw [dif_pos h3]
    exact same3 x1 (show 2 = k.val / 768 by omega) (show k.val - 768 - 768 = k.val % 768 by omega)
  rw [dif_neg h3]
  exact same3 x1 (show 3 = k.val / 768 by omega) (show k.val - 768 - 768 - 768 = k.val % 768 by omega)

end Cert.MmNNRefIdeal.RefValue

namespace Cert.MmTNIdeal.RefValue

open Cert.MmTNIdeal Cert.MmTNIdeal.Gen Cert.Proof

/-- Column `k` of shard `s` of the cotangent: part `s / 2`, its column `s % 2 * 1408 + k`. -/
def colg (g : S2x4096x2816.Idx → EReal) (s : Fin 4) (k : Fin 1408) : Fin 4096 → EReal := fun d =>
  g (ix3 ⟨s.val / 2, by omega⟩ d ⟨s.val % 2 * 1408 + k.val, by omega⟩)

def G (a : S4096x1024.Idx → EReal) (g : S2x4096x2816.Idx → EReal) : S4x1024x1408.Idx → EReal := fun i =>
  line (fun d => a (ix2 d (i 1))) (colg g (i 0) (i 2))

theorem out_eq (a : Vec Ideal S4096x512 .bf16) (g : Vec Ideal S1x4096x1408 .bf16) (r : Fin 512) (k : Fin 1408) :
    out0_2 a g (ix3 0 r k) = line (fun d => a (ix2 d r)) (fun d => g (ix3 0 d k)) := by
  canon_tiles z h
  obtain rfl : r = z 1 := Fin.ext h1
  obtain rfl : k = z 2 := Fin.ext h2
  unfold_payloads
  pointwise
  rfl

section arrays
variable (m : (ℓ : Loc nD τ sig) → Buf (Elt Ideal) ℓ) (c : Dev nD)

abbrev A0 : S4096x1024.Idx → EReal := m ((c : Thread nD τ).loc main_arg0)
abbrev A1 : S2x4096x2816.Idx → EReal := m ((c : Thread nD τ).loc main_arg1)

theorem index_facts : ∀ t : Fin cfg0.N, win0_0.index t = ![0, t.val % 2] ∧ win0_1.index t = ![t.val / 4, 0, t.val / 2 % 2]
    ∧ win0_2.index t = ![t.val / 2, t.val % 2, 0] :=
  (by decide +kernel : ∀ t : Fin grid0.N, _)

/-- Block `t`'s shard, and its row `r` among all rows. -/
def sh (t : Fin cfg0.N) : Fin 4 := ⟨t.val / 2, by have := t.isLt; have h : cfg0.N = 8 := N_0; omega⟩
def rw' (t : Fin cfg0.N) (r : Fin 512) : Fin 1024 := ⟨t.val % 2 * 512 + r.val, by omega⟩

theorem blk0 (t : Fin cfg0.N) (d : Fin 4096) (r : Fin 512) : iblk m c 0 t (ix2 d r) = A0 m c (ix2 d (rw' t r)) := by
  have h := index_facts t
  blk_ext [iblk, V_main_arg0, h.1, rw']

theorem blk1 (t : Fin cfg0.N) (d : Fin 4096) (k : Fin 1408) : iblk m c 1 t (ix3 0 d k) = colg (A1 m c) (sh t) k d := by
  have h := index_facts t
  have e : t.val / 2 / 2 = t.val / 4 := by omega
  show _ = A1 m c (ix3 ⟨t.val / 2 / 2, _⟩ d ⟨t.val / 2 % 2 * 1408 + k.val, _⟩)
  blk_ext [iblk, V_main_arg1, h.2.1, e]

theorem final : (dats m 0 c).arrAt 2 cfg0.N = G (A0 m c) (A1 m c) := by
  refine (dats m 0 c).arrAt_eq_of_covers 2 _ (by decide +kernel) fun t hf y => ?_
  have h := index_facts t
  obtain ⟨l, r, k, rfl⟩ : ∃ l r k, y = ix3 (n0 := 1) (n1 := 512) (n2 := 1408) l r k := ⟨y 0, y 1, y 2, by funext a; fin_cases a <;> rfl⟩
  obtain rfl : l = 0 := Subsingleton.elim _ _
  have he : ((cfg0.win 2).blk t).view.emb (ix3 0 r k) = ix3 (n0 := 4) (n1 := 1024) (n2 := 1408) (sh t) (rw' t r) k := by blk_ext [h.2.2, rw', sh]
  rw [he]
  blk_simp [after0_2]
  rw [out_eq]
  simp only [blk0, blk1]
  rfl

end arrays

end Cert.MmTNIdeal.RefValue

namespace Cert.MmTNRefIdeal.RefValue

open Cert.MmTNRefIdeal Cert.MmTNRefIdeal.Gen Cert.MmTNRefIdeal.Read Cert.Proof Cert.MmTNIdeal.RefValue

theorem ref_eq (x0 : S4096x1024.Idx → EReal) (x1 : S2x4096x2816.Idx → EReal) : val_main_v18 (F := Ideal) x0 x1 = G x0 x1 := by
  funext i
  obtain ⟨s, r, k, rfl⟩ : ∃ s r k, i = ix3 (n0 := 4) (n1 := 1024) (n2 := 1408) s r k := ⟨i 0, i 1, i 2, by funext a; fin_cases a <;> rfl⟩
  rw [← val_main_v18_eq]
  pointwise
  have hs := s.isLt
  have hk := k.isLt
  show _ = ∑ d : Fin 4096, x0 (ix2 d r) * x1 (ix3 ⟨s.val / 2, _⟩ d ⟨s.val % 2 * 1408 + k.val, _⟩)
  split_ifs <;> refine Finset.sum_congr rfl fun d _ => congrArg (x0 (ix2 d r) * ·) ?_
  all_goals first
    | (exfalso; omega)
    | exact same3 x1 (show 0 = s.val / 2 by omega) (show k.val = s.val % 2 * 1408 + k.val by omega)
    | exact same3 x1 (show 0 = s.val / 2 by omega) (show 1408 + k.val = s.val % 2 * 1408 + k.val by omega)
    | exact same3 x1 (show 1 = s.val / 2 by omega) (show k.val = s.val % 2 * 1408 + k.val by omega)
    | exact same3 x1 (show 1 = s.val / 2 by omega) (show 4224 + k.val - 2816 = s.val % 2 * 1408 + k.val by omega)

end Cert.MmTNRefIdeal.RefValue

end
-- ==== Proof.MmResClaims.lean ====
/- The claims about this call, from the runs. -/
module

public import proofs.«01_k».proof.Defs
public import proofs.«01_k».proof.Proof.Products
public import proofs.«01_k».proof.Proof.Gen.MmRes.Frame

@[expose] public section

noncomputable section

open Idealize.ShloMosaic Idealize.ShloMosaic.TcCoe Idealize.SL.Sem

namespace Cert.Proof.MmRes

open Cert.MmResIdeal.RefValue Cert.MmResIdeal.Value Cert.MmResRefIdeal

theorem frame : Cert.quiescent_MmRes (hMmRes := Cert.MmRes.Gen.facts) := fun m ρ _ => Cert.MmRes.Gen.frame m ρ
theorem frame_ideal : Cert.quiescent_MmResIdeal (hMmResIdeal := Cert.MmResIdeal.Gen.facts) := fun m ρ _ => Cert.MmResIdeal.Gen.frame m ρ
theorem frame_ref : Cert.quiescent_MmResRefIdeal (hMmResRefIdeal := Cert.MmResRefIdeal.Gen.facts) := fun m ρ _ =>
  (θ_run Cert.MmResRefIdeal.defs _ _).mono (fun r h => ⟨fun c => (h c).2.2, sem_eq_zero_of_no_sems (by decide) r.2⟩)
    (Cert.MmResRefIdeal.Value.run (F := Ideal) m ρ)

theorem algebraic : Cert.algebraic_MmResIdeal_MmResRefIdeal (hMmResIdeal := Cert.MmResIdeal.Gen.facts) (hMmResRefIdeal := Cert.MmResRefIdeal.Gen.facts) := by
  intro m ρ m' ρ' _ hagree
  refine ⟨fun c => P (A0 m c) (A1 m c), fun c => R (A0 m c) (A1 m c) (A2 m c) (A3 m c), ?_, ?_⟩
  · exact (θ_run Cert.MmResIdeal.defs _ _).mono (fun r h c => ⟨(h c).1.trans (product_eq m c), (h c).2.1.trans (residual_eq m c), (h c).2.2⟩) (Cert.MmResIdeal.Value.run_blocks (F := Ideal) m ρ)
  · refine (θ_run Cert.MmResRefIdeal.defs _ _).mono (fun r h c => ⟨(h c).1.trans ?_, (h c).2.1.trans ?_, (h c).2.2⟩) (Cert.MmResRefIdeal.Value.run (F := Ideal) m' ρ')
    · refine (Read.val_main_v4_eq _ _).trans ((RefValue.ref_product _ _).trans ?_)
      simp only [hagree c, A0, A1]
    · refine (Read.val_main_v7_eq _ _ _ _).trans ((RefValue.ref_residual _ _ _ _).trans ?_)
      simp only [hagree c, A0, A1, A2, A3]

end Cert.Proof.MmRes

end
-- ==== Proof.MmNNClaims.lean ====
/- The claims about this call, from the runs. -/
module

public import proofs.«01_k».proof.Defs
public import proofs.«01_k».proof.Proof.Products
public import proofs.«01_k».proof.Proof.Gen.MmNN.Frame

@[expose] public section

noncomputable section

open Idealize.ShloMosaic Idealize.ShloMosaic.TcCoe Idealize.SL.Sem

namespace Cert.Proof.MmNN

open Cert.MmNNIdeal.RefValue Cert.MmNNIdeal.Value Cert.MmNNRefIdeal

theorem frame : Cert.quiescent_MmNN (hMmNN := Cert.MmNN.Gen.facts) := fun m ρ _ => Cert.MmNN.Gen.frame m ρ
theorem frame_ideal : Cert.quiescent_MmNNIdeal (hMmNNIdeal := Cert.MmNNIdeal.Gen.facts) := fun m ρ _ => Cert.MmNNIdeal.Gen.frame m ρ
theorem frame_ref : Cert.quiescent_MmNNRefIdeal (hMmNNRefIdeal := Cert.MmNNRefIdeal.Gen.facts) := fun m ρ _ =>
  (θ_run Cert.MmNNRefIdeal.defs _ _).mono (fun r h => ⟨fun c => (h c).2, sem_eq_zero_of_no_sems (by decide) r.2⟩)
    (Cert.MmNNRefIdeal.Value.run (F := Ideal) m ρ)

theorem algebraic : Cert.algebraic_MmNNIdeal_MmNNRefIdeal (hMmNNIdeal := Cert.MmNNIdeal.Gen.facts) (hMmNNRefIdeal := Cert.MmNNRefIdeal.Gen.facts) := by
  intro m ρ m' ρ' _ hagree
  refine ⟨fun c => G (A0 m c) (A1 m c), ?_, ?_⟩
  · exact (θ_run Cert.MmNNIdeal.defs _ _).mono (fun r h c => ⟨(h c).1.trans (final m c), (h c).2⟩) (Cert.MmNNIdeal.Value.run_blocks (F := Ideal) m ρ)
  · refine (θ_run Cert.MmNNRefIdeal.defs _ _).mono (fun r h c => ⟨(h c).1.trans ?_, (h c).2⟩) (Cert.MmNNRefIdeal.Value.run (F := Ideal) m' ρ')
    refine (Read.val_main_v12_eq _ _).trans ((RefValue.ref_eq _ _).trans ?_)
    simp only [hagree c, A0, A1]

end Cert.Proof.MmNN

end
-- ==== Proof.ProductT.lean ====
/- The transposed product that gives the cotangent of a product's left factor: the kernel adds one shard's columns at each of
   four points, the reference contracts all columns at once. -/
module

public import proofs.«01_k».proof.Proof.Gen.MmNTIdeal.Value
public import proofs.«01_k».proof.Proof.Gen.MmNTRefIdeal.Read
public import proofs.«01_k».proof.Proof.Products
public import proofs.«01_k».proof.Proof.Rows
public import Idealize.ShloMosaic.Lib.Pointwise
public import Idealize.ShloMosaic.Lib.Pipeline.ReadBack
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MmNTIdeal.RefValue

open Cert.MmNTIdeal Cert.MmNTIdeal.Gen Cert.Proof

/-- Row `r` of shard `s`'s columns of the cotangent, and row `k` of that shard of the weight. -/
def rowg (g : S2x4096x2816.Idx → EReal) (s : Fin 4) (r : Fin 4096) : Fin 1408 → EReal := fun d =>
  g (ix3 ⟨s.val / 2, by omega⟩ r ⟨s.val % 2 * 1408 + d.val, by omega⟩)
def roww (w : S4x1024x1408.Idx → EReal) (s : Fin 4) (k : Fin 1024) : Fin 1408 → EReal := fun d => w (ix3 s k d)

def G (g : S2x4096x2816.Idx → EReal) (w : S4x1024x1408.Idx → EReal) : S4096x1024.Idx → EReal := fun i =>
  ∑ s : Fin 4, line (rowg g s (i 0)) (roww w s (i 1))

variable (m : (ℓ : Loc nD τ sig) → Buf (Elt Ideal) ℓ) (c : Dev nD)

abbrev A0 : S2x4096x2816.Idx → EReal := m ((c : Thread nD τ).loc main_arg0)
abbrev A1 : S4x1024x1408.Idx → EReal := m ((c : Thread nD τ).loc main_arg1)

/-- What a point adds. -/
def term (t : Fin cfg0.N) : S2048x1024.Idx → EReal := fun i =>
  line (fun d : Fin 1408 => iblk m c 0 t (ix3 0 (i 0) d)) (fun d : Fin 1408 => iblk m c 1 t (ix3 0 (i 1) d))

theorem acc_first (t : Fin cfg0.N) (h0 : t.val % 4 = 0) (y : S2048x1024.Idx) : (outsAt0 m c t.val t.isLt).2 y = 0 + term m c t y := by
  rw [outsAt0_A m c t h0 (by omega)]
  obtain ⟨r, k, rfl⟩ : ∃ r k, y = ix2 (n0 := 2048) (n1 := 1024) r k := ⟨y 0, y 1, eq_ix2 y⟩
  frame_open
  simp (disch := decide) only [↓ View.readCov_skip, ↓ View.readCov_cons_toLoadRect, ↓ View.readCov_fill]
  frame_out
  unfold_payloads
  pointwise
  rfl

theorem acc_next (t : Fin cfg0.N) (h0 : ¬t.val % 4 = 0) (y : S2048x1024.Idx) :
    (outsAt0 m c t.val t.isLt).2 y = (outsAt0 m c (t.val - 1) (Nat.lt_of_le_of_lt (Nat.sub_le _ _) t.isLt)).2 y + term m c t y := by
  obtain ⟨r, k, rfl⟩ : ∃ r k, y = ix2 (n0 := 2048) (n1 := 1024) r k := ⟨y 0, y 1, eq_ix2 y⟩
  by_cases h1 : t.val % 4 = 3
  · rw [outsAt0_C m c t h0 h1]
    frame_out
    simp only [read_unread_whole]
    unfold_payloads
    pointwise
    rfl
  · rw [outsAt0_B m c t h0 h1]
    frame_out
    simp only [read_unread_whole]
    unfold_payloads
    pointwise
    rfl

theorem out_last (t : Fin cfg0.N) (h1 : t.val % 4 = 3) (y : S2048x1024.Idx) :
    (outsAt0 m c t.val t.isLt).1 y = (outsAt0 m c t.val t.isLt).2 y := by
  rw [outsAt0_C m c t (by omega) h1]
  obtain ⟨r, k, rfl⟩ : ∃ r k, y = ix2 (n0 := 2048) (n1 := 1024) r k := ⟨y 0, y 1, eq_ix2 y⟩
  frame_out
  unfold_payloads
  pointwise

theorem index_facts : ∀ t : Fin cfg0.N, win0_0.index t = ![t.val % 4 / 2, t.val / 4, t.val % 2] ∧ win0_1.index t = ![t.val % 4, 0, 0]
    ∧ win0_2.index t = ![t.val / 4, 0] :=
  (by decide +kernel : ∀ t : Fin grid0.N, _)

/-- Row `r` of block `t` among all rows, and the block's shard. -/
def rw' (t : Fin cfg0.N) (r : Fin 2048) : Fin 4096 := ⟨t.val / 4 * 2048 + r.val, by have := t.isLt; have h : cfg0.N = 8 := N_0; omega⟩
def sh (t : Fin cfg0.N) : Fin 4 := ⟨t.val % 4, by omega⟩

theorem term_eq (t : Fin cfg0.N) (r : Fin 2048) (k : Fin 1024) :
    term m c t (ix2 r k) = line (rowg (A0 m c) (sh t) (rw' t r)) (roww (A1 m c) (sh t) k) := by
  have h := index_facts t
  have e : t.val % 4 % 2 = t.val % 2 := by omega
  have e0 (d : Fin 1408) : iblk m c 0 t (ix3 0 r d) = rowg (A0 m c) (sh t) (rw' t r) d := by
    show _ = A0 m c (ix3 ⟨t.val % 4 / 2, _⟩ (rw' t r) ⟨t.val % 4 % 2 * 1408 + d.val, _⟩)
    blk_ext [iblk, V_main_arg0, h.1, rw', e]
  have e1 (d : Fin 1408) : iblk m c 1 t (ix3 0 k d) = roww (A1 m c) (sh t) k d := by
    show _ = A1 m c (ix3 (sh t) k d)
    blk_ext [iblk, V_main_arg1, h.2.1, sh]
  show line (fun d : Fin 1408 => iblk m c 0 t (ix3 0 r d)) (fun d : Fin 1408 => iblk m c 1 t (ix3 0 k d)) = _
  simp only [e0, e1]

theorem final : (dats m 0 c).arrAt 2 cfg0.N = G (A0 m c) (A1 m c) := by
  refine (dats m 0 c).arrAt_eq_of_covers 2 _ (by decide +kernel) fun t hf y => ?_
  have h := index_facts t
  have h3 := (flush0_2 t).1 hf
  obtain ⟨r, k, rfl⟩ : ∃ r k, y = ix2 (n0 := 2048) (n1 := 1024) r k := ⟨y 0, y 1, eq_ix2 y⟩
  have he : ((cfg0.win 2).blk t).view.emb (ix2 r k) = ix2 (n0 := 4096) (n1 := 1024) (rw' t r) k := by blk_ext [h.2.2, rw']
  rw [he]
  blk_simp [after0_2]
  rw [out_last m c t h3]
  have e := Pipeline.eq_sum_fin_of_reset_step_apply_of_flush (M := EReal) (fun n h => (outsAt0 m c n h).2) 4 (fun _ => 0) (term m c)
    (acc_first m c) (acc_next m c) t h3 (ix2 r k)
  refine e.trans ?_
  rw [zero_add]
  simp only [term_eq]
  refine Finset.sum_congr rfl fun s _ => ?_
  have es : sh ⟨4 * (t.val / 4) + s.val, Pipeline.run_point_lt_of_flush t h3 s⟩ = s := Fin.ext (by show (4 * (t.val / 4) + s.val) % 4 = s.val; omega)
  have er : rw' ⟨4 * (t.val / 4) + s.val, Pipeline.run_point_lt_of_flush t h3 s⟩ r = rw' t r :=
    Fin.ext (by show (4 * (t.val / 4) + s.val) / 4 * 2048 + r.val = t.val / 4 * 2048 + r.val; omega)
  rw [es, er]
  rfl

end Cert.MmNTIdeal.RefValue

namespace Cert.MmNTRefIdeal.RefValue

open Cert.MmNTRefIdeal Cert.MmNTRefIdeal.Gen Cert.MmNTRefIdeal.Read Cert.Proof Cert.MmNTIdeal.RefValue

/-- A sum over all columns, shard by shard. -/
theorem by_shards (f : Fin 5632 → EReal) : ∑ d : Fin 5632, f d = ∑ s : Fin 4, ∑ d : Fin 1408, f ⟨s.val * 1408 + d.val, by omega⟩ := by
  rw [← Fintype.sum_prod_type']
  refine Fintype.sum_equiv ((finProdFinEquiv (m := 4) (n := 1408)).symm) _ _ fun d => congrArg f (Fin.ext ?_)
  show d.val = d.val / 1408 * 1408 + d.val % 1408
  omega

theorem ref_eq (x0 : S2x4096x2816.Idx → EReal) (x1 : S4x1024x1408.Idx → EReal) : val_main_v18 (F := Ideal) x0 x1 = G x0 x1 := by
  funext i
  obtain ⟨r, k, rfl⟩ : ∃ r k, i = ix2 (n0 := 4096) (n1 := 1024) r k := ⟨i 0, i 1, eq_ix2 i⟩
  rw [← val_main_v18_eq]
  pointwise
  rw [by_shards]
  refine Finset.sum_congr rfl fun s _ => Finset.sum_congr rfl fun d _ => ?_
  have hs := s.isLt
  have hd := d.isLt
  refine congrArg₂ (· * ·) ?_ ?_
  · show _ = x0 (ix3 ⟨s.val / 2, _⟩ r ⟨s.val % 2 * 1408 + d.val, _⟩)
    by_cases h1 : s.val * 1408 + d.val < 2816
    · rw [dif_pos h1]
      exact same3 x0 (show 0 = s.val / 2 by omega) (show s.val * 1408 + d.val = s.val % 2 * 1408 + d.val by omega)
    rw [dif_neg h1]
    exact same3 x0 (show 1 = s.val / 2 by omega) (show s.val * 1408 + d.val - 2816 = s.val % 2 * 1408 + d.val by omega)
  · show _ = x1 (ix3 s k d)
    by_cases h1 : s.val * 1408 + d.val < 1408
    · rw [dif_pos h1]
      exact same3 x1 (show 0 = s.val by omega) (show s.val * 1408 + d.val = d.val by omega)
    rw [dif_neg h1]
    by_cases h2 : s.val * 1408 + d.val - 1408 < 1408
    · rw [dif_pos h2]
      exact same3 x1 (show 1 = s.val by omega) (show s.val * 1408 + d.val - 1408 = d.val by omega)
    rw [dif_neg h2]
    by_cases h3 : s.val * 1408 + d.val - 1408 - 1408 < 1408
    · rw [dif_pos h3]
      exact same3 x1 (show 2 = s.val by omega) (show s.val * 1408 + d.val - 1408 - 1408 = d.val by omega)
    rw [dif_neg h3]
    exact same3 x1 (show 3 = s.val by omega) (show s.val * 1408 + d.val - 1408 - 1408 - 1408 = d.val by omega)

end Cert.MmNTRefIdeal.RefValue

end
-- ==== Proof.MmNTClaims.lean ====
/- The claims about this call, from the runs. -/
module

public import proofs.«01_k».proof.Defs
public import proofs.«01_k».proof.Proof.ProductT
public import proofs.«01_k».proof.Proof.Gen.MmNT.Frame

@[expose] public section

noncomputable section

open Idealize.ShloMosaic Idealize.ShloMosaic.TcCoe Idealize.SL.Sem

namespace Cert.Proof.MmNT

open Cert.MmNTIdeal.RefValue Cert.MmNTIdeal.Value Cert.MmNTRefIdeal

theorem frame : Cert.quiescent_MmNT (hMmNT := Cert.MmNT.Gen.facts) := fun m ρ _ => Cert.MmNT.Gen.frame m ρ
theorem frame_ideal : Cert.quiescent_MmNTIdeal (hMmNTIdeal := Cert.MmNTIdeal.Gen.facts) := fun m ρ _ => Cert.MmNTIdeal.Gen.frame m ρ
theorem frame_ref : Cert.quiescent_MmNTRefIdeal (hMmNTRefIdeal := Cert.MmNTRefIdeal.Gen.facts) := fun m ρ _ =>
  (θ_run Cert.MmNTRefIdeal.defs _ _).mono (fun r h => ⟨fun c => (h c).2, sem_eq_zero_of_no_sems (by decide) r.2⟩)
    (Cert.MmNTRefIdeal.Value.run (F := Ideal) m ρ)

theorem algebraic : Cert.algebraic_MmNTIdeal_MmNTRefIdeal (hMmNTIdeal := Cert.MmNTIdeal.Gen.facts) (hMmNTRefIdeal := Cert.MmNTRefIdeal.Gen.facts) := by
  intro m ρ m' ρ' _ hagree
  refine ⟨fun c => G (A0 m c) (A1 m c), ?_, ?_⟩
  · exact (θ_run Cert.MmNTIdeal.defs _ _).mono (fun r h c => ⟨(h c).1.trans (final m c), (h c).2⟩) (Cert.MmNTIdeal.Value.run_blocks (F := Ideal) m ρ)
  · refine (θ_run Cert.MmNTRefIdeal.defs _ _).mono (fun r h c => ⟨(h c).1.trans ?_, (h c).2⟩) (Cert.MmNTRefIdeal.Value.run (F := Ideal) m' ρ')
    refine (Read.val_main_v18_eq _ _).trans ((RefValue.ref_eq _ _).trans ?_)
    simp only [hagree c, A0, A1]

end Cert.Proof.MmNT

end
-- ==== Proof.MmTNClaims.lean ====
/- The claims about this call, from the runs. -/
module

public import proofs.«01_k».proof.Defs
public import proofs.«01_k».proof.Proof.Products
public import proofs.«01_k».proof.Proof.Gen.MmTN.Frame

@[expose] public section

noncomputable section

open Idealize.ShloMosaic Idealize.ShloMosaic.TcCoe Idealize.SL.Sem

namespace Cert.Proof.MmTN

open Cert.MmTNIdeal.RefValue Cert.MmTNIdeal.Value Cert.MmTNRefIdeal

theorem frame : Cert.quiescent_MmTN (hMmTN := Cert.MmTN.Gen.facts) := fun m ρ _ => Cert.MmTN.Gen.frame m ρ
theorem frame_ideal : Cert.quiescent_MmTNIdeal (hMmTNIdeal := Cert.MmTNIdeal.Gen.facts) := fun m ρ _ => Cert.MmTNIdeal.Gen.frame m ρ
theorem frame_ref : Cert.quiescent_MmTNRefIdeal (hMmTNRefIdeal := Cert.MmTNRefIdeal.Gen.facts) := fun m ρ _ =>
  (θ_run Cert.MmTNRefIdeal.defs _ _).mono (fun r h => ⟨fun c => (h c).2, sem_eq_zero_of_no_sems (by decide) r.2⟩)
    (Cert.MmTNRefIdeal.Value.run (F := Ideal) m ρ)

theorem algebraic : Cert.algebraic_MmTNIdeal_MmTNRefIdeal (hMmTNIdeal := Cert.MmTNIdeal.Gen.facts) (hMmTNRefIdeal := Cert.MmTNRefIdeal.Gen.facts) := by
  intro m ρ m' ρ' _ hagree
  refine ⟨fun c => G (A0 m c) (A1 m c), ?_, ?_⟩
  · exact (θ_run Cert.MmTNIdeal.defs _ _).mono (fun r h c => ⟨(h c).1.trans (final m c), (h c).2⟩) (Cert.MmTNIdeal.Value.run_blocks (F := Ideal) m ρ)
  · refine (θ_run Cert.MmTNRefIdeal.defs _ _).mono (fun r h c => ⟨(h c).1.trans ?_, (h c).2⟩) (Cert.MmTNRefIdeal.Value.run (F := Ideal) m' ρ')
    refine (Read.val_main_v18_eq _ _).trans ((RefValue.ref_eq _ _).trans ?_)
    simp only [hagree c, A0, A1]

end Cert.Proof.MmTN

end
-- ==== Proof.Adam.lean ====
/- One step of the optimiser at one entry: the two running means and the change of the weight. The constants are the words the
   programs carry for the decay rates, their complements, the bias corrections, the step, the guard and the weight decay. -/
module

public import Idealize.ShloMosaic.Lib.Pointwise

@[expose] public section

noncomputable section

open Idealize.ShloMosaic

namespace Cert.Proof

/-- The running mean of the gradient. -/
def mean1 (g m : EReal) : EReal := Ideal.ofBits .f32 0x3F666666#32 * m + Ideal.ofBits .f32 0x3DCCCCCD#32 * g
/-- The running mean of the squared gradient. -/
def mean2 (g v : EReal) : EReal := Ideal.ofBits .f32 0x3F7FBE77#32 * v + Ideal.ofBits .f32 0x3A83126F#32 * (g * g)
/-- The change of a weight. -/
def change (w g m v : EReal) : EReal :=
  Ideal.ofBits .f32 0xBA83126F#32 * (Ideal.div (Ideal.div (mean1 g m) (Ideal.ofBits .f32 0x3F26BD02#32))
    (Ideal.sqrt (Ideal.div (mean2 g v) (Ideal.ofBits .f32 0x3C231ACC#32)) + Ideal.ofBits .f32 0x322BCC77#32)
    + Ideal.ofBits .f32 0x3C23D70A#32 * w)

end Cert.Proof

end
-- ==== Proof.AdamLayers.lean ====
/- The optimiser on the layers' weights: the sharded ones, whose gradient is the sum of two halves, and the modulation's, whose
   gradient is a product. -/
module

public import proofs.«01_k».proof.Proof.Gen.AdamShIdeal.Value
public import proofs.«01_k».proof.Proof.Gen.AdamShRefIdeal.Read
public import proofs.«01_k».proof.Proof.Gen.AdamAdaIdeal.Value
public import proofs.«01_k».proof.Proof.Gen.AdamAdaRefIdeal.Read
public import proofs.«01_k».proof.Proof.Adam
public import proofs.«01_k».proof.Proof.Sigmoid
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AdamShIdeal.RefValue

open Cert.AdamShIdeal Cert.AdamShIdeal.Gen Cert.Proof

def Gr (x3 x4 : S4x1024x1408.Idx → EReal) : S4x1024x1408.Idx → EReal := fun i => x3 i + x4 i
def D (x0 x1 x2 x3 x4 : S4x1024x1408.Idx → EReal) : S4x1024x1408.Idx → EReal := fun i => change (x0 i) (x3 i + x4 i) (x1 i) (x2 i)
def V1 (x1 x3 x4 : S4x1024x1408.Idx → EReal) : S4x1024x1408.Idx → EReal := fun i => mean1 (x3 i + x4 i) (x1 i)
def V2 (x2 x3 x4 : S4x1024x1408.Idx → EReal) : S4x1024x1408.Idx → EReal := fun i => mean2 (x3 i + x4 i) (x2 i)

section block
variable (w mm v a b : Vec Ideal S1x128x1408 .f32) (r : Fin 128) (k : Fin 1408)

theorem out5_eq : out0_5 w mm v a b (ix3 0 r k) = a (ix3 0 r k) + b (ix3 0 r k) := by
  canon_tiles x h
  obtain rfl : r = x 1 := Fin.ext h1
  obtain rfl : k = x 2 := Fin.ext h2
  unfold_payloads
  pointwise

theorem out6_eq : out0_6 w mm v a b (ix3 0 r k)
    = change (w (ix3 0 r k)) (a (ix3 0 r k) + b (ix3 0 r k)) (mm (ix3 0 r k)) (v (ix3 0 r k)) := by
  canon_tiles x h
  obtain rfl : r = x 1 := Fin.ext h1
  obtain rfl : k = x 2 := Fin.ext h2
  unfold_payloads
  pointwise
  rfl

theorem out7_eq : out0_7 w mm v a b (ix3 0 r k) = mean1 (a (ix3 0 r k) + b (ix3 0 r k)) (mm (ix3 0 r k)) := by
  canon_tiles x h
  obtain rfl : r = x 1 := Fin.ext h1
  obtain rfl : k = x 2 := Fin.ext h2
  unfold_payloads
  pointwise
  rfl

theorem out8_eq : out0_8 w mm v a b (ix3 0 r k) = mean2 (a (ix3 0 r k) + b (ix3 0 r k)) (v (ix3 0 r k)) := by
  canon_tiles x h
  obtain rfl : r = x 1 := Fin.ext h1
  obtain rfl : k = x 2 := Fin.ext h2
  unfold_payloads
  pointwise
  rfl

end block

section arrays
variable (m : (ℓ : Loc nD τ sig) → Buf (Elt Ideal) ℓ) (c : Dev nD)

abbrev A0 : S4x1024x1408.Idx → EReal := m ((c : Thread nD τ).loc main_arg0)
abbrev A1 : S4x1024x1408.Idx → EReal := m ((c : Thread nD τ).loc main_arg1)
abbrev A2 : S4x1024x1408.Idx → EReal := m ((c : Thread nD τ).loc main_arg2)
abbrev A3 : S4x1024x1408.Idx → EReal := m ((c : Thread nD τ).loc main_arg3)
abbrev A4 : S4x1024x1408.Idx → EReal := m ((c : Thread nD τ).loc main_arg4)

theorem index_facts : ∀ t : Fin cfg0.N, win0_0.index t = ![t.val / 8, t.val % 8, 0] ∧ win0_1.index t = ![t.val / 8, t.val % 8, 0]
    ∧ win0_2.index t = ![t.val / 8, t.val % 8, 0] ∧ win0_3.index t = ![t.val / 8, t.val % 8, 0] ∧ win0_4.index t = ![t.val / 8, t.val % 8, 0]
    ∧ win0_5.index t = ![t.val / 8, t.val % 8, 0] ∧ win0_6.index t = ![t.val / 8, t.val % 8, 0]
    ∧ win0_7.index t = ![t.val / 8, t.val % 8, 0] ∧ win0_8.index t = ![t.val / 8, t.val % 8, 0] :=
  (by decide +kernel : ∀ t : Fin grid0.N, _)

/-- Where row `r` and column `k` of block `t` lie in the arrays. -/
def at' (t : Fin cfg0.N) (r : Fin 128) (k : Fin 1408) : S4x1024x1408.Idx :=
  ix3 ⟨t.val / 8, by have := t.isLt; have h : cfg0.N = 32 := N_0; omega⟩ ⟨t.val % 8 * 128 + r.val, by omega⟩ k

variable (t : Fin cfg0.N) (r : Fin 128) (k : Fin 1408)

theorem blk0 : iblk m c 0 t (ix3 0 r k) = A0 m c (at' t r k) := by
  have h := index_facts t
  blk_ext [iblk, V_main_arg0, h.1, at']

theorem blk1 : iblk m c 1 t (ix3 0 r k) = A1 m c (at' t r k) := by
  have h := index_facts t
  blk_ext [iblk, V_main_arg1, h.2.1, at']

theorem blk2 : iblk m c 2 t (ix3 0 r k) = A2 m c (at' t r k) := by
  have h := index_facts t
  blk_ext [iblk, V_main_arg2, h.2.2.1, at']

theorem blk3 : iblk m c 3 t (ix3 0 r k) = A3 m c (at' t r k) := by
  have h := index_facts t
  blk_ext [iblk, V_main_arg3, h.2.2.2.1, at']

theorem blk4 : iblk m c 4 t (ix3 0 r k) = A4 m c (at' t r k) := by
  have h := index_facts t
  blk_ext [iblk, V_main_arg4, h.2.2.2.2.1, at']

/-- An entry of a block. -/
theorem cell (y : S1x128x1408.Idx) : ∃ r k, y = ix3 (n0 := 1) (n1 := 128) (n2 := 1408) 0 r k :=
  ⟨y 1, y 2, by obtain ⟨l, r, k, rfl⟩ : ∃ l r k, y = ix3 (n0 := 1) (n1 := 128) (n2 := 1408) l r k := ⟨y 0, y 1, y 2, by funext a; fin_cases a <;> rfl⟩
                obtain rfl : l = 0 := Subsingleton.elim _ _
                rfl⟩

theorem grad_eq : (dats m 0 c).arrAt 5 cfg0.N = Gr (A3 m c) (A4 m c) := by
  refine (dats m 0 c).arrAt_eq_of_covers 5 _ (by decide +kernel) fun t hf y => ?_
  have h := (index_facts t).2.2.2.2.2.1
  obtain ⟨r, k, rfl⟩ := cell y
  have he : ((cfg0.win 5).blk t).view.emb (ix3 0 r k) = at' t r k := by blk_ext [h, at']
  rw [he]
  blk_simp [after0_5]
  rw [out5_eq, blk3, blk4]
  rfl

theorem change_eq : (dats m 0 c).arrAt 6 cfg0.N = D (A0 m c) (A1 m c) (A2 m c) (A3 m c) (A4 m c) := by
  refine (dats m 0 c).arrAt_eq_of_covers 6 _ (by decide +kernel) fun t hf y => ?_
  have h := (index_facts t).2.2.2.2.2.2.1
  obtain ⟨r, k, rfl⟩ := cell y
  have he : ((cfg0.win 6).blk t).view.emb (ix3 0 r k) = at' t r k := by blk_ext [h, at']
  rw [he]
  blk_simp [after0_6]
  rw [out6_eq, blk0, blk1, blk2, blk3, blk4]
  rfl

theorem mean1_eq : (dats m 0 c).arrAt 7 cfg0.N = V1 (A1 m c) (A3 m c) (A4 m c) := by
  refine (dats m 0 c).arrAt_eq_of_covers 7 _ (by decide +kernel) fun t hf y => ?_
  have h := (index_facts t).2.2.2.2.2.2.2.1
  obtain ⟨r, k, rfl⟩ := cell y
  have he : ((cfg0.win 7).blk t).view.emb (ix3 0 r k) = at' t r k := by blk_ext [h, at']
  rw [he]
  blk_simp [after0_7]
  rw [out7_eq, blk1, blk3, blk4]
  rfl

theorem mean2_eq : (dats m 0 c).arrAt 8 cfg0.N = V2 (A2 m c) (A3 m c) (A4 m c) := by
  refine (dats m 0 c).arrAt_eq_of_covers 8 _ (by decide +kernel) fun t hf y => ?_
  have h := (index_facts t).2.2.2.2.2.2.2.2
  obtain ⟨r, k, rfl⟩ := cell y
  have he : ((cfg0.win 8).blk t).view.emb (ix3 0 r k) = at' t r k := by blk_ext [h, at']
  rw [he]
  blk_simp [after0_8]
  rw [out8_eq, blk2, blk3, blk4]
  rfl

end arrays

end Cert.AdamShIdeal.RefValue

namespace Cert.AdamShRefIdeal.RefValue

open Cert.AdamShRefIdeal Cert.AdamShRefIdeal.Gen Cert.AdamShRefIdeal.Read Cert.Proof Cert.AdamShIdeal.RefValue

variable (x0 x1 x2 x3 x4 : S4x1024x1408.Idx → EReal)

theorem ref_grad : val_main_v0 (F := Ideal) x3 x4 = Gr x3 x4 := by
  funext i
  rw [← val_main_v0_eq]
  pointwise
  rfl

theorem ref_change : val_main_v24 (F := Ideal) x0 x1 x2 x3 x4 = D x0 x1 x2 x3 x4 := by
  funext i
  rw [← val_main_v24_eq]
  pointwise
  rfl

theorem ref_mean1 : val_main_v5 (F := Ideal) x1 x3 x4 = V1 x1 x3 x4 := by
  funext i
  rw [← val_main_v5_eq]
  pointwise
  rfl

theorem ref_mean2 : val_main_v11 (F := Ideal) x2 x3 x4 = V2 x2 x3 x4 := by
  funext i
  rw [← val_main_v11_eq]
  pointwise
  rfl

end Cert.AdamShRefIdeal.RefValue

namespace Cert.AdamAdaIdeal.RefValue

open Cert.AdamAdaIdeal Cert.AdamAdaIdeal.Gen Cert.Proof

/-- An activated row times a column: one entry of the gradient. -/
def gr (c d : Fin 8 → EReal) : EReal := ∑ j : Fin 8, c j * sgm (c j) * d j

def Gr (x0 : S1024x8.Idx → EReal) (x1 : S4x8x1536.Idx → EReal) : S4x1024x1536.Idx → EReal := fun i =>
  gr (fun j => x0 (ix2 (i 1) j)) (fun j => x1 (ix3 (i 0) j (i 2)))
def D (x0 : S1024x8.Idx → EReal) (x1 : S4x8x1536.Idx → EReal) (x2 x3 x4 : S4x1024x1536.Idx → EReal) : S4x1024x1536.Idx → EReal := fun i =>
  change (x2 i) (Gr x0 x1 i) (x3 i) (x4 i)
def V1 (x0 : S1024x8.Idx → EReal) (x1 : S4x8x1536.Idx → EReal) (x3 : S4x1024x1536.Idx → EReal) : S4x1024x1536.Idx → EReal := fun i =>
  mean1 (Gr x0 x1 i) (x3 i)
def V2 (x0 : S1024x8.Idx → EReal) (x1 : S4x8x1536.Idx → EReal) (x4 : S4x1024x1536.Idx → EReal) : S4x1024x1536.Idx → EReal := fun i =>
  mean2 (Gr x0 x1 i) (x4 i)

section block
variable (x0 : Vec Ideal S256x8 .f32) (x1 : Vec Ideal S1x8x1536 .f32) (w mm v : Vec Ideal S1x256x1536 .f32) (r : Fin 256) (k : Fin 1536)

/-- The gradient's entry of a block. -/
abbrev bg (x0 : Vec Ideal S256x8 .f32) (x1 : Vec Ideal S1x8x1536 .f32) (r : Fin 256) (k : Fin 1536) : EReal :=
  gr (fun j => x0 (ix2 r j)) (fun j => x1 (ix3 0 j k))

theorem out5_eq : out0_5 x0 x1 w mm v (ix3 0 r k) = bg x0 x1 r k := by
  canon_tiles x h
  obtain rfl : r = x 1 := Fin.ext h1
  obtain rfl : k = x 2 := Fin.ext h2
  unfold_payloads
  pointwise
  simp only [sgm_eq_tanh]
  rfl

theorem out6_eq : out0_6 x0 x1 w mm v (ix3 0 r k) = change (w (ix3 0 r k)) (bg x0 x1 r k) (mm (ix3 0 r k)) (v (ix3 0 r k)) := by
  canon_tiles x h
  obtain rfl : r = x 1 := Fin.ext h1
  obtain rfl : k = x 2 := Fin.ext h2
  unfold_payloads
  pointwise
  simp only [sgm_eq_tanh]
  rfl

theorem out7_eq : out0_7 x0 x1 w mm v (ix3 0 r k) = mean1 (bg x0 x1 r k) (mm (ix3 0 r k)) := by
  canon_tiles x h
  obtain rfl : r = x 1 := Fin.ext h1
  obtain rfl : k = x 2 := Fin.ext h2
  unfold_payloads
  pointwise
  simp only [sgm_eq_tanh]
  rfl

theorem out8_eq : out0_8 x0 x1 w mm v (ix3 0 r k) = mean2 (bg x0 x1 r k) (v (ix3 0 r k)) := by
  canon_tiles x h
  obtain rfl : r = x 1 := Fin.ext h1
  obtain rfl : k = x 2 := Fin.ext h2
  unfold_payloads
  pointwise
  simp only [sgm_eq_tanh]
  rfl

end block

section arrays
variable (m : (ℓ : Loc nD τ sig) → Buf (Elt Ideal) ℓ) (c : Dev nD)

abbrev A0 : S1024x8.Idx → EReal := m ((c : Thread nD τ).loc main_arg0)
abbrev A1 : S4x8x1536.Idx → EReal := m ((c : Thread nD τ).loc main_arg1)
abbrev A2 : S4x1024x1536.Idx → EReal := m ((c : Thread nD τ).loc main_arg2)
abbrev A3 : S4x1024x1536.Idx → EReal := m ((c : Thread nD τ).loc main_arg3)
abbrev A4 : S4x1024x1536.Idx → EReal := m ((c : Thread nD τ).loc main_arg4)

theorem index_facts : ∀ t : Fin cfg0.N, win0_0.index t = ![t.val % 4, 0] ∧ win0_1.index t = ![t.val / 4, 0, 0]
    ∧ win0_2.index t = ![t.val / 4, t.val % 4, 0] ∧ win0_3.index t = ![t.val / 4, t.val % 4, 0] ∧ win0_4.index t = ![t.val / 4, t.val % 4, 0]
    ∧ win0_5.index t = ![t.val / 4, t.val % 4, 0] ∧ win0_6.index t = ![t.val / 4, t.val % 4, 0]
    ∧ win0_7.index t = ![t.val / 4, t.val % 4, 0] ∧ win0_8.index t = ![t.val / 4, t.val % 4, 0] :=
  (by decide +kernel : ∀ t : Fin grid0.N, _)

/-- Block `t`'s layer, and its row `r` among all rows. -/
def ly (t : Fin cfg0.N) : Fin 4 := ⟨t.val / 4, by have := t.isLt; have h : cfg0.N = 16 := N_0; omega⟩
def rw' (t : Fin cfg0.N) (r : Fin 256) : Fin 1024 := ⟨t.val % 4 * 256 + r.val, by omega⟩

variable (t : Fin cfg0.N) (r : Fin 256) (k : Fin 1536)

theorem grad_block : bg (iblk m c 0 t) (iblk m c 1 t) r k = Gr (A0 m c) (A1 m c) (ix3 (ly t) (rw' t r) k) := by
  have h := index_facts t
  have e0 (j : Fin 8) : iblk m c 0 t (ix2 r j) = A0 m c (ix2 (rw' t r) j) := by blk_ext [iblk, V_main_arg0, h.1, rw']
  have e1 (j : Fin 8) : iblk m c 1 t (ix3 0 j k) = A1 m c (ix3 (ly t) j k) := by blk_ext [iblk, V_main_arg1, h.2.1, ly]
  show gr (fun j => iblk m c 0 t (ix2 r j)) (fun j => iblk m c 1 t (ix3 0 j k)) = _
  simp only [e0, e1]
  rfl

theorem blk2 : iblk m c 2 t (ix3 0 r k) = A2 m c (ix3 (ly t) (rw' t r) k) := by
  have h := index_facts t
  blk_ext [iblk, V_main_arg2, h.2.2.1, ly, rw']

theorem blk3 : iblk m c 3 t (ix3 0 r k) = A3 m c (ix3 (ly t) (rw' t r) k) := by
  have h := index_facts t
  blk_ext [iblk, V_main_arg3, h.2.2.2.1, ly, rw']

theorem blk4 : iblk m c 4 t (ix3 0 r k) = A4 m c (ix3 (ly t) (rw' t r) k) := by
  have h := index_facts t
  blk_ext [iblk, V_main_arg4, h.2.2.2.2.1, ly, rw']

/-- An entry of a block. -/
theorem cell (y : S1x256x1536.Idx) : ∃ r k, y = ix3 (n0 := 1) (n1 := 256) (n2 := 1536) 0 r k :=
  ⟨y 1, y 2, by obtain ⟨l, r, k, rfl⟩ : ∃ l r k, y = ix3 (n0 := 1) (n1 := 256) (n2 := 1536) l r k := ⟨y 0, y 1, y 2, by funext a; fin_cases a <;> rfl⟩
                obtain rfl : l = 0 := Subsingleton.elim _ _
                rfl⟩

theorem grad_eq : (dats m 0 c).arrAt 5 cfg0.N = Gr (A0 m c) (A1 m c) := by
  refine (dats m 0 c).arrAt_eq_of_covers 5 _ (by decide +kernel) fun t hf y => ?_
  have h := (index_facts t).2.2.2.2.2.1
  obtain ⟨r, k, rfl⟩ := cell y
  have he : ((cfg0.win 5).blk t).view.emb (ix3 0 r k) = ix3 (ly t) (rw' t r) k := by blk_ext [h, ly, rw']
  rw [he]
  blk_simp [after0_5]
  rw [out5_eq, grad_block]

theorem change_eq : (dats m 0 c).arrAt 6 cfg0.N = D (A0 m c) (A1 m c) (A2 m c) (A3 m c) (A4 m c) := by
  refine (dats m 0 c).arrAt_eq_of_covers 6 _ (by decide +kernel) fun t hf y => ?_
  have h := (index_facts t).2.2.2.2.2.2.1
  obtain ⟨r, k, rfl⟩ := cell y
  have he : ((cfg0.win 6).blk t).view.emb (ix3 0 r k) = ix3 (ly t) (rw' t r) k := by blk_ext [h, ly, rw']
  rw [he]
  blk_simp [after0_6]
  rw [out6_eq, grad_block, blk2, blk3, blk4]
  rfl

theorem mean1_eq : (dats m 0 c).arrAt 7 cfg0.N = V1 (A0 m c) (A1 m c) (A3 m c) := by
  refine (dats m 0 c).arrAt_eq_of_covers 7 _ (by decide +kernel) fun t hf y => ?_
  have h := (index_facts t).2.2.2.2.2.2.2.1
  obtain ⟨r, k, rfl⟩ := cell y
  have he : ((cfg0.win 7).blk t).view.emb (ix3 0 r k) = ix3 (ly t) (rw' t r) k := by blk_ext [h, ly, rw']
  rw [he]
  blk_simp [after0_7]
  rw [out7_eq, grad_block, blk3]
  rfl

theorem mean2_eq : (dats m 0 c).arrAt 8 cfg0.N = V2 (A0 m c) (A1 m c) (A4 m c) := by
  refine (dats m 0 c).arrAt_eq_of_covers 8 _ (by decide +kernel) fun t hf y => ?_
  have h := (index_facts t).2.2.2.2.2.2.2.2
  obtain ⟨r, k, rfl⟩ := cell y
  have he : ((cfg0.win 8).blk t).view.emb (ix3 0 r k) = ix3 (ly t) (rw' t r) k := by blk_ext [h, ly, rw']
  rw [he]
  blk_simp [after0_8]
  rw [out8_eq, grad_block, blk4]
  rfl

end arrays

end Cert.AdamAdaIdeal.RefValue

namespace Cert.AdamAdaRefIdeal.RefValue

open Cert.AdamAdaRefIdeal Cert.AdamAdaRefIdeal.Gen Cert.AdamAdaRefIdeal.Read Cert.Proof Cert.AdamAdaIdeal.RefValue

variable (x0 : S1024x8.Idx → EReal) (x1 : S4x8x1536.Idx → EReal) (x2 x3 x4 : S4x1024x1536.Idx → EReal)

theorem ref_grad : val_main_v2 (F := Ideal) x0 x1 = Gr x0 x1 := by
  funext i
  obtain ⟨l, r, k, rfl⟩ : ∃ l r k, i = ix3 (n0 := 4) (n1 := 1024) (n2 := 1536) l r k := ⟨i 0, i 1, i 2, by funext a; fin_cases a <;> rfl⟩
  rw [← val_main_v2_eq]
  pointwise
  exact Finset.sum_congr rfl fun j _ => mul_comm _ _

/-- The gradient's entry with the factors the other way round. -/
theorem turn (l : Fin 4) (r : Fin 1024) (k : Fin 1536) :
    (∑ j : Fin 8, x1 (ix3 l j k) * (x0 (ix2 r j) * sgm (x0 (ix2 r j)))) = Gr x0 x1 (ix3 l r k) :=
  Finset.sum_congr rfl fun _ _ => mul_comm _ _

theorem ref_change : val_main_v26 (F := Ideal) x0 x1 x2 x3 x4 = D x0 x1 x2 x3 x4 := by
  funext i
  obtain ⟨l, r, k, rfl⟩ : ∃ l r k, i = ix3 (n0 := 4) (n1 := 1024) (n2 := 1536) l r k := ⟨i 0, i 1, i 2, by funext a; fin_cases a <;> rfl⟩
  unfold D
  rw [← val_main_v26_eq, ← turn]
  pointwise
  rfl

theorem ref_mean1 : val_main_v7 (F := Ideal) x0 x1 x3 = V1 x0 x1 x3 := by
  funext i
  obtain ⟨l, r, k, rfl⟩ : ∃ l r k, i = ix3 (n0 := 4) (n1 := 1024) (n2 := 1536) l r k := ⟨i 0, i 1, i 2, by funext a; fin_cases a <;> rfl⟩
  unfold V1
  rw [← val_main_v7_eq, ← turn]
  pointwise
  rfl

theorem ref_mean2 : val_main_v13 (F := Ideal) x0 x1 x4 = V2 x0 x1 x4 := by
  funext i
  obtain ⟨l, r, k, rfl⟩ : ∃ l r k, i = ix3 (n0 := 4) (n1 := 1024) (n2 := 1536) l r k := ⟨i 0, i 1, i 2, by funext a; fin_cases a <;> rfl⟩
  unfold V2
  rw [← val_main_v13_eq, ← turn]
  pointwise
  rfl

end Cert.AdamAdaRefIdeal.RefValue

end
-- ==== Proof.AdamAdaClaims.lean ====
/- The claims about this call, from the runs. -/
module

public import proofs.«01_k».proof.Defs
public import proofs.«01_k».proof.Proof.AdamLayers
public import proofs.«01_k».proof.Proof.Gen.AdamAda.Frame

@[expose] public section

noncomputable section

open Idealize.ShloMosaic Idealize.ShloMosaic.TcCoe Idealize.SL.Sem

namespace Cert.Proof.AdamAda

open Cert.AdamAdaIdeal.RefValue Cert.AdamAdaIdeal.Value Cert.AdamAdaRefIdeal

theorem frame : Cert.quiescent_AdamAda (hAdamAda := Cert.AdamAda.Gen.facts) := fun m ρ _ => Cert.AdamAda.Gen.frame m ρ
theorem frame_ideal : Cert.quiescent_AdamAdaIdeal (hAdamAdaIdeal := Cert.AdamAdaIdeal.Gen.facts) := fun m ρ _ => Cert.AdamAdaIdeal.Gen.frame m ρ
theorem frame_ref : Cert.quiescent_AdamAdaRefIdeal (hAdamAdaRefIdeal := Cert.AdamAdaRefIdeal.Gen.facts) := fun m ρ _ =>
  (θ_run Cert.AdamAdaRefIdeal.defs _ _).mono (fun r h => ⟨fun c => (h c).2.2.2.2, sem_eq_zero_of_no_sems (by decide) r.2⟩)
    (Cert.AdamAdaRefIdeal.Value.run (F := Ideal) m ρ)

theorem algebraic : Cert.algebraic_AdamAdaIdeal_AdamAdaRefIdeal (hAdamAdaIdeal := Cert.AdamAdaIdeal.Gen.facts) (hAdamAdaRefIdeal := Cert.AdamAdaRefIdeal.Gen.facts) := by
  intro m ρ m' ρ' _ hagree
  refine ⟨fun c => Gr (A0 m c) (A1 m c), fun c => D (A0 m c) (A1 m c) (A2 m c) (A3 m c) (A4 m c), fun c => V1 (A0 m c) (A1 m c) (A3 m c), fun c => V2 (A0 m c) (A1 m c) (A4 m c), ?_, ?_⟩
  · exact (θ_run Cert.AdamAdaIdeal.defs _ _).mono (fun r h c => ⟨(h c).1.trans (grad_eq m c), (h c).2.1.trans (change_eq m c), (h c).2.2.1.trans (mean1_eq m c), (h c).2.2.2.1.trans (mean2_eq m c), (h c).2.2.2.2⟩) (Cert.AdamAdaIdeal.Value.run_blocks (F := Ideal) m ρ)
  · refine (θ_run Cert.AdamAdaRefIdeal.defs _ _).mono (fun r h c => ⟨(h c).1.trans ?_, (h c).2.1.trans ?_, (h c).2.2.1.trans ?_, (h c).2.2.2.1.trans ?_, (h c).2.2.2.2⟩) (Cert.AdamAdaRefIdeal.Value.run (F := Ideal) m' ρ')
    · refine (Read.val_main_v2_eq _ _).trans ((RefValue.ref_grad _ _).trans ?_)
      simp only [hagree c, A0, A1]
    · refine (Read.val_main_v26_eq _ _ _ _ _).trans ((RefValue.ref_change _ _ _ _ _).trans ?_)
      simp only [hagree c, A0, A1, A2, A3, A4]
    · refine (Read.val_main_v7_eq _ _ _).trans ((RefValue.ref_mean1 _ _ _).trans ?_)
      simp only [hagree c, A0, A1, A3]
    · refine (Read.val_main_v13_eq _ _ _).trans ((RefValue.ref_mean2 _ _ _).trans ?_)
      simp only [hagree c, A0, A1, A4]

end Cert.Proof.AdamAda

end
-- ==== Proof.AdamShClaims.lean ====
/- The claims about this call, from the runs. -/
module

public import proofs.«01_k».proof.Defs
public import proofs.«01_k».proof.Proof.AdamLayers
public import proofs.«01_k».proof.Proof.Gen.AdamSh.Frame

@[expose] public section

noncomputable section

open Idealize.ShloMosaic Idealize.ShloMosaic.TcCoe Idealize.SL.Sem

namespace Cert.Proof.AdamSh

open Cert.AdamShIdeal.RefValue Cert.AdamShIdeal.Value Cert.AdamShRefIdeal

theorem frame : Cert.quiescent_AdamSh (hAdamSh := Cert.AdamSh.Gen.facts) := fun m ρ _ => Cert.AdamSh.Gen.frame m ρ
theorem frame_ideal : Cert.quiescent_AdamShIdeal (hAdamShIdeal := Cert.AdamShIdeal.Gen.facts) := fun m ρ _ => Cert.AdamShIdeal.Gen.frame m ρ
theorem frame_ref : Cert.quiescent_AdamShRefIdeal (hAdamShRefIdeal := Cert.AdamShRefIdeal.Gen.facts) := fun m ρ _ =>
  (θ_run Cert.AdamShRefIdeal.defs _ _).mono (fun r h => ⟨fun c => (h c).2.2.2.2, sem_eq_zero_of_no_sems (by decide) r.2⟩)
    (Cert.AdamShRefIdeal.Value.run (F := Ideal) m ρ)

theorem algebraic : Cert.algebraic_AdamShIdeal_AdamShRefIdeal (hAdamShIdeal := Cert.AdamShIdeal.Gen.facts) (hAdamShRefIdeal := Cert.AdamShRefIdeal.Gen.facts) := by
  intro m ρ m' ρ' _ hagree
  refine ⟨fun c => Gr (A3 m c) (A4 m c), fun c => D (A0 m c) (A1 m c) (A2 m c) (A3 m c) (A4 m c), fun c => V1 (A1 m c) (A3 m c) (A4 m c), fun c => V2 (A2 m c) (A3 m c) (A4 m c), ?_, ?_⟩
  · exact (θ_run Cert.AdamShIdeal.defs _ _).mono (fun r h c => ⟨(h c).1.trans (grad_eq m c), (h c).2.1.trans (change_eq m c), (h c).2.2.1.trans (mean1_eq m c), (h c).2.2.2.1.trans (mean2_eq m c), (h c).2.2.2.2⟩) (Cert.AdamShIdeal.Value.run_blocks (F := Ideal) m ρ)
  · refine (θ_run Cert.AdamShRefIdeal.defs _ _).mono (fun r h c => ⟨(h c).1.trans ?_, (h c).2.1.trans ?_, (h c).2.2.1.trans ?_, (h c).2.2.2.1.trans ?_, (h c).2.2.2.2⟩) (Cert.AdamShRefIdeal.Value.run (F := Ideal) m' ρ')
    · refine (Read.val_main_v0_eq _ _).trans ((RefValue.ref_grad _ _).trans ?_)
      simp only [hagree c, A3, A4]
    · refine (Read.val_main_v24_eq _ _ _ _ _).trans ((RefValue.ref_change _ _ _ _ _).trans ?_)
      simp only [hagree c, A0, A1, A2, A3, A4]
    · refine (Read.val_main_v5_eq _ _ _).trans ((RefValue.ref_mean1 _ _ _).trans ?_)
      simp only [hagree c, A1, A3, A4]
    · refine (Read.val_main_v11_eq _ _ _).trans ((RefValue.ref_mean2 _ _ _).trans ?_)
      simp only [hagree c, A2, A3, A4]

end Cert.Proof.AdamSh

end
-- ==== Proof.AdamRows.lean ====
/- The optimiser on whole rows: the packed small weights and the short convolution's weights. -/
module

public import proofs.«01_k».proof.Proof.Gen.AdamSlabIdeal.Value
public import proofs.«01_k».proof.Proof.Gen.AdamSlabRefIdeal.Read
public import proofs.«01_k».proof.Proof.Gen.AdamPlIdeal.Value
public import proofs.«01_k».proof.Proof.Gen.AdamPlRefIdeal.Read
public import proofs.«01_k».proof.Proof.Adam
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AdamSlabIdeal.RefValue

open Cert.AdamSlabIdeal Cert.AdamSlabIdeal.Gen Cert.Proof

def D (x0 x1 x2 x3 : S640x1024.Idx → EReal) : S640x1024.Idx → EReal := fun i => change (x1 i) (x0 i) (x2 i) (x3 i)
def V1 (x0 x2 : S640x1024.Idx → EReal) : S640x1024.Idx → EReal := fun i => mean1 (x0 i) (x2 i)
def V2 (x0 x3 : S640x1024.Idx → EReal) : S640x1024.Idx → EReal := fun i => mean2 (x0 i) (x3 i)

section arrays
variable (m : (ℓ : Loc nD τ sig) → Buf (Elt Ideal) ℓ) (c : Dev nD)

abbrev A0 : S640x1024.Idx → EReal := m ((c : Thread nD τ).loc main_arg0)
abbrev A1 : S640x1024.Idx → EReal := m ((c : Thread nD τ).loc main_arg1)
abbrev A2 : S640x1024.Idx → EReal := m ((c : Thread nD τ).loc main_arg2)
abbrev A3 : S640x1024.Idx → EReal := m ((c : Thread nD τ).loc main_arg3)

theorem change_eq : (dats m 0 c).arrAt 4 cfg0.N = D (A0 m c) (A1 m c) (A2 m c) (A3 m c) := Value.final4 m c
theorem mean1_eq : (dats m 0 c).arrAt 5 cfg0.N = V1 (A0 m c) (A2 m c) := Value.final5 m c
theorem mean2_eq : (dats m 0 c).arrAt 6 cfg0.N = V2 (A0 m c) (A3 m c) := Value.final6 m c

end arrays

end Cert.AdamSlabIdeal.RefValue

namespace Cert.AdamSlabRefIdeal.RefValue

open Cert.AdamSlabRefIdeal Cert.AdamSlabRefIdeal.Gen Cert.AdamSlabRefIdeal.Read Cert.Proof Cert.AdamSlabIdeal.RefValue

variable (x0 x1 x2 x3 : S640x1024.Idx → EReal)

theorem ref_change : val_main_v23 (F := Ideal) x0 x1 x2 x3 = D x0 x1 x2 x3 := by
  funext i
  rw [← val_main_v23_eq]
  pointwise
  rfl

theorem ref_mean1 : val_main_v4 (F := Ideal) x0 x2 = V1 x0 x2 := by
  funext i
  rw [← val_main_v4_eq]
  pointwise
  rfl

theorem ref_mean2 : val_main_v10 (F := Ideal) x0 x3 = V2 x0 x3 := by
  funext i
  rw [← val_main_v10_eq]
  pointwise
  rfl

end Cert.AdamSlabRefIdeal.RefValue

namespace Cert.AdamPlIdeal.RefValue

open Cert.AdamPlIdeal Cert.AdamPlIdeal.Gen Cert.Proof

def D (x0 x1 x2 x3 : S6x256.Idx → EReal) : S6x256.Idx → EReal := fun i => change (x0 i) (x3 i) (x1 i) (x2 i)
def V1 (x3 x1 : S6x256.Idx → EReal) : S6x256.Idx → EReal := fun i => mean1 (x3 i) (x1 i)
def V2 (x3 x2 : S6x256.Idx → EReal) : S6x256.Idx → EReal := fun i => mean2 (x3 i) (x2 i)

section arrays
variable (m : (ℓ : Loc nD τ sig) → Buf (Elt Ideal) ℓ) (c : Dev nD)

abbrev A0 : S6x256.Idx → EReal := m ((c : Thread nD τ).loc main_arg0)
abbrev A1 : S6x256.Idx → EReal := m ((c : Thread nD τ).loc main_arg1)
abbrev A2 : S6x256.Idx → EReal := m ((c : Thread nD τ).loc main_arg2)
abbrev A3 : S6x256.Idx → EReal := m ((c : Thread nD τ).loc main_arg3)

theorem change_eq : (dats m 0 c).arrAt 4 cfg0.N = D (A0 m c) (A1 m c) (A2 m c) (A3 m c) := Value.final4 m c
theorem mean1_eq : (dats m 0 c).arrAt 5 cfg0.N = V1 (A3 m c) (A1 m c) := Value.final5 m c
theorem mean2_eq : (dats m 0 c).arrAt 6 cfg0.N = V2 (A3 m c) (A2 m c) := Value.final6 m c

end arrays

end Cert.AdamPlIdeal.RefValue

namespace Cert.AdamPlRefIdeal.RefValue

open Cert.AdamPlRefIdeal Cert.AdamPlRefIdeal.Gen Cert.AdamPlRefIdeal.Read Cert.Proof Cert.AdamPlIdeal.RefValue

variable (x0 x1 x2 x3 : S6x256.Idx → EReal)

theorem ref_change : val_main_v23 (F := Ideal) x0 x1 x2 x3 = D x0 x1 x2 x3 := by
  funext i
  rw [← val_main_v23_eq]
  pointwise
  rfl

theorem ref_mean1 : val_main_v4 (F := Ideal) x1 x3 = V1 x3 x1 := by
  funext i
  rw [← val_main_v4_eq]
  pointwise
  rfl

theorem ref_mean2 : val_main_v10 (F := Ideal) x2 x3 = V2 x3 x2 := by
  funext i
  rw [← val_main_v10_eq]
  pointwise
  rfl

end Cert.AdamPlRefIdeal.RefValue
-- ==== Proof.AdamSlabClaims.lean ====
/- The claims about this call, from the runs. -/
module

public import proofs.«01_k».proof.Defs
public import proofs.«01_k».proof.Proof.AdamRows
public import proofs.«01_k».proof.Proof.Gen.AdamSlab.Frame

@[expose] public section

noncomputable section

open Idealize.ShloMosaic Idealize.ShloMosaic.TcCoe Idealize.SL.Sem

namespace Cert.Proof.AdamSlab

open Cert.AdamSlabIdeal.RefValue Cert.AdamSlabIdeal.Value Cert.AdamSlabRefIdeal

theorem frame : Cert.quiescent_AdamSlab (hAdamSlab := Cert.AdamSlab.Gen.facts) := fun m ρ _ => Cert.AdamSlab.Gen.frame m ρ
theorem frame_ideal : Cert.quiescent_AdamSlabIdeal (hAdamSlabIdeal := Cert.AdamSlabIdeal.Gen.facts) := fun m ρ _ => Cert.AdamSlabIdeal.Gen.frame m ρ
theorem frame_ref : Cert.quiescent_AdamSlabRefIdeal (hAdamSlabRefIdeal := Cert.AdamSlabRefIdeal.Gen.facts) := fun m ρ _ =>
  (θ_run Cert.AdamSlabRefIdeal.defs _ _).mono (fun r h => ⟨fun c => (h c).2.2.2, sem_eq_zero_of_no_sems (by decide) r.2⟩)
    (Cert.AdamSlabRefIdeal.Value.run (F := Ideal) m ρ)

theorem algebraic : Cert.algebraic_AdamSlabIdeal_AdamSlabRefIdeal (hAdamSlabIdeal := Cert.AdamSlabIdeal.Gen.facts) (hAdamSlabRefIdeal := Cert.AdamSlabRefIdeal.Gen.facts) := by
  intro m ρ m' ρ' _ hagree
  refine ⟨fun c => D (A0 m c) (A1 m c) (A2 m c) (A3 m c), fun c => V1 (A0 m c) (A2 m c), fun c => V2 (A0 m c) (A3 m c), ?_, ?_⟩
  · exact (θ_run Cert.AdamSlabIdeal.defs _ _).mono (fun r h c => ⟨(h c).1.trans (change_eq m c), (h c).2.1.trans (mean1_eq m c), (h c).2.2.1.trans (mean2_eq m c), (h c).2.2.2⟩) (Cert.AdamSlabIdeal.Value.run_blocks (F := Ideal) m ρ)
  · refine (θ_run Cert.AdamSlabRefIdeal.defs _ _).mono (fun r h c => ⟨(h c).1.trans ?_, (h c).2.1.trans ?_, (h c).2.2.1.trans ?_, (h c).2.2.2⟩) (Cert.AdamSlabRefIdeal.Value.run (F := Ideal) m' ρ')
    · refine (Read.val_main_v23_eq _ _ _ _).trans ((RefValue.ref_change _ _ _ _).trans ?_)
      simp only [hagree c, A0, A1, A2, A3]
    · refine (Read.val_main_v4_eq _ _).trans ((RefValue.ref_mean1 _ _).trans ?_)
      simp only [hagree c, A0, A2]
    · refine (Read.val_main_v10_eq _ _).trans ((RefValue.ref_mean2 _ _).trans ?_)
      simp only [hagree c, A0, A3]

end Cert.Proof.AdamSlab

end
-- ==== Proof.AdamPlClaims.lean ====
/- The claims about this call, from the runs. -/
module

public import proofs.«01_k».proof.Defs
public import proofs.«01_k».proof.Proof.AdamRows
public import proofs.«01_k».proof.Proof.Gen.AdamPl.Frame

@[expose] public section

noncomputable section

open Idealize.ShloMosaic Idealize.ShloMosaic.TcCoe Idealize.SL.Sem

namespace Cert.Proof.AdamPl

open Cert.AdamPlIdeal.RefValue Cert.AdamPlIdeal.Value Cert.AdamPlRefIdeal

theorem frame : Cert.quiescent_AdamPl (hAdamPl := Cert.AdamPl.Gen.facts) := fun m ρ _ => Cert.AdamPl.Gen.frame m ρ
theorem frame_ideal : Cert.quiescent_AdamPlIdeal (hAdamPlIdeal := Cert.AdamPlIdeal.Gen.facts) := fun m ρ _ => Cert.AdamPlIdeal.Gen.frame m ρ
theorem frame_ref : Cert.quiescent_AdamPlRefIdeal (hAdamPlRefIdeal := Cert.AdamPlRefIdeal.Gen.facts) := fun m ρ _ =>
  (θ_run Cert.AdamPlRefIdeal.defs _ _).mono (fun r h => ⟨fun c => (h c).2.2.2, sem_eq_zero_of_no_sems (by decide) r.2⟩)
    (Cert.AdamPlRefIdeal.Value.run (F := Ideal) m ρ)

theorem algebraic : Cert.algebraic_AdamPlIdeal_AdamPlRefIdeal (hAdamPlIdeal := Cert.AdamPlIdeal.Gen.facts) (hAdamPlRefIdeal := Cert.AdamPlRefIdeal.Gen.facts) := by
  intro m ρ m' ρ' _ hagree
  refine ⟨fun c => D (A0 m c) (A1 m c) (A2 m c) (A3 m c), fun c => V1 (A3 m c) (A1 m c), fun c => V2 (A3 m c) (A2 m c), ?_, ?_⟩
  · exact (θ_run Cert.AdamPlIdeal.defs _ _).mono (fun r h c => ⟨(h c).1.trans (change_eq m c), (h c).2.1.trans (mean1_eq m c), (h c).2.2.1.trans (mean2_eq m c), (h c).2.2.2⟩) (Cert.AdamPlIdeal.Value.run_blocks (F := Ideal) m ρ)
  · refine (θ_run Cert.AdamPlRefIdeal.defs _ _).mono (fun r h c => ⟨(h c).1.trans ?_, (h c).2.1.trans ?_, (h c).2.2.1.trans ?_, (h c).2.2.2⟩) (Cert.AdamPlRefIdeal.Value.run (F := Ideal) m' ρ')
    · refine (Read.val_main_v23_eq _ _ _ _).trans ((RefValue.ref_change _ _ _ _).trans ?_)
      simp only [hagree c, A0, A1, A2, A3]
    · refine (Read.val_main_v4_eq _ _).trans ((RefValue.ref_mean1 _ _).trans ?_)
      simp only [hagree c, A3, A1]
    · refine (Read.val_main_v10_eq _ _).trans ((RefValue.ref_mean2 _ _).trans ?_)
      simp only [hagree c, A3, A2]

end Cert.Proof.AdamPl

end
-- ==== Proof.Sums.lean ====
/- The sums that end a reduce-scatter: of the four chips' parts and of the eight devices'. -/
module

public import proofs.«01_k».proof.Proof.Gen.Red4Ideal.Value
public import proofs.«01_k».proof.Proof.Gen.Red4RefIdeal.Read
public import proofs.«01_k».proof.Proof.Gen.Sum8Ideal.Value
public import proofs.«01_k».proof.Proof.Gen.Sum8RefIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Red4Ideal.RefValue

open Cert.Red4Ideal Cert.Red4Ideal.Gen

def G (x0 : S4x4x1024x1408.Idx → EReal) : S4x1024x1408.Idx → EReal := fun i => ∑ p : Fin 4, x0 (ix4 (i 0) p (i 1) (i 2))

theorem out_eq (x0 : Vec Ideal S1x4x128x1408 .bf16) (r : Fin 128) (k : Fin 1408) :
    out0_1 x0 (ix3 0 r k) = ∑ p : Fin 4, x0 (ix4 0 p r k) := by
  canon_tiles x h
  obtain rfl : r = x 1 := Fin.ext h1
  obtain rfl : k = x 2 := Fin.ext h2
  unfold_payloads
  pointwise
  rw [Fin.sum_univ_four]

section arrays
variable (m : (ℓ : Loc nD τ sig) → Buf (Elt Ideal) ℓ) (c : Dev nD)

abbrev A0 : S4x4x1024x1408.Idx → EReal := m ((c : Thread nD τ).loc main_arg0)

theorem index_facts : ∀ t : Fin cfg0.N, win0_0.index t = ![t.val / 8, 0, t.val % 8, 0] ∧ win0_1.index t = ![t.val / 8, t.val % 8, 0] :=
  (by decide +kernel : ∀ t : Fin grid0.N, _)

/-- Block `t`'s layer, and its row `r` among all rows. -/
def ly (t : Fin cfg0.N) : Fin 4 := ⟨t.val / 8, by have := t.isLt; have h : cfg0.N = 32 := N_0; omega⟩
def rw' (t : Fin cfg0.N) (r : Fin 128) : Fin 1024 := ⟨t.val % 8 * 128 + r.val, by omega⟩

theorem blk0 (t : Fin cfg0.N) (p : Fin 4) (r : Fin 128) (k : Fin 1408) :
    iblk m c 0 t (ix4 0 p r k) = A0 m c (ix4 (ly t) p (rw' t r) k) := by
  have h := index_facts t
  blk_ext [iblk, V_main_arg0, h.1, ly, rw']

theorem final : (dats m 0 c).arrAt 1 cfg0.N = G (A0 m c) := by
  refine (dats m 0 c).arrAt_eq_of_covers 1 _ (by decide +kernel) fun t hf y => ?_
  have h := index_facts t
  obtain ⟨l, r, k, rfl⟩ : ∃ l r k, y = ix3 (n0 := 1) (n1 := 128) (n2 := 1408) l r k := ⟨y 0, y 1, y 2, by funext a; fin_cases a <;> rfl⟩
  obtain rfl : l = 0 := Subsingleton.elim _ _
  have he : ((cfg0.win 1).blk t).view.emb (ix3 0 r k) = ix3 (n0 := 4) (n1 := 1024) (n2 := 1408) (ly t) (rw' t r) k := by
    blk_ext [h.2, ly, rw']
  rw [he]
  blk_simp [after0_1]
  rw [out_eq]
  simp only [blk0]
  rfl

end arrays

end Cert.Red4Ideal.RefValue

namespace Cert.Red4RefIdeal.RefValue

open Cert.Red4RefIdeal Cert.Red4RefIdeal.Gen Cert.Red4RefIdeal.Read

theorem ref_eq (x0 : S4x4x1024x1408.Idx → EReal) : val_main_v1 (F := Ideal) x0 = Cert.Red4Ideal.RefValue.G x0 := by
  funext i
  obtain ⟨l, r, k, rfl⟩ : ∃ l r k, i = ix3 (n0 := 4) (n1 := 1024) (n2 := 1408) l r k := ⟨i 0, i 1, i 2, by funext a; fin_cases a <;> rfl⟩
  rw [← val_main_v1_eq]
  pointwise
  rfl

end Cert.Red4RefIdeal.RefValue

namespace Cert.Sum8Ideal.RefValue

open Cert.Sum8Ideal Cert.Sum8Ideal.Gen

def G (x0 : S8x80x1024.Idx → EReal) : S80x1024.Idx → EReal := fun i => ∑ d : Fin 8, x0 (ix3 d (i 0) (i 1))

variable (m : (ℓ : Loc nD τ sig) → Buf (Elt Ideal) ℓ) (c : Dev nD)

abbrev A0 : S8x80x1024.Idx → EReal := m ((c : Thread nD τ).loc main_arg0)

theorem index_facts : ∀ t : Fin cfg0.N, win0_0.index t = ![0, 0, 0] ∧ win0_1.index t = ![0, 0] :=
  (by decide +kernel : ∀ t : Fin grid0.N, _)

theorem out_eq (x0 : Vec Ideal S8x80x1024 .f32) (a : Fin 80) (b : Fin 1024) : out0_1 x0 (ix2 a b) = ∑ d : Fin 8, x0 (ix3 d a b) := by
  canon_tiles x h
  obtain rfl : a = x 0 := Fin.ext h0
  obtain rfl : b = x 1 := Fin.ext h1
  unfold_payloads
  pointwise
  rw [Fin.sum_univ_eight]

theorem blk0 (t : Fin cfg0.N) (d : Fin 8) (a : Fin 80) (b : Fin 1024) : iblk m c 0 t (ix3 d a b) = A0 m c (ix3 d a b) := by
  have h := index_facts t
  blk_ext [iblk, V_main_arg0, h.1]

theorem final : (dats m 0 c).arrAt 1 cfg0.N = G (A0 m c) := by
  refine (dats m 0 c).arrAt_eq_of_covers 1 _ (by decide +kernel) fun t hf y => ?_
  have h := index_facts t
  obtain ⟨a, b, rfl⟩ : ∃ a b, y = ix2 (n0 := 80) (n1 := 1024) a b := ⟨y 0, y 1, eq_ix2 y⟩
  have he : ((cfg0.win 1).blk t).view.emb (ix2 a b) = ix2 (n0 := 80) (n1 := 1024) a b := by blk_ext [h.2]
  rw [he]
  blk_simp [after0_1]
  rw [out_eq]
  simp only [blk0]
  rfl

end Cert.Sum8Ideal.RefValue

namespace Cert.Sum8RefIdeal.RefValue

open Cert.Sum8RefIdeal Cert.Sum8RefIdeal.Gen Cert.Sum8RefIdeal.Read

theorem ref_eq (x0 : S8x80x1024.Idx → EReal) : val_main_v0 (F := Ideal) x0 = Cert.Sum8Ideal.RefValue.G x0 := by
  funext i
  obtain ⟨a, b, rfl⟩ : ∃ a b, i = ix2 (n0 := 80) (n1 := 1024) a b := ⟨i 0, i 1, eq_ix2 i⟩
  rw [← val_main_v0_eq]
  pointwise
  rfl

end Cert.Sum8RefIdeal.RefValue

end
-- ==== Proof.Red4Claims.lean ====
/- The claims about this call, from the runs. -/
module

public import proofs.«01_k».proof.Defs
public import proofs.«01_k».proof.Proof.Sums
public import proofs.«01_k».proof.Proof.Gen.Red4.Frame

@[expose] public section

noncomputable section

open Idealize.ShloMosaic Idealize.ShloMosaic.TcCoe Idealize.SL.Sem

namespace Cert.Proof.Red4

open Cert.Red4Ideal.RefValue Cert.Red4Ideal.Value Cert.Red4RefIdeal

theorem frame : Cert.quiescent_Red4 (hRed4 := Cert.Red4.Gen.facts) := fun m ρ _ => Cert.Red4.Gen.frame m ρ
theorem frame_ideal : Cert.quiescent_Red4Ideal (hRed4Ideal := Cert.Red4Ideal.Gen.facts) := fun m ρ _ => Cert.Red4Ideal.Gen.frame m ρ
theorem frame_ref : Cert.quiescent_Red4RefIdeal (hRed4RefIdeal := Cert.Red4RefIdeal.Gen.facts) := fun m ρ _ =>
  (θ_run Cert.Red4RefIdeal.defs _ _).mono (fun r h => ⟨fun c => (h c).2, sem_eq_zero_of_no_sems (by decide) r.2⟩)
    (Cert.Red4RefIdeal.Value.run (F := Ideal) m ρ)

theorem algebraic : Cert.algebraic_Red4Ideal_Red4RefIdeal (hRed4Ideal := Cert.Red4Ideal.Gen.facts) (hRed4RefIdeal := Cert.Red4RefIdeal.Gen.facts) := by
  intro m ρ m' ρ' _ hagree
  refine ⟨fun c => G (A0 m c), ?_, ?_⟩
  · exact (θ_run Cert.Red4Ideal.defs _ _).mono (fun r h c => ⟨(h c).1.trans (final m c), (h c).2⟩) (Cert.Red4Ideal.Value.run_blocks (F := Ideal) m ρ)
  · refine (θ_run Cert.Red4RefIdeal.defs _ _).mono (fun r h c => ⟨(h c).1.trans ?_, (h c).2⟩) (Cert.Red4RefIdeal.Value.run (F := Ideal) m' ρ')
    refine (Read.val_main_v1_eq _).trans ((RefValue.ref_eq _).trans ?_)
    simp only [hagree c, A0]

end Cert.Proof.Red4

end
-- ==== Proof.Sum8Claims.lean ====
/- The claims about this call, from the runs. -/
module

public import proofs.«01_k».proof.Defs
public import proofs.«01_k».proof.Proof.Sums
public import proofs.«01_k».proof.Proof.Gen.Sum8.Frame

@[expose] public section

noncomputable section

open Idealize.ShloMosaic Idealize.ShloMosaic.TcCoe Idealize.SL.Sem

namespace Cert.Proof.Sum8

open Cert.Sum8Ideal.RefValue Cert.Sum8Ideal.Value Cert.Sum8RefIdeal

theorem frame : Cert.quiescent_Sum8 (hSum8 := Cert.Sum8.Gen.facts) := fun m ρ _ => Cert.Sum8.Gen.frame m ρ
theorem frame_ideal : Cert.quiescent_Sum8Ideal (hSum8Ideal := Cert.Sum8Ideal.Gen.facts) := fun m ρ _ => Cert.Sum8Ideal.Gen.frame m ρ
theorem frame_ref : Cert.quiescent_Sum8RefIdeal (hSum8RefIdeal := Cert.Sum8RefIdeal.Gen.facts) := fun m ρ _ =>
  (θ_run Cert.Sum8RefIdeal.defs _ _).mono (fun r h => ⟨fun c => (h c).2, sem_eq_zero_of_no_sems (by decide) r.2⟩)
    (Cert.Sum8RefIdeal.Value.run (F := Ideal) m ρ)

theorem algebraic : Cert.algebraic_Sum8Ideal_Sum8RefIdeal (hSum8Ideal := Cert.Sum8Ideal.Gen.facts) (hSum8RefIdeal := Cert.Sum8RefIdeal.Gen.facts) := by
  intro m ρ m' ρ' _ hagree
  refine ⟨fun c => G (A0 m c), ?_, ?_⟩
  · exact (θ_run Cert.Sum8Ideal.defs _ _).mono (fun r h c => ⟨(h c).1.trans (final m c), (h c).2⟩) (Cert.Sum8Ideal.Value.run_blocks (F := Ideal) m ρ)
  · refine (θ_run Cert.Sum8RefIdeal.defs _ _).mono (fun r h c => ⟨(h c).1.trans ?_, (h c).2⟩) (Cert.Sum8RefIdeal.Value.run (F := Ideal) m' ρ')
    refine (Read.val_main_v0_eq _).trans ((RefValue.ref_eq _).trans ?_)
    simp only [hagree c, A0]

end Cert.Proof.Sum8

end
-- ==== Proof.SwapBody.lean ====
/-
The exchange between the two devices of a pair, its kernel: each device sends the whole of its argument into the result
array of the other, then waits for its own copy to have left and for the other's to have arrived. Neither array is a
window and neither is allocated by the launch, so a copy may land before the receiver has started; what makes this
sound is that the receiver's result array belongs to the sender from the start.
-/
module

public import proofs.«01_k».proof.Proof.Gen.Swap
public import proofs.«01_k».proof.Proof.Gen.Swap.Skeleton
public import proofs.«01_k».proof.Proof.Gen.Swap.Launch
public import Idealize.ShloMosaic.Lib.Pipeline.Launch
public import Idealize.ShloMosaic.Lib.Pipeline.Kit
public import Idealize.ShloMosaic.Lib.Tactic

@[expose] public section

noncomputable section

namespace Cert.Pairwise

open Cert.Swap Cert.Swap.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

/-- One copy of the rounds' algebra for the launch, one for the exchange. -/
abbrev UU : Type := UR sig nD τ × UR sig nD τ
abbrev MM (F : FTy → Type) [FloatOps F] := MT nD τ sig Unit (Elt F) ℕ UU ℕ
abbrev EL : Emb (UR sig nD τ) (MM F) := embL
abbrev EX : Emb (UR sig nD τ) (MM F) := embR

variable (m : (ℓ : Loc nD τ sig) → Buf (Elt F) ℓ)

/-! ## The two devices -/

/-- The other device of the pair. -/
def other (c : Dev nD) : Dev nD := ⟨1 - c.val, by show 1 - c.val < 2; omega⟩

theorem other_other (c : Dev nD) : other (other c) = c := by revert c; decide
theorem target_eq (c : Dev nD) : (⟨k0_dev1 c, k0_dev1_lt c⟩ : Dev nD) = other c := by revert c; decide +kernel
def turn : Dev nD ≃ Dev nD := ⟨other, other, other_other, other_other⟩

/-! ## Arrays and cells -/

abbrev src : Memref sig .tc .hbm S2x1024x512 .f32 := Memref.whole main_arg0
abbrev dst : Memref sig .tc .hbm S2x1024x512 .f32 := Memref.whole main_v1
abbrev outS : DmaSems sig S_ := (cc0_scratch0.slice (Rect.unit (s := S1) ![0] S1.size inb_S1_S1_0)).squeeze S_ squeezes_S1_S_
abbrev inS : DmaSems sig S_ := (cc0_scratch1.slice (Rect.unit (s := S1) ![0] S1.size inb_S1_S1_0)).squeeze S_ squeezes_S1_S_

abbrev sm : Fin 2 → SemLoc sig := fun | 0 => .dma outS.sem | 1 => .dma inS.sem
abbrev cell (ck : Dev nD × Fin 2) : GSem nD τ sig := ((ck.1 : Thread nD τ), sm ck.2)

theorem sm_ne : sm 0 ≠ sm 1 := by decide
theorem sm_inj : Function.Injective sm := by decide

/-- What one copy credits. -/
abbrev amt : ℕ := dst.view.dmaCredit
theorem amt_pos : 0 < amt := View.dmaCredit_pos _ (by decide)

/-- A device's argument, and its result array at given contents. -/
def srcHeld (c : Dev nD) : sProp (MM F) := src.view.loc (c : Thread nD τ) ↦[src.view.set]{fullShare} m ((c : Thread nD τ).loc main_arg0)
def dstHeld (c : Dev nD) (f : Buf (Elt F) (dst.view.loc (c : Thread nD τ))) : sProp (MM F) :=
  dst.view.loc (c : Thread nD τ) ↦[dst.view.set]{fullShare} f
def arrived (c : Dev nD) : Buf (Elt F) (dst.view.loc (c : Thread nD τ)) := m ((other c : Thread nD τ).loc main_arg0)

instance srcHeld_storable (c : Dev nD) : BI.Storable (upEmb : UEmb _ (MM F)) (srcHeld m c) := by unfold srcHeld; infer_instance
instance dstHeld_storable (c : Dev nD) (f) : BI.Storable (upEmb : UEmb _ (MM F)) (dstHeld (F := F) c f) := by unfold dstHeld; infer_instance

theorem srcHeld_eq (c : Dev nD) : srcHeld m c = (((c : Thread nD τ).loc main_arg0) ↦{fullShare} m ((c : Thread nD τ).loc main_arg0) : sProp (MM F)) := by
  unfold srcHeld; rw [View.set_whole]
theorem dstHeld_eq (c : Dev nD) (f) : dstHeld c f = (((c : Thread nD τ).loc main_v1) ↦{fullShare} f : sProp (MM F)) := by
  unfold dstHeld; rw [View.set_whole]

theorem arrived_eq (f : Buf (Elt F) (dst.view.loc (Dev.tc 0 : Thread nD τ))) (g : (main_arg0 : Ref sig .tc).ty.Contents (Elt F)) :
    dst.view.write (Elt F) f (src.view.read (Elt F) g) Finset.univ = g := by
  show (View.whole main_v1).write (Elt F) f ((View.whole main_arg0).read (Elt F) g) Finset.univ = g
  rw [View.read_whole]; exact View.write_whole_univ _ _ _

/-! ## The schedule: every cell is paid once, by one copy -/

def sched : Rounds.Schedule (GSem nD τ sig) Unit (MM F) where
  duties _ r := if r = 0 then {()} else ∅
  unitless _ := False
  amount _ _ _ := amt
  payload g _ _ := if g.2 = sm 1 then dstHeld g.1.1 (arrived m g.1.1) else srcHeld m g.1.1
  amount_pos _ _ _ _ := amt_pos

instance sched_storable (g : GSem nD τ sig) (r : ℕ) (d : Unit) : BI.Storable (upEmb : UEmb _ (MM F)) ((sched m).payload g r d) := by
  show BI.Storable upEmb (if g.2 = sm 1 then dstHeld g.1.1 (arrived m g.1.1) else srcHeld m g.1.1)
  split <;> infer_instance

theorem duty (g : GSem nD τ sig) : (sched m).duties g 0 = {()} := rfl
theorem no_duty (g : GSem nD τ sig) : ∀ r, 1 ≤ r → (sched m).duties g r = ∅ := fun r hr => if_neg (by omega)
theorem expects (g : GSem nD τ sig) : (sched m).expect g 0 = amt := by
  unfold Schedule.expect Schedule.amountOf; rw [duty, Finset.sum_singleton]; rfl
theorem pay_out (c : Dev nD) (u : Unit) : (sched m).payload (cell (c, 0)) 0 u = srcHeld m c := by
  dsimp only [sched]; exact if_neg sm_ne
theorem pay_in (c : Dev nD) (u : Unit) : (sched m).payload (cell (c, 1)) 0 u = dstHeld c (arrived m c) := by
  dsimp only [sched]; exact if_pos rfl
theorem rest (g : GSem nD τ sig) : bigSep ((sched m).duties g 0 \ ∅) (fun u => (sched m).payload g 0 u) = (sched m).payload g 0 () := by
  rw [Finset.sdiff_empty, duty, bigSep_singleton]

/-! ## What a device holds -/

/-- A device owes the other one's receive cell the credit of its copy. -/
def due (c : Dev nD) : CellTallies nD τ sig Unit := tallyAt (cell (other c, 1)) () amt

def known (K : Dev nD × Fin 2 → ℕ) (c : Dev nD) : sProp (MM F) :=
  iprop((cellInv EX (sched m) (K (c, 0)) (cell (c, 0)) ∗ cellInv EX (sched m) (K (c, 1)) (cell (c, 1))
      ∗ cellInv EX (sched m) (K (other c, 1)) (cell (other c, 1)))
    ∗ reached EX (cell (c, 0)) 0 ∗ reached EX (cell (other c, 1)) 0)
instance known_persistent (K : Dev nD × Fin 2 → ℕ) (c : Dev nD) : BI.Persistent (known m K c) := by unfold known; infer_instance

def mine (c : Dev nD) : sProp (MM F) :=
  iprop((atPos EX (cell (c, 0)) 0 ∅ 0 ∗ atPos EX (cell (c, 1)) 0 ∅ 0)
    ∗ (dutyTok EX (cell (c, 0)) 0 () ∗ dutyTok EX (cell (other c, 1)) 0 ())
    ∗ srcHeld m c ∗ ∃ f, dstHeld (other c) f)

/-- Before the exchange: its own argument, the other's result array, and its part in the protocol. -/
def before (c : Dev nD) : sProp (MM F) := iprop((∃ K, known m K c ∗ mine m c) ∗ cred (tallyAt (cell (c, 1)) () amt))
/-- After it: its own argument again, and its own result array with what the other sent. -/
def held (c : Dev nD) : sProp (MM F) := iprop(srcHeld m c ∗ dstHeld c (arrived m c))
def afterwards (c : Dev nD) : sProp (MM F) := iprop(held m c ∗ semVal (cell (c, 0)) 0 ∗ semVal (cell (c, 1)) 0)

def dats (_ : Fin 1) (c : Dev nD) : Dat τ (Elt F) Unit ℕ UU ℕ cfg0 c where
  A w := w.elim0
  after w _ := w.elim0
  Φ t := match t with
    | ⟨0, _⟩ => before m c
    | ⟨_ + 1, _⟩ => afterwards m c
  q _ := fullShare
  owed t := match t with
    | ⟨0, _⟩ => due c
    | ⟨_ + 1, _⟩ => 0

/-! ## The kernel -/

theorem send_other (K : Dev nD × Fin 2 → ℕ) (c n : Dev nD) (hn : n = other c) {hsc : (dst : Memref sig (Dev.tc n : Thread nD τ).2.kind .hbm S2x1024x512 .f32).view.ref.isScScratch = false}
    {hsrc : src.view.WordExact} {hdst : dst.view.WordExact}
    {hsem : DmaTarget.Typed .hbm (.dma inS.sem) (.remote (Dev.tc n : Thread nD τ) (dst : Memref sig .tc .hbm S2x1024x512 .f32) (.dma outS.sem) hsc)}
    {α : Type} {Q : α → sProp (MM F)} {k : PUnit → Prog (TpuEff nD τ sig (Elt F) Λ₀ .tc) α}
    (fn : Buf (Elt F) (dst.view.loc (other c : Thread nD τ))) (W : Waits sig Unit) :
    iprop(cellInv EX (sched m) (K (c, 0)) (cell (c, 0)) ∗ cellInv EX (sched m) (K (other c, 1)) (cell (other c, 1))
        ∗ srcHeld m c ∗ dstHeld (other c) fn ∗ owes (c : Thread nD τ) (due c) W
        ∗ dutyTok EX (cell (c, 0)) 0 () ∗ reached EX (cell (c, 0)) 0 ∗ dutyTok EX (cell (other c, 1)) 0 () ∗ reached EX (cell (other c, 1)) 0)
      ⊢ iprop(((cred (tallyAt (cell (c, 0)) () amt) ∗ owes (c : Thread nD τ) 0 W) -∗ wp frame (wpE (defs₀ (F := F)) Variants.none (c : Thread nD τ) none) Set.univ (k ⟨⟩) Q)
          -∗ wp frame (wpE (defs₀ (F := F)) Variants.none (c : Thread nD τ) none) Set.univ
              (.op (.enqueueDma src (.remote (Dev.tc n : Thread nD τ) dst (.dma outS.sem) hsc) (.dma inS.sem) hsrc hdst hsem) k) Q) := by
  subst hn
  unfold srcHeld dstHeld due
  exact Rounds.wp_send_pointsTo Variants.none EX (sched m) (c : Thread nD τ) none (κ₁ := K (c, 0)) (κ₂ := K (other c, 1))
    (r₁ := 0) (r₂ := 0) (d₁ := ()) (d₂ := ()) (fd := fn)
    (by rw [duty]; exact Finset.mem_singleton_self _) (by rw [duty]; exact Finset.mem_singleton_self _)
    () () amt rfl rfl rfl 0 (by rw [zero_add]) (W := W)
    (by rw [pay_out]; exact BI.Entails.refl _)
    (by rw [pay_in]; unfold dstHeld arrived; rw [other_other]; exact Entails.of_eq (congrArg _ (arrived_eq _ _)))

theorem dats_owed₀ (c : Dev nD) : (dats m 0 c).owed t0_0.castSucc = due c := rfl
theorem dats_owed₁ (c : Dev nD) : (dats m 0 c).owed t0_0.succ = 0 := rfl

theorem wp_exchange (K : Dev nD × Fin 2 → ℕ) (c : Dev nD) (Kt : PUnit → sProp (MM F)) :
    iprop((known m K c ∗ mine m c ∗ cred (tallyAt (cell (c, 1)) () amt) ∗ (dats m 0 c).owesAt () t0_0.castSucc)
        ∗ ((afterwards m c ∗ (dats m 0 c).owesAt () t0_0.succ) -∗ Kt ⟨⟩))
      ⊢ wp frame (wpE (defs₀ (F := F)) Variants.none (c : Thread nD τ) none) Set.univ
          (cc0_swap_siblings src (Memref.isWhole_whole _) dst (Memref.isWhole_whole _) cc0_scratch0 cc0_scratch1) Kt := by
  simp only [cc0_swap_siblings_eq_skeleton]; unfold cc0_swap_siblings_skel
  simp only [Prog.lift, Prog.bind_op, Prog.bind_ret, Prog.pure_eq_ret, wp_deviceId]
  unfold known mine Dat.owesAt Pipeline.owesWithin
  rw [dats_owed₀, dats_owed₁]
  iintro ⟨⟨⟨⟨#HIout, #HIin, #HIoth⟩, #HRout, #HRoth⟩, ⟨⟨Hpout, Hpin⟩, ⟨Htout, Htoth⟩, Hsrc, ⟨%fn, Hdst⟩⟩, Hcr, ⟨%W, %hW, HO⟩⟩, Hk⟩
  iapply (send_other m K c _ (target_eq c) fn W) $$ [Hsrc Hdst HO Htout Htoth]
  · isplitr; · iexact HIout
    isplitr; · iexact HIoth
    isplitl [Hsrc]; · iexact Hsrc
    isplitl [Hdst]; · iexact Hdst
    isplitl [HO]; · iexact HO
    isplitl [Htout]; · iexact Htout
    isplitr; · iexact HRout
    isplitl [Htoth]; · iexact Htoth
    iexact HRoth
  iintro ⟨Hco, HO⟩
  iapply (Rounds.wp_wait_rest_token Variants.none EX (sched m) (c : Thread nD τ) none (κ := K (c, 0))
      (wpE_waitDma2_eq Variants.none (c : Thread nD τ) none Set.univ) (Set.mem_univ _) () (O := 0) (W := W) (R := 0) (m := 0) (T := ∅)
      (by rw [Nat.zero_add, expects])) $$ [Hco HO Hpout]
  · isplitr; · iexact HIout
    isplitl [Hco]; · iexact Hco
    isplitl [HO]; · iexact HO
    isplitr; · rw [MayWait_zero]; iempintro
    iexact Hpout
  iintro ⟨HO, Hpout, -, Hpay⟩
  ihave Hsrc := (Entails.of_eq ((rest m _).trans (pay_out m c ()))) $$ Hpay
  iapply (Rounds.wp_wait_rest_token Variants.none EX (sched m) (c : Thread nD τ) none (κ := K (c, 1))
      (wpE_waitDma2_eq Variants.none (c : Thread nD τ) none Set.univ) (Set.mem_univ _) () (O := 0)
      (W := insert (sm 0, ()) W) (R := 0) (m := 0) (T := ∅)
      (by rw [Nat.zero_add, expects])) $$ [Hcr HO Hpin]
  · isplitr; · iexact HIin
    isplitl [Hcr]; · iexact Hcr
    isplitl [HO]; · iexact HO
    isplitr; · rw [MayWait_zero]; iempintro
    iexact Hpin
  iintro ⟨HO, Hpin, -, Hpay⟩
  ihave Hdst := (Entails.of_eq ((rest m _).trans (pay_in m c ()))) $$ Hpay
  imod (Rounds.cell_close EX (sched m) (Set.mem_univ (K (c, 0))) (fun h => h) (R := 0 + 1) (no_duty m (cell (c, 0)))) $$ [Hpout] with Hzo
  · isplitr; · iexact HIout
    iexact Hpout
  imod (Rounds.cell_close EX (sched m) (Set.mem_univ (K (c, 1))) (fun h => h) (R := 0 + 1) (no_duty m (cell (c, 1)))) $$ [Hpin] with Hzi
  · isplitr; · iexact HIin
    iexact Hpin
  rw [wp_ret]; imodintro
  iapply Hk
  unfold afterwards held
  isplitr [HO]
  · isplitl [Hsrc Hdst]; · isplitl [Hsrc] <;> iassumption
    isplitl [Hzo] <;> iassumption
  · iexists (insert (sm 1, ()) (insert (sm 0, ()) W))
    isplitr; · ipureintro; exact fun _ _ => Or.inl trivial
    iexact HO

theorem no_window (Φ : Fin cfg0.W → sProp (MM F)) : bigSep Finset.univ Φ = (BI.emp : sProp (MM F)) := BI.bigSep_empty

theorem body_obligation (c : Dev nD) : BodyObligation (dats (F := F) m 0 c) (defs₀ (F := F)) Variants.none () Set.univ := fun t => by
  rw [fin_N0 t, no_window, no_window]
  show iprop(before m c ∗ (dats m 0 c).owesAt () t0_0.castSucc ∗ emp) ⊢ wp frame (wpE (defs₀ (F := F)) Variants.none (c : Thread nD τ) none) Set.univ
    (cc0_swap_siblings src (Memref.isWhole_whole _) dst (Memref.isWhole_whole _) cc0_scratch0 cc0_scratch1)
    (fun _ => iprop(afterwards m c ∗ (dats m 0 c).owesAt () t0_0.succ ∗ emp))
  unfold before
  iintro ⟨⟨⟨%K, #Hkn, Hmi⟩, Hcr⟩, Ho, -⟩
  iapply (wp_exchange m K c fun _ => iprop(afterwards m c ∗ (dats m 0 c).owesAt () t0_0.succ ∗ emp))
  isplitl
  · isplitr; · iexact Hkn
    isplitl [Hmi]; · iexact Hmi
    isplitl [Hcr] <;> iassumption
  · iintro ⟨Ha, Ho⟩
    isplitl [Ha]; · iexact Ha
    isplitl [Ho]; · iexact Ho
    iempintro

end Cert.Pairwise

end
-- ==== Proof.SwapRun.lean ====
/-
The exchange between the two devices of a pair, its launch: the two result arrays are dealt out crosswise before either
device starts, the cells' records are made once for both devices, and at the end each device's memory is read.
-/
module

public import proofs.«01_k».proof.Proof.SwapBody

@[expose] public section

noncomputable section

namespace Cert.Pairwise

open Cert.Swap Cert.Swap.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F] (m : (ℓ : Loc nD τ sig) → Buf (Elt F) ℓ)

/-! ## The protocol's resources -/

theorem own_facts : Pipeline.OwnSemFacts cfg0.spec sm := by decide

theorem cell_inj : Function.Injective (cell : Dev nD × Fin 2 → GSem nD τ sig) := by
  rintro ⟨c, k⟩ ⟨c', k'⟩ h
  have h1 : c = c' := congrArg (fun g : GSem nD τ sig => g.1.1) h
  have h2 : k = k' := sm_inj (congrArg Prod.snd h)
  rw [h1, h2]

def ourCells : Finset (GSem nD τ sig) := Finset.univ.map ⟨cell, cell_inj⟩
def ourToks : Finset (GSem nD τ sig × ℕ × Unit) :=
  Finset.univ.map ⟨fun ck => (cell ck, 0, ()), fun _ _ h => cell_inj (congrArg Prod.fst h)⟩

def u₀ : UU := (initOf (Pipeline.cells cfgs cellOf_inj) (Pipeline.launchToks cfgs cellOf_inj), initOf ourCells ourToks)

theorem both (Φ : Fin 2 → sProp (MM F)) : bigSep Finset.univ Φ = iprop(Φ 0 ∗ Φ 1) :=
  bigSep_univ_eq_bigSepL [0, 1] (by decide) (by decide) Φ

/-- What the start of the machine gives each device of the protocol, cell by cell. -/
def dealt : sProp (MM F) :=
  bigSep Finset.univ fun ck : Dev nD × Fin 2 => iprop(roundState EX (sched m) (cell ck) 0 ∗ reached EX (cell ck) 0
    ∗ atPos EX (cell ck) 0 ∅ 0 ∗ dutyTok EX (cell ck) 0 ())

theorem fund_dealt : BI.own (EX (initOf ourCells ourToks)) ⊢ (|==> dealt m : sProp (MM F)) := by
  have hX (Φ : GSem nD τ sig → sProp (MM F)) : bigSep ourCells Φ = bigSep Finset.univ fun ck => Φ (cell ck) := by
    unfold ourCells; rw [bigSep_map]; rfl
  have hT : bigSep ourToks (fun x => (dutyTok EX x.1 x.2.1 x.2.2 : sProp (MM F))) = bigSep Finset.univ fun ck => dutyTok EX (cell ck) 0 () := by
    unfold ourToks; rw [bigSep_map]; rfl
  refine (Rounds.fund EX (sched m) ourCells ourToks).trans (BI.bupd_mono ?_)
  rw [hX, hX, hX, hT, ← bigSep_sep', ← bigSep_sep', ← bigSep_sep']
  exact BI.Entails.refl _

/-! ## The deal across the pair -/

/-- The records both devices may read. -/
def records (K : Dev nD × Fin 2 → ℕ) : sProp (MM F) :=
  bigSep Finset.univ fun ck : Dev nD × Fin 2 => iprop(cellInv EX (sched m) (K ck) (cell ck) ∗ reached EX (cell ck) 0)
instance records_persistent (K : Dev nD × Fin 2 → ℕ) : BI.Persistent (records m K) := by unfold records; infer_instance

theorem record_at (K : Dev nD × Fin 2 → ℕ) (ck : Dev nD × Fin 2) :
    records m K ⊢ iprop(cellInv EX (sched m) (K ck) (cell ck) ∗ reached EX (cell ck) 0) := bigSep_elim (Finset.mem_univ ck)

theorem known_of_records (K : Dev nD × Fin 2 → ℕ) (c : Dev nD) : records m K ⊢ known m K c := by
  unfold known
  iintro #HR
  ihave H0 := (record_at m K (c, 0)) $$ HR
  ihave H1 := (record_at m K (c, 1)) $$ HR
  ihave H2 := (record_at m K (other c, 1)) $$ HR
  icases H0 with ⟨#HI0, #HR0⟩
  icases H1 with ⟨#HI1, #HR1⟩
  icases H2 with ⟨#HI2, #HR2⟩
  isplitl
  · isplitr; · iexact HI0
    isplitr; · iexact HI1
    iexact HI2
  · isplitr; · iexact HR0
    iexact HR2

theorem share (K : Dev nD × Fin 2 → ℕ) (c : Dev nD) : iprop(records m K ∗ mine m c) ⊢ (iprop(∃ K, known m K c ∗ mine m c) : sProp (MM F)) := by
  iintro ⟨HR, HM⟩
  iexists K
  isplitl [HR]
  · iapply (known_of_records m K c); iexact HR
  · iexact HM

/-- A device's arrays as the machine starts with them. -/
def arrays0 (c : Dev nD) : sProp (MM F) := iprop(srcHeld m c ∗ dstHeld c (m ((c : Thread nD τ).loc main_v1)))

theorem deal : iprop((bigSep Finset.univ fun c : Dev nD => Pipeline.ownSems0 (Ix := Unit) (Name := ℕ) (U := UU) (Lvl := ℕ) (Val := Elt F) (τ := τ) sm c)
      ∗ (bigSep Finset.univ fun c : Dev nD => arrays0 m c) ∗ dealt m)
    ⊢ |={Set.univ}=> bigSep Finset.univ fun c : Dev nD => iprop(∃ K, known m K c ∗ mine m c) := by
  have hS : (bigSep Finset.univ fun c : Dev nD => Pipeline.ownSems0 (Ix := Unit) (Name := ℕ) (U := UU) (Lvl := ℕ) (Val := Elt F) (τ := τ) sm c)
      = (bigSep Finset.univ fun ck : Dev nD × Fin 2 => (semVal (cell ck) 0 : sProp (MM F))) := by
    rw [bigSep_univ_prod]; rfl
  have hI : iprop((bigSep Finset.univ fun ck : Dev nD × Fin 2 => semVal (cell ck) 0) ∗ bigSep Finset.univ fun ck => roundState EX (sched m) (cell ck) 0)
      ⊢ (|={Set.univ}=> bigSep Finset.univ fun ck => iprop(∃ κ : ℕ, cellInv EX (sched m) κ (cell ck)) : sProp (MM F)) := by
    rw [← bigSep_sep']
    exact (bigSep_mono fun ck _ => (Rounds.body_intro EX (sched m) (cell ck)).trans inv_alloc).trans (bigSep_fupd _ _)
  have hM : iprop((bigSep Finset.univ fun ck : Dev nD × Fin 2 => atPos EX (cell ck) 0 ∅ 0)
        ∗ (bigSep Finset.univ fun ck : Dev nD × Fin 2 => dutyTok EX (cell ck) 0 ()) ∗ bigSep Finset.univ fun c : Dev nD => arrays0 m c)
      ⊢ (bigSep Finset.univ fun c : Dev nD => mine m c : sProp (MM F)) := by
    unfold mine arrays0
    simp only [bigSep_univ_prod, both, bigSep_sep', show other 0 = 1 from rfl, show other 1 = 0 from rfl]
    iintro ⟨Hp, ⟨Ht0, ⟨Ht1, Ht2⟩⟩, Hs, ⟨Hd0, Hd1⟩⟩
    isplitl [Hp]; · iexact Hp
    isplitl [Ht0 Ht1 Ht2]
    · isplitl [Ht0]; · iexact Ht0
      isplitl [Ht2] <;> iassumption
    isplitl [Hs]; · iexact Hs
    isplitl [Hd1]
    · iexists _; iexact Hd1
    · iexists _; iexact Hd0
  rw [hS]
  unfold dealt
  simp only [bigSep_sep']
  iintro ⟨Hv, Ha, Hst, #HR, Hp, Ht⟩
  imod hI $$ [Hv Hst] with HI
  · isplitl [Hv] <;> iassumption
  ihave HK := (BI.bigSep_exists_pi Finset.univ (fun (ck : Dev nD × Fin 2) (κ : ℕ) => (cellInv EX (sched m) κ (cell ck) : sProp (MM F)))) $$ HI
  icases HK with ⟨%K, #HI⟩
  ihave HM := hM $$ [Hp Ht Ha]
  · isplitl [Hp]; · iexact Hp
    isplitl [Ht] <;> iassumption
  imodintro
  iapply (show iprop(records m K ∗ bigSep Finset.univ fun c : Dev nD => mine m c) ⊢ (bigSep Finset.univ fun c : Dev nD => iprop(∃ K, known m K c ∗ mine m c) : sProp (MM F)) from
    (sep_mono_left (BI.bigSep_of_persistent Finset.univ (records m K))).trans (by
      rw [← bigSep_sep']
      exact bigSep_mono fun c _ => share m K c))
  isplitr
  · unfold records; rw [bigSep_sep']
    isplitl; · iexact HI
    iexact HR
  · iexact HM

/-! ## The credit of the launch -/

theorem due_at (d c : Dev nD) : due d (cell (c, 1)) () = if d = other c then amt else 0 := by
  unfold due
  rw [tallyAt_apply]
  by_cases h : d = other c
  · subst h; rw [other_other, if_pos ⟨rfl, rfl⟩, if_pos rfl]
  · rw [if_neg (fun ⟨h1, _⟩ => h (by have := (Prod.ext_iff.mp (cell_inj h1)).1; dsimp only at this; rw [this, other_other])), if_neg h]

theorem credit (c : Dev nD) : (Pipeline.launchCred due c : sProp (MM F)) ⊢ cred (tallyAt (cell (c, 1)) () amt) := by
  have h : tallyOn (cell (c, 1)) (launchCredit (Pipeline.owing due) 0 (cell (c, 1))) = (tallyAt (cell (c, 1)) () amt : CellTallies nD τ sig Unit) := by
    unfold tallyAt; refine congrArg _ (Finsupp.ext fun u => ?_); cases u
    rw [Pipeline.launchCredit_owing, Finsupp.single_eq_same, Finset.sum_congr rfl fun d _ => due_at d c, Finset.sum_ite_eq' Finset.univ (other c) fun _ => amt,
      if_pos (Finset.mem_univ _)]
  unfold Pipeline.launchCred
  rw [← h]
  exact bigSep_elim (Finset.mem_univ (sm 1))

/-! ## The run -/

theorem arrays_of (c : Dev nD) : (unscopedBufs c (fun b => m ((c : Thread nD τ).loc b)) : sProp (MM F)) ⊢ arrays0 m c := by
  rw [Pipeline.unscopedBufs_split cfgs 0 winFacts0.arr_unscoped winFacts0.arr_inj c, show (cfgs 0).spec = cfg0.spec from rfl, unscopedRest0_eq]
  unfold arrays0; rw [srcHeld_eq, dstHeld_eq]
  iintro ⟨-, H⟩
  iexact H

/-- What a device's memory holds when both have returned. -/
def Swapped (c : Dev nD) (s : MemSt nD τ sig (Elt F)) : Prop :=
  s.mem ((c : Thread nD τ).loc main_v1) = m ((other c : Thread nD τ).loc main_arg0)
    ∧ s.mem ((c : Thread nD τ).loc main_arg0) = m ((c : Thread nD τ).loc main_arg0)

theorem held_read (c : Dev nD) (s' : Phys nD τ sig (Elt F)) : iprop(held m c ∗ SI s') ⊢ (iprop(⌜Swapped m c s'.mem⌝ ∗ SI s') : sProp (MM F)) := by
  unfold held; rw [srcHeld_eq, dstHeld_eq]
  iintro ⟨⟨Hs, Hd⟩, HSI⟩
  icombine HSI Hs gives %h0
  icombine HSI Hd gives %h1
  isplitr
  · ipureintro; exact ⟨Buf.eq_of_forall_mem_univ h1, Buf.eq_of_forall_mem_univ h0⟩
  · iexact HSI

abbrev adm (p : Fin 1) : (pcfgs (F := F) p).Adm := (cfgs p).toPCfg_adm

/-- Before its program, a device: its scoped storage, what it owes, its part of the protocol. -/
def ready (c : Dev nD) : sProp (MM F) :=
  iprop((scopedBufs (c : Thread nD τ) ∗ Pipeline.cellsSems0 cfgs 0 c ∗ Pipeline.idleSems0 cfgs cellOf_inj 0 own_facts c)
    ∗ owes (c : Thread nD τ) (due c) ∅ ∗ (Pipeline.cellsGhost cfgs EL 0 c ∗ Pipeline.toksInit cfgs EL 0 c) ∗ before m c)
/-- After it: the two arrays, and its scoped semaphores back at zero. -/
def done (c : Dev nD) : sProp (MM F) := iprop(held m c ∗ scopedSems0 (c : Thread nD τ))

theorem sems_split (c : Dev nD) : (scopedSems0 (c : Thread nD τ) : sProp (MM F))
    = iprop((Pipeline.cellsSems0 cfgs 0 c ∗ Pipeline.ownSems0 sm c) ∗ Pipeline.idleSems0 cfgs cellOf_inj 0 own_facts c) :=
  Pipeline.scopedSems0_split cfgs cellOf_inj 0 winFacts0.to₀ own_facts c

theorem core_start (ρ : Dev nD → PrngReg) (c : Dev nD) :
    coreInit (Ix := Unit) (Name := ℕ) (U := UU) (Lvl := ℕ) (Pipeline.owing due) 0 (⟨m, fun _ => 0, ρ⟩ : MemSt nD τ sig (Elt F)) (c : Thread nD τ)
      ⊢ (iprop((scopedBufs (c : Thread nD τ) ∗ Pipeline.cellsSems0 cfgs 0 c ∗ Pipeline.idleSems0 cfgs cellOf_inj 0 own_facts c)
        ∗ owes (c : Thread nD τ) (due c) ∅ ∗ Pipeline.ownSems0 sm c ∗ arrays0 m c ∗ cred (tallyAt (cell (c, 1)) () amt)) : sProp (MM F)) := by
  refine (Pipeline.coreInit_boundary_owing due m ρ c).trans ?_
  unfold boundary
  rw [sems_split]
  iintro ⟨⟨Hsc, ⟨⟨Hcells, Hos⟩, Hidle⟩, -⟩, Hub, -, HL, -, -, Hcr⟩
  isplitl [Hsc Hcells Hidle]
  · isplitl [Hsc]; · iexact Hsc
    isplitl [Hcells] <;> iassumption
  isplitl [HL]; · iexact HL
  isplitl [Hos]; · iexact Hos
  isplitl [Hub]
  · iapply (arrays_of m c); iexact Hub
  · iapply (credit (F := F) c); iexact Hcr

theorem start_all (ρ : Dev nD → PrngReg) :
    iprop((bigSep Finset.univ fun d : Dev nD => coreInit (Ix := Unit) (Name := ℕ) (U := UU) (Lvl := ℕ) (Pipeline.owing due) 0
        (⟨m, fun _ => 0, ρ⟩ : MemSt nD τ sig (Elt F)) (d : Thread nD τ)) ∗ ownU u₀)
      ⊢ (iprop(|={Set.univ}=> ∃ _ : Unit, (bigSep Finset.univ fun c : Dev nD => ready m c) ∗ emp) : sProp (MM F)) := by
  have hpick (Φ : Fin 1 → Dev nD → sProp (MM F)) :
      (bigSep Finset.univ fun c : Dev nD => bigSep Finset.univ fun p => Φ p c) ⊢ bigSep Finset.univ fun c : Dev nD => Φ 0 c :=
    bigSep_mono fun c _ => bigSep_elim (Finset.mem_univ 0)
  refine (sep_mono_left (bigSep_mono fun c _ => core_start m ρ c)).trans ?_
  simp only [bigSep_sep']
  iintro ⟨⟨Hb, HL, Hos, Ha, Hcr⟩, Hu⟩
  unfold u₀
  icases Hb with ⟨Hsc, Hcells, Hidle⟩
  ihave H := (ownU_pair _ _) $$ Hu
  icases H with ⟨HP, HX⟩
  imod (fund_dealt m) $$ HX with HD
  imod (Pipeline.fund_ghost cfgs EL cellOf_inj) $$ HP with ⟨Hg, Ht⟩
  imod (deal m) $$ [Hos Ha HD] with HK
  · isplitl [Hos]; · iexact Hos
    isplitl [Ha] <;> iassumption
  imodintro
  iexists ()
  isplitl
  · unfold ready before
    simp only [bigSep_sep']
    isplitl [Hsc Hcells Hidle]
    · isplitl [Hsc]; · iexact Hsc
      isplitl [Hcells] <;> iassumption
    isplitl [HL]; · iexact HL
    isplitl [Hg Ht]
    · isplitl [Hg]
      · iapply (hpick fun p c => Pipeline.cellsGhost cfgs EL p c); iexact Hg
      · iapply (hpick fun p c => Pipeline.toksInit cfgs EL p c); iexact Ht
    isplitl [HK] <;> iassumption
  · iempintro

theorem enter (c : Dev nD) : iprop(before m c ∗ Pipeline.prefHeld Pipeline.Prefetch.none c (fun _ => fullShare) (fun k => k.elim0) ∗ Pipeline.scopedRest cfg0.spec c)
    ⊢ (dats m 0 c).Φ 0 := by
  rw [show (dats m 0 c).Φ 0 = before m c from rfl]
  iintro ⟨H, -, -⟩; iexact H

theorem bufs_split (c : Dev nD) : (scopedBufs (c : Thread nD τ) : sProp (MM F)) = iprop(Dat.staging (cfgs 0) c ∗ Pipeline.scopedRest cfg0.spec c) :=
  Pipeline.scopedBufs_split cfgs 0 winFacts0.stage_scoped winFacts0.stage_inj stage_whole0 c

theorem leave (c : Dev nD) : iprop((dats m 0 c).Φ (Fin.last cfg0.N) ∗ Pipeline.cellsSems0 cfgs 0 c ∗ Dat.staging (cfgs 0) c ∗ Pipeline.idleSems0 cfgs cellOf_inj 0 own_facts c)
    ⊢ iprop(held m c ∗ scopedSems0 (c : Thread nD τ) ∗ scopedBufs (c : Thread nD τ)) := by
  rw [show (dats m 0 c).Φ (Fin.last cfg0.N) = afterwards m c from rfl, sems_split, bufs_split, scopedRest0_eq,
    show Pipeline.ownSems0 sm c = _ from both fun k => semVal (cell (c, k)) 0]
  unfold afterwards
  iintro ⟨⟨Hh, Hz0, Hz1⟩, Hc, Hs, Hi⟩
  isplitl [Hh]; · iexact Hh
  isplitl [Hz0 Hz1 Hc Hi]
  · isplitl [Hz0 Hz1 Hc]
    · isplitl [Hc]; · iexact Hc
      isplitl [Hz0] <;> iassumption
    · iexact Hi
  isplitl [Hs]; · iexact Hs
  iempintro

theorem no_tables (P : sProp (MM F)) (c : Dev nD) (Q : sProp (MM F)) :
    iprop(P ∗ Q) ⊢ iprop(P ∗ Pipeline.prefHeld (Pipeline.Prefetch.none (sig := sig)) c (fun _ => fullShare) (fun k => k.elim0) ∗ Q) := by
  iintro ⟨HP, HQ⟩
  isplitl [HP]; · iexact HP
  isplitr
  · unfold Pipeline.prefHeld; rw [show (Finset.univ : Finset (Fin (Pipeline.Prefetch.none (sig := sig)).K)) = ∅ from rfl, BI.bigSep_empty]; iempintro
  iexact HQ

theorem wp_call (κ : GSem nD τ sig → ℕ) (c : Dev nD) (Q : PUnit → sProp (MM F)) :
    iprop(Pipeline.EntryPre cfgs (dats m) () EL κ 0 c ∗ before m c ∗ Pipeline.idleSems0 cfgs cellOf_inj 0 own_facts c ∗ scopedBufs (c : Thread nD τ))
      ⊢ iprop(((Pipeline.EntryPost cfgs (dats m) () 0 c ∗ held m c ∗ scopedSems0 (c : Thread nD τ) ∗ scopedBufs (c : Thread nD τ))
              -∗ wp frame (wpE (defs (F := F)) (Variants.lift Variants.none) (c : Thread nD τ) none) Set.univ (.ret ⟨⟩) Q)
          -∗ wp frame (wpE (defs (F := F)) (Variants.lift Variants.none) (c : Thread nD τ) none) Set.univ (main (F := F) c) Q) := by
  refine BI.Entails.trans ?_ (Pipeline.wp_customCall_entry_frame (pcfgs (F := F)) adm (dats m) () EL κ cellOf_inj 0 defs₀ Variants.none (fun _ => fullShare) c Set.univ (fun _ _ => Set.mem_univ _)
      (body_obligation m c).loose (fun w => w.elim0) none (fun u h => nomatch h) (X := before m c) (Y := held m c) (R := Pipeline.scopedRest cfg0.spec c)
      (I := Pipeline.idleSems0 cfgs cellOf_inj 0 own_facts c)
      (Entails.of_eq (bufs_split c)) (enter m c) (leave m c)
      (k := fun _ => .ret ⟨⟩) (Q := Q))
  exact no_tables _ c _

theorem pre_intro (κ : GSem nD τ sig → ℕ) (c : Dev nD) :
    iprop(owes (c : Thread nD τ) (due c) ∅ ∗ Pipeline.cellsInit cfgs (dats m) EL κ 0 c ∗ Pipeline.toksInit cfgs EL 0 c)
      ⊢ Pipeline.EntryPre cfgs (dats m) () EL κ 0 c := by
  show _ ⊢ iprop((dats m 0 c).arrays ((dats m 0 c).arrAt · 0) ∗ (dats m 0 c).owesAt () 0
    ∗ Pipeline.cellsWaits cfgs (dats m) () 0 c ∗ Pipeline.cellsInit cfgs (dats m) EL κ 0 c ∗ Pipeline.toksInit cfgs EL 0 c)
  iintro ⟨HL, HI, HT⟩
  isplitr
  · unfold Dat.arrays; rw [no_window]; iempintro
  isplitl [HL]
  · unfold Dat.owesAt Pipeline.owesWithin
    iexists ∅
    isplitr; · ipureintro; rw [Finset.coe_empty]; exact Set.empty_subset _
    iexact HL
  isplitr
  · iapply (Pipeline.cellsWaits_intro cfgs (dats m) () 0 c (R := iprop(emp)) fun w => w.elim0); iempintro
  isplitl [HI] <;> iassumption

theorem post_elim (c : Dev nD) : Pipeline.EntryPost cfgs (dats m) () 0 c ⊢ (iprop(∃ W, owes (c : Thread nD τ) (0 : CellTallies nD τ sig Unit) W) : sProp (MM F)) := by
  show iprop((dats m 0 c).arrays ((dats m 0 c).arrAt · cfg0.N) ∗ (dats m 0 c).owesAt () (Fin.last cfg0.N)) ⊢ _
  unfold Dat.owesAt Pipeline.owesWithin
  iintro ⟨-, ⟨%W, -, HW⟩⟩
  iexists W; iexact HW

theorem wp_device (c : Dev nD) : ready m c ⊢ wp frame (wpE (defs (F := F)) (Variants.lift Variants.none) (c : Thread nD τ) none) Set.univ
    (main (F := F) c) (fun _ => post (liftTc (done m) BI.emp) (c : Thread nD τ)) := by
  unfold ready
  iintro ⟨⟨Hsc, Hcells, Hidle⟩, HL, ⟨Hg, Ht⟩, Hb⟩
  iapply (fupd_wp frame (wpE (defs (F := F)) (Variants.lift Variants.none) (c : Thread nD τ) none) Set.univ _ _)
  imod (Pipeline.cellsInit_alloc cfgs (dats m) EL cellOf_inj 0 c) $$ [Hcells Hg] with ⟨%κ, -, Hinit⟩
  · isplitl [Hcells] <;> iassumption
  imodintro
  iapply (wp_call m κ c _) $$ [HL Hinit Ht Hb Hidle Hsc]
  · isplitl [HL Hinit Ht]
    · iapply (pre_intro m κ c)
      isplitl [HL]; · iexact HL
      isplitl [Hinit] <;> iassumption
    isplitl [Hb]; · iexact Hb
    isplitl [Hidle] <;> iassumption
  iintro ⟨Hpost, HY, Hss, -⟩
  rw [wp_ret]; imodintro
  unfold post; simp only [liftTc_tc, done]
  isplitr [Hpost]
  · isplitl [HY] <;> iassumption
  · iapply (post_elim m c); iexact Hpost

/-- Both devices' programs terminate from any memory; each result array then holds the other device's argument, the
    arguments are as they were, and every semaphore reads zero. -/
theorem run (ρ : Dev nD → PrngReg) : θ_run (defs (F := F)) (onTc (τ := τ) (main (F := F))) ⟨m, fun _ => 0, ρ⟩
    (fun r => (∀ c : Dev nD, Swapped m c r.2) ∧ r.2.sem = fun _ => 0) := by
  refine (θ_run (defs (F := F)) _ _).mono (Q := fun r => (∀ c : Dev nD, Swapped m c r.2
      ∧ ∀ s : SemLoc sig, s.isScoped .tc = true → r.2.sem ((c : Thread nD τ), s) = 0) ∧ ∀ g : GSem nD τ sig, g.1.2 ≠ .tc → r.2.sem g = 0)
    (fun r hr => ⟨fun c => (hr.1 c).1, sem_eq_zero_of_scoped (by decide) (sems_of_reads (fun c => (hr.1 c).2) hr.2)⟩)
    (adequate_tpu (defs (F := F)) _ _ _ (reflect_intro_fupd_tc_sems (X := Unit) (Variants.lift Variants.none) (Pipeline.owing due) 0 (noBookings fun _ => le_rfl)
      (Pipeline.owing_of_ne due) u₀ (fun _ => ready m) (fun _ => done m) (fun _ => iprop(emp)) Set.univ (start_all m ρ) (fun _ c => wp_device m c) fun _ => ?_))
  have hcore (c : Dev nD) (s' : Phys nD τ sig (Elt F)) : iprop(done m c ∗ SI s') ⊢ |={Set.univ}=>
      iprop(⌜Swapped m c s'.mem ∧ ∀ s : SemLoc sig, s.isScoped .tc = true → s'.mem.sem ((c : Thread nD τ), s) = 0⌝ ∗ SI s') := by
    unfold done
    iintro ⟨⟨Hh, Hss⟩, HSI⟩
    ihave %hz := (tcScoped_read_pers c s') $$ [Hss HSI]
    · isplitl [Hss] <;> iassumption
    ihave Hr := (held_read m c s') $$ [Hh HSI]
    · isplitl [Hh] <;> iassumption
    icases Hr with ⟨%hr, HSI⟩
    imodintro
    isplitr
    · ipureintro; exact ⟨hr, hz⟩
    · iexact HSI
  iintro ⟨H, -, Hsc⟩ %s' HSI
  ihave %hsc := (scSems_read_zero m ρ s') $$ [Hsc HSI]
  · isplitl [Hsc] <;> iassumption
  imod (posts_fupd Finset.univ hcore s') $$ [H HSI] with %h
  · isplitl [H] <;> iassumption
  imodintro
  ipureintro
  exact ⟨fun c => h c (Finset.mem_univ c), hsc⟩

end Cert.Pairwise

end
-- ==== Proof.SwapClaims.lean ====
/- The claims about the exchange between the two devices of a pair, from its run. -/
module

public import proofs.«01_k».proof.Defs
public import proofs.«01_k».proof.Proof.SwapRun
public import proofs.«01_k».proof.Proof.Gen.SwapIdeal
public import proofs.«01_k».proof.Proof.Gen.SwapRefIdeal.Run
public import proofs.«01_k».proof.Proof.Gen.SwapRefIdeal.Read
public import Idealize.ShloMosaic.Lib.Pipeline.Value

@[expose] public section

noncomputable section

open Idealize.ShloMosaic Idealize.ShloMosaic.TcCoe Idealize.SL.Sem

namespace Cert.Proof.Swap

theorem frame : Cert.quiescent_Swap (hSwap := Cert.Swap.Gen.facts) := fun m ρ _ =>
  (θ_run Cert.Swap.defs _ _).mono (fun r h => ⟨fun c => (h.1 c).2, h.2⟩) (Cert.Pairwise.run (F := Bits) m ρ)

/-- The run read of the idealized program, which is the program's own text. -/
theorem run_ideal (m : (ℓ : Loc Cert.SwapIdeal.nD Cert.SwapIdeal.τ Cert.SwapIdeal.sig) → Buf (Elt Ideal) ℓ) (ρ : Dev Cert.SwapIdeal.nD → PrngReg) :
    θ_run (Cert.SwapIdeal.defs (F := Ideal)) (onTc (τ := Cert.SwapIdeal.τ) (Cert.SwapIdeal.main (F := Ideal))) ⟨m, fun _ => 0, ρ⟩
      (fun r => (∀ c : Dev Cert.SwapIdeal.nD, Cert.Pairwise.Swapped (F := Ideal) m c r.2) ∧ r.2.sem = fun _ => 0) :=
  Cert.Pairwise.run (F := Ideal) m ρ

theorem frame_ideal : Cert.quiescent_SwapIdeal (hSwapIdeal := Cert.SwapIdeal.Gen.facts) := fun m ρ _ =>
  (θ_run Cert.SwapIdeal.defs _ _).mono (fun r h => ⟨fun c => (h.1 c).2, h.2⟩) (run_ideal m ρ)

theorem frame_ref : Cert.quiescent_SwapRefIdeal (hSwapRefIdeal := Cert.SwapRefIdeal.Gen.facts) := fun m ρ _ =>
  (θ_run Cert.SwapRefIdeal.defs _ _).mono (fun r h => ⟨fun c => (h c).2, sem_eq_zero_of_no_sems (by decide) r.2⟩)
    (Cert.SwapRefIdeal.Value.run (F := Ideal) m ρ)

section Halves

open Cert.SwapRefIdeal Cert.SwapRefIdeal.Read

/-- Which half of the whole array a device holds. -/
abbrev part (d : Dev Cert.SwapIdeal.nD) := Layout.meshBlock (r := 3) [1, 1, 2] ![[2], [], []] d

theorem part_val (d : Dev Cert.SwapIdeal.nD) : ∀ b : Fin 3, (part d b).val = if b = 0 then d.val else 0 := by
  revert d; decide

/-- Where an element of a device's half is in the whole array. -/
theorem place (h : Layout.TilesN S2x1024x512 S4x1024x512 _) (d : Dev Cert.SwapIdeal.nD) (i : S2x1024x512.Idx) (b : Fin 3) :
    (h.idx (part d) i b).val = (if b = 0 then d.val * 2 else 0) + (i b).val := by
  rw [Layout.TilesN.idx_val]
  refine (congrArg (· * S2x1024x512.size b + (i b).val) (part_val d b)).trans ?_
  dsimp only
  by_cases hb : b = 0
  · subst hb; rfl
  · rw [if_neg hb, if_neg hb, Nat.zero_mul]

/-- The two halves exchanged: half `c` of the result is the other half of the argument. -/
theorem half_eq (x : S4x1024x512.Idx → EReal) (c : Dev Cert.SwapIdeal.nD) :
    Layout.blockN S2x1024x512 S4x1024x512 (part (Cert.Pairwise.other c)) x
      = Layout.blockN S2x1024x512 S4x1024x512 (part c) (val_main_v2 (F := Ideal) x) := by
  funext i
  rw [Layout.blockN_apply, Layout.blockN_apply]
  unfold val_main_v2
  fin_cases c
  · refine Eq.trans ?_ (concatenate_pair_apply_left (t := S4x1024x512) (s₁ := S2x1024x512) (s₂ := S2x1024x512) 0 (val_main_v0 (F := Ideal) x) (val_main_v1 (F := Ideal) x) _ _ rfl i
      (fun b => ((place _ 0 i b).trans (by fin_cases b <;> exact Nat.zero_add _)).symm)).symm
    rw [val_main_v0_apply]
    exact congrArg x (funext fun b => Fin.ext ((place _ 1 i b).trans (by fin_cases b <;> first | rfl | exact Nat.zero_add _)))
  · refine Eq.trans ?_ (concatenate_pair_apply_right (t := S4x1024x512) (s₁ := S2x1024x512) (s₂ := S2x1024x512) 0 (val_main_v0 (F := Ideal) x) (val_main_v1 (F := Ideal) x) _ _ rfl rfl i
      (fun b hb => ((place _ 1 i b).trans (by rw [if_neg (show ¬ b = 0 from hb)]; exact Nat.zero_add _)).symm) ((Nat.add_comm _ _).trans (place _ 1 i 0).symm)).symm
    rw [val_main_v1_apply]
    exact congrArg x (funext fun b => Fin.ext ((place _ 0 i b).trans (by fin_cases b <;> exact Nat.zero_add _)))

end Halves

theorem algebraic : Cert.algebraic_SwapIdeal_SwapRefIdeal (hSwapIdeal := Cert.SwapIdeal.Gen.facts) (hSwapRefIdeal := Cert.SwapRefIdeal.Gen.facts) := by
  intro m ρ m' ρ' _ hagree
  refine ⟨Cert.SwapRefIdeal.Read.val_main_v2 (F := Ideal) (m' (((0 : Dev Cert.SwapRefIdeal.nD).tc : Thread Cert.SwapRefIdeal.nD Cert.SwapRefIdeal.τ).loc Cert.SwapRefIdeal.main_arg0)), ?_, ?_⟩
  · exact (θ_run Cert.SwapIdeal.defs _ _).mono (fun r h c => ⟨(h.1 c).1.trans ((hagree (Cert.Pairwise.other c)).trans (half_eq _ c)), (h.1 c).2⟩) (run_ideal m ρ)
  · exact (θ_run Cert.SwapRefIdeal.defs _ _).mono (fun r h => ⟨(h 0).1.trans (Cert.SwapRefIdeal.Read.val_main_v2_eq _), (h 0).2⟩) (Cert.SwapRefIdeal.Value.run (F := Ideal) m' ρ')

end Cert.Proof.Swap

end
-- ==== Proof.ScanBack.lean ====
/- The backward call of the recurrence, its run: no fault, the arguments left alone. What the call writes is not
   described, so that the five results and the nine buffers carried from tile to tile are at anything between two tiles. -/
module

public import proofs.«01_k».proof.Proof.Gen.S5bIdeal.Frame.RunC
public import Idealize.ShloMosaic.Lib.Claim

@[expose] public section

set_option maxRecDepth 16384

noncomputable section

namespace Cert.S5Back

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.S5bIdeal Cert.S5bIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The five results, after the nine arguments, are the windows of which nothing is said. -/
def results (w : Fin 14) : Bool := Nat.ble 9 w.val

/-- What holds between two tiles: the arguments' blocks, and every carried buffer at anything. -/
def dat (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨n + 9, h⟩ => Pipeline.Dat.unnamed (cfg := cfg0) ⟨n + 9, h⟩ t
  Φ _ := Pipeline.ΦA spec0 c
  q w := Pipeline.shareOf spec0 w
  owed _ := 0

theorem entry (c : Dev nD) (w : Fin cfg0.W) : (dat m 0 c).A w = V m c (Pipeline.arrRef spec0 w) := by
  dsimp only [dat]

/-- A buffer that was written to holds something. -/
theorem holds_some {s : Shape} {e : EltTy} (c : Dev nD) (M : Memref sig .tc .vmem s e) (L : List (View.Piece (Elt F) s e)) :
    iprop(∃ f, M.view.loc (c : Thread nD τ) ↦[M.view.set]{fullShare} M.view.writes (Elt F) f L)
      ⊢ (iprop(∃ X, owns (c : Thread nD τ) M fullShare X) : sProp 𝕄) := by
  iintro ⟨%f, H⟩
  iexists _; unfold owns; iexists _; isplitr
  swap; · iexact H
  ipureintro; rfl

/-- What is held at tile `t` before the body, the windows one by one, -/
def held (c : Dev nD) (t : Fin cfg0.N) : sProp 𝕄 :=
  iprop((dat m 0 c).Φ t.castSucc ∗ (dat m 0 c).owesAt () t.castSucc
    ∗ (∃ d, owns (c : Thread nD τ) (ms0_0 t) fullShare ((dat m 0 c).before 0 t d))
    ∗ (∃ d, owns (c : Thread nD τ) (ms0_1 t) fullShare ((dat m 0 c).before 1 t d))
    ∗ (∃ d, owns (c : Thread nD τ) (ms0_2 t) fullShare ((dat m 0 c).before 2 t d))
    ∗ (∃ d, owns (c : Thread nD τ) (ms0_3 t) fullShare ((dat m 0 c).before 3 t d))
    ∗ (∃ d, owns (c : Thread nD τ) (ms0_4 t) fullShare ((dat m 0 c).before 4 t d))
    ∗ (∃ d, owns (c : Thread nD τ) (ms0_5 t) fullShare ((dat m 0 c).before 5 t d))
    ∗ (∃ d, owns (c : Thread nD τ) (ms0_6 t) fullShare ((dat m 0 c).before 6 t d))
    ∗ (∃ d, owns (c : Thread nD τ) (ms0_7 t) fullShare ((dat m 0 c).before 7 t d))
    ∗ (∃ d, owns (c : Thread nD τ) (ms0_8 t) fullShare ((dat m 0 c).before 8 t d))
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d))

/-- and after it. -/
def left (c : Dev nD) (t : Fin cfg0.N) : sProp 𝕄 :=
  iprop((dat m 0 c).Φ t.succ ∗ (dat m 0 c).owesAt () t.succ
    ∗ (dat m 0 c).leavesExact 0 t
    ∗ (dat m 0 c).leavesExact 1 t
    ∗ (dat m 0 c).leavesExact 2 t
    ∗ (dat m 0 c).leavesExact 3 t
    ∗ (dat m 0 c).leavesExact 4 t
    ∗ (dat m 0 c).leavesExact 5 t
    ∗ (dat m 0 c).leavesExact 6 t
    ∗ (dat m 0 c).leavesExact 7 t
    ∗ (dat m 0 c).leavesExact 8 t
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d))

/-- An argument's window is at its block when the body begins, -/
theorem found (c : Dev nD) (t : Fin cfg0.N) :
    (∀ d, (dat m 0 c).before 0 t d = iblk m c 0 t)
    ∧ (∀ d, (dat m 0 c).before 1 t d = iblk m c 1 t)
    ∧ (∀ d, (dat m 0 c).before 2 t d = iblk m c 2 t)
    ∧ (∀ d, (dat m 0 c).before 3 t d = iblk m c 3 t)
    ∧ (∀ d, (dat m 0 c).before 4 t d = iblk m c 4 t)
    ∧ (∀ d, (dat m 0 c).before 5 t d = iblk m c 5 t)
    ∧ (∀ d, (dat m 0 c).before 6 t d = iblk m c 6 t)
    ∧ (∀ d, (dat m 0 c).before 7 t d = iblk m c 7 t)
    ∧ (∀ d, (dat m 0 c).before 8 t d = iblk m c 8 t) :=
  ⟨before0_0_of m (dat m 0 c) (entry m c 0) (fun t => by dsimp only [dat]) t,
    before0_1_of m (dat m 0 c) (entry m c 1) (fun t => by dsimp only [dat]) t,
    before0_2_of m (dat m 0 c) (entry m c 2) (fun t => by dsimp only [dat]) t,
    before0_3_of m (dat m 0 c) (entry m c 3) (fun t => by dsimp only [dat]) t,
    before0_4_of m (dat m 0 c) (entry m c 4) (fun t => by dsimp only [dat]) t,
    before0_5_of m (dat m 0 c) (entry m c 5) (fun t => by dsimp only [dat]) t,
    before0_6_of m (dat m 0 c) (entry m c 6) (fun t => by dsimp only [dat]) t,
    before0_7_of m (dat m 0 c) (entry m c 7) (fun t => by dsimp only [dat]) t,
    before0_8_of m (dat m 0 c) (entry m c 8) (fun t => by dsimp only [dat]) t⟩

/-- and when it ends. -/
theorem kept (c : Dev nD) (t : Fin cfg0.N) :
    (dat m 0 c).leavesExact 0 t = owns (c : Thread nD τ) (ms0_0 t) fullShare (iblk m c 0 t)
    ∧ (dat m 0 c).leavesExact 1 t = owns (c : Thread nD τ) (ms0_1 t) fullShare (iblk m c 1 t)
    ∧ (dat m 0 c).leavesExact 2 t = owns (c : Thread nD τ) (ms0_2 t) fullShare (iblk m c 2 t)
    ∧ (dat m 0 c).leavesExact 3 t = owns (c : Thread nD τ) (ms0_3 t) fullShare (iblk m c 3 t)
    ∧ (dat m 0 c).leavesExact 4 t = owns (c : Thread nD τ) (ms0_4 t) fullShare (iblk m c 4 t)
    ∧ (dat m 0 c).leavesExact 5 t = owns (c : Thread nD τ) (ms0_5 t) fullShare (iblk m c 5 t)
    ∧ (dat m 0 c).leavesExact 6 t = owns (c : Thread nD τ) (ms0_6 t) fullShare (iblk m c 6 t)
    ∧ (dat m 0 c).leavesExact 7 t = owns (c : Thread nD τ) (ms0_7 t) fullShare (iblk m c 7 t)
    ∧ (dat m 0 c).leavesExact 8 t = owns (c : Thread nD τ) (ms0_8 t) fullShare (iblk m c 8 t) := by
  refine ⟨?_, ?_, ?_, ?_, ?_, ?_, ?_, ?_, ?_⟩ <;> unfold Dat.leavesExact
  · rw [liveAt0_0 t]; rfl
  · rw [liveAt0_1 t]; rfl
  · rw [liveAt0_2 t]; rfl
  · rw [liveAt0_3 t]; rfl
  · rw [liveAt0_4 t]; rfl
  · rw [liveAt0_5 t]; rfl
  · rw [liveAt0_6 t]; rfl
  · rw [liveAt0_7 t]; rfl
  · rw [liveAt0_8 t]; rfl

set_option maxHeartbeats 8000000 in
/-- The body at any tile: the first of a column, the last of one, or one between. -/
theorem body_runs (c : Dev nD) (t : Fin cfg0.N) :
    held m c t ⊢ wp frame (wpE (defs₀ (F := F)) Variants.none c none) Set.univ (bodyAt0 t) (fun _ => left m c t) := by
  unfold held left bodyAt0
  obtain ⟨b0, b1, b2, b3, b4, b5, b6, b7, b8⟩ := found m c t
  obtain ⟨l0, l1, l2, l3, l4, l5, l6, l7, l8⟩ := kept m c t
  simp only [b0, b1, b2, b3, b4, b5, b6, b7, b8]
  rw [l0, l1, l2, l3, l4, l5, l6, l7, l8]
  rw [show (dat m 0 c).owesAt () t.succ = (dat m 0 c).owesAt () t.castSucc from rfl,
    show (dat m 0 c).Φ t.succ = Pipeline.ΦA spec0 c from rfl,
    show (dat m 0 c).Φ t.castSucc = Pipeline.ΦA spec0 c from rfl, PhiA0_eq]
  iintro ⟨⟨⟨S0, ⟨%s1, S1⟩, ⟨%s2, S2⟩, ⟨%s3, S3⟩, ⟨%s4, S4⟩, S5, ⟨%s6, S6⟩, ⟨%s7, S7⟩, ⟨%s8, S8⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, ⟨%d10, H10⟩, ⟨%d11, H11⟩, ⟨%d12, H12⟩, ⟨%d13, H13⟩⟩
  by_cases h0 : t.val % 8 = 0
  on_goal 1 =>
    have h1 : ¬ t.val % 8 = 7 := by omega
    iapply ((kernelRun0_A c (grid0.coords t) _ _ _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t)).2.2.2.2.2.2.2.2.2.2.2.2.2.2 d12 d13 Set.univ _)
  on_goal 2 => by_cases h1 : t.val % 8 = 7
  on_goal 2 =>
    iapply ((kernelRun0_C c (grid0.coords t) _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) d10 d11 s1 s2 s3 s4 s6 s7 s8).2.2.2.2.2.2.2.2.2.2.2.2.2.2 Set.univ _)
  on_goal 3 =>
    iapply ((kernelRun0_B c (grid0.coords t) _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) d10 d11 s1 s2 s3 s4 s6 s7 s8).2.2.2.2.2.2.2.2.2.2.2.2.2.2 d12 d13 Set.univ _)
  all_goals
    isplitl [H0]; · first | iexact H0 | (iexists _; iexact H0)
    isplitl [H1]; · first | iexact H1 | (iexists _; iexact H1)
    isplitl [H2]; · first | iexact H2 | (iexists _; iexact H2)
    isplitl [H3]; · first | iexact H3 | (iexists _; iexact H3)
    isplitl [H4]; · first | iexact H4 | (iexists _; iexact H4)
    isplitl [H5]; · first | iexact H5 | (iexists _; iexact H5)
    isplitl [H6]; · first | iexact H6 | (iexists _; iexact H6)
    isplitl [H7]; · first | iexact H7 | (iexists _; iexact H7)
    isplitl [H8]; · first | iexact H8 | (iexists _; iexact H8)
    isplitl [H9]; · first | iexact H9 | (iexists _; iexact H9)
    isplitl [H10]; · first | iexact H10 | (iexists _; iexact H10)
    isplitl [H11]; · first | iexact H11 | (iexists _; iexact H11)
    isplitl [H12]; · first | iexact H12 | (iexists _; iexact H12)
    isplitl [H13]; · first | iexact H13 | (iexists _; iexact H13)
    isplitl [S0]; · first | iexact S0 | (iexists _; iexact S0)
    isplitl [S1]; · first | iexact S1 | (iexists _; iexact S1)
    isplitl [S2]; · first | iexact S2 | (iexists _; iexact S2)
    isplitl [S3]; · first | iexact S3 | (iexists _; iexact S3)
    isplitl [S4]; · first | iexact S4 | (iexists _; iexact S4)
    isplitl [S5]; · first | iexact S5 | (iexists _; iexact S5)
    isplitl [S6]; · first | iexact S6 | (iexists _; iexact S6)
    isplitl [S7]; · first | iexact S7 | (iexists _; iexact S7)
    isplitl [S8]; · first | iexact S8 | (iexists _; iexact S8)
    iintro ⟨H0, H1, H2, H3, H4, H5, H6, H7, H8, H9, H10, H11, H12, H13, S0, S1, S2, S3, S4, S5, S6, S7, S8⟩
    isplitl [S0 S1 S2 S3 S4 S5 S6 S7 S8 Hg]
    · isplitl [S0 S1 S2 S3 S4 S5 S6 S7 S8]
      · isplitl [S0]; · first | iexact S0 | (iexists _; iexact S0) | (iapply holds_some; iexact S0)
        isplitl [S1]; · first | iexact S1 | (iexists _; iexact S1) | (iapply holds_some; iexact S1)
        isplitl [S2]; · first | iexact S2 | (iexists _; iexact S2) | (iapply holds_some; iexact S2)
        isplitl [S3]; · first | iexact S3 | (iexists _; iexact S3) | (iapply holds_some; iexact S3)
        isplitl [S4]; · first | iexact S4 | (iexists _; iexact S4) | (iapply holds_some; iexact S4)
        isplitl [S5]; · first | iexact S5 | (iexists _; iexact S5) | (iapply holds_some; iexact S5)
        isplitl [S6]; · first | iexact S6 | (iexists _; iexact S6) | (iapply holds_some; iexact S6)
        isplitl [S7]; · first | iexact S7 | (iexists _; iexact S7) | (iapply holds_some; iexact S7)
        first | iexact S8 | (iexists _; iexact S8) | (iapply holds_some; iexact S8)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · first | iexact H9 | (iexists _; iexact H9) | (iapply holds_some; iexact H9)
    isplitl [H10]; · first | iexact H10 | (iexists _; iexact H10) | (iapply holds_some; iexact H10)
    isplitl [H11]; · first | iexact H11 | (iexists _; iexact H11) | (iapply holds_some; iexact H11)
    isplitl [H12]; · first | iexact H12 | (iexists _; iexact H12) | (iapply holds_some; iexact H12)
    first | iexact H13 | (iexists _; iexact H13) | (iapply holds_some; iexact H13)

/-- The body table's row at tile `t` is the body. -/
theorem row (t : Fin cfg0.N) : defs₀ (F := F) .tc cfg0.body (cfg0.bodyArgs t (cfg0.slots t)) = bodyAt0 t := by
  unfold defs₀; rw [Defs.onTc_tc]

theorem bodies (c : Dev nD) : BodyObligation (dat (F := F) m 0 c) (defs₀ (F := F)) Variants.none () Set.univ results := fun t => by
  rw [bigSep_W0, bigSep_W0, row]
  exact triple_restated (body_runs m c t) rfl .rfl fun _ => .rfl

set_option backward.isDefEq.respectTransparency.types false in
/-- The run of the call: it ends, the arguments' arrays hold what they held and every semaphore is at zero. -/
theorem run : θ_run defs (onTc (τ := τ) (main (F := F))) (s₀ m ρ)
    (fun r => Pipeline.RDat.FramePost (cfgs 0) (fun c => (dat m 0 c).toRForget results) (V m) r ∧ r.2.sem = fun _ => 0) :=
  Pipeline.θ_run_frame_forget_shared (Q' := _) cfgs (dat m) (0 : Fin 1) launch₀0 defs₀ Variants.none results m ρ main
    (hbody := fun c => (bodies m c).loose) (hq := fun _ _ _ => rfl)
    (howed := fun _ _ => rfl) (V := V m) (hmain := hmain m Variants.none) (hA := entry m) (hΦ := fun _ _ => rfl)

variable {m ρ}

/-- An argument's array after the run. -/
theorem argument {r : PUnit × MemSt nD τ sig (Elt F)}
    (h : Pipeline.RDat.FramePost (cfgs 0) (fun c => (dat (F := F) m 0 c).toRForget results) (V m) r) (c : Dev nD)
    (w : Fin cfg0.W) (hw : (cfg0.win w).isOut = false) :
    r.2.mem ((spec0 w).arr.view.loc (c.tc : Thread nD τ)) = V m c (Pipeline.arrRef spec0 w) := by
  have e := (h c).1 w
  rw [Pipeline.RDat.ArrAt_in _ w hw] at e
  exact e.trans (entry m c w)

/-- The arguments are left as they were. -/
theorem arguments {r : PUnit × MemSt nD τ sig (Elt F)}
    (h : Pipeline.RDat.FramePost (cfgs 0) (fun c => (dat (F := F) m 0 c).toRForget results) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7) :=
  ⟨(argument h c 0 rfl).trans (V_main_arg0 m c),
    (argument h c 1 rfl).trans (V_main_arg1 m c),
    (argument h c 2 rfl).trans (V_main_arg2 m c),
    (argument h c 4 rfl).trans (V_main_arg3 m c),
    (argument h c 5 rfl).trans (V_main_arg4 m c),
    (argument h c 6 rfl).trans (V_main_arg5 m c),
    (argument h c 7 rfl).trans (V_main_arg6 m c),
    (argument h c 8 rfl).trans (V_main_arg7 m c)⟩

end Cert.S5Back

end
-- ==== Proof.S5bClaims.lean ====
/- The claims about the recurrence's backward call: both frames, from the one run. -/
module

public import proofs.«01_k».proof.Defs
public import proofs.«01_k».proof.Proof.ScanBack
public import proofs.«01_k».proof.Proof.Gen.S5b

@[expose] public section

noncomputable section

open Idealize.ShloMosaic Idealize.ShloMosaic.TcCoe Idealize.ShloMosaic.Tactic Idealize.SL.Sem

namespace Cert.Proof.S5b

/-- Over the reals the backward call of the recurrence runs to its end without fault, leaves its arguments as they were and
every semaphore at zero. -/
theorem frame_ideal : Cert.quiescent_S5bIdeal (hS5bIdeal := Cert.S5bIdeal.Gen.facts) := fun m ρ _ =>
  (θ_run Cert.S5bIdeal.defs _ _).mono (fun _ h => ⟨fun c => Cert.S5Back.arguments h.1 c, h.2⟩) (Cert.S5Back.run (F := Ideal) m ρ)

/-- The call as printed and the call over the reals have the same text. -/
theorem kernels_eq : Cert.S5b.defs₀ (F := Bits) = Cert.S5bIdeal.defs₀ (F := Bits) := by
  sl_kernel_rfl

theorem defs_eq : Cert.S5b.defs (F := Bits) = Cert.S5bIdeal.defs (F := Bits) := congrArg (Pipeline.defs Cert.S5bIdeal.pcfgs) kernels_eq

/-- The same of the call as printed. -/
theorem frame : Cert.quiescent_S5b (hS5b := Cert.S5b.Gen.facts) := fun m ρ _ => by
  rw [defs_eq]
  exact (θ_run Cert.S5bIdeal.defs _ _).mono (fun _ h => ⟨fun c => Cert.S5Back.arguments h.1 c, h.2⟩) (Cert.S5Back.run (F := Bits) m ρ)

end Cert.Proof.S5b

end
-- ==== Proof.lean ====
/- The certificate: every claim, from the modules that prove them. -/
module

public import proofs.«01_k».proof.Defs
public import proofs.«01_k».proof.Proof.GluClaims
public import proofs.«01_k».proof.Proof.ConvClaims
public import proofs.«01_k».proof.Proof.FfnClaims
public import proofs.«01_k».proof.Proof.NormClaims
public import proofs.«01_k».proof.Proof.BranchClaims
public import proofs.«01_k».proof.Proof.JoinClaims
public import proofs.«01_k».proof.Proof.LossClaims
public import proofs.«01_k».proof.Proof.ScanClaims
public import proofs.«01_k».proof.Proof.OutGluClaims
public import proofs.«01_k».proof.Proof.FfnInClaims
public import proofs.«01_k».proof.Proof.ConvFClaims
public import proofs.«01_k».proof.Proof.NormFClaims
public import proofs.«01_k».proof.Proof.AdaClaims
public import proofs.«01_k».proof.Proof.MmResClaims
public import proofs.«01_k».proof.Proof.MmNNClaims
public import proofs.«01_k».proof.Proof.MmNTClaims
public import proofs.«01_k».proof.Proof.MmTNClaims
public import proofs.«01_k».proof.Proof.AdamAdaClaims
public import proofs.«01_k».proof.Proof.AdamShClaims
public import proofs.«01_k».proof.Proof.AdamSlabClaims
public import proofs.«01_k».proof.Proof.AdamPlClaims
public import proofs.«01_k».proof.Proof.Red4Claims
public import proofs.«01_k».proof.Proof.Sum8Claims
public import proofs.«01_k».proof.Proof.SwapClaims
public import proofs.«01_k».proof.Proof.S5bClaims

@[expose] public section

noncomputable section

namespace Cert.Proof

theorem claim : Cert.Claim :=
  ⟨Cert.Glu.Gen.facts, Cert.GluIdeal.Gen.facts, Cert.GluRefIdeal.Gen.facts, Cert.Conv.Gen.facts, Cert.ConvIdeal.Gen.facts, Cert.ConvRefIdeal.Gen.facts, Cert.Ffn.Gen.facts, Cert.FfnIdeal.Gen.facts, Cert.FfnRefIdeal.Gen.facts, Cert.Norm.Gen.facts, Cert.NormIdeal.Gen.facts, Cert.NormRefIdeal.Gen.facts, Cert.Branch.Gen.facts, Cert.BranchIdeal.Gen.facts, Cert.BranchRefIdeal.Gen.facts, Cert.Join.Gen.facts, Cert.JoinIdeal.Gen.facts, Cert.JoinRefIdeal.Gen.facts, Cert.Loss.Gen.facts, Cert.LossIdeal.Gen.facts, Cert.LossRefIdeal.Gen.facts, Cert.S5f.Gen.facts, Cert.S5fIdeal.Gen.facts, Cert.S5fRefIdeal.Gen.facts, Cert.OutGlu.Gen.facts, Cert.OutGluIdeal.Gen.facts, Cert.OutGluRefIdeal.Gen.facts, Cert.FfnIn.Gen.facts, Cert.FfnInIdeal.Gen.facts, Cert.FfnInRefIdeal.Gen.facts, Cert.ConvF.Gen.facts, Cert.ConvFIdeal.Gen.facts, Cert.ConvFRefIdeal.Gen.facts, Cert.NormF.Gen.facts, Cert.NormFIdeal.Gen.facts, Cert.NormFRefIdeal.Gen.facts, Cert.Ada.Gen.facts, Cert.AdaIdeal.Gen.facts, Cert.AdaRefIdeal.Gen.facts, Cert.MmRes.Gen.facts, Cert.MmResIdeal.Gen.facts, Cert.MmResRefIdeal.Gen.facts, Cert.MmNN.Gen.facts, Cert.MmNNIdeal.Gen.facts, Cert.MmNNRefIdeal.Gen.facts, Cert.MmNT.Gen.facts, Cert.MmNTIdeal.Gen.facts, Cert.MmNTRefIdeal.Gen.facts, Cert.MmTN.Gen.facts, Cert.MmTNIdeal.Gen.facts, Cert.MmTNRefIdeal.Gen.facts, Cert.AdamAda.Gen.facts, Cert.AdamAdaIdeal.Gen.facts, Cert.AdamAdaRefIdeal.Gen.facts, Cert.AdamSh.Gen.facts, Cert.AdamShIdeal.Gen.facts, Cert.AdamShRefIdeal.Gen.facts, Cert.AdamSlab.Gen.facts, Cert.AdamSlabIdeal.Gen.facts, Cert.AdamSlabRefIdeal.Gen.facts, Cert.AdamPl.Gen.facts, Cert.AdamPlIdeal.Gen.facts, Cert.AdamPlRefIdeal.Gen.facts, Cert.Red4.Gen.facts, Cert.Red4Ideal.Gen.facts, Cert.Red4RefIdeal.Gen.facts, Cert.Sum8.Gen.facts, Cert.Sum8Ideal.Gen.facts, Cert.Sum8RefIdeal.Gen.facts, Cert.Swap.Gen.facts, Cert.SwapIdeal.Gen.facts, Cert.SwapRefIdeal.Gen.facts, Cert.S5b.Gen.facts, Cert.S5bIdeal.Gen.facts, Cert.Proof.Ffn.pre_facts, Cert.Proof.S5f.pre_facts,
    Glu.frame, Glu.frame_ideal, Glu.frame_ref,
    Conv.frame, Conv.frame_ideal, Conv.frame_ref,
    Ffn.frame, Ffn.frame_ideal, Ffn.frame_ideal_pre, Ffn.frame_ref, Ffn.frame_ref_pre,
    Norm.frame, Norm.frame_ideal, Norm.frame_ref,
    Branch.frame, Branch.frame_ideal, Branch.frame_ref,
    Join.frame, Join.frame_ideal, Join.frame_ref,
    Loss.frame, Loss.frame_ideal, Loss.frame_ref,
    S5f.frame, S5f.frame_ideal, S5f.frame_ideal_pre, S5f.frame_ref, S5f.frame_ref_pre,
    OutGlu.frame, OutGlu.frame_ideal, OutGlu.frame_ref,
    FfnIn.frame, FfnIn.frame_ideal, FfnIn.frame_ref,
    ConvF.frame, ConvF.frame_ideal, ConvF.frame_ref,
    NormF.frame, NormF.frame_ideal, NormF.frame_ref,
    Ada.frame, Ada.frame_ideal, Ada.frame_ref,
    MmRes.frame, MmRes.frame_ideal, MmRes.frame_ref,
    MmNN.frame, MmNN.frame_ideal, MmNN.frame_ref,
    MmNT.frame, MmNT.frame_ideal, MmNT.frame_ref,
    MmTN.frame, MmTN.frame_ideal, MmTN.frame_ref,
    AdamAda.frame, AdamAda.frame_ideal, AdamAda.frame_ref,
    AdamSh.frame, AdamSh.frame_ideal, AdamSh.frame_ref,
    AdamSlab.frame, AdamSlab.frame_ideal, AdamSlab.frame_ref,
    AdamPl.frame, AdamPl.frame_ideal, AdamPl.frame_ref,
    Red4.frame, Red4.frame_ideal, Red4.frame_ref,
    Sum8.frame, Sum8.frame_ideal, Sum8.frame_ref,
    Swap.frame, Swap.frame_ideal, Swap.frame_ref,
    S5b.frame, S5b.frame_ideal,
    trivial, Glu.algebraic, trivial, Conv.algebraic, trivial, Ffn.algebraic, trivial, Norm.algebraic, trivial, Branch.algebraic, trivial, Join.algebraic, trivial, Loss.algebraic, trivial, S5f.algebraic, trivial, OutGlu.algebraic, trivial, FfnIn.algebraic, trivial, ConvF.algebraic, trivial, NormF.algebraic, trivial, Ada.algebraic, trivial, MmRes.algebraic, trivial, MmNN.algebraic, trivial, MmNT.algebraic, trivial, MmTN.algebraic, trivial, AdamAda.algebraic, trivial, AdamSh.algebraic, trivial, AdamSlab.algebraic, trivial, AdamPl.algebraic, trivial, Red4.algebraic, trivial, Sum8.algebraic, trivial, Swap.algebraic, trivial⟩

end Cert.Proof

end
